-- ==== Defs.lean ====
def Pre_HiddenGrad (m : (ℓ : Loc Cert.HiddenGrad.nD Cert.HiddenGrad.τ Cert.HiddenGrad.sig) → Buf (Elt Bits) ℓ) : Prop :=
  True

def Pre_HiddenGradIdeal (m : (ℓ : Loc Cert.HiddenGradIdeal.nD Cert.HiddenGradIdeal.τ Cert.HiddenGradIdeal.sig) → Buf (Elt Ideal) ℓ) : Prop :=
  True

def Pre_HiddenGradIdeal_hidden_grad_finite [hPre_hidden_grad_finite : Cert.Pre_hidden_grad_finite.Facts] (m : (ℓ : Loc Cert.HiddenGradIdeal.nD Cert.HiddenGradIdeal.τ Cert.HiddenGradIdeal.sig) → Buf (Elt Ideal) ℓ) : Prop :=
  ∀ c : Dev Cert.HiddenGradIdeal.nD,
    (Cert.Pre_hidden_grad_finite.fn (F := Ideal) (m ((c.tc : Thread Cert.HiddenGradIdeal.nD Cert.HiddenGradIdeal.τ).loc Cert.HiddenGradIdeal.main_arg0)) (m ((c.tc : Thread Cert.HiddenGradIdeal.nD Cert.HiddenGradIdeal.τ).loc Cert.HiddenGradIdeal.main_arg1)) (m ((c.tc : Thread Cert.HiddenGradIdeal.nD Cert.HiddenGradIdeal.τ).loc Cert.HiddenGradIdeal.main_arg2))) = (fun _ => 1#1)

def Pre_HiddenGradRefIdeal (m : (ℓ : Loc Cert.HiddenGradRefIdeal.nD Cert.HiddenGradRefIdeal.τ Cert.HiddenGradRefIdeal.sig) → Buf (Elt Ideal) ℓ) : Prop :=
  True

def Pre_HiddenGradRefIdeal_hidden_grad_finite [hPre_hidden_grad_finite : Cert.Pre_hidden_grad_finite.Facts] (m : (ℓ : Loc Cert.HiddenGradRefIdeal.nD Cert.HiddenGradRefIdeal.τ Cert.HiddenGradRefIdeal.sig) → Buf (Elt Ideal) ℓ) : Prop :=
  ∀ c : Dev Cert.HiddenGradRefIdeal.nD,
    (Cert.Pre_hidden_grad_finite.fn (F := Ideal) (m ((c.tc : Thread Cert.HiddenGradRefIdeal.nD Cert.HiddenGradRefIdeal.τ).loc Cert.HiddenGradRefIdeal.main_arg0)) (m ((c.tc : Thread Cert.HiddenGradRefIdeal.nD Cert.HiddenGradRefIdeal.τ).loc Cert.HiddenGradRefIdeal.main_arg1)) (m ((c.tc : Thread Cert.HiddenGradRefIdeal.nD Cert.HiddenGradRefIdeal.τ).loc Cert.HiddenGradRefIdeal.main_arg2))) = (fun _ => 1#1)

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_LatentBwd (m : (ℓ : Loc Cert.LatentBwd.nD Cert.LatentBwd.τ Cert.LatentBwd.sig) → Buf (Elt Bits) ℓ) : Prop :=
  True

def Pre_LatentBwdIdeal (m : (ℓ : Loc Cert.LatentBwdIdeal.nD Cert.LatentBwdIdeal.τ Cert.LatentBwdIdeal.sig) → Buf (Elt Ideal) ℓ) : Prop :=
  True

def Pre_LatentBwdIdeal_latent_bwd_finite [hPre_latent_bwd_finite : Cert.Pre_latent_bwd_finite.Facts] (m : (ℓ : Loc Cert.LatentBwdIdeal.nD Cert.LatentBwdIdeal.τ Cert.LatentBwdIdeal.sig) → Buf (Elt Ideal) ℓ) : Prop :=
  ∀ c : Dev Cert.LatentBwdIdeal.nD,
    (Cert.Pre_latent_bwd_finite.fn (F := Ideal) (m ((c.tc : Thread Cert.LatentBwdIdeal.nD Cert.LatentBwdIdeal.τ).loc Cert.LatentBwdIdeal.main_arg0)) (m ((c.tc : Thread Cert.LatentBwdIdeal.nD Cert.LatentBwdIdeal.τ).loc Cert.LatentBwdIdeal.main_arg1)) (m ((c.tc : Thread Cert.LatentBwdIdeal.nD Cert.LatentBwdIdeal.τ).loc Cert.LatentBwdIdeal.main_arg2)) (m ((c.tc : Thread Cert.LatentBwdIdeal.nD Cert.LatentBwdIdeal.τ).loc Cert.LatentBwdIdeal.main_arg3)) (m ((c.tc : Thread Cert.LatentBwdIdeal.nD Cert.LatentBwdIdeal.τ).loc Cert.LatentBwdIdeal.main_arg4)) (m ((c.tc : Thread Cert.LatentBwdIdeal.nD Cert.LatentBwdIdeal.τ).loc Cert.LatentBwdIdeal.main_arg5)) (m ((c.tc : Thread Cert.LatentBwdIdeal.nD Cert.LatentBwdIdeal.τ).loc Cert.LatentBwdIdeal.main_arg6)) (m ((c.tc : Thread Cert.LatentBwdIdeal.nD Cert.LatentBwdIdeal.τ).loc Cert.LatentBwdIdeal.main_arg7))) = (fun _ => 1#1)

def Pre_LatentBwdRefIdeal (m : (ℓ : Loc Cert.LatentBwdRefIdeal.nD Cert.LatentBwdRefIdeal.τ Cert.LatentBwdRefIdeal.sig) → Buf (Elt Ideal) ℓ) : Prop :=
  True

def Pre_LatentBwdRefIdeal_latent_bwd_finite [hPre_latent_bwd_finite : Cert.Pre_latent_bwd_finite.Facts] (m : (ℓ : Loc Cert.LatentBwdRefIdeal.nD Cert.LatentBwdRefIdeal.τ Cert.LatentBwdRefIdeal.sig) → Buf (Elt Ideal) ℓ) : Prop :=
  ∀ c : Dev Cert.LatentBwdRefIdeal.nD,
    (Cert.Pre_latent_bwd_finite.fn (F := Ideal) (m ((c.tc : Thread Cert.LatentBwdRefIdeal.nD Cert.LatentBwdRefIdeal.τ).loc Cert.LatentBwdRefIdeal.main_arg0)) (m ((c.tc : Thread Cert.LatentBwdRefIdeal.nD Cert.LatentBwdRefIdeal.τ).loc Cert.LatentBwdRefIdeal.main_arg1)) (m ((c.tc : Thread Cert.LatentBwdRefIdeal.nD Cert.LatentBwdRefIdeal.τ).loc Cert.LatentBwdRefIdeal.main_arg2)) (m ((c.tc : Thread Cert.LatentBwdRefIdeal.nD Cert.LatentBwdRefIdeal.τ).loc Cert.LatentBwdRefIdeal.main_arg3)) (m ((c.tc : Thread Cert.LatentBwdRefIdeal.nD Cert.LatentBwdRefIdeal.τ).loc Cert.LatentBwdRefIdeal.main_arg4)) (m ((c.tc : Thread Cert.LatentBwdRefIdeal.nD Cert.LatentBwdRefIdeal.τ).loc Cert.LatentBwdRefIdeal.main_arg5)) (m ((c.tc : Thread Cert.LatentBwdRefIdeal.nD Cert.LatentBwdRefIdeal.τ).loc Cert.LatentBwdRefIdeal.main_arg6)) (m ((c.tc : Thread Cert.LatentBwdRefIdeal.nD Cert.LatentBwdRefIdeal.τ).loc Cert.LatentBwdRefIdeal.main_arg7))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_bwd_finite [hPre_norm_bwd_finite : Cert.Pre_norm_bwd_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_bwd_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_norm_bwd_finite [hPre_norm_bwd_finite : Cert.Pre_norm_bwd_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_norm_bwd_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6)) (m ((c.tc : Thread Cert.NormBwdRefIdeal.nD Cert.NormBwdRefIdeal.τ).loc Cert.NormBwdRefIdeal.main_arg7)) (m ((c.tc : Thread Cert.NormBwdRefIdeal.nD Cert.NormBwdRefIdeal.τ).loc Cert.NormBwdRefIdeal.main_arg8))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd_finite [hPre_attn_bwd_finite : Cert.Pre_attn_bwd_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))) = (fun _ => 1#1)

def Pre_QkBwd (m : (ℓ : Loc Cert.QkBwd.nD Cert.QkBwd.τ Cert.QkBwd.sig) → Buf (Elt Bits) ℓ) : Prop :=
  True

def Pre_QkBwdIdeal (m : (ℓ : Loc Cert.QkBwdIdeal.nD Cert.QkBwdIdeal.τ Cert.QkBwdIdeal.sig) → Buf (Elt Ideal) ℓ) : Prop :=
  True

def Pre_QkBwdIdeal_qk_bwd_finite [hPre_qk_bwd_finite : Cert.Pre_qk_bwd_finite.Facts] (m : (ℓ : Loc Cert.QkBwdIdeal.nD Cert.QkBwdIdeal.τ Cert.QkBwdIdeal.sig) → Buf (Elt Ideal) ℓ) : Prop :=
  ∀ c : Dev Cert.QkBwdIdeal.nD,
    (Cert.Pre_qk_bwd_finite.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3)) (m ((c.tc : Thread Cert.QkBwdIdeal.nD Cert.QkBwdIdeal.τ).loc Cert.QkBwdIdeal.main_arg4)) (m ((c.tc : Thread Cert.QkBwdIdeal.nD Cert.QkBwdIdeal.τ).loc Cert.QkBwdIdeal.main_arg5)) (m ((c.tc : Thread Cert.QkBwdIdeal.nD Cert.QkBwdIdeal.τ).loc Cert.QkBwdIdeal.main_arg6)) (m ((c.tc : Thread Cert.QkBwdIdeal.nD Cert.QkBwdIdeal.τ).loc Cert.QkBwdIdeal.main_arg7)) (m ((c.tc : Thread Cert.QkBwdIdeal.nD Cert.QkBwdIdeal.τ).loc Cert.QkBwdIdeal.main_arg8)) (m ((c.tc : Thread Cert.QkBwdIdeal.nD Cert.QkBwdIdeal.τ).loc Cert.QkBwdIdeal.main_arg9)) (m ((c.tc : Thread Cert.QkBwdIdeal.nD Cert.QkBwdIdeal.τ).loc Cert.QkBwdIdeal.main_arg10))) = (fun _ => 1#1)

def Pre_QkBwdRefIdeal (m : (ℓ : Loc Cert.QkBwdRefIdeal.nD Cert.QkBwdRefIdeal.τ Cert.QkBwdRefIdeal.sig) → Buf (Elt Ideal) ℓ) : Prop :=
  True

def Pre_QkBwdRefIdeal_qk_bwd_finite [hPre_qk_bwd_finite : Cert.Pre_qk_bwd_finite.Facts] (m : (ℓ : Loc Cert.QkBwdRefIdeal.nD Cert.QkBwdRefIdeal.τ Cert.QkBwdRefIdeal.sig) → Buf (Elt Ideal) ℓ) : Prop :=
  ∀ c : Dev Cert.QkBwdRefIdeal.nD,
    (Cert.Pre_qk_bwd_finite.fn (F := Ideal) (m ((c.tc : Thread Cert.QkBwdRefIdeal.nD Cert.QkBwdRefIdeal.τ).loc Cert.QkBwdRefIdeal.main_arg0)) (m ((c.tc : Thread Cert.QkBwdRefIdeal.nD Cert.QkBwdRefIdeal.τ).loc Cert.QkBwdRefIdeal.main_arg1)) (m ((c.tc : Thread Cert.QkBwdRefIdeal.nD Cert.QkBwdRefIdeal.τ).loc Cert.QkBwdRefIdeal.main_arg2)) (m ((c.tc : Thread Cert.QkBwdRefIdeal.nD Cert.QkBwdRefIdeal.τ).loc Cert.QkBwdRefIdeal.main_arg3)) (m ((c.tc : Thread Cert.QkBwdRefIdeal.nD Cert.QkBwdRefIdeal.τ).loc Cert.QkBwdRefIdeal.main_arg4)) (m ((c.tc : Thread Cert.QkBwdRefIdeal.nD Cert.QkBwdRefIdeal.τ).loc Cert.QkBwdRefIdeal.main_arg5)) (m ((c.tc : Thread Cert.QkBwdRefIdeal.nD Cert.QkBwdRefIdeal.τ).loc Cert.QkBwdRefIdeal.main_arg6)) (m ((c.tc : Thread Cert.QkBwdRefIdeal.nD Cert.QkBwdRefIdeal.τ).loc Cert.QkBwdRefIdeal.main_arg7)) (m ((c.tc : Thread Cert.QkBwdRefIdeal.nD Cert.QkBwdRefIdeal.τ).loc Cert.QkBwdRefIdeal.main_arg8)) (m ((c.tc : Thread Cert.QkBwdRefIdeal.nD Cert.QkBwdRefIdeal.τ).loc Cert.QkBwdRefIdeal.main_arg9)) (m ((c.tc : Thread Cert.QkBwdRefIdeal.nD Cert.QkBwdRefIdeal.τ).loc Cert.QkBwdRefIdeal.main_arg10))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))) = (fun _ => 1#1)

def Pre_MixNormBwd (m : (ℓ : Loc Cert.MixNormBwd.nD Cert.MixNormBwd.τ Cert.MixNormBwd.sig) → Buf (Elt Bits) ℓ) : Prop :=
  True

def Pre_MixNormBwdIdeal (m : (ℓ : Loc Cert.MixNormBwdIdeal.nD Cert.MixNormBwdIdeal.τ Cert.MixNormBwdIdeal.sig) → Buf (Elt Ideal) ℓ) : Prop :=
  True

def Pre_MixNormBwdIdeal_mix_norm_bwd_finite [hPre_mix_norm_bwd_finite : Cert.Pre_mix_norm_bwd_finite.Facts] (m : (ℓ : Loc Cert.MixNormBwdIdeal.nD Cert.MixNormBwdIdeal.τ Cert.MixNormBwdIdeal.sig) → Buf (Elt Ideal) ℓ) : Prop :=
  ∀ c : Dev Cert.MixNormBwdIdeal.nD,
    (Cert.Pre_mix_norm_bwd_finite.fn (F := Ideal) (m ((c.tc : Thread Cert.MixNormBwdIdeal.nD Cert.MixNormBwdIdeal.τ).loc Cert.MixNormBwdIdeal.main_arg0)) (m ((c.tc : Thread Cert.MixNormBwdIdeal.nD Cert.MixNormBwdIdeal.τ).loc Cert.MixNormBwdIdeal.main_arg1)) (m ((c.tc : Thread Cert.MixNormBwdIdeal.nD Cert.MixNormBwdIdeal.τ).loc Cert.MixNormBwdIdeal.main_arg2)) (m ((c.tc : Thread Cert.MixNormBwdIdeal.nD Cert.MixNormBwdIdeal.τ).loc Cert.MixNormBwdIdeal.main_arg3)) (m ((c.tc : Thread Cert.MixNormBwdIdeal.nD Cert.MixNormBwdIdeal.τ).loc Cert.MixNormBwdIdeal.main_arg4)) (m ((c.tc : Thread Cert.MixNormBwdIdeal.nD Cert.MixNormBwdIdeal.τ).loc Cert.MixNormBwdIdeal.main_arg5)) (m ((c.tc : Thread Cert.MixNormBwdIdeal.nD Cert.MixNormBwdIdeal.τ).loc Cert.MixNormBwdIdeal.main_arg6)) (m ((c.tc : Thread Cert.MixNormBwdIdeal.nD Cert.MixNormBwdIdeal.τ).loc Cert.MixNormBwdIdeal.main_arg7)) (m ((c.tc : Thread Cert.MixNormBwdIdeal.nD Cert.MixNormBwdIdeal.τ).loc Cert.MixNormBwdIdeal.main_arg8))) = (fun _ => 1#1)

def Pre_MixNormBwdRefIdeal (m : (ℓ : Loc Cert.MixNormBwdRefIdeal.nD Cert.MixNormBwdRefIdeal.τ Cert.MixNormBwdRefIdeal.sig) → Buf (Elt Ideal) ℓ) : Prop :=
  True

def Pre_MixNormBwdRefIdeal_mix_norm_bwd_finite [hPre_mix_norm_bwd_finite : Cert.Pre_mix_norm_bwd_finite.Facts] (m : (ℓ : Loc Cert.MixNormBwdRefIdeal.nD Cert.MixNormBwdRefIdeal.τ Cert.MixNormBwdRefIdeal.sig) → Buf (Elt Ideal) ℓ) : Prop :=
  ∀ c : Dev Cert.MixNormBwdRefIdeal.nD,
    (Cert.Pre_mix_norm_bwd_finite.fn (F := Ideal) (m ((c.tc : Thread Cert.MixNormBwdRefIdeal.nD Cert.MixNormBwdRefIdeal.τ).loc Cert.MixNormBwdRefIdeal.main_arg0)) (m ((c.tc : Thread Cert.MixNormBwdRefIdeal.nD Cert.MixNormBwdRefIdeal.τ).loc Cert.MixNormBwdRefIdeal.main_arg1)) (m ((c.tc : Thread Cert.MixNormBwdRefIdeal.nD Cert.MixNormBwdRefIdeal.τ).loc Cert.MixNormBwdRefIdeal.main_arg2)) (m ((c.tc : Thread Cert.MixNormBwdRefIdeal.nD Cert.MixNormBwdRefIdeal.τ).loc Cert.MixNormBwdRefIdeal.main_arg3)) (m ((c.tc : Thread Cert.MixNormBwdRefIdeal.nD Cert.MixNormBwdRefIdeal.τ).loc Cert.MixNormBwdRefIdeal.main_arg4)) (m ((c.tc : Thread Cert.MixNormBwdRefIdeal.nD Cert.MixNormBwdRefIdeal.τ).loc Cert.MixNormBwdRefIdeal.main_arg5)) (m ((c.tc : Thread Cert.MixNormBwdRefIdeal.nD Cert.MixNormBwdRefIdeal.τ).loc Cert.MixNormBwdRefIdeal.main_arg6)) (m ((c.tc : Thread Cert.MixNormBwdRefIdeal.nD Cert.MixNormBwdRefIdeal.τ).loc Cert.MixNormBwdRefIdeal.main_arg7)) (m ((c.tc : Thread Cert.MixNormBwdRefIdeal.nD Cert.MixNormBwdRefIdeal.τ).loc Cert.MixNormBwdRefIdeal.main_arg8))) = (fun _ => 1#1)

def Pre_FirstNormBwd (m : (ℓ : Loc Cert.FirstNormBwd.nD Cert.FirstNormBwd.τ Cert.FirstNormBwd.sig) → Buf (Elt Bits) ℓ) : Prop :=
  True

def Pre_FirstNormBwdIdeal (m : (ℓ : Loc Cert.FirstNormBwdIdeal.nD Cert.FirstNormBwdIdeal.τ Cert.FirstNormBwdIdeal.sig) → Buf (Elt Ideal) ℓ) : Prop :=
  True

def Pre_FirstNormBwdIdeal_first_norm_bwd_finite [hPre_first_norm_bwd_finite : Cert.Pre_first_norm_bwd_finite.Facts] (m : (ℓ : Loc Cert.FirstNormBwdIdeal.nD Cert.FirstNormBwdIdeal.τ Cert.FirstNormBwdIdeal.sig) → Buf (Elt Ideal) ℓ) : Prop :=
  ∀ c : Dev Cert.FirstNormBwdIdeal.nD,
    (Cert.Pre_first_norm_bwd_finite.fn (F := Ideal) (m ((c.tc : Thread Cert.FirstNormBwdIdeal.nD Cert.FirstNormBwdIdeal.τ).loc Cert.FirstNormBwdIdeal.main_arg0)) (m ((c.tc : Thread Cert.FirstNormBwdIdeal.nD Cert.FirstNormBwdIdeal.τ).loc Cert.FirstNormBwdIdeal.main_arg1)) (m ((c.tc : Thread Cert.FirstNormBwdIdeal.nD Cert.FirstNormBwdIdeal.τ).loc Cert.FirstNormBwdIdeal.main_arg2)) (m ((c.tc : Thread Cert.FirstNormBwdIdeal.nD Cert.FirstNormBwdIdeal.τ).loc Cert.FirstNormBwdIdeal.main_arg3)) (m ((c.tc : Thread Cert.FirstNormBwdIdeal.nD Cert.FirstNormBwdIdeal.τ).loc Cert.FirstNormBwdIdeal.main_arg4)) (m ((c.tc : Thread Cert.FirstNormBwdIdeal.nD Cert.FirstNormBwdIdeal.τ).loc Cert.FirstNormBwdIdeal.main_arg5)) (m ((c.tc : Thread Cert.FirstNormBwdIdeal.nD Cert.FirstNormBwdIdeal.τ).loc Cert.FirstNormBwdIdeal.main_arg6))) = (fun _ => 1#1)

def Pre_FirstNormBwdRefIdeal (m : (ℓ : Loc Cert.FirstNormBwdRefIdeal.nD Cert.FirstNormBwdRefIdeal.τ Cert.FirstNormBwdRefIdeal.sig) → Buf (Elt Ideal) ℓ) : Prop :=
  True

def Pre_FirstNormBwdRefIdeal_first_norm_bwd_finite [hPre_first_norm_bwd_finite : Cert.Pre_first_norm_bwd_finite.Facts] (m : (ℓ : Loc Cert.FirstNormBwdRefIdeal.nD Cert.FirstNormBwdRefIdeal.τ Cert.FirstNormBwdRefIdeal.sig) → Buf (Elt Ideal) ℓ) : Prop :=
  ∀ c : Dev Cert.FirstNormBwdRefIdeal.nD,
    (Cert.Pre_first_norm_bwd_finite.fn (F := Ideal) (m ((c.tc : Thread Cert.FirstNormBwdRefIdeal.nD Cert.FirstNormBwdRefIdeal.τ).loc Cert.FirstNormBwdRefIdeal.main_arg0)) (m ((c.tc : Thread Cert.FirstNormBwdRefIdeal.nD Cert.FirstNormBwdRefIdeal.τ).loc Cert.FirstNormBwdRefIdeal.main_arg1)) (m ((c.tc : Thread Cert.FirstNormBwdRefIdeal.nD Cert.FirstNormBwdRefIdeal.τ).loc Cert.FirstNormBwdRefIdeal.main_arg2)) (m ((c.tc : Thread Cert.FirstNormBwdRefIdeal.nD Cert.FirstNormBwdRefIdeal.τ).loc Cert.FirstNormBwdRefIdeal.main_arg3)) (m ((c.tc : Thread Cert.FirstNormBwdRefIdeal.nD Cert.FirstNormBwdRefIdeal.τ).loc Cert.FirstNormBwdRefIdeal.main_arg4)) (m ((c.tc : Thread Cert.FirstNormBwdRefIdeal.nD Cert.FirstNormBwdRefIdeal.τ).loc Cert.FirstNormBwdRefIdeal.main_arg5)) (m ((c.tc : Thread Cert.FirstNormBwdRefIdeal.nD Cert.FirstNormBwdRefIdeal.τ).loc Cert.FirstNormBwdRefIdeal.main_arg6))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdIdeal_norm_fwd_finite [hPre_norm_fwd_finite : Cert.Pre_norm_fwd_finite.Facts] (m : (ℓ : Loc Cert.NormFwdIdeal.nD Cert.NormFwdIdeal.τ Cert.NormFwdIdeal.sig) → Buf (Elt Ideal) ℓ) : Prop :=
  ∀ c : Dev Cert.NormFwdIdeal.nD,
    (Cert.Pre_norm_fwd_finite.fn (F := Ideal) (m ((c.tc : Thread Cert.NormFwdIdeal.nD Cert.NormFwdIdeal.τ).loc Cert.NormFwdIdeal.main_arg0)) (m ((c.tc : Thread Cert.NormFwdIdeal.nD Cert.NormFwdIdeal.τ).loc Cert.NormFwdIdeal.main_arg1)) (m ((c.tc : Thread Cert.NormFwdIdeal.nD Cert.NormFwdIdeal.τ).loc Cert.NormFwdIdeal.main_arg2)) (m ((c.tc : Thread Cert.NormFwdIdeal.nD Cert.NormFwdIdeal.τ).loc Cert.NormFwdIdeal.main_arg3))) = (fun _ => 1#1)

def Pre_NormFwdRefIdeal (m : (ℓ : Loc Cert.NormFwdRefIdeal.nD Cert.NormFwdRefIdeal.τ Cert.NormFwdRefIdeal.sig) → Buf (Elt Ideal) ℓ) : Prop :=
  True

def Pre_NormFwdRefIdeal_norm_fwd_finite [hPre_norm_fwd_finite : Cert.Pre_norm_fwd_finite.Facts] (m : (ℓ : Loc Cert.NormFwdRefIdeal.nD Cert.NormFwdRefIdeal.τ Cert.NormFwdRefIdeal.sig) → Buf (Elt Ideal) ℓ) : Prop :=
  ∀ c : Dev Cert.NormFwdRefIdeal.nD,
    (Cert.Pre_norm_fwd_finite.fn (F := Ideal) (m ((c.tc : Thread Cert.NormFwdRefIdeal.nD Cert.NormFwdRefIdeal.τ).loc Cert.NormFwdRefIdeal.main_arg0)) (m ((c.tc : Thread Cert.NormFwdRefIdeal.nD Cert.NormFwdRefIdeal.τ).loc Cert.NormFwdRefIdeal.main_arg1)) (m ((c.tc : Thread Cert.NormFwdRefIdeal.nD Cert.NormFwdRefIdeal.τ).loc Cert.NormFwdRefIdeal.main_arg2)) (m ((c.tc : Thread Cert.NormFwdRefIdeal.nD Cert.NormFwdRefIdeal.τ).loc Cert.NormFwdRefIdeal.main_arg3))) = (fun _ => 1#1)

def quiescent_HiddenGrad [hHiddenGrad : Cert.HiddenGrad.Facts] : Prop :=
  ∀ (m : (ℓ : Loc Cert.HiddenGrad.nD Cert.HiddenGrad.τ Cert.HiddenGrad.sig) → Buf (Elt Bits) ℓ) (g : Dev Cert.HiddenGrad.nD → PrngReg), Pre_HiddenGrad m →
    θ_run (Cert.HiddenGrad.defs (F := Bits)) (onTc (τ := Cert.HiddenGrad.τ) (Cert.HiddenGrad.main (F := Bits))) ⟨m, fun _ => 0, g⟩ (fun r => (∀ c : Dev Cert.HiddenGrad.nD,
      r.2.mem ((c.tc : Thread Cert.HiddenGrad.nD Cert.HiddenGrad.τ).loc Cert.HiddenGrad.main_arg0) = m ((c.tc : Thread Cert.HiddenGrad.nD Cert.HiddenGrad.τ).loc Cert.HiddenGrad.main_arg0)
      ∧ r.2.mem ((c.tc : Thread Cert.HiddenGrad.nD Cert.HiddenGrad.τ).loc Cert.HiddenGrad.main_arg1) = m ((c.tc : Thread Cert.HiddenGrad.nD Cert.HiddenGrad.τ).loc Cert.HiddenGrad.main_arg1)
      ∧ r.2.mem ((c.tc : Thread Cert.HiddenGrad.nD Cert.HiddenGrad.τ).loc Cert.HiddenGrad.main_arg2) = m ((c.tc : Thread Cert.HiddenGrad.nD Cert.HiddenGrad.τ).loc Cert.HiddenGrad.main_arg2))
      ∧ r.2.sem = fun _ => 0)

def quiescent_HiddenGradIdeal [hHiddenGradIdeal : Cert.HiddenGradIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg), Pre_HiddenGradIdeal m →
    θ_run (Cert.HiddenGradIdeal.defs (F := Ideal)) (onTc (τ := Cert.HiddenGradIdeal.τ) (Cert.HiddenGradIdeal.main (F := Ideal))) ⟨m, fun _ => 0, g⟩ (fun r => (∀ c : Dev Cert.HiddenGradIdeal.nD,
      r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
      ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
      ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2))
      ∧ r.2.sem = fun _ => 0)

def quiescent_HiddenGradIdeal_pre_hidden_grad_finite [hHiddenGradIdeal : Cert.HiddenGradIdeal.Facts] [hPre_hidden_grad_finite : Cert.Pre_hidden_grad_finite.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg), Pre_HiddenGradIdeal_hidden_grad_finite m →
    θ_run (Cert.HiddenGradIdeal.defs (F := Ideal)) (onTc (τ := Cert.HiddenGradIdeal.τ) (Cert.HiddenGradIdeal.main (F := Ideal))) ⟨m, fun _ => 0, g⟩ (fun r => (∀ c : Dev Cert.HiddenGradIdeal.nD,
      r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
      ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
      ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2))
      ∧ r.2.sem = fun _ => 0)

def quiescent_HiddenGradRefIdeal [hHiddenGradRefIdeal : Cert.HiddenGradRefIdeal.Facts] : Prop :=
  ∀ (m : (ℓ : Loc Cert.HiddenGradRefIdeal.nD Cert.HiddenGradRefIdeal.τ Cert.HiddenGradRefIdeal.sig) → Buf (Elt Ideal) ℓ) (g : Dev Cert.HiddenGradRefIdeal.nD → PrngReg), Pre_HiddenGradRefIdeal m →
    θ_run (Cert.HiddenGradRefIdeal.defs (F := Ideal)) (onTc (τ := Cert.HiddenGradRefIdeal.τ) (Cert.HiddenGradRefIdeal.main (F := Ideal))) ⟨m, fun _ => 0, g⟩ (fun r => (∀ c : Dev Cert.HiddenGradRefIdeal.nD,
      r.2.mem ((c.tc : Thread Cert.HiddenGradRefIdeal.nD Cert.HiddenGradRefIdeal.τ).loc Cert.HiddenGradRefIdeal.main_arg0) = m ((c.tc : Thread Cert.HiddenGradRefIdeal.nD Cert.HiddenGradRefIdeal.τ).loc Cert.HiddenGradRefIdeal.main_arg0)
      ∧ r.2.mem ((c.tc : Thread Cert.HiddenGradRefIdeal.nD Cert.HiddenGradRefIdeal.τ).loc Cert.HiddenGradRefIdeal.main_arg1) = m ((c.tc : Thread Cert.HiddenGradRefIdeal.nD Cert.HiddenGradRefIdeal.τ).loc Cert.HiddenGradRefIdeal.main_arg1)
      ∧ r.2.mem ((c.tc : Thread Cert.HiddenGradRefIdeal.nD Cert.HiddenGradRefIdeal.τ).loc Cert.HiddenGradRefIdeal.main_arg2) = m ((c.tc : Thread Cert.HiddenGradRefIdeal.nD Cert.HiddenGradRefIdeal.τ).loc Cert.HiddenGradRefIdeal.main_arg2))
      ∧ r.2.sem = fun _ => 0)

def quiescent_HiddenGradRefIdeal_pre_hidden_grad_finite [hHiddenGradRefIdeal : Cert.HiddenGradRefIdeal.Facts] [hPre_hidden_grad_finite : Cert.Pre_hidden_grad_finite.Facts] : Prop :=
  ∀ (m : (ℓ : Loc Cert.HiddenGradRefIdeal.nD Cert.HiddenGradRefIdeal.τ Cert.HiddenGradRefIdeal.sig) → Buf (Elt Ideal) ℓ) (g : Dev Cert.HiddenGradRefIdeal.nD → PrngReg), Pre_HiddenGradRefIdeal_hidden_grad_finite m →
    θ_run (Cert.HiddenGradRefIdeal.defs (F := Ideal)) (onTc (τ := Cert.HiddenGradRefIdeal.τ) (Cert.HiddenGradRefIdeal.main (F := Ideal))) ⟨m, fun _ => 0, g⟩ (fun r => (∀ c : Dev Cert.HiddenGradRefIdeal.nD,
      r.2.mem ((c.tc : Thread Cert.HiddenGradRefIdeal.nD Cert.HiddenGradRefIdeal.τ).loc Cert.HiddenGradRefIdeal.main_arg0) = m ((c.tc : Thread Cert.HiddenGradRefIdeal.nD Cert.HiddenGradRefIdeal.τ).loc Cert.HiddenGradRefIdeal.main_arg0)
      ∧ r.2.mem ((c.tc : Thread Cert.HiddenGradRefIdeal.nD Cert.HiddenGradRefIdeal.τ).loc Cert.HiddenGradRefIdeal.main_arg1) = m ((c.tc : Thread Cert.HiddenGradRefIdeal.nD Cert.HiddenGradRefIdeal.τ).loc Cert.HiddenGradRefIdeal.main_arg1)
      ∧ r.2.mem ((c.tc : Thread Cert.HiddenGradRefIdeal.nD Cert.HiddenGradRefIdeal.τ).loc Cert.HiddenGradRefIdeal.main_arg2) = m ((c.tc : Thread Cert.HiddenGradRefIdeal.nD Cert.HiddenGradRefIdeal.τ).loc Cert.HiddenGradRefIdeal.main_arg2))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_LatentBwd [hLatentBwd : Cert.LatentBwd.Facts] : Prop :=
  ∀ (m : (ℓ : Loc Cert.LatentBwd.nD Cert.LatentBwd.τ Cert.LatentBwd.sig) → Buf (Elt Bits) ℓ) (g : Dev Cert.LatentBwd.nD → PrngReg), Pre_LatentBwd m →
    θ_run (Cert.LatentBwd.defs (F := Bits)) (onTc (τ := Cert.LatentBwd.τ) (Cert.LatentBwd.main (F := Bits))) ⟨m, fun _ => 0, g⟩ (fun r => (∀ c : Dev Cert.LatentBwd.nD,
      r.2.mem ((c.tc : Thread Cert.LatentBwd.nD Cert.LatentBwd.τ).loc Cert.LatentBwd.main_arg0) = m ((c.tc : Thread Cert.LatentBwd.nD Cert.LatentBwd.τ).loc Cert.LatentBwd.main_arg0)
      ∧ r.2.mem ((c.tc : Thread Cert.LatentBwd.nD Cert.LatentBwd.τ).loc Cert.LatentBwd.main_arg1) = m ((c.tc : Thread Cert.LatentBwd.nD Cert.LatentBwd.τ).loc Cert.LatentBwd.main_arg1)
      ∧ r.2.mem ((c.tc : Thread Cert.LatentBwd.nD Cert.LatentBwd.τ).loc Cert.LatentBwd.main_arg2) = m ((c.tc : Thread Cert.LatentBwd.nD Cert.LatentBwd.τ).loc Cert.LatentBwd.main_arg2)
      ∧ r.2.mem ((c.tc : Thread Cert.LatentBwd.nD Cert.LatentBwd.τ).loc Cert.LatentBwd.main_arg3) = m ((c.tc : Thread Cert.LatentBwd.nD Cert.LatentBwd.τ).loc Cert.LatentBwd.main_arg3)
      ∧ r.2.mem ((c.tc : Thread Cert.LatentBwd.nD Cert.LatentBwd.τ).loc Cert.LatentBwd.main_arg4) = m ((c.tc : Thread Cert.LatentBwd.nD Cert.LatentBwd.τ).loc Cert.LatentBwd.main_arg4)
      ∧ r.2.mem ((c.tc : Thread Cert.LatentBwd.nD Cert.LatentBwd.τ).loc Cert.LatentBwd.main_arg5) = m ((c.tc : Thread Cert.LatentBwd.nD Cert.LatentBwd.τ).loc Cert.LatentBwd.main_arg5)
      ∧ r.2.mem ((c.tc : Thread Cert.LatentBwd.nD Cert.LatentBwd.τ).loc Cert.LatentBwd.main_arg6) = m ((c.tc : Thread Cert.LatentBwd.nD Cert.LatentBwd.τ).loc Cert.LatentBwd.main_arg6)
      ∧ r.2.mem ((c.tc : Thread Cert.LatentBwd.nD Cert.LatentBwd.τ).loc Cert.LatentBwd.main_arg7) = m ((c.tc : Thread Cert.LatentBwd.nD Cert.LatentBwd.τ).loc Cert.LatentBwd.main_arg7))
      ∧ r.2.sem = fun _ => 0)

def quiescent_LatentBwdIdeal [hLatentBwdIdeal : Cert.LatentBwdIdeal.Facts] : Prop :=
  ∀ (m : (ℓ : Loc Cert.LatentBwdIdeal.nD Cert.LatentBwdIdeal.τ Cert.LatentBwdIdeal.sig) → Buf (Elt Ideal) ℓ) (g : Dev Cert.LatentBwdIdeal.nD → PrngReg), Pre_LatentBwdIdeal m →
    θ_run (Cert.LatentBwdIdeal.defs (F := Ideal)) (onTc (τ := Cert.LatentBwdIdeal.τ) (Cert.LatentBwdIdeal.main (F := Ideal))) ⟨m, fun _ => 0, g⟩ (fun r => (∀ c : Dev Cert.LatentBwdIdeal.nD,
      r.2.mem ((c.tc : Thread Cert.LatentBwdIdeal.nD Cert.LatentBwdIdeal.τ).loc Cert.LatentBwdIdeal.main_arg0) = m ((c.tc : Thread Cert.LatentBwdIdeal.nD Cert.LatentBwdIdeal.τ).loc Cert.LatentBwdIdeal.main_arg0)
      ∧ r.2.mem ((c.tc : Thread Cert.LatentBwdIdeal.nD Cert.LatentBwdIdeal.τ).loc Cert.LatentBwdIdeal.main_arg1) = m ((c.tc : Thread Cert.LatentBwdIdeal.nD Cert.LatentBwdIdeal.τ).loc Cert.LatentBwdIdeal.main_arg1)
      ∧ r.2.mem ((c.tc : Thread Cert.LatentBwdIdeal.nD Cert.LatentBwdIdeal.τ).loc Cert.LatentBwdIdeal.main_arg2) = m ((c.tc : Thread Cert.LatentBwdIdeal.nD Cert.LatentBwdIdeal.τ).loc Cert.LatentBwdIdeal.main_arg2)
      ∧ r.2.mem ((c.tc : Thread Cert.LatentBwdIdeal.nD Cert.LatentBwdIdeal.τ).loc Cert.LatentBwdIdeal.main_arg3) = m ((c.tc : Thread Cert.LatentBwdIdeal.nD Cert.LatentBwdIdeal.τ).loc Cert.LatentBwdIdeal.main_arg3)
      ∧ r.2.mem ((c.tc : Thread Cert.LatentBwdIdeal.nD Cert.LatentBwdIdeal.τ).loc Cert.LatentBwdIdeal.main_arg4) = m ((c.tc : Thread Cert.LatentBwdIdeal.nD Cert.LatentBwdIdeal.τ).loc Cert.LatentBwdIdeal.main_arg4)
      ∧ r.2.mem ((c.tc : Thread Cert.LatentBwdIdeal.nD Cert.LatentBwdIdeal.τ).loc Cert.LatentBwdIdeal.main_arg5) = m ((c.tc : Thread Cert.LatentBwdIdeal.nD Cert.LatentBwdIdeal.τ).loc Cert.LatentBwdIdeal.main_arg5)
      ∧ r.2.mem ((c.tc : Thread Cert.LatentBwdIdeal.nD Cert.LatentBwdIdeal.τ).loc Cert.LatentBwdIdeal.main_arg6) = m ((c.tc : Thread Cert.LatentBwdIdeal.nD Cert.LatentBwdIdeal.τ).loc Cert.LatentBwdIdeal.main_arg6)
      ∧ r.2.mem ((c.tc : Thread Cert.LatentBwdIdeal.nD Cert.LatentBwdIdeal.τ).loc Cert.LatentBwdIdeal.main_arg7) = m ((c.tc : Thread Cert.LatentBwdIdeal.nD Cert.LatentBwdIdeal.τ).loc Cert.LatentBwdIdeal.main_arg7))
      ∧ r.2.sem = fun _ => 0)

def quiescent_LatentBwdIdeal_pre_latent_bwd_finite [hLatentBwdIdeal : Cert.LatentBwdIdeal.Facts] [hPre_latent_bwd_finite : Cert.Pre_latent_bwd_finite.Facts] : Prop :=
  ∀ (m : (ℓ : Loc Cert.LatentBwdIdeal.nD Cert.LatentBwdIdeal.τ Cert.LatentBwdIdeal.sig) → Buf (Elt Ideal) ℓ) (g : Dev Cert.LatentBwdIdeal.nD → PrngReg), Pre_LatentBwdIdeal_latent_bwd_finite m →
    θ_run (Cert.LatentBwdIdeal.defs (F := Ideal)) (onTc (τ := Cert.LatentBwdIdeal.τ) (Cert.LatentBwdIdeal.main (F := Ideal))) ⟨m, fun _ => 0, g⟩ (fun r => (∀ c : Dev Cert.LatentBwdIdeal.nD,
      r.2.mem ((c.tc : Thread Cert.LatentBwdIdeal.nD Cert.LatentBwdIdeal.τ).loc Cert.LatentBwdIdeal.main_arg0) = m ((c.tc : Thread Cert.LatentBwdIdeal.nD Cert.LatentBwdIdeal.τ).loc Cert.LatentBwdIdeal.main_arg0)
      ∧ r.2.mem ((c.tc : Thread Cert.LatentBwdIdeal.nD Cert.LatentBwdIdeal.τ).loc Cert.LatentBwdIdeal.main_arg1) = m ((c.tc : Thread Cert.LatentBwdIdeal.nD Cert.LatentBwdIdeal.τ).loc Cert.LatentBwdIdeal.main_arg1)
      ∧ r.2.mem ((c.tc : Thread Cert.LatentBwdIdeal.nD Cert.LatentBwdIdeal.τ).loc Cert.LatentBwdIdeal.main_arg2) = m ((c.tc : Thread Cert.LatentBwdIdeal.nD Cert.LatentBwdIdeal.τ).loc Cert.LatentBwdIdeal.main_arg2)
      ∧ r.2.mem ((c.tc : Thread Cert.LatentBwdIdeal.nD Cert.LatentBwdIdeal.τ).loc Cert.LatentBwdIdeal.main_arg3) = m ((c.tc : Thread Cert.LatentBwdIdeal.nD Cert.LatentBwdIdeal.τ).loc Cert.LatentBwdIdeal.main_arg3)
      ∧ r.2.mem ((c.tc : Thread Cert.LatentBwdIdeal.nD Cert.LatentBwdIdeal.τ).loc Cert.LatentBwdIdeal.main_arg4) = m ((c.tc : Thread Cert.LatentBwdIdeal.nD Cert.LatentBwdIdeal.τ).loc Cert.LatentBwdIdeal.main_arg4)
      ∧ r.2.mem ((c.tc : Thread Cert.LatentBwdIdeal.nD Cert.LatentBwdIdeal.τ).loc Cert.LatentBwdIdeal.main_arg5) = m ((c.tc : Thread Cert.LatentBwdIdeal.nD Cert.LatentBwdIdeal.τ).loc Cert.LatentBwdIdeal.main_arg5)
      ∧ r.2.mem ((c.tc : Thread Cert.LatentBwdIdeal.nD Cert.LatentBwdIdeal.τ).loc Cert.LatentBwdIdeal.main_arg6) = m ((c.tc : Thread Cert.LatentBwdIdeal.nD Cert.LatentBwdIdeal.τ).loc Cert.LatentBwdIdeal.main_arg6)
      ∧ r.2.mem ((c.tc : Thread Cert.LatentBwdIdeal.nD Cert.LatentBwdIdeal.τ).loc Cert.LatentBwdIdeal.main_arg7) = m ((c.tc : Thread Cert.LatentBwdIdeal.nD Cert.LatentBwdIdeal.τ).loc Cert.LatentBwdIdeal.main_arg7))
      ∧ r.2.sem = fun _ => 0)

def quiescent_LatentBwdRefIdeal [hLatentBwdRefIdeal : Cert.LatentBwdRefIdeal.Facts] : Prop :=
  ∀ (m : (ℓ : Loc Cert.LatentBwdRefIdeal.nD Cert.LatentBwdRefIdeal.τ Cert.LatentBwdRefIdeal.sig) → Buf (Elt Ideal) ℓ) (g : Dev Cert.LatentBwdRefIdeal.nD → PrngReg), Pre_LatentBwdRefIdeal m →
    θ_run (Cert.LatentBwdRefIdeal.defs (F := Ideal)) (onTc (τ := Cert.LatentBwdRefIdeal.τ) (Cert.LatentBwdRefIdeal.main (F := Ideal))) ⟨m, fun _ => 0, g⟩ (fun r => (∀ c : Dev Cert.LatentBwdRefIdeal.nD,
      r.2.mem ((c.tc : Thread Cert.LatentBwdRefIdeal.nD Cert.LatentBwdRefIdeal.τ).loc Cert.LatentBwdRefIdeal.main_arg0) = m ((c.tc : Thread Cert.LatentBwdRefIdeal.nD Cert.LatentBwdRefIdeal.τ).loc Cert.LatentBwdRefIdeal.main_arg0)
      ∧ r.2.mem ((c.tc : Thread Cert.LatentBwdRefIdeal.nD Cert.LatentBwdRefIdeal.τ).loc Cert.LatentBwdRefIdeal.main_arg1) = m ((c.tc : Thread Cert.LatentBwdRefIdeal.nD Cert.LatentBwdRefIdeal.τ).loc Cert.LatentBwdRefIdeal.main_arg1)
      ∧ r.2.mem ((c.tc : Thread Cert.LatentBwdRefIdeal.nD Cert.LatentBwdRefIdeal.τ).loc Cert.LatentBwdRefIdeal.main_arg2) = m ((c.tc : Thread Cert.LatentBwdRefIdeal.nD Cert.LatentBwdRefIdeal.τ).loc Cert.LatentBwdRefIdeal.main_arg2)
      ∧ r.2.mem ((c.tc : Thread Cert.LatentBwdRefIdeal.nD Cert.LatentBwdRefIdeal.τ).loc Cert.LatentBwdRefIdeal.main_arg3) = m ((c.tc : Thread Cert.LatentBwdRefIdeal.nD Cert.LatentBwdRefIdeal.τ).loc Cert.LatentBwdRefIdeal.main_arg3)
      ∧ r.2.mem ((c.tc : Thread Cert.LatentBwdRefIdeal.nD Cert.LatentBwdRefIdeal.τ).loc Cert.LatentBwdRefIdeal.main_arg4) = m ((c.tc : Thread Cert.LatentBwdRefIdeal.nD Cert.LatentBwdRefIdeal.τ).loc Cert.LatentBwdRefIdeal.main_arg4)
      ∧ r.2.mem ((c.tc : Thread Cert.LatentBwdRefIdeal.nD Cert.LatentBwdRefIdeal.τ).loc Cert.LatentBwdRefIdeal.main_arg5) = m ((c.tc : Thread Cert.LatentBwdRefIdeal.nD Cert.LatentBwdRefIdeal.τ).loc Cert.LatentBwdRefIdeal.main_arg5)
      ∧ r.2.mem ((c.tc : Thread Cert.LatentBwdRefIdeal.nD Cert.LatentBwdRefIdeal.τ).loc Cert.LatentBwdRefIdeal.main_arg6) = m ((c.tc : Thread Cert.LatentBwdRefIdeal.nD Cert.LatentBwdRefIdeal.τ).loc Cert.LatentBwdRefIdeal.main_arg6)
      ∧ r.2.mem ((c.tc : Thread Cert.LatentBwdRefIdeal.nD Cert.LatentBwdRefIdeal.τ).loc Cert.LatentBwdRefIdeal.main_arg7) = m ((c.tc : Thread Cert.LatentBwdRefIdeal.nD Cert.LatentBwdRefIdeal.τ).loc Cert.LatentBwdRefIdeal.main_arg7))
      ∧ r.2.sem = fun _ => 0)

def quiescent_LatentBwdRefIdeal_pre_latent_bwd_finite [hLatentBwdRefIdeal : Cert.LatentBwdRefIdeal.Facts] [hPre_latent_bwd_finite : Cert.Pre_latent_bwd_finite.Facts] : Prop :=
  ∀ (m : (ℓ : Loc Cert.LatentBwdRefIdeal.nD Cert.LatentBwdRefIdeal.τ Cert.LatentBwdRefIdeal.sig) → Buf (Elt Ideal) ℓ) (g : Dev Cert.LatentBwdRefIdeal.nD → PrngReg), Pre_LatentBwdRefIdeal_latent_bwd_finite m →
    θ_run (Cert.LatentBwdRefIdeal.defs (F := Ideal)) (onTc (τ := Cert.LatentBwdRefIdeal.τ) (Cert.LatentBwdRefIdeal.main (F := Ideal))) ⟨m, fun _ => 0, g⟩ (fun r => (∀ c : Dev Cert.LatentBwdRefIdeal.nD,
      r.2.mem ((c.tc : Thread Cert.LatentBwdRefIdeal.nD Cert.LatentBwdRefIdeal.τ).loc Cert.LatentBwdRefIdeal.main_arg0) = m ((c.tc : Thread Cert.LatentBwdRefIdeal.nD Cert.LatentBwdRefIdeal.τ).loc Cert.LatentBwdRefIdeal.main_arg0)
      ∧ r.2.mem ((c.tc : Thread Cert.LatentBwdRefIdeal.nD Cert.LatentBwdRefIdeal.τ).loc Cert.LatentBwdRefIdeal.main_arg1) = m ((c.tc : Thread Cert.LatentBwdRefIdeal.nD Cert.LatentBwdRefIdeal.τ).loc Cert.LatentBwdRefIdeal.main_arg1)
      ∧ r.2.mem ((c.tc : Thread Cert.LatentBwdRefIdeal.nD Cert.LatentBwdRefIdeal.τ).loc Cert.LatentBwdRefIdeal.main_arg2) = m ((c.tc : Thread Cert.LatentBwdRefIdeal.nD Cert.LatentBwdRefIdeal.τ).loc Cert.LatentBwdRefIdeal.main_arg2)
      ∧ r.2.mem ((c.tc : Thread Cert.LatentBwdRefIdeal.nD Cert.LatentBwdRefIdeal.τ).loc Cert.LatentBwdRefIdeal.main_arg3) = m ((c.tc : Thread Cert.LatentBwdRefIdeal.nD Cert.LatentBwdRefIdeal.τ).loc Cert.LatentBwdRefIdeal.main_arg3)
      ∧ r.2.mem ((c.tc : Thread Cert.LatentBwdRefIdeal.nD Cert.LatentBwdRefIdeal.τ).loc Cert.LatentBwdRefIdeal.main_arg4) = m ((c.tc : Thread Cert.LatentBwdRefIdeal.nD Cert.LatentBwdRefIdeal.τ).loc Cert.LatentBwdRefIdeal.main_arg4)
      ∧ r.2.mem ((c.tc : Thread Cert.LatentBwdRefIdeal.nD Cert.LatentBwdRefIdeal.τ).loc Cert.LatentBwdRefIdeal.main_arg5) = m ((c.tc : Thread Cert.LatentBwdRefIdeal.nD Cert.LatentBwdRefIdeal.τ).loc Cert.LatentBwdRefIdeal.main_arg5)
      ∧ r.2.mem ((c.tc : Thread Cert.LatentBwdRefIdeal.nD Cert.LatentBwdRefIdeal.τ).loc Cert.LatentBwdRefIdeal.main_arg6) = m ((c.tc : Thread Cert.LatentBwdRefIdeal.nD Cert.LatentBwdRefIdeal.τ).loc Cert.LatentBwdRefIdeal.main_arg6)
      ∧ r.2.mem ((c.tc : Thread Cert.LatentBwdRefIdeal.nD Cert.LatentBwdRefIdeal.τ).loc Cert.LatentBwdRefIdeal.main_arg7) = m ((c.tc : Thread Cert.LatentBwdRefIdeal.nD Cert.LatentBwdRefIdeal.τ).loc Cert.LatentBwdRefIdeal.main_arg7))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7)
      ∧ r.2.mem ((c.tc : Thread Cert.NormBwd.nD Cert.NormBwd.τ).loc Cert.NormBwd.main_arg8) = m ((c.tc : Thread Cert.NormBwd.nD Cert.NormBwd.τ).loc Cert.NormBwd.main_arg8))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7)
      ∧ r.2.mem ((c.tc : Thread Cert.NormBwdIdeal.nD Cert.NormBwdIdeal.τ).loc Cert.NormBwdIdeal.main_arg8) = m ((c.tc : Thread Cert.NormBwdIdeal.nD Cert.NormBwdIdeal.τ).loc Cert.NormBwdIdeal.main_arg8))
      ∧ r.2.sem = fun _ => 0)

def quiescent_NormBwdIdeal_pre_norm_bwd_finite [hNormBwdIdeal : Cert.NormBwdIdeal.Facts] [hPre_norm_bwd_finite : Cert.Pre_norm_bwd_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_bwd_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7)
      ∧ r.2.mem ((c.tc : Thread Cert.NormBwdIdeal.nD Cert.NormBwdIdeal.τ).loc Cert.NormBwdIdeal.main_arg8) = m ((c.tc : Thread Cert.NormBwdIdeal.nD Cert.NormBwdIdeal.τ).loc Cert.NormBwdIdeal.main_arg8))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7)
      ∧ r.2.mem ((c.tc : Thread Cert.NormBwdRefIdeal.nD Cert.NormBwdRefIdeal.τ).loc Cert.NormBwdRefIdeal.main_arg8) = m ((c.tc : Thread Cert.NormBwdRefIdeal.nD Cert.NormBwdRefIdeal.τ).loc Cert.NormBwdRefIdeal.main_arg8))
      ∧ r.2.sem = fun _ => 0)

def quiescent_NormBwdRefIdeal_pre_norm_bwd_finite [hNormBwdRefIdeal : Cert.NormBwdRefIdeal.Facts] [hPre_norm_bwd_finite : Cert.Pre_norm_bwd_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_norm_bwd_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7)
      ∧ r.2.mem ((c.tc : Thread Cert.NormBwdRefIdeal.nD Cert.NormBwdRefIdeal.τ).loc Cert.NormBwdRefIdeal.main_arg8) = m ((c.tc : Thread Cert.NormBwdRefIdeal.nD Cert.NormBwdRefIdeal.τ).loc Cert.NormBwdRefIdeal.main_arg8))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_AttnBwdRefIdeal_pre_attn_bwd_finite [hAttnBwdRefIdeal : Cert.AttnBwdRefIdeal.Facts] [hPre_attn_bwd_finite : Cert.Pre_attn_bwd_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_QkBwd [hQkBwd : Cert.QkBwd.Facts] : Prop :=
  ∀ (m : (ℓ : Loc Cert.QkBwd.nD Cert.QkBwd.τ Cert.QkBwd.sig) → Buf (Elt Bits) ℓ) (g : Dev Cert.QkBwd.nD → PrngReg), Pre_QkBwd m →
    θ_run (Cert.QkBwd.defs (F := Bits)) (onTc (τ := Cert.QkBwd.τ) (Cert.QkBwd.main (F := Bits))) ⟨m, fun _ => 0, g⟩ (fun r => (∀ c : Dev Cert.QkBwd.nD,
      r.2.mem ((c.tc : Thread Cert.QkBwd.nD Cert.QkBwd.τ).loc Cert.QkBwd.main_arg0) = m ((c.tc : Thread Cert.QkBwd.nD Cert.QkBwd.τ).loc Cert.QkBwd.main_arg0)
      ∧ r.2.mem ((c.tc : Thread Cert.QkBwd.nD Cert.QkBwd.τ).loc Cert.QkBwd.main_arg1) = m ((c.tc : Thread Cert.QkBwd.nD Cert.QkBwd.τ).loc Cert.QkBwd.main_arg1)
      ∧ r.2.mem ((c.tc : Thread Cert.QkBwd.nD Cert.QkBwd.τ).loc Cert.QkBwd.main_arg2) = m ((c.tc : Thread Cert.QkBwd.nD Cert.QkBwd.τ).loc Cert.QkBwd.main_arg2)
      ∧ r.2.mem ((c.tc : Thread Cert.QkBwd.nD Cert.QkBwd.τ).loc Cert.QkBwd.main_arg3) = m ((c.tc : Thread Cert.QkBwd.nD Cert.QkBwd.τ).loc Cert.QkBwd.main_arg3)
      ∧ r.2.mem ((c.tc : Thread Cert.QkBwd.nD Cert.QkBwd.τ).loc Cert.QkBwd.main_arg4) = m ((c.tc : Thread Cert.QkBwd.nD Cert.QkBwd.τ).loc Cert.QkBwd.main_arg4)
      ∧ r.2.mem ((c.tc : Thread Cert.QkBwd.nD Cert.QkBwd.τ).loc Cert.QkBwd.main_arg5) = m ((c.tc : Thread Cert.QkBwd.nD Cert.QkBwd.τ).loc Cert.QkBwd.main_arg5)
      ∧ r.2.mem ((c.tc : Thread Cert.QkBwd.nD Cert.QkBwd.τ).loc Cert.QkBwd.main_arg6) = m ((c.tc : Thread Cert.QkBwd.nD Cert.QkBwd.τ).loc Cert.QkBwd.main_arg6)
      ∧ r.2.mem ((c.tc : Thread Cert.QkBwd.nD Cert.QkBwd.τ).loc Cert.QkBwd.main_arg7) = m ((c.tc : Thread Cert.QkBwd.nD Cert.QkBwd.τ).loc Cert.QkBwd.main_arg7)
      ∧ r.2.mem ((c.tc : Thread Cert.QkBwd.nD Cert.QkBwd.τ).loc Cert.QkBwd.main_arg8) = m ((c.tc : Thread Cert.QkBwd.nD Cert.QkBwd.τ).loc Cert.QkBwd.main_arg8)
      ∧ r.2.mem ((c.tc : Thread Cert.QkBwd.nD Cert.QkBwd.τ).loc Cert.QkBwd.main_arg9) = m ((c.tc : Thread Cert.QkBwd.nD Cert.QkBwd.τ).loc Cert.QkBwd.main_arg9)
      ∧ r.2.mem ((c.tc : Thread Cert.QkBwd.nD Cert.QkBwd.τ).loc Cert.QkBwd.main_arg10) = m ((c.tc : Thread Cert.QkBwd.nD Cert.QkBwd.τ).loc Cert.QkBwd.main_arg10))
      ∧ r.2.sem = fun _ => 0)

def quiescent_QkBwdIdeal [hQkBwdIdeal : Cert.QkBwdIdeal.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
      ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6)
      ∧ r.2.mem ((c.tc : Thread Cert.QkBwdIdeal.nD Cert.QkBwdIdeal.τ).loc Cert.QkBwdIdeal.main_arg7) = m ((c.tc : Thread Cert.QkBwdIdeal.nD Cert.QkBwdIdeal.τ).loc Cert.QkBwdIdeal.main_arg7)
      ∧ r.2.mem ((c.tc : Thread Cert.QkBwdIdeal.nD Cert.QkBwdIdeal.τ).loc Cert.QkBwdIdeal.main_arg8) = m ((c.tc : Thread Cert.QkBwdIdeal.nD Cert.QkBwdIdeal.τ).loc Cert.QkBwdIdeal.main_arg8)
      ∧ r.2.mem ((c.tc : Thread Cert.QkBwdIdeal.nD Cert.QkBwdIdeal.τ).loc Cert.QkBwdIdeal.main_arg9) = m ((c.tc : Thread Cert.QkBwdIdeal.nD Cert.QkBwdIdeal.τ).loc Cert.QkBwdIdeal.main_arg9)
      ∧ r.2.mem ((c.tc : Thread Cert.QkBwdIdeal.nD Cert.QkBwdIdeal.τ).loc Cert.QkBwdIdeal.main_arg10) = m ((c.tc : Thread Cert.QkBwdIdeal.nD Cert.QkBwdIdeal.τ).loc Cert.QkBwdIdeal.main_arg10))
      ∧ r.2.sem = fun _ => 0)

def quiescent_QkBwdIdeal_pre_qk_bwd_finite [hQkBwdIdeal : Cert.QkBwdIdeal.Facts] [hPre_qk_bwd_finite : Cert.Pre_qk_bwd_finite.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal_qk_bwd_finite m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
      ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6)
      ∧ r.2.mem ((c.tc : Thread Cert.QkBwdIdeal.nD Cert.QkBwdIdeal.τ).loc Cert.QkBwdIdeal.main_arg7) = m ((c.tc : Thread Cert.QkBwdIdeal.nD Cert.QkBwdIdeal.τ).loc Cert.QkBwdIdeal.main_arg7)
      ∧ r.2.mem ((c.tc : Thread Cert.QkBwdIdeal.nD Cert.QkBwdIdeal.τ).loc Cert.QkBwdIdeal.main_arg8) = m ((c.tc : Thread Cert.QkBwdIdeal.nD Cert.QkBwdIdeal.τ).loc Cert.QkBwdIdeal.main_arg8)
      ∧ r.2.mem ((c.tc : Thread Cert.QkBwdIdeal.nD Cert.QkBwdIdeal.τ).loc Cert.QkBwdIdeal.main_arg9) = m ((c.tc : Thread Cert.QkBwdIdeal.nD Cert.QkBwdIdeal.τ).loc Cert.QkBwdIdeal.main_arg9)
      ∧ r.2.mem ((c.tc : Thread Cert.QkBwdIdeal.nD Cert.QkBwdIdeal.τ).loc Cert.QkBwdIdeal.main_arg10) = m ((c.tc : Thread Cert.QkBwdIdeal.nD Cert.QkBwdIdeal.τ).loc Cert.QkBwdIdeal.main_arg10))
      ∧ r.2.sem = fun _ => 0)

def quiescent_QkBwdRefIdeal [hQkBwdRefIdeal : Cert.QkBwdRefIdeal.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5)
      ∧ r.2.mem ((c.tc : Thread Cert.QkBwdRefIdeal.nD Cert.QkBwdRefIdeal.τ).loc Cert.QkBwdRefIdeal.main_arg6) = m ((c.tc : Thread Cert.QkBwdRefIdeal.nD Cert.QkBwdRefIdeal.τ).loc Cert.QkBwdRefIdeal.main_arg6)
      ∧ r.2.mem ((c.tc : Thread Cert.QkBwdRefIdeal.nD Cert.QkBwdRefIdeal.τ).loc Cert.QkBwdRefIdeal.main_arg7) = m ((c.tc : Thread Cert.QkBwdRefIdeal.nD Cert.QkBwdRefIdeal.τ).loc Cert.QkBwdRefIdeal.main_arg7)
      ∧ r.2.mem ((c.tc : Thread Cert.QkBwdRefIdeal.nD Cert.QkBwdRefIdeal.τ).loc Cert.QkBwdRefIdeal.main_arg8) = m ((c.tc : Thread Cert.QkBwdRefIdeal.nD Cert.QkBwdRefIdeal.τ).loc Cert.QkBwdRefIdeal.main_arg8)
      ∧ r.2.mem ((c.tc : Thread Cert.QkBwdRefIdeal.nD Cert.QkBwdRefIdeal.τ).loc Cert.QkBwdRefIdeal.main_arg9) = m ((c.tc : Thread Cert.QkBwdRefIdeal.nD Cert.QkBwdRefIdeal.τ).loc Cert.QkBwdRefIdeal.main_arg9)
      ∧ r.2.mem ((c.tc : Thread Cert.QkBwdRefIdeal.nD Cert.QkBwdRefIdeal.τ).loc Cert.QkBwdRefIdeal.main_arg10) = m ((c.tc : Thread Cert.QkBwdRefIdeal.nD Cert.QkBwdRefIdeal.τ).loc Cert.QkBwdRefIdeal.main_arg10))
      ∧ r.2.sem = fun _ => 0)

def quiescent_QkBwdRefIdeal_pre_qk_bwd_finite [hQkBwdRefIdeal : Cert.QkBwdRefIdeal.Facts] [hPre_qk_bwd_finite : Cert.Pre_qk_bwd_finite.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal_qk_bwd_finite m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5)
      ∧ r.2.mem ((c.tc : Thread Cert.QkBwdRefIdeal.nD Cert.QkBwdRefIdeal.τ).loc Cert.QkBwdRefIdeal.main_arg6) = m ((c.tc : Thread Cert.QkBwdRefIdeal.nD Cert.QkBwdRefIdeal.τ).loc Cert.QkBwdRefIdeal.main_arg6)
      ∧ r.2.mem ((c.tc : Thread Cert.QkBwdRefIdeal.nD Cert.QkBwdRefIdeal.τ).loc Cert.QkBwdRefIdeal.main_arg7) = m ((c.tc : Thread Cert.QkBwdRefIdeal.nD Cert.QkBwdRefIdeal.τ).loc Cert.QkBwdRefIdeal.main_arg7)
      ∧ r.2.mem ((c.tc : Thread Cert.QkBwdRefIdeal.nD Cert.QkBwdRefIdeal.τ).loc Cert.QkBwdRefIdeal.main_arg8) = m ((c.tc : Thread Cert.QkBwdRefIdeal.nD Cert.QkBwdRefIdeal.τ).loc Cert.QkBwdRefIdeal.main_arg8)
      ∧ r.2.mem ((c.tc : Thread Cert.QkBwdRefIdeal.nD Cert.QkBwdRefIdeal.τ).loc Cert.QkBwdRefIdeal.main_arg9) = m ((c.tc : Thread Cert.QkBwdRefIdeal.nD Cert.QkBwdRefIdeal.τ).loc Cert.QkBwdRefIdeal.main_arg9)
      ∧ r.2.mem ((c.tc : Thread Cert.QkBwdRefIdeal.nD Cert.QkBwdRefIdeal.τ).loc Cert.QkBwdRefIdeal.main_arg10) = m ((c.tc : Thread Cert.QkBwdRefIdeal.nD Cert.QkBwdRefIdeal.τ).loc Cert.QkBwdRefIdeal.main_arg10))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_MixNormBwd [hMixNormBwd : Cert.MixNormBwd.Facts] : Prop :=
  ∀ (m : (ℓ : Loc Cert.MixNormBwd.nD Cert.MixNormBwd.τ Cert.MixNormBwd.sig) → Buf (Elt Bits) ℓ) (g : Dev Cert.MixNormBwd.nD → PrngReg), Pre_MixNormBwd m →
    θ_run (Cert.MixNormBwd.defs (F := Bits)) (onTc (τ := Cert.MixNormBwd.τ) (Cert.MixNormBwd.main (F := Bits))) ⟨m, fun _ => 0, g⟩ (fun r => (∀ c : Dev Cert.MixNormBwd.nD,
      r.2.mem ((c.tc : Thread Cert.MixNormBwd.nD Cert.MixNormBwd.τ).loc Cert.MixNormBwd.main_arg0) = m ((c.tc : Thread Cert.MixNormBwd.nD Cert.MixNormBwd.τ).loc Cert.MixNormBwd.main_arg0)
      ∧ r.2.mem ((c.tc : Thread Cert.MixNormBwd.nD Cert.MixNormBwd.τ).loc Cert.MixNormBwd.main_arg1) = m ((c.tc : Thread Cert.MixNormBwd.nD Cert.MixNormBwd.τ).loc Cert.MixNormBwd.main_arg1)
      ∧ r.2.mem ((c.tc : Thread Cert.MixNormBwd.nD Cert.MixNormBwd.τ).loc Cert.MixNormBwd.main_arg2) = m ((c.tc : Thread Cert.MixNormBwd.nD Cert.MixNormBwd.τ).loc Cert.MixNormBwd.main_arg2)
      ∧ r.2.mem ((c.tc : Thread Cert.MixNormBwd.nD Cert.MixNormBwd.τ).loc Cert.MixNormBwd.main_arg3) = m ((c.tc : Thread Cert.MixNormBwd.nD Cert.MixNormBwd.τ).loc Cert.MixNormBwd.main_arg3)
      ∧ r.2.mem ((c.tc : Thread Cert.MixNormBwd.nD Cert.MixNormBwd.τ).loc Cert.MixNormBwd.main_arg4) = m ((c.tc : Thread Cert.MixNormBwd.nD Cert.MixNormBwd.τ).loc Cert.MixNormBwd.main_arg4)
      ∧ r.2.mem ((c.tc : Thread Cert.MixNormBwd.nD Cert.MixNormBwd.τ).loc Cert.MixNormBwd.main_arg5) = m ((c.tc : Thread Cert.MixNormBwd.nD Cert.MixNormBwd.τ).loc Cert.MixNormBwd.main_arg5)
      ∧ r.2.mem ((c.tc : Thread Cert.MixNormBwd.nD Cert.MixNormBwd.τ).loc Cert.MixNormBwd.main_arg6) = m ((c.tc : Thread Cert.MixNormBwd.nD Cert.MixNormBwd.τ).loc Cert.MixNormBwd.main_arg6)
      ∧ r.2.mem ((c.tc : Thread Cert.MixNormBwd.nD Cert.MixNormBwd.τ).loc Cert.MixNormBwd.main_arg7) = m ((c.tc : Thread Cert.MixNormBwd.nD Cert.MixNormBwd.τ).loc Cert.MixNormBwd.main_arg7)
      ∧ r.2.mem ((c.tc : Thread Cert.MixNormBwd.nD Cert.MixNormBwd.τ).loc Cert.MixNormBwd.main_arg8) = m ((c.tc : Thread Cert.MixNormBwd.nD Cert.MixNormBwd.τ).loc Cert.MixNormBwd.main_arg8))
      ∧ r.2.sem = fun _ => 0)

def quiescent_MixNormBwdIdeal [hMixNormBwdIdeal : Cert.MixNormBwdIdeal.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg), Pre_MixNormBwdIdeal m →
    θ_run (Cert.MixNormBwdIdeal.defs (F := Ideal)) (onTc (τ := Cert.MixNormBwdIdeal.τ) (Cert.MixNormBwdIdeal.main (F := Ideal))) ⟨m, fun _ => 0, g⟩ (fun r => (∀ c : Dev Cert.MixNormBwdIdeal.nD,
      r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
      ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
      ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
      ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
      ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4)
      ∧ r.2.mem ((c.tc : Thread Cert.MixNormBwdIdeal.nD Cert.MixNormBwdIdeal.τ).loc Cert.MixNormBwdIdeal.main_arg5) = m ((c.tc : Thread Cert.MixNormBwdIdeal.nD Cert.MixNormBwdIdeal.τ).loc Cert.MixNormBwdIdeal.main_arg5)
      ∧ r.2.mem ((c.tc : Thread Cert.MixNormBwdIdeal.nD Cert.MixNormBwdIdeal.τ).loc Cert.MixNormBwdIdeal.main_arg6) = m ((c.tc : Thread Cert.MixNormBwdIdeal.nD Cert.MixNormBwdIdeal.τ).loc Cert.MixNormBwdIdeal.main_arg6)
      ∧ r.2.mem ((c.tc : Thread Cert.MixNormBwdIdeal.nD Cert.MixNormBwdIdeal.τ).loc Cert.MixNormBwdIdeal.main_arg7) = m ((c.tc : Thread Cert.MixNormBwdIdeal.nD Cert.MixNormBwdIdeal.τ).loc Cert.MixNormBwdIdeal.main_arg7)
      ∧ r.2.mem ((c.tc : Thread Cert.MixNormBwdIdeal.nD Cert.MixNormBwdIdeal.τ).loc Cert.MixNormBwdIdeal.main_arg8) = m ((c.tc : Thread Cert.MixNormBwdIdeal.nD Cert.MixNormBwdIdeal.τ).loc Cert.MixNormBwdIdeal.main_arg8))
      ∧ r.2.sem = fun _ => 0)

def quiescent_MixNormBwdIdeal_pre_mix_norm_bwd_finite [hMixNormBwdIdeal : Cert.MixNormBwdIdeal.Facts] [hPre_mix_norm_bwd_finite : Cert.Pre_mix_norm_bwd_finite.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg), Pre_MixNormBwdIdeal_mix_norm_bwd_finite m →
    θ_run (Cert.MixNormBwdIdeal.defs (F := Ideal)) (onTc (τ := Cert.MixNormBwdIdeal.τ) (Cert.MixNormBwdIdeal.main (F := Ideal))) ⟨m, fun _ => 0, g⟩ (fun r => (∀ c : Dev Cert.MixNormBwdIdeal.nD,
      r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
      ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
      ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
      ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
      ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4)
      ∧ r.2.mem ((c.tc : Thread Cert.MixNormBwdIdeal.nD Cert.MixNormBwdIdeal.τ).loc Cert.MixNormBwdIdeal.main_arg5) = m ((c.tc : Thread Cert.MixNormBwdIdeal.nD Cert.MixNormBwdIdeal.τ).loc Cert.MixNormBwdIdeal.main_arg5)
      ∧ r.2.mem ((c.tc : Thread Cert.MixNormBwdIdeal.nD Cert.MixNormBwdIdeal.τ).loc Cert.MixNormBwdIdeal.main_arg6) = m ((c.tc : Thread Cert.MixNormBwdIdeal.nD Cert.MixNormBwdIdeal.τ).loc Cert.MixNormBwdIdeal.main_arg6)
      ∧ r.2.mem ((c.tc : Thread Cert.MixNormBwdIdeal.nD Cert.MixNormBwdIdeal.τ).loc Cert.MixNormBwdIdeal.main_arg7) = m ((c.tc : Thread Cert.MixNormBwdIdeal.nD Cert.MixNormBwdIdeal.τ).loc Cert.MixNormBwdIdeal.main_arg7)
      ∧ r.2.mem ((c.tc : Thread Cert.MixNormBwdIdeal.nD Cert.MixNormBwdIdeal.τ).loc Cert.MixNormBwdIdeal.main_arg8) = m ((c.tc : Thread Cert.MixNormBwdIdeal.nD Cert.MixNormBwdIdeal.τ).loc Cert.MixNormBwdIdeal.main_arg8))
      ∧ r.2.sem = fun _ => 0)

def quiescent_MixNormBwdRefIdeal [hMixNormBwdRefIdeal : Cert.MixNormBwdRefIdeal.Facts] : Prop :=
  ∀ (m : (ℓ : Loc Cert.MixNormBwdRefIdeal.nD Cert.MixNormBwdRefIdeal.τ Cert.MixNormBwdRefIdeal.sig) → Buf (Elt Ideal) ℓ) (g : Dev Cert.MixNormBwdRefIdeal.nD → PrngReg), Pre_MixNormBwdRefIdeal m →
    θ_run (Cert.MixNormBwdRefIdeal.defs (F := Ideal)) (onTc (τ := Cert.MixNormBwdRefIdeal.τ) (Cert.MixNormBwdRefIdeal.main (F := Ideal))) ⟨m, fun _ => 0, g⟩ (fun r => (∀ c : Dev Cert.MixNormBwdRefIdeal.nD,
      r.2.mem ((c.tc : Thread Cert.MixNormBwdRefIdeal.nD Cert.MixNormBwdRefIdeal.τ).loc Cert.MixNormBwdRefIdeal.main_arg0) = m ((c.tc : Thread Cert.MixNormBwdRefIdeal.nD Cert.MixNormBwdRefIdeal.τ).loc Cert.MixNormBwdRefIdeal.main_arg0)
      ∧ r.2.mem ((c.tc : Thread Cert.MixNormBwdRefIdeal.nD Cert.MixNormBwdRefIdeal.τ).loc Cert.MixNormBwdRefIdeal.main_arg1) = m ((c.tc : Thread Cert.MixNormBwdRefIdeal.nD Cert.MixNormBwdRefIdeal.τ).loc Cert.MixNormBwdRefIdeal.main_arg1)
      ∧ r.2.mem ((c.tc : Thread Cert.MixNormBwdRefIdeal.nD Cert.MixNormBwdRefIdeal.τ).loc Cert.MixNormBwdRefIdeal.main_arg2) = m ((c.tc : Thread Cert.MixNormBwdRefIdeal.nD Cert.MixNormBwdRefIdeal.τ).loc Cert.MixNormBwdRefIdeal.main_arg2)
      ∧ r.2.mem ((c.tc : Thread Cert.MixNormBwdRefIdeal.nD Cert.MixNormBwdRefIdeal.τ).loc Cert.MixNormBwdRefIdeal.main_arg3) = m ((c.tc : Thread Cert.MixNormBwdRefIdeal.nD Cert.MixNormBwdRefIdeal.τ).loc Cert.MixNormBwdRefIdeal.main_arg3)
      ∧ r.2.mem ((c.tc : Thread Cert.MixNormBwdRefIdeal.nD Cert.MixNormBwdRefIdeal.τ).loc Cert.MixNormBwdRefIdeal.main_arg4) = m ((c.tc : Thread Cert.MixNormBwdRefIdeal.nD Cert.MixNormBwdRefIdeal.τ).loc Cert.MixNormBwdRefIdeal.main_arg4)
      ∧ r.2.mem ((c.tc : Thread Cert.MixNormBwdRefIdeal.nD Cert.MixNormBwdRefIdeal.τ).loc Cert.MixNormBwdRefIdeal.main_arg5) = m ((c.tc : Thread Cert.MixNormBwdRefIdeal.nD Cert.MixNormBwdRefIdeal.τ).loc Cert.MixNormBwdRefIdeal.main_arg5)
      ∧ r.2.mem ((c.tc : Thread Cert.MixNormBwdRefIdeal.nD Cert.MixNormBwdRefIdeal.τ).loc Cert.MixNormBwdRefIdeal.main_arg6) = m ((c.tc : Thread Cert.MixNormBwdRefIdeal.nD Cert.MixNormBwdRefIdeal.τ).loc Cert.MixNormBwdRefIdeal.main_arg6)
      ∧ r.2.mem ((c.tc : Thread Cert.MixNormBwdRefIdeal.nD Cert.MixNormBwdRefIdeal.τ).loc Cert.MixNormBwdRefIdeal.main_arg7) = m ((c.tc : Thread Cert.MixNormBwdRefIdeal.nD Cert.MixNormBwdRefIdeal.τ).loc Cert.MixNormBwdRefIdeal.main_arg7)
      ∧ r.2.mem ((c.tc : Thread Cert.MixNormBwdRefIdeal.nD Cert.MixNormBwdRefIdeal.τ).loc Cert.MixNormBwdRefIdeal.main_arg8) = m ((c.tc : Thread Cert.MixNormBwdRefIdeal.nD Cert.MixNormBwdRefIdeal.τ).loc Cert.MixNormBwdRefIdeal.main_arg8))
      ∧ r.2.sem = fun _ => 0)

def quiescent_MixNormBwdRefIdeal_pre_mix_norm_bwd_finite [hMixNormBwdRefIdeal : Cert.MixNormBwdRefIdeal.Facts] [hPre_mix_norm_bwd_finite : Cert.Pre_mix_norm_bwd_finite.Facts] : Prop :=
  ∀ (m : (ℓ : Loc Cert.MixNormBwdRefIdeal.nD Cert.MixNormBwdRefIdeal.τ Cert.MixNormBwdRefIdeal.sig) → Buf (Elt Ideal) ℓ) (g : Dev Cert.MixNormBwdRefIdeal.nD → PrngReg), Pre_MixNormBwdRefIdeal_mix_norm_bwd_finite m →
    θ_run (Cert.MixNormBwdRefIdeal.defs (F := Ideal)) (onTc (τ := Cert.MixNormBwdRefIdeal.τ) (Cert.MixNormBwdRefIdeal.main (F := Ideal))) ⟨m, fun _ => 0, g⟩ (fun r => (∀ c : Dev Cert.MixNormBwdRefIdeal.nD,
      r.2.mem ((c.tc : Thread Cert.MixNormBwdRefIdeal.nD Cert.MixNormBwdRefIdeal.τ).loc Cert.MixNormBwdRefIdeal.main_arg0) = m ((c.tc : Thread Cert.MixNormBwdRefIdeal.nD Cert.MixNormBwdRefIdeal.τ).loc Cert.MixNormBwdRefIdeal.main_arg0)
      ∧ r.2.mem ((c.tc : Thread Cert.MixNormBwdRefIdeal.nD Cert.MixNormBwdRefIdeal.τ).loc Cert.MixNormBwdRefIdeal.main_arg1) = m ((c.tc : Thread Cert.MixNormBwdRefIdeal.nD Cert.MixNormBwdRefIdeal.τ).loc Cert.MixNormBwdRefIdeal.main_arg1)
      ∧ r.2.mem ((c.tc : Thread Cert.MixNormBwdRefIdeal.nD Cert.MixNormBwdRefIdeal.τ).loc Cert.MixNormBwdRefIdeal.main_arg2) = m ((c.tc : Thread Cert.MixNormBwdRefIdeal.nD Cert.MixNormBwdRefIdeal.τ).loc Cert.MixNormBwdRefIdeal.main_arg2)
      ∧ r.2.mem ((c.tc : Thread Cert.MixNormBwdRefIdeal.nD Cert.MixNormBwdRefIdeal.τ).loc Cert.MixNormBwdRefIdeal.main_arg3) = m ((c.tc : Thread Cert.MixNormBwdRefIdeal.nD Cert.MixNormBwdRefIdeal.τ).loc Cert.MixNormBwdRefIdeal.main_arg3)
      ∧ r.2.mem ((c.tc : Thread Cert.MixNormBwdRefIdeal.nD Cert.MixNormBwdRefIdeal.τ).loc Cert.MixNormBwdRefIdeal.main_arg4) = m ((c.tc : Thread Cert.MixNormBwdRefIdeal.nD Cert.MixNormBwdRefIdeal.τ).loc Cert.MixNormBwdRefIdeal.main_arg4)
      ∧ r.2.mem ((c.tc : Thread Cert.MixNormBwdRefIdeal.nD Cert.MixNormBwdRefIdeal.τ).loc Cert.MixNormBwdRefIdeal.main_arg5) = m ((c.tc : Thread Cert.MixNormBwdRefIdeal.nD Cert.MixNormBwdRefIdeal.τ).loc Cert.MixNormBwdRefIdeal.main_arg5)
      ∧ r.2.mem ((c.tc : Thread Cert.MixNormBwdRefIdeal.nD Cert.MixNormBwdRefIdeal.τ).loc Cert.MixNormBwdRefIdeal.main_arg6) = m ((c.tc : Thread Cert.MixNormBwdRefIdeal.nD Cert.MixNormBwdRefIdeal.τ).loc Cert.MixNormBwdRefIdeal.main_arg6)
      ∧ r.2.mem ((c.tc : Thread Cert.MixNormBwdRefIdeal.nD Cert.MixNormBwdRefIdeal.τ).loc Cert.MixNormBwdRefIdeal.main_arg7) = m ((c.tc : Thread Cert.MixNormBwdRefIdeal.nD Cert.MixNormBwdRefIdeal.τ).loc Cert.MixNormBwdRefIdeal.main_arg7)
      ∧ r.2.mem ((c.tc : Thread Cert.MixNormBwdRefIdeal.nD Cert.MixNormBwdRefIdeal.τ).loc Cert.MixNormBwdRefIdeal.main_arg8) = m ((c.tc : Thread Cert.MixNormBwdRefIdeal.nD Cert.MixNormBwdRefIdeal.τ).loc Cert.MixNormBwdRefIdeal.main_arg8))
      ∧ r.2.sem = fun _ => 0)

def quiescent_FirstNormBwd [hFirstNormBwd : Cert.FirstNormBwd.Facts] : Prop :=
  ∀ (m : (ℓ : Loc Cert.FirstNormBwd.nD Cert.FirstNormBwd.τ Cert.FirstNormBwd.sig) → Buf (Elt Bits) ℓ) (g : Dev Cert.FirstNormBwd.nD → PrngReg), Pre_FirstNormBwd m →
    θ_run (Cert.FirstNormBwd.defs (F := Bits)) (onTc (τ := Cert.FirstNormBwd.τ) (Cert.FirstNormBwd.main (F := Bits))) ⟨m, fun _ => 0, g⟩ (fun r => (∀ c : Dev Cert.FirstNormBwd.nD,
      r.2.mem ((c.tc : Thread Cert.FirstNormBwd.nD Cert.FirstNormBwd.τ).loc Cert.FirstNormBwd.main_arg0) = m ((c.tc : Thread Cert.FirstNormBwd.nD Cert.FirstNormBwd.τ).loc Cert.FirstNormBwd.main_arg0)
      ∧ r.2.mem ((c.tc : Thread Cert.FirstNormBwd.nD Cert.FirstNormBwd.τ).loc Cert.FirstNormBwd.main_arg1) = m ((c.tc : Thread Cert.FirstNormBwd.nD Cert.FirstNormBwd.τ).loc Cert.FirstNormBwd.main_arg1)
      ∧ r.2.mem ((c.tc : Thread Cert.FirstNormBwd.nD Cert.FirstNormBwd.τ).loc Cert.FirstNormBwd.main_arg2) = m ((c.tc : Thread Cert.FirstNormBwd.nD Cert.FirstNormBwd.τ).loc Cert.FirstNormBwd.main_arg2)
      ∧ r.2.mem ((c.tc : Thread Cert.FirstNormBwd.nD Cert.FirstNormBwd.τ).loc Cert.FirstNormBwd.main_arg3) = m ((c.tc : Thread Cert.FirstNormBwd.nD Cert.FirstNormBwd.τ).loc Cert.FirstNormBwd.main_arg3)
      ∧ r.2.mem ((c.tc : Thread Cert.FirstNormBwd.nD Cert.FirstNormBwd.τ).loc Cert.FirstNormBwd.main_arg4) = m ((c.tc : Thread Cert.FirstNormBwd.nD Cert.FirstNormBwd.τ).loc Cert.FirstNormBwd.main_arg4)
      ∧ r.2.mem ((c.tc : Thread Cert.FirstNormBwd.nD Cert.FirstNormBwd.τ).loc Cert.FirstNormBwd.main_arg5) = m ((c.tc : Thread Cert.FirstNormBwd.nD Cert.FirstNormBwd.τ).loc Cert.FirstNormBwd.main_arg5)
      ∧ r.2.mem ((c.tc : Thread Cert.FirstNormBwd.nD Cert.FirstNormBwd.τ).loc Cert.FirstNormBwd.main_arg6) = m ((c.tc : Thread Cert.FirstNormBwd.nD Cert.FirstNormBwd.τ).loc Cert.FirstNormBwd.main_arg6))
      ∧ r.2.sem = fun _ => 0)

def quiescent_FirstNormBwdIdeal [hFirstNormBwdIdeal : Cert.FirstNormBwdIdeal.Facts] : Prop :=
  ∀ (m : (ℓ : Loc Cert.FirstNormBwdIdeal.nD Cert.FirstNormBwdIdeal.τ Cert.FirstNormBwdIdeal.sig) → Buf (Elt Ideal) ℓ) (g : Dev Cert.FirstNormBwdIdeal.nD → PrngReg), Pre_FirstNormBwdIdeal m →
    θ_run (Cert.FirstNormBwdIdeal.defs (F := Ideal)) (onTc (τ := Cert.FirstNormBwdIdeal.τ) (Cert.FirstNormBwdIdeal.main (F := Ideal))) ⟨m, fun _ => 0, g⟩ (fun r => (∀ c : Dev Cert.FirstNormBwdIdeal.nD,
      r.2.mem ((c.tc : Thread Cert.FirstNormBwdIdeal.nD Cert.FirstNormBwdIdeal.τ).loc Cert.FirstNormBwdIdeal.main_arg0) = m ((c.tc : Thread Cert.FirstNormBwdIdeal.nD Cert.FirstNormBwdIdeal.τ).loc Cert.FirstNormBwdIdeal.main_arg0)
      ∧ r.2.mem ((c.tc : Thread Cert.FirstNormBwdIdeal.nD Cert.FirstNormBwdIdeal.τ).loc Cert.FirstNormBwdIdeal.main_arg1) = m ((c.tc : Thread Cert.FirstNormBwdIdeal.nD Cert.FirstNormBwdIdeal.τ).loc Cert.FirstNormBwdIdeal.main_arg1)
      ∧ r.2.mem ((c.tc : Thread Cert.FirstNormBwdIdeal.nD Cert.FirstNormBwdIdeal.τ).loc Cert.FirstNormBwdIdeal.main_arg2) = m ((c.tc : Thread Cert.FirstNormBwdIdeal.nD Cert.FirstNormBwdIdeal.τ).loc Cert.FirstNormBwdIdeal.main_arg2)
      ∧ r.2.mem ((c.tc : Thread Cert.FirstNormBwdIdeal.nD Cert.FirstNormBwdIdeal.τ).loc Cert.FirstNormBwdIdeal.main_arg3) = m ((c.tc : Thread Cert.FirstNormBwdIdeal.nD Cert.FirstNormBwdIdeal.τ).loc Cert.FirstNormBwdIdeal.main_arg3)
      ∧ r.2.mem ((c.tc : Thread Cert.FirstNormBwdIdeal.nD Cert.FirstNormBwdIdeal.τ).loc Cert.FirstNormBwdIdeal.main_arg4) = m ((c.tc : Thread Cert.FirstNormBwdIdeal.nD Cert.FirstNormBwdIdeal.τ).loc Cert.FirstNormBwdIdeal.main_arg4)
      ∧ r.2.mem ((c.tc : Thread Cert.FirstNormBwdIdeal.nD Cert.FirstNormBwdIdeal.τ).loc Cert.FirstNormBwdIdeal.main_arg5) = m ((c.tc : Thread Cert.FirstNormBwdIdeal.nD Cert.FirstNormBwdIdeal.τ).loc Cert.FirstNormBwdIdeal.main_arg5)
      ∧ r.2.mem ((c.tc : Thread Cert.FirstNormBwdIdeal.nD Cert.FirstNormBwdIdeal.τ).loc Cert.FirstNormBwdIdeal.main_arg6) = m ((c.tc : Thread Cert.FirstNormBwdIdeal.nD Cert.FirstNormBwdIdeal.τ).loc Cert.FirstNormBwdIdeal.main_arg6))
      ∧ r.2.sem = fun _ => 0)

def quiescent_FirstNormBwdIdeal_pre_first_norm_bwd_finite [hFirstNormBwdIdeal : Cert.FirstNormBwdIdeal.Facts] [hPre_first_norm_bwd_finite : Cert.Pre_first_norm_bwd_finite.Facts] : Prop :=
  ∀ (m : (ℓ : Loc Cert.FirstNormBwdIdeal.nD Cert.FirstNormBwdIdeal.τ Cert.FirstNormBwdIdeal.sig) → Buf (Elt Ideal) ℓ) (g : Dev Cert.FirstNormBwdIdeal.nD → PrngReg), Pre_FirstNormBwdIdeal_first_norm_bwd_finite m →
    θ_run (Cert.FirstNormBwdIdeal.defs (F := Ideal)) (onTc (τ := Cert.FirstNormBwdIdeal.τ) (Cert.FirstNormBwdIdeal.main (F := Ideal))) ⟨m, fun _ => 0, g⟩ (fun r => (∀ c : Dev Cert.FirstNormBwdIdeal.nD,
      r.2.mem ((c.tc : Thread Cert.FirstNormBwdIdeal.nD Cert.FirstNormBwdIdeal.τ).loc Cert.FirstNormBwdIdeal.main_arg0) = m ((c.tc : Thread Cert.FirstNormBwdIdeal.nD Cert.FirstNormBwdIdeal.τ).loc Cert.FirstNormBwdIdeal.main_arg0)
      ∧ r.2.mem ((c.tc : Thread Cert.FirstNormBwdIdeal.nD Cert.FirstNormBwdIdeal.τ).loc Cert.FirstNormBwdIdeal.main_arg1) = m ((c.tc : Thread Cert.FirstNormBwdIdeal.nD Cert.FirstNormBwdIdeal.τ).loc Cert.FirstNormBwdIdeal.main_arg1)
      ∧ r.2.mem ((c.tc : Thread Cert.FirstNormBwdIdeal.nD Cert.FirstNormBwdIdeal.τ).loc Cert.FirstNormBwdIdeal.main_arg2) = m ((c.tc : Thread Cert.FirstNormBwdIdeal.nD Cert.FirstNormBwdIdeal.τ).loc Cert.FirstNormBwdIdeal.main_arg2)
      ∧ r.2.mem ((c.tc : Thread Cert.FirstNormBwdIdeal.nD Cert.FirstNormBwdIdeal.τ).loc Cert.FirstNormBwdIdeal.main_arg3) = m ((c.tc : Thread Cert.FirstNormBwdIdeal.nD Cert.FirstNormBwdIdeal.τ).loc Cert.FirstNormBwdIdeal.main_arg3)
      ∧ r.2.mem ((c.tc : Thread Cert.FirstNormBwdIdeal.nD Cert.FirstNormBwdIdeal.τ).loc Cert.FirstNormBwdIdeal.main_arg4) = m ((c.tc : Thread Cert.FirstNormBwdIdeal.nD Cert.FirstNormBwdIdeal.τ).loc Cert.FirstNormBwdIdeal.main_arg4)
      ∧ r.2.mem ((c.tc : Thread Cert.FirstNormBwdIdeal.nD Cert.FirstNormBwdIdeal.τ).loc Cert.FirstNormBwdIdeal.main_arg5) = m ((c.tc : Thread Cert.FirstNormBwdIdeal.nD Cert.FirstNormBwdIdeal.τ).loc Cert.FirstNormBwdIdeal.main_arg5)
      ∧ r.2.mem ((c.tc : Thread Cert.FirstNormBwdIdeal.nD Cert.FirstNormBwdIdeal.τ).loc Cert.FirstNormBwdIdeal.main_arg6) = m ((c.tc : Thread Cert.FirstNormBwdIdeal.nD Cert.FirstNormBwdIdeal.τ).loc Cert.FirstNormBwdIdeal.main_arg6))
      ∧ r.2.sem = fun _ => 0)

def quiescent_FirstNormBwdRefIdeal [hFirstNormBwdRefIdeal : Cert.FirstNormBwdRefIdeal.Facts] : Prop :=
  ∀ (m : (ℓ : Loc Cert.FirstNormBwdRefIdeal.nD Cert.FirstNormBwdRefIdeal.τ Cert.FirstNormBwdRefIdeal.sig) → Buf (Elt Ideal) ℓ) (g : Dev Cert.FirstNormBwdRefIdeal.nD → PrngReg), Pre_FirstNormBwdRefIdeal m →
    θ_run (Cert.FirstNormBwdRefIdeal.defs (F := Ideal)) (onTc (τ := Cert.FirstNormBwdRefIdeal.τ) (Cert.FirstNormBwdRefIdeal.main (F := Ideal))) ⟨m, fun _ => 0, g⟩ (fun r => (∀ c : Dev Cert.FirstNormBwdRefIdeal.nD,
      r.2.mem ((c.tc : Thread Cert.FirstNormBwdRefIdeal.nD Cert.FirstNormBwdRefIdeal.τ).loc Cert.FirstNormBwdRefIdeal.main_arg0) = m ((c.tc : Thread Cert.FirstNormBwdRefIdeal.nD Cert.FirstNormBwdRefIdeal.τ).loc Cert.FirstNormBwdRefIdeal.main_arg0)
      ∧ r.2.mem ((c.tc : Thread Cert.FirstNormBwdRefIdeal.nD Cert.FirstNormBwdRefIdeal.τ).loc Cert.FirstNormBwdRefIdeal.main_arg1) = m ((c.tc : Thread Cert.FirstNormBwdRefIdeal.nD Cert.FirstNormBwdRefIdeal.τ).loc Cert.FirstNormBwdRefIdeal.main_arg1)
      ∧ r.2.mem ((c.tc : Thread Cert.FirstNormBwdRefIdeal.nD Cert.FirstNormBwdRefIdeal.τ).loc Cert.FirstNormBwdRefIdeal.main_arg2) = m ((c.tc : Thread Cert.FirstNormBwdRefIdeal.nD Cert.FirstNormBwdRefIdeal.τ).loc Cert.FirstNormBwdRefIdeal.main_arg2)
      ∧ r.2.mem ((c.tc : Thread Cert.FirstNormBwdRefIdeal.nD Cert.FirstNormBwdRefIdeal.τ).loc Cert.FirstNormBwdRefIdeal.main_arg3) = m ((c.tc : Thread Cert.FirstNormBwdRefIdeal.nD Cert.FirstNormBwdRefIdeal.τ).loc Cert.FirstNormBwdRefIdeal.main_arg3)
      ∧ r.2.mem ((c.tc : Thread Cert.FirstNormBwdRefIdeal.nD Cert.FirstNormBwdRefIdeal.τ).loc Cert.FirstNormBwdRefIdeal.main_arg4) = m ((c.tc : Thread Cert.FirstNormBwdRefIdeal.nD Cert.FirstNormBwdRefIdeal.τ).loc Cert.FirstNormBwdRefIdeal.main_arg4)
      ∧ r.2.mem ((c.tc : Thread Cert.FirstNormBwdRefIdeal.nD Cert.FirstNormBwdRefIdeal.τ).loc Cert.FirstNormBwdRefIdeal.main_arg5) = m ((c.tc : Thread Cert.FirstNormBwdRefIdeal.nD Cert.FirstNormBwdRefIdeal.τ).loc Cert.FirstNormBwdRefIdeal.main_arg5)
      ∧ r.2.mem ((c.tc : Thread Cert.FirstNormBwdRefIdeal.nD Cert.FirstNormBwdRefIdeal.τ).loc Cert.FirstNormBwdRefIdeal.main_arg6) = m ((c.tc : Thread Cert.FirstNormBwdRefIdeal.nD Cert.FirstNormBwdRefIdeal.τ).loc Cert.FirstNormBwdRefIdeal.main_arg6))
      ∧ r.2.sem = fun _ => 0)

def quiescent_FirstNormBwdRefIdeal_pre_first_norm_bwd_finite [hFirstNormBwdRefIdeal : Cert.FirstNormBwdRefIdeal.Facts] [hPre_first_norm_bwd_finite : Cert.Pre_first_norm_bwd_finite.Facts] : Prop :=
  ∀ (m : (ℓ : Loc Cert.FirstNormBwdRefIdeal.nD Cert.FirstNormBwdRefIdeal.τ Cert.FirstNormBwdRefIdeal.sig) → Buf (Elt Ideal) ℓ) (g : Dev Cert.FirstNormBwdRefIdeal.nD → PrngReg), Pre_FirstNormBwdRefIdeal_first_norm_bwd_finite m →
    θ_run (Cert.FirstNormBwdRefIdeal.defs (F := Ideal)) (onTc (τ := Cert.FirstNormBwdRefIdeal.τ) (Cert.FirstNormBwdRefIdeal.main (F := Ideal))) ⟨m, fun _ => 0, g⟩ (fun r => (∀ c : Dev Cert.FirstNormBwdRefIdeal.nD,
      r.2.mem ((c.tc : Thread Cert.FirstNormBwdRefIdeal.nD Cert.FirstNormBwdRefIdeal.τ).loc Cert.FirstNormBwdRefIdeal.main_arg0) = m ((c.tc : Thread Cert.FirstNormBwdRefIdeal.nD Cert.FirstNormBwdRefIdeal.τ).loc Cert.FirstNormBwdRefIdeal.main_arg0)
      ∧ r.2.mem ((c.tc : Thread Cert.FirstNormBwdRefIdeal.nD Cert.FirstNormBwdRefIdeal.τ).loc Cert.FirstNormBwdRefIdeal.main_arg1) = m ((c.tc : Thread Cert.FirstNormBwdRefIdeal.nD Cert.FirstNormBwdRefIdeal.τ).loc Cert.FirstNormBwdRefIdeal.main_arg1)
      ∧ r.2.mem ((c.tc : Thread Cert.FirstNormBwdRefIdeal.nD Cert.FirstNormBwdRefIdeal.τ).loc Cert.FirstNormBwdRefIdeal.main_arg2) = m ((c.tc : Thread Cert.FirstNormBwdRefIdeal.nD Cert.FirstNormBwdRefIdeal.τ).loc Cert.FirstNormBwdRefIdeal.main_arg2)
      ∧ r.2.mem ((c.tc : Thread Cert.FirstNormBwdRefIdeal.nD Cert.FirstNormBwdRefIdeal.τ).loc Cert.FirstNormBwdRefIdeal.main_arg3) = m ((c.tc : Thread Cert.FirstNormBwdRefIdeal.nD Cert.FirstNormBwdRefIdeal.τ).loc Cert.FirstNormBwdRefIdeal.main_arg3)
      ∧ r.2.mem ((c.tc : Thread Cert.FirstNormBwdRefIdeal.nD Cert.FirstNormBwdRefIdeal.τ).loc Cert.FirstNormBwdRefIdeal.main_arg4) = m ((c.tc : Thread Cert.FirstNormBwdRefIdeal.nD Cert.FirstNormBwdRefIdeal.τ).loc Cert.FirstNormBwdRefIdeal.main_arg4)
      ∧ r.2.mem ((c.tc : Thread Cert.FirstNormBwdRefIdeal.nD Cert.FirstNormBwdRefIdeal.τ).loc Cert.FirstNormBwdRefIdeal.main_arg5) = m ((c.tc : Thread Cert.FirstNormBwdRefIdeal.nD Cert.FirstNormBwdRefIdeal.τ).loc Cert.FirstNormBwdRefIdeal.main_arg5)
      ∧ r.2.mem ((c.tc : Thread Cert.FirstNormBwdRefIdeal.nD Cert.FirstNormBwdRefIdeal.τ).loc Cert.FirstNormBwdRefIdeal.main_arg6) = m ((c.tc : Thread Cert.FirstNormBwdRefIdeal.nD Cert.FirstNormBwdRefIdeal.τ).loc Cert.FirstNormBwdRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdIdeal_pre_norm_fwd_finite [hNormFwdIdeal : Cert.NormFwdIdeal.Facts] [hPre_norm_fwd_finite : Cert.Pre_norm_fwd_finite.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal_norm_fwd_finite m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_NormFwdRefIdeal_pre_norm_fwd_finite [hNormFwdRefIdeal : Cert.NormFwdRefIdeal.Facts] [hPre_norm_fwd_finite : Cert.Pre_norm_fwd_finite.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal_norm_fwd_finite m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def preserves_HiddenGrad_HiddenGradIdeal : Prop :=
  True

def algebraic_HiddenGradIdeal_HiddenGradRefIdeal_pre_hidden_grad_finite [hHiddenGradIdeal : Cert.HiddenGradIdeal.Facts] [hHiddenGradRefIdeal : Cert.HiddenGradRefIdeal.Facts] [hPre_hidden_grad_finite : Cert.Pre_hidden_grad_finite.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg)
    (m' : (ℓ : Loc Cert.HiddenGradRefIdeal.nD Cert.HiddenGradRefIdeal.τ Cert.HiddenGradRefIdeal.sig) → Buf (Elt Ideal) ℓ) (g' : Dev Cert.HiddenGradRefIdeal.nD → PrngReg), Pre_HiddenGradIdeal_hidden_grad_finite m →
    (∀ c : Dev Cert.HiddenGradIdeal.nD,
      m' ((c.tc : Thread Cert.HiddenGradRefIdeal.nD Cert.HiddenGradRefIdeal.τ).loc Cert.HiddenGradRefIdeal.main_arg0) = m ((c.tc : Thread Cert.HiddenGradIdeal.nD Cert.HiddenGradIdeal.τ).loc Cert.HiddenGradIdeal.main_arg0)
      ∧ m' ((c.tc : Thread Cert.HiddenGradRefIdeal.nD Cert.HiddenGradRefIdeal.τ).loc Cert.HiddenGradRefIdeal.main_arg1) = m ((c.tc : Thread Cert.HiddenGradIdeal.nD Cert.HiddenGradIdeal.τ).loc Cert.HiddenGradIdeal.main_arg1)
      ∧ m' ((c.tc : Thread Cert.HiddenGradRefIdeal.nD Cert.HiddenGradRefIdeal.τ).loc Cert.HiddenGradRefIdeal.main_arg2) = m ((c.tc : Thread Cert.HiddenGradIdeal.nD Cert.HiddenGradIdeal.τ).loc Cert.HiddenGradIdeal.main_arg2)) →
    ∃ (v0 : (c : Dev Cert.HiddenGradIdeal.nD) → Buf (Elt Ideal) ((c.tc : Thread Cert.HiddenGradIdeal.nD Cert.HiddenGradIdeal.τ).loc Cert.HiddenGradIdeal.main_v9)),
      θ_run (Cert.HiddenGradIdeal.defs (F := Ideal)) (onTc (τ := Cert.HiddenGradIdeal.τ) (Cert.HiddenGradIdeal.main (F := Ideal))) ⟨m, fun _ => 0, g⟩ (fun r => ∀ c : Dev Cert.HiddenGradIdeal.nD,
          r.2.mem ((c.tc : Thread Cert.HiddenGradIdeal.nD Cert.HiddenGradIdeal.τ).loc Cert.HiddenGradIdeal.main_v9) = v0 c
          ∧ r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
          ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
          ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2))
      ∧ θ_run (Cert.HiddenGradRefIdeal.defs (F := Ideal)) (onTc (τ := Cert.HiddenGradRefIdeal.τ) (Cert.HiddenGradRefIdeal.main (F := Ideal))) ⟨m', fun _ => 0, g'⟩ (fun r => ∀ c : Dev Cert.HiddenGradRefIdeal.nD,
          r.2.mem ((c.tc : Thread Cert.HiddenGradRefIdeal.nD Cert.HiddenGradRefIdeal.τ).loc Cert.HiddenGradRefIdeal.main_v12) = v0 c
          ∧ r.2.mem ((c.tc : Thread Cert.HiddenGradRefIdeal.nD Cert.HiddenGradRefIdeal.τ).loc Cert.HiddenGradRefIdeal.main_arg0) = m' ((c.tc : Thread Cert.HiddenGradRefIdeal.nD Cert.HiddenGradRefIdeal.τ).loc Cert.HiddenGradRefIdeal.main_arg0)
          ∧ r.2.mem ((c.tc : Thread Cert.HiddenGradRefIdeal.nD Cert.HiddenGradRefIdeal.τ).loc Cert.HiddenGradRefIdeal.main_arg1) = m' ((c.tc : Thread Cert.HiddenGradRefIdeal.nD Cert.HiddenGradRefIdeal.τ).loc Cert.HiddenGradRefIdeal.main_arg1)
          ∧ r.2.mem ((c.tc : Thread Cert.HiddenGradRefIdeal.nD Cert.HiddenGradRefIdeal.τ).loc Cert.HiddenGradRefIdeal.main_arg2) = m' ((c.tc : Thread Cert.HiddenGradRefIdeal.nD Cert.HiddenGradRefIdeal.τ).loc Cert.HiddenGradRefIdeal.main_arg2))

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)) →
    ∃ (v0 : (c : Dev Cert.OutLossIdeal.nD) → Buf (Elt Ideal) ((c.tc : Thread Cert.OutLossIdeal.nD Cert.OutLossIdeal.τ).loc Cert.OutLossIdeal.main_v9_0)) (v1 : (c : Dev Cert.OutLossIdeal.nD) → Buf (Elt Ideal) ((c.tc : Thread Cert.OutLossIdeal.nD Cert.OutLossIdeal.τ).loc Cert.OutLossIdeal.main_v9_1)) (v2 : (c : Dev Cert.OutLossIdeal.nD) → Buf (Elt Ideal) ((c.tc : Thread Cert.OutLossIdeal.nD Cert.OutLossIdeal.τ).loc Cert.OutLossIdeal.main_v9_2)) (v3 : (c : Dev Cert.OutLossIdeal.nD) → Buf (Elt Ideal) ((c.tc : Thread Cert.OutLossIdeal.nD Cert.OutLossIdeal.τ).loc Cert.OutLossIdeal.main_v9_3)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v9_0) = v0 c
          ∧ r.2.mem ((c.tc : Thread Cert.OutLossIdeal.nD Cert.OutLossIdeal.τ).loc Cert.OutLossIdeal.main_v9_1) = v1 c
          ∧ r.2.mem ((c.tc : Thread Cert.OutLossIdeal.nD Cert.OutLossIdeal.τ).loc Cert.OutLossIdeal.main_v9_2) = v2 c
          ∧ r.2.mem ((c.tc : Thread Cert.OutLossIdeal.nD Cert.OutLossIdeal.τ).loc Cert.OutLossIdeal.main_v9_3) = v3 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v28) = v0 c
          ∧ r.2.mem ((c.tc : Thread Cert.OutLossRefIdeal.nD Cert.OutLossRefIdeal.τ).loc Cert.OutLossRefIdeal.main_v30) = v1 c
          ∧ r.2.mem ((c.tc : Thread Cert.OutLossRefIdeal.nD Cert.OutLossRefIdeal.τ).loc Cert.OutLossRefIdeal.main_v27) = v2 c
          ∧ r.2.mem ((c.tc : Thread Cert.OutLossRefIdeal.nD Cert.OutLossRefIdeal.τ).loc Cert.OutLossRefIdeal.main_v33) = v3 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v23_0)) (v1 : (c : Dev Cert.MergeBwdIdeal.nD) → Buf (Elt Ideal) ((c.tc : Thread Cert.MergeBwdIdeal.nD Cert.MergeBwdIdeal.τ).loc Cert.MergeBwdIdeal.main_v23_1)) (v2 : (c : Dev Cert.MergeBwdIdeal.nD) → Buf (Elt Ideal) ((c.tc : Thread Cert.MergeBwdIdeal.nD Cert.MergeBwdIdeal.τ).loc Cert.MergeBwdIdeal.main_v23_2)) (v3 : (c : Dev Cert.MergeBwdIdeal.nD) → Buf (Elt Ideal) ((c.tc : Thread Cert.MergeBwdIdeal.nD Cert.MergeBwdIdeal.τ).loc Cert.MergeBwdIdeal.main_v23_3)) (v4 : (c : Dev Cert.MergeBwdIdeal.nD) → Buf (Elt Ideal) ((c.tc : Thread Cert.MergeBwdIdeal.nD Cert.MergeBwdIdeal.τ).loc Cert.MergeBwdIdeal.main_v23_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v23_0) = v0 c
          ∧ r.2.mem ((c.tc : Thread Cert.MergeBwdIdeal.nD Cert.MergeBwdIdeal.τ).loc Cert.MergeBwdIdeal.main_v23_1) = v1 c
          ∧ r.2.mem ((c.tc : Thread Cert.MergeBwdIdeal.nD Cert.MergeBwdIdeal.τ).loc Cert.MergeBwdIdeal.main_v23_2) = v2 c
          ∧ r.2.mem ((c.tc : Thread Cert.MergeBwdIdeal.nD Cert.MergeBwdIdeal.τ).loc Cert.MergeBwdIdeal.main_v23_3) = v3 c
          ∧ r.2.mem ((c.tc : Thread Cert.MergeBwdIdeal.nD Cert.MergeBwdIdeal.τ).loc Cert.MergeBwdIdeal.main_v23_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v42) = v0 c
          ∧ r.2.mem ((c.tc : Thread Cert.MergeBwdRefIdeal.nD Cert.MergeBwdRefIdeal.τ).loc Cert.MergeBwdRefIdeal.main_v44) = v1 c
          ∧ r.2.mem ((c.tc : Thread Cert.MergeBwdRefIdeal.nD Cert.MergeBwdRefIdeal.τ).loc Cert.MergeBwdRefIdeal.main_v46) = v2 c
          ∧ r.2.mem ((c.tc : Thread Cert.MergeBwdRefIdeal.nD Cert.MergeBwdRefIdeal.τ).loc Cert.MergeBwdRefIdeal.main_v47) = v3 c
          ∧ r.2.mem ((c.tc : Thread Cert.MergeBwdRefIdeal.nD Cert.MergeBwdRefIdeal.τ).loc Cert.MergeBwdRefIdeal.main_v49) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_LatentBwd_LatentBwdIdeal : Prop :=
  IdealRules.named_const.Statement Cert.LatentBwdIdeal.κ "inv_q_lora" .f32 0x3B2AAAAB#32 ((384⁻¹ : ℝ) : EReal)

def algebraic_LatentBwdIdeal_LatentBwdRefIdeal_pre_latent_bwd_finite [hLatentBwdIdeal : Cert.LatentBwdIdeal.Facts] [hLatentBwdRefIdeal : Cert.LatentBwdRefIdeal.Facts] [hPre_latent_bwd_finite : Cert.Pre_latent_bwd_finite.Facts] : Prop :=
  ∀ (m : (ℓ : Loc Cert.LatentBwdIdeal.nD Cert.LatentBwdIdeal.τ Cert.LatentBwdIdeal.sig) → Buf (Elt Ideal) ℓ) (g : Dev Cert.LatentBwdIdeal.nD → PrngReg)
    (m' : (ℓ : Loc Cert.LatentBwdRefIdeal.nD Cert.LatentBwdRefIdeal.τ Cert.LatentBwdRefIdeal.sig) → Buf (Elt Ideal) ℓ) (g' : Dev Cert.LatentBwdRefIdeal.nD → PrngReg), Pre_LatentBwdIdeal_latent_bwd_finite m →
    (∀ c : Dev Cert.LatentBwdIdeal.nD,
      m' ((c.tc : Thread Cert.LatentBwdRefIdeal.nD Cert.LatentBwdRefIdeal.τ).loc Cert.LatentBwdRefIdeal.main_arg0) = m ((c.tc : Thread Cert.LatentBwdIdeal.nD Cert.LatentBwdIdeal.τ).loc Cert.LatentBwdIdeal.main_arg0)
      ∧ m' ((c.tc : Thread Cert.LatentBwdRefIdeal.nD Cert.LatentBwdRefIdeal.τ).loc Cert.LatentBwdRefIdeal.main_arg1) = m ((c.tc : Thread Cert.LatentBwdIdeal.nD Cert.LatentBwdIdeal.τ).loc Cert.LatentBwdIdeal.main_arg1)
      ∧ m' ((c.tc : Thread Cert.LatentBwdRefIdeal.nD Cert.LatentBwdRefIdeal.τ).loc Cert.LatentBwdRefIdeal.main_arg2) = m ((c.tc : Thread Cert.LatentBwdIdeal.nD Cert.LatentBwdIdeal.τ).loc Cert.LatentBwdIdeal.main_arg2)
      ∧ m' ((c.tc : Thread Cert.LatentBwdRefIdeal.nD Cert.LatentBwdRefIdeal.τ).loc Cert.LatentBwdRefIdeal.main_arg3) = m ((c.tc : Thread Cert.LatentBwdIdeal.nD Cert.LatentBwdIdeal.τ).loc Cert.LatentBwdIdeal.main_arg3)
      ∧ m' ((c.tc : Thread Cert.LatentBwdRefIdeal.nD Cert.LatentBwdRefIdeal.τ).loc Cert.LatentBwdRefIdeal.main_arg4) = m ((c.tc : Thread Cert.LatentBwdIdeal.nD Cert.LatentBwdIdeal.τ).loc Cert.LatentBwdIdeal.main_arg4)
      ∧ m' ((c.tc : Thread Cert.LatentBwdRefIdeal.nD Cert.LatentBwdRefIdeal.τ).loc Cert.LatentBwdRefIdeal.main_arg5) = m ((c.tc : Thread Cert.LatentBwdIdeal.nD Cert.LatentBwdIdeal.τ).loc Cert.LatentBwdIdeal.main_arg5)
      ∧ m' ((c.tc : Thread Cert.LatentBwdRefIdeal.nD Cert.LatentBwdRefIdeal.τ).loc Cert.LatentBwdRefIdeal.main_arg6) = m ((c.tc : Thread Cert.LatentBwdIdeal.nD Cert.LatentBwdIdeal.τ).loc Cert.LatentBwdIdeal.main_arg6)
      ∧ m' ((c.tc : Thread Cert.LatentBwdRefIdeal.nD Cert.LatentBwdRefIdeal.τ).loc Cert.LatentBwdRefIdeal.main_arg7) = m ((c.tc : Thread Cert.LatentBwdIdeal.nD Cert.LatentBwdIdeal.τ).loc Cert.LatentBwdIdeal.main_arg7)) →
    ∃ (v0 : (c : Dev Cert.LatentBwdIdeal.nD) → Buf (Elt Ideal) ((c.tc : Thread Cert.LatentBwdIdeal.nD Cert.LatentBwdIdeal.τ).loc Cert.LatentBwdIdeal.main_v22_0)) (v1 : (c : Dev Cert.LatentBwdIdeal.nD) → Buf (Elt Ideal) ((c.tc : Thread Cert.LatentBwdIdeal.nD Cert.LatentBwdIdeal.τ).loc Cert.LatentBwdIdeal.main_v22_1)) (v2 : (c : Dev Cert.LatentBwdIdeal.nD) → Buf (Elt Ideal) ((c.tc : Thread Cert.LatentBwdIdeal.nD Cert.LatentBwdIdeal.τ).loc Cert.LatentBwdIdeal.main_v22_2)),
      θ_run (Cert.LatentBwdIdeal.defs (F := Ideal)) (onTc (τ := Cert.LatentBwdIdeal.τ) (Cert.LatentBwdIdeal.main (F := Ideal))) ⟨m, fun _ => 0, g⟩ (fun r => ∀ c : Dev Cert.LatentBwdIdeal.nD,
          r.2.mem ((c.tc : Thread Cert.LatentBwdIdeal.nD Cert.LatentBwdIdeal.τ).loc Cert.LatentBwdIdeal.main_v22_0) = v0 c
          ∧ r.2.mem ((c.tc : Thread Cert.LatentBwdIdeal.nD Cert.LatentBwdIdeal.τ).loc Cert.LatentBwdIdeal.main_v22_1) = v1 c
          ∧ r.2.mem ((c.tc : Thread Cert.LatentBwdIdeal.nD Cert.LatentBwdIdeal.τ).loc Cert.LatentBwdIdeal.main_v22_2) = v2 c
          ∧ r.2.mem ((c.tc : Thread Cert.LatentBwdIdeal.nD Cert.LatentBwdIdeal.τ).loc Cert.LatentBwdIdeal.main_arg0) = m ((c.tc : Thread Cert.LatentBwdIdeal.nD Cert.LatentBwdIdeal.τ).loc Cert.LatentBwdIdeal.main_arg0)
          ∧ r.2.mem ((c.tc : Thread Cert.LatentBwdIdeal.nD Cert.LatentBwdIdeal.τ).loc Cert.LatentBwdIdeal.main_arg1) = m ((c.tc : Thread Cert.LatentBwdIdeal.nD Cert.LatentBwdIdeal.τ).loc Cert.LatentBwdIdeal.main_arg1)
          ∧ r.2.mem ((c.tc : Thread Cert.LatentBwdIdeal.nD Cert.LatentBwdIdeal.τ).loc Cert.LatentBwdIdeal.main_arg2) = m ((c.tc : Thread Cert.LatentBwdIdeal.nD Cert.LatentBwdIdeal.τ).loc Cert.LatentBwdIdeal.main_arg2)
          ∧ r.2.mem ((c.tc : Thread Cert.LatentBwdIdeal.nD Cert.LatentBwdIdeal.τ).loc Cert.LatentBwdIdeal.main_arg3) = m ((c.tc : Thread Cert.LatentBwdIdeal.nD Cert.LatentBwdIdeal.τ).loc Cert.LatentBwdIdeal.main_arg3)
          ∧ r.2.mem ((c.tc : Thread Cert.LatentBwdIdeal.nD Cert.LatentBwdIdeal.τ).loc Cert.LatentBwdIdeal.main_arg4) = m ((c.tc : Thread Cert.LatentBwdIdeal.nD Cert.LatentBwdIdeal.τ).loc Cert.LatentBwdIdeal.main_arg4)
          ∧ r.2.mem ((c.tc : Thread Cert.LatentBwdIdeal.nD Cert.LatentBwdIdeal.τ).loc Cert.LatentBwdIdeal.main_arg5) = m ((c.tc : Thread Cert.LatentBwdIdeal.nD Cert.LatentBwdIdeal.τ).loc Cert.LatentBwdIdeal.main_arg5)
          ∧ r.2.mem ((c.tc : Thread Cert.LatentBwdIdeal.nD Cert.LatentBwdIdeal.τ).loc Cert.LatentBwdIdeal.main_arg6) = m ((c.tc : Thread Cert.LatentBwdIdeal.nD Cert.LatentBwdIdeal.τ).loc Cert.LatentBwdIdeal.main_arg6)
          ∧ r.2.mem ((c.tc : Thread Cert.LatentBwdIdeal.nD Cert.LatentBwdIdeal.τ).loc Cert.LatentBwdIdeal.main_arg7) = m ((c.tc : Thread Cert.LatentBwdIdeal.nD Cert.LatentBwdIdeal.τ).loc Cert.LatentBwdIdeal.main_arg7))
      ∧ θ_run (Cert.LatentBwdRefIdeal.defs (F := Ideal)) (onTc (τ := Cert.LatentBwdRefIdeal.τ) (Cert.LatentBwdRefIdeal.main (F := Ideal))) ⟨m', fun _ => 0, g'⟩ (fun r => ∀ c : Dev Cert.LatentBwdRefIdeal.nD,
          r.2.mem ((c.tc : Thread Cert.LatentBwdRefIdeal.nD Cert.LatentBwdRefIdeal.τ).loc Cert.LatentBwdRefIdeal.main_v96) = v0 c
          ∧ r.2.mem ((c.tc : Thread Cert.LatentBwdRefIdeal.nD Cert.LatentBwdRefIdeal.τ).loc Cert.LatentBwdRefIdeal.main_v88) = v1 c
          ∧ r.2.mem ((c.tc : Thread Cert.LatentBwdRefIdeal.nD Cert.LatentBwdRefIdeal.τ).loc Cert.LatentBwdRefIdeal.main_v65) = v2 c
          ∧ r.2.mem ((c.tc : Thread Cert.LatentBwdRefIdeal.nD Cert.LatentBwdRefIdeal.τ).loc Cert.LatentBwdRefIdeal.main_arg0) = m' ((c.tc : Thread Cert.LatentBwdRefIdeal.nD Cert.LatentBwdRefIdeal.τ).loc Cert.LatentBwdRefIdeal.main_arg0)
          ∧ r.2.mem ((c.tc : Thread Cert.LatentBwdRefIdeal.nD Cert.LatentBwdRefIdeal.τ).loc Cert.LatentBwdRefIdeal.main_arg1) = m' ((c.tc : Thread Cert.LatentBwdRefIdeal.nD Cert.LatentBwdRefIdeal.τ).loc Cert.LatentBwdRefIdeal.main_arg1)
          ∧ r.2.mem ((c.tc : Thread Cert.LatentBwdRefIdeal.nD Cert.LatentBwdRefIdeal.τ).loc Cert.LatentBwdRefIdeal.main_arg2) = m' ((c.tc : Thread Cert.LatentBwdRefIdeal.nD Cert.LatentBwdRefIdeal.τ).loc Cert.LatentBwdRefIdeal.main_arg2)
          ∧ r.2.mem ((c.tc : Thread Cert.LatentBwdRefIdeal.nD Cert.LatentBwdRefIdeal.τ).loc Cert.LatentBwdRefIdeal.main_arg3) = m' ((c.tc : Thread Cert.LatentBwdRefIdeal.nD Cert.LatentBwdRefIdeal.τ).loc Cert.LatentBwdRefIdeal.main_arg3)
          ∧ r.2.mem ((c.tc : Thread Cert.LatentBwdRefIdeal.nD Cert.LatentBwdRefIdeal.τ).loc Cert.LatentBwdRefIdeal.main_arg4) = m' ((c.tc : Thread Cert.LatentBwdRefIdeal.nD Cert.LatentBwdRefIdeal.τ).loc Cert.LatentBwdRefIdeal.main_arg4)
          ∧ r.2.mem ((c.tc : Thread Cert.LatentBwdRefIdeal.nD Cert.LatentBwdRefIdeal.τ).loc Cert.LatentBwdRefIdeal.main_arg5) = m' ((c.tc : Thread Cert.LatentBwdRefIdeal.nD Cert.LatentBwdRefIdeal.τ).loc Cert.LatentBwdRefIdeal.main_arg5)
          ∧ r.2.mem ((c.tc : Thread Cert.LatentBwdRefIdeal.nD Cert.LatentBwdRefIdeal.τ).loc Cert.LatentBwdRefIdeal.main_arg6) = m' ((c.tc : Thread Cert.LatentBwdRefIdeal.nD Cert.LatentBwdRefIdeal.τ).loc Cert.LatentBwdRefIdeal.main_arg6)
          ∧ r.2.mem ((c.tc : Thread Cert.LatentBwdRefIdeal.nD Cert.LatentBwdRefIdeal.τ).loc Cert.LatentBwdRefIdeal.main_arg7) = m' ((c.tc : Thread Cert.LatentBwdRefIdeal.nD Cert.LatentBwdRefIdeal.τ).loc Cert.LatentBwdRefIdeal.main_arg7))

def preserves_NormBwd_NormBwdIdeal : Prop :=
  True

def algebraic_NormBwdIdeal_NormBwdRefIdeal_pre_norm_bwd_finite [hNormBwdIdeal : Cert.NormBwdIdeal.Facts] [hNormBwdRefIdeal : Cert.NormBwdRefIdeal.Facts] [hPre_norm_bwd_finite : Cert.Pre_norm_bwd_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_norm_bwd_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)
      ∧ m' ((c.tc : Thread Cert.NormBwdRefIdeal.nD Cert.NormBwdRefIdeal.τ).loc Cert.NormBwdRefIdeal.main_arg7) = m ((c.tc : Thread Cert.NormBwdIdeal.nD Cert.NormBwdIdeal.τ).loc Cert.NormBwdIdeal.main_arg7)
      ∧ m' ((c.tc : Thread Cert.NormBwdRefIdeal.nD Cert.NormBwdRefIdeal.τ).loc Cert.NormBwdRefIdeal.main_arg8) = m ((c.tc : Thread Cert.NormBwdIdeal.nD Cert.NormBwdIdeal.τ).loc Cert.NormBwdIdeal.main_arg8)) →
    ∃ (v0 : (c : Dev Cert.NormBwdIdeal.nD) → Buf (Elt Ideal) ((c.tc : Thread Cert.NormBwdIdeal.nD Cert.NormBwdIdeal.τ).loc Cert.NormBwdIdeal.main_v15_0)) (v1 : (c : Dev Cert.NormBwdIdeal.nD) → Buf (Elt Ideal) ((c.tc : Thread Cert.NormBwdIdeal.nD Cert.NormBwdIdeal.τ).loc Cert.NormBwdIdeal.main_v15_1)) (v2 : (c : Dev Cert.NormBwdIdeal.nD) → Buf (Elt Ideal) ((c.tc : Thread Cert.NormBwdIdeal.nD Cert.NormBwdIdeal.τ).loc Cert.NormBwdIdeal.main_v15_2)) (v3 : (c : Dev Cert.NormBwdIdeal.nD) → Buf (Elt Ideal) ((c.tc : Thread Cert.NormBwdIdeal.nD Cert.NormBwdIdeal.τ).loc Cert.NormBwdIdeal.main_v15_3)) (v4 : (c : Dev Cert.NormBwdIdeal.nD) → Buf (Elt Ideal) ((c.tc : Thread Cert.NormBwdIdeal.nD Cert.NormBwdIdeal.τ).loc Cert.NormBwdIdeal.main_v15_4)) (v5 : (c : Dev Cert.NormBwdIdeal.nD) → Buf (Elt Ideal) ((c.tc : Thread Cert.NormBwdIdeal.nD Cert.NormBwdIdeal.τ).loc Cert.NormBwdIdeal.main_v15_5)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v15_0) = v0 c
          ∧ r.2.mem ((c.tc : Thread Cert.NormBwdIdeal.nD Cert.NormBwdIdeal.τ).loc Cert.NormBwdIdeal.main_v15_1) = v1 c
          ∧ r.2.mem ((c.tc : Thread Cert.NormBwdIdeal.nD Cert.NormBwdIdeal.τ).loc Cert.NormBwdIdeal.main_v15_2) = v2 c
          ∧ r.2.mem ((c.tc : Thread Cert.NormBwdIdeal.nD Cert.NormBwdIdeal.τ).loc Cert.NormBwdIdeal.main_v15_3) = v3 c
          ∧ r.2.mem ((c.tc : Thread Cert.NormBwdIdeal.nD Cert.NormBwdIdeal.τ).loc Cert.NormBwdIdeal.main_v15_4) = v4 c
          ∧ r.2.mem ((c.tc : Thread Cert.NormBwdIdeal.nD Cert.NormBwdIdeal.τ).loc Cert.NormBwdIdeal.main_v15_5) = v5 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7)
          ∧ r.2.mem ((c.tc : Thread Cert.NormBwdIdeal.nD Cert.NormBwdIdeal.τ).loc Cert.NormBwdIdeal.main_arg8) = m ((c.tc : Thread Cert.NormBwdIdeal.nD Cert.NormBwdIdeal.τ).loc Cert.NormBwdIdeal.main_arg8))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v70) = v0 c
          ∧ r.2.mem ((c.tc : Thread Cert.NormBwdRefIdeal.nD Cert.NormBwdRefIdeal.τ).loc Cert.NormBwdRefIdeal.main_v72) = v1 c
          ∧ r.2.mem ((c.tc : Thread Cert.NormBwdRefIdeal.nD Cert.NormBwdRefIdeal.τ).loc Cert.NormBwdRefIdeal.main_v73) = v2 c
          ∧ r.2.mem ((c.tc : Thread Cert.NormBwdRefIdeal.nD Cert.NormBwdRefIdeal.τ).loc Cert.NormBwdRefIdeal.main_v74) = v3 c
          ∧ r.2.mem ((c.tc : Thread Cert.NormBwdRefIdeal.nD Cert.NormBwdRefIdeal.τ).loc Cert.NormBwdRefIdeal.main_v75) = v4 c
          ∧ r.2.mem ((c.tc : Thread Cert.NormBwdRefIdeal.nD Cert.NormBwdRefIdeal.τ).loc Cert.NormBwdRefIdeal.main_v62) = v5 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6)
          ∧ r.2.mem ((c.tc : Thread Cert.NormBwdRefIdeal.nD Cert.NormBwdRefIdeal.τ).loc Cert.NormBwdRefIdeal.main_arg7) = m' ((c.tc : Thread Cert.NormBwdRefIdeal.nD Cert.NormBwdRefIdeal.τ).loc Cert.NormBwdRefIdeal.main_arg7)
          ∧ r.2.mem ((c.tc : Thread Cert.NormBwdRefIdeal.nD Cert.NormBwdRefIdeal.τ).loc Cert.NormBwdRefIdeal.main_arg8) = m' ((c.tc : Thread Cert.NormBwdRefIdeal.nD Cert.NormBwdRefIdeal.τ).loc Cert.NormBwdRefIdeal.main_arg8))

def preserves_AttnBwd_AttnBwdIdeal : Prop :=
  IdealRules.named_const.Statement Cert.AttnBwdIdeal.κ "mask" .f32 0xF149F2CA#32 ⊥

def algebraic_AttnBwdIdeal_AttnBwdRefIdeal_pre_attn_bwd_finite [hAttnBwdIdeal : Cert.AttnBwdIdeal.Facts] [hAttnBwdRefIdeal : Cert.AttnBwdRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v48_0)) (v1 : (c : Dev Cert.AttnBwdIdeal.nD) → Buf (Elt Ideal) ((c.tc : Thread Cert.AttnBwdIdeal.nD Cert.AttnBwdIdeal.τ).loc Cert.AttnBwdIdeal.main_v48_1)) (v2 : (c : Dev Cert.AttnBwdIdeal.nD) → Buf (Elt Ideal) ((c.tc : Thread Cert.AttnBwdIdeal.nD Cert.AttnBwdIdeal.τ).loc Cert.AttnBwdIdeal.main_v48_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v48_0) = v0 c
          ∧ r.2.mem ((c.tc : Thread Cert.AttnBwdIdeal.nD Cert.AttnBwdIdeal.τ).loc Cert.AttnBwdIdeal.main_v48_1) = v1 c
          ∧ r.2.mem ((c.tc : Thread Cert.AttnBwdIdeal.nD Cert.AttnBwdIdeal.τ).loc Cert.AttnBwdIdeal.main_v48_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v73) = v0 c
          ∧ r.2.mem ((c.tc : Thread Cert.AttnBwdRefIdeal.nD Cert.AttnBwdRefIdeal.τ).loc Cert.AttnBwdRefIdeal.main_v76) = v1 c
          ∧ r.2.mem ((c.tc : Thread Cert.AttnBwdRefIdeal.nD Cert.AttnBwdRefIdeal.τ).loc Cert.AttnBwdRefIdeal.main_v78) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5))

def preserves_QkBwd_QkBwdIdeal : Prop :=
  True

def algebraic_QkBwdIdeal_QkBwdRefIdeal_pre_qk_bwd_finite [hQkBwdIdeal : Cert.QkBwdIdeal.Facts] [hQkBwdRefIdeal : Cert.QkBwdRefIdeal.Facts] [hPre_qk_bwd_finite : Cert.Pre_qk_bwd_finite.Facts] : Prop :=
  ∀ (m : (ℓ : Loc Cert.QkBwdIdeal.nD Cert.QkBwdIdeal.τ Cert.QkBwdIdeal.sig) → Buf (Elt Ideal) ℓ) (g : Dev Cert.QkBwdIdeal.nD → PrngReg)
    (m' : (ℓ : Loc Cert.QkBwdRefIdeal.nD Cert.QkBwdRefIdeal.τ Cert.QkBwdRefIdeal.sig) → Buf (Elt Ideal) ℓ) (g' : Dev Cert.QkBwdRefIdeal.nD → PrngReg), Pre_QkBwdIdeal_qk_bwd_finite m →
    (∀ c : Dev Cert.QkBwdIdeal.nD,
      m' ((c.tc : Thread Cert.QkBwdRefIdeal.nD Cert.QkBwdRefIdeal.τ).loc Cert.QkBwdRefIdeal.main_arg0) = m ((c.tc : Thread Cert.QkBwdIdeal.nD Cert.QkBwdIdeal.τ).loc Cert.QkBwdIdeal.main_arg0)
      ∧ m' ((c.tc : Thread Cert.QkBwdRefIdeal.nD Cert.QkBwdRefIdeal.τ).loc Cert.QkBwdRefIdeal.main_arg1) = m ((c.tc : Thread Cert.QkBwdIdeal.nD Cert.QkBwdIdeal.τ).loc Cert.QkBwdIdeal.main_arg1)
      ∧ m' ((c.tc : Thread Cert.QkBwdRefIdeal.nD Cert.QkBwdRefIdeal.τ).loc Cert.QkBwdRefIdeal.main_arg2) = m ((c.tc : Thread Cert.QkBwdIdeal.nD Cert.QkBwdIdeal.τ).loc Cert.QkBwdIdeal.main_arg2)
      ∧ m' ((c.tc : Thread Cert.QkBwdRefIdeal.nD Cert.QkBwdRefIdeal.τ).loc Cert.QkBwdRefIdeal.main_arg3) = m ((c.tc : Thread Cert.QkBwdIdeal.nD Cert.QkBwdIdeal.τ).loc Cert.QkBwdIdeal.main_arg3)
      ∧ m' ((c.tc : Thread Cert.QkBwdRefIdeal.nD Cert.QkBwdRefIdeal.τ).loc Cert.QkBwdRefIdeal.main_arg4) = m ((c.tc : Thread Cert.QkBwdIdeal.nD Cert.QkBwdIdeal.τ).loc Cert.QkBwdIdeal.main_arg4)
      ∧ m' ((c.tc : Thread Cert.QkBwdRefIdeal.nD Cert.QkBwdRefIdeal.τ).loc Cert.QkBwdRefIdeal.main_arg5) = m ((c.tc : Thread Cert.QkBwdIdeal.nD Cert.QkBwdIdeal.τ).loc Cert.QkBwdIdeal.main_arg5)
      ∧ m' ((c.tc : Thread Cert.QkBwdRefIdeal.nD Cert.QkBwdRefIdeal.τ).loc Cert.QkBwdRefIdeal.main_arg6) = m ((c.tc : Thread Cert.QkBwdIdeal.nD Cert.QkBwdIdeal.τ).loc Cert.QkBwdIdeal.main_arg6)
      ∧ m' ((c.tc : Thread Cert.QkBwdRefIdeal.nD Cert.QkBwdRefIdeal.τ).loc Cert.QkBwdRefIdeal.main_arg7) = m ((c.tc : Thread Cert.QkBwdIdeal.nD Cert.QkBwdIdeal.τ).loc Cert.QkBwdIdeal.main_arg7)
      ∧ m' ((c.tc : Thread Cert.QkBwdRefIdeal.nD Cert.QkBwdRefIdeal.τ).loc Cert.QkBwdRefIdeal.main_arg8) = m ((c.tc : Thread Cert.QkBwdIdeal.nD Cert.QkBwdIdeal.τ).loc Cert.QkBwdIdeal.main_arg8)
      ∧ m' ((c.tc : Thread Cert.QkBwdRefIdeal.nD Cert.QkBwdRefIdeal.τ).loc Cert.QkBwdRefIdeal.main_arg9) = m ((c.tc : Thread Cert.QkBwdIdeal.nD Cert.QkBwdIdeal.τ).loc Cert.QkBwdIdeal.main_arg9)
      ∧ m' ((c.tc : Thread Cert.QkBwdRefIdeal.nD Cert.QkBwdRefIdeal.τ).loc Cert.QkBwdRefIdeal.main_arg10) = m ((c.tc : Thread Cert.QkBwdIdeal.nD Cert.QkBwdIdeal.τ).loc Cert.QkBwdIdeal.main_arg10)) →
    ∃ (v0 : (c : Dev Cert.QkBwdIdeal.nD) → Buf (Elt Ideal) ((c.tc : Thread Cert.QkBwdIdeal.nD Cert.QkBwdIdeal.τ).loc Cert.QkBwdIdeal.main_v41_0)) (v1 : (c : Dev Cert.QkBwdIdeal.nD) → Buf (Elt Ideal) ((c.tc : Thread Cert.QkBwdIdeal.nD Cert.QkBwdIdeal.τ).loc Cert.QkBwdIdeal.main_v41_1)) (v2 : (c : Dev Cert.QkBwdIdeal.nD) → Buf (Elt Ideal) ((c.tc : Thread Cert.QkBwdIdeal.nD Cert.QkBwdIdeal.τ).loc Cert.QkBwdIdeal.main_v41_2)) (v3 : (c : Dev Cert.QkBwdIdeal.nD) → Buf (Elt Ideal) ((c.tc : Thread Cert.QkBwdIdeal.nD Cert.QkBwdIdeal.τ).loc Cert.QkBwdIdeal.main_v41_3)) (v4 : (c : Dev Cert.QkBwdIdeal.nD) → Buf (Elt Ideal) ((c.tc : Thread Cert.QkBwdIdeal.nD Cert.QkBwdIdeal.τ).loc Cert.QkBwdIdeal.main_v41_4)) (v5 : (c : Dev Cert.QkBwdIdeal.nD) → Buf (Elt Ideal) ((c.tc : Thread Cert.QkBwdIdeal.nD Cert.QkBwdIdeal.τ).loc Cert.QkBwdIdeal.main_v41_5)),
      θ_run (Cert.QkBwdIdeal.defs (F := Ideal)) (onTc (τ := Cert.QkBwdIdeal.τ) (Cert.QkBwdIdeal.main (F := Ideal))) ⟨m, fun _ => 0, g⟩ (fun r => ∀ c : Dev Cert.QkBwdIdeal.nD,
          r.2.mem ((c.tc : Thread Cert.QkBwdIdeal.nD Cert.QkBwdIdeal.τ).loc Cert.QkBwdIdeal.main_v41_0) = v0 c
          ∧ r.2.mem ((c.tc : Thread Cert.QkBwdIdeal.nD Cert.QkBwdIdeal.τ).loc Cert.QkBwdIdeal.main_v41_1) = v1 c
          ∧ r.2.mem ((c.tc : Thread Cert.QkBwdIdeal.nD Cert.QkBwdIdeal.τ).loc Cert.QkBwdIdeal.main_v41_2) = v2 c
          ∧ r.2.mem ((c.tc : Thread Cert.QkBwdIdeal.nD Cert.QkBwdIdeal.τ).loc Cert.QkBwdIdeal.main_v41_3) = v3 c
          ∧ r.2.mem ((c.tc : Thread Cert.QkBwdIdeal.nD Cert.QkBwdIdeal.τ).loc Cert.QkBwdIdeal.main_v41_4) = v4 c
          ∧ r.2.mem ((c.tc : Thread Cert.QkBwdIdeal.nD Cert.QkBwdIdeal.τ).loc Cert.QkBwdIdeal.main_v41_5) = v5 c
          ∧ r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
          ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
          ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
          ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
          ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
          ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
          ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6)
          ∧ r.2.mem ((c.tc : Thread Cert.QkBwdIdeal.nD Cert.QkBwdIdeal.τ).loc Cert.QkBwdIdeal.main_arg7) = m ((c.tc : Thread Cert.QkBwdIdeal.nD Cert.QkBwdIdeal.τ).loc Cert.QkBwdIdeal.main_arg7)
          ∧ r.2.mem ((c.tc : Thread Cert.QkBwdIdeal.nD Cert.QkBwdIdeal.τ).loc Cert.QkBwdIdeal.main_arg8) = m ((c.tc : Thread Cert.QkBwdIdeal.nD Cert.QkBwdIdeal.τ).loc Cert.QkBwdIdeal.main_arg8)
          ∧ r.2.mem ((c.tc : Thread Cert.QkBwdIdeal.nD Cert.QkBwdIdeal.τ).loc Cert.QkBwdIdeal.main_arg9) = m ((c.tc : Thread Cert.QkBwdIdeal.nD Cert.QkBwdIdeal.τ).loc Cert.QkBwdIdeal.main_arg9)
          ∧ r.2.mem ((c.tc : Thread Cert.QkBwdIdeal.nD Cert.QkBwdIdeal.τ).loc Cert.QkBwdIdeal.main_arg10) = m ((c.tc : Thread Cert.QkBwdIdeal.nD Cert.QkBwdIdeal.τ).loc Cert.QkBwdIdeal.main_arg10))
      ∧ θ_run (Cert.QkBwdRefIdeal.defs (F := Ideal)) (onTc (τ := Cert.QkBwdRefIdeal.τ) (Cert.QkBwdRefIdeal.main (F := Ideal))) ⟨m', fun _ => 0, g'⟩ (fun r => ∀ c : Dev Cert.QkBwdRefIdeal.nD,
          r.2.mem ((c.tc : Thread Cert.QkBwdRefIdeal.nD Cert.QkBwdRefIdeal.τ).loc Cert.QkBwdRefIdeal.main_v228) = v0 c
          ∧ r.2.mem ((c.tc : Thread Cert.QkBwdRefIdeal.nD Cert.QkBwdRefIdeal.τ).loc Cert.QkBwdRefIdeal.main_v230) = v1 c
          ∧ r.2.mem ((c.tc : Thread Cert.QkBwdRefIdeal.nD Cert.QkBwdRefIdeal.τ).loc Cert.QkBwdRefIdeal.main_v232) = v2 c
          ∧ r.2.mem ((c.tc : Thread Cert.QkBwdRefIdeal.nD Cert.QkBwdRefIdeal.τ).loc Cert.QkBwdRefIdeal.main_v234) = v3 c
          ∧ r.2.mem ((c.tc : Thread Cert.QkBwdRefIdeal.nD Cert.QkBwdRefIdeal.τ).loc Cert.QkBwdRefIdeal.main_v235) = v4 c
          ∧ r.2.mem ((c.tc : Thread Cert.QkBwdRefIdeal.nD Cert.QkBwdRefIdeal.τ).loc Cert.QkBwdRefIdeal.main_v236) = v5 c
          ∧ r.2.mem ((c.tc : Thread Cert.QkBwdRefIdeal.nD Cert.QkBwdRefIdeal.τ).loc Cert.QkBwdRefIdeal.main_arg0) = m' ((c.tc : Thread Cert.QkBwdRefIdeal.nD Cert.QkBwdRefIdeal.τ).loc Cert.QkBwdRefIdeal.main_arg0)
          ∧ r.2.mem ((c.tc : Thread Cert.QkBwdRefIdeal.nD Cert.QkBwdRefIdeal.τ).loc Cert.QkBwdRefIdeal.main_arg1) = m' ((c.tc : Thread Cert.QkBwdRefIdeal.nD Cert.QkBwdRefIdeal.τ).loc Cert.QkBwdRefIdeal.main_arg1)
          ∧ r.2.mem ((c.tc : Thread Cert.QkBwdRefIdeal.nD Cert.QkBwdRefIdeal.τ).loc Cert.QkBwdRefIdeal.main_arg2) = m' ((c.tc : Thread Cert.QkBwdRefIdeal.nD Cert.QkBwdRefIdeal.τ).loc Cert.QkBwdRefIdeal.main_arg2)
          ∧ r.2.mem ((c.tc : Thread Cert.QkBwdRefIdeal.nD Cert.QkBwdRefIdeal.τ).loc Cert.QkBwdRefIdeal.main_arg3) = m' ((c.tc : Thread Cert.QkBwdRefIdeal.nD Cert.QkBwdRefIdeal.τ).loc Cert.QkBwdRefIdeal.main_arg3)
          ∧ r.2.mem ((c.tc : Thread Cert.QkBwdRefIdeal.nD Cert.QkBwdRefIdeal.τ).loc Cert.QkBwdRefIdeal.main_arg4) = m' ((c.tc : Thread Cert.QkBwdRefIdeal.nD Cert.QkBwdRefIdeal.τ).loc Cert.QkBwdRefIdeal.main_arg4)
          ∧ r.2.mem ((c.tc : Thread Cert.QkBwdRefIdeal.nD Cert.QkBwdRefIdeal.τ).loc Cert.QkBwdRefIdeal.main_arg5) = m' ((c.tc : Thread Cert.QkBwdRefIdeal.nD Cert.QkBwdRefIdeal.τ).loc Cert.QkBwdRefIdeal.main_arg5)
          ∧ r.2.mem ((c.tc : Thread Cert.QkBwdRefIdeal.nD Cert.QkBwdRefIdeal.τ).loc Cert.QkBwdRefIdeal.main_arg6) = m' ((c.tc : Thread Cert.QkBwdRefIdeal.nD Cert.QkBwdRefIdeal.τ).loc Cert.QkBwdRefIdeal.main_arg6)
          ∧ r.2.mem ((c.tc : Thread Cert.QkBwdRefIdeal.nD Cert.QkBwdRefIdeal.τ).loc Cert.QkBwdRefIdeal.main_arg7) = m' ((c.tc : Thread Cert.QkBwdRefIdeal.nD Cert.QkBwdRefIdeal.τ).loc Cert.QkBwdRefIdeal.main_arg7)
          ∧ r.2.mem ((c.tc : Thread Cert.QkBwdRefIdeal.nD Cert.QkBwdRefIdeal.τ).loc Cert.QkBwdRefIdeal.main_arg8) = m' ((c.tc : Thread Cert.QkBwdRefIdeal.nD Cert.QkBwdRefIdeal.τ).loc Cert.QkBwdRefIdeal.main_arg8)
          ∧ r.2.mem ((c.tc : Thread Cert.QkBwdRefIdeal.nD Cert.QkBwdRefIdeal.τ).loc Cert.QkBwdRefIdeal.main_arg9) = m' ((c.tc : Thread Cert.QkBwdRefIdeal.nD Cert.QkBwdRefIdeal.τ).loc Cert.QkBwdRefIdeal.main_arg9)
          ∧ r.2.mem ((c.tc : Thread Cert.QkBwdRefIdeal.nD Cert.QkBwdRefIdeal.τ).loc Cert.QkBwdRefIdeal.main_arg10) = m' ((c.tc : Thread Cert.QkBwdRefIdeal.nD Cert.QkBwdRefIdeal.τ).loc Cert.QkBwdRefIdeal.main_arg10))

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v132_0)) (v1 : (c : Dev Cert.PoolBwdIdeal.nD) → Buf (Elt Ideal) ((c.tc : Thread Cert.PoolBwdIdeal.nD Cert.PoolBwdIdeal.τ).loc Cert.PoolBwdIdeal.main_v132_1)) (v2 : (c : Dev Cert.PoolBwdIdeal.nD) → Buf (Elt Ideal) ((c.tc : Thread Cert.PoolBwdIdeal.nD Cert.PoolBwdIdeal.τ).loc Cert.PoolBwdIdeal.main_v132_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v132_0) = v0 c
          ∧ r.2.mem ((c.tc : Thread Cert.PoolBwdIdeal.nD Cert.PoolBwdIdeal.τ).loc Cert.PoolBwdIdeal.main_v132_1) = v1 c
          ∧ r.2.mem ((c.tc : Thread Cert.PoolBwdIdeal.nD Cert.PoolBwdIdeal.τ).loc Cert.PoolBwdIdeal.main_v132_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v197) = v0 c
          ∧ r.2.mem ((c.tc : Thread Cert.PoolBwdRefIdeal.nD Cert.PoolBwdRefIdeal.τ).loc Cert.PoolBwdRefIdeal.main_v198) = v1 c
          ∧ r.2.mem ((c.tc : Thread Cert.PoolBwdRefIdeal.nD Cert.PoolBwdRefIdeal.τ).loc Cert.PoolBwdRefIdeal.main_v139) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_MixNormBwd_MixNormBwdIdeal : Prop :=
  True

def algebraic_MixNormBwdIdeal_MixNormBwdRefIdeal_pre_mix_norm_bwd_finite [hMixNormBwdIdeal : Cert.MixNormBwdIdeal.Facts] [hMixNormBwdRefIdeal : Cert.MixNormBwdRefIdeal.Facts] [hPre_mix_norm_bwd_finite : Cert.Pre_mix_norm_bwd_finite.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg)
    (m' : (ℓ : Loc Cert.MixNormBwdRefIdeal.nD Cert.MixNormBwdRefIdeal.τ Cert.MixNormBwdRefIdeal.sig) → Buf (Elt Ideal) ℓ) (g' : Dev Cert.MixNormBwdRefIdeal.nD → PrngReg), Pre_MixNormBwdIdeal_mix_norm_bwd_finite m →
    (∀ c : Dev Cert.MixNormBwdIdeal.nD,
      m' ((c.tc : Thread Cert.MixNormBwdRefIdeal.nD Cert.MixNormBwdRefIdeal.τ).loc Cert.MixNormBwdRefIdeal.main_arg0) = m ((c.tc : Thread Cert.MixNormBwdIdeal.nD Cert.MixNormBwdIdeal.τ).loc Cert.MixNormBwdIdeal.main_arg0)
      ∧ m' ((c.tc : Thread Cert.MixNormBwdRefIdeal.nD Cert.MixNormBwdRefIdeal.τ).loc Cert.MixNormBwdRefIdeal.main_arg1) = m ((c.tc : Thread Cert.MixNormBwdIdeal.nD Cert.MixNormBwdIdeal.τ).loc Cert.MixNormBwdIdeal.main_arg1)
      ∧ m' ((c.tc : Thread Cert.MixNormBwdRefIdeal.nD Cert.MixNormBwdRefIdeal.τ).loc Cert.MixNormBwdRefIdeal.main_arg2) = m ((c.tc : Thread Cert.MixNormBwdIdeal.nD Cert.MixNormBwdIdeal.τ).loc Cert.MixNormBwdIdeal.main_arg2)
      ∧ m' ((c.tc : Thread Cert.MixNormBwdRefIdeal.nD Cert.MixNormBwdRefIdeal.τ).loc Cert.MixNormBwdRefIdeal.main_arg3) = m ((c.tc : Thread Cert.MixNormBwdIdeal.nD Cert.MixNormBwdIdeal.τ).loc Cert.MixNormBwdIdeal.main_arg3)
      ∧ m' ((c.tc : Thread Cert.MixNormBwdRefIdeal.nD Cert.MixNormBwdRefIdeal.τ).loc Cert.MixNormBwdRefIdeal.main_arg4) = m ((c.tc : Thread Cert.MixNormBwdIdeal.nD Cert.MixNormBwdIdeal.τ).loc Cert.MixNormBwdIdeal.main_arg4)
      ∧ m' ((c.tc : Thread Cert.MixNormBwdRefIdeal.nD Cert.MixNormBwdRefIdeal.τ).loc Cert.MixNormBwdRefIdeal.main_arg5) = m ((c.tc : Thread Cert.MixNormBwdIdeal.nD Cert.MixNormBwdIdeal.τ).loc Cert.MixNormBwdIdeal.main_arg5)
      ∧ m' ((c.tc : Thread Cert.MixNormBwdRefIdeal.nD Cert.MixNormBwdRefIdeal.τ).loc Cert.MixNormBwdRefIdeal.main_arg6) = m ((c.tc : Thread Cert.MixNormBwdIdeal.nD Cert.MixNormBwdIdeal.τ).loc Cert.MixNormBwdIdeal.main_arg6)
      ∧ m' ((c.tc : Thread Cert.MixNormBwdRefIdeal.nD Cert.MixNormBwdRefIdeal.τ).loc Cert.MixNormBwdRefIdeal.main_arg7) = m ((c.tc : Thread Cert.MixNormBwdIdeal.nD Cert.MixNormBwdIdeal.τ).loc Cert.MixNormBwdIdeal.main_arg7)
      ∧ m' ((c.tc : Thread Cert.MixNormBwdRefIdeal.nD Cert.MixNormBwdRefIdeal.τ).loc Cert.MixNormBwdRefIdeal.main_arg8) = m ((c.tc : Thread Cert.MixNormBwdIdeal.nD Cert.MixNormBwdIdeal.τ).loc Cert.MixNormBwdIdeal.main_arg8)) →
    ∃ (v0 : (c : Dev Cert.MixNormBwdIdeal.nD) → Buf (Elt Ideal) ((c.tc : Thread Cert.MixNormBwdIdeal.nD Cert.MixNormBwdIdeal.τ).loc Cert.MixNormBwdIdeal.main_v37_0)) (v1 : (c : Dev Cert.MixNormBwdIdeal.nD) → Buf (Elt Ideal) ((c.tc : Thread Cert.MixNormBwdIdeal.nD Cert.MixNormBwdIdeal.τ).loc Cert.MixNormBwdIdeal.main_v37_1)) (v2 : (c : Dev Cert.MixNormBwdIdeal.nD) → Buf (Elt Ideal) ((c.tc : Thread Cert.MixNormBwdIdeal.nD Cert.MixNormBwdIdeal.τ).loc Cert.MixNormBwdIdeal.main_v37_2)) (v3 : (c : Dev Cert.MixNormBwdIdeal.nD) → Buf (Elt Ideal) ((c.tc : Thread Cert.MixNormBwdIdeal.nD Cert.MixNormBwdIdeal.τ).loc Cert.MixNormBwdIdeal.main_v37_3)) (v4 : (c : Dev Cert.MixNormBwdIdeal.nD) → Buf (Elt Ideal) ((c.tc : Thread Cert.MixNormBwdIdeal.nD Cert.MixNormBwdIdeal.τ).loc Cert.MixNormBwdIdeal.main_v37_4)) (v5 : (c : Dev Cert.MixNormBwdIdeal.nD) → Buf (Elt Ideal) ((c.tc : Thread Cert.MixNormBwdIdeal.nD Cert.MixNormBwdIdeal.τ).loc Cert.MixNormBwdIdeal.main_v37_5)),
      θ_run (Cert.MixNormBwdIdeal.defs (F := Ideal)) (onTc (τ := Cert.MixNormBwdIdeal.τ) (Cert.MixNormBwdIdeal.main (F := Ideal))) ⟨m, fun _ => 0, g⟩ (fun r => ∀ c : Dev Cert.MixNormBwdIdeal.nD,
          r.2.mem ((c.tc : Thread Cert.MixNormBwdIdeal.nD Cert.MixNormBwdIdeal.τ).loc Cert.MixNormBwdIdeal.main_v37_0) = v0 c
          ∧ r.2.mem ((c.tc : Thread Cert.MixNormBwdIdeal.nD Cert.MixNormBwdIdeal.τ).loc Cert.MixNormBwdIdeal.main_v37_1) = v1 c
          ∧ r.2.mem ((c.tc : Thread Cert.MixNormBwdIdeal.nD Cert.MixNormBwdIdeal.τ).loc Cert.MixNormBwdIdeal.main_v37_2) = v2 c
          ∧ r.2.mem ((c.tc : Thread Cert.MixNormBwdIdeal.nD Cert.MixNormBwdIdeal.τ).loc Cert.MixNormBwdIdeal.main_v37_3) = v3 c
          ∧ r.2.mem ((c.tc : Thread Cert.MixNormBwdIdeal.nD Cert.MixNormBwdIdeal.τ).loc Cert.MixNormBwdIdeal.main_v37_4) = v4 c
          ∧ r.2.mem ((c.tc : Thread Cert.MixNormBwdIdeal.nD Cert.MixNormBwdIdeal.τ).loc Cert.MixNormBwdIdeal.main_v37_5) = v5 c
          ∧ r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
          ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
          ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
          ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
          ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4)
          ∧ r.2.mem ((c.tc : Thread Cert.MixNormBwdIdeal.nD Cert.MixNormBwdIdeal.τ).loc Cert.MixNormBwdIdeal.main_arg5) = m ((c.tc : Thread Cert.MixNormBwdIdeal.nD Cert.MixNormBwdIdeal.τ).loc Cert.MixNormBwdIdeal.main_arg5)
          ∧ r.2.mem ((c.tc : Thread Cert.MixNormBwdIdeal.nD Cert.MixNormBwdIdeal.τ).loc Cert.MixNormBwdIdeal.main_arg6) = m ((c.tc : Thread Cert.MixNormBwdIdeal.nD Cert.MixNormBwdIdeal.τ).loc Cert.MixNormBwdIdeal.main_arg6)
          ∧ r.2.mem ((c.tc : Thread Cert.MixNormBwdIdeal.nD Cert.MixNormBwdIdeal.τ).loc Cert.MixNormBwdIdeal.main_arg7) = m ((c.tc : Thread Cert.MixNormBwdIdeal.nD Cert.MixNormBwdIdeal.τ).loc Cert.MixNormBwdIdeal.main_arg7)
          ∧ r.2.mem ((c.tc : Thread Cert.MixNormBwdIdeal.nD Cert.MixNormBwdIdeal.τ).loc Cert.MixNormBwdIdeal.main_arg8) = m ((c.tc : Thread Cert.MixNormBwdIdeal.nD Cert.MixNormBwdIdeal.τ).loc Cert.MixNormBwdIdeal.main_arg8))
      ∧ θ_run (Cert.MixNormBwdRefIdeal.defs (F := Ideal)) (onTc (τ := Cert.MixNormBwdRefIdeal.τ) (Cert.MixNormBwdRefIdeal.main (F := Ideal))) ⟨m', fun _ => 0, g'⟩ (fun r => ∀ c : Dev Cert.MixNormBwdRefIdeal.nD,
          r.2.mem ((c.tc : Thread Cert.MixNormBwdRefIdeal.nD Cert.MixNormBwdRefIdeal.τ).loc Cert.MixNormBwdRefIdeal.main_v70) = v0 c
          ∧ r.2.mem ((c.tc : Thread Cert.MixNormBwdRefIdeal.nD Cert.MixNormBwdRefIdeal.τ).loc Cert.MixNormBwdRefIdeal.main_v72) = v1 c
          ∧ r.2.mem ((c.tc : Thread Cert.MixNormBwdRefIdeal.nD Cert.MixNormBwdRefIdeal.τ).loc Cert.MixNormBwdRefIdeal.main_v73) = v2 c
          ∧ r.2.mem ((c.tc : Thread Cert.MixNormBwdRefIdeal.nD Cert.MixNormBwdRefIdeal.τ).loc Cert.MixNormBwdRefIdeal.main_v74) = v3 c
          ∧ r.2.mem ((c.tc : Thread Cert.MixNormBwdRefIdeal.nD Cert.MixNormBwdRefIdeal.τ).loc Cert.MixNormBwdRefIdeal.main_v75) = v4 c
          ∧ r.2.mem ((c.tc : Thread Cert.MixNormBwdRefIdeal.nD Cert.MixNormBwdRefIdeal.τ).loc Cert.MixNormBwdRefIdeal.main_v62) = v5 c
          ∧ r.2.mem ((c.tc : Thread Cert.MixNormBwdRefIdeal.nD Cert.MixNormBwdRefIdeal.τ).loc Cert.MixNormBwdRefIdeal.main_arg0) = m' ((c.tc : Thread Cert.MixNormBwdRefIdeal.nD Cert.MixNormBwdRefIdeal.τ).loc Cert.MixNormBwdRefIdeal.main_arg0)
          ∧ r.2.mem ((c.tc : Thread Cert.MixNormBwdRefIdeal.nD Cert.MixNormBwdRefIdeal.τ).loc Cert.MixNormBwdRefIdeal.main_arg1) = m' ((c.tc : Thread Cert.MixNormBwdRefIdeal.nD Cert.MixNormBwdRefIdeal.τ).loc Cert.MixNormBwdRefIdeal.main_arg1)
          ∧ r.2.mem ((c.tc : Thread Cert.MixNormBwdRefIdeal.nD Cert.MixNormBwdRefIdeal.τ).loc Cert.MixNormBwdRefIdeal.main_arg2) = m' ((c.tc : Thread Cert.MixNormBwdRefIdeal.nD Cert.MixNormBwdRefIdeal.τ).loc Cert.MixNormBwdRefIdeal.main_arg2)
          ∧ r.2.mem ((c.tc : Thread Cert.MixNormBwdRefIdeal.nD Cert.MixNormBwdRefIdeal.τ).loc Cert.MixNormBwdRefIdeal.main_arg3) = m' ((c.tc : Thread Cert.MixNormBwdRefIdeal.nD Cert.MixNormBwdRefIdeal.τ).loc Cert.MixNormBwdRefIdeal.main_arg3)
          ∧ r.2.mem ((c.tc : Thread Cert.MixNormBwdRefIdeal.nD Cert.MixNormBwdRefIdeal.τ).loc Cert.MixNormBwdRefIdeal.main_arg4) = m' ((c.tc : Thread Cert.MixNormBwdRefIdeal.nD Cert.MixNormBwdRefIdeal.τ).loc Cert.MixNormBwdRefIdeal.main_arg4)
          ∧ r.2.mem ((c.tc : Thread Cert.MixNormBwdRefIdeal.nD Cert.MixNormBwdRefIdeal.τ).loc Cert.MixNormBwdRefIdeal.main_arg5) = m' ((c.tc : Thread Cert.MixNormBwdRefIdeal.nD Cert.MixNormBwdRefIdeal.τ).loc Cert.MixNormBwdRefIdeal.main_arg5)
          ∧ r.2.mem ((c.tc : Thread Cert.MixNormBwdRefIdeal.nD Cert.MixNormBwdRefIdeal.τ).loc Cert.MixNormBwdRefIdeal.main_arg6) = m' ((c.tc : Thread Cert.MixNormBwdRefIdeal.nD Cert.MixNormBwdRefIdeal.τ).loc Cert.MixNormBwdRefIdeal.main_arg6)
          ∧ r.2.mem ((c.tc : Thread Cert.MixNormBwdRefIdeal.nD Cert.MixNormBwdRefIdeal.τ).loc Cert.MixNormBwdRefIdeal.main_arg7) = m' ((c.tc : Thread Cert.MixNormBwdRefIdeal.nD Cert.MixNormBwdRefIdeal.τ).loc Cert.MixNormBwdRefIdeal.main_arg7)
          ∧ r.2.mem ((c.tc : Thread Cert.MixNormBwdRefIdeal.nD Cert.MixNormBwdRefIdeal.τ).loc Cert.MixNormBwdRefIdeal.main_arg8) = m' ((c.tc : Thread Cert.MixNormBwdRefIdeal.nD Cert.MixNormBwdRefIdeal.τ).loc Cert.MixNormBwdRefIdeal.main_arg8))

def preserves_FirstNormBwd_FirstNormBwdIdeal : Prop :=
  True

def algebraic_FirstNormBwdIdeal_FirstNormBwdRefIdeal_pre_first_norm_bwd_finite [hFirstNormBwdIdeal : Cert.FirstNormBwdIdeal.Facts] [hFirstNormBwdRefIdeal : Cert.FirstNormBwdRefIdeal.Facts] [hPre_first_norm_bwd_finite : Cert.Pre_first_norm_bwd_finite.Facts] : Prop :=
  ∀ (m : (ℓ : Loc Cert.FirstNormBwdIdeal.nD Cert.FirstNormBwdIdeal.τ Cert.FirstNormBwdIdeal.sig) → Buf (Elt Ideal) ℓ) (g : Dev Cert.FirstNormBwdIdeal.nD → PrngReg)
    (m' : (ℓ : Loc Cert.FirstNormBwdRefIdeal.nD Cert.FirstNormBwdRefIdeal.τ Cert.FirstNormBwdRefIdeal.sig) → Buf (Elt Ideal) ℓ) (g' : Dev Cert.FirstNormBwdRefIdeal.nD → PrngReg), Pre_FirstNormBwdIdeal_first_norm_bwd_finite m →
    (∀ c : Dev Cert.FirstNormBwdIdeal.nD,
      m' ((c.tc : Thread Cert.FirstNormBwdRefIdeal.nD Cert.FirstNormBwdRefIdeal.τ).loc Cert.FirstNormBwdRefIdeal.main_arg0) = m ((c.tc : Thread Cert.FirstNormBwdIdeal.nD Cert.FirstNormBwdIdeal.τ).loc Cert.FirstNormBwdIdeal.main_arg0)
      ∧ m' ((c.tc : Thread Cert.FirstNormBwdRefIdeal.nD Cert.FirstNormBwdRefIdeal.τ).loc Cert.FirstNormBwdRefIdeal.main_arg1) = m ((c.tc : Thread Cert.FirstNormBwdIdeal.nD Cert.FirstNormBwdIdeal.τ).loc Cert.FirstNormBwdIdeal.main_arg1)
      ∧ m' ((c.tc : Thread Cert.FirstNormBwdRefIdeal.nD Cert.FirstNormBwdRefIdeal.τ).loc Cert.FirstNormBwdRefIdeal.main_arg2) = m ((c.tc : Thread Cert.FirstNormBwdIdeal.nD Cert.FirstNormBwdIdeal.τ).loc Cert.FirstNormBwdIdeal.main_arg2)
      ∧ m' ((c.tc : Thread Cert.FirstNormBwdRefIdeal.nD Cert.FirstNormBwdRefIdeal.τ).loc Cert.FirstNormBwdRefIdeal.main_arg3) = m ((c.tc : Thread Cert.FirstNormBwdIdeal.nD Cert.FirstNormBwdIdeal.τ).loc Cert.FirstNormBwdIdeal.main_arg3)
      ∧ m' ((c.tc : Thread Cert.FirstNormBwdRefIdeal.nD Cert.FirstNormBwdRefIdeal.τ).loc Cert.FirstNormBwdRefIdeal.main_arg4) = m ((c.tc : Thread Cert.FirstNormBwdIdeal.nD Cert.FirstNormBwdIdeal.τ).loc Cert.FirstNormBwdIdeal.main_arg4)
      ∧ m' ((c.tc : Thread Cert.FirstNormBwdRefIdeal.nD Cert.FirstNormBwdRefIdeal.τ).loc Cert.FirstNormBwdRefIdeal.main_arg5) = m ((c.tc : Thread Cert.FirstNormBwdIdeal.nD Cert.FirstNormBwdIdeal.τ).loc Cert.FirstNormBwdIdeal.main_arg5)
      ∧ m' ((c.tc : Thread Cert.FirstNormBwdRefIdeal.nD Cert.FirstNormBwdRefIdeal.τ).loc Cert.FirstNormBwdRefIdeal.main_arg6) = m ((c.tc : Thread Cert.FirstNormBwdIdeal.nD Cert.FirstNormBwdIdeal.τ).loc Cert.FirstNormBwdIdeal.main_arg6)) →
    ∃ (v0 : (c : Dev Cert.FirstNormBwdIdeal.nD) → Buf (Elt Ideal) ((c.tc : Thread Cert.FirstNormBwdIdeal.nD Cert.FirstNormBwdIdeal.τ).loc Cert.FirstNormBwdIdeal.main_v8_0)) (v1 : (c : Dev Cert.FirstNormBwdIdeal.nD) → Buf (Elt Ideal) ((c.tc : Thread Cert.FirstNormBwdIdeal.nD Cert.FirstNormBwdIdeal.τ).loc Cert.FirstNormBwdIdeal.main_v8_1)) (v2 : (c : Dev Cert.FirstNormBwdIdeal.nD) → Buf (Elt Ideal) ((c.tc : Thread Cert.FirstNormBwdIdeal.nD Cert.FirstNormBwdIdeal.τ).loc Cert.FirstNormBwdIdeal.main_v8_2)) (v3 : (c : Dev Cert.FirstNormBwdIdeal.nD) → Buf (Elt Ideal) ((c.tc : Thread Cert.FirstNormBwdIdeal.nD Cert.FirstNormBwdIdeal.τ).loc Cert.FirstNormBwdIdeal.main_v8_3)),
      θ_run (Cert.FirstNormBwdIdeal.defs (F := Ideal)) (onTc (τ := Cert.FirstNormBwdIdeal.τ) (Cert.FirstNormBwdIdeal.main (F := Ideal))) ⟨m, fun _ => 0, g⟩ (fun r => ∀ c : Dev Cert.FirstNormBwdIdeal.nD,
          r.2.mem ((c.tc : Thread Cert.FirstNormBwdIdeal.nD Cert.FirstNormBwdIdeal.τ).loc Cert.FirstNormBwdIdeal.main_v8_0) = v0 c
          ∧ r.2.mem ((c.tc : Thread Cert.FirstNormBwdIdeal.nD Cert.FirstNormBwdIdeal.τ).loc Cert.FirstNormBwdIdeal.main_v8_1) = v1 c
          ∧ r.2.mem ((c.tc : Thread Cert.FirstNormBwdIdeal.nD Cert.FirstNormBwdIdeal.τ).loc Cert.FirstNormBwdIdeal.main_v8_2) = v2 c
          ∧ r.2.mem ((c.tc : Thread Cert.FirstNormBwdIdeal.nD Cert.FirstNormBwdIdeal.τ).loc Cert.FirstNormBwdIdeal.main_v8_3) = v3 c
          ∧ r.2.mem ((c.tc : Thread Cert.FirstNormBwdIdeal.nD Cert.FirstNormBwdIdeal.τ).loc Cert.FirstNormBwdIdeal.main_arg0) = m ((c.tc : Thread Cert.FirstNormBwdIdeal.nD Cert.FirstNormBwdIdeal.τ).loc Cert.FirstNormBwdIdeal.main_arg0)
          ∧ r.2.mem ((c.tc : Thread Cert.FirstNormBwdIdeal.nD Cert.FirstNormBwdIdeal.τ).loc Cert.FirstNormBwdIdeal.main_arg1) = m ((c.tc : Thread Cert.FirstNormBwdIdeal.nD Cert.FirstNormBwdIdeal.τ).loc Cert.FirstNormBwdIdeal.main_arg1)
          ∧ r.2.mem ((c.tc : Thread Cert.FirstNormBwdIdeal.nD Cert.FirstNormBwdIdeal.τ).loc Cert.FirstNormBwdIdeal.main_arg2) = m ((c.tc : Thread Cert.FirstNormBwdIdeal.nD Cert.FirstNormBwdIdeal.τ).loc Cert.FirstNormBwdIdeal.main_arg2)
          ∧ r.2.mem ((c.tc : Thread Cert.FirstNormBwdIdeal.nD Cert.FirstNormBwdIdeal.τ).loc Cert.FirstNormBwdIdeal.main_arg3) = m ((c.tc : Thread Cert.FirstNormBwdIdeal.nD Cert.FirstNormBwdIdeal.τ).loc Cert.FirstNormBwdIdeal.main_arg3)
          ∧ r.2.mem ((c.tc : Thread Cert.FirstNormBwdIdeal.nD Cert.FirstNormBwdIdeal.τ).loc Cert.FirstNormBwdIdeal.main_arg4) = m ((c.tc : Thread Cert.FirstNormBwdIdeal.nD Cert.FirstNormBwdIdeal.τ).loc Cert.FirstNormBwdIdeal.main_arg4)
          ∧ r.2.mem ((c.tc : Thread Cert.FirstNormBwdIdeal.nD Cert.FirstNormBwdIdeal.τ).loc Cert.FirstNormBwdIdeal.main_arg5) = m ((c.tc : Thread Cert.FirstNormBwdIdeal.nD Cert.FirstNormBwdIdeal.τ).loc Cert.FirstNormBwdIdeal.main_arg5)
          ∧ r.2.mem ((c.tc : Thread Cert.FirstNormBwdIdeal.nD Cert.FirstNormBwdIdeal.τ).loc Cert.FirstNormBwdIdeal.main_arg6) = m ((c.tc : Thread Cert.FirstNormBwdIdeal.nD Cert.FirstNormBwdIdeal.τ).loc Cert.FirstNormBwdIdeal.main_arg6))
      ∧ θ_run (Cert.FirstNormBwdRefIdeal.defs (F := Ideal)) (onTc (τ := Cert.FirstNormBwdRefIdeal.τ) (Cert.FirstNormBwdRefIdeal.main (F := Ideal))) ⟨m', fun _ => 0, g'⟩ (fun r => ∀ c : Dev Cert.FirstNormBwdRefIdeal.nD,
          r.2.mem ((c.tc : Thread Cert.FirstNormBwdRefIdeal.nD Cert.FirstNormBwdRefIdeal.τ).loc Cert.FirstNormBwdRefIdeal.main_v59) = v0 c
          ∧ r.2.mem ((c.tc : Thread Cert.FirstNormBwdRefIdeal.nD Cert.FirstNormBwdRefIdeal.τ).loc Cert.FirstNormBwdRefIdeal.main_v60) = v1 c
          ∧ r.2.mem ((c.tc : Thread Cert.FirstNormBwdRefIdeal.nD Cert.FirstNormBwdRefIdeal.τ).loc Cert.FirstNormBwdRefIdeal.main_v61) = v2 c
          ∧ r.2.mem ((c.tc : Thread Cert.FirstNormBwdRefIdeal.nD Cert.FirstNormBwdRefIdeal.τ).loc Cert.FirstNormBwdRefIdeal.main_v58) = v3 c
          ∧ r.2.mem ((c.tc : Thread Cert.FirstNormBwdRefIdeal.nD Cert.FirstNormBwdRefIdeal.τ).loc Cert.FirstNormBwdRefIdeal.main_arg0) = m' ((c.tc : Thread Cert.FirstNormBwdRefIdeal.nD Cert.FirstNormBwdRefIdeal.τ).loc Cert.FirstNormBwdRefIdeal.main_arg0)
          ∧ r.2.mem ((c.tc : Thread Cert.FirstNormBwdRefIdeal.nD Cert.FirstNormBwdRefIdeal.τ).loc Cert.FirstNormBwdRefIdeal.main_arg1) = m' ((c.tc : Thread Cert.FirstNormBwdRefIdeal.nD Cert.FirstNormBwdRefIdeal.τ).loc Cert.FirstNormBwdRefIdeal.main_arg1)
          ∧ r.2.mem ((c.tc : Thread Cert.FirstNormBwdRefIdeal.nD Cert.FirstNormBwdRefIdeal.τ).loc Cert.FirstNormBwdRefIdeal.main_arg2) = m' ((c.tc : Thread Cert.FirstNormBwdRefIdeal.nD Cert.FirstNormBwdRefIdeal.τ).loc Cert.FirstNormBwdRefIdeal.main_arg2)
          ∧ r.2.mem ((c.tc : Thread Cert.FirstNormBwdRefIdeal.nD Cert.FirstNormBwdRefIdeal.τ).loc Cert.FirstNormBwdRefIdeal.main_arg3) = m' ((c.tc : Thread Cert.FirstNormBwdRefIdeal.nD Cert.FirstNormBwdRefIdeal.τ).loc Cert.FirstNormBwdRefIdeal.main_arg3)
          ∧ r.2.mem ((c.tc : Thread Cert.FirstNormBwdRefIdeal.nD Cert.FirstNormBwdRefIdeal.τ).loc Cert.FirstNormBwdRefIdeal.main_arg4) = m' ((c.tc : Thread Cert.FirstNormBwdRefIdeal.nD Cert.FirstNormBwdRefIdeal.τ).loc Cert.FirstNormBwdRefIdeal.main_arg4)
          ∧ r.2.mem ((c.tc : Thread Cert.FirstNormBwdRefIdeal.nD Cert.FirstNormBwdRefIdeal.τ).loc Cert.FirstNormBwdRefIdeal.main_arg5) = m' ((c.tc : Thread Cert.FirstNormBwdRefIdeal.nD Cert.FirstNormBwdRefIdeal.τ).loc Cert.FirstNormBwdRefIdeal.main_arg5)
          ∧ r.2.mem ((c.tc : Thread Cert.FirstNormBwdRefIdeal.nD Cert.FirstNormBwdRefIdeal.τ).loc Cert.FirstNormBwdRefIdeal.main_arg6) = m' ((c.tc : Thread Cert.FirstNormBwdRefIdeal.nD Cert.FirstNormBwdRefIdeal.τ).loc Cert.FirstNormBwdRefIdeal.main_arg6))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v13_0)) (v1 : (c : Dev Cert.AttnFwdIdeal.nD) → Buf (Elt Ideal) ((c.tc : Thread Cert.AttnFwdIdeal.nD Cert.AttnFwdIdeal.τ).loc Cert.AttnFwdIdeal.main_v13_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v13_0) = v0 c
          ∧ r.2.mem ((c.tc : Thread Cert.AttnFwdIdeal.nD Cert.AttnFwdIdeal.τ).loc Cert.AttnFwdIdeal.main_v13_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v39) = v0 c
          ∧ r.2.mem ((c.tc : Thread Cert.AttnFwdRefIdeal.nD Cert.AttnFwdRefIdeal.τ).loc Cert.AttnFwdRefIdeal.main_v40) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v5_0)) (v1 : (c : Dev Cert.FfnInIdeal.nD) → Buf (Elt Ideal) ((c.tc : Thread Cert.FfnInIdeal.nD Cert.FfnInIdeal.τ).loc Cert.FfnInIdeal.main_v5_1)) (v2 : (c : Dev Cert.FfnInIdeal.nD) → Buf (Elt Ideal) ((c.tc : Thread Cert.FfnInIdeal.nD Cert.FfnInIdeal.τ).loc Cert.FfnInIdeal.main_v5_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v5_0) = v0 c
          ∧ r.2.mem ((c.tc : Thread Cert.FfnInIdeal.nD Cert.FfnInIdeal.τ).loc Cert.FfnInIdeal.main_v5_1) = v1 c
          ∧ r.2.mem ((c.tc : Thread Cert.FfnInIdeal.nD Cert.FfnInIdeal.τ).loc Cert.FfnInIdeal.main_v5_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_v9) = v1 c
          ∧ r.2.mem ((c.tc : Thread Cert.FfnInRefIdeal.nD Cert.FfnInRefIdeal.τ).loc Cert.FfnInRefIdeal.main_v11) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_NormFwd_NormFwdIdeal : Prop :=
  True

def algebraic_NormFwdIdeal_NormFwdRefIdeal_pre_norm_fwd_finite [hNormFwdIdeal : Cert.NormFwdIdeal.Facts] [hNormFwdRefIdeal : Cert.NormFwdRefIdeal.Facts] [hPre_norm_fwd_finite : Cert.Pre_norm_fwd_finite.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal_norm_fwd_finite m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v3)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v3) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v23) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def Claim : Prop :=
  ∃ (hHiddenGrad : Cert.HiddenGrad.Facts) (hHiddenGradIdeal : Cert.HiddenGradIdeal.Facts) (hHiddenGradRefIdeal : Cert.HiddenGradRefIdeal.Facts) (hOutLoss : Cert.OutLoss.Facts) (hOutLossIdeal : Cert.OutLossIdeal.Facts) (hOutLossRefIdeal : Cert.OutLossRefIdeal.Facts) (hMergeBwd : Cert.MergeBwd.Facts) (hMergeBwdIdeal : Cert.MergeBwdIdeal.Facts) (hMergeBwdRefIdeal : Cert.MergeBwdRefIdeal.Facts) (hLatentBwd : Cert.LatentBwd.Facts) (hLatentBwdIdeal : Cert.LatentBwdIdeal.Facts) (hLatentBwdRefIdeal : Cert.LatentBwdRefIdeal.Facts) (hNormBwd : Cert.NormBwd.Facts) (hNormBwdIdeal : Cert.NormBwdIdeal.Facts) (hNormBwdRefIdeal : Cert.NormBwdRefIdeal.Facts) (hAttnBwd : Cert.AttnBwd.Facts) (hAttnBwdIdeal : Cert.AttnBwdIdeal.Facts) (hAttnBwdRefIdeal : Cert.AttnBwdRefIdeal.Facts) (hQkBwd : Cert.QkBwd.Facts) (hQkBwdIdeal : Cert.QkBwdIdeal.Facts) (hQkBwdRefIdeal : Cert.QkBwdRefIdeal.Facts) (hPoolBwd : Cert.PoolBwd.Facts) (hPoolBwdIdeal : Cert.PoolBwdIdeal.Facts) (hPoolBwdRefIdeal : Cert.PoolBwdRefIdeal.Facts) (hMixNormBwd : Cert.MixNormBwd.Facts) (hMixNormBwdIdeal : Cert.MixNormBwdIdeal.Facts) (hMixNormBwdRefIdeal : Cert.MixNormBwdRefIdeal.Facts) (hFirstNormBwd : Cert.FirstNormBwd.Facts) (hFirstNormBwdIdeal : Cert.FirstNormBwdIdeal.Facts) (hFirstNormBwdRefIdeal : Cert.FirstNormBwdRefIdeal.Facts) (hAttnFwd : Cert.AttnFwd.Facts) (hAttnFwdIdeal : Cert.AttnFwdIdeal.Facts) (hAttnFwdRefIdeal : Cert.AttnFwdRefIdeal.Facts) (hFfnIn : Cert.FfnIn.Facts) (hFfnInIdeal : Cert.FfnInIdeal.Facts) (hFfnInRefIdeal : Cert.FfnInRefIdeal.Facts) (hNormFwd : Cert.NormFwd.Facts) (hNormFwdIdeal : Cert.NormFwdIdeal.Facts) (hNormFwdRefIdeal : Cert.NormFwdRefIdeal.Facts) (hPre_hidden_grad_finite : Cert.Pre_hidden_grad_finite.Facts) (hPre_latent_bwd_finite : Cert.Pre_latent_bwd_finite.Facts) (hPre_norm_bwd_finite : Cert.Pre_norm_bwd_finite.Facts) (hPre_attn_bwd_finite : Cert.Pre_attn_bwd_finite.Facts) (hPre_qk_bwd_finite : Cert.Pre_qk_bwd_finite.Facts) (hPre_pool_bwd_finite : Cert.Pre_pool_bwd_finite.Facts) (hPre_mix_norm_bwd_finite : Cert.Pre_mix_norm_bwd_finite.Facts) (hPre_first_norm_bwd_finite : Cert.Pre_first_norm_bwd_finite.Facts) (hPre_attn_fwd_finite : Cert.Pre_attn_fwd_finite.Facts) (hPre_norm_fwd_finite : Cert.Pre_norm_fwd_finite.Facts),
    quiescent_HiddenGrad (hHiddenGrad := hHiddenGrad)
    ∧ quiescent_HiddenGradIdeal (hHiddenGradIdeal := hHiddenGradIdeal)
    ∧ quiescent_HiddenGradIdeal_pre_hidden_grad_finite (hHiddenGradIdeal := hHiddenGradIdeal) (hPre_hidden_grad_finite := hPre_hidden_grad_finite)
    ∧ quiescent_HiddenGradRefIdeal (hHiddenGradRefIdeal := hHiddenGradRefIdeal)
    ∧ quiescent_HiddenGradRefIdeal_pre_hidden_grad_finite (hHiddenGradRefIdeal := hHiddenGradRefIdeal) (hPre_hidden_grad_finite := hPre_hidden_grad_finite)
    ∧ quiescent_OutLoss (hOutLoss := hOutLoss)
    ∧ quiescent_OutLossIdeal (hOutLossIdeal := hOutLossIdeal)
    ∧ quiescent_OutLossRefIdeal (hOutLossRefIdeal := hOutLossRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_LatentBwd (hLatentBwd := hLatentBwd)
    ∧ quiescent_LatentBwdIdeal (hLatentBwdIdeal := hLatentBwdIdeal)
    ∧ quiescent_LatentBwdIdeal_pre_latent_bwd_finite (hLatentBwdIdeal := hLatentBwdIdeal) (hPre_latent_bwd_finite := hPre_latent_bwd_finite)
    ∧ quiescent_LatentBwdRefIdeal (hLatentBwdRefIdeal := hLatentBwdRefIdeal)
    ∧ quiescent_LatentBwdRefIdeal_pre_latent_bwd_finite (hLatentBwdRefIdeal := hLatentBwdRefIdeal) (hPre_latent_bwd_finite := hPre_latent_bwd_finite)
    ∧ quiescent_NormBwd (hNormBwd := hNormBwd)
    ∧ quiescent_NormBwdIdeal (hNormBwdIdeal := hNormBwdIdeal)
    ∧ quiescent_NormBwdIdeal_pre_norm_bwd_finite (hNormBwdIdeal := hNormBwdIdeal) (hPre_norm_bwd_finite := hPre_norm_bwd_finite)
    ∧ quiescent_NormBwdRefIdeal (hNormBwdRefIdeal := hNormBwdRefIdeal)
    ∧ quiescent_NormBwdRefIdeal_pre_norm_bwd_finite (hNormBwdRefIdeal := hNormBwdRefIdeal) (hPre_norm_bwd_finite := hPre_norm_bwd_finite)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnBwdRefIdeal (hAttnBwdRefIdeal := hAttnBwdRefIdeal)
    ∧ quiescent_AttnBwdRefIdeal_pre_attn_bwd_finite (hAttnBwdRefIdeal := hAttnBwdRefIdeal) (hPre_attn_bwd_finite := hPre_attn_bwd_finite)
    ∧ quiescent_QkBwd (hQkBwd := hQkBwd)
    ∧ quiescent_QkBwdIdeal (hQkBwdIdeal := hQkBwdIdeal)
    ∧ quiescent_QkBwdIdeal_pre_qk_bwd_finite (hQkBwdIdeal := hQkBwdIdeal) (hPre_qk_bwd_finite := hPre_qk_bwd_finite)
    ∧ quiescent_QkBwdRefIdeal (hQkBwdRefIdeal := hQkBwdRefIdeal)
    ∧ quiescent_QkBwdRefIdeal_pre_qk_bwd_finite (hQkBwdRefIdeal := hQkBwdRefIdeal) (hPre_qk_bwd_finite := hPre_qk_bwd_finite)
    ∧ quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_MixNormBwd (hMixNormBwd := hMixNormBwd)
    ∧ quiescent_MixNormBwdIdeal (hMixNormBwdIdeal := hMixNormBwdIdeal)
    ∧ quiescent_MixNormBwdIdeal_pre_mix_norm_bwd_finite (hMixNormBwdIdeal := hMixNormBwdIdeal) (hPre_mix_norm_bwd_finite := hPre_mix_norm_bwd_finite)
    ∧ quiescent_MixNormBwdRefIdeal (hMixNormBwdRefIdeal := hMixNormBwdRefIdeal)
    ∧ quiescent_MixNormBwdRefIdeal_pre_mix_norm_bwd_finite (hMixNormBwdRefIdeal := hMixNormBwdRefIdeal) (hPre_mix_norm_bwd_finite := hPre_mix_norm_bwd_finite)
    ∧ quiescent_FirstNormBwd (hFirstNormBwd := hFirstNormBwd)
    ∧ quiescent_FirstNormBwdIdeal (hFirstNormBwdIdeal := hFirstNormBwdIdeal)
    ∧ quiescent_FirstNormBwdIdeal_pre_first_norm_bwd_finite (hFirstNormBwdIdeal := hFirstNormBwdIdeal) (hPre_first_norm_bwd_finite := hPre_first_norm_bwd_finite)
    ∧ quiescent_FirstNormBwdRefIdeal (hFirstNormBwdRefIdeal := hFirstNormBwdRefIdeal)
    ∧ quiescent_FirstNormBwdRefIdeal_pre_first_norm_bwd_finite (hFirstNormBwdRefIdeal := hFirstNormBwdRefIdeal) (hPre_first_norm_bwd_finite := hPre_first_norm_bwd_finite)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_NormFwd (hNormFwd := hNormFwd)
    ∧ quiescent_NormFwdIdeal (hNormFwdIdeal := hNormFwdIdeal)
    ∧ quiescent_NormFwdIdeal_pre_norm_fwd_finite (hNormFwdIdeal := hNormFwdIdeal) (hPre_norm_fwd_finite := hPre_norm_fwd_finite)
    ∧ quiescent_NormFwdRefIdeal (hNormFwdRefIdeal := hNormFwdRefIdeal)
    ∧ quiescent_NormFwdRefIdeal_pre_norm_fwd_finite (hNormFwdRefIdeal := hNormFwdRefIdeal) (hPre_norm_fwd_finite := hPre_norm_fwd_finite)
    ∧ preserves_HiddenGrad_HiddenGradIdeal
    ∧ algebraic_HiddenGradIdeal_HiddenGradRefIdeal_pre_hidden_grad_finite (hHiddenGradIdeal := hHiddenGradIdeal) (hHiddenGradRefIdeal := hHiddenGradRefIdeal) (hPre_hidden_grad_finite := hPre_hidden_grad_finite)
    ∧ preserves_OutLoss_OutLossIdeal
    ∧ algebraic_OutLossIdeal_OutLossRefIdeal (hOutLossIdeal := hOutLossIdeal) (hOutLossRefIdeal := hOutLossRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_LatentBwd_LatentBwdIdeal
    ∧ algebraic_LatentBwdIdeal_LatentBwdRefIdeal_pre_latent_bwd_finite (hLatentBwdIdeal := hLatentBwdIdeal) (hLatentBwdRefIdeal := hLatentBwdRefIdeal) (hPre_latent_bwd_finite := hPre_latent_bwd_finite)
    ∧ preserves_NormBwd_NormBwdIdeal
    ∧ algebraic_NormBwdIdeal_NormBwdRefIdeal_pre_norm_bwd_finite (hNormBwdIdeal := hNormBwdIdeal) (hNormBwdRefIdeal := hNormBwdRefIdeal) (hPre_norm_bwd_finite := hPre_norm_bwd_finite)
    ∧ preserves_AttnBwd_AttnBwdIdeal
    ∧ algebraic_AttnBwdIdeal_AttnBwdRefIdeal_pre_attn_bwd_finite (hAttnBwdIdeal := hAttnBwdIdeal) (hAttnBwdRefIdeal := hAttnBwdRefIdeal) (hPre_attn_bwd_finite := hPre_attn_bwd_finite)
    ∧ preserves_QkBwd_QkBwdIdeal
    ∧ algebraic_QkBwdIdeal_QkBwdRefIdeal_pre_qk_bwd_finite (hQkBwdIdeal := hQkBwdIdeal) (hQkBwdRefIdeal := hQkBwdRefIdeal) (hPre_qk_bwd_finite := hPre_qk_bwd_finite)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_MixNormBwd_MixNormBwdIdeal
    ∧ algebraic_MixNormBwdIdeal_MixNormBwdRefIdeal_pre_mix_norm_bwd_finite (hMixNormBwdIdeal := hMixNormBwdIdeal) (hMixNormBwdRefIdeal := hMixNormBwdRefIdeal) (hPre_mix_norm_bwd_finite := hPre_mix_norm_bwd_finite)
    ∧ preserves_FirstNormBwd_FirstNormBwdIdeal
    ∧ algebraic_FirstNormBwdIdeal_FirstNormBwdRefIdeal_pre_first_norm_bwd_finite (hFirstNormBwdIdeal := hFirstNormBwdIdeal) (hFirstNormBwdRefIdeal := hFirstNormBwdRefIdeal) (hPre_first_norm_bwd_finite := hPre_first_norm_bwd_finite)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_FfnIn_FfnInIdeal
    ∧ algebraic_FfnInIdeal_FfnInRefIdeal (hFfnInIdeal := hFfnInIdeal) (hFfnInRefIdeal := hFfnInRefIdeal)
    ∧ preserves_NormFwd_NormFwdIdeal
    ∧ algebraic_NormFwdIdeal_NormFwdRefIdeal_pre_norm_fwd_finite (hNormFwdIdeal := hNormFwdIdeal) (hNormFwdRefIdeal := hNormFwdRefIdeal) (hPre_norm_fwd_finite := hPre_norm_fwd_finite)
-- ==== Pre_attn_bwd_finite.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x8x32 : S_.BroadcastsInDim S2x2048x8x32 (![] : Fin 0 → Fin S2x2048x8x32.rank)
  reducesTo_S2x2048x8x32_S_d0_1_2_3 : S2x2048x8x32.ReducesTo [0, 1, 2, 3] S_
  bcast_S_S2x2048x32 : S_.BroadcastsInDim S2x2048x32 (![] : Fin 0 → Fin S2x2048x32.rank)
  reducesTo_S2x2048x32_S_d0_1_2 : S2x2048x32.ReducesTo [0, 1, 2] S_

variable [Facts]

def fn_part1 {F : FTy → Type} [FloatOps F] (main_arg4 : FVec F S2x2048x8x64 .f32) (main_arg5 : FVec F S2x2048x8x64 .f32) (main_v3 : IVec S_ 1) (main_v7 : IVec S_ 1) (main_v11 : IVec S_ 1) (main_v15 : IVec S_ 1) : IVec S_ 1 :=
  let main_v16 : FVec F S2x2048x8x64 .f32 := Host.absf main_arg4
  let main_cst_6 : FVec F S_ .f32 := constant S_ .f32 0x7F800000#32
  let main_v17 : FVec F S2x2048x8x64 .f32 := broadcastInDim S2x2048x8x64 ![] bcast_S_S2x2048x8x64 main_cst_6
  let main_v18 : IVec S2x2048x8x64 1 := cmpf .olt main_v16 main_v17
  let main_c_7 : IVec S_ 1 := constantI S_ 1 1#1
  let main_v19 : IVec S_ 1 := (fun x v => Host.reduce IntOp.andi x v reducesTo_S2x2048x8x64_S_d0_1_2_3 h_S_) main_v18 main_c_7
  let main_v20 : FVec F S2x2048x8x64 .f32 := Host.absf main_arg5
  let main_cst_8 : FVec F S_ .f32 := constant S_ .f32 0x7F800000#32
  let main_v21 : FVec F S2x2048x8x64 .f32 := broadcastInDim S2x2048x8x64 ![] bcast_S_S2x2048x8x64 main_cst_8
  let main_v22 : IVec S2x2048x8x64 1 := cmpf .olt main_v20 main_v21
  let main_c_9 : IVec S_ 1 := constantI S_ 1 1#1
  let main_v23 : IVec S_ 1 := (fun x v => Host.reduce IntOp.andi x v reducesTo_S2x2048x8x64_S_d0_1_2_3 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x2048x8x64 .f32) (main_arg1 : FVec F S2x2048x8x32 .f32) (main_arg2 : FVec F S2x2048x8x64 .f32) (main_arg3 : FVec F S2x2048x32 .f32) (main_arg4 : FVec F S2x2048x8x64 .f32) (main_arg5 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x32 .f32 := Host.absf main_arg1
  let main_cst_0 : FVec F S_ .f32 := constant S_ .f32 0x7F800000#32
  let main_v5 : FVec F S2x2048x8x32 .f32 := broadcastInDim S2x2048x8x32 ![] bcast_S_S2x2048x8x32 main_cst_0
  let main_v6 : IVec S2x2048x8x32 1 := cmpf .olt main_v4 main_v5
  let main_c_1 : IVec S_ 1 := constantI S_ 1 1#1
  let main_v7 : IVec S_ 1 := (fun x v => Host.reduce IntOp.andi x v reducesTo_S2x2048x8x32_S_d0_1_2_3 h_S_) main_v6 main_c_1
  let main_v8 : FVec F S2x2048x8x64 .f32 := Host.absf main_arg2
  let main_cst_2 : FVec F S_ .f32 := constant S_ .f32 0x7F800000#32
  let main_v9 : FVec F S2x2048x8x64 .f32 := broadcastInDim S2x2048x8x64 ![] bcast_S_S2x2048x8x64 main_cst_2
  let main_v10 : IVec S2x2048x8x64 1 := cmpf .olt main_v8 main_v9
  let main_c_3 : IVec S_ 1 := constantI S_ 1 1#1
  let main_v11 : IVec S_ 1 := (fun x v => Host.reduce IntOp.andi x v reducesTo_S2x2048x8x64_S_d0_1_2_3 h_S_) main_v10 main_c_3
  let main_v12 : FVec F S2x2048x32 .f32 := Host.absf main_arg3
  let main_cst_4 : FVec F S_ .f32 := constant S_ .f32 0x7F800000#32
  let main_v13 : FVec F S2x2048x32 .f32 := broadcastInDim S2x2048x32 ![] bcast_S_S2x2048x32 main_cst_4
  let main_v14 : IVec S2x2048x32 1 := cmpf .olt main_v12 main_v13
  let main_c_5 : IVec S_ 1 := constantI S_ 1 1#1
  let main_v15 : IVec S_ 1 := (fun x v => Host.reduce IntOp.andi x v reducesTo_S2x2048x32_S_d0_1_2 h_S_) main_v14 main_c_5
  fn_part1 (F := F) main_arg4 main_arg5 main_v3 main_v7 main_v11 main_v15
-- ==== Pre_attn_fwd_finite.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x8x32 : S_.BroadcastsInDim S2x2048x8x32 (![] : Fin 0 → Fin S2x2048x8x32.rank)
  reducesTo_S2x2048x8x32_S_d0_1_2_3 : S2x2048x8x32.ReducesTo [0, 1, 2, 3] S_
  bcast_S_S2x2048x32 : S_.BroadcastsInDim S2x2048x32 (![] : Fin 0 → Fin S2x2048x32.rank)
  reducesTo_S2x2048x32_S_d0_1_2 : S2x2048x32.ReducesTo [0, 1, 2] S_

variable [Facts]

def fn_part1 {F : FTy → Type} [FloatOps F] (main_arg4 : FVec F S2x2048x8x64 .f32) (main_v3 : IVec S_ 1) (main_v7 : IVec S_ 1) (main_v11 : IVec S_ 1) (main_v15 : IVec S_ 1) : IVec S_ 1 :=
  let main_v16 : FVec F S2x2048x8x64 .f32 := Host.absf main_arg4
  let main_cst_6 : FVec F S_ .f32 := constant S_ .f32 0x7F800000#32
  let main_v17 : FVec F S2x2048x8x64 .f32 := broadcastInDim S2x2048x8x64 ![] bcast_S_S2x2048x8x64 main_cst_6
  let main_v18 : IVec S2x2048x8x64 1 := cmpf .olt main_v16 main_v17
  let main_c_7 : IVec S_ 1 := constantI S_ 1 1#1
  let main_v19 : IVec S_ 1 := (fun x v => Host.reduce IntOp.andi x v reducesTo_S2x2048x8x64_S_d0_1_2_3 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x8x64 .f32) (main_arg1 : FVec F S2x2048x8x32 .f32) (main_arg2 : FVec F S2x2048x8x64 .f32) (main_arg3 : FVec F S2x2048x32 .f32) (main_arg4 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x32 .f32 := Host.absf main_arg1
  let main_cst_0 : FVec F S_ .f32 := constant S_ .f32 0x7F800000#32
  let main_v5 : FVec F S2x2048x8x32 .f32 := broadcastInDim S2x2048x8x32 ![] bcast_S_S2x2048x8x32 main_cst_0
  let main_v6 : IVec S2x2048x8x32 1 := cmpf .olt main_v4 main_v5
  let main_c_1 : IVec S_ 1 := constantI S_ 1 1#1
  let main_v7 : IVec S_ 1 := (fun x v => Host.reduce IntOp.andi x v reducesTo_S2x2048x8x32_S_d0_1_2_3 h_S_) main_v6 main_c_1
  let main_v8 : FVec F S2x2048x8x64 .f32 := Host.absf main_arg2
  let main_cst_2 : FVec F S_ .f32 := constant S_ .f32 0x7F800000#32
  let main_v9 : FVec F S2x2048x8x64 .f32 := broadcastInDim S2x2048x8x64 ![] bcast_S_S2x2048x8x64 main_cst_2
  let main_v10 : IVec S2x2048x8x64 1 := cmpf .olt main_v8 main_v9
  let main_c_3 : IVec S_ 1 := constantI S_ 1 1#1
  let main_v11 : IVec S_ 1 := (fun x v => Host.reduce IntOp.andi x v reducesTo_S2x2048x8x64_S_d0_1_2_3 h_S_) main_v10 main_c_3
  let main_v12 : FVec F S2x2048x32 .f32 := Host.absf main_arg3
  let main_cst_4 : FVec F S_ .f32 := constant S_ .f32 0x7F800000#32
  let main_v13 : FVec F S2x2048x32 .f32 := broadcastInDim S2x2048x32 ![] bcast_S_S2x2048x32 main_cst_4
  let main_v14 : IVec S2x2048x32 1 := cmpf .olt main_v12 main_v13
  let main_c_5 : IVec S_ 1 := constantI S_ 1 1#1
  let main_v15 : IVec S_ 1 := (fun x v => Host.reduce IntOp.andi x v reducesTo_S2x2048x32_S_d0_1_2 h_S_) main_v14 main_c_5
  fn_part1 (F := F) main_arg4 main_v3 main_v7 main_v11 main_v15
-- ==== Pre_first_norm_bwd_finite.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S2x2048x5632 : S_.BroadcastsInDim S2x2048x5632 (![] : Fin 0 → Fin S2x2048x5632.rank)
  reducesTo_S2x2048x5632_S_d0_1_2 : S2x2048x5632.ReducesTo [0, 1, 2] S_

variable [Facts]

def fn_part1 {F : FTy → Type} [FloatOps F] (main_arg5 : FVec F S2x2048x5632 .f32) (main_arg6 : FVec F S2x2048x1024 .f32) (main_v3 : IVec S_ 1) (main_v7 : IVec S_ 1) (main_v11 : IVec S_ 1) (main_v15 : IVec S_ 1) : IVec S_ 1 :=
  let main_v16 : FVec F S2x2048x5632 .f32 := Host.absf main_arg5
  let main_cst_6 : FVec F S_ .f32 := constant S_ .f32 0x7F800000#32
  let main_v17 : FVec F S2x2048x5632 .f32 := broadcastInDim S2x2048x5632 ![] bcast_S_S2x2048x5632 main_cst_6
  let main_v18 : IVec S2x2048x5632 1 := cmpf .olt main_v16 main_v17
  let main_c_7 : IVec S_ 1 := constantI S_ 1 1#1
  let main_v19 : IVec S_ 1 := (fun x v => Host.reduce IntOp.andi x v reducesTo_S2x2048x5632_S_d0_1_2 h_S_) main_v18 main_c_7
  let main_v20 : FVec F S2x2048x1024 .f32 := Host.absf main_arg6
  let main_cst_8 : FVec F S_ .f32 := constant S_ .f32 0x7F800000#32
  let main_v21 : FVec F S2x2048x1024 .f32 := broadcastInDim S2x2048x1024 ![] bcast_S_S2x2048x1024 main_cst_8
  let main_v22 : IVec S2x2048x1024 1 := cmpf .olt main_v20 main_v21
  let main_c_9 : IVec S_ 1 := constantI S_ 1 1#1
  let main_v23 : IVec S_ 1 := (fun x v => Host.reduce IntOp.andi x v reducesTo_S2x2048x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x2048x1024 .f32) (main_arg1 : FVec F S2x1024 .f32) (main_arg2 : FVec F S2x1024 .f32) (main_arg3 : FVec F S1x1024 .f32) (main_arg4 : FVec F S1x1024x5632 .f32) (main_arg5 : FVec F S2x2048x5632 .f32) (main_arg6 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x1024 .f32 := Host.absf main_arg2
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : FVec F S1x1024 .f32 := Host.absf main_arg3
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024x5632 .f32 := Host.absf main_arg4
  let main_cst_4 : FVec F S_ .f32 := constant S_ .f32 0x7F800000#32
  let main_v13 : FVec F S1x1024x5632 .f32 := broadcastInDim S1x1024x5632 ![] bcast_S_S1x1024x5632 main_cst_4
  let main_v14 : IVec S1x1024x5632 1 := cmpf .olt main_v12 main_v13
  let main_c_5 : IVec S_ 1 := constantI S_ 1 1#1
  let main_v15 : IVec S_ 1 := (fun x v => Host.reduce IntOp.andi x v reducesTo_S1x1024x5632_S_d0_1_2 h_S_) main_v14 main_c_5
  fn_part1 (F := F) main_arg5 main_arg6 main_v3 main_v7 main_v11 main_v15
-- ==== Pre_hidden_grad_finite.lean ====
abbrev S2x2048x5632 : Shape := ⟨3, ![2, 2048, 5632]⟩
abbrev S1x2816x1024 : Shape := ⟨3, ![1, 2816, 1024]⟩
abbrev S2x2048x1024 : Shape := ⟨3, ![2, 2048, 1024]⟩
abbrev S_ : Shape := ⟨0, ![]⟩

class Facts : Prop where
  bcast_S_S2x2048x5632 : S_.BroadcastsInDim S2x2048x5632 (![] : Fin 0 → Fin S2x2048x5632.rank)
  reducesTo_S2x2048x5632_S_d0_1_2 : S2x2048x5632.ReducesTo [0, 1, 2] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn {F : FTy → Type} [FloatOps F] (main_arg0 : FVec F S2x2048x5632 .f32) (main_arg1 : FVec F S1x2816x1024 .f32) (main_arg2 : FVec F S2x2048x1024 .f32) : IVec S_ 1 :=
  let main_v0 : FVec F S2x2048x5632 .f32 := Host.absf main_arg0
  let main_cst : FVec F S_ .f32 := constant S_ .f32 0x7F800000#32
  let main_v1 : FVec F S2x2048x5632 .f32 := broadcastInDim S2x2048x5632 ![] bcast_S_S2x2048x5632 main_cst
  let main_v2 : IVec S2x2048x5632 1 := cmpf .olt main_v0 main_v1
  let main_c : IVec S_ 1 := constantI S_ 1 1#1
  let main_v3 : IVec S_ 1 := (fun x v => Host.reduce IntOp.andi x v reducesTo_S2x2048x5632_S_d0_1_2 h_S_) main_v2 main_c
  let main_v4 : FVec F S1x2816x1024 .f32 := Host.absf main_arg1
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : FVec F S2x2048x1024 .f32 := Host.absf main_arg2
  let main_cst_2 : FVec F S_ .f32 := constant S_ .f32 0x7F800000#32
  let main_v9 : FVec F S2x2048x1024 .f32 := broadcastInDim S2x2048x1024 ![] bcast_S_S2x2048x1024 main_cst_2
  let main_v10 : IVec S2x2048x1024 1 := cmpf .olt main_v8 main_v9
  let main_c_3 : IVec S_ 1 := constantI S_ 1 1#1
  let main_v11 : IVec S_ 1 := (fun x v => Host.reduce IntOp.andi x v reducesTo_S2x2048x1024_S_d0_1_2 h_S_) main_v10 main_c_3
  let main_v12 : IVec S_ 1 := andi main_v3 main_v7
  let main_v13 : IVec S_ 1 := andi main_v12 main_v11
  main_v13
-- ==== Pre_latent_bwd_finite.lean ====
abbrev S2x2048x672 : Shape := ⟨3, ![2, 2048, 672]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S2x2048x8x96 : Shape := ⟨4, ![2, 2048, 8, 96]⟩
abbrev S2x2048x8x128 : Shape := ⟨4, ![2, 2048, 8, 128]⟩
abbrev S2x2048x32 : Shape := ⟨3, ![2, 2048, 32]⟩
abbrev S_ : Shape := ⟨0, ![]⟩

class Facts : Prop where
  bcast_S_S2x2048x672 : S_.BroadcastsInDim S2x2048x672 (![] : Fin 0 → Fin S2x2048x672.rank)
  reducesTo_S2x2048x672_S_d0_1_2 : S2x2048x672.ReducesTo [0, 1, 2] S_
  h_S_ : 0 < S_.numel
  bcast_S_S1x384 : S_.BroadcastsInDim S1x384 (![] : Fin 0 → Fin S1x384.rank)
  reducesTo_S1x384_S_d0_1 : S1x384.ReducesTo [0, 1] S_
  bcast_S_S1x256 : S_.BroadcastsInDim S1x256 (![] : Fin 0 → Fin S1x256.rank)
  reducesTo_S1x256_S_d0_1 : S1x256.ReducesTo [0, 1] S_
  bcast_S_S1x384x768 : S_.BroadcastsInDim S1x384x768 (![] : Fin 0 → Fin S1x384x768.rank)
  reducesTo_S1x384x768_S_d0_1_2 : S1x384x768.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S2x2048x8x96 : S_.BroadcastsInDim S2x2048x8x96 (![] : Fin 0 → Fin S2x2048x8x96.rank)
  reducesTo_S2x2048x8x96_S_d0_1_2_3 : S2x2048x8x96.ReducesTo [0, 1, 2, 3] S_
  bcast_S_S2x2048x8x128 : S_.BroadcastsInDim S2x2048x8x128 (![] : Fin 0 → Fin S2x2048x8x128.rank)
  reducesTo_S2x2048x8x128_S_d0_1_2_3 : S2x2048x8x128.ReducesTo [0, 1, 2, 3] S_

variable [Facts]

def fn_part1 {F : FTy → Type} [FloatOps F] (main_arg4 : FVec F S1x256x1024 .f32) (main_arg5 : FVec F S2x2048x8x96 .f32) (main_arg6 : FVec F S2x2048x8x128 .f32) (main_v3 : IVec S_ 1) (main_v7 : IVec S_ 1) (main_v11 : IVec S_ 1) (main_v15 : IVec S_ 1) : IVec S_ 1 :=
  let main_v16 : FVec F S1x256x1024 .f32 := Host.absf main_arg4
  let main_cst_6 : FVec F S_ .f32 := constant S_ .f32 0x7F800000#32
  let main_v17 : FVec F S1x256x1024 .f32 := broadcastInDim S1x256x1024 ![] bcast_S_S1x256x1024 main_cst_6
  let main_v18 : IVec S1x256x1024 1 := cmpf .olt main_v16 main_v17
  let main_c_7 : IVec S_ 1 := constantI S_ 1 1#1
  let main_v19 : IVec S_ 1 := (fun x v => Host.reduce IntOp.andi x v reducesTo_S1x256x1024_S_d0_1_2 h_S_) main_v18 main_c_7
  let main_v20 : FVec F S2x2048x8x96 .f32 := Host.absf main_arg5
  let main_cst_8 : FVec F S_ .f32 := constant S_ .f32 0x7F800000#32
  let main_v21 : FVec F S2x2048x8x96 .f32 := broadcastInDim S2x2048x8x96 ![] bcast_S_S2x2048x8x96 main_cst_8
  let main_v22 : IVec S2x2048x8x96 1 := cmpf .olt main_v20 main_v21
  let main_c_9 : IVec S_ 1 := constantI S_ 1 1#1
  let main_v23 : IVec S_ 1 := (fun x v => Host.reduce IntOp.andi x v reducesTo_S2x2048x8x96_S_d0_1_2_3 h_S_) main_v22 main_c_9
  let main_v24 : FVec F S2x2048x8x128 .f32 := Host.absf main_arg6
  let main_cst_10 : FVec F S_ .f32 := constant S_ .f32 0x7F800000#32
  let main_v25 : FVec F S2x2048x8x128 .f32 := broadcastInDim S2x2048x8x128 ![] bcast_S_S2x2048x8x128 main_cst_10
  let main_v26 : IVec S2x2048x8x128 1 := cmpf .olt main_v24 main_v25
  let main_c_11 : IVec S_ 1 := constantI S_ 1 1#1
  let main_v27 : IVec S_ 1 := (fun x v => Host.reduce IntOp.andi x v reducesTo_S2x2048x8x128_S_d0_1_2_3 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x2048x672 .f32) (main_arg1 : FVec F S1x384 .f32) (main_arg2 : FVec F S1x256 .f32) (main_arg3 : FVec F S1x384x768 .f32) (main_arg4 : FVec F S1x256x1024 .f32) (main_arg5 : FVec F S2x2048x8x96 .f32) (main_arg6 : FVec F S2x2048x8x128 .f32) (main_arg7 : FVec F S2x2048x32 .f32) : IVec S_ 1 :=
  let main_v0 : FVec F S2x2048x672 .f32 := Host.absf main_arg0
  let main_cst : FVec F S_ .f32 := constant S_ .f32 0x7F800000#32
  let main_v1 : FVec F S2x2048x672 .f32 := broadcastInDim S2x2048x672 ![] bcast_S_S2x2048x672 main_cst
  let main_v2 : IVec S2x2048x672 1 := cmpf .olt main_v0 main_v1
  let main_c : IVec S_ 1 := constantI S_ 1 1#1
  let main_v3 : IVec S_ 1 := (fun x v => Host.reduce IntOp.andi x v reducesTo_S2x2048x672_S_d0_1_2 h_S_) main_v2 main_c
  let main_v4 : FVec F S1x384 .f32 := Host.absf main_arg1
  let main_cst_0 : FVec F S_ .f32 := constant S_ .f32 0x7F800000#32
  let main_v5 : FVec F S1x384 .f32 := broadcastInDim S1x384 ![] bcast_S_S1x384 main_cst_0
  let main_v6 : IVec S1x384 1 := cmpf .olt main_v4 main_v5
  let main_c_1 : IVec S_ 1 := constantI S_ 1 1#1
  let main_v7 : IVec S_ 1 := (fun x v => Host.reduce IntOp.andi x v reducesTo_S1x384_S_d0_1 h_S_) main_v6 main_c_1
  let main_v8 : FVec F S1x256 .f32 := Host.absf main_arg2
  let main_cst_2 : FVec F S_ .f32 := constant S_ .f32 0x7F800000#32
  let main_v9 : FVec F S1x256 .f32 := broadcastInDim S1x256 ![] bcast_S_S1x256 main_cst_2
  let main_v10 : IVec S1x256 1 := cmpf .olt main_v8 main_v9
  let main_c_3 : IVec S_ 1 := constantI S_ 1 1#1
  let main_v11 : IVec S_ 1 := (fun x v => Host.reduce IntOp.andi x v reducesTo_S1x256_S_d0_1 h_S_) main_v10 main_c_3
  let main_v12 : FVec F S1x384x768 .f32 := Host.absf main_arg3
  let main_cst_4 : FVec F S_ .f32 := constant S_ .f32 0x7F800000#32
  let main_v13 : FVec F S1x384x768 .f32 := broadcastInDim S1x384x768 ![] bcast_S_S1x384x768 main_cst_4
  let main_v14 : IVec S1x384x768 1 := cmpf .olt main_v12 main_v13
  let main_c_5 : IVec S_ 1 := constantI S_ 1 1#1
  let main_v15 : IVec S_ 1 := (fun x v => Host.reduce IntOp.andi x v reducesTo_S1x384x768_S_d0_1_2 h_S_) main_v14 main_c_5
  fn_part1 (F := F) main_arg4 main_arg5 main_arg6 main_v3 main_v7 main_v11 main_v15
-- ==== Pre_mix_norm_bwd_finite.lean ====
abbrev S2x2048x1024 : Shape := ⟨3, ![2, 2048, 1024]⟩
abbrev S2x1024 : Shape := ⟨2, ![2, 1024]⟩
abbrev S1x1024 : Shape := ⟨2, ![1, 1024]⟩
abbrev S1x1024x3232 : Shape := ⟨3, ![1, 1024, 3232]⟩
abbrev S2x2048x3232 : Shape := ⟨3, ![2, 2048, 3232]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x3232 : S_.BroadcastsInDim S1x1024x3232 (![] : Fin 0 → Fin S1x1024x3232.rank)
  reducesTo_S1x1024x3232_S_d0_1_2 : S1x1024x3232.ReducesTo [0, 1, 2] S_
  bcast_S_S2x2048x3232 : S_.BroadcastsInDim S2x2048x3232 (![] : Fin 0 → Fin S2x2048x3232.rank)
  reducesTo_S2x2048x3232_S_d0_1_2 : S2x2048x3232.ReducesTo [0, 1, 2] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg5 : FVec F S1x1024 .f32) (main_arg6 : FVec F S1x1024x3232 .f32) (main_arg7 : FVec F S2x2048x3232 .f32) (main_arg8 : FVec F S2x2048x1024 .f32) (main_v3 : IVec S_ 1) (main_v7 : IVec S_ 1) (main_v11 : IVec S_ 1) (main_v15 : IVec S_ 1) : IVec S_ 1 :=
  let main_v16 : FVec F S1x1024 .f32 := Host.absf main_arg5
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024x3232 .f32 := Host.absf main_arg6
  let main_cst_8 : FVec F S_ .f32 := constant S_ .f32 0x7F800000#32
  let main_v21 : FVec F S1x1024x3232 .f32 := broadcastInDim S1x1024x3232 ![] bcast_S_S1x1024x3232 main_cst_8
  let main_v22 : IVec S1x1024x3232 1 := cmpf .olt main_v20 main_v21
  let main_c_9 : IVec S_ 1 := constantI S_ 1 1#1
  let main_v23 : IVec S_ 1 := (fun x v => Host.reduce IntOp.andi x v reducesTo_S1x1024x3232_S_d0_1_2 h_S_) main_v22 main_c_9
  let main_v24 : FVec F S2x2048x3232 .f32 := Host.absf main_arg7
  let main_cst_10 : FVec F S_ .f32 := constant S_ .f32 0x7F800000#32
  let main_v25 : FVec F S2x2048x3232 .f32 := broadcastInDim S2x2048x3232 ![] bcast_S_S2x2048x3232 main_cst_10
  let main_v26 : IVec S2x2048x3232 1 := cmpf .olt main_v24 main_v25
  let main_c_11 : IVec S_ 1 := constantI S_ 1 1#1
  let main_v27 : IVec S_ 1 := (fun x v => Host.reduce IntOp.andi x v reducesTo_S2x2048x3232_S_d0_1_2 h_S_) main_v26 main_c_11
  let main_v28 : FVec F S2x2048x1024 .f32 := Host.absf main_arg8
  let main_cst_12 : FVec F S_ .f32 := constant S_ .f32 0x7F800000#32
  let main_v29 : FVec F S2x2048x1024 .f32 := broadcastInDim S2x2048x1024 ![] bcast_S_S2x2048x1024 main_cst_12
  let main_v30 : IVec S2x2048x1024 1 := cmpf .olt main_v28 main_v29
  let main_c_13 : IVec S_ 1 := constantI S_ 1 1#1
  let main_v31 : IVec S_ 1 := (fun x v => Host.reduce IntOp.andi x v reducesTo_S2x2048x1024_S_d0_1_2 h_S_) main_v30 main_c_13
  fn_part2 (F := F) main_v3 main_v7 main_v11 main_v15 main_v19 main_v23 main_v27 main_v31

def fn {F : FTy → Type} [FloatOps F] (main_arg0 : FVec F S2x2048x1024 .f32) (main_arg1 : FVec F S2x2048x1024 .f32) (main_arg2 : FVec F S2x1024 .f32) (main_arg3 : FVec F S2x1024 .f32) (main_arg4 : FVec F S2x1024 .f32) (main_arg5 : FVec F S1x1024 .f32) (main_arg6 : FVec F S1x1024x3232 .f32) (main_arg7 : FVec F S2x2048x3232 .f32) (main_arg8 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : FVec F S2x1024 .f32 := Host.absf main_arg2
  let main_cst_2 : FVec F S_ .f32 := constant S_ .f32 0x7F800000#32
  let main_v9 : FVec F S2x1024 .f32 := broadcastInDim S2x1024 ![] bcast_S_S2x1024 main_cst_2
  let main_v10 : IVec S2x1024 1 := cmpf .olt main_v8 main_v9
  let main_c_3 : IVec S_ 1 := constantI S_ 1 1#1
  let main_v11 : IVec S_ 1 := (fun x v => Host.reduce IntOp.andi x v reducesTo_S2x1024_S_d0_1 h_S_) main_v10 main_c_3
  let main_v12 : FVec F S2x1024 .f32 := Host.absf main_arg4
  let main_cst_4 : FVec F S_ .f32 := constant S_ .f32 0x7F800000#32
  let main_v13 : FVec F S2x1024 .f32 := broadcastInDim S2x1024 ![] bcast_S_S2x1024 main_cst_4
  let main_v14 : IVec S2x1024 1 := cmpf .olt main_v12 main_v13
  let main_c_5 : IVec S_ 1 := constantI S_ 1 1#1
  let main_v15 : IVec S_ 1 := (fun x v => Host.reduce IntOp.andi x v reducesTo_S2x1024_S_d0_1 h_S_) main_v14 main_c_5
  fn_part1 (F := F) main_arg5 main_arg6 main_arg7 main_arg8 main_v3 main_v7 main_v11 main_v15
-- ==== Pre_norm_bwd_finite.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S2x2048x5632 : S_.BroadcastsInDim S2x2048x5632 (![] : Fin 0 → Fin S2x2048x5632.rank)
  reducesTo_S2x2048x5632_S_d0_1_2 : S2x2048x5632.ReducesTo [0, 1, 2] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg5 : FVec F S1x1024 .f32) (main_arg6 : FVec F S1x1024x5632 .f32) (main_arg7 : FVec F S2x2048x5632 .f32) (main_arg8 : FVec F S2x2048x1024 .f32) (main_v3 : IVec S_ 1) (main_v7 : IVec S_ 1) (main_v11 : IVec S_ 1) (main_v15 : IVec S_ 1) : IVec S_ 1 :=
  let main_v16 : FVec F S1x1024 .f32 := Host.absf main_arg5
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024x5632 .f32 := Host.absf main_arg6
  let main_cst_8 : FVec F S_ .f32 := constant S_ .f32 0x7F800000#32
  let main_v21 : FVec F S1x1024x5632 .f32 := broadcastInDim S1x1024x5632 ![] bcast_S_S1x1024x5632 main_cst_8
  let main_v22 : IVec S1x1024x5632 1 := cmpf .olt main_v20 main_v21
  let main_c_9 : IVec S_ 1 := constantI S_ 1 1#1
  let main_v23 : IVec S_ 1 := (fun x v => Host.reduce IntOp.andi x v reducesTo_S1x1024x5632_S_d0_1_2 h_S_) main_v22 main_c_9
  let main_v24 : FVec F S2x2048x5632 .f32 := Host.absf main_arg7
  let main_cst_10 : FVec F S_ .f32 := constant S_ .f32 0x7F800000#32
  let main_v25 : FVec F S2x2048x5632 .f32 := broadcastInDim S2x2048x5632 ![] bcast_S_S2x2048x5632 main_cst_10
  let main_v26 : IVec S2x2048x5632 1 := cmpf .olt main_v24 main_v25
  let main_c_11 : IVec S_ 1 := constantI S_ 1 1#1
  let main_v27 : IVec S_ 1 := (fun x v => Host.reduce IntOp.andi x v reducesTo_S2x2048x5632_S_d0_1_2 h_S_) main_v26 main_c_11
  let main_v28 : FVec F S2x2048x1024 .f32 := Host.absf main_arg8
  let main_cst_12 : FVec F S_ .f32 := constant S_ .f32 0x7F800000#32
  let main_v29 : FVec F S2x2048x1024 .f32 := broadcastInDim S2x2048x1024 ![] bcast_S_S2x2048x1024 main_cst_12
  let main_v30 : IVec S2x2048x1024 1 := cmpf .olt main_v28 main_v29
  let main_c_13 : IVec S_ 1 := constantI S_ 1 1#1
  let main_v31 : IVec S_ 1 := (fun x v => Host.reduce IntOp.andi x v reducesTo_S2x2048x1024_S_d0_1_2 h_S_) main_v30 main_c_13
  fn_part2 (F := F) main_v3 main_v7 main_v11 main_v15 main_v19 main_v23 main_v27 main_v31

def fn {F : FTy → Type} [FloatOps F] (main_arg0 : FVec F S2x2048x1024 .f32) (main_arg1 : FVec F S2x2048x1024 .f32) (main_arg2 : FVec F S2x1024 .f32) (main_arg3 : FVec F S2x1024 .f32) (main_arg4 : FVec F S2x1024 .f32) (main_arg5 : FVec F S1x1024 .f32) (main_arg6 : FVec F S1x1024x5632 .f32) (main_arg7 : FVec F S2x2048x5632 .f32) (main_arg8 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : FVec F S2x1024 .f32 := Host.absf main_arg2
  let main_cst_2 : FVec F S_ .f32 := constant S_ .f32 0x7F800000#32
  let main_v9 : FVec F S2x1024 .f32 := broadcastInDim S2x1024 ![] bcast_S_S2x1024 main_cst_2
  let main_v10 : IVec S2x1024 1 := cmpf .olt main_v8 main_v9
  let main_c_3 : IVec S_ 1 := constantI S_ 1 1#1
  let main_v11 : IVec S_ 1 := (fun x v => Host.reduce IntOp.andi x v reducesTo_S2x1024_S_d0_1 h_S_) main_v10 main_c_3
  let main_v12 : FVec F S2x1024 .f32 := Host.absf main_arg4
  let main_cst_4 : FVec F S_ .f32 := constant S_ .f32 0x7F800000#32
  let main_v13 : FVec F S2x1024 .f32 := broadcastInDim S2x1024 ![] bcast_S_S2x1024 main_cst_4
  let main_v14 : IVec S2x1024 1 := cmpf .olt main_v12 main_v13
  let main_c_5 : IVec S_ 1 := constantI S_ 1 1#1
  let main_v15 : IVec S_ 1 := (fun x v => Host.reduce IntOp.andi x v reducesTo_S2x1024_S_d0_1 h_S_) main_v14 main_c_5
  fn_part1 (F := F) main_arg5 main_arg6 main_arg7 main_arg8 main_v3 main_v7 main_v11 main_v15
-- ==== Pre_norm_fwd_finite.lean ====
abbrev S2x2048x1024 : Shape := ⟨3, ![2, 2048, 1024]⟩
abbrev S2x1024 : Shape := ⟨2, ![2, 1024]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) (main_arg1 : FVec F S2x1024 .f32) (main_arg2 : FVec F S2x1024 .f32) (main_arg3 : FVec F S1x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== Pre_pool_bwd_finite.lean ====
abbrev S2x2048x512 : Shape := ⟨3, ![2, 2048, 512]⟩
abbrev S1x4x128x128 : Shape := ⟨4, ![1, 4, 128, 128]⟩
abbrev S1x512 : Shape := ⟨2, ![1, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x512 .f32) (main_arg1 : FVec F S1x4x128x128 .f32) (main_arg2 : FVec F S1x512 .f32) (main_arg3 : FVec F S2x2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S1x4x128x128 .f32 := Host.absf main_arg1
  let main_cst_0 : FVec F S_ .f32 := constant S_ .f32 0x7F800000#32
  let main_v5 : FVec F S1x4x128x128 .f32 := broadcastInDim S1x4x128x128 ![] bcast_S_S1x4x128x128 main_cst_0
  let main_v6 : IVec S1x4x128x128 1 := cmpf .olt main_v4 main_v5
  let main_c_1 : IVec S_ 1 := constantI S_ 1 1#1
  let main_v7 : IVec S_ 1 := (fun x v => Host.reduce IntOp.andi x v reducesTo_S1x4x128x128_S_d0_1_2_3 h_S_) main_v6 main_c_1
  let main_v8 : FVec F S1x512 .f32 := Host.absf main_arg2
  let main_cst_2 : FVec F S_ .f32 := constant S_ .f32 0x7F800000#32
  let main_v9 : FVec F S1x512 .f32 := broadcastInDim S1x512 ![] bcast_S_S1x512 main_cst_2
  let main_v10 : IVec S1x512 1 := cmpf .olt main_v8 main_v9
  let main_c_3 : IVec S_ 1 := constantI S_ 1 1#1
  let main_v11 : IVec S_ 1 := (fun x v => Host.reduce IntOp.andi x v reducesTo_S1x512_S_d0_1 h_S_) main_v10 main_c_3
  let main_v12 : FVec F S2x2048x512 .f32 := Host.absf main_arg3
  let main_cst_4 : FVec F S_ .f32 := constant S_ .f32 0x7F800000#32
  let main_v13 : FVec F S2x2048x512 .f32 := broadcastInDim S2x2048x512 ![] bcast_S_S2x2048x512 main_cst_4
  let main_v14 : IVec S2x2048x512 1 := cmpf .olt main_v12 main_v13
  let main_c_5 : IVec S_ 1 := constantI S_ 1 1#1
  let main_v15 : IVec S_ 1 := (fun x v => Host.reduce IntOp.andi x v reducesTo_S2x2048x512_S_d0_1_2 h_S_) main_v14 main_c_5
  fn_part1 (F := F) main_v3 main_v7 main_v11 main_v15
-- ==== Pre_qk_bwd_finite.lean ====
abbrev S2x2048x8x96 : Shape := ⟨4, ![2, 2048, 8, 96]⟩
abbrev S2x2048x8x128 : Shape := ⟨4, ![2, 2048, 8, 128]⟩
abbrev S2x2048x32 : Shape := ⟨3, ![2, 2048, 32]⟩
abbrev S2x2048 : Shape := ⟨2, ![2, 2048]⟩
abbrev S1x64 : Shape := ⟨2, ![1, 64]⟩
abbrev S1x32 : Shape := ⟨2, ![1, 32]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)
  reducesTo_S2x2048x8x96_S_d0_1_2_3 : S2x2048x8x96.ReducesTo [0, 1, 2, 3] S_
  h_S_ : 0 < S_.numel
  bcast_S_S2x2048x8x128 : S_.BroadcastsInDim S2x2048x8x128 (![] : Fin 0 → Fin S2x2048x8x128.rank)
  reducesTo_S2x2048x8x128_S_d0_1_2_3 : S2x2048x8x128.ReducesTo [0, 1, 2, 3] S_
  bcast_S_S2x2048x32 : S_.BroadcastsInDim S2x2048x32 (![] : Fin 0 → Fin S2x2048x32.rank)
  reducesTo_S2x2048x32_S_d0_1_2 : S2x2048x32.ReducesTo [0, 1, 2] S_
  bcast_S_S1x64 : S_.BroadcastsInDim S1x64 (![] : Fin 0 → Fin S1x64.rank)
  reducesTo_S1x64_S_d0_1 : S1x64.ReducesTo [0, 1] S_
  bcast_S_S1x32 : S_.BroadcastsInDim S1x32 (![] : Fin 0 → Fin S1x32.rank)
  reducesTo_S1x32_S_d0_1 : S1x32.ReducesTo [0, 1] S_
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_

variable [Facts]

def fn_part2 {F : FTy → Type} [FloatOps F] (main_arg9 : FVec F S2x2048x8x96 .f32) (main_arg10 : FVec F S2x2048x8x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x2048x8x96 .f32 := Host.absf main_arg9
  let main_cst_14 : FVec F S_ .f32 := constant S_ .f32 0x7F800000#32
  let main_v33 : FVec F S2x2048x8x96 .f32 := broadcastInDim S2x2048x8x96 ![] bcast_S_S2x2048x8x96 main_cst_14
  let main_v34 : IVec S2x2048x8x96 1 := cmpf .olt main_v32 main_v33
  let main_c_15 : IVec S_ 1 := constantI S_ 1 1#1
  let main_v35 : IVec S_ 1 := (fun x v => Host.reduce IntOp.andi x v reducesTo_S2x2048x8x96_S_d0_1_2_3 h_S_) main_v34 main_c_15
  let main_v36 : FVec F S2x2048x8x64 .f32 := Host.absf main_arg10
  let main_cst_16 : FVec F S_ .f32 := constant S_ .f32 0x7F800000#32
  let main_v37 : FVec F S2x2048x8x64 .f32 := broadcastInDim S2x2048x8x64 ![] bcast_S_S2x2048x8x64 main_cst_16
  let main_v38 : IVec S2x2048x8x64 1 := cmpf .olt main_v36 main_v37
  let main_c_17 : IVec S_ 1 := constantI S_ 1 1#1
  let main_v39 : IVec S_ 1 := (fun x v => Host.reduce IntOp.andi x v reducesTo_S2x2048x8x64_S_d0_1_2_3 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg5 : FVec F S1x32 .f32) (main_arg6 : FVec F S1x64 .f32) (main_arg7 : FVec F S1x32 .f32) (main_arg8 : FVec F S2x2048x8x96 .f32) (main_arg9 : FVec F S2x2048x8x96 .f32) (main_arg10 : FVec F S2x2048x8x64 .f32) (main_v3 : IVec S_ 1) (main_v7 : IVec S_ 1) (main_v11 : IVec S_ 1) (main_v15 : IVec S_ 1) : IVec S_ 1 :=
  let main_v16 : FVec F S1x32 .f32 := Host.absf main_arg5
  let main_cst_6 : FVec F S_ .f32 := constant S_ .f32 0x7F800000#32
  let main_v17 : FVec F S1x32 .f32 := broadcastInDim S1x32 ![] bcast_S_S1x32 main_cst_6
  let main_v18 : IVec S1x32 1 := cmpf .olt main_v16 main_v17
  let main_c_7 : IVec S_ 1 := constantI S_ 1 1#1
  let main_v19 : IVec S_ 1 := (fun x v => Host.reduce IntOp.andi x v reducesTo_S1x32_S_d0_1 h_S_) main_v18 main_c_7
  let main_v20 : FVec F S1x64 .f32 := Host.absf main_arg6
  let main_cst_8 : FVec F S_ .f32 := constant S_ .f32 0x7F800000#32
  let main_v21 : FVec F S1x64 .f32 := broadcastInDim S1x64 ![] bcast_S_S1x64 main_cst_8
  let main_v22 : IVec S1x64 1 := cmpf .olt main_v20 main_v21
  let main_c_9 : IVec S_ 1 := constantI S_ 1 1#1
  let main_v23 : IVec S_ 1 := (fun x v => Host.reduce IntOp.andi x v reducesTo_S1x64_S_d0_1 h_S_) main_v22 main_c_9
  let main_v24 : FVec F S1x32 .f32 := Host.absf main_arg7
  let main_cst_10 : FVec F S_ .f32 := constant S_ .f32 0x7F800000#32
  let main_v25 : FVec F S1x32 .f32 := broadcastInDim S1x32 ![] bcast_S_S1x32 main_cst_10
  let main_v26 : IVec S1x32 1 := cmpf .olt main_v24 main_v25
  let main_c_11 : IVec S_ 1 := constantI S_ 1 1#1
  let main_v27 : IVec S_ 1 := (fun x v => Host.reduce IntOp.andi x v reducesTo_S1x32_S_d0_1 h_S_) main_v26 main_c_11
  let main_v28 : FVec F S2x2048x8x96 .f32 := Host.absf main_arg8
  let main_cst_12 : FVec F S_ .f32 := constant S_ .f32 0x7F800000#32
  let main_v29 : FVec F S2x2048x8x96 .f32 := broadcastInDim S2x2048x8x96 ![] bcast_S_S2x2048x8x96 main_cst_12
  let main_v30 : IVec S2x2048x8x96 1 := cmpf .olt main_v28 main_v29
  let main_c_13 : IVec S_ 1 := constantI S_ 1 1#1
  let main_v31 : IVec S_ 1 := (fun x v => Host.reduce IntOp.andi x v reducesTo_S2x2048x8x96_S_d0_1_2_3 h_S_) main_v30 main_c_13
  fn_part2 (F := F) main_arg9 main_arg10 main_v3 main_v7 main_v11 main_v15 main_v19 main_v23 main_v27 main_v31

def fn {F : FTy → Type} [FloatOps F] (main_arg0 : FVec F S2x2048x8x96 .f32) (main_arg1 : FVec F S2x2048x8x128 .f32) (main_arg2 : FVec F S2x2048x32 .f32) (main_arg3 : IVec S2x2048 32) (main_arg4 : FVec F S1x64 .f32) (main_arg5 : FVec F S1x32 .f32) (main_arg6 : FVec F S1x64 .f32) (main_arg7 : FVec F S1x32 .f32) (main_arg8 : FVec F S2x2048x8x96 .f32) (main_arg9 : FVec F S2x2048x8x96 .f32) (main_arg10 : FVec F S2x2048x8x64 .f32) : IVec S_ 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_c : IVec S_ 1 := constantI S_ 1 1#1
  let main_v3 : IVec S_ 1 := (fun x v => Host.reduce IntOp.andi x v reducesTo_S2x2048x8x96_S_d0_1_2_3 h_S_) main_v2 main_c
  let main_v4 : FVec F S2x2048x8x128 .f32 := Host.absf main_arg1
  let main_cst_0 : FVec F S_ .f32 := constant S_ .f32 0x7F800000#32
  let main_v5 : FVec F S2x2048x8x128 .f32 := broadcastInDim S2x2048x8x128 ![] bcast_S_S2x2048x8x128 main_cst_0
  let main_v6 : IVec S2x2048x8x128 1 := cmpf .olt main_v4 main_v5
  let main_c_1 : IVec S_ 1 := constantI S_ 1 1#1
  let main_v7 : IVec S_ 1 := (fun x v => Host.reduce IntOp.andi x v reducesTo_S2x2048x8x128_S_d0_1_2_3 h_S_) main_v6 main_c_1
  let main_v8 : FVec F S2x2048x32 .f32 := Host.absf main_arg2
  let main_cst_2 : FVec F S_ .f32 := constant S_ .f32 0x7F800000#32
  let main_v9 : FVec F S2x2048x32 .f32 := broadcastInDim S2x2048x32 ![] bcast_S_S2x2048x32 main_cst_2
  let main_v10 : IVec S2x2048x32 1 := cmpf .olt main_v8 main_v9
  let main_c_3 : IVec S_ 1 := constantI S_ 1 1#1
  let main_v11 : IVec S_ 1 := (fun x v => Host.reduce IntOp.andi x v reducesTo_S2x2048x32_S_d0_1_2 h_S_) main_v10 main_c_3
  let main_v12 : FVec F S1x64 .f32 := Host.absf main_arg4
  let main_cst_4 : FVec F S_ .f32 := constant S_ .f32 0x7F800000#32
  let main_v13 : FVec F S1x64 .f32 := broadcastInDim S1x64 ![] bcast_S_S1x64 main_cst_4
  let main_v14 : IVec S1x64 1 := cmpf .olt main_v12 main_v13
  let main_c_5 : IVec S_ 1 := constantI S_ 1 1#1
  let main_v15 : IVec S_ 1 := (fun x v => Host.reduce IntOp.andi x v reducesTo_S1x64_S_d0_1 h_S_) main_v14 main_c_5
  fn_part1 (F := F) main_arg5 main_arg6 main_arg7 main_arg8 main_arg9 main_arg10 main_v3 main_v7 main_v11 main_v15
-- ==== HiddenGrad.lean ====
abbrev S2x2048x5632 : Shape := ⟨3, ![2, 2048, 5632]⟩
abbrev S1x2816x1024 : Shape := ⟨3, ![1, 2816, 1024]⟩
abbrev S2x2048x1024 : Shape := ⟨3, ![2, 2048, 1024]⟩
abbrev S4096x5632 : Shape := ⟨2, ![4096, 5632]⟩
abbrev S4096x2816 : Shape := ⟨2, ![4096, 2816]⟩
abbrev S4096x1024 : Shape := ⟨2, ![4096, 1024]⟩
abbrev S2816x1024 : Shape := ⟨2, ![2816, 1024]⟩
abbrev S_ : Shape := ⟨0, ![]⟩
abbrev S8x128 : Shape := ⟨2, ![8, 128]⟩
abbrev S512x1024 : Shape := ⟨2, ![512, 1024]⟩
abbrev S512x2816 : Shape := ⟨2, ![512, 2816]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 14
  | .vmem => 9
  | .smem => 0
  | _ => 0

abbrev bufTy : (tb : Table) → Fin (tcTables nBuf tb) → BufTy
  | .hbm, ⟨0, _⟩ => ⟨S2x2048x5632, .f32⟩
  | .hbm, ⟨1, _⟩ => ⟨S1x2816x1024, .f32⟩
  | .hbm, ⟨2, _⟩ => ⟨S2x2048x1024, .f32⟩
  | .hbm, ⟨3, _⟩ => ⟨S4096x5632, .f32⟩
  | .hbm, ⟨4, _⟩ => ⟨S4096x5632, .bf16⟩
  | .hbm, ⟨5, _⟩ => ⟨S4096x2816, .bf16⟩
  | .hbm, ⟨6, _⟩ => ⟨S4096x2816, .bf16⟩
  | .hbm, ⟨7, _⟩ => ⟨S4096x1024, .f32⟩
  | .hbm, ⟨8, _⟩ => ⟨S4096x1024, .bf16⟩
  | .hbm, ⟨9, _⟩ => ⟨S2816x1024, .f32⟩
  | .hbm, ⟨10, _⟩ => ⟨S2816x1024, .bf16⟩
  | .hbm, ⟨11, _⟩ => ⟨S_, .f32⟩
  | .hbm, ⟨12, _⟩ => ⟨S8x128, .f32⟩
  | .hbm, ⟨13, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HiddenGradRefIdeal.lean ====
abbrev S2x2048x5632 : Shape := ⟨3, ![2, 2048, 5632]⟩
abbrev S1x2816x1024 : Shape := ⟨3, ![1, 2816, 1024]⟩
abbrev S2x2048x1024 : Shape := ⟨3, ![2, 2048, 1024]⟩
abbrev S2x2048x2816 : Shape := ⟨3, ![2, 2048, 2816]⟩
abbrev S_ : Shape := ⟨0, ![]⟩
abbrev S2816x1024 : Shape := ⟨2, ![2816, 1024]⟩
abbrev S4096x5632 : Shape := ⟨2, ![4096, 5632]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S1x2816x1024, .f32⟩
  | .hbm, ⟨2, _⟩ => ⟨S2x2048x1024, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S_, .f32⟩
  | .hbm, ⟨8, _⟩ => ⟨S2x2048x2816, .f32⟩
  | .hbm, ⟨9, _⟩ => ⟨S2x2048x2816, .f32⟩
  | .hbm, ⟨10, _⟩ => ⟨S_, .f32⟩
  | .hbm, ⟨11, _⟩ => ⟨S2x2048x2816, .f32⟩
  | .hbm, ⟨12, _⟩ => ⟨S2x2048x2816, .f32⟩
  | .hbm, ⟨13, _⟩ => ⟨S_, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S2816x1024, .f32⟩
  | .hbm, ⟨20, _⟩ => ⟨S2x2048x1024, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S2x2048x5632, .f32⟩
  | .hbm, ⟨29, _⟩ => ⟨S4096x5632, .f32⟩
  | .hbm, ⟨30, _⟩ => ⟨S4096x5632, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== OutLoss.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S2x1024 : Shape := ⟨2, ![2, 1024]⟩
abbrev S2x1x1024 : Shape := ⟨3, ![2, 1, 1024]⟩
abbrev S_ : Shape := ⟨0, ![]⟩
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S1024 : Shape := ⟨1, ![1024]⟩

abbrev nBuf : Space → Nat
  | .hbm => 19
  | .vmem => 16
  | .smem => 0
  | _ => 0

abbrev bufTy : (tb : Table) → Fin (tcTables nBuf tb) → BufTy
  | .hbm, ⟨0, _⟩ => ⟨S2x2048x2816, .f32⟩
  | .hbm, ⟨1, _⟩ => ⟨S1x2816x1024, .f32⟩
  | .hbm, ⟨2, _⟩ => ⟨S2x2048x1024, .f32⟩
  | .hbm, ⟨3, _⟩ => ⟨S2x1024, .f32⟩
  | .hbm, ⟨4, _⟩ => ⟨S2x2048x1024, .f32⟩
  | .hbm, ⟨5, _⟩ => ⟨S2x1x1024, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S4096x2816, .f32⟩
  | .hbm, ⟨10, _⟩ => ⟨S4096x2816, .bf16⟩
  | .hbm, ⟨11, _⟩ => ⟨S2816x1024, .f32⟩
  | .hbm, ⟨12, _⟩ => ⟨S2816x1024, .bf16⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S2x1x1024, .f32⟩
  | .hbm, ⟨18, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v28 : BitVec 1 := Scalar.cmpi .eq arg1 c0_i32
  let v29 : BitVec 32 := Scalar.extui v28
  let c0_i32_17 : BitVec 32 := 0#32
  let v30 : BitVec 1 := Scalar.cmpi .ne v29 c0_i32_17
  v30

def k0_cond2 (i : grid0.Coords) : BitVec 1 :=
  let arg1 : BitVec 32 := BitVec.ofNat 32 (i 1).val
  let c0_i32 : BitVec 32 := 0#32
  let v28 : BitVec 1 := Scalar.cmpi .eq arg1 c0_i32
  let v_true : BitVec 1 := 1#1
  let v31 : BitVec 1 := Scalar.xori v28 v_true
  let v32 : BitVec 32 := Scalar.extui v31
  let c0_i32_18 : BitVec 32 := 0#32
  let v33 : BitVec 1 := Scalar.cmpi .ne v32 c0_i32_18
  v33

def k0_cond3 (i : grid0.Coords) : BitVec 1 :=
  let arg1 : BitVec 32 := BitVec.ofNat 32 (i 1).val
  let c0_i32_19 : BitVec 32 := 0#32
  let v34 : BitVec 1 := Scalar.cmpi .eq arg1 c0_i32_19
  let arg0 : BitVec 32 := BitVec.ofNat 32 (i 0).val
  let c0_i32_20 : BitVec 32 := 0#32
  let v35 : BitVec 1 := Scalar.cmpi .eq arg0 c0_i32_20
  let v36 : BitVec 1 := Scalar.andi v34 v35
  let v37 : BitVec 32 := Scalar.extui v36
  let c0_i32_21 : BitVec 32 := 0#32
  let v38 : BitVec 1 := Scalar.cmpi .ne v37 c0_i32_21
  v38

def k0_cond4 (i : grid0.Coords) : BitVec 1 :=
  let arg1 : BitVec 32 := BitVec.ofNat 32 (i 1).val
  let c0_i32_19 : BitVec 32 := 0#32
  let v34 : BitVec 1 := Scalar.cmpi .eq arg1 c0_i32_19
  let arg0 : BitVec 32 := BitVec.ofNat 32 (i 0).val
  let c0_i32_20 : BitVec 32 := 0#32
  let v35 : BitVec 1 := Scalar.cmpi .eq arg0 c0_i32_20
  let v36 : BitVec 1 := Scalar.andi v34 v35
  let true_22 : BitVec 1 := 1#1
  let v39 : BitVec 1 := Scalar.xori v36 true_22
  let v40 : BitVec 32 := Scalar.extui v39
  let c0_i32_23 : BitVec 32 := 0#32
  let v41 : BitVec 1 := Scalar.cmpi .ne v40 c0_i32_23
  v41

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== OutLossRefIdeal.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S2x1024 : Shape := ⟨2, ![2, 1024]⟩
abbrev S2816x1024 : Shape := ⟨2, ![2816, 1024]⟩
abbrev S2x1x1024 : Shape := ⟨3, ![2, 1, 1024]⟩
abbrev S_ : Shape := ⟨0, ![]⟩
abbrev S2x2048 : Shape := ⟨2, ![2, 2048]⟩
abbrev S4096x1024 : Shape := ⟨2, ![4096, 1024]⟩
abbrev S1024 : Shape := ⟨1, ![1024]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S1x2816x1024, .f32⟩
  | .hbm, ⟨2, _⟩ => ⟨S2x2048x1024, .f32⟩
  | .hbm, ⟨3, _⟩ => ⟨S2x1024, .f32⟩
  | .hbm, ⟨4, _⟩ => ⟨S2x2048x1024, .f32⟩
  | .hbm, ⟨5, _⟩ => ⟨S2816x1024, .f32⟩
  | .hbm, ⟨6, _⟩ => ⟨S2x2048x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S_, .f32⟩
  | .hbm, ⟨22, _⟩ => ⟨S2x2048, .f32⟩
  | .hbm, ⟨23, _⟩ => ⟨S2x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x2048, .f32⟩
  | .hbm, ⟨32, _⟩ => ⟨S_, .f32⟩
  | .hbm, ⟨33, _⟩ => ⟨S2x2048, .f32⟩
  | .hbm, ⟨34, _⟩ => ⟨S2x2048, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x1024, .f32⟩
  | .hbm, ⟨42, _⟩ => ⟨S2x1x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1024, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== MergeBwd.lean ====
abbrev S2x2048x2048 : Shape := ⟨3, ![2, 2048, 2048]⟩
abbrev S2x2048x512 : Shape := ⟨3, ![2, 2048, 512]⟩
abbrev S1x512x1024 : Shape := ⟨3, ![1, 512, 1024]⟩
abbrev S1x1024x1024 : Shape := ⟨3, ![1, 1024, 1024]⟩
abbrev S2x2048x1024 : Shape := ⟨3, ![2, 2048, 1024]⟩
abbrev S512x1024 : Shape := ⟨2, ![512, 1024]⟩
abbrev S4096x1024 : Shape := ⟨2, ![4096, 1024]⟩
abbrev S4096x2048 : Shape := ⟨2, ![4096, 2048]⟩
abbrev S1024x512 : Shape := ⟨2, ![1024, 512]⟩
abbrev S1024x1024 : Shape := ⟨2, ![1024, 1024]⟩
abbrev S1024x8x64 : Shape := ⟨3, ![1024, 8, 64]⟩
abbrev S_ : Shape := ⟨0, ![]⟩
abbrev S1024x8x128 : Shape := ⟨3, ![1024, 8, 128]⟩
abbrev S4096x512 : Shape := ⟨2, ![4096, 512]⟩
abbrev S512x2048 : Shape := ⟨2, ![512, 2048]⟩
abbrev S512x512 : Shape := ⟨2, ![512, 512]⟩

abbrev nBuf : Space → Nat
  | .hbm => 37
  | .vmem => 21
  | .smem => 0
  | _ => 0

abbrev bufTy : (tb : Table) → Fin (tcTables nBuf tb) → BufTy
  | .hbm, ⟨0, _⟩ => ⟨S2x2048x2048, .f32⟩
  | .hbm, ⟨1, _⟩ => ⟨S2x2048x512, .f32⟩
  | .hbm, ⟨2, _⟩ => ⟨S2x2048x512, .f32⟩
  | .hbm, ⟨3, _⟩ => ⟨S1x512x1024, .f32⟩
  | .hbm, ⟨4, _⟩ => ⟨S1x512x1024, .f32⟩
  | .hbm, ⟨5, _⟩ => ⟨S1x1024x1024, .f32⟩
  | .hbm, ⟨6, _⟩ => ⟨S2x2048x1024, .f32⟩
  | .hbm, ⟨7, _⟩ => ⟨S512x1024, .f32⟩
  | .hbm, ⟨8, _⟩ => ⟨S2x2048x1024, .f32⟩
  | .hbm, ⟨9, _⟩ => ⟨S512x1024, .f32⟩
  | .hbm, ⟨10, _⟩ => ⟨S2x2048x1024, .f32⟩
  | .hbm, ⟨11, _⟩ => ⟨S4096x1024, .f32⟩
  | .hbm, ⟨12, _⟩ => ⟨S4096x1024, .bf16⟩
  | .hbm, ⟨13, _⟩ => ⟨S4096x2048, .f32⟩
  | .hbm, ⟨14, _⟩ => ⟨S4096x2048, .bf16⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S512x1024, .f32⟩
  | .hbm, ⟨20, _⟩ => ⟨S1024x512, .f32⟩
  | .hbm, ⟨21, _⟩ => ⟨S1024x512, .bf16⟩
  | .hbm, ⟨22, _⟩ => ⟨S1024x1024, .f32⟩
  | .hbm, ⟨23, _⟩ => ⟨S1024x1024, .bf16⟩
  | .hbm, ⟨24, _⟩ => ⟨S512x1024, .f32⟩
  | .hbm, ⟨25, _⟩ => ⟨S1024x512, .f32⟩
  | .hbm, ⟨26, _⟩ => ⟨S1024x8x64, .f32⟩
  | .hbm, ⟨27, _⟩ => ⟨S_, .i32⟩
  | .hbm, ⟨28, _⟩ => ⟨S_, .f32⟩
  | .hbm, ⟨29, _⟩ => ⟨S1024x8x128, .f32⟩
  | .hbm, ⟨30, _⟩ => ⟨S1024x1024, .f32⟩
  | .hbm, ⟨31, _⟩ => ⟨S1024x1024, .bf16⟩
  | .hbm, ⟨32, _⟩ => ⟨S4096x1024, .bf16⟩
  | .hbm, ⟨33, _⟩ => ⟨S4096x1024, .bf16⟩
  | .hbm, ⟨34, _⟩ => ⟨S4096x2048, .bf16⟩
  | .hbm, ⟨35, _⟩ => ⟨S4096x512, .f32⟩
  | .hbm, ⟨36, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeBwdRefIdeal.lean ====
abbrev S2x2048x2048 : Shape := ⟨3, ![2, 2048, 2048]⟩
abbrev S2x2048x512 : Shape := ⟨3, ![2, 2048, 512]⟩
abbrev S1x512x1024 : Shape := ⟨3, ![1, 512, 1024]⟩
abbrev S1x1024x1024 : Shape := ⟨3, ![1, 1024, 1024]⟩
abbrev S2x2048x1024 : Shape := ⟨3, ![2, 2048, 1024]⟩
abbrev S512x1024 : Shape := ⟨2, ![512, 1024]⟩
abbrev S_ : Shape := ⟨0, ![]⟩
abbrev S1024x1024 : Shape := ⟨2, ![1024, 1024]⟩
abbrev S4096x8x64 : Shape := ⟨3, ![4096, 8, 64]⟩
abbrev S4096x8x128 : Shape := ⟨3, ![4096, 8, 128]⟩
abbrev S4096x1024 : Shape := ⟨2, ![4096, 1024]⟩
abbrev S4096x2048 : Shape := ⟨2, ![4096, 2048]⟩
abbrev S4096x512 : Shape := ⟨2, ![4096, 512]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x512, .f32⟩
  | .hbm, ⟨2, _⟩ => ⟨S2x2048x512, .f32⟩
  | .hbm, ⟨3, _⟩ => ⟨S1x512x1024, .f32⟩
  | .hbm, ⟨4, _⟩ => ⟨S1x512x1024, .f32⟩
  | .hbm, ⟨5, _⟩ => ⟨S1x1024x1024, .f32⟩
  | .hbm, ⟨6, _⟩ => ⟨S2x2048x1024, .f32⟩
  | .hbm, ⟨7, _⟩ => ⟨S512x1024, .f32⟩
  | .hbm, ⟨8, _⟩ => ⟨S2x2048x1024, .f32⟩
  | .hbm, ⟨9, _⟩ => ⟨S512x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S1024x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x2048, .f32⟩
  | .hbm, ⟨50, _⟩ => ⟨S2x2048x512, .f32⟩
  | .hbm, ⟨51, _⟩ => ⟨S2x2048x512, .f32⟩
  | .hbm, ⟨52, _⟩ => ⟨S4096x8x64, .f32⟩
  | .hbm, ⟨53, _⟩ => ⟨S_, .i32⟩
  | .hbm, ⟨54, _⟩ => ⟨S_, .f32⟩
  | .hbm, ⟨55, _⟩ => ⟨S4096x8x128, .f32⟩
  | .hbm, ⟨56, _⟩ => ⟨S4096x1024, .f32⟩
  | .hbm, ⟨57, _⟩ => ⟨S4096x1024, .bf16⟩
  | .hbm, ⟨58, _⟩ => ⟨S4096x1024, .f32⟩
  | .hbm, ⟨59, _⟩ => ⟨S4096x1024, .bf16⟩
  | .hbm, ⟨60, _⟩ => ⟨S4096x2048, .f32⟩
  | .hbm, ⟨61, _⟩ => ⟨S4096x2048, .bf16⟩
  | .hbm, ⟨62, _⟩ => ⟨S4096x512, .f32⟩
  | .hbm, ⟨63, _⟩ => ⟨S4096x1024, .f32⟩
  | .hbm, ⟨64, _⟩ => ⟨S4096x1024, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call0_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== LatentBwd.lean ====
abbrev S2x2048x672 : Shape := ⟨3, ![2, 2048, 672]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S2x2048x8x96 : Shape := ⟨4, ![2, 2048, 8, 96]⟩
abbrev S2x2048x8x128 : Shape := ⟨4, ![2, 2048, 8, 128]⟩
abbrev S2x2048x32 : Shape := ⟨3, ![2, 2048, 32]⟩
abbrev S2x2048x640 : Shape := ⟨3, ![2, 2048, 640]⟩
abbrev S4096x640 : Shape := ⟨2, ![4096, 640]⟩
abbrev S_ : Shape := ⟨0, ![]⟩
abbrev S2x2048x128 : Shape := ⟨3, ![2, 2048, 128]⟩
abbrev S4096x128 : Shape := ⟨2, ![4096, 128]⟩
abbrev S4096x768 : Shape := ⟨2, ![4096, 768]⟩
abbrev S4096x1024 : Shape := ⟨2, ![4096, 1024]⟩
abbrev S384x768 : Shape := ⟨2, ![384, 768]⟩
abbrev S768x384 : Shape := ⟨2, ![768, 384]⟩
abbrev S8x96x384 : Shape := ⟨3, ![8, 96, 384]⟩
abbrev S8x128x384 : Shape := ⟨3, ![8, 128, 384]⟩
abbrev S1024x384 : Shape := ⟨2, ![1024, 384]⟩
abbrev S256x1024 : Shape := ⟨2, ![256, 1024]⟩
abbrev S1024x256 : Shape := ⟨2, ![1024, 256]⟩
abbrev S512x1024 : Shape := ⟨2, ![512, 1024]⟩
abbrev S512x128 : Shape := ⟨2, ![512, 128]⟩
abbrev S512x768 : Shape := ⟨2, ![512, 768]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S384 : Shape := ⟨1, ![384]⟩
abbrev S256 : Shape := ⟨1, ![256]⟩

abbrev nBuf : Space → Nat
  | .hbm => 41
  | .vmem => 16
  | .smem => 0
  | _ => 0

abbrev bufTy : (tb : Table) → Fin (tcTables nBuf tb) → BufTy
  | .hbm, ⟨0, _⟩ => ⟨S2x2048x672, .f32⟩
  | .hbm, ⟨1, _⟩ => ⟨S1x384, .f32⟩
  | .hbm, ⟨2, _⟩ => ⟨S1x256, .f32⟩
  | .hbm, ⟨3, _⟩ => ⟨S1x384x768, .f32⟩
  | .hbm, ⟨4, _⟩ => ⟨S1x256x1024, .f32⟩
  | .hbm, ⟨5, _⟩ => ⟨S2x2048x8x96, .f32⟩
  | .hbm, ⟨6, _⟩ => ⟨S2x2048x8x128, .f32⟩
  | .hbm, ⟨7, _⟩ => ⟨S2x2048x32, .f32⟩
  | .hbm, ⟨8, _⟩ => ⟨S2x2048x640, .f32⟩
  | .hbm, ⟨9, _⟩ => ⟨S4096x640, .f32⟩
  | .hbm, ⟨10, _⟩ => ⟨S2x2048x32, .f32⟩
  | .hbm, ⟨11, _⟩ => ⟨S_, .i32⟩
  | .hbm, ⟨12, _⟩ => ⟨S_, .f32⟩
  | .hbm, ⟨13, _⟩ => ⟨S2x2048x128, .f32⟩
  | .hbm, ⟨14, _⟩ => ⟨S4096x128, .f32⟩
  | .hbm, ⟨15, _⟩ => ⟨S4096x768, .f32⟩
  | .hbm, ⟨16, _⟩ => ⟨S_, .i32⟩
  | .hbm, ⟨17, _⟩ => ⟨S_, .f32⟩
  | .hbm, ⟨18, _⟩ => ⟨S2x2048x8x128, .f32⟩
  | .hbm, ⟨19, _⟩ => ⟨S4096x1024, .f32⟩
  | .hbm, ⟨20, _⟩ => ⟨S4096x1024, .bf16⟩
  | .hbm, ⟨21, _⟩ => ⟨S384x768, .f32⟩
  | .hbm, ⟨22, _⟩ => ⟨S768x384, .f32⟩
  | .hbm, ⟨23, _⟩ => ⟨S8x96x384, .f32⟩
  | .hbm, ⟨24, _⟩ => ⟨S_, .i32⟩
  | .hbm, ⟨25, _⟩ => ⟨S_, .f32⟩
  | .hbm, ⟨26, _⟩ => ⟨S8x128x384, .f32⟩
  | .hbm, ⟨27, _⟩ => ⟨S1024x384, .f32⟩
  | .hbm, ⟨28, _⟩ => ⟨S1024x384, .bf16⟩
  | .hbm, ⟨29, _⟩ => ⟨S4096x1024, .f32⟩
  | .hbm, ⟨30, _⟩ => ⟨S4096x1024, .bf16⟩
  | .hbm, ⟨31, _⟩ => ⟨S256x1024, .f32⟩
  | .hbm, ⟨32, _⟩ => ⟨S1024x256, .f32⟩
  | .hbm, ⟨33, _⟩ => ⟨S1024x256, .bf16⟩
  | .hbm, ⟨34, _⟩ => ⟨S_, .i32⟩
  | .hbm, ⟨35, _⟩ => ⟨S_, .f32⟩
  | .hbm, ⟨36, _⟩ => ⟨S2x2048x128, .f32⟩
  | .hbm, ⟨37, _⟩ => ⟨S4096x128, .f32⟩
  | .hbm, ⟨38, _⟩ => ⟨S4096x768, .bf16⟩
  | .hbm, ⟨39, _⟩ => ⟨S1x384, .f32⟩
  | .hbm, ⟨40, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S512x768, .f32⟩
  | .local _ .vmem, ⟨7, _⟩ => ⟨S512x768, .f32⟩
  | .local _ .vmem, ⟨8, _⟩ => ⟨S1x384, .f32⟩
  | .local _ .vmem, ⟨9, _⟩ => ⟨S1x256, .f32⟩
  | .local _ .vmem, ⟨10, _⟩ => ⟨S1024x384, .bf16⟩
  | .local _ .vmem, ⟨11, _⟩ => ⟨S1024x256, .bf16⟩
  | .local _ .vmem, ⟨12, _⟩ => ⟨S512x768, .bf16⟩
  | .local _ .vmem, ⟨13, _⟩ => ⟨S512x768, .bf16⟩
  | .local _ .vmem, ⟨14, _⟩ => ⟨S1x384, .f32⟩
  | .local _ .vmem, ⟨15, _⟩ => ⟨S1x256, .f32⟩
  | _, _ => ⟨S2x2048x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_call3_v0 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v71 : BitVec 1 := Scalar.cmpi .eq arg1 c0_i32
  let arg0 : BitVec 32 := BitVec.ofNat 32 (i 0).val
  let c0_i32_30 : BitVec 32 := 0#32
  let v72 : BitVec 1 := Scalar.cmpi .eq arg0 c0_i32_30
  let v73 : BitVec 1 := Scalar.andi v71 v72
  let v74 : BitVec 32 := Scalar.extui v73
  let c0_i32_31 : BitVec 32 := 0#32
  let v75 : BitVec 1 := Scalar.cmpi .ne v74 c0_i32_31
  v75

def k0_cond2 (i : grid0.Coords) : BitVec 1 :=
  let arg1 : BitVec 32 := BitVec.ofNat 32 (i 1).val
  let c0_i32 : BitVec 32 := 0#32
  let v71 : BitVec 1 := Scalar.cmpi .eq arg1 c0_i32
  let arg0 : BitVec 32 := BitVec.ofNat 32 (i 0).val
  let c0_i32_30 : BitVec 32 := 0#32
  let v72 : BitVec 1 := Scalar.cmpi .eq arg0 c0_i32_30
  let v73 : BitVec 1 := Scalar.andi v71 v72
  let v_true : BitVec 1 := 1#1
  let v76 : BitVec 1 := Scalar.xori v73 v_true
  let v77 : BitVec 32 := Scalar.extui v76
  let c0_i32_32 : BitVec 32 := 0#32
  let v78 : BitVec 1 := Scalar.cmpi .ne v77 c0_i32_32
  v78

def k0_cond3 (i : grid0.Coords) : BitVec 1 :=
  let arg1 : BitVec 32 := BitVec.ofNat 32 (i 1).val
  let c0_i32_33 : BitVec 32 := 0#32
  let v79 : BitVec 1 := Scalar.cmpi .eq arg1 c0_i32_33
  let arg0 : BitVec 32 := BitVec.ofNat 32 (i 0).val
  let c0_i32_34 : BitVec 32 := 0#32
  let v80 : BitVec 1 := Scalar.cmpi .eq arg0 c0_i32_34
  let v81 : BitVec 1 := Scalar.andi v79 v80
  let v82 : BitVec 32 := Scalar.extui v81
  let c0_i32_35 : BitVec 32 := 0#32
  let v83 : BitVec 1 := Scalar.cmpi .ne v82 c0_i32_35
  v83

def k0_cond4 (i : grid0.Coords) : BitVec 1 :=
  let arg1 : BitVec 32 := BitVec.ofNat 32 (i 1).val
  let c0_i32_33 : BitVec 32 := 0#32
  let v79 : BitVec 1 := Scalar.cmpi .eq arg1 c0_i32_33
  let arg0 : BitVec 32 := BitVec.ofNat 32 (i 0).val
  let c0_i32_34 : BitVec 32 := 0#32
  let v80 : BitVec 1 := Scalar.cmpi .eq arg0 c0_i32_34
  let v81 : BitVec 1 := Scalar.andi v79 v80
  let true_36 : BitVec 1 := 1#1
  let v84 : BitVec 1 := Scalar.xori v81 true_36
  let v85 : BitVec 32 := Scalar.extui v84
  let c0_i32_37 : BitVec 32 := 0#32
  let v86 : BitVec 1 := Scalar.cmpi .ne v85 c0_i32_37
  v86

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== LatentBwdIdeal.lean ====
variable {F : FTy → Type} [FloatOps F] [Named F]
def κ : String → Option EReal := fun
  | "inv_q_lora" => some ((384⁻¹ : ℝ) : EReal)
  | _ => none
-- ==== LatentBwdRefIdeal.lean ====
abbrev S2x2048x672 : Shape := ⟨3, ![2, 2048, 672]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S2x2048x8x96 : Shape := ⟨4, ![2, 2048, 8, 96]⟩
abbrev S2x2048x8x128 : Shape := ⟨4, ![2, 2048, 8, 128]⟩
abbrev S2x2048x32 : Shape := ⟨3, ![2, 2048, 32]⟩
abbrev S2x2048x384 : Shape := ⟨3, ![2, 2048, 384]⟩
abbrev S2x2048x256 : Shape := ⟨3, ![2, 2048, 256]⟩
abbrev S384 : Shape := ⟨1, ![384]⟩
abbrev S_ : Shape := ⟨0, ![]⟩
abbrev S2x2048 : Shape := ⟨2, ![2, 2048]⟩
abbrev S2x2048x1 : Shape := ⟨3, ![2, 2048, 1]⟩
abbrev S1x1x384 : Shape := ⟨3, ![1, 1, 384]⟩
abbrev S384x768 : Shape := ⟨2, ![384, 768]⟩
abbrev S2x2048x768 : Shape := ⟨3, ![2, 2048, 768]⟩
abbrev S256 : Shape := ⟨1, ![256]⟩
abbrev S1x1x256 : Shape := ⟨3, ![1, 1, 256]⟩
abbrev S256x1024 : Shape := ⟨2, ![256, 1024]⟩
abbrev S2x2048x1024 : Shape := ⟨3, ![2, 2048, 1024]⟩
abbrev S2x2048x128 : Shape := ⟨3, ![2, 2048, 128]⟩
abbrev S4096x768 : Shape := ⟨2, ![4096, 768]⟩

abbrev nBuf : Space → Nat
  | .hbm => 125
  | .vmem => 0
  | .smem => 0
  | _ => 0

abbrev bufTy : (tb : Table) → Fin (tcTables nBuf tb) → BufTy
  | .hbm, ⟨0, _⟩ => ⟨S2x2048x672, .f32⟩
  | .hbm, ⟨1, _⟩ => ⟨S1x384, .f32⟩
  | .hbm, ⟨2, _⟩ => ⟨S1x256, .f32⟩
  | .hbm, ⟨3, _⟩ => ⟨S1x384x768, .f32⟩
  | .hbm, ⟨4, _⟩ => ⟨S1x256x1024, .f32⟩
  | .hbm, ⟨5, _⟩ => ⟨S2x2048x8x96, .f32⟩
  | .hbm, ⟨6, _⟩ => ⟨S2x2048x8x128, .f32⟩
  | .hbm, ⟨7, _⟩ => ⟨S2x2048x32, .f32⟩
  | .hbm, ⟨8, _⟩ => ⟨S2x2048x384, .f32⟩
  | .hbm, ⟨9, _⟩ => ⟨S2x2048x256, .f32⟩
  | .hbm, ⟨10, _⟩ => ⟨S2x2048x32, .f32⟩
  | .hbm, ⟨11, _⟩ => ⟨S384, .f32⟩
  | .hbm, ⟨12, _⟩ => ⟨S2x2048x384, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x384, .f32⟩
  | .hbm, ⟨28, _⟩ => ⟨S2x2048x384, .f32⟩
  | .hbm, ⟨29, _⟩ => ⟨S1x1x384, .f32⟩
  | .hbm, ⟨30, _⟩ => ⟨S2x2048x384, .f32⟩
  | .hbm, ⟨31, _⟩ => ⟨S2x2048x384, .f32⟩
  | .hbm, ⟨32, _⟩ => ⟨S384x768, .f32⟩
  | .hbm, ⟨33, _⟩ => ⟨S2x2048x768, .f32⟩
  | .hbm, ⟨34, _⟩ => ⟨S2x2048x8x96, .f32⟩
  | .hbm, ⟨35, _⟩ => ⟨S256, .f32⟩
  | .hbm, ⟨36, _⟩ => ⟨S2x2048x256, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S_, .f32⟩
  | .hbm, ⟨41, _⟩ => ⟨S2x2048x1, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S2x2048x256, .f32⟩
  | .hbm, ⟨52, _⟩ => ⟨S2x2048x256, .f32⟩
  | .hbm, ⟨53, _⟩ => ⟨S1x1x256, .f32⟩
  | .hbm, ⟨54, _⟩ => ⟨S2x2048x256, .f32⟩
  | .hbm, ⟨55, _⟩ => ⟨S2x2048x256, .f32⟩
  | .hbm, ⟨56, _⟩ => ⟨S256x1024, .f32⟩
  | .hbm, ⟨57, _⟩ => ⟨S2x2048x1024, .f32⟩
  | .hbm, ⟨58, _⟩ => ⟨S2x2048x8x128, .f32⟩
  | .hbm, ⟨59, _⟩ => ⟨S2x2048x1024, .f32⟩
  | .hbm, ⟨60, _⟩ => ⟨S2x2048x256, .f32⟩
  | .hbm, ⟨61, _⟩ => ⟨S2x2048x256, .f32⟩
  | .hbm, ⟨62, _⟩ => ⟨S_, .f32⟩
  | .hbm, ⟨63, _⟩ => ⟨S256, .f32⟩
  | .hbm, ⟨64, _⟩ => ⟨S1x1x256, .f32⟩
  | .hbm, ⟨65, _⟩ => ⟨S2x2048x256, .f32⟩
  | .hbm, ⟨66, _⟩ => ⟨S2x2048x256, .f32⟩
  | .hbm, ⟨67, _⟩ => ⟨S_, .f32⟩
  | .hbm, ⟨68, _⟩ => ⟨S256, .f32⟩
  | .hbm, ⟨69, _⟩ => ⟨S2x2048x256, .f32⟩
  | .hbm, ⟨70, _⟩ => ⟨S_, .f32⟩
  | .hbm, ⟨71, _⟩ => ⟨S2x2048, .f32⟩
  | .hbm, ⟨72, _⟩ => ⟨S2x2048x1, .f32⟩
  | .hbm, ⟨73, _⟩ => ⟨S2x2048x256, .f32⟩
  | .hbm, ⟨74, _⟩ => ⟨S2x2048x256, .f32⟩
  | .hbm, ⟨75, _⟩ => ⟨S2x2048x1, .f32⟩
  | .hbm, ⟨76, _⟩ => ⟨S_, .f32⟩
  | .hbm, ⟨77, _⟩ => ⟨S2x2048x1, .f32⟩
  | .hbm, ⟨78, _⟩ => ⟨S2x2048x1, .f32⟩
  | .hbm, ⟨79, _⟩ => ⟨S_, .f32⟩
  | .hbm, ⟨80, _⟩ => ⟨S2x2048, .f32⟩
  | .hbm, ⟨81, _⟩ => ⟨S2x2048x256, .f32⟩
  | .hbm, ⟨82, _⟩ => ⟨S2x2048x256, .f32⟩
  | .hbm, ⟨83, _⟩ => ⟨S2x2048x256, .f32⟩
  | .hbm, ⟨84, _⟩ => ⟨S2x2048x256, .f32⟩
  | .hbm, ⟨85, _⟩ => ⟨S2x2048x256, .f32⟩
  | .hbm, ⟨86, _⟩ => ⟨S1x256, .f32⟩
  | .hbm, ⟨87, _⟩ => ⟨S2x2048x768, .f32⟩
  | .hbm, ⟨88, _⟩ => ⟨S2x2048x384, .f32⟩
  | .hbm, ⟨89, _⟩ => ⟨S2x2048x384, .f32⟩
  | .hbm, ⟨90, _⟩ => ⟨S_, .f32⟩
  | .hbm, ⟨91, _⟩ => ⟨S384, .f32⟩
  | .hbm, ⟨92, _⟩ => ⟨S1x1x384, .f32⟩
  | .hbm, ⟨93, _⟩ => ⟨S2x2048x384, .f32⟩
  | .hbm, ⟨94, _⟩ => ⟨S2x2048x384, .f32⟩
  | .hbm, ⟨95, _⟩ => ⟨S_, .f32⟩
  | .hbm, ⟨96, _⟩ => ⟨S384, .f32⟩
  | .hbm, ⟨97, _⟩ => ⟨S2x2048x384, .f32⟩
  | .hbm, ⟨98, _⟩ => ⟨S_, .f32⟩
  | .hbm, ⟨99, _⟩ => ⟨S2x2048, .f32⟩
  | .hbm, ⟨100, _⟩ => ⟨S2x2048x1, .f32⟩
  | .hbm, ⟨101, _⟩ => ⟨S2x2048x384, .f32⟩
  | .hbm, ⟨102, _⟩ => ⟨S2x2048x384, .f32⟩
  | .hbm, ⟨103, _⟩ => ⟨S2x2048x1, .f32⟩
  | .hbm, ⟨104, _⟩ => ⟨S_, .f32⟩
  | .hbm, ⟨105, _⟩ => ⟨S2x2048x1, .f32⟩
  | .hbm, ⟨106, _⟩ => ⟨S2x2048x1, .f32⟩
  | .hbm, ⟨107, _⟩ => ⟨S_, .f32⟩
  | .hbm, ⟨108, _⟩ => ⟨S2x2048, .f32⟩
  | .hbm, ⟨109, _⟩ => ⟨S2x2048x384, .f32⟩
  | .hbm, ⟨110, _⟩ => ⟨S2x2048x384, .f32⟩
  | .hbm, ⟨111, _⟩ => ⟨S2x2048x384, .f32⟩
  | .hbm, ⟨112, _⟩ => ⟨S2x2048x384, .f32⟩
  | .hbm, ⟨113, _⟩ => ⟨S2x2048x384, .f32⟩
  | .hbm, ⟨114, _⟩ => ⟨S1x384, .f32⟩
  | .hbm, ⟨115, _⟩ => ⟨S2x2048x672, .f32⟩
  | .hbm, ⟨116, _⟩ => ⟨S2x2048x384, .f32⟩
  | .hbm, ⟨117, _⟩ => ⟨S2x2048x256, .f32⟩
  | .hbm, ⟨118, _⟩ => ⟨S2x2048x32, .f32⟩
  | .hbm, ⟨119, _⟩ => ⟨S_, .i32⟩
  | .hbm, ⟨120, _⟩ => ⟨S_, .f32⟩
  | .hbm, ⟨121, _⟩ => ⟨S2x2048x128, .f32⟩
  | .hbm, ⟨122, _⟩ => ⟨S2x2048x768, .f32⟩
  | .hbm, ⟨123, _⟩ => ⟨S4096x768, .f32⟩
  | .hbm, ⟨124, _⟩ => ⟨S4096x768, .bf16⟩
  | _, _ => ⟨S2x2048x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_v74 : Ref sig .tc := ⟨.hbm, 97, rfl⟩
abbrev main_cst_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c : Ref sig .tc := ⟨.hbm, 119, rfl⟩
abbrev main_call0_v0 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]
-- ==== NormBwd.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S2x1x1024 : Shape := ⟨3, ![2, 1, 1024]⟩
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩
abbrev S512x5632 : Shape := ⟨2, ![512, 5632]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 30
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x1024, .f32⟩
  | .hbm, ⟨6, _⟩ => ⟨S1x1024x5632, .f32⟩
  | .hbm, ⟨7, _⟩ => ⟨S2x2048x5632, .f32⟩
  | .hbm, ⟨8, _⟩ => ⟨S2x2048x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x1x1024, .f32⟩
  | .hbm, ⟨14, _⟩ => ⟨S4096x5632, .f32⟩
  | .hbm, ⟨15, _⟩ => ⟨S4096x5632, .bf16⟩
  | .hbm, ⟨16, _⟩ => ⟨S1024x5632, .f32⟩
  | .hbm, ⟨17, _⟩ => ⟨S5632x1024, .f32⟩
  | .hbm, ⟨18, _⟩ => ⟨S5632x1024, .bf16⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S2x1x1024, .f32⟩
  | .hbm, ⟨24, _⟩ => ⟨S4096x1024, .f32⟩
  | .hbm, ⟨25, _⟩ => ⟨S4096x1024, .bf16⟩
  | .hbm, ⟨26, _⟩ => ⟨S2x1x1024, .f32⟩
  | .hbm, ⟨27, _⟩ => ⟨S2x1x1024, .f32⟩
  | .hbm, ⟨28, _⟩ => ⟨S2x1x1024, .f32⟩
  | .hbm, ⟨29, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S5632x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v64 : BitVec 1 := Scalar.cmpi .eq arg1 c0_i32
  let v65 : BitVec 32 := Scalar.extui v64
  let c0_i32_31 : BitVec 32 := 0#32
  let v66 : BitVec 1 := Scalar.cmpi .ne v65 c0_i32_31
  v66

def k0_cond2 (i : grid0.Coords) : BitVec 1 :=
  let arg1 : BitVec 32 := BitVec.ofNat 32 (i 1).val
  let c0_i32 : BitVec 32 := 0#32
  let v64 : BitVec 1 := Scalar.cmpi .eq arg1 c0_i32
  let v_true : BitVec 1 := 1#1
  let v67 : BitVec 1 := Scalar.xori v64 v_true
  let v68 : BitVec 32 := Scalar.extui v67
  let c0_i32_32 : BitVec 32 := 0#32
  let v69 : BitVec 1 := Scalar.cmpi .ne v68 c0_i32_32
  v69

def k0_cond3 (i : grid0.Coords) : BitVec 1 :=
  let arg1 : BitVec 32 := BitVec.ofNat 32 (i 1).val
  let c0_i32_33 : BitVec 32 := 0#32
  let v70 : BitVec 1 := Scalar.cmpi .eq arg1 c0_i32_33
  let v71 : BitVec 32 := Scalar.extui v70
  let c0_i32_34 : BitVec 32 := 0#32
  let v72 : BitVec 1 := Scalar.cmpi .ne v71 c0_i32_34
  v72

def k0_cond4 (i : grid0.Coords) : BitVec 1 :=
  let arg1 : BitVec 32 := BitVec.ofNat 32 (i 1).val
  let c0_i32_33 : BitVec 32 := 0#32
  let v70 : BitVec 1 := Scalar.cmpi .eq arg1 c0_i32_33
  let true_35 : BitVec 1 := 1#1
  let v73 : BitVec 1 := Scalar.xori v70 true_35
  let v74 : BitVec 32 := Scalar.extui v73
  let c0_i32_36 : BitVec 32 := 0#32
  let v75 : BitVec 1 := Scalar.cmpi .ne v74 c0_i32_36
  v75

def k0_cond5 (i : grid0.Coords) : BitVec 1 :=
  let arg1 : BitVec 32 := BitVec.ofNat 32 (i 1).val
  let c0_i32_37 : BitVec 32 := 0#32
  let v76 : BitVec 1 := Scalar.cmpi .eq arg1 c0_i32_37
  let v77 : BitVec 32 := Scalar.extui v76
  let c0_i32_38 : BitVec 32 := 0#32
  let v78 : BitVec 1 := Scalar.cmpi .ne v77 c0_i32_38
  v78

def k0_cond6 (i : grid0.Coords) : BitVec 1 :=
  let arg1 : BitVec 32 := BitVec.ofNat 32 (i 1).val
  let c0_i32_37 : BitVec 32 := 0#32
  let v76 : BitVec 1 := Scalar.cmpi .eq arg1 c0_i32_37
  let true_39 : BitVec 1 := 1#1
  let v79 : BitVec 1 := Scalar.xori v76 true_39
  let v80 : BitVec 32 := Scalar.extui v79
  let c0_i32_40 : BitVec 32 := 0#32
  let v81 : BitVec 1 := Scalar.cmpi .ne v80 c0_i32_40
  v81

def k0_cond7 (i : grid0.Coords) : BitVec 1 :=
  let arg1 : BitVec 32 := BitVec.ofNat 32 (i 1).val
  let c0_i32_41 : BitVec 32 := 0#32
  let v82 : BitVec 1 := Scalar.cmpi .eq arg1 c0_i32_41
  let arg0 : BitVec 32 := BitVec.ofNat 32 (i 0).val
  let c0_i32_42 : BitVec 32 := 0#32
  let v83 : BitVec 1 := Scalar.cmpi .eq arg0 c0_i32_42
  let v84 : BitVec 1 := Scalar.andi v82 v83
  let v85 : BitVec 32 := Scalar.extui v84
  let c0_i32_43 : BitVec 32 := 0#32
  let v86 : BitVec 1 := Scalar.cmpi .ne v85 c0_i32_43
  v86

def k0_cond8 (i : grid0.Coords) : BitVec 1 :=
  let arg1 : BitVec 32 := BitVec.ofNat 32 (i 1).val
  let c0_i32_41 : BitVec 32 := 0#32
  let v82 : BitVec 1 := Scalar.cmpi .eq arg1 c0_i32_41
  let arg0 : BitVec 32 := BitVec.ofNat 32 (i 0).val
  let c0_i32_42 : BitVec 32 := 0#32
  let v83 : BitVec 1 := Scalar.cmpi .eq arg0 c0_i32_42
  let v84 : BitVec 1 := Scalar.andi v82 v83
  let true_44 : BitVec 1 := 1#1
  let v87 : BitVec 1 := Scalar.xori v84 true_44
  let v88 : BitVec 32 := Scalar.extui v87
  let c0_i32_45 : BitVec 32 := 0#32
  let v89 : BitVec 1 := Scalar.cmpi .ne v88 c0_i32_45
  v89

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== NormBwdRefIdeal.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S4096x1024 : Shape := ⟨2, ![4096, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x1024, .f32⟩
  | .hbm, ⟨6, _⟩ => ⟨S1x1024x5632, .f32⟩
  | .hbm, ⟨7, _⟩ => ⟨S2x2048x5632, .f32⟩
  | .hbm, ⟨8, _⟩ => ⟨S2x2048x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x2048x1024, .f32⟩
  | .hbm, ⟨39, _⟩ => ⟨S2x2048x1024, .f32⟩
  | .hbm, ⟨40, _⟩ => ⟨S2x1x1024, .f32⟩
  | .hbm, ⟨41, _⟩ => ⟨S2x2048x1024, .f32⟩
  | .hbm, ⟨42, _⟩ => ⟨S2x2048x1024, .f32⟩
  | .hbm, ⟨43, _⟩ => ⟨S1024x5632, .f32⟩
  | .hbm, ⟨44, _⟩ => ⟨S2x2048x5632, .f32⟩
  | .hbm, ⟨45, _⟩ => ⟨S2x2048x1024, .f32⟩
  | .hbm, ⟨46, _⟩ => ⟨S_, .f32⟩
  | .hbm, ⟨47, _⟩ => ⟨S2x1024, .f32⟩
  | .hbm, ⟨48, _⟩ => ⟨S2x1x1024, .f32⟩
  | .hbm, ⟨49, _⟩ => ⟨S_, .f32⟩
  | .hbm, ⟨50, _⟩ => ⟨S2x1024, .f32⟩
  | .hbm, ⟨51, _⟩ => ⟨S2x2048x1024, .f32⟩
  | .hbm, ⟨52, _⟩ => ⟨S_, .f32⟩
  | .hbm, ⟨53, _⟩ => ⟨S2x1024, .f32⟩
  | .hbm, ⟨54, _⟩ => ⟨S2x1x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S2x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S2x2048x1024, .f32⟩
  | .hbm, ⟨68, _⟩ => ⟨S_, .f32⟩
  | .hbm, ⟨69, _⟩ => ⟨S2x2048, .f32⟩
  | .hbm, ⟨70, _⟩ => ⟨S2x2048x1, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1, .f32⟩
  | .hbm, ⟨75, _⟩ => ⟨S_, .f32⟩
  | .hbm, ⟨76, _⟩ => ⟨S2x2048x1, .f32⟩
  | .hbm, ⟨77, _⟩ => ⟨S2x2048x1, .f32⟩
  | .hbm, ⟨78, _⟩ => ⟨S_, .f32⟩
  | .hbm, ⟨79, _⟩ => ⟨S2x2048, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S1x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S_, .f32⟩
  | .hbm, ⟨91, _⟩ => ⟨S2x1024, .f32⟩
  | .hbm, ⟨92, _⟩ => ⟨S2x1x1024, .f32⟩
  | .hbm, ⟨93, _⟩ => ⟨S_, .f32⟩
  | .hbm, ⟨94, _⟩ => ⟨S2x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | .hbm, ⟨98, _⟩ => ⟨S2x1x1024, .f32⟩
  | .hbm, ⟨99, _⟩ => ⟨S2x1x1024, .f32⟩
  | .hbm, ⟨100, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== AttnBwd.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S2x8x2048x2048 : Shape := ⟨4, ![2, 8, 2048, 2048]⟩
abbrev S2x2048x2048x8 : Shape := ⟨4, ![2, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x8x1 : Shape := ⟨4, ![2, 2048, 8, 1]⟩
abbrev S2x2048x8x128 : Shape := ⟨4, ![2, 2048, 8, 128]⟩
abbrev S2x2048x1x32 : Shape := ⟨4, ![2, 2048, 1, 32]⟩
abbrev S2x2048x8x96 : Shape := ⟨4, ![2, 2048, 8, 96]⟩
abbrev S4096x1024 : Shape := ⟨2, ![4096, 1024]⟩
abbrev S2048x128 : Shape := ⟨2, ![2048, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 74
  | .vmem => 18
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x32, .f32⟩
  | .hbm, ⟨4, _⟩ => ⟨S2x2048x8x64, .f32⟩
  | .hbm, ⟨5, _⟩ => ⟨S2x2048x8x64, .f32⟩
  | .hbm, ⟨6, _⟩ => ⟨S2x8x2048x2048, .f32⟩
  | .hbm, ⟨7, _⟩ => ⟨S2x2048x2048x8, .f32⟩
  | .hbm, ⟨8, _⟩ => ⟨S2x8x2048x2048, .f32⟩
  | .hbm, ⟨9, _⟩ => ⟨S2x8x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S_, .f32⟩
  | .hbm, ⟨21, _⟩ => ⟨S2x8x2048x2048, .i1⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048, .f32⟩
  | .hbm, ⟨26, _⟩ => ⟨S2x8x2048x1, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2048, .f32⟩
  | .hbm, ⟨34, _⟩ => ⟨S2x8x2048x2048, .f32⟩
  | .hbm, ⟨35, _⟩ => ⟨S2x8x64x2048, .f32⟩
  | .hbm, ⟨36, _⟩ => ⟨S2x2048x8x64, .f32⟩
  | .hbm, ⟨37, _⟩ => ⟨S2x8x2048x1, .f32⟩
  | .hbm, ⟨38, _⟩ => ⟨S2x8x2048x1, .f32⟩
  | .hbm, ⟨39, _⟩ => ⟨S2x2048x8x1, .f32⟩
  | .hbm, ⟨40, _⟩ => ⟨S2x2048x8x128, .f32⟩
  | .hbm, ⟨41, _⟩ => ⟨S2x2048x1x32, .f32⟩
  | .hbm, ⟨42, _⟩ => ⟨S2x2048x8x32, .f32⟩
  | .hbm, ⟨43, _⟩ => ⟨S2x2048x8x96, .f32⟩
  | .hbm, ⟨44, _⟩ => ⟨S_, .i32⟩
  | .hbm, ⟨45, _⟩ => ⟨S_, .f32⟩
  | .hbm, ⟨46, _⟩ => ⟨S2x2048x8x128, .f32⟩
  | .hbm, ⟨47, _⟩ => ⟨S4096x1024, .f32⟩
  | .hbm, ⟨48, _⟩ => ⟨S4096x1024, .bf16⟩
  | .hbm, ⟨49, _⟩ => ⟨S2x2048x8x96, .f32⟩
  | .hbm, ⟨50, _⟩ => ⟨S_, .i32⟩
  | .hbm, ⟨51, _⟩ => ⟨S_, .f32⟩
  | .hbm, ⟨52, _⟩ => ⟨S2x2048x8x128, .f32⟩
  | .hbm, ⟨53, _⟩ => ⟨S4096x1024, .f32⟩
  | .hbm, ⟨54, _⟩ => ⟨S4096x1024, .bf16⟩
  | .hbm, ⟨55, _⟩ => ⟨S_, .i32⟩
  | .hbm, ⟨56, _⟩ => ⟨S_, .f32⟩
  | .hbm, ⟨57, _⟩ => ⟨S2x2048x8x128, .f32⟩
  | .hbm, ⟨58, _⟩ => ⟨S4096x1024, .f32⟩
  | .hbm, ⟨59, _⟩ => ⟨S4096x1024, .bf16⟩
  | .hbm, ⟨60, _⟩ => ⟨S_, .i32⟩
  | .hbm, ⟨61, _⟩ => ⟨S_, .f32⟩
  | .hbm, ⟨62, _⟩ => ⟨S2x2048x8x128, .f32⟩
  | .hbm, ⟨63, _⟩ => ⟨S4096x1024, .f32⟩
  | .hbm, ⟨64, _⟩ => ⟨S4096x1024, .bf16⟩
  | .hbm, ⟨65, _⟩ => ⟨S4096x1024, .f32⟩
  | .hbm, ⟨66, _⟩ => ⟨S_, .i32⟩
  | .hbm, ⟨67, _⟩ => ⟨S_, .f32⟩
  | .hbm, ⟨68, _⟩ => ⟨S2x2048x8x128, .f32⟩
  | .hbm, ⟨69, _⟩ => ⟨S4096x1024, .f32⟩
  | .hbm, ⟨70, _⟩ => ⟨S4096x1024, .bf16⟩
  | .hbm, ⟨71, _⟩ => ⟨S4096x1024, .f32⟩
  | .hbm, ⟨72, _⟩ => ⟨S4096x1024, .f32⟩
  | .hbm, ⟨73, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_3 : Ref sig .tc := ⟨.hbm, 50, rfl⟩
abbrev main_call2_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_call3_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_call4_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_call5_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_v48_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdIdeal.lean ====
variable {F : FTy → Type} [FloatOps F] [Named F]
def κ : String → Option EReal := fun
  | "mask" => some ⊥
  | _ => none
-- ==== AttnBwdRefIdeal.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S2x2048x1x32 : Shape := ⟨4, ![2, 2048, 1, 32]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x32 : Shape := ⟨4, ![2, 8, 2048, 32]⟩
abbrev S2x8x2048x64 : Shape := ⟨4, ![2, 8, 2048, 64]⟩
abbrev S2x2048x8x96 : Shape := ⟨4, ![2, 2048, 8, 96]⟩
abbrev S2x2048x8x128 : Shape := ⟨4, ![2, 2048, 8, 128]⟩
abbrev S4096x1024 : Shape := ⟨2, ![4096, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x32, .f32⟩
  | .hbm, ⟨4, _⟩ => ⟨S2x2048x8x64, .f32⟩
  | .hbm, ⟨5, _⟩ => ⟨S2x2048x8x64, .f32⟩
  | .hbm, ⟨6, _⟩ => ⟨S2x2048x1x32, .f32⟩
  | .hbm, ⟨7, _⟩ => ⟨S2x2048x8x32, .f32⟩
  | .hbm, ⟨8, _⟩ => ⟨S2x8x2048x2048, .f32⟩
  | .hbm, ⟨9, _⟩ => ⟨S2x8x2048x2048, .f32⟩
  | .hbm, ⟨10, _⟩ => ⟨S2x8x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S2x8x2048x2048, .f32⟩
  | .hbm, ⟨19, _⟩ => ⟨S2x8x2048x2048, .f32⟩
  | .hbm, ⟨20, _⟩ => ⟨S_, .f32⟩
  | .hbm, ⟨21, _⟩ => ⟨S_, .f32⟩
  | .hbm, ⟨22, _⟩ => ⟨S2x8x2048x2048, .i1⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .i1⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S_, .f32⟩
  | .hbm, ⟨36, _⟩ => ⟨S2x8x2048, .f32⟩
  | .hbm, ⟨37, _⟩ => ⟨S2x8x2048, .f32⟩
  | .hbm, ⟨38, _⟩ => ⟨S_, .f32⟩
  | .hbm, ⟨39, _⟩ => ⟨S2x8x2048, .f32⟩
  | .hbm, ⟨40, _⟩ => ⟨S2x8x2048, .i1⟩
  | .hbm, ⟨41, _⟩ => ⟨S_, .f32⟩
  | .hbm, ⟨42, _⟩ => ⟨S2x8x2048, .f32⟩
  | .hbm, ⟨43, _⟩ => ⟨S2x8x2048, .i1⟩
  | .hbm, ⟨44, _⟩ => ⟨S_, .f32⟩
  | .hbm, ⟨45, _⟩ => ⟨S2x8x2048, .f32⟩
  | .hbm, ⟨46, _⟩ => ⟨S_, .f32⟩
  | .hbm, ⟨47, _⟩ => ⟨S2x8x2048, .f32⟩
  | .hbm, ⟨48, _⟩ => ⟨S_, .f32⟩
  | .hbm, ⟨49, _⟩ => ⟨S2x8x2048, .f32⟩
  | .hbm, ⟨50, _⟩ => ⟨S2x8x2048, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S_, .f32⟩
  | .hbm, ⟨57, _⟩ => ⟨S2x8x2048, .f32⟩
  | .hbm, ⟨58, _⟩ => ⟨S2x8x2048x1, .f32⟩
  | .hbm, ⟨59, _⟩ => ⟨S2x8x2048x2048, .f32⟩
  | .hbm, ⟨60, _⟩ => ⟨S2x8x2048x2048, .f32⟩
  | .hbm, ⟨61, _⟩ => ⟨S2x8x2048x1, .f32⟩
  | .hbm, ⟨62, _⟩ => ⟨S_, .f32⟩
  | .hbm, ⟨63, _⟩ => ⟨S2x8x2048x1, .f32⟩
  | .hbm, ⟨64, _⟩ => ⟨S2x8x2048x1, .f32⟩
  | .hbm, ⟨65, _⟩ => ⟨S2x8x64x2048, .f32⟩
  | .hbm, ⟨66, _⟩ => ⟨S2x2048x8x64, .f32⟩
  | .hbm, ⟨67, _⟩ => ⟨S2x8x64x2048, .f32⟩
  | .hbm, ⟨68, _⟩ => ⟨S2x8x2048x2048, .f32⟩
  | .hbm, ⟨69, _⟩ => ⟨S2x8x64x2048, .f32⟩
  | .hbm, ⟨70, _⟩ => ⟨S2x2048x8x64, .f32⟩
  | .hbm, ⟨71, _⟩ => ⟨S2x8x2048x2048, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S2x8x2048, .f32⟩
  | .hbm, ⟨76, _⟩ => ⟨S2x8x2048x1, .f32⟩
  | .hbm, ⟨77, _⟩ => ⟨S2x8x2048x1, .f32⟩
  | .hbm, ⟨78, _⟩ => ⟨S2x8x2048x2048, .f32⟩
  | .hbm, ⟨79, _⟩ => ⟨S2x8x2048x2048, .f32⟩
  | .hbm, ⟨80, _⟩ => ⟨S_, .f32⟩
  | .hbm, ⟨81, _⟩ => ⟨S2x8x2048, .f32⟩
  | .hbm, ⟨82, _⟩ => ⟨S2x8x2048x2048, .f32⟩
  | .hbm, ⟨83, _⟩ => ⟨S2x8x2048x2048, .f32⟩
  | .hbm, ⟨84, _⟩ => ⟨S2x8x2048x2048, .f32⟩
  | .hbm, ⟨85, _⟩ => ⟨S_, .f32⟩
  | .hbm, ⟨86, _⟩ => ⟨S2x8x2048x2048, .f32⟩
  | .hbm, ⟨87, _⟩ => ⟨S2x8x2048x2048, .f32⟩
  | .hbm, ⟨88, _⟩ => ⟨S_, .f32⟩
  | .hbm, ⟨89, _⟩ => ⟨S2x8x2048x2048, .f32⟩
  | .hbm, ⟨90, _⟩ => ⟨S2x8x2048x2048, .f32⟩
  | .hbm, ⟨91, _⟩ => ⟨S2x8x2048x32, .f32⟩
  | .hbm, ⟨92, _⟩ => ⟨S2x2048x8x32, .f32⟩
  | .hbm, ⟨93, _⟩ => ⟨S2x8x2048x32, .f32⟩
  | .hbm, ⟨94, _⟩ => ⟨S2x2048x8x32, .f32⟩
  | .hbm, ⟨95, _⟩ => ⟨S2x8x2048x64, .f32⟩
  | .hbm, ⟨96, _⟩ => ⟨S2x2048x8x64, .f32⟩
  | .hbm, ⟨97, _⟩ => ⟨S2x8x2048x64, .f32⟩
  | .hbm, ⟨98, _⟩ => ⟨S2x2048x8x64, .f32⟩
  | .hbm, ⟨99, _⟩ => ⟨S2x2048x8x96, .f32⟩
  | .hbm, ⟨100, _⟩ => ⟨S_, .i32⟩
  | .hbm, ⟨101, _⟩ => ⟨S_, .f32⟩
  | .hbm, ⟨102, _⟩ => ⟨S2x2048x8x128, .f32⟩
  | .hbm, ⟨103, _⟩ => ⟨S4096x1024, .f32⟩
  | .hbm, ⟨104, _⟩ => ⟨S2x2048x8x96, .f32⟩
  | .hbm, ⟨105, _⟩ => ⟨S_, .i32⟩
  | .hbm, ⟨106, _⟩ => ⟨S_, .f32⟩
  | .hbm, ⟨107, _⟩ => ⟨S2x2048x8x128, .f32⟩
  | .hbm, ⟨108, _⟩ => ⟨S4096x1024, .f32⟩
  | .hbm, ⟨109, _⟩ => ⟨S_, .i32⟩
  | .hbm, ⟨110, _⟩ => ⟨S_, .f32⟩
  | .hbm, ⟨111, _⟩ => ⟨S2x2048x8x128, .f32⟩
  | .hbm, ⟨112, _⟩ => ⟨S4096x1024, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_call2_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_call3_v0 : Ref sig .tc := ⟨.hbm, 106, rfl⟩
abbrev main_v75 : Ref sig .tc := ⟨.hbm, 107, rfl⟩
abbrev main_v76 : Ref sig .tc := ⟨.hbm, 108, rfl⟩
abbrev main_c_15 : Ref sig .tc := ⟨.hbm, 109, rfl⟩
abbrev main_call4_v0 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== QkBwd.lean ====
abbrev S2x2048x8x96 : Shape := ⟨4, ![2, 2048, 8, 96]⟩
abbrev S2x2048x8x128 : Shape := ⟨4, ![2, 2048, 8, 128]⟩
abbrev S2x2048x32 : Shape := ⟨3, ![2, 2048, 32]⟩
abbrev S2x2048 : Shape := ⟨2, ![2, 2048]⟩
abbrev S1x64 : Shape := ⟨2, ![1, 64]⟩
abbrev S1x32 : Shape := ⟨2, ![1, 32]⟩
abbrev S2x2048x8x64 : Shape := ⟨4, ![2, 2048, 8, 64]⟩
abbrev S_ : Shape := ⟨0, ![]⟩
abbrev S2x2048x768 : Shape := ⟨3, ![2, 2048, 768]⟩
abbrev S4096x768 : Shape := ⟨2, ![4096, 768]⟩
abbrev S128 : Shape := ⟨1, ![128]⟩
abbrev S64 : Shape := ⟨1, ![64]⟩
abbrev S32 : Shape := ⟨1, ![32]⟩
abbrev S1x128 : Shape := ⟨2, ![1, 128]⟩
abbrev S16 : Shape := ⟨1, ![16]⟩
abbrev S4096x1 : Shape := ⟨2, ![4096, 1]⟩
abbrev S4096x1024 : Shape := ⟨2, ![4096, 1024]⟩
abbrev S4096x128 : Shape := ⟨2, ![4096, 128]⟩
abbrev S512x1024 : Shape := ⟨2, ![512, 1024]⟩
abbrev S512x128 : Shape := ⟨2, ![512, 128]⟩
abbrev S512x1 : Shape := ⟨2, ![512, 1]⟩
abbrev S512 : Shape := ⟨1, ![512]⟩

abbrev nBuf : Space → Nat
  | .hbm => 81
  | .vmem => 27
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x128, .f32⟩
  | .hbm, ⟨2, _⟩ => ⟨S2x2048x32, .f32⟩
  | .hbm, ⟨3, _⟩ => ⟨S2x2048, .i32⟩
  | .hbm, ⟨4, _⟩ => ⟨S1x64, .f32⟩
  | .hbm, ⟨5, _⟩ => ⟨S1x32, .f32⟩
  | .hbm, ⟨6, _⟩ => ⟨S1x64, .f32⟩
  | .hbm, ⟨7, _⟩ => ⟨S1x32, .f32⟩
  | .hbm, ⟨8, _⟩ => ⟨S2x2048x8x96, .f32⟩
  | .hbm, ⟨9, _⟩ => ⟨S2x2048x8x96, .f32⟩
  | .hbm, ⟨10, _⟩ => ⟨S2x2048x8x64, .f32⟩
  | .hbm, ⟨11, _⟩ => ⟨S_, .i32⟩
  | .hbm, ⟨12, _⟩ => ⟨S_, .f32⟩
  | .hbm, ⟨13, _⟩ => ⟨S2x2048x768, .f32⟩
  | .hbm, ⟨14, _⟩ => ⟨S4096x768, .f32⟩
  | .hbm, ⟨15, _⟩ => ⟨S_, .f32⟩
  | .hbm, ⟨16, _⟩ => ⟨S128, .f32⟩
  | .hbm, ⟨17, _⟩ => ⟨S64, .f32⟩
  | .hbm, ⟨18, _⟩ => ⟨S_, .i32⟩
  | .hbm, ⟨19, _⟩ => ⟨S128, .f32⟩
  | .hbm, ⟨20, _⟩ => ⟨S32, .f32⟩
  | .hbm, ⟨21, _⟩ => ⟨S_, .i32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S128, .f32⟩
  | .hbm, ⟨26, _⟩ => ⟨S64, .f32⟩
  | .hbm, ⟨27, _⟩ => ⟨S_, .i32⟩
  | .hbm, ⟨28, _⟩ => ⟨S128, .f32⟩
  | .hbm, ⟨29, _⟩ => ⟨S1x128, .f32⟩
  | .hbm, ⟨30, _⟩ => ⟨S_, .f32⟩
  | .hbm, ⟨31, _⟩ => ⟨S128, .f32⟩
  | .hbm, ⟨32, _⟩ => ⟨S32, .f32⟩
  | .hbm, ⟨33, _⟩ => ⟨S_, .i32⟩
  | .hbm, ⟨34, _⟩ => ⟨S128, .f32⟩
  | .hbm, ⟨35, _⟩ => ⟨S1x128, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S32, .f32⟩
  | .hbm, ⟨51, _⟩ => ⟨S_, .f32⟩
  | .hbm, ⟨52, _⟩ => ⟨S128, .f32⟩
  | .hbm, ⟨53, _⟩ => ⟨S_, .i32⟩
  | .hbm, ⟨54, _⟩ => ⟨S128, .f32⟩
  | .hbm, ⟨55, _⟩ => ⟨S1x128, .f32⟩
  | .hbm, ⟨56, _⟩ => ⟨S4096x1, .i32⟩
  | .hbm, ⟨57, _⟩ => ⟨S4096x1, .f32⟩
  | .hbm, ⟨58, _⟩ => ⟨S_, .i32⟩
  | .hbm, ⟨59, _⟩ => ⟨S_, .f32⟩
  | .hbm, ⟨60, _⟩ => ⟨S2x2048x8x128, .f32⟩
  | .hbm, ⟨61, _⟩ => ⟨S4096x1024, .f32⟩
  | .hbm, ⟨62, _⟩ => ⟨S_, .i32⟩
  | .hbm, ⟨63, _⟩ => ⟨S_, .f32⟩
  | .hbm, ⟨64, _⟩ => ⟨S2x2048x8x128, .f32⟩
  | .hbm, ⟨65, _⟩ => ⟨S4096x1024, .f32⟩
  | .hbm, ⟨66, _⟩ => ⟨S_, .i32⟩
  | .hbm, ⟨67, _⟩ => ⟨S_, .f32⟩
  | .hbm, ⟨68, _⟩ => ⟨S2x2048x8x128, .f32⟩
  | .hbm, ⟨69, _⟩ => ⟨S4096x1024, .f32⟩
  | .hbm, ⟨70, _⟩ => ⟨S_, .i32⟩
  | .hbm, ⟨71, _⟩ => ⟨S_, .f32⟩
  | .hbm, ⟨72, _⟩ => ⟨S2x2048x8x128, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S4096x1024, .bf16⟩
  | .hbm, ⟨77, _⟩ => ⟨S4096x128, .f32⟩
  | .hbm, ⟨78, _⟩ => ⟨S1x128, .f32⟩
  | .hbm, ⟨79, _⟩ => ⟨S1x128, .f32⟩
  | .hbm, ⟨80, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | .local _ .vmem, ⟨12, _⟩ => ⟨S512x1, .f32⟩
  | .local _ .vmem, ⟨13, _⟩ => ⟨S512x1, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x128, .f32⟩
  | .local _ .vmem, ⟨23, _⟩ => ⟨S512x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_cst_7 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_8 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_c_11 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_12 : Ref sig .tc := ⟨.hbm, 58, rfl⟩
abbrev main_call1_v0 : Ref sig .tc := ⟨.hbm, 59, rfl⟩
abbrev main_v32 : Ref sig .tc := ⟨.hbm, 60, rfl⟩
abbrev main_v33 : Ref sig .tc := ⟨.hbm, 61, rfl⟩
abbrev main_c_13 : Ref sig .tc := ⟨.hbm, 62, rfl⟩
abbrev main_call2_v0 : Ref sig .tc := ⟨.hbm, 63, rfl⟩
abbrev main_v34 : Ref sig .tc := ⟨.hbm, 64, rfl⟩
abbrev main_v35 : Ref sig .tc := ⟨.hbm, 65, rfl⟩
abbrev main_c_14 : Ref sig .tc := ⟨.hbm, 66, rfl⟩
abbrev main_call3_v0 : Ref sig .tc := ⟨.hbm, 67, rfl⟩
abbrev main_v36 : Ref sig .tc := ⟨.hbm, 68, rfl⟩
abbrev main_v37 : Ref sig .tc := ⟨.hbm, 69, rfl⟩
abbrev main_c_15 : Ref sig .tc := ⟨.hbm, 70, rfl⟩
abbrev main_call4_v0 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41_0 : Ref sig .tc := ⟨.hbm, 75, rfl⟩
abbrev main_v41_1 : Ref sig .tc := ⟨.hbm, 76, rfl⟩
abbrev main_v41_2 : Ref sig .tc := ⟨.hbm, 77, rfl⟩
abbrev main_v41_3 : Ref sig .tc := ⟨.hbm, 78, rfl⟩
abbrev main_v41_4 : Ref sig .tc := ⟨.hbm, 79, rfl⟩
abbrev main_v41_5 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v987 : BitVec 1 := Scalar.cmpi .eq arg1 c0_i32
  let arg0 : BitVec 32 := BitVec.ofNat 32 (i 0).val
  let c0_i32_286 : BitVec 32 := 0#32
  let v988 : BitVec 1 := Scalar.cmpi .eq arg0 c0_i32_286
  let v989 : BitVec 1 := Scalar.andi v987 v988
  let v990 : BitVec 32 := Scalar.extui v989
  let c0_i32_287 : BitVec 32 := 0#32
  let v991 : BitVec 1 := Scalar.cmpi .ne v990 c0_i32_287
  v991

def k0_cond2 (i : grid0.Coords) : BitVec 1 :=
  let arg1 : BitVec 32 := BitVec.ofNat 32 (i 1).val
  let c0_i32 : BitVec 32 := 0#32
  let v987 : BitVec 1 := Scalar.cmpi .eq arg1 c0_i32
  let arg0 : BitVec 32 := BitVec.ofNat 32 (i 0).val
  let c0_i32_286 : BitVec 32 := 0#32
  let v988 : BitVec 1 := Scalar.cmpi .eq arg0 c0_i32_286
  let v989 : BitVec 1 := Scalar.andi v987 v988
  let v_true : BitVec 1 := 1#1
  let v992 : BitVec 1 := Scalar.xori v989 v_true
  let v993 : BitVec 32 := Scalar.extui v992
  let c0_i32_288 : BitVec 32 := 0#32
  let v994 : BitVec 1 := Scalar.cmpi .ne v993 c0_i32_288
  v994

def k0_cond3 (i : grid0.Coords) : BitVec 1 :=
  let arg1 : BitVec 32 := BitVec.ofNat 32 (i 1).val
  let c0_i32_289 : BitVec 32 := 0#32
  let v995 : BitVec 1 := Scalar.cmpi .eq arg1 c0_i32_289
  let arg0 : BitVec 32 := BitVec.ofNat 32 (i 0).val
  let c0_i32_290 : BitVec 32 := 0#32
  let v996 : BitVec 1 := Scalar.cmpi .eq arg0 c0_i32_290
  let v997 : BitVec 1 := Scalar.andi v995 v996
  let v998 : BitVec 32 := Scalar.extui v997
  let c0_i32_291 : BitVec 32 := 0#32
  let v999 : BitVec 1 := Scalar.cmpi .ne v998 c0_i32_291
  v999

def k0_cond4 (i : grid0.Coords) : BitVec 1 :=
  let arg1 : BitVec 32 := BitVec.ofNat 32 (i 1).val
  let c0_i32_289 : BitVec 32 := 0#32
  let v995 : BitVec 1 := Scalar.cmpi .eq arg1 c0_i32_289
  let arg0 : BitVec 32 := BitVec.ofNat 32 (i 0).val
  let c0_i32_290 : BitVec 32 := 0#32
  let v996 : BitVec 1 := Scalar.cmpi .eq arg0 c0_i32_290
  let v997 : BitVec 1 := Scalar.andi v995 v996
  let true_292 : BitVec 1 := 1#1
  let v1000 : BitVec 1 := Scalar.xori v997 true_292
  let v1001 : BitVec 32 := Scalar.extui v1000
  let c0_i32_293 : BitVec 32 := 0#32
  let v1002 : BitVec 1 := Scalar.cmpi .ne v1001 c0_i32_293
  v1002

def k0_cond5 (i : grid0.Coords) : BitVec 1 :=
  let arg1 : BitVec 32 := BitVec.ofNat 32 (i 1).val
  let c0_i32_294 : BitVec 32 := 0#32
  let v1003 : BitVec 1 := Scalar.cmpi .eq arg1 c0_i32_294
  let arg0 : BitVec 32 := BitVec.ofNat 32 (i 0).val
  let c0_i32_295 : BitVec 32 := 0#32
  let v1004 : BitVec 1 := Scalar.cmpi .eq arg0 c0_i32_295
  let v1005 : BitVec 1 := Scalar.andi v1003 v1004
  let v1006 : BitVec 32 := Scalar.extui v1005
  let c0_i32_296 : BitVec 32 := 0#32
  let v1007 : BitVec 1 := Scalar.cmpi .ne v1006 c0_i32_296
  v1007

def k0_cond6 (i : grid0.Coords) : BitVec 1 :=
  let arg1 : BitVec 32 := BitVec.ofNat 32 (i 1).val
  let c0_i32_294 : BitVec 32 := 0#32
  let v1003 : BitVec 1 := Scalar.cmpi .eq arg1 c0_i32_294
  let arg0 : BitVec 32 := BitVec.ofNat 32 (i 0).val
  let c0_i32_295 : BitVec 32 := 0#32
  let v1004 : BitVec 1 := Scalar.cmpi .eq arg0 c0_i32_295
  let v1005 : BitVec 1 := Scalar.andi v1003 v1004
  let true_297 : BitVec 1 := 1#1
  let v1008 : BitVec 1 := Scalar.xori v1005 true_297
  let v1009 : BitVec 32 := Scalar.extui v1008
  let c0_i32_298 : BitVec 32 := 0#32
  let v1010 : BitVec 1 := Scalar.cmpi .ne v1009 c0_i32_298
  v1010

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== QkBwdRefIdeal.lean ====
abbrev S2x2048x8x96 : Shape := ⟨4, ![2, 2048, 8, 96]⟩
abbrev S2x2048x8x128 : Shape := ⟨4, ![2, 2048, 8, 128]⟩
abbrev S2x2048x32 : Shape := ⟨3, ![2, 2048, 32]⟩
abbrev S2x2048 : Shape := ⟨2, ![2, 2048]⟩
abbrev S1x64 : Shape := ⟨2, ![1, 64]⟩
abbrev S1x32 : Shape := ⟨2, ![1, 32]⟩
abbrev S2x2048x8x64 : Shape := ⟨4, ![2, 2048, 8, 64]⟩
abbrev S2x2048x1 : Shape := ⟨3, ![2, 2048, 1]⟩
abbrev S16 : Shape := ⟨1, ![16]⟩
abbrev S_ : Shape := ⟨0, ![]⟩
abbrev S1x1x16 : Shape := ⟨3, ![1, 1, 16]⟩
abbrev S2x2048x16 : Shape := ⟨3, ![2, 2048, 16]⟩
abbrev S2x2048x8x32 : Shape := ⟨4, ![2, 2048, 8, 32]⟩
abbrev S64 : Shape := ⟨1, ![64]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S32 : Shape := ⟨1, ![32]⟩
abbrev S1x1x1x32 : Shape := ⟨4, ![1, 1, 1, 32]⟩
abbrev S2x2048x1x32 : Shape := ⟨4, ![2, 2048, 1, 32]⟩
abbrev S2x2048x8x16 : Shape := ⟨4, ![2, 2048, 8, 16]⟩
abbrev S1x1x32 : Shape := ⟨3, ![1, 1, 32]⟩
abbrev S4096x1024 : Shape := ⟨2, ![4096, 1024]⟩
abbrev S2x2048x128 : Shape := ⟨3, ![2, 2048, 128]⟩
abbrev S4096x128 : Shape := ⟨2, ![4096, 128]⟩
abbrev S1x96 : Shape := ⟨2, ![1, 96]⟩
abbrev S1x128 : Shape := ⟨2, ![1, 128]⟩

abbrev nBuf : Space → Nat
  | .hbm => 304
  | .vmem => 0
  | .smem => 0
  | _ => 0

abbrev hbmTy0_0 (i : Nat) : BufTy := match i % 128 with
  | 0 => ⟨S2x2048x8x96, .f32⟩
  | 1 => ⟨S2x2048x8x128, .f32⟩
  | 2 => ⟨S2x2048x32, .f32⟩
  | 3 => ⟨S2x2048, .i32⟩
  | 4 => ⟨S1x64, .f32⟩
  | 5 => ⟨S1x32, .f32⟩
  | 6 => ⟨S1x64, .f32⟩
  | 7 => ⟨S1x32, .f32⟩
  | 8 => ⟨S2x2048x8x96, .f32⟩
  | 9 => ⟨S2x2048x8x96, .f32⟩
  | 10 => ⟨S2x2048x8x64, .f32⟩
  | 11 => ⟨S2x2048, .f32⟩
  | 12 => ⟨S2x2048x1, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S1x1x16, .f32⟩
  | 28 => ⟨S2x2048x16, .f32⟩
  | 29 => ⟨S2x2048x16, .f32⟩
  | 30 => ⟨S2x2048x16, .f32⟩
  | 31 => ⟨S2x2048x32, .f32⟩
  | 32 => ⟨S2x2048x32, .f32⟩
  | 33 => ⟨S2x2048x32, .f32⟩
  | 34 => ⟨S2x2048x8x64, .f32⟩
  | 35 => ⟨S2x2048x8x32, .f32⟩
  | 36 => ⟨S2x2048x8x64, .f32⟩
  | 37 => ⟨S2x2048x8x64, .f32⟩
  | 38 => ⟨S64, .f32⟩
  | 39 => ⟨S2x2048x8x64, .f32⟩
  | 40 => ⟨S_, .f32⟩
  | 41 => ⟨S2x2048x8, .f32⟩
  | 42 => ⟨S2x2048x8x1, .f32⟩
  | 43 => ⟨S_, .f32⟩
  | 44 => ⟨S2x2048x8x1, .f32⟩
  | 45 => ⟨S2x2048x8x1, .f32⟩
  | 46 => ⟨S_, .f32⟩
  | 47 => ⟨S2x2048x8x1, .f32⟩
  | 48 => ⟨S2x2048x8x1, .f32⟩
  | 49 => ⟨S2x2048x8x1, .f32⟩
  | 50 => ⟨S2x2048x8x1, .f32⟩
  | 51 => ⟨S_, .f32⟩
  | 52 => ⟨S2x2048x8x1, .f32⟩
  | 53 => ⟨S2x2048x8x1, .f32⟩
  | 54 => ⟨S2x2048x8x64, .f32⟩
  | 55 => ⟨S2x2048x8x64, .f32⟩
  | 56 => ⟨S1x1x1x64, .f32⟩
  | 57 => ⟨S2x2048x8x64, .f32⟩
  | 58 => ⟨S2x2048x8x64, .f32⟩
  | 59 => ⟨S64, .f32⟩
  | 60 => ⟨S2x2048x8x64, .f32⟩
  | 61 => ⟨S_, .f32⟩
  | 62 => ⟨S2x2048x8, .f32⟩
  | 63 => ⟨S2x2048x8x1, .f32⟩
  | 64 => ⟨S_, .f32⟩
  | 65 => ⟨S2x2048x8x1, .f32⟩
  | 66 => ⟨S2x2048x8x1, .f32⟩
  | 67 => ⟨S_, .f32⟩
  | 68 => ⟨S2x2048x8x1, .f32⟩
  | 69 => ⟨S2x2048x8x1, .f32⟩
  | 70 => ⟨S2x2048x8x1, .f32⟩
  | 71 => ⟨S2x2048x8x1, .f32⟩
  | 72 => ⟨S_, .f32⟩
  | 73 => ⟨S2x2048x8x1, .f32⟩
  | 74 => ⟨S2x2048x8x1, .f32⟩
  | 75 => ⟨S2x2048x8x64, .f32⟩
  | 76 => ⟨S2x2048x8x64, .f32⟩
  | 77 => ⟨S1x1x1x64, .f32⟩
  | 78 => ⟨S2x2048x8x64, .f32⟩
  | 79 => ⟨S2x2048x8x64, .f32⟩
  | 80 => ⟨S32, .f32⟩
  | 81 => ⟨S2x2048x8x32, .f32⟩
  | 82 => ⟨S_, .f32⟩
  | 83 => ⟨S2x2048x8, .f32⟩
  | 84 => ⟨S2x2048x8x1, .f32⟩
  | 85 => ⟨S_, .f32⟩
  | 86 => ⟨S2x2048x8x1, .f32⟩
  | 87 => ⟨S2x2048x8x1, .f32⟩
  | 88 => ⟨S_, .f32⟩
  | 89 => ⟨S2x2048x8x1, .f32⟩
  | 90 => ⟨S2x2048x8x1, .f32⟩
  | 91 => ⟨S2x2048x8x1, .f32⟩
  | 92 => ⟨S2x2048x8x1, .f32⟩
  | 93 => ⟨S_, .f32⟩
  | 94 => ⟨S2x2048x8x1, .f32⟩
  | 95 => ⟨S2x2048x8x1, .f32⟩
  | 96 => ⟨S2x2048x8x32, .f32⟩
  | 97 => ⟨S2x2048x8x32, .f32⟩
  | 98 => ⟨S1x1x1x32, .f32⟩
  | 99 => ⟨S2x2048x8x32, .f32⟩
  | 100 => ⟨S2x2048x8x32, .f32⟩
  | 101 => ⟨S2x2048x1x32, .f32⟩
  | 102 => ⟨S2x2048x1x32, .f32⟩
  | 103 => ⟨S2x2048x8x16, .f32⟩
  | 104 => ⟨S2x2048x8x16, .f32⟩
  | 105 => ⟨S2x2048x8x32, .f32⟩
  | 106 => ⟨S2x2048x8x32, .f32⟩
  | 107 => ⟨S2x2048x8x16, .f32⟩
  | 108 => ⟨S2x2048x8x32, .f32⟩
  | 109 => ⟨S2x2048x8x32, .f32⟩
  | 110 => ⟨S2x2048x8x32, .f32⟩
  | 111 => ⟨S2x2048x8x32, .f32⟩
  | 112 => ⟨S32, .f32⟩
  | 113 => ⟨S2x2048x32, .f32⟩
  | 114 => ⟨S_, .f32⟩
  | 115 => ⟨S2x2048, .f32⟩
  | 116 => ⟨S2x2048x1, .f32⟩
  | 117 => ⟨S_, .f32⟩
  | 118 => ⟨S2x2048x1, .f32⟩
  | 119 => ⟨S2x2048x1, .f32⟩
  | 120 => ⟨S_, .f32⟩
  | 121 => ⟨S2x2048x1, .f32⟩
  | 122 => ⟨S2x2048x1, .f32⟩
  | 123 => ⟨S2x2048x1, .f32⟩
  | 124 => ⟨S2x2048x1, .f32⟩
  | 125 => ⟨S_, .f32⟩
  | 126 => ⟨S2x2048x1, .f32⟩
  | 127 => ⟨S2x2048x1, .f32⟩
  | _ => ⟨S2x2048x8x96, .f32⟩

abbrev hbmTy0_1 (i : Nat) : BufTy := match i % 128 with
  | 0 => ⟨S2x2048x32, .f32⟩
  | 1 => ⟨S2x2048x32, .f32⟩
  | 2 => ⟨S1x1x32, .f32⟩
  | 3 => ⟨S2x2048x32, .f32⟩
  | 4 => ⟨S2x2048x32, .f32⟩
  | 5 => ⟨S2x2048x16, .f32⟩
  | 6 => ⟨S2x2048x16, .f32⟩
  | 7 => ⟨S2x2048x32, .f32⟩
  | 8 => ⟨S2x2048x16, .f32⟩
  | 9 => ⟨S2x2048x32, .f32⟩
  | 10 => ⟨S2x2048x32, .f32⟩
  | 11 => ⟨S2x2048x32, .f32⟩
  | 12 => ⟨S2x2048x1x32, .f32⟩
  | 13 => ⟨S2x2048x8x32, .f32⟩
  | 14 => ⟨S2x2048x8x96, .f32⟩
  | 15 => ⟨S2x2048x8x96, .f32⟩
  | 16 => ⟨S2x2048x8x64, .f32⟩
  | 17 => ⟨S2x2048x8x32, .f32⟩
  | 18 => ⟨S2x2048x8x64, .f32⟩
  | 19 => ⟨S2x2048x8x32, .f32⟩
  | 20 => ⟨S_, .f32⟩
  | 21 => ⟨S2x2048x32, .f32⟩
  | 22 => ⟨S2x2048x1x32, .f32⟩
  | 23 => ⟨S_, .f32⟩
  | 24 => ⟨S2x2048x32, .f32⟩
  | 25 => ⟨S2x2048x32, .f32⟩
  | 26 => ⟨S2x2048x16, .f32⟩
  | 27 => ⟨S2x2048x16, .f32⟩
  | 28 => ⟨S2x2048x16, .f32⟩
  | 29 => ⟨S2x2048x32, .f32⟩
  | 30 => ⟨S2x2048x32, .f32⟩
  | 31 => ⟨S2x2048x32, .f32⟩
  | 32 => ⟨S2x2048x32, .f32⟩
  | 33 => ⟨S_, .f32⟩
  | 34 => ⟨S32, .f32⟩
  | 35 => ⟨S1x1x32, .f32⟩
  | 36 => ⟨S2x2048x32, .f32⟩
  | 37 => ⟨S2x2048x32, .f32⟩
  | 38 => ⟨S_, .f32⟩
  | 39 => ⟨S32, .f32⟩
  | 40 => ⟨S2x2048x32, .f32⟩
  | 41 => ⟨S_, .f32⟩
  | 42 => ⟨S2x2048, .f32⟩
  | 43 => ⟨S2x2048x1, .f32⟩
  | 44 => ⟨S2x2048x32, .f32⟩
  | 45 => ⟨S2x2048x32, .f32⟩
  | 46 => ⟨S2x2048x1, .f32⟩
  | 47 => ⟨S_, .f32⟩
  | 48 => ⟨S2x2048x1, .f32⟩
  | 49 => ⟨S2x2048x1, .f32⟩
  | 50 => ⟨S_, .f32⟩
  | 51 => ⟨S2x2048, .f32⟩
  | 52 => ⟨S2x2048x32, .f32⟩
  | 53 => ⟨S2x2048x32, .f32⟩
  | 54 => ⟨S2x2048x32, .f32⟩
  | 55 => ⟨S2x2048x32, .f32⟩
  | 56 => ⟨S2x2048x32, .f32⟩
  | 57 => ⟨S1x32, .f32⟩
  | 58 => ⟨S2x2048x8x32, .f32⟩
  | 59 => ⟨S2x2048x8x32, .f32⟩
  | 60 => ⟨S2x2048x8x16, .f32⟩
  | 61 => ⟨S2x2048x8x16, .f32⟩
  | 62 => ⟨S2x2048x8x16, .f32⟩
  | 63 => ⟨S2x2048x8x32, .f32⟩
  | 64 => ⟨S2x2048x8x32, .f32⟩
  | 65 => ⟨S2x2048x8x32, .f32⟩
  | 66 => ⟨S2x2048x8x32, .f32⟩
  | 67 => ⟨S2x2048x8x32, .f32⟩
  | 68 => ⟨S_, .f32⟩
  | 69 => ⟨S32, .f32⟩
  | 70 => ⟨S1x1x1x32, .f32⟩
  | 71 => ⟨S2x2048x8x32, .f32⟩
  | 72 => ⟨S2x2048x8x32, .f32⟩
  | 73 => ⟨S_, .f32⟩
  | 74 => ⟨S32, .f32⟩
  | 75 => ⟨S2x2048x8x32, .f32⟩
  | 76 => ⟨S_, .f32⟩
  | 77 => ⟨S2x2048x8, .f32⟩
  | 78 => ⟨S2x2048x8x1, .f32⟩
  | 79 => ⟨S2x2048x8x32, .f32⟩
  | 80 => ⟨S2x2048x8x32, .f32⟩
  | 81 => ⟨S2x2048x8x1, .f32⟩
  | 82 => ⟨S_, .f32⟩
  | 83 => ⟨S2x2048x8x1, .f32⟩
  | 84 => ⟨S2x2048x8x1, .f32⟩
  | 85 => ⟨S_, .f32⟩
  | 86 => ⟨S2x2048x8, .f32⟩
  | 87 => ⟨S2x2048x8x32, .f32⟩
  | 88 => ⟨S2x2048x8x32, .f32⟩
  | 89 => ⟨S2x2048x8x32, .f32⟩
  | 90 => ⟨S2x2048x8x32, .f32⟩
  | 91 => ⟨S2x2048x8x32, .f32⟩
  | 92 => ⟨S1x32, .f32⟩
  | 93 => ⟨S2x2048x8x64, .f32⟩
  | 94 => ⟨S_, .f32⟩
  | 95 => ⟨S64, .f32⟩
  | 96 => ⟨S1x1x1x64, .f32⟩
  | 97 => ⟨S2x2048x8x64, .f32⟩
  | 98 => ⟨S2x2048x8x64, .f32⟩
  | 99 => ⟨S_, .f32⟩
  | 100 => ⟨S64, .f32⟩
  | 101 => ⟨S2x2048x8x64, .f32⟩
  | 102 => ⟨S_, .f32⟩
  | 103 => ⟨S2x2048x8, .f32⟩
  | 104 => ⟨S2x2048x8x1, .f32⟩
  | 105 => ⟨S2x2048x8x64, .f32⟩
  | 106 => ⟨S2x2048x8x64, .f32⟩
  | 107 => ⟨S2x2048x8x1, .f32⟩
  | 108 => ⟨S_, .f32⟩
  | 109 => ⟨S2x2048x8x1, .f32⟩
  | 110 => ⟨S2x2048x8x1, .f32⟩
  | 111 => ⟨S_, .f32⟩
  | 112 => ⟨S2x2048x8, .f32⟩
  | 113 => ⟨S2x2048x8x64, .f32⟩
  | 114 => ⟨S2x2048x8x64, .f32⟩
  | 115 => ⟨S2x2048x8x64, .f32⟩
  | 116 => ⟨S2x2048x8x64, .f32⟩
  | 117 => ⟨S2x2048x8x64, .f32⟩
  | 118 => ⟨S1x64, .f32⟩
  | 119 => ⟨S2x2048x8x64, .f32⟩
  | 120 => ⟨S_, .f32⟩
  | 121 => ⟨S64, .f32⟩
  | 122 => ⟨S1x1x1x64, .f32⟩
  | 123 => ⟨S2x2048x8x64, .f32⟩
  | 124 => ⟨S2x2048x8x64, .f32⟩
  | 125 => ⟨S_, .f32⟩
  | 126 => ⟨S64, .f32⟩
  | 127 => ⟨S2x2048x8x64, .f32⟩
  | _ => ⟨S2x2048x8x96, .f32⟩

abbrev hbmTy0_2 (i : Nat) : BufTy := match i % 128 with
  | 0 => ⟨S_, .f32⟩
  | 1 => ⟨S2x2048x8, .f32⟩
  | 2 => ⟨S2x2048x8x1, .f32⟩
  | 3 => ⟨S2x2048x8x64, .f32⟩
  | 4 => ⟨S2x2048x8x64, .f32⟩
  | 5 => ⟨S2x2048x8x1, .f32⟩
  | 6 => ⟨S_, .f32⟩
  | 7 => ⟨S2x2048x8x1, .f32⟩
  | 8 => ⟨S2x2048x8x1, .f32⟩
  | 9 => ⟨S_, .f32⟩
  | 10 => ⟨S2x2048x8, .f32⟩
  | 11 => ⟨S2x2048x8x64, .f32⟩
  | 12 => ⟨S2x2048x8x64, .f32⟩
  | 13 => ⟨S2x2048x8x64, .f32⟩
  | 14 => ⟨S2x2048x8x64, .f32⟩
  | 15 => ⟨S2x2048x8x64, .f32⟩
  | 16 => ⟨S1x64, .f32⟩
  | 17 => ⟨S_, .f32⟩
  | 18 => ⟨S2x2048x8x128, .f32⟩
  | 19 => ⟨S_, .f32⟩
  | 20 => ⟨S2x2048x8x128, .f32⟩
  | 21 => ⟨S2x2048x8x128, .f32⟩
  | 22 => ⟨S_, .f32⟩
  | 23 => ⟨S2x2048x8x96, .f32⟩
  | 24 => ⟨S_, .f32⟩
  | 25 => ⟨S2x2048x8x96, .f32⟩
  | 26 => ⟨S2x2048x8x96, .f32⟩
  | 27 => ⟨S_, .i32⟩
  | 28 => ⟨S_, .f32⟩
  | 29 => ⟨S2x2048x8x128, .f32⟩
  | 30 => ⟨S4096x1024, .f32⟩
  | 31 => ⟨S4096x1024, .bf16⟩
  | 32 => ⟨S4096x1024, .f32⟩
  | 33 => ⟨S4096x1024, .bf16⟩
  | 34 => ⟨S_, .i32⟩
  | 35 => ⟨S_, .f32⟩
  | 36 => ⟨S2x2048x128, .f32⟩
  | 37 => ⟨S4096x128, .f32⟩
  | 38 => ⟨S1x96, .f32⟩
  | 39 => ⟨S_, .i32⟩
  | 40 => ⟨S_, .f32⟩
  | 41 => ⟨S1x128, .f32⟩
  | 42 => ⟨S_, .i32⟩
  | 43 => ⟨S_, .f32⟩
  | 44 => ⟨S1x128, .f32⟩
  | 45 => ⟨S_, .i32⟩
  | 46 => ⟨S_, .f32⟩
  | 47 => ⟨S1x128, .f32⟩
  | _ => ⟨S2x2048x8x96, .f32⟩

abbrev hbmTy (i : Nat) : BufTy := match i / 128 with
  | 0 => hbmTy0_0 i
  | 1 => hbmTy0_1 i
  | 2 => hbmTy0_2 i
  | _ => ⟨S2x2048x8x96, .f32⟩

abbrev bufTy : (tb : Table) → Fin (tcTables nBuf tb) → BufTy
  | .hbm, ⟨i, _⟩ => hbmTy i
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_18 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_19 : Ref sig .tc := ⟨.hbm, 148, rfl⟩
abbrev main_v117 : Ref sig .tc := ⟨.hbm, 149, rfl⟩
abbrev main_v118 : Ref sig .tc := ⟨.hbm, 150, rfl⟩
abbrev main_cst_20 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_21 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_22 : Ref sig .tc := ⟨.hbm, 166, rfl⟩
abbrev main_v132 : Ref sig .tc := ⟨.hbm, 167, rfl⟩
abbrev main_v133 : Ref sig .tc := ⟨.hbm, 168, rfl⟩
abbrev main_cst_23 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_24 : Ref sig .tc := ⟨.hbm, 175, rfl⟩
abbrev main_v139 : Ref sig .tc := ⟨.hbm, 176, rfl⟩
abbrev main_v140 : Ref sig .tc := ⟨.hbm, 177, rfl⟩
abbrev main_cst_25 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_26 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_27 : Ref sig .tc := ⟨.hbm, 201, rfl⟩
abbrev main_v162 : Ref sig .tc := ⟨.hbm, 202, rfl⟩
abbrev main_v163 : Ref sig .tc := ⟨.hbm, 203, rfl⟩
abbrev main_cst_28 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_29 : Ref sig .tc := ⟨.hbm, 210, rfl⟩
abbrev main_v169 : Ref sig .tc := ⟨.hbm, 211, rfl⟩
abbrev main_v170 : Ref sig .tc := ⟨.hbm, 212, rfl⟩
abbrev main_cst_30 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_31 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_32 : Ref sig .tc := ⟨.hbm, 227, rfl⟩
abbrev main_v183 : Ref sig .tc := ⟨.hbm, 228, rfl⟩
abbrev main_v184 : Ref sig .tc := ⟨.hbm, 229, rfl⟩
abbrev main_cst_33 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_34 : Ref sig .tc := ⟨.hbm, 236, rfl⟩
abbrev main_v190 : Ref sig .tc := ⟨.hbm, 237, rfl⟩
abbrev main_v191 : Ref sig .tc := ⟨.hbm, 238, rfl⟩
abbrev main_cst_35 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_cst_36 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_cst_37 : Ref sig .tc := ⟨.hbm, 253, rfl⟩
abbrev main_v204 : Ref sig .tc := ⟨.hbm, 254, rfl⟩
abbrev main_v205 : Ref sig .tc := ⟨.hbm, 255, rfl⟩
abbrev main_cst_38 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_cst_39 : Ref sig .tc := ⟨.hbm, 262, rfl⟩
abbrev main_v211 : Ref sig .tc := ⟨.hbm, 263, rfl⟩
abbrev main_v212 : Ref sig .tc := ⟨.hbm, 264, rfl⟩
abbrev main_cst_40 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_cst_41 : Ref sig .tc := ⟨.hbm, 273, rfl⟩
abbrev main_v220 : Ref sig .tc := ⟨.hbm, 274, rfl⟩
abbrev main_cst_42 : Ref sig .tc := ⟨.hbm, 275, rfl⟩
abbrev main_v221 : Ref sig .tc := ⟨.hbm, 276, rfl⟩
abbrev main_v222 : Ref sig .tc := ⟨.hbm, 277, rfl⟩
abbrev main_cst_43 : Ref sig .tc := ⟨.hbm, 278, rfl⟩
abbrev main_v223 : Ref sig .tc := ⟨.hbm, 279, rfl⟩
abbrev main_cst_44 : Ref sig .tc := ⟨.hbm, 280, rfl⟩
abbrev main_v224 : Ref sig .tc := ⟨.hbm, 281, rfl⟩
abbrev main_v225 : Ref sig .tc := ⟨.hbm, 282, rfl⟩
abbrev main_c : Ref sig .tc := ⟨.hbm, 283, rfl⟩
abbrev main_call0_v0 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_c_45 : Ref sig .tc := ⟨.hbm, 290, rfl⟩
abbrev main_call1_v0 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_c_46 : Ref sig .tc := ⟨.hbm, 295, rfl⟩
abbrev main_call2_v0 : Ref sig .tc := ⟨.hbm, 296, rfl⟩
abbrev main_v234 : Ref sig .tc := ⟨.hbm, 297, rfl⟩
abbrev main_c_47 : Ref sig .tc := ⟨.hbm, 298, rfl⟩
abbrev main_call3_v0 : Ref sig .tc := ⟨.hbm, 299, rfl⟩
abbrev main_v235 : Ref sig .tc := ⟨.hbm, 300, rfl⟩
abbrev main_c_48 : Ref sig .tc := ⟨.hbm, 301, rfl⟩
abbrev main_call4_v0 : Ref sig .tc := ⟨.hbm, 302, rfl⟩
abbrev main_v236 : Ref sig .tc := ⟨.hbm, 303, rfl⟩

abbrev nD : Nat := 1
abbrev τ : Topo := Topo.v7x

variable {F : FTy → Type} [FloatOps F]
-- ==== PoolBwd.lean ====
abbrev S2x2048x512 : Shape := ⟨3, ![2, 2048, 512]⟩
abbrev S1x4x128x128 : Shape := ⟨4, ![1, 4, 128, 128]⟩
abbrev S1x512 : Shape := ⟨2, ![1, 512]⟩
abbrev S2x2048x4x128 : Shape := ⟨4, ![2, 2048, 4, 128]⟩
abbrev S2x1x4x128 : Shape := ⟨4, ![2, 1, 4, 128]⟩
abbrev S_ : Shape := ⟨0, ![]⟩
abbrev S2x2049x4x128 : Shape := ⟨4, ![2, 2049, 4, 128]⟩
abbrev S2048 : Shape := ⟨1, ![2048]⟩
abbrev S2x2048x1x128 : Shape := ⟨4, ![2, 2048, 1, 128]⟩
abbrev S2x2048x128 : Shape := ⟨3, ![2, 2048, 128]⟩
abbrev S2048x1 : Shape := ⟨2, ![2048, 1]⟩
abbrev S2048x2 : Shape := ⟨2, ![2048, 2]⟩
abbrev S1x2048x1 : Shape := ⟨3, ![1, 2048, 1]⟩
abbrev S4x128x128 : Shape := ⟨3, ![4, 128, 128]⟩
abbrev S4x128x2x2048 : Shape := ⟨4, ![4, 128, 2, 2048]⟩
abbrev S4096x512 : Shape := ⟨2, ![4096, 512]⟩
abbrev S2048x128 : Shape := ⟨2, ![2048, 128]⟩
abbrev S1x128x128 : Shape := ⟨3, ![1, 128, 128]⟩
abbrev S1x128 : Shape := ⟨2, ![1, 128]⟩
abbrev S128 : Shape := ⟨1, ![128]⟩
abbrev S128x128 : Shape := ⟨2, ![128, 128]⟩

abbrev nBuf : Space → Nat
  | .hbm => 174
  | .vmem => 16
  | .smem => 0
  | _ => 0

abbrev hbmTy0_0 (i : Nat) : BufTy := match i % 128 with
  | 0 => ⟨S2x2048x512, .f32⟩
  | 1 => ⟨S1x4x128x128, .f32⟩
  | 2 => ⟨S1x512, .f32⟩
  | 3 => ⟨S2x2048x512, .f32⟩
  | 4 => ⟨S2x2048x4x128, .f32⟩
  | 5 => ⟨S2x1x4x128, .f32⟩
  | 6 => ⟨S_, .f32⟩
  | 7 => ⟨S2x1x4x128, .f32⟩
  | 8 => ⟨S_, .f32⟩
  | 9 => ⟨S_, .f32⟩
  | 10 => ⟨S2x2048x4x128, .f32⟩
  | 11 => ⟨S2x2049x4x128, .f32⟩
  | 12 => ⟨S2048, .i32⟩
  | 13 => ⟨S2x2048x1x128, .f32⟩
  | 14 => ⟨S2x2048x128, .f32⟩
  | 15 => ⟨S_, .i32⟩
  | 16 => ⟨S2048, .i32⟩
  | 17 => ⟨S2048, .i32⟩
  | 18 => ⟨S_, .i32⟩
  | 19 => ⟨S2048, .i32⟩
  | 20 => ⟨S2048, .i32⟩
  | 21 => ⟨S_, .i32⟩
  | 22 => ⟨S2048, .i32⟩
  | 23 => ⟨S2048, .i32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048x1, .i32⟩
  | 35 => ⟨S2048x1, .i32⟩
  | 36 => ⟨S2048x2, .i32⟩
  | 37 => ⟨S2x2048x128, .f32⟩
  | 38 => ⟨S_, .i32⟩
  | 39 => ⟨S2048, .i32⟩
  | 40 => ⟨S2048, .i32⟩
  | 41 => ⟨S_, .i32⟩
  | 42 => ⟨S2048, .i32⟩
  | 43 => ⟨S2048, .i32⟩
  | 44 => ⟨S2048, .f32⟩
  | 45 => ⟨S2x2048x128, .f32⟩
  | 46 => ⟨S1x2048x1, .f32⟩
  | 47 => ⟨S2x2048x128, .f32⟩
  | 48 => ⟨S2x2048x128, .f32⟩
  | 49 => ⟨S2x2048x1x128, .f32⟩
  | 50 => ⟨S2x2048x128, .f32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i32⟩
  | 66 => ⟨S2048, .i32⟩
  | 67 => ⟨S_, .i32⟩
  | 68 => ⟨S2048, .i32⟩
  | 69 => ⟨S2048, .i32⟩
  | 70 => ⟨S2048x1, .i32⟩
  | 71 => ⟨S2048x1, .i32⟩
  | 72 => ⟨S2048x2, .i32⟩
  | 73 => ⟨S2x2048x128, .f32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S2048, .f32⟩
  | 81 => ⟨S2x2048x128, .f32⟩
  | 82 => ⟨S1x2048x1, .f32⟩
  | 83 => ⟨S2x2048x128, .f32⟩
  | 84 => ⟨S2x2048x128, .f32⟩
  | 85 => ⟨S2x2048x1x128, .f32⟩
  | 86 => ⟨S2x2048x128, .f32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S_, .i32⟩
  | 97 => ⟨S2048, .i32⟩
  | 98 => ⟨S2048, .i1⟩
  | 99 => ⟨S_, .i32⟩
  | 100 => ⟨S2048, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048x1, .i32⟩
  | 107 => ⟨S2048x1, .i32⟩
  | 108 => ⟨S2048x2, .i32⟩
  | 109 => ⟨S2x2048x128, .f32⟩
  | 110 => ⟨S_, .i32⟩
  | 111 => ⟨S2048, .i32⟩
  | 112 => ⟨S2048, .i32⟩
  | 113 => ⟨S_, .i32⟩
  | 114 => ⟨S2048, .i32⟩
  | 115 => ⟨S2048, .i32⟩
  | 116 => ⟨S2048, .f32⟩
  | 117 => ⟨S2x2048x128, .f32⟩
  | 118 => ⟨S1x2048x1, .f32⟩
  | 119 => ⟨S2x2048x128, .f32⟩
  | 120 => ⟨S2x2048x128, .f32⟩
  | 121 => ⟨S2x2048x1x128, .f32⟩
  | 122 => ⟨S2x2048x128, .f32⟩
  | 123 => ⟨S_, .i32⟩
  | 124 => ⟨S2048, .i32⟩
  | 125 => ⟨S2048, .i32⟩
  | 126 => ⟨S_, .i32⟩
  | 127 => ⟨S2048, .i32⟩
  | _ => ⟨S2x2048x512, .f32⟩

abbrev hbmTy0_1 (i : Nat) : BufTy := match i % 128 with
  | 0 => ⟨S2048, .i32⟩
  | 1 => ⟨S_, .i32⟩
  | 2 => ⟨S2048, .i32⟩
  | 3 => ⟨S2048, .i32⟩
  | 4 => ⟨S_, .i32⟩
  | 5 => ⟨S2048, .i32⟩
  | 6 => ⟨S2048, .i1⟩
  | 7 => ⟨S_, .i32⟩
  | 8 => ⟨S2048, .i32⟩
  | 9 => ⟨S2048, .i32⟩
  | 10 => ⟨S2048, .i32⟩
  | 11 => ⟨S_, .i32⟩
  | 12 => ⟨S2048, .i32⟩
  | 13 => ⟨S2048, .i32⟩
  | 14 => ⟨S2048x1, .i32⟩
  | 15 => ⟨S2048x1, .i32⟩
  | 16 => ⟨S2048x2, .i32⟩
  | 17 => ⟨S2x2048x128, .f32⟩
  | 18 => ⟨S_, .i32⟩
  | 19 => ⟨S2048, .i32⟩
  | 20 => ⟨S2048, .i32⟩
  | 21 => ⟨S_, .i32⟩
  | 22 => ⟨S2048, .i32⟩
  | 23 => ⟨S2048, .i32⟩
  | 24 => ⟨S2048, .f32⟩
  | 25 => ⟨S2x2048x128, .f32⟩
  | 26 => ⟨S1x2048x1, .f32⟩
  | 27 => ⟨S2x2048x128, .f32⟩
  | 28 => ⟨S2x2048x128, .f32⟩
  | 29 => ⟨S2x2048x1x128, .f32⟩
  | 30 => ⟨S2x2048x1x128, .f32⟩
  | 31 => ⟨S2x2048x1x128, .f32⟩
  | 32 => ⟨S2x2048x1x128, .f32⟩
  | 33 => ⟨S2x2048x4x128, .f32⟩
  | 34 => ⟨S2x2048x4x128, .f32⟩
  | 35 => ⟨S4x128x128, .f32⟩
  | 36 => ⟨S4x128x2x2048, .f32⟩
  | 37 => ⟨S2x2048x4x128, .f32⟩
  | 38 => ⟨S4096x512, .f32⟩
  | 39 => ⟨S4096x512, .f32⟩
  | 40 => ⟨S4096x512, .bf16⟩
  | 41 => ⟨S4096x512, .f32⟩
  | 42 => ⟨S4x128x128, .f32⟩
  | 43 => ⟨S4096x512, .bf16⟩
  | 44 => ⟨S4x128x128, .f32⟩
  | 45 => ⟨S1x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_13 : Ref sig .tc := ⟨.hbm, 74, rfl⟩
abbrev main_v53 : Ref sig .tc := ⟨.hbm, 75, rfl⟩
abbrev main_v54 : Ref sig .tc := ⟨.hbm, 76, rfl⟩
abbrev main_c_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_15 : Ref sig .tc := ⟨.hbm, 87, rfl⟩
abbrev main_v64 : Ref sig .tc := ⟨.hbm, 88, rfl⟩
abbrev main_v65 : Ref sig .tc := ⟨.hbm, 89, rfl⟩
abbrev main_c_16 : Ref sig .tc := ⟨.hbm, 90, rfl⟩
abbrev main_v66 : Ref sig .tc := ⟨.hbm, 91, rfl⟩
abbrev main_v67 : Ref sig .tc := ⟨.hbm, 92, rfl⟩
abbrev main_c_17 : Ref sig .tc := ⟨.hbm, 93, rfl⟩
abbrev main_v68 : Ref sig .tc := ⟨.hbm, 94, rfl⟩
abbrev main_v69 : Ref sig .tc := ⟨.hbm, 95, rfl⟩
abbrev main_c_18 : Ref sig .tc := ⟨.hbm, 96, rfl⟩
abbrev main_v70 : Ref sig .tc := ⟨.hbm, 97, rfl⟩
abbrev main_v71 : Ref sig .tc := ⟨.hbm, 98, rfl⟩
abbrev main_c_19 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_20 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_21 : Ref sig .tc := ⟨.hbm, 110, rfl⟩
abbrev main_v81 : Ref sig .tc := ⟨.hbm, 111, rfl⟩
abbrev main_v82 : Ref sig .tc := ⟨.hbm, 112, rfl⟩
abbrev main_c_22 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_23 : Ref sig .tc := ⟨.hbm, 123, rfl⟩
abbrev main_v92 : Ref sig .tc := ⟨.hbm, 124, rfl⟩
abbrev main_v93 : Ref sig .tc := ⟨.hbm, 125, rfl⟩
abbrev main_c_24 : Ref sig .tc := ⟨.hbm, 126, rfl⟩
abbrev main_v94 : Ref sig .tc := ⟨.hbm, 127, rfl⟩
abbrev main_v95 : Ref sig .tc := ⟨.hbm, 128, rfl⟩
abbrev main_c_25 : Ref sig .tc := ⟨.hbm, 129, rfl⟩
abbrev main_v96 : Ref sig .tc := ⟨.hbm, 130, rfl⟩
abbrev main_v97 : Ref sig .tc := ⟨.hbm, 131, rfl⟩
abbrev main_c_26 : Ref sig .tc := ⟨.hbm, 132, rfl⟩
abbrev main_v98 : Ref sig .tc := ⟨.hbm, 133, rfl⟩
abbrev main_v99 : Ref sig .tc := ⟨.hbm, 134, rfl⟩
abbrev main_c_27 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_28 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_29 : Ref sig .tc := ⟨.hbm, 146, rfl⟩
abbrev main_v109 : Ref sig .tc := ⟨.hbm, 147, rfl⟩
abbrev main_v110 : Ref sig .tc := ⟨.hbm, 148, rfl⟩
abbrev main_c_30 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132_0 : Ref sig .tc := ⟨.hbm, 171, rfl⟩
abbrev main_v132_1 : Ref sig .tc := ⟨.hbm, 172, rfl⟩
abbrev main_v132_2 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_8 : BitVec 32 := 0#32
  let v16 : BitVec 1 := Scalar.cmpi .ne v15 c0_i32_8
  v16

def k0_cond2 (i : grid0.Coords) : BitVec 1 :=
  let arg1 : BitVec 32 := BitVec.ofNat 32 (i 1).val
  let c0_i32_9 : BitVec 32 := 0#32
  let v17 : BitVec 1 := Scalar.cmpi .sgt arg1 c0_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== PoolBwdRefIdeal.lean ====
abbrev S2x2048x512 : Shape := ⟨3, ![2, 2048, 512]⟩
abbrev S1x4x128x128 : Shape := ⟨4, ![1, 4, 128, 128]⟩
abbrev S1x512 : Shape := ⟨2, ![1, 512]⟩
abbrev S2x2048x4x128 : Shape := ⟨4, ![2, 2048, 4, 128]⟩
abbrev S2x1x4x128 : Shape := ⟨4, ![2, 1, 4, 128]⟩
abbrev S_ : Shape := ⟨0, ![]⟩
abbrev S2x2049x4x128 : Shape := ⟨4, ![2, 2049, 4, 128]⟩
abbrev S2048 : Shape := ⟨1, ![2048]⟩
abbrev S2x2048x1x128 : Shape := ⟨4, ![2, 2048, 1, 128]⟩
abbrev S2x2048x128 : Shape := ⟨3, ![2, 2048, 128]⟩
abbrev S2048x1 : Shape := ⟨2, ![2048, 1]⟩
abbrev S2048x2 : Shape := ⟨2, ![2048, 2]⟩
abbrev S1x2048x1 : Shape := ⟨3, ![1, 2048, 1]⟩
abbrev S4x128x128 : Shape := ⟨3, ![4, 128, 128]⟩
abbrev S4x128x2x2048 : Shape := ⟨4, ![4, 128, 2, 2048]⟩
abbrev S512 : Shape := ⟨1, ![512]⟩
abbrev S1x1x512 : Shape := ⟨3, ![1, 1, 512]⟩
abbrev S4x2x2048x128 : Shape := ⟨4, ![4, 2, 2048, 128]⟩
abbrev S4096x512 : Shape := ⟨2, ![4096, 512]⟩

abbrev nBuf : Space → Nat
  | .hbm => 251
  | .vmem => 0
  | .smem => 0
  | _ => 0

abbrev hbmTy0_0 (i : Nat) : BufTy := match i % 128 with
  | 0 => ⟨S2x2048x512, .f32⟩
  | 1 => ⟨S1x4x128x128, .f32⟩
  | 2 => ⟨S1x512, .f32⟩
  | 3 => ⟨S2x2048x512, .f32⟩
  | 4 => ⟨S2x2048x4x128, .f32⟩
  | 5 => ⟨S2x1x4x128, .f32⟩
  | 6 => ⟨S_, .f32⟩
  | 7 => ⟨S2x1x4x128, .f32⟩
  | 8 => ⟨S_, .f32⟩
  | 9 => ⟨S_, .f32⟩
  | 10 => ⟨S2x2048x4x128, .f32⟩
  | 11 => ⟨S2x2049x4x128, .f32⟩
  | 12 => ⟨S_, .f32⟩
  | 13 => ⟨S2x1x4x128, .f32⟩
  | 14 => ⟨S2048, .i32⟩
  | 15 => ⟨S2x2048x1x128, .f32⟩
  | 16 => ⟨S2x2048x128, .f32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S_, .i32⟩
  | 27 => ⟨S2048, .i32⟩
  | 28 => ⟨S2048, .i1⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i32⟩
  | 36 => ⟨S2048x1, .i32⟩
  | 37 => ⟨S2048x1, .i32⟩
  | 38 => ⟨S2048x2, .i32⟩
  | 39 => ⟨S2x2048x128, .f32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S2048, .f32⟩
  | 47 => ⟨S2x2048x128, .f32⟩
  | 48 => ⟨S1x2048x1, .f32⟩
  | 49 => ⟨S2x2048x128, .f32⟩
  | 50 => ⟨S2x2048x128, .f32⟩
  | 51 => ⟨S2x2048x1x128, .f32⟩
  | 52 => ⟨S2x2048x128, .f32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S_, .i32⟩
  | 70 => ⟨S2048, .i32⟩
  | 71 => ⟨S2048, .i32⟩
  | 72 => ⟨S2048x1, .i32⟩
  | 73 => ⟨S2048x1, .i32⟩
  | 74 => ⟨S2048x2, .i32⟩
  | 75 => ⟨S2x2048x128, .f32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S2048, .f32⟩
  | 83 => ⟨S2x2048x128, .f32⟩
  | 84 => ⟨S1x2048x1, .f32⟩
  | 85 => ⟨S2x2048x128, .f32⟩
  | 86 => ⟨S2x2048x128, .f32⟩
  | 87 => ⟨S2x2048x1x128, .f32⟩
  | 88 => ⟨S2x2048x128, .f32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i32⟩
  | 98 => ⟨S_, .i32⟩
  | 99 => ⟨S2048, .i32⟩
  | 100 => ⟨S2048, .i1⟩
  | 101 => ⟨S_, .i32⟩
  | 102 => ⟨S2048, .i32⟩
  | 103 => ⟨S2048, .i32⟩
  | 104 => ⟨S2048, .i32⟩
  | 105 => ⟨S_, .i32⟩
  | 106 => ⟨S2048, .i32⟩
  | 107 => ⟨S2048, .i32⟩
  | 108 => ⟨S2048x1, .i32⟩
  | 109 => ⟨S2048x1, .i32⟩
  | 110 => ⟨S2048x2, .i32⟩
  | 111 => ⟨S2x2048x128, .f32⟩
  | 112 => ⟨S_, .i32⟩
  | 113 => ⟨S2048, .i32⟩
  | 114 => ⟨S2048, .i32⟩
  | 115 => ⟨S_, .i32⟩
  | 116 => ⟨S2048, .i32⟩
  | 117 => ⟨S2048, .i32⟩
  | 118 => ⟨S2048, .f32⟩
  | 119 => ⟨S2x2048x128, .f32⟩
  | 120 => ⟨S1x2048x1, .f32⟩
  | 121 => ⟨S2x2048x128, .f32⟩
  | 122 => ⟨S2x2048x128, .f32⟩
  | 123 => ⟨S2x2048x1x128, .f32⟩
  | 124 => ⟨S2x2048x128, .f32⟩
  | 125 => ⟨S_, .i32⟩
  | 126 => ⟨S2048, .i32⟩
  | 127 => ⟨S2048, .i32⟩
  | _ => ⟨S2x2048x512, .f32⟩

abbrev hbmTy0_1 (i : Nat) : BufTy := match i % 128 with
  | 0 => ⟨S_, .i32⟩
  | 1 => ⟨S2048, .i32⟩
  | 2 => ⟨S2048, .i32⟩
  | 3 => ⟨S_, .i32⟩
  | 4 => ⟨S2048, .i32⟩
  | 5 => ⟨S2048, .i32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i32⟩
  | 16 => ⟨S2048x1, .i32⟩
  | 17 => ⟨S2048x1, .i32⟩
  | 18 => ⟨S2048x2, .i32⟩
  | 19 => ⟨S2x2048x128, .f32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .f32⟩
  | 27 => ⟨S2x2048x128, .f32⟩
  | 28 => ⟨S1x2048x1, .f32⟩
  | 29 => ⟨S2x2048x128, .f32⟩
  | 30 => ⟨S2x2048x128, .f32⟩
  | 31 => ⟨S2x2048x1x128, .f32⟩
  | 32 => ⟨S2x2048x1x128, .f32⟩
  | 33 => ⟨S2x2048x1x128, .f32⟩
  | 34 => ⟨S2x2048x1x128, .f32⟩
  | 35 => ⟨S2x2048x4x128, .f32⟩
  | 36 => ⟨S2x2048x4x128, .f32⟩
  | 37 => ⟨S4x128x128, .f32⟩
  | 38 => ⟨S4x128x2x2048, .f32⟩
  | 39 => ⟨S2x2048x4x128, .f32⟩
  | 40 => ⟨S2x2048x512, .f32⟩
  | 41 => ⟨S512, .f32⟩
  | 42 => ⟨S1x1x512, .f32⟩
  | 43 => ⟨S2x2048x512, .f32⟩
  | 44 => ⟨S2x2048x512, .f32⟩
  | 45 => ⟨S2x2048x512, .f32⟩
  | 46 => ⟨S_, .f32⟩
  | 47 => ⟨S512, .f32⟩
  | 48 => ⟨S1x1x512, .f32⟩
  | 49 => ⟨S2x2048x512, .f32⟩
  | 50 => ⟨S2x2048x512, .f32⟩
  | 51 => ⟨S_, .f32⟩
  | 52 => ⟨S512, .f32⟩
  | 53 => ⟨S1x512, .f32⟩
  | 54 => ⟨S2x2048x4x128, .f32⟩
  | 55 => ⟨S4x128x2x2048, .f32⟩
  | 56 => ⟨S4x2x2048x128, .f32⟩
  | 57 => ⟨S2x2048x4x128, .f32⟩
  | 58 => ⟨S4x128x128, .f32⟩
  | 59 => ⟨S4x128x128, .f32⟩
  | 60 => ⟨S1x4x128x128, .f32⟩
  | 61 => ⟨S2x2048x4x128, .f32⟩
  | 62 => ⟨S2x2048x1x128, .f32⟩
  | 63 => ⟨S2x2048x128, .f32⟩
  | 64 => ⟨S2x2048x1x128, .f32⟩
  | 65 => ⟨S2x2048x128, .f32⟩
  | 66 => ⟨S2x2048x1x128, .f32⟩
  | 67 => ⟨S2x2048x128, .f32⟩
  | 68 => ⟨S2x2048x1x128, .f32⟩
  | 69 => ⟨S2x2048x128, .f32⟩
  | 70 => ⟨S2x2048x128, .f32⟩
  | 71 => ⟨S2x2048x128, .f32⟩
  | 72 => ⟨S2x2048x128, .f32⟩
  | 73 => ⟨S_, .f32⟩
  | 74 => ⟨S2x2049x4x128, .f32⟩
  | 75 => ⟨S2x2049x4x128, .f32⟩
  | 76 => ⟨S2x2048x1x128, .f32⟩
  | 77 => ⟨S_, .f32⟩
  | 78 => ⟨S2x2049x4x128, .f32⟩
  | 79 => ⟨S2x2049x4x128, .f32⟩
  | 80 => ⟨S2x2048x128, .f32⟩
  | 81 => ⟨S2x2048x128, .f32⟩
  | 82 => ⟨S2x2048x128, .f32⟩
  | 83 => ⟨S_, .f32⟩
  | 84 => ⟨S2x2049x4x128, .f32⟩
  | 85 => ⟨S2x2049x4x128, .f32⟩
  | 86 => ⟨S2x2049x4x128, .f32⟩
  | 87 => ⟨S2x2048x1x128, .f32⟩
  | 88 => ⟨S_, .f32⟩
  | 89 => ⟨S2x2049x4x128, .f32⟩
  | 90 => ⟨S2x2049x4x128, .f32⟩
  | 91 => ⟨S2x2048x128, .f32⟩
  | 92 => ⟨S2x2048x128, .f32⟩
  | 93 => ⟨S2x2048x128, .f32⟩
  | 94 => ⟨S_, .f32⟩
  | 95 => ⟨S2x2049x4x128, .f32⟩
  | 96 => ⟨S2x2049x4x128, .f32⟩
  | 97 => ⟨S2x2049x4x128, .f32⟩
  | 98 => ⟨S2x2048x1x128, .f32⟩
  | 99 => ⟨S_, .f32⟩
  | 100 => ⟨S2x2049x4x128, .f32⟩
  | 101 => ⟨S2x2049x4x128, .f32⟩
  | 102 => ⟨S2x2048x128, .f32⟩
  | 103 => ⟨S2x2048x128, .f32⟩
  | 104 => ⟨S2x2048x128, .f32⟩
  | 105 => ⟨S_, .f32⟩
  | 106 => ⟨S2x2049x4x128, .f32⟩
  | 107 => ⟨S2x2049x4x128, .f32⟩
  | 108 => ⟨S2x2049x4x128, .f32⟩
  | 109 => ⟨S2x2048x1x128, .f32⟩
  | 110 => ⟨S_, .f32⟩
  | 111 => ⟨S2x2049x4x128, .f32⟩
  | 112 => ⟨S2x2049x4x128, .f32⟩
  | 113 => ⟨S2x1x4x128, .f32⟩
  | 114 => ⟨S2x2048x4x128, .f32⟩
  | 115 => ⟨S_, .f32⟩
  | 116 => ⟨S_, .f32⟩
  | 117 => ⟨S2x2048x4x128, .f32⟩
  | 118 => ⟨S2x2048x4x128, .f32⟩
  | 119 => ⟨S2x2048x512, .f32⟩
  | 120 => ⟨S4096x512, .f32⟩
  | 121 => ⟨S4096x512, .bf16⟩
  | 122 => ⟨S4x128x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_14 : Ref sig .tc := ⟨.hbm, 76, rfl⟩
abbrev main_v54 : Ref sig .tc := ⟨.hbm, 77, rfl⟩
abbrev main_v55 : Ref sig .tc := ⟨.hbm, 78, rfl⟩
abbrev main_c_15 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_16 : Ref sig .tc := ⟨.hbm, 89, rfl⟩
abbrev main_v65 : Ref sig .tc := ⟨.hbm, 90, rfl⟩
abbrev main_v66 : Ref sig .tc := ⟨.hbm, 91, rfl⟩
abbrev main_c_17 : Ref sig .tc := ⟨.hbm, 92, rfl⟩
abbrev main_v67 : Ref sig .tc := ⟨.hbm, 93, rfl⟩
abbrev main_v68 : Ref sig .tc := ⟨.hbm, 94, rfl⟩
abbrev main_c_18 : Ref sig .tc := ⟨.hbm, 95, rfl⟩
abbrev main_v69 : Ref sig .tc := ⟨.hbm, 96, rfl⟩
abbrev main_v70 : Ref sig .tc := ⟨.hbm, 97, rfl⟩
abbrev main_c_19 : Ref sig .tc := ⟨.hbm, 98, rfl⟩
abbrev main_v71 : Ref sig .tc := ⟨.hbm, 99, rfl⟩
abbrev main_v72 : Ref sig .tc := ⟨.hbm, 100, rfl⟩
abbrev main_c_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_21 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_22 : Ref sig .tc := ⟨.hbm, 112, rfl⟩
abbrev main_v82 : Ref sig .tc := ⟨.hbm, 113, rfl⟩
abbrev main_v83 : Ref sig .tc := ⟨.hbm, 114, rfl⟩
abbrev main_c_23 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_24 : Ref sig .tc := ⟨.hbm, 125, rfl⟩
abbrev main_v93 : Ref sig .tc := ⟨.hbm, 126, rfl⟩
abbrev main_v94 : Ref sig .tc := ⟨.hbm, 127, rfl⟩
abbrev main_c_25 : Ref sig .tc := ⟨.hbm, 128, rfl⟩
abbrev main_v95 : Ref sig .tc := ⟨.hbm, 129, rfl⟩
abbrev main_v96 : Ref sig .tc := ⟨.hbm, 130, rfl⟩
abbrev main_c_26 : Ref sig .tc := ⟨.hbm, 131, rfl⟩
abbrev main_v97 : Ref sig .tc := ⟨.hbm, 132, rfl⟩
abbrev main_v98 : Ref sig .tc := ⟨.hbm, 133, rfl⟩
abbrev main_c_27 : Ref sig .tc := ⟨.hbm, 134, rfl⟩
abbrev main_v99 : Ref sig .tc := ⟨.hbm, 135, rfl⟩
abbrev main_v100 : Ref sig .tc := ⟨.hbm, 136, rfl⟩
abbrev main_c_28 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_29 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_30 : Ref sig .tc := ⟨.hbm, 148, rfl⟩
abbrev main_v110 : Ref sig .tc := ⟨.hbm, 149, rfl⟩
abbrev main_v111 : Ref sig .tc := ⟨.hbm, 150, rfl⟩
abbrev main_c_31 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_32 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_33 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_34 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_35 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_36 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_37 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_38 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_39 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_cst_40 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_cst_41 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_call1_call0_cst : Ref sig .tc := ⟨.hbm, 243, rfl⟩
abbrev main_call1_call0_v0 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩

abbrev nD : Nat := 1
abbrev τ : Topo := Topo.v7x

variable {F : FTy → Type} [FloatOps F]
-- ==== MixNormBwd.lean ====
abbrev S2x2048x1024 : Shape := ⟨3, ![2, 2048, 1024]⟩
abbrev S2x1024 : Shape := ⟨2, ![2, 1024]⟩
abbrev S1x1024 : Shape := ⟨2, ![1, 1024]⟩
abbrev S1x1024x3232 : Shape := ⟨3, ![1, 1024, 3232]⟩
abbrev S2x2048x3232 : Shape := ⟨3, ![2, 2048, 3232]⟩
abbrev S2x1x1024 : Shape := ⟨3, ![2, 1, 1024]⟩
abbrev S4096x3232 : Shape := ⟨2, ![4096, 3232]⟩
abbrev S3232x4096 : Shape := ⟨2, ![3232, 4096]⟩
abbrev S640x4096 : Shape := ⟨2, ![640, 4096]⟩
abbrev S_ : Shape := ⟨0, ![]⟩
abbrev S64x4096 : Shape := ⟨2, ![64, 4096]⟩
abbrev S32x4096 : Shape := ⟨2, ![32, 4096]⟩
abbrev S768x4096 : Shape := ⟨2, ![768, 4096]⟩
abbrev S512x4096 : Shape := ⟨2, ![512, 4096]⟩
abbrev S2048x4096 : Shape := ⟨2, ![2048, 4096]⟩
abbrev S4096x768 : Shape := ⟨2, ![4096, 768]⟩
abbrev S4096x512 : Shape := ⟨2, ![4096, 512]⟩
abbrev S4096x2048 : Shape := ⟨2, ![4096, 2048]⟩
abbrev S1024x3232 : Shape := ⟨2, ![1024, 3232]⟩
abbrev S3232x1024 : Shape := ⟨2, ![3232, 1024]⟩
abbrev S640x1024 : Shape := ⟨2, ![640, 1024]⟩
abbrev S64x1024 : Shape := ⟨2, ![64, 1024]⟩
abbrev S32x1024 : Shape := ⟨2, ![32, 1024]⟩
abbrev S768x1024 : Shape := ⟨2, ![768, 1024]⟩
abbrev S512x1024 : Shape := ⟨2, ![512, 1024]⟩
abbrev S2048x1024 : Shape := ⟨2, ![2048, 1024]⟩
abbrev S4096x1024 : Shape := ⟨2, ![4096, 1024]⟩
abbrev S512x768 : Shape := ⟨2, ![512, 768]⟩
abbrev S512x512 : Shape := ⟨2, ![512, 512]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 56
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x1024, .f32⟩
  | .hbm, ⟨6, _⟩ => ⟨S1x1024x3232, .f32⟩
  | .hbm, ⟨7, _⟩ => ⟨S2x2048x3232, .f32⟩
  | .hbm, ⟨8, _⟩ => ⟨S2x2048x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x1x1024, .f32⟩
  | .hbm, ⟨14, _⟩ => ⟨S4096x3232, .f32⟩
  | .hbm, ⟨15, _⟩ => ⟨S3232x4096, .f32⟩
  | .hbm, ⟨16, _⟩ => ⟨S640x4096, .f32⟩
  | .hbm, ⟨17, _⟩ => ⟨S_, .f32⟩
  | .hbm, ⟨18, _⟩ => ⟨S64x4096, .f32⟩
  | .hbm, ⟨19, _⟩ => ⟨S32x4096, .f32⟩
  | .hbm, ⟨20, _⟩ => ⟨S_, .f32⟩
  | .hbm, ⟨21, _⟩ => ⟨S32x4096, .f32⟩
  | .hbm, ⟨22, _⟩ => ⟨S768x4096, .f32⟩
  | .hbm, ⟨23, _⟩ => ⟨S512x4096, .f32⟩
  | .hbm, ⟨24, _⟩ => ⟨S2048x4096, .f32⟩
  | .hbm, ⟨25, _⟩ => ⟨S4096x768, .f32⟩
  | .hbm, ⟨26, _⟩ => ⟨S4096x768, .bf16⟩
  | .hbm, ⟨27, _⟩ => ⟨S4096x512, .f32⟩
  | .hbm, ⟨28, _⟩ => ⟨S4096x512, .bf16⟩
  | .hbm, ⟨29, _⟩ => ⟨S4096x2048, .f32⟩
  | .hbm, ⟨30, _⟩ => ⟨S4096x2048, .bf16⟩
  | .hbm, ⟨31, _⟩ => ⟨S1024x3232, .f32⟩
  | .hbm, ⟨32, _⟩ => ⟨S3232x1024, .f32⟩
  | .hbm, ⟨33, _⟩ => ⟨S640x1024, .f32⟩
  | .hbm, ⟨34, _⟩ => ⟨S_, .f32⟩
  | .hbm, ⟨35, _⟩ => ⟨S64x1024, .f32⟩
  | .hbm, ⟨36, _⟩ => ⟨S32x1024, .f32⟩
  | .hbm, ⟨37, _⟩ => ⟨S_, .f32⟩
  | .hbm, ⟨38, _⟩ => ⟨S32x1024, .f32⟩
  | .hbm, ⟨39, _⟩ => ⟨S768x1024, .f32⟩
  | .hbm, ⟨40, _⟩ => ⟨S512x1024, .f32⟩
  | .hbm, ⟨41, _⟩ => ⟨S2048x1024, .f32⟩
  | .hbm, ⟨42, _⟩ => ⟨S768x1024, .bf16⟩
  | .hbm, ⟨43, _⟩ => ⟨S512x1024, .bf16⟩
  | .hbm, ⟨44, _⟩ => ⟨S2048x1024, .bf16⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S2x1x1024, .f32⟩
  | .hbm, ⟨50, _⟩ => ⟨S4096x1024, .f32⟩
  | .hbm, ⟨51, _⟩ => ⟨S4096x1024, .bf16⟩
  | .hbm, ⟨52, _⟩ => ⟨S2x1x1024, .f32⟩
  | .hbm, ⟨53, _⟩ => ⟨S2x1x1024, .f32⟩
  | .hbm, ⟨54, _⟩ => ⟨S2x1x1024, .f32⟩
  | .hbm, ⟨55, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S768x1024, .bf16⟩
  | .local _ .vmem, ⟨18, _⟩ => ⟨S512x1024, .bf16⟩
  | .local _ .vmem, ⟨19, _⟩ => ⟨S2048x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev main_v37_4 : Ref sig .tc := ⟨.hbm, 54, rfl⟩
abbrev main_v37_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v76 : BitVec 1 := Scalar.cmpi .eq arg1 c0_i32
  let v77 : BitVec 32 := Scalar.extui v76
  let c0_i32_41 : BitVec 32 := 0#32
  let v78 : BitVec 1 := Scalar.cmpi .ne v77 c0_i32_41
  v78

def k0_cond2 (i : grid0.Coords) : BitVec 1 :=
  let arg1 : BitVec 32 := BitVec.ofNat 32 (i 1).val
  let c0_i32 : BitVec 32 := 0#32
  let v76 : BitVec 1 := Scalar.cmpi .eq arg1 c0_i32
  let v_true : BitVec 1 := 1#1
  let v79 : BitVec 1 := Scalar.xori v76 v_true
  let v80 : BitVec 32 := Scalar.extui v79
  let c0_i32_42 : BitVec 32 := 0#32
  let v81 : BitVec 1 := Scalar.cmpi .ne v80 c0_i32_42
  v81

def k0_cond3 (i : grid0.Coords) : BitVec 1 :=
  let arg1 : BitVec 32 := BitVec.ofNat 32 (i 1).val
  let c0_i32_43 : BitVec 32 := 0#32
  let v82 : BitVec 1 := Scalar.cmpi .eq arg1 c0_i32_43
  let v83 : BitVec 32 := Scalar.extui v82
  let c0_i32_44 : BitVec 32 := 0#32
  let v84 : BitVec 1 := Scalar.cmpi .ne v83 c0_i32_44
  v84

def k0_cond4 (i : grid0.Coords) : BitVec 1 :=
  let arg1 : BitVec 32 := BitVec.ofNat 32 (i 1).val
  let c0_i32_43 : BitVec 32 := 0#32
  let v82 : BitVec 1 := Scalar.cmpi .eq arg1 c0_i32_43
  let true_45 : BitVec 1 := 1#1
  let v85 : BitVec 1 := Scalar.xori v82 true_45
  let v86 : BitVec 32 := Scalar.extui v85
  let c0_i32_46 : BitVec 32 := 0#32
  let v87 : BitVec 1 := Scalar.cmpi .ne v86 c0_i32_46
  v87

def k0_cond5 (i : grid0.Coords) : BitVec 1 :=
  let arg1 : BitVec 32 := BitVec.ofNat 32 (i 1).val
  let c0_i32_47 : BitVec 32 := 0#32
  let v88 : BitVec 1 := Scalar.cmpi .eq arg1 c0_i32_47
  let v89 : BitVec 32 := Scalar.extui v88
  let c0_i32_48 : BitVec 32 := 0#32
  let v90 : BitVec 1 := Scalar.cmpi .ne v89 c0_i32_48
  v90

def k0_cond6 (i : grid0.Coords) : BitVec 1 :=
  let arg1 : BitVec 32 := BitVec.ofNat 32 (i 1).val
  let c0_i32_47 : BitVec 32 := 0#32
  let v88 : BitVec 1 := Scalar.cmpi .eq arg1 c0_i32_47
  let true_49 : BitVec 1 := 1#1
  let v91 : BitVec 1 := Scalar.xori v88 true_49
  let v92 : BitVec 32 := Scalar.extui v91
  let c0_i32_50 : BitVec 32 := 0#32
  let v93 : BitVec 1 := Scalar.cmpi .ne v92 c0_i32_50
  v93

def k0_cond7 (i : grid0.Coords) : BitVec 1 :=
  let arg1 : BitVec 32 := BitVec.ofNat 32 (i 1).val
  let c0_i32_51 : BitVec 32 := 0#32
  let v94 : BitVec 1 := Scalar.cmpi .eq arg1 c0_i32_51
  let arg0 : BitVec 32 := BitVec.ofNat 32 (i 0).val
  let c0_i32_52 : BitVec 32 := 0#32
  let v95 : BitVec 1 := Scalar.cmpi .eq arg0 c0_i32_52
  let v96 : BitVec 1 := Scalar.andi v94 v95
  let v97 : BitVec 32 := Scalar.extui v96
  let c0_i32_53 : BitVec 32 := 0#32
  let v98 : BitVec 1 := Scalar.cmpi .ne v97 c0_i32_53
  v98

def k0_cond8 (i : grid0.Coords) : BitVec 1 :=
  let arg1 : BitVec 32 := BitVec.ofNat 32 (i 1).val
  let c0_i32_51 : BitVec 32 := 0#32
  let v94 : BitVec 1 := Scalar.cmpi .eq arg1 c0_i32_51
  let arg0 : BitVec 32 := BitVec.ofNat 32 (i 0).val
  let c0_i32_52 : BitVec 32 := 0#32
  let v95 : BitVec 1 := Scalar.cmpi .eq arg0 c0_i32_52
  let v96 : BitVec 1 := Scalar.andi v94 v95
  let true_54 : BitVec 1 := 1#1
  let v99 : BitVec 1 := Scalar.xori v96 true_54
  let v100 : BitVec 32 := Scalar.extui v99
  let c0_i32_55 : BitVec 32 := 0#32
  let v101 : BitVec 1 := Scalar.cmpi .ne v100 c0_i32_55
  v101

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S768x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== MixNormBwdRefIdeal.lean ====
abbrev S2x2048x1024 : Shape := ⟨3, ![2, 2048, 1024]⟩
abbrev S2x1024 : Shape := ⟨2, ![2, 1024]⟩
abbrev S1x1024 : Shape := ⟨2, ![1, 1024]⟩
abbrev S1x1024x3232 : Shape := ⟨3, ![1, 1024, 3232]⟩
abbrev S2x2048x3232 : Shape := ⟨3, ![2, 2048, 3232]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3232 : Shape := ⟨2, ![1024, 3232]⟩
abbrev S4096x1024 : Shape := ⟨2, ![4096, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x1024, .f32⟩
  | .hbm, ⟨6, _⟩ => ⟨S1x1024x3232, .f32⟩
  | .hbm, ⟨7, _⟩ => ⟨S2x2048x3232, .f32⟩
  | .hbm, ⟨8, _⟩ => ⟨S2x2048x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x2048x1024, .f32⟩
  | .hbm, ⟨39, _⟩ => ⟨S2x2048x1024, .f32⟩
  | .hbm, ⟨40, _⟩ => ⟨S2x1x1024, .f32⟩
  | .hbm, ⟨41, _⟩ => ⟨S2x2048x1024, .f32⟩
  | .hbm, ⟨42, _⟩ => ⟨S2x2048x1024, .f32⟩
  | .hbm, ⟨43, _⟩ => ⟨S1024x3232, .f32⟩
  | .hbm, ⟨44, _⟩ => ⟨S2x2048x3232, .f32⟩
  | .hbm, ⟨45, _⟩ => ⟨S2x2048x1024, .f32⟩
  | .hbm, ⟨46, _⟩ => ⟨S_, .f32⟩
  | .hbm, ⟨47, _⟩ => ⟨S2x1024, .f32⟩
  | .hbm, ⟨48, _⟩ => ⟨S2x1x1024, .f32⟩
  | .hbm, ⟨49, _⟩ => ⟨S_, .f32⟩
  | .hbm, ⟨50, _⟩ => ⟨S2x1024, .f32⟩
  | .hbm, ⟨51, _⟩ => ⟨S2x2048x1024, .f32⟩
  | .hbm, ⟨52, _⟩ => ⟨S_, .f32⟩
  | .hbm, ⟨53, _⟩ => ⟨S2x1024, .f32⟩
  | .hbm, ⟨54, _⟩ => ⟨S2x1x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S2x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S2x2048x1024, .f32⟩
  | .hbm, ⟨68, _⟩ => ⟨S_, .f32⟩
  | .hbm, ⟨69, _⟩ => ⟨S2x2048, .f32⟩
  | .hbm, ⟨70, _⟩ => ⟨S2x2048x1, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1, .f32⟩
  | .hbm, ⟨75, _⟩ => ⟨S_, .f32⟩
  | .hbm, ⟨76, _⟩ => ⟨S2x2048x1, .f32⟩
  | .hbm, ⟨77, _⟩ => ⟨S2x2048x1, .f32⟩
  | .hbm, ⟨78, _⟩ => ⟨S_, .f32⟩
  | .hbm, ⟨79, _⟩ => ⟨S2x2048, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S1x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S_, .f32⟩
  | .hbm, ⟨91, _⟩ => ⟨S2x1024, .f32⟩
  | .hbm, ⟨92, _⟩ => ⟨S2x1x1024, .f32⟩
  | .hbm, ⟨93, _⟩ => ⟨S_, .f32⟩
  | .hbm, ⟨94, _⟩ => ⟨S2x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | .hbm, ⟨98, _⟩ => ⟨S2x1x1024, .f32⟩
  | .hbm, ⟨99, _⟩ => ⟨S2x1x1024, .f32⟩
  | .hbm, ⟨100, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== FirstNormBwd.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S2x1x1024 : Shape := ⟨3, ![2, 1, 1024]⟩
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩
abbrev S512x5632 : Shape := ⟨2, ![512, 5632]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S1x1024x5632, .f32⟩
  | .hbm, ⟨5, _⟩ => ⟨S2x2048x5632, .f32⟩
  | .hbm, ⟨6, _⟩ => ⟨S2x2048x1024, .f32⟩
  | .hbm, ⟨7, _⟩ => ⟨S2x1x1024, .f32⟩
  | .hbm, ⟨8, _⟩ => ⟨S4096x5632, .f32⟩
  | .hbm, ⟨9, _⟩ => ⟨S4096x5632, .bf16⟩
  | .hbm, ⟨10, _⟩ => ⟨S1024x5632, .f32⟩
  | .hbm, ⟨11, _⟩ => ⟨S5632x1024, .f32⟩
  | .hbm, ⟨12, _⟩ => ⟨S5632x1024, .bf16⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S2x1x1024, .f32⟩
  | .hbm, ⟨17, _⟩ => ⟨S2x1x1024, .f32⟩
  | .hbm, ⟨18, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S5632x1024, .bf16⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let v53 : BitVec 32 := Scalar.extui v52
  let c0_i32_23 : BitVec 32 := 0#32
  let v54 : BitVec 1 := Scalar.cmpi .ne v53 c0_i32_23
  v54

def k0_cond2 (i : grid0.Coords) : BitVec 1 :=
  let arg1 : BitVec 32 := BitVec.ofNat 32 (i 1).val
  let c0_i32 : BitVec 32 := 0#32
  let v52 : BitVec 1 := Scalar.cmpi .eq arg1 c0_i32
  let v_true : BitVec 1 := 1#1
  let v55 : BitVec 1 := Scalar.xori v52 v_true
  let v56 : BitVec 32 := Scalar.extui v55
  let c0_i32_24 : BitVec 32 := 0#32
  let v57 : BitVec 1 := Scalar.cmpi .ne v56 c0_i32_24
  v57

def k0_cond3 (i : grid0.Coords) : BitVec 1 :=
  let arg1 : BitVec 32 := BitVec.ofNat 32 (i 1).val
  let c0_i32_25 : BitVec 32 := 0#32
  let v58 : BitVec 1 := Scalar.cmpi .eq arg1 c0_i32_25
  let v59 : BitVec 32 := Scalar.extui v58
  let c0_i32_26 : BitVec 32 := 0#32
  let v60 : BitVec 1 := Scalar.cmpi .ne v59 c0_i32_26
  v60

def k0_cond4 (i : grid0.Coords) : BitVec 1 :=
  let arg1 : BitVec 32 := BitVec.ofNat 32 (i 1).val
  let c0_i32_25 : BitVec 32 := 0#32
  let v58 : BitVec 1 := Scalar.cmpi .eq arg1 c0_i32_25
  let true_27 : BitVec 1 := 1#1
  let v61 : BitVec 1 := Scalar.xori v58 true_27
  let v62 : BitVec 32 := Scalar.extui v61
  let c0_i32_28 : BitVec 32 := 0#32
  let v63 : BitVec 1 := Scalar.cmpi .ne v62 c0_i32_28
  v63

def k0_cond5 (i : grid0.Coords) : BitVec 1 :=
  let arg1 : BitVec 32 := BitVec.ofNat 32 (i 1).val
  let c0_i32_29 : BitVec 32 := 0#32
  let v64 : BitVec 1 := Scalar.cmpi .eq arg1 c0_i32_29
  let arg0 : BitVec 32 := BitVec.ofNat 32 (i 0).val
  let c0_i32_30 : BitVec 32 := 0#32
  let v65 : BitVec 1 := Scalar.cmpi .eq arg0 c0_i32_30
  let v66 : BitVec 1 := Scalar.andi v64 v65
  let v67 : BitVec 32 := Scalar.extui v66
  let c0_i32_31 : BitVec 32 := 0#32
  let v68 : BitVec 1 := Scalar.cmpi .ne v67 c0_i32_31
  v68

def k0_cond6 (i : grid0.Coords) : BitVec 1 :=
  let arg1 : BitVec 32 := BitVec.ofNat 32 (i 1).val
  let c0_i32_29 : BitVec 32 := 0#32
  let v64 : BitVec 1 := Scalar.cmpi .eq arg1 c0_i32_29
  let arg0 : BitVec 32 := BitVec.ofNat 32 (i 0).val
  let c0_i32_30 : BitVec 32 := 0#32
  let v65 : BitVec 1 := Scalar.cmpi .eq arg0 c0_i32_30
  let v66 : BitVec 1 := Scalar.andi v64 v65
  let true_32 : BitVec 1 := 1#1
  let v69 : BitVec 1 := Scalar.xori v66 true_32
  let v70 : BitVec 32 := Scalar.extui v69
  let c0_i32_33 : BitVec 32 := 0#32
  let v71 : BitVec 1 := Scalar.cmpi .ne v70 c0_i32_33
  v71

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FirstNormBwdRefIdeal.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1024x5632 : Shape := ⟨2, ![1024, 5632]⟩
abbrev S4096x1024 : Shape := ⟨2, ![4096, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S1x1024x5632, .f32⟩
  | .hbm, ⟨5, _⟩ => ⟨S2x2048x5632, .f32⟩
  | .hbm, ⟨6, _⟩ => ⟨S2x2048x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S2x1x1024, .f32⟩
  | .hbm, ⟨35, _⟩ => ⟨S2x2048x1024, .f32⟩
  | .hbm, ⟨36, _⟩ => ⟨S2x2048x1024, .f32⟩
  | .hbm, ⟨37, _⟩ => ⟨S1024x5632, .f32⟩
  | .hbm, ⟨38, _⟩ => ⟨S2x2048x5632, .f32⟩
  | .hbm, ⟨39, _⟩ => ⟨S2x2048x1024, .f32⟩
  | .hbm, ⟨40, _⟩ => ⟨S_, .f32⟩
  | .hbm, ⟨41, _⟩ => ⟨S2x1024, .f32⟩
  | .hbm, ⟨42, _⟩ => ⟨S2x1x1024, .f32⟩
  | .hbm, ⟨43, _⟩ => ⟨S_, .f32⟩
  | .hbm, ⟨44, _⟩ => ⟨S2x1024, .f32⟩
  | .hbm, ⟨45, _⟩ => ⟨S2x2048x1024, .f32⟩
  | .hbm, ⟨46, _⟩ => ⟨S_, .f32⟩
  | .hbm, ⟨47, _⟩ => ⟨S2x1024, .f32⟩
  | .hbm, ⟨48, _⟩ => ⟨S2x1x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S2x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S1x1024, .f32⟩
  | .hbm, ⟨80, _⟩ => ⟨S4096x1024, .f32⟩
  | .hbm, ⟨81, _⟩ => ⟨S2x1x1024, .f32⟩
  | .hbm, ⟨82, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== AttnFwd.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S2x2048x1x32 : Shape := ⟨4, ![2, 2048, 1, 32]⟩
abbrev S2x2048x8x96 : Shape := ⟨4, ![2, 2048, 8, 96]⟩
abbrev S_ : Shape := ⟨0, ![]⟩
abbrev S2x2048x8x128 : Shape := ⟨4, ![2, 2048, 8, 128]⟩
abbrev S4096x1024 : Shape := ⟨2, ![4096, 1024]⟩
abbrev S2048x128 : Shape := ⟨2, ![2048, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 26
  | .vmem => 10
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x32, .f32⟩
  | .hbm, ⟨4, _⟩ => ⟨S2x2048x8x64, .f32⟩
  | .hbm, ⟨5, _⟩ => ⟨S2x2048x1x32, .f32⟩
  | .hbm, ⟨6, _⟩ => ⟨S2x2048x8x32, .f32⟩
  | .hbm, ⟨7, _⟩ => ⟨S2x2048x8x96, .f32⟩
  | .hbm, ⟨8, _⟩ => ⟨S_, .i32⟩
  | .hbm, ⟨9, _⟩ => ⟨S_, .f32⟩
  | .hbm, ⟨10, _⟩ => ⟨S2x2048x8x128, .f32⟩
  | .hbm, ⟨11, _⟩ => ⟨S4096x1024, .f32⟩
  | .hbm, ⟨12, _⟩ => ⟨S4096x1024, .bf16⟩
  | .hbm, ⟨13, _⟩ => ⟨S2x2048x8x96, .f32⟩
  | .hbm, ⟨14, _⟩ => ⟨S_, .i32⟩
  | .hbm, ⟨15, _⟩ => ⟨S_, .f32⟩
  | .hbm, ⟨16, _⟩ => ⟨S2x2048x8x128, .f32⟩
  | .hbm, ⟨17, _⟩ => ⟨S4096x1024, .f32⟩
  | .hbm, ⟨18, _⟩ => ⟨S4096x1024, .bf16⟩
  | .hbm, ⟨19, _⟩ => ⟨S_, .i32⟩
  | .hbm, ⟨20, _⟩ => ⟨S_, .f32⟩
  | .hbm, ⟨21, _⟩ => ⟨S2x2048x8x128, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S2x8x2048x2048 : Shape := ⟨4, ![2, 8, 2048, 2048]⟩
abbrev S2x2048x2048x8 : Shape := ⟨4, ![2, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x8x1 : Shape := ⟨4, ![2, 2048, 8, 1]⟩
abbrev S2x2048x8x128 : Shape := ⟨4, ![2, 2048, 8, 128]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x32, .f32⟩
  | .hbm, ⟨4, _⟩ => ⟨S2x2048x8x64, .f32⟩
  | .hbm, ⟨5, _⟩ => ⟨S2x8x2048x2048, .f32⟩
  | .hbm, ⟨6, _⟩ => ⟨S2x2048x2048x8, .f32⟩
  | .hbm, ⟨7, _⟩ => ⟨S2x8x2048x2048, .f32⟩
  | .hbm, ⟨8, _⟩ => ⟨S2x8x2048x2048, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S2x8x2048x2048, .f32⟩
  | .hbm, ⟨17, _⟩ => ⟨S2x8x2048x2048, .f32⟩
  | .hbm, ⟨18, _⟩ => ⟨S_, .f32⟩
  | .hbm, ⟨19, _⟩ => ⟨S_, .f32⟩
  | .hbm, ⟨20, _⟩ => ⟨S2x8x2048x2048, .i1⟩
  | .hbm, ⟨21, _⟩ => ⟨S2x8x2048x2048, .f32⟩
  | .hbm, ⟨22, _⟩ => ⟨S2x8x2048x2048, .f32⟩
  | .hbm, ⟨23, _⟩ => ⟨S_, .f32⟩
  | .hbm, ⟨24, _⟩ => ⟨S2x8x2048, .f32⟩
  | .hbm, ⟨25, _⟩ => ⟨S_, .f32⟩
  | .hbm, ⟨26, _⟩ => ⟨S2x8x2048, .f32⟩
  | .hbm, ⟨27, _⟩ => ⟨S2x8x2048, .f32⟩
  | .hbm, ⟨28, _⟩ => ⟨S2x8x2048x1, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .f32⟩
  | .hbm, ⟨37, _⟩ => ⟨S2x8x64x2048, .f32⟩
  | .hbm, ⟨38, _⟩ => ⟨S2x2048x8x64, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x2048, .f32⟩
  | .hbm, ⟨43, _⟩ => ⟨S2x8x2048x2048, .f32⟩
  | .hbm, ⟨44, _⟩ => ⟨S2x8x2048x2048, .f32⟩
  | .hbm, ⟨45, _⟩ => ⟨S_, .f32⟩
  | .hbm, ⟨46, _⟩ => ⟨S2x8x2048, .f32⟩
  | .hbm, ⟨47, _⟩ => ⟨S2x8x2048x1, .f32⟩
  | .hbm, ⟨48, _⟩ => ⟨S2x8x2048x1, .f32⟩
  | .hbm, ⟨49, _⟩ => ⟨S2x8x2048x1, .f32⟩
  | .hbm, ⟨50, _⟩ => ⟨S2x2048x8x1, .f32⟩
  | .hbm, ⟨51, _⟩ => ⟨S2x2048x8x128, .f32⟩
  | .hbm, ⟨52, _⟩ => ⟨S_, .i32⟩
  | .hbm, ⟨53, _⟩ => ⟨S_, .f32⟩
  | .hbm, ⟨54, _⟩ => ⟨S2x2048x8x128, .f32⟩
  | .hbm, ⟨55, _⟩ => ⟨S4096x1024, .f32⟩
  | .hbm, ⟨56, _⟩ => ⟨S4096x1024, .bf16⟩
  | .hbm, ⟨57, _⟩ => ⟨S4096x1024, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call1_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== FfnIn.lean ====
abbrev S2x2048x1024 : Shape := ⟨3, ![2, 2048, 1024]⟩
abbrev S1x1024x5632 : Shape := ⟨3, ![1, 1024, 5632]⟩
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S256x1024 : Shape := ⟨2, ![256, 1024]⟩
abbrev S4096x256 : Shape := ⟨2, ![4096, 256]⟩

abbrev nBuf : Space → Nat
  | .hbm => 10
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024x5632, .f32⟩
  | .hbm, ⟨2, _⟩ => ⟨S4096x1024, .f32⟩
  | .hbm, ⟨3, _⟩ => ⟨S4096x1024, .bf16⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S4096x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S2x2048x1024 : Shape := ⟨3, ![2, 2048, 1024]⟩
abbrev S1x1024x5632 : Shape := ⟨3, ![1, 1024, 5632]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S_ : Shape := ⟨0, ![]⟩
abbrev S4096x2816 : Shape := ⟨2, ![4096, 2816]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x5632, .f32⟩
  | .hbm, ⟨2, _⟩ => ⟨S1024x5632, .f32⟩
  | .hbm, ⟨3, _⟩ => ⟨S2x2048x5632, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S4096x2816, .f32⟩
  | .hbm, ⟨17, _⟩ => ⟨S4096x2816, .bf16⟩
  | .hbm, ⟨18, _⟩ => ⟨S4096x2816, .f32⟩
  | .hbm, ⟨19, _⟩ => ⟨S4096x2816, .bf16⟩
  | .hbm, ⟨20, _⟩ => ⟨S4096x2816, .f32⟩
  | .hbm, ⟨21, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== NormFwd.lean ====
abbrev S2x2048x1024 : Shape := ⟨3, ![2, 2048, 1024]⟩
abbrev S2x1024 : Shape := ⟨2, ![2, 1024]⟩
abbrev S1x1024 : Shape := ⟨2, ![1, 1024]⟩
abbrev S2x1x1024 : Shape := ⟨3, ![2, 1, 1024]⟩
abbrev S4096x1024 : Shape := ⟨2, ![4096, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S2x1x1024, .f32⟩
  | .hbm, ⟨5, _⟩ => ⟨S2x1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormFwdRefIdeal.lean ====
abbrev S2x2048x1024 : Shape := ⟨3, ![2, 2048, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x2048x1024, .f32⟩
  | .hbm, ⟨26, _⟩ => ⟨S2x2048x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S4096x1024, .f32⟩
  | .hbm, ⟨31, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Reals.lean ====
module

public import Idealize.ShloMosaic.Lib.ReduceAll
public import Idealize.ShloMosaic.Lib.Pointwise
public import Idealize.ShloMosaic.PureOps.Ideal

@[expose] public section

/-! Shared facts of the value proofs: the entries of a finite array are real numbers, and the operations the programs
use, at real numbers, are the real operations. -/

noncomputable section

namespace Cert.Reals

open Idealize.ShloMosaic

/-- The array of extended reals with the given real entries. -/
abbrev up {ι : Type} (x : ι → ℝ) : ι → EReal := fun i => (x i : EReal)

theorem bits_inf : Ideal.ofBits .f32 0x7F800000#32 = ⊤ := by
  simp [Ideal.ofBits, Ideal.ieee]

/-- An entry whose absolute value is below infinity is a real number. -/
theorem real_of_abs_lt (x : EReal) (h : max x (-x) < ⊤) : ∃ r : ℝ, x = r := by
  induction x with
  | bot => simp at h
  | top => simp at h
  | coe r => exact ⟨r, rfl⟩

/-- An array that passes `jnp.all (jnp.abs x < jnp.inf)` is an array of real numbers. -/
theorem real_of_all {s t : Shape} {axes : List (Fin s.rank)} [Subsingleton t.Idx] (x : FVec Ideal s .f32)
    (hb : (⟨0, ![]⟩ : Shape).BroadcastsInDim s ![]) (h : s.ReducesTo axes t) {w : Shape} (init : IVec w 1) (hu : 0 < w.numel) (j : t.Idx)
    (e : Host.reduce IntOp.andi (cmpf .olt (Host.absf x) (broadcastInDim s ![] hb (constant ⟨0, ![]⟩ .f32 0x7F800000#32))) init h hu j
      = 1#1) : ∃ r : s.Idx → ℝ, x = up r := by
  have key : ∀ i, ∃ r : ℝ, x i = r := fun i => by
    have hi := Host.reduce_andi_all _ init h hu j e i
    refine real_of_abs_lt _ ?_
    have hc : Ideal.cmp .olt (max (x i) (-x i)) (Ideal.ofBits .f32 0x7F800000#32) = 1#1 := hi
    rw [bits_inf] at hc
    by_contra hn
    simp only [Ideal.cmp] at hc
    simp [hn] at hc
  choose r hr using key
  exact ⟨r, funext hr⟩

/-- Both conjuncts of a true conjunction of truth values are true. -/
theorem and_one {a b : BitVec 1} (h : IntOp.andi a b = 1#1) : a = 1#1 ∧ b = 1#1 := by
  revert a b; unfold IntOp.andi; decide

instance : Subsingleton (Shape.Idx ⟨0, ![]⟩) := ⟨fun a b => funext fun k => k.elim0⟩

/-! ## The operations at real numbers -/

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe (x : ℝ) {y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((Real.sqrt x)⁻¹ : ℝ) : EReal) := by
  rw [Ideal.rsqrt_coe, if_neg (not_lt.2 h.le), if_neg h.ne']

theorem max_coe (x y : ℝ) : max (x : EReal) (y : EReal) = ((max x y : ℝ) : EReal) :=
  (Monotone.map_max EReal.coe_strictMono.monotone).symm

/-! ## The constants -/

theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num

/-! ## Rows -/

/-- The sequence that row `i` of the flattened batch belongs to. -/
abbrev bat (i : Fin 4096) : Fin 2 := ⟨i / 2048, by omega⟩
/-- The position of row `i` of the flattened batch in its sequence. -/
abbrev pos (i : Fin 4096) : Fin 2048 := ⟨i % 2048, by omega⟩

/-! ## The gate -/

/-- The kernels' gate, half of a hyperbolic tangent of half its argument and a half, is the logistic function. -/
theorem gate_eq (x : EReal) :
    Ideal.ofBits .f32 0x3F000000#32 * Ideal.tanh (Ideal.ofBits .f32 0x3F000000#32 * x) + Ideal.ofBits .f32 0x3F000000#32
      = Ideal.logistic x := by
  rw [lit_half]
  induction x with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top,
      show (1 : EReal) = ((1 : ℝ) : EReal) from rfl, ← EReal.coe_mul, ← EReal.coe_add]
    norm_num
  | coe x =>
    rw [← EReal.coe_mul, Ideal.tanh_coe, ← EReal.coe_mul, ← EReal.coe_add, Ideal.logistic_coe]
    congr 1
    have e : Real.exp (-x) = Real.exp (-(1 / 2 * x)) * Real.exp (-(1 / 2 * x)) := by rw [← Real.exp_add]; ring_nf
    have e2 : Real.exp (1 / 2 * x) * Real.exp (-(1 / 2 * x)) = 1 := by rw [← Real.exp_add]; simp
    rw [Real.tanh_eq_sinh_div_cosh, Real.sinh_eq, Real.cosh_eq, e]
    have p := Real.exp_pos (1 / 2 * x); have q := Real.exp_pos (-(1 / 2 * x))
    generalize Real.exp (1 / 2 * x) = a at *
    generalize Real.exp (-(1 / 2 * x)) = b at *
    have ha : a = 1 / b := by field_simp; exact e2
    subst ha
    field_simp
    ring

/-! ## Sums over several axes -/

/-- The host's sum over the first two axes of a rank-3 array, at an index. -/
theorem hostSum_first_two {n0 n1 n2 : Nat} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ b : Fin n0, ∑ s : Fin n1, v (ix3 b s l) := by
  refine congrArg (init + ·) ?_
  rw [← Fintype.sum_prod_type' (fun b s => v (ix3 b s l))]
  refine Finset.sum_filter_eq_sum_of_fiber _ (fun k : Fin n0 × Fin n1 => ix3 k.1 k.2 l)
    (fun _ _ e => Prod.ext (congrFun e 0) (congrFun e 1)) (fun i => ⟨fun e => ⟨(i 0, i 1), ?_⟩, ?_⟩) v
  · funext a; apply Fin.ext
    match a with
    | ⟨0, _⟩ => rfl
    | ⟨1, _⟩ => rfl
    | ⟨2, _⟩ => exact (congrArg Fin.val (congrFun e 0)).symm
  · rintro ⟨k, rfl⟩
    funext a; apply Fin.ext
    match a with
    | ⟨0, _⟩ => rfl

end Cert.Reals
end
-- ==== Proof.Hidden.lean ====
module

public import proofs.«01_k».proof.Proof.Gen.HiddenGradIdeal.Value
public import proofs.«01_k».proof.Proof.Reals
public import Idealize.ShloMosaic.Lib.Pipeline.ValueKit

@[expose] public section

/-! What the gradient call of the SwiGLU's hidden layer leaves in its result array. -/

set_option maxRecDepth 16384

noncomputable section

open Idealize.ShloMosaic Idealize.ShloMosaic.TcCoe Idealize.SL.Sem
open Idealize.ShloMosaic.Pipeline (Dat)

namespace Cert.HiddenGradIdeal.Value

open Cert.HiddenGradIdeal Cert.HiddenGradIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The logistic function as the kernel writes it. -/
def sg (g : EReal) : EReal := Ideal.ofBits .f32 0x3F000000#32 * Ideal.tanh (Ideal.ofBits .f32 0x3F000000#32 * g) + Ideal.ofBits .f32 0x3F000000#32

/-- The gate's gradient, from the hidden layer's gradient, the gate and the up projection. -/
def dgv (d g u : EReal) : EReal :=
  d * u * (sg g * (1 + g * (1 - sg g)))

/-- The up projection's gradient, from the hidden layer's gradient and the gate. -/
def duv (d g : EReal) : EReal := d * (g * sg g)

/-- One block of the result: the gate's gradient in its first columns, the up projection's in the others. -/
def block (x0 : Vec Ideal S512x1024 .bf16) (x1 : Vec Ideal S2816x1024 .bf16) (x2 x3 : Vec Ideal S512x2816 .bf16) (r : Fin 512) (q : Fin 5632) : EReal :=
  if h : q.val < 2816 then dgv (∑ k : Fin 1024, x0 (ix2 r k) * x1 (ix2 (⟨q, h⟩ : Fin 2816) k)) (x2 (ix2 r (⟨q, h⟩ : Fin 2816))) (x3 (ix2 r (⟨q, h⟩ : Fin 2816)))
  else duv (∑ k : Fin 1024, x0 (ix2 r k) * x1 (ix2 (⟨q - 2816, by omega⟩ : Fin 2816) k)) (x2 (ix2 r (⟨q - 2816, by omega⟩ : Fin 2816)))

section Halves

variable (x0 : Vec Ideal S512x1024 .bf16) (x1 : Vec Ideal S2816x1024 .bf16) (x2 x3 : Vec Ideal S512x2816 .bf16) (r : Fin 512) (q : Fin 5632)

theorem block_gate (r' : Fin 512) (j : Fin 2816) (hr : r.val = r'.val) (hq : q.val = j.val) :
    (∑ k : Fin 1024, x0 (ix2 r' k) * x1 (ix2 j k)) * x3 (ix2 r' j) * (sg (x2 (ix2 r' j)) *
      (1 + x2 (ix2 r' j) * (1 - sg (x2 (ix2 r' j))))) = block x0 x1 x2 x3 r q := by
  obtain rfl := Fin.ext hr
  have h : q.val < 2816 := by omega
  have e : (⟨q.val, h⟩ : Fin 2816) = j := Fin.ext hq
  unfold block; rw [dif_pos h, e]; rfl

theorem block_up (r' : Fin 512) (j : Fin 2816) (hr : r.val = r'.val) (hq : q.val = 2816 + j.val) :
    (∑ k : Fin 1024, x0 (ix2 r' k) * x1 (ix2 j k)) * (x2 (ix2 r' j) * sg (x2 (ix2 r' j))) = block x0 x1 x2 x3 r q := by
  obtain rfl := Fin.ext hr
  have h : ¬q.val < 2816 := by omega
  have e : (⟨q.val - 2816, by omega⟩ : Fin 2816) = j := Fin.ext (by dsimp only; omega)
  unfold block; rw [dif_neg h, e]; rfl

end Halves

set_option maxHeartbeats 2000000 in
theorem left4 (c : Dev nD) (t : Fin cfg0.N) (y : S512x5632.Idx) :
    outsAt0 m c t y = block (iblk m c 0 t) (iblk m c 1 t) (iblk m c 2 t) (iblk m c 3 t) (y 0) (y 1) := by
  unfold outsAt0
  frame_out
  canon_tiles x h
  all_goals
    open_payloads
    pointwise
    first
      | (have hq : (y 1).val < 2816 := by omega
         refine block_gate _ _ _ _ (y 0) (y 1) _ _ h0 ?_; exact h1)
      | (refine block_up _ _ _ _ (y 0) (y 1) _ _ h0 ?_; first | exact h1.trans rfl | exact h1.trans (by dsimp only; omega))

end Cert.HiddenGradIdeal.Value
end
end
-- ==== Proof.HiddenVal.lean ====
module

public import proofs.«01_k».proof.Proof.Hidden
public import proofs.«01_k».proof.Proof.Gen.HiddenGradRefIdeal.Read

@[expose] public section

/-! The gradient of the SwiGLU's hidden layer: the kernel's result array and the reference's, in the entries of the arguments. -/

set_option maxRecDepth 16384

noncomputable section

open Idealize.ShloMosaic Idealize.ShloMosaic.TcCoe Idealize.SL.Sem
open Idealize.ShloMosaic.Pipeline (Dat)

namespace Cert.HiddenGradIdeal.Value

open Cert.HiddenGradIdeal Cert.HiddenGradIdeal.Gen

section Entry

variable (m : (ℓ : Loc nD τ sig) → Buf (Elt Ideal) ℓ) (c : Dev nD) (t : Fin cfg0.N)

abbrev A0 : FVec Ideal S2x2048x5632 .f32 := m ((c : Thread nD τ).loc main_arg0)
abbrev A1 : FVec Ideal S1x2816x1024 .f32 := m ((c : Thread nD τ).loc main_arg1)
abbrev A2 : FVec Ideal S2x2048x1024 .f32 := m ((c : Thread nD τ).loc main_arg2)

theorem tlt : t.val < 8 := lt_of_lt_of_eq t.isLt N_0

/-- The sequence and the position that row `r` of tile `t` belongs to. -/
abbrev sb : Fin 2 := ⟨t.val / 4, by have := tlt t; omega⟩
abbrev sr (r : Fin 512) : Fin 2048 := ⟨t.val % 4 * 512 + r, by omega⟩

theorem blk0 (r : Fin 512) (k : Fin 1024) : (iblk m c 0 t : Vec Ideal S512x1024 .bf16) (ix2 r k) = A2 m c (ix3 (sb t) (sr t r) k) := by
  have e : (V m c main_v5 : FVec Ideal S4096x1024 .bf16) (ix2 (⟨t.val * 512 + r, by have := tlt t; omega⟩ : Fin 4096) k)
      = A2 m c (ix3 (sb t) (sr t r) k) := by
    entry_read
    pointwise
    blk_ext
  rw [← e]; blk_ext [iblk, idx t]

theorem blk1 (j : Fin 2816) (k : Fin 1024) : (iblk m c 1 t : Vec Ideal S2816x1024 .bf16) (ix2 j k) = A1 m c (ix3 0 j k) := by
  have e : (V m c main_v7 : FVec Ideal S2816x1024 .bf16) (ix2 j k) = A1 m c (ix3 0 j k) := by
    entry_read
    pointwise
    blk_ext
  rw [← e]; blk_ext [iblk, idx t]

theorem blk2 (r : Fin 512) (j : Fin 2816) : (iblk m c 2 t : Vec Ideal S512x2816 .bf16) (ix2 r j)
    = A0 m c (ix3 (sb t) (sr t r) (⟨j, by omega⟩ : Fin 5632)) := by
  have e : (V m c main_v2 : FVec Ideal S4096x2816 .bf16) (ix2 (⟨t.val * 512 + r, by have := tlt t; omega⟩ : Fin 4096) j)
      = A0 m c (ix3 (sb t) (sr t r) (⟨j, by omega⟩ : Fin 5632)) := by
    entry_read
    pointwise
    blk_ext
  rw [← e]; blk_ext [iblk, idx t]

theorem blk3 (r : Fin 512) (j : Fin 2816) : (iblk m c 3 t : Vec Ideal S512x2816 .bf16) (ix2 r j)
    = A0 m c (ix3 (sb t) (sr t r) (⟨2816 + j, by omega⟩ : Fin 5632)) := by
  have e : (V m c main_v3 : FVec Ideal S4096x2816 .bf16) (ix2 (⟨t.val * 512 + r, by have := tlt t; omega⟩ : Fin 4096) j)
      = A0 m c (ix3 (sb t) (sr t r) (⟨2816 + j, by omega⟩ : Fin 5632)) := by
    entry_read
    pointwise
    blk_ext
  rw [← e]; blk_ext [iblk, idx t]

end Entry

section Forms

variable (gu : FVec Ideal S2x2048x5632 .f32) (w : FVec Ideal S1x2816x1024 .f32) (ct : FVec Ideal S2x2048x1024 .f32) (b : Fin 2) (s : Fin 2048)

/-- The hidden layer's gradient: the cotangent times the transposed weight. -/
def da (j : Fin 2816) : EReal := ∑ k : Fin 1024, ct (ix3 b s k) * w (ix3 0 j k)

/-- The result's entry at sequence `b`, position `s` and column `q`. -/
def res (q : Fin 5632) : EReal :=
  if h : q.val < 2816 then dgv (da w ct b s ⟨q, h⟩) (gu (ix3 b s q)) (gu (ix3 b s (⟨2816 + q, by omega⟩ : Fin 5632)))
  else duv (da w ct b s ⟨q - 2816, by omega⟩) (gu (ix3 b s (⟨q - 2816, by omega⟩ : Fin 5632)))

end Forms

variable (m : (ℓ : Loc nD τ sig) → Buf (Elt Ideal) ℓ) (c : Dev nD)

theorem block_at (t : Fin cfg0.N) (r : Fin 512) (q : Fin 5632) :
    block (iblk m c 0 t) (iblk m c 1 t) (iblk m c 2 t) (iblk m c 3 t) r q = res (A0 m c) (A1 m c) (A2 m c) (sb t) (sr t r) q := by
  unfold block res
  split
  · rw [blk2, blk3, da]; congr 1; exact Finset.sum_congr rfl fun k _ => by rw [blk0, blk1]
  · rw [blk2, da]; congr 1; exact Finset.sum_congr rfl fun k _ => by rw [blk0, blk1]

theorem final4 : (dats m 0 c).arrAt 4 cfg0.N = fun i : S4096x5632.Idx => res (A0 m c) (A1 m c) (A2 m c)
    ⟨(i 0).val / 2048, by have := (i 0).isLt; change _ < 4096 at this; omega⟩ ⟨(i 0).val % 2048, by omega⟩ (i 1) := by
  refine (dats m 0 c).arrAt_eq_of_covers 4 _ (by decide +kernel) fun t hf y => ?_
  blk_simp
  rw [after0_4, left4]
  refine (block_at m c t _ _).trans ?_
  have ht := tlt t
  have hy : (y 0).val < 512 := (y 0).isLt
  congr 1 <;> (apply Fin.ext; blk_simp [idx t]; try (dsimp only; omega))

end Cert.HiddenGradIdeal.Value

namespace Cert.HiddenGradRefIdeal.Read

open Cert.HiddenGradRefIdeal Cert.HiddenGradRefIdeal.Gen

variable (gu : FVec Ideal S2x2048x5632 .f32) (w : FVec Ideal S1x2816x1024 .f32) (ct : FVec Ideal S2x2048x1024 .f32)

/-- The logistic function as the reference writes it. -/
abbrev sg (g : EReal) : EReal := Ideal.logistic g

theorem ref_sg (b : Fin 2) (s : Fin 2048) (j : Fin 2816) : val_main_v2_2 (F := Ideal) gu (ix3 b s j) = sg (gu (ix3 b s (⟨j, by omega⟩ : Fin 5632))) := by
  pointwise [Ideal.logistic, val_main_v2_2, val_main_call0_v4, val_main_call0_cst_0, val_main_call0_v3, val_main_call0_v2, val_main_call0_cst, val_main_call0_v1, val_main_call0_v0, val_main_v0]
  try blk_ext

theorem ref_da (b : Fin 2) (s : Fin 2048) (j : Fin 2816) : val_main_v6 (F := Ideal) w ct (ix3 b s j) = HiddenGradIdeal.Value.da w ct b s j := by
  rw [HiddenGradIdeal.Value.da]
  pointwise [val_main_v6, val_main_v4]
  try blk_ext

theorem ref_dsg (b : Fin 2) (s : Fin 2048) (j : Fin 2816) : val_main_v2_1 (F := Ideal) gu (ix3 b s j)
    = sg (gu (ix3 b s (⟨j, by omega⟩ : Fin 5632))) * (1 - sg (gu (ix3 b s (⟨j, by omega⟩ : Fin 5632)))) := by
  rw [val_main_v2_1_apply, val_main_call0_v7_apply, ref_sg]
  pointwise [val_main_call0_v6, val_main_call0_cst_1]

/-- The reference's entry: the gate's part below column 2816, the up part from there on. -/
def res (b : Fin 2) (s : Fin 2048) (q : Fin 5632) : EReal :=
  if h : q.val < 2816 then
    HiddenGradIdeal.Value.da w ct b s ⟨q, h⟩ * gu (ix3 b s (⟨2816 + q, by omega⟩ : Fin 5632)) * sg (gu (ix3 b s q))
      + gu (ix3 b s q) * (HiddenGradIdeal.Value.da w ct b s ⟨q, h⟩ * gu (ix3 b s (⟨2816 + q, by omega⟩ : Fin 5632)))
        * (sg (gu (ix3 b s q)) * (1 - sg (gu (ix3 b s q))))
  else gu (ix3 b s (⟨q - 2816, by omega⟩ : Fin 5632)) * sg (gu (ix3 b s (⟨q - 2816, by omega⟩ : Fin 5632)))
    * HiddenGradIdeal.Value.da w ct b s ⟨q - 2816, by omega⟩

theorem ref_g (b : Fin 2) (s : Fin 2048) (j : Fin 2816) : val_main_v0 (F := Ideal) gu (ix3 b s j) = gu (ix3 b s (⟨j, by omega⟩ : Fin 5632)) := by
  rw [val_main_v0_apply]; blk_ext

theorem ref_u (b : Fin 2) (s : Fin 2048) (j : Fin 2816) : val_main_v1 (F := Ideal) gu (ix3 b s j) = gu (ix3 b s (⟨2816 + j, by omega⟩ : Fin 5632)) := by
  rw [val_main_v1_apply]; blk_ext

theorem ref10 (b : Fin 2) (s : Fin 2048) (q : Fin 5632) : val_main_v10 (F := Ideal) gu w ct (ix3 b s q) = res gu w ct b s q := by
  unfold val_main_v10 res
  split
  · rename_i h
    refine (concatenate_pair_apply_left (t := S2x2048x5632) (s₁ := S2x2048x2816) (s₂ := S2x2048x2816) 2 _ _ _ _ rfl
      (ix3 b s (⟨q, h⟩ : Fin 2816)) (fun a => by fin_cases a <;> rfl)).trans ?_
    rw [val_main_v9_apply, val_main_call1_v1_apply, val_main_call1_v2_apply, val_main_call1_v0_apply, val_main_v8_apply, ref_sg, ref_dsg,
      ref_da, ref_g, ref_u]
    rfl
  · rename_i h
    refine (concatenate_pair_apply_right (t := S2x2048x5632) (s₁ := S2x2048x2816) (s₂ := S2x2048x2816) 2 _ _ _ _ rfl rfl
      (ix3 b s (⟨q - 2816, by omega⟩ : Fin 2816))
      (fun a ha => by fin_cases a <;> first | rfl | exact absurd rfl ha) (by show q.val - 2816 + 2816 = q.val; omega)).trans ?_
    rw [val_main_v7_apply, val_main_v2_0_apply, ref_sg, ref_da, ref_g]
    rfl

theorem ref12 : val_main_v12 (F := Ideal) gu w ct = fun i : S4096x5632.Idx => res gu w ct
    ⟨(i 0).val / 2048, by have := (i 0).isLt; change _ < 4096 at this; omega⟩ ⟨(i 0).val % 2048, by omega⟩ (i 1) := by
  funext i
  refine Eq.trans ?_ (ref10 gu w ct _ _ _)
  change val_main_v11 (F := Ideal) gu w ct i = _
  rw [val_main_v11_apply]
  blk_ext

/-! The two results agree at real numbers. -/

theorem gate_eq (x : EReal) : HiddenGradIdeal.Value.sg x = Ideal.logistic x := Reals.gate_eq x

theorem res_eq (gu : S2x2048x5632.Idx → ℝ) (w : S1x2816x1024.Idx → ℝ) (ct : S2x2048x1024.Idx → ℝ) (b : Fin 2) (s : Fin 2048) (q : Fin 5632) :
    res (Reals.up gu) (Reals.up w) (Reals.up ct) b s q = HiddenGradIdeal.Value.res (Reals.up gu) (Reals.up w) (Reals.up ct) b s q := by
  have hd : ∀ j : Fin 2816, HiddenGradIdeal.Value.da (Reals.up w) (Reals.up ct) b s j
      = ((∑ k : Fin 1024, ct (ix3 b s k) * w (ix3 0 j k) : ℝ) : EReal) := fun j => by
    rw [HiddenGradIdeal.Value.da, ← Reals.sum_coe]
    exact Finset.sum_congr rfl fun k _ => (EReal.coe_mul _ _).symm
  unfold res HiddenGradIdeal.Value.res HiddenGradIdeal.Value.dgv HiddenGradIdeal.Value.duv
  split <;>
    (simp only [hd, Reals.up, gate_eq, Ideal.logistic_coe, ← EReal.coe_mul, ← EReal.coe_add, ← EReal.coe_one, ← EReal.coe_sub]; congr 1; ring)

end Cert.HiddenGradRefIdeal.Read
end
end
-- ==== Proof.HiddenGradClaim.lean ====
module

public import proofs.«01_k».proof.Defs
public import proofs.«01_k».proof.Proof.HiddenVal
public import proofs.«01_k».proof.Proof.Gen.HiddenGradRefIdeal.Run
public import proofs.«01_k».proof.Proof.Gen.HiddenGrad.Frame

@[expose] public section

noncomputable section

namespace Cert.Proof

open Idealize.ShloMosaic Idealize.ShloMosaic.TcCoe Idealize.SL.Sem

instance facts_hidden_grad : Pre_hidden_grad_finite.Facts := by constructor <;> decide

/-- Arguments that pass the precondition are arrays of real numbers. -/
theorem finite_HiddenGrad (x : FVec Ideal Pre_hidden_grad_finite.S2x2048x5632 .f32) (y : FVec Ideal Pre_hidden_grad_finite.S1x2816x1024 .f32)
    (z : FVec Ideal Pre_hidden_grad_finite.S2x2048x1024 .f32)
    (h : Pre_hidden_grad_finite.fn (F := Ideal) x y z = fun _ => 1#1) :
    (∃ r, x = Reals.up r) ∧ (∃ r, y = Reals.up r) ∧ (∃ r, z = Reals.up r) := by
  have h1 := congrFun h (fun a => a.elim0)
  unfold Pre_hidden_grad_finite.fn at h1
  obtain ⟨h12, h3⟩ := Reals.and_one h1
  obtain ⟨h1, h2⟩ := Reals.and_one h12
  exact ⟨Reals.real_of_all _ _ _ _ _ _ h1, Reals.real_of_all _ _ _ _ _ _ h2, Reals.real_of_all _ _ _ _ _ _ h3⟩

open Cert.HiddenGradIdeal.Value Cert.HiddenGradRefIdeal.Read in
theorem algebraic_HiddenGrad : Cert.algebraic_HiddenGradIdeal_HiddenGradRefIdeal_pre_hidden_grad_finite := by
  intro m g m' g' hpre hagree
  refine ⟨fun c => (Cert.HiddenGradIdeal.Gen.dats m 0 c).arrAt 4 Cert.HiddenGradIdeal.cfg0.N,
    run_blocks m g, θ_run_mono (Cert.HiddenGradRefIdeal.Value.run m' g') fun r hr c => ?_⟩
  obtain ⟨h4, h⟩ := hr c
  obtain ⟨e0, e1, e2⟩ := hagree c
  rw [e0, e1, e2] at h4
  refine ⟨h4.trans ((val_main_v12_eq ..).trans ((ref12 ..).trans ((?_ : _ = _).trans (final4 m c).symm))), h⟩
  obtain ⟨⟨x, hx⟩, ⟨y, hy⟩, ⟨z, hz⟩⟩ := finite_HiddenGrad _ _ _ (hpre c)
  funext i
  change Cert.HiddenGradRefIdeal.Read.res (A0 m c) (A1 m c) (A2 m c) _ _ _ = Cert.HiddenGradIdeal.Value.res (A0 m c) (A1 m c) (A2 m c) _ _ _
  rw [A0, A1, A2, hx, hy, hz]
  exact res_eq ..

end Cert.Proof
end
-- ==== Proof.OutLoss.lean ====
module

public import proofs.«01_k».proof.Proof.Gen.OutLossIdeal.Value
public import proofs.«01_k».proof.Proof.Gen.OutLossRefIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutLossIdeal.Value

open Cert.OutLossIdeal Cert.OutLossIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val / 4, 0, 0] ∧ win0_4.index t = ![0, 0] ∧ win0_5.index t = ![t.val, 0]
    ∧ win0_6.index t = ![t.val, 0] ∧ win0_7.index t = ![t.val / 4, 0, 0] ∧ win0_8.index t = ![0, 0] :=
  (by decide +kernel : ∀ t : Fin grid0.N, _)

theorem v4_at (c : Dev nD) (R : Fin 4096) (k : Fin 2816) : (V m c main_v4 : FVec Ideal S4096x2816 .bf16) (ix2 R k)
    = (m ((c : Thread nD τ).loc main_arg0) : FVec Ideal S2x2048x2816 .f32) (ix3 ⟨R.val / 2048, by omega⟩ ⟨R.val % 2048, by omega⟩ k) := by
  entry_read
  pointwise
  blk_ext

theorem blk0 (c : Dev nD) (t : Fin cfg0.N) (r : Fin 512) (k : Fin 2816) :
    (iblk m c 0 t : Vec Ideal S512x2816 .bf16) (ix2 r k) = (V m c main_v4 : FVec Ideal S4096x2816 .bf16)
      (ix2 (⟨t.val * 512 + r, by have := lt_of_lt_of_eq t.isLt N_0; omega⟩ : Fin 4096) k) := by
  blk_ext [iblk, idx t]

theorem v2_at (c : Dev nD) (b : Fin 2) (k : Fin 1024) : (V m c main_v2 : FVec Ideal S2x1x1024 .f32) (ix3 b 0 k)
    = Ideal.ofBits .f32 0x3F000000#32 * (m ((c : Thread nD τ).loc main_arg3) : FVec Ideal S2x1024 .f32) (ix2 b k) := by
  entry_read
  pointwise
  blk_ext

theorem v6_at (c : Dev nD) (k : Fin 2816) (l : Fin 1024) : (V m c main_v6 : FVec Ideal S2816x1024 .bf16) (ix2 k l)
    = (m ((c : Thread nD τ).loc main_arg1) : FVec Ideal S1x2816x1024 .f32) (ix3 0 k l) := by
  entry_read
  pointwise
  blk_ext

theorem v7_at (c : Dev nD) (R : Fin 4096) (l : Fin 1024) : (V m c main_v7 : FVec Ideal S4096x1024 .f32) (ix2 R l)
    = (m ((c : Thread nD τ).loc main_arg2) : FVec Ideal S2x2048x1024 .f32) (ix3 ⟨R.val / 2048, by omega⟩ ⟨R.val % 2048, by omega⟩ l) := by
  entry_read
  pointwise
  blk_ext

theorem v8_at (c : Dev nD) (R : Fin 4096) (l : Fin 1024) : (V m c main_v8 : FVec Ideal S4096x1024 .f32) (ix2 R l)
    = (m ((c : Thread nD τ).loc main_arg4) : FVec Ideal S2x2048x1024 .f32) (ix3 ⟨R.val / 2048, by omega⟩ ⟨R.val % 2048, by omega⟩ l) := by
  entry_read
  pointwise
  blk_ext

theorem blk1 (c : Dev nD) (t : Fin cfg0.N) (r : Fin 512) (l : Fin 1024) :
    (iblk m c 1 t : Vec Ideal S512x1024 .f32) (ix2 r l) = (V m c main_v7 : FVec Ideal S4096x1024 .f32)
      (ix2 (⟨t.val * 512 + r, by have := lt_of_lt_of_eq t.isLt N_0; omega⟩ : Fin 4096) l) := by
  blk_ext [iblk, idx t]

theorem blk2 (c : Dev nD) (t : Fin cfg0.N) (r : Fin 512) (l : Fin 1024) :
    (iblk m c 2 t : Vec Ideal S512x1024 .f32) (ix2 r l) = (V m c main_v8 : FVec Ideal S4096x1024 .f32)
      (ix2 (⟨t.val * 512 + r, by have := lt_of_lt_of_eq t.isLt N_0; omega⟩ : Fin 4096) l) := by
  blk_ext [iblk, idx t]

theorem blk3 (c : Dev nD) (t : Fin cfg0.N) (l : Fin 1024) :
    (iblk m c 3 t : Vec Ideal S1x1x1024 .f32) (ix3 0 0 l) = (V m c main_v2 : FVec Ideal S2x1x1024 .f32)
      (ix3 (⟨t.val / 4, by have := lt_of_lt_of_eq t.isLt N_0; omega⟩ : Fin 2) 0 l) := by
  blk_ext [iblk, idx t]

theorem blk4 (c : Dev nD) (t : Fin cfg0.N) (k : Fin 2816) (l : Fin 1024) :
    (iblk m c 4 t : Vec Ideal S2816x1024 .bf16) (ix2 k l) = (V m c main_v6 : FVec Ideal S2816x1024 .bf16) (ix2 k l) := by
  blk_ext [iblk, idx t]

section Payloads

variable (v0 : Vec Ideal S1x1x1024 .f32) (v2 : Vec Ideal S512x2816 .bf16) (v4 v6 : Vec Ideal S512x1024 .f32) (v8 : Vec Ideal S2816x1024 .bf16)

theorem pay4_at (r : Fin 512) (l : Fin 1024) : k0_pay4 v2 v8 (ix2 r l) = ∑ k : Fin 2816, v2 (ix2 r k) * v8 (ix2 k l) := by
  pointwise [k0_pay4]

theorem pay5_at (r : Fin 512) (l : Fin 1024) :
   k0_pay5 v0 v2 v4 v6 v8 (ix2 r l) = v4 (ix2 r l) + v0 (ix3 0 0 l) * k0_pay4 v2 v8 (ix2 r l) - v6 (ix2 r l) := by
  pointwise [k0_pay5, k0_pay4, k0_pay3]

theorem pay6_at (r : Fin 512) (l : Fin 1024) :
   k0_pay6 v0 v2 v4 v6 v8 (ix2 r l) = k0_pay5 v0 v2 v4 v6 v8 (ix2 r l) * Ideal.ofBits .f32 0x3A800000#32 := by
  pointwise [k0_pay6, k0_pay5, k0_pay4, k0_pay3]

theorem pay9_at (r : Fin 512) (l : Fin 1024) :
   k0_pay9 v0 v2 v4 v6 v8 (ix2 r l) = v0 (ix3 0 0 l) * k0_pay6 v0 v2 v4 v6 v8 (ix2 r l) := by
  pointwise [k0_pay9, k0_pay6, k0_pay5, k0_pay4, k0_pay3]

theorem pay7_at (l : Fin 1024) :
   k0_pay7 v0 v2 v4 v6 v8 (ix2 0 l) = ∑ r : Fin 512, k0_pay6 v0 v2 v4 v6 v8 (ix2 r l) * k0_pay4 v2 v8 (ix2 r l) := by
  pointwise [k0_pay7, k0_pay6, k0_pay5, k0_pay4, k0_pay3]

theorem pay8_at (l : Fin 1024) :
   k0_pay8 v0 v2 v4 v6 v8 (ix2 0 l) = ∑ r : Fin 512, k0_pay5 v0 v2 v4 v6 v8 (ix2 r l) * k0_pay5 v0 v2 v4 v6 v8 (ix2 r l) := by
  pointwise [k0_pay8, k0_pay5, k0_pay4, k0_pay3]

theorem pay10_at (l : Fin 1024) : k0_pay10 v0 v2 v4 v6 v8 (ix3 0 0 l) = k0_pay7 v0 v2 v4 v6 v8 (ix2 0 l) := by
  pointwise [k0_pay10, k0_pay7, k0_pay6, k0_pay5, k0_pay4, k0_pay3]

theorem pay1_at (u : FVec Ideal S1x1024 .f32) (w : Vec Ideal S1x1x1024 .f32) (l : Fin 1024) :
    k0_pay1 u w (ix3 0 0 l) = w (ix3 0 0 l) + u (ix2 0 l) := by
  pointwise [k0_pay1]

theorem pay2_at (u : FVec Ideal S1x1024 .f32) (w : Vec Ideal S1x1024 .f32) (l : Fin 1024) :
    k0_pay2 u w (ix2 0 l) = w (ix2 0 l) + u (ix2 0 l) := by
  pointwise [k0_pay2]

end Payloads

/-- The three kinds of grid point: the first of all, a later tile of a sequence, the first tile of a later sequence. -/
theorem kinds : ∀ t : Fin cfg0.N, (t.val % 4 = 0 ∧ ¬1 ≤ t.val % 4 ∧ t.val % 8 = 0 ∧ ¬1 ≤ t.val)
    ∨ (¬t.val % 4 = 0 ∧ 1 ≤ t.val % 4 ∧ ¬t.val % 8 = 0 ∧ 1 ≤ t.val)
    ∨ (t.val % 4 = 0 ∧ ¬1 ≤ t.val % 4 ∧ ¬t.val % 8 = 0 ∧ 1 ≤ t.val) :=
  (by decide +kernel : ∀ t : Fin grid0.N, _)

abbrev P6 (c : Dev nD) (t : Fin cfg0.N) : FVec Ideal S512x1024 .f32 := k0_pay6 (iblk m c 3 t) (iblk m c 0 t) (iblk m c 1 t) (iblk m c 2 t) (iblk m c 4 t)
abbrev P9 (c : Dev nD) (t : Fin cfg0.N) : FVec Ideal S512x1024 .bf16 := k0_pay9 (iblk m c 3 t) (iblk m c 0 t) (iblk m c 1 t) (iblk m c 2 t) (iblk m c 4 t)
abbrev P7 (c : Dev nD) (t : Fin cfg0.N) : FVec Ideal S1x1024 .f32 := k0_pay7 (iblk m c 3 t) (iblk m c 0 t) (iblk m c 1 t) (iblk m c 2 t) (iblk m c 4 t)
abbrev P8 (c : Dev nD) (t : Fin cfg0.N) : FVec Ideal S1x1024 .f32 := k0_pay8 (iblk m c 3 t) (iblk m c 0 t) (iblk m c 1 t) (iblk m c 2 t) (iblk m c 4 t)

theorem left5 (c : Dev nD) (t : Fin cfg0.N) : (outsAt0 m c t.val t.isLt).1 = P6 m c t := by
  rcases kinds t with ⟨h0, h1, h2, h3⟩ | ⟨h0, h1, h2, h3⟩ | ⟨h0, h1, h2, h3⟩
  · rw [outsAt0_A m c t h0 h1 h2 h3]; frame_out; try rfl
  · rw [outsAt0_B m c t h0 h1 h2 h3]; frame_out; try rfl
  · rw [outsAt0_C m c t h0 h1 h2 h3]; frame_out; try rfl

theorem left6 (c : Dev nD) (t : Fin cfg0.N) : (outsAt0 m c t.val t.isLt).2.1 = P9 m c t := by
  rcases kinds t with ⟨h0, h1, h2, h3⟩ | ⟨h0, h1, h2, h3⟩ | ⟨h0, h1, h2, h3⟩
  · rw [outsAt0_A m c t h0 h1 h2 h3]; frame_out; try rfl
  · rw [outsAt0_B m c t h0 h1 h2 h3]; frame_out; try rfl
  · rw [outsAt0_C m c t h0 h1 h2 h3]; frame_out; try rfl

theorem reset7 (c : Dev nD) (t : Fin cfg0.N) (h : t.val % 4 = 0) (l : Fin 1024) :
    (outsAt0 m c t.val t.isLt).2.2.1 (ix3 0 0 l) = P7 m c t (ix2 0 l) := by
  rcases kinds t with ⟨h0, h1, h2, h3⟩ | ⟨h0, h1, h2, h3⟩ | ⟨h0, h1, h2, h3⟩
  · rw [outsAt0_A m c t h0 h1 h2 h3]; frame_out; exact pay10_at ..
  · exact absurd h h0
  · rw [outsAt0_C m c t h0 h1 h2 h3]; frame_out; exact pay10_at ..

theorem step7 (c : Dev nD) (t : Fin cfg0.N) (h : ¬t.val % 4 = 0) (l : Fin 1024) :
    (outsAt0 m c t.val t.isLt).2.2.1 (ix3 0 0 l)
      = (outsAt0 m c (t.val - 1) (Nat.lt_of_le_of_lt (Nat.sub_le _ _) t.isLt)).2.2.1 (ix3 0 0 l) + P7 m c t (ix2 0 l) := by
  rcases kinds t with ⟨h0, h1, h2, h3⟩ | ⟨h0, h1, h2, h3⟩ | ⟨h0, h1, h2, h3⟩
  · exact absurd h0 h
  · rw [outsAt0_B m c t h0 h1 h2 h3]; frame_out; exact pay1_at ..
  · exact absurd h0 h

theorem reset8 (c : Dev nD) (t : Fin cfg0.N) (h : t.val % 8 = 0) (l : Fin 1024) :
    (outsAt0 m c t.val t.isLt).2.2.2 (ix2 0 l) = P8 m c t (ix2 0 l) := by
  rcases kinds t with ⟨h0, h1, h2, h3⟩ | ⟨h0, h1, h2, h3⟩ | ⟨h0, h1, h2, h3⟩
  · rw [outsAt0_A m c t h0 h1 h2 h3]; frame_out; try rfl
  · exact absurd h h2
  · exact absurd h h2

theorem step8 (c : Dev nD) (t : Fin cfg0.N) (h : ¬t.val % 8 = 0) (l : Fin 1024) :
    (outsAt0 m c t.val t.isLt).2.2.2 (ix2 0 l)
      = (outsAt0 m c (t.val - 1) (Nat.lt_of_le_of_lt (Nat.sub_le _ _) t.isLt)).2.2.2 (ix2 0 l) + P8 m c t (ix2 0 l) := by
  rcases kinds t with ⟨h0, h1, h2, h3⟩ | ⟨h0, h1, h2, h3⟩ | ⟨h0, h1, h2, h3⟩
  · exact absurd h2 h
  · rw [outsAt0_B m c t h0 h1 h2 h3]; frame_out; exact pay2_at ..
  · rw [outsAt0_C m c t h0 h1 h2 h3]; frame_out; exact pay2_at ..

section Forms

variable (a : FVec Ideal S2x2048x2816 .f32) (w : FVec Ideal S1x2816x1024 .f32) (x : FVec Ideal S2x2048x1024 .f32)
  (g : FVec Ideal S2x1024 .f32) (y : FVec Ideal S2x2048x1024 .f32)

/-- The product of the hidden rows with the output weight. -/
def prod (b : Fin 2) (s : Fin 2048) (l : Fin 1024) : EReal := ∑ k : Fin 2816, a (ix3 b s k) * w (ix3 0 k l)

/-- Half the modulation gate. -/
def gate (b : Fin 2) (l : Fin 1024) : EReal := Ideal.ofBits .f32 0x3F000000#32 * g (ix2 b l)

/-- Output minus target. -/
def diff (b : Fin 2) (s : Fin 2048) (l : Fin 1024) : EReal := x (ix3 b s l) + gate g b l * prod a w b s l - y (ix3 b s l)

/-- The loss's derivative by the output. -/
def dy (b : Fin 2) (s : Fin 2048) (l : Fin 1024) : EReal := diff a w x g y b s l * Ideal.ofBits .f32 0x3A800000#32

/-- The loss's derivative by the product. -/
def df (b : Fin 2) (s : Fin 2048) (l : Fin 1024) : EReal := gate g b l * dy a w x g y b s l

/-- The loss's derivative by half the gate. -/
def dg (b : Fin 2) (l : Fin 1024) : EReal := ∑ s : Fin 2048, dy a w x g y b s l * prod a w b s l

/-- The squared differences summed over sequences and rows. -/
def sq (l : Fin 1024) : EReal := ∑ b : Fin 2, ∑ s : Fin 2048, diff a w x g y b s l * diff a w x g y b s l

end Forms

section Points

variable (c : Dev nD)

abbrev A0 : FVec Ideal S2x2048x2816 .f32 := m ((c : Thread nD τ).loc main_arg0)
abbrev A1 : FVec Ideal S1x2816x1024 .f32 := m ((c : Thread nD τ).loc main_arg1)
abbrev A2 : FVec Ideal S2x2048x1024 .f32 := m ((c : Thread nD τ).loc main_arg2)
abbrev A3 : FVec Ideal S2x1024 .f32 := m ((c : Thread nD τ).loc main_arg3)
abbrev A4 : FVec Ideal S2x2048x1024 .f32 := m ((c : Thread nD τ).loc main_arg4)

theorem tlt (t : Fin cfg0.N) : t.val < 8 := lt_of_lt_of_eq t.isLt N_0

/-- The sequence and the row of row `r` of tile `t`. -/
abbrev sb (t : Fin cfg0.N) : Fin 2 := ⟨t.val / 4, by have := tlt t; omega⟩
abbrev sr (t : Fin cfg0.N) (r : Fin 512) : Fin 2048 := ⟨t.val % 4 * 512 + r.val, by omega⟩

theorem gate_at (t : Fin cfg0.N) (l : Fin 1024) : (iblk m c 3 t : Vec Ideal S1x1x1024 .f32) (ix3 0 0 l) = gate (A3 m c) (sb t) l := by
  rw [blk3, v2_at]; rfl

theorem split (t : Fin cfg0.N) (r : Fin 512) (h : (t.val * 512 + r.val) / 2048 < 2) (h' : (t.val * 512 + r.val) % 2048 < 2048) :
    (⟨(t.val * 512 + r.val) / 2048, h⟩ : Fin 2) = sb t ∧ (⟨(t.val * 512 + r.val) % 2048, h'⟩ : Fin 2048) = sr t r := by
  constructor <;> (ext; simp only; omega)

theorem prod_at (t : Fin cfg0.N) (r : Fin 512) (l : Fin 1024) :
    k0_pay4 (F := Ideal) (iblk m c 0 t) (iblk m c 4 t) (ix2 r l) = prod (A0 m c) (A1 m c) (sb t) (sr t r) l := by
  have ht := tlt t
  rw [pay4_at]
  refine Finset.sum_congr rfl fun k _ => ?_
  rw [blk0, v4_at, blk4, v6_at]
  simp only [split t r (by omega) (by omega)]

theorem diff_at (t : Fin cfg0.N) (r : Fin 512) (l : Fin 1024) :
    k0_pay5 (F := Ideal) (iblk m c 3 t) (iblk m c 0 t) (iblk m c 1 t) (iblk m c 2 t) (iblk m c 4 t) (ix2 r l)
      = diff (A0 m c) (A1 m c) (A2 m c) (A3 m c) (A4 m c) (sb t) (sr t r) l := by
  have ht := tlt t
  rw [pay5_at, prod_at, gate_at, blk1, v7_at, blk2, v8_at]
  simp only [split t r (by omega) (by omega)]
  rfl

theorem dy_at (t : Fin cfg0.N) (r : Fin 512) (l : Fin 1024) :
    P6 m c t (ix2 r l) = dy (A0 m c) (A1 m c) (A2 m c) (A3 m c) (A4 m c) (sb t) (sr t r) l := by
  rw [P6, pay6_at, diff_at]; rfl

theorem df_at (t : Fin cfg0.N) (r : Fin 512) (l : Fin 1024) :
    P9 m c t (ix2 r l) = df (A0 m c) (A1 m c) (A2 m c) (A3 m c) (A4 m c) (sb t) (sr t r) l := by
  rw [P9, pay9_at, gate_at, ← P6, dy_at]; rfl

theorem dg_at (t : Fin cfg0.N) (l : Fin 1024) :
    P7 m c t (ix2 0 l) = ∑ r : Fin 512, dy (A0 m c) (A1 m c) (A2 m c) (A3 m c) (A4 m c) (sb t) (sr t r) l
      * prod (A0 m c) (A1 m c) (sb t) (sr t r) l := by
  rw [P7, pay7_at]
  exact Finset.sum_congr rfl fun r _ => congrArg₂ (· * ·) (dy_at m c t r l) (prod_at m c t r l)

theorem sq_at (t : Fin cfg0.N) (l : Fin 1024) :
    P8 m c t (ix2 0 l) = ∑ r : Fin 512, diff (A0 m c) (A1 m c) (A2 m c) (A3 m c) (A4 m c) (sb t) (sr t r) l
      * diff (A0 m c) (A1 m c) (A2 m c) (A3 m c) (A4 m c) (sb t) (sr t r) l := by
  rw [P8, pay8_at]
  exact Finset.sum_congr rfl fun r _ => congrArg₂ (· * ·) (diff_at m c t r l) (diff_at m c t r l)

theorem final5 : (dats m 0 c).arrAt 5 cfg0.N = fun i : S4096x1024.Idx => dy (A0 m c) (A1 m c) (A2 m c) (A3 m c) (A4 m c)
    ⟨(i 0).val / 2048, by have := (i 0).isLt; change _ < 4096 at this; omega⟩ ⟨(i 0).val % 2048, by omega⟩ (i 1) := by
  refine (dats m 0 c).arrAt_eq_of_covers 5 _ (by decide +kernel) fun t hf y => ?_
  blk_simp
  rw [after0_5, left5]
  obtain ⟨r, l, rfl⟩ : ∃ (r : Fin 512) (l : Fin 1024), y = ix2 r l := ⟨_, _, eq_ix2 y⟩
  rw [dy_at]
  have ht := tlt t
  congr 1 <;> (apply Fin.ext; blk_simp [idx t]; try (dsimp only; omega))

theorem final6 : (dats m 0 c).arrAt 6 cfg0.N = fun i : S4096x1024.Idx => df (A0 m c) (A1 m c) (A2 m c) (A3 m c) (A4 m c)
    ⟨(i 0).val / 2048, by have := (i 0).isLt; change _ < 4096 at this; omega⟩ ⟨(i 0).val % 2048, by omega⟩ (i 1) := by
  refine (dats m 0 c).arrAt_eq_of_covers 6 _ (by decide +kernel) fun t hf y => ?_
  blk_simp
  rw [after0_6, left6]
  obtain ⟨r, l, rfl⟩ : ∃ (r : Fin 512) (l : Fin 1024), y = ix2 r l := ⟨_, _, eq_ix2 y⟩
  rw [df_at]
  have ht := tlt t
  congr 1 <;> (apply Fin.ext; blk_simp [idx t]; try (dsimp only; omega))

theorem final7 : (dats m 0 c).arrAt 7 cfg0.N = fun i : S2x1x1024.Idx => dg (A0 m c) (A1 m c) (A2 m c) (A3 m c) (A4 m c) (i 0) (i 2) := by
  refine (dats m 0 c).arrAt_eq_of_covers 7 _ (by decide +kernel) fun t hf y => ?_
  blk_simp
  rw [after0_7]
  obtain ⟨l, rfl⟩ : ∃ l : Fin 1024, y = ix3 0 0 l := ⟨y 2, by
    rw [eq_ix3 y]; congr 1 <;> exact Subsingleton.elim (α := Fin 1) _ _⟩
  have h := Pipeline.eq_sum_fin_of_reset_step_apply_of_flush (fun n h (l : Fin 1024) => ((outsAt0 m c n h).2.2.1 (ix3 0 0 l) : EReal)) 4
    (fun _ => 0) (fun t l => P7 m c t (ix2 0 l)) (fun t h l => by rw [zero_add]; exact reset7 m c t h l) (fun t h l => step7 m c t h l)
    t ((flush0_7 t).mp hf) l
  refine h.trans ?_
  have ht := tlt t
  have e0 : (win0_7.blk t).view.emb (ix3 0 0 l) 0 = sb t := by apply Fin.ext; blk_simp [idx t]; rfl
  have e2 : (win0_7.blk t).view.emb (ix3 0 0 l) 2 = l := by apply Fin.ext; blk_simp [idx t]
  rw [zero_add, e0, e2, dg]
  refine Eq.trans (Fin.sum_fin_congr fun s => dg_at m c _ l) ?_
  refine Eq.trans ?_ (Fin.sum_mul_add_fin 4 512 fun s => dy (A0 m c) (A1 m c) (A2 m c) (A3 m c) (A4 m c) (sb t) s l
    * prod (A0 m c) (A1 m c) (sb t) s l)
  refine Fin.sum_fin_congr fun s => Fin.sum_fin_congr fun r => ?_
  have e1 : sb ⟨4 * (t.val / 4) + s.val, Pipeline.run_point_lt_of_flush t ((flush0_7 t).mp hf) s⟩ = sb t := by ext; simp only; omega
  have e3 : sr ⟨4 * (t.val / 4) + s.val, Pipeline.run_point_lt_of_flush t ((flush0_7 t).mp hf) s⟩ r = ⟨s.val * 512 + r.val, by omega⟩ := by
    ext; simp only; omega
  rw [e1, e3]

theorem final8 : (dats m 0 c).arrAt 8 cfg0.N = fun i : S1x1024.Idx => sq (A0 m c) (A1 m c) (A2 m c) (A3 m c) (A4 m c) (i 1) := by
  refine (dats m 0 c).arrAt_eq_of_after_last 8 t0_7 (by decide +kernel) _ fun j => ?_
  blk_simp
  rw [after0_8]
  obtain ⟨l, rfl⟩ : ∃ l : Fin 1024, j = ix2 0 l := ⟨j 1, by
    rw [eq_ix2 j]; congr 1; exact Subsingleton.elim (α := Fin 1) _ _⟩
  have h := Pipeline.eq_sum_fin_of_reset_step_apply_last (fun n h (l : Fin 1024) => ((outsAt0 m c n h).2.2.2 (ix2 0 l) : EReal)) 8
    (fun _ => 0) (fun t l => P8 m c t (ix2 0 l)) (fun t h l => by rw [zero_add]; exact reset8 m c t h l) (fun t h l => step8 m c t h l)
    (le_of_eq N_0) t0_7 rfl l
  refine h.trans ?_
  have e1 : (ix2 (0 : Fin 1) l : S1x1024.Idx) 1 = l := rfl
  rw [zero_add, e1, sq]
  refine Eq.trans (Fin.sum_fin_congr fun t => sq_at m c t l) ?_
  refine Fin.sum_points_lanes_congr 4 (fun t r ha hs => ?_)
  rfl

end Points

end Cert.OutLossIdeal.Value
end
-- ==== Proof.OutLossRef.lean ====
module

public import proofs.«01_k».proof.Proof.OutLoss
public import proofs.«01_k».proof.Proof.Gen.OutLossRefIdeal.Read
public import Idealize.ShloMosaic.Lib.Pointwise

@[expose] public section

set_option maxRecDepth 16384

noncomputable section

open Idealize.ShloMosaic Idealize.ShloMosaic.TcCoe Idealize.SL.Sem

namespace Cert.OutLossRefIdeal.Read

open Cert.OutLossRefIdeal Cert.Reals
open Cert.OutLossIdeal.Value (prod gate diff dy df dg sq)

variable (a : FVec Ideal S2x2048x2816 .f32) (w : FVec Ideal S1x2816x1024 .f32) (x : FVec Ideal S2x2048x1024 .f32)
  (g : FVec Ideal S2x1024 .f32) (y : FVec Ideal S2x2048x1024 .f32)

theorem ref_prod (b : Fin 2) (s : Fin 2048) (l : Fin 1024) : val_main_v1 (F := Ideal) a w (ix3 b s l) = prod a w b s l := by
  pointwise [val_main_v1, val_main_v0]
  blk_ext [prod]

theorem ref_gate (b : Fin 2) (s : Fin 2048) (l : Fin 1024) : val_main_v5 (F := Ideal) g (ix3 b s l) = gate g b l := by
  pointwise [val_main_v5, val_main_v4, val_main_v3, val_main_v2, val_main_cst]
  blk_ext [gate]

theorem ref_diff (b : Fin 2) (s : Fin 2048) (l : Fin 1024) : val_main_v8 (F := Ideal) a w x g y (ix3 b s l) = diff a w x g y b s l := by
  rw [val_main_v8_apply, val_main_v7_apply, val_main_v6_apply, ref_prod, ref_gate]; rfl

theorem ref_scale (b : Fin 2) (s : Fin 2048) (l : Fin 1024) : val_main_v21 (F := Ideal) (ix3 b s l) = ((1 / 2048 : ℝ) : EReal) := by
  rw [val_main_v21_apply, val_main_v20_apply, val_main_v18_apply, val_main_v17_apply, val_main_v19_apply, val_main_cst_5_apply,
    val_main_cst_6_apply, val_main_cst_7_apply]
  change Ideal.div (Ideal.ofBits .f32 0x3F000000#32 * Ideal.ofBits .f32 0x3F800000#32) (Ideal.ofBits .f32 0x44800000#32) = _
  rw [lit_half, lit_one, lit_1024, ← EReal.coe_mul, div_coe _ (by norm_num)]
  norm_num

theorem ref_dy (b : Fin 2) (s : Fin 2048) (l : Fin 1024) : val_main_v22 (F := Ideal) a w x g y (ix3 b s l) = dy a w x g y b s l := by
  rw [val_main_v22_apply, val_main_v11_apply, ref_diff, ref_scale, val_main_v10_apply, val_main_cst_0_apply]
  change ((1 / 2048 : ℝ) : EReal) * (Ideal.ofBits .f32 0x40000000#32 * diff a w x g y b s l) = _
  rw [dy, lit_two, lit_inv1024, ← mul_assoc, ← EReal.coe_mul, mul_comm]
  norm_num

theorem ref_df (b : Fin 2) (s : Fin 2048) (l : Fin 1024) : val_main_v24 (F := Ideal) a w x g y (ix3 b s l) = df a w x g y b s l := by
  rw [val_main_v24_apply, ref_dy]
  exact congrArg (· * _) (ref_gate g b s l)

theorem ref_dg (b : Fin 2) (l : Fin 1024) : val_main_v26 (F := Ideal) a w x g y (ix2 b l) = dg a w x g y b l := by
  rw [val_main_v26_apply, val_main_cst_8_apply, dg]
  change Ideal.ofBits .f32 0x00000000#32 + _ = _
  rw [lit_zero, EReal.coe_zero, zero_add]
  refine Finset.sum_congr rfl fun s _ => ?_
  have e : idx_main_v26 (ix2 b l) s = ix3 b s l := by funext k; match k with | ⟨0, _⟩ => rfl | ⟨1, _⟩ => rfl | ⟨2, _⟩ => rfl
  rw [e, val_main_v25_apply, ref_dy, ref_prod]; rfl

theorem ref_sq (l : Fin 1024) : val_main_v32 (F := Ideal) a w x g y (ix1 l) = sq a w x g y l := by
  rw [val_main_v32]
  change Ideal.hostReduceAdd _ _ _ _ = _
  rw [hostSum_first_two, val_main_cst_9_apply, OutLossIdeal.Value.sq]
  change Ideal.ofBits .f32 0x00000000#32 + _ = _
  rw [lit_zero, EReal.coe_zero, zero_add]
  refine Finset.sum_congr rfl fun b _ => Finset.sum_congr rfl fun s _ => ?_
  rw [val_main_v31_apply, ref_diff]; rfl

theorem ref28 : val_main_v28 (F := Ideal) a w x g y = fun i : S4096x1024.Idx => dy a w x g y
    ⟨(i 0).val / 2048, by have := (i 0).isLt; change _ < 4096 at this; omega⟩ ⟨(i 0).val % 2048, by omega⟩ (i 1) := by
  funext i
  obtain ⟨R, l, rfl⟩ : ∃ (R : Fin 4096) (l : Fin 1024), i = ix2 R l := ⟨_, _, eq_ix2 i⟩
  refine Eq.trans ?_ (ref_dy a w x g y ⟨R.val / 2048, by omega⟩ ⟨R.val % 2048, by omega⟩ l)
  pointwise [val_main_v28]

theorem ref30 : val_main_v30 (F := Ideal) a w x g y = fun i : S4096x1024.Idx => df a w x g y
    ⟨(i 0).val / 2048, by have := (i 0).isLt; change _ < 4096 at this; omega⟩ ⟨(i 0).val % 2048, by omega⟩ (i 1) := by
  funext i
  obtain ⟨R, l, rfl⟩ : ∃ (R : Fin 4096) (l : Fin 1024), i = ix2 R l := ⟨_, _, eq_ix2 i⟩
  refine Eq.trans ?_ (ref_df a w x g y ⟨R.val / 2048, by omega⟩ ⟨R.val % 2048, by omega⟩ l)
  pointwise [val_main_v30, val_main_v29]

theorem ref27 : val_main_v27 (F := Ideal) a w x g y = fun i : S2x1x1024.Idx => dg a w x g y (i 0) (i 2) := by
  funext i
  obtain ⟨b, l, rfl⟩ : ∃ (b : Fin 2) (l : Fin 1024), i = ix3 b 0 l := ⟨i 0, i 2, by
    rw [eq_ix3 i]; congr 1; exact Subsingleton.elim (α := Fin 1) _ _⟩
  refine Eq.trans ?_ (ref_dg a w x g y b l)
  pointwise [val_main_v27]

theorem ref33 : val_main_v33 (F := Ideal) a w x g y = fun i : S1x1024.Idx => sq a w x g y (i 1) := by
  funext i
  obtain ⟨l, rfl⟩ : ∃ l : Fin 1024, i = ix2 0 l := ⟨i 1, by
    rw [eq_ix2 i]; congr 1; exact Subsingleton.elim (α := Fin 1) _ _⟩
  refine Eq.trans ?_ (ref_sq a w x g y l)
  pointwise [val_main_v33]

end Cert.OutLossRefIdeal.Read
end
-- ==== Proof.OutLossClaim.lean ====
module

public import proofs.«01_k».proof.Defs
public import proofs.«01_k».proof.Proof.OutLossRef
public import proofs.«01_k».proof.Proof.Gen.OutLossRefIdeal.Run
public import proofs.«01_k».proof.Proof.Gen.OutLoss.Frame

@[expose] public section

noncomputable section

namespace Cert.Proof

open Idealize.ShloMosaic Idealize.ShloMosaic.TcCoe Idealize.SL.Sem

open Cert.OutLossIdeal.Value Cert.OutLossRefIdeal.Read in
theorem algebraic_OutLoss : Cert.algebraic_OutLossIdeal_OutLossRefIdeal := by
  intro m g m' g' hpre hagree
  refine ⟨fun c => (Cert.OutLossIdeal.Gen.dats m 0 c).arrAt 5 Cert.OutLossIdeal.cfg0.N,
    fun c => (Cert.OutLossIdeal.Gen.dats m 0 c).arrAt 6 Cert.OutLossIdeal.cfg0.N,
    fun c => (Cert.OutLossIdeal.Gen.dats m 0 c).arrAt 7 Cert.OutLossIdeal.cfg0.N,
    fun c => (Cert.OutLossIdeal.Gen.dats m 0 c).arrAt 8 Cert.OutLossIdeal.cfg0.N,
    run_blocks m g, θ_run_mono (Cert.OutLossRefIdeal.Value.run m' g') fun r hr c => ?_⟩
  obtain ⟨h5, h6, h7, h8, h⟩ := hr c
  obtain ⟨e0, e1, e2, e3, e4⟩ := hagree c
  rw [e0, e1, e2, e3, e4] at h5 h6 h7 h8
  exact ⟨h5.trans ((val_main_v28_eq ..).trans ((ref28 ..).trans (final5 m c).symm)),
    h6.trans ((val_main_v30_eq ..).trans ((ref30 ..).trans (final6 m c).symm)),
    h7.trans ((val_main_v27_eq ..).trans ((ref27 ..).trans (final7 m c).symm)),
    h8.trans ((val_main_v33_eq ..).trans ((ref33 ..).trans (final8 m c).symm)), h⟩

end Cert.Proof
end
-- ==== Proof.Merge.lean ====
module

public import proofs.«01_k».proof.Proof.Gen.MergeBwdIdeal.Value
public import proofs.«01_k».proof.Proof.Reals
public import Idealize.ShloMosaic.Lib.Pipeline.ValueKit
public import Idealize.ShloMosaic.Lib.KernelVsHost

@[expose] public section

/-! The gradient of the gated merge of the two branches: the arrays that the kernel leaves, in the entries of the arguments. -/

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-! ## A tile's results in its blocks -/

section Tile

variable (x0 : Vec Ideal S512x1024 .bf16) (x1 : Vec Ideal S512x2048 .bf16) (x2 x3 : Vec Ideal S512x1024 .bf16)
  (x4 : Vec Ideal S1024x512 .bf16) (x5 x6 : Vec Ideal S1024x1024 .bf16)

theorem dm_at (r : Fin 512) (j : Fin 1024) : k0_pay8 x0 x6 (ix2 r j) = ∑ k : Fin 1024, x0 (ix2 r k) * x6 (ix2 j k) := by
  pointwise [k0_pay8]

theorem gate_pool_at (r : Fin 512) (j : Fin 1024) : k0_pay11 x1 (ix2 r j) = Ideal.logistic (x1 (ix2 r (⟨j, by omega⟩ : Fin 2048))) := by
  rw [← Reals.gate_eq]
  pointwise [k0_pay11, k0_pay9]

theorem gate_mla_at (r : Fin 512) (j : Fin 1024) : k0_pay12 x1 (ix2 r j) = Ideal.logistic (x1 (ix2 r (⟨1024 + j, by omega⟩ : Fin 2048))) := by
  rw [← Reals.gate_eq]
  pointwise [k0_pay12, k0_pay9]

theorem out7_at (r : Fin 512) (j : Fin 1024) : out0_7 x0 x1 x2 x3 x4 x5 x6 (ix2 r j) = k0_pay8 x0 x6 (ix2 r j) * k0_pay11 x1 (ix2 r j) := by
  have e : out0_7 x0 x1 x2 x3 x4 x5 x6 = k0_pay1 (k0_pay8 x0 x6) (k0_pay11 x1) := by unfold_out out0_7; frame_out
  rw [e]; rfl

theorem out8_at (r : Fin 512) (j : Fin 1024) : out0_8 x0 x1 x2 x3 x4 x5 x6 (ix2 r j) = k0_pay8 x0 x6 (ix2 r j) * k0_pay12 x1 (ix2 r j) := by
  have e : out0_8 x0 x1 x2 x3 x4 x5 x6 = k0_pay2 (k0_pay8 x0 x6) (k0_pay12 x1) := by unfold_out out0_8; frame_out
  rw [e]; rfl

theorem out9_left (r : Fin 512) (j : Fin 1024) : out0_9 x0 x1 x2 x3 x4 x5 x6 (ix2 r (⟨j, by omega⟩ : Fin 2048))
    = k0_pay8 x0 x6 (ix2 r j) * x2 (ix2 r j) * k0_pay11 x1 (ix2 r j) * (1 - k0_pay11 x1 (ix2 r j)) := by
  have e : out0_9 x0 x1 x2 x3 x4 x5 x6 = k0_pay4 (k0_pay8 x0 x6) (k0_pay10 x3) (k0_pay11 x1) (k0_pay12 x1) (k0_pay13 x0 x1 x2 x6)
    (Scalar.ofBits .f32 0x3F800000#32) := by unfold_out out0_9; frame_out
  rw [e]
  generalize k0_pay12 x1 = s
  have e2 : k0_pay13 x0 x1 x2 x6 (ix2 r j) = k0_pay8 x0 x6 (ix2 r j) * x2 (ix2 r j) * k0_pay11 x1 (ix2 r j) := by
    unfold k0_pay13; generalize k0_pay8 x0 x6 = d; generalize k0_pay11 x1 = p; pointwise
  rw [← e2]
  generalize k0_pay13 x0 x1 x2 x6 = v
  generalize k0_pay8 x0 x6 = d; generalize k0_pay11 x1 = p; generalize k0_pay10 x3 = q
  unfold k0_pay4
  refine Eq.trans (truncf_apply _ _ _ _) ?_
  refine (concatenate_pair_apply_left (t := S512x2048) (s₁ := S512x1024) (s₂ := S512x1024) 1 _ _ _ _ rfl
      (ix2 r j) (fun a => by fin_cases a <;> rfl)).trans ?_
  pointwise

theorem out9_right (r : Fin 512) (j : Fin 1024) : out0_9 x0 x1 x2 x3 x4 x5 x6 (ix2 r (⟨1024 + j, by omega⟩ : Fin 2048))
    = k0_pay8 x0 x6 (ix2 r j) * x3 (ix2 r j) * k0_pay12 x1 (ix2 r j) * (1 - k0_pay12 x1 (ix2 r j)) := by
  have e : out0_9 x0 x1 x2 x3 x4 x5 x6 = k0_pay4 (k0_pay8 x0 x6) (k0_pay10 x3) (k0_pay11 x1) (k0_pay12 x1) (k0_pay13 x0 x1 x2 x6)
    (Scalar.ofBits .f32 0x3F800000#32) := by unfold_out out0_9; frame_out
  rw [e]
  have e2 : k0_pay10 x3 (ix2 r j) = x3 (ix2 r j) := by pointwise [k0_pay10]
  rw [← e2]
  generalize k0_pay13 x0 x1 x2 x6 = v
  generalize k0_pay8 x0 x6 = d; generalize k0_pay11 x1 = p; generalize k0_pay10 x3 = q; generalize k0_pay12 x1 = s
  unfold k0_pay4
  refine Eq.trans (truncf_apply _ _ _ _) ?_
  refine (concatenate_pair_apply_right (t := S512x2048) (s₁ := S512x1024) (s₂ := S512x1024) 1 _ _ _ _ rfl rfl
      (ix2 r j) (fun a ha => by fin_cases a <;> first | rfl | exact absurd rfl ha) (by show j.val + 1024 = 1024 + j.val; omega)).trans ?_
  pointwise

theorem out10_at (r : Fin 512) (l : Fin 512) : out0_10 x0 x1 x2 x3 x4 x5 x6 (ix2 r l)
    = ∑ k : Fin 1024, (k0_pay8 x0 x6 (ix2 r k) * k0_pay11 x1 (ix2 r k)) * x4 (ix2 k l) := by
  have e : out0_10 x0 x1 x2 x3 x4 x5 x6 = k0_pay3 (k0_pay6 x4) (k0_pay8 x0 x6) (k0_pay11 x1) := by unfold_out out0_10; frame_out
  rw [e]
  generalize k0_pay8 x0 x6 = d; generalize k0_pay11 x1 = p
  pointwise [k0_pay3, k0_pay1, k0_pay6]

theorem out11_at (r : Fin 512) (q : Fin 1024) : out0_11 x0 x1 x2 x3 x4 x5 x6 (ix2 r q)
    = ∑ k : Fin 1024, (k0_pay8 x0 x6 (ix2 r k) * k0_pay12 x1 (ix2 r k)) * x5 (ix2 k q) := by
  have e : out0_11 x0 x1 x2 x3 x4 x5 x6 = k0_pay5 (k0_pay7 x5) (k0_pay8 x0 x6) (k0_pay12 x1) := by unfold_out out0_11; frame_out
  rw [e]
  generalize k0_pay8 x0 x6 = d; generalize k0_pay12 x1 = p
  pointwise [k0_pay5, k0_pay2, k0_pay7]

end Tile

/-! ## The blocks in the arguments -/

section Entry

variable (m : (ℓ : Loc nD τ sig) → Buf (Elt Ideal) ℓ) (c : Dev nD) (t : Fin cfg0.N)

abbrev A0 : FVec Ideal S2x2048x2048 .f32 := m ((c : Thread nD τ).loc main_arg0)
abbrev A1 : FVec Ideal S2x2048x512 .f32 := m ((c : Thread nD τ).loc main_arg1)
abbrev A2 : FVec Ideal S2x2048x512 .f32 := m ((c : Thread nD τ).loc main_arg2)
abbrev A3 : FVec Ideal S1x512x1024 .f32 := m ((c : Thread nD τ).loc main_arg3)
abbrev A4 : FVec Ideal S1x512x1024 .f32 := m ((c : Thread nD τ).loc main_arg4)
abbrev A5 : FVec Ideal S1x1024x1024 .f32 := m ((c : Thread nD τ).loc main_arg5)
abbrev A6 : FVec Ideal S2x2048x1024 .f32 := m ((c : Thread nD τ).loc main_arg6)

theorem tlt : t.val < 8 := lt_of_lt_of_eq t.isLt N_0

/-- The sequence and the position that row `r` of tile `t` belongs to. -/
abbrev sb : Fin 2 := ⟨t.val / 4, by have := tlt t; omega⟩
abbrev sr (r : Fin 512) : Fin 2048 := ⟨t.val % 4 * 512 + r, by omega⟩
abbrev row (r : Fin 512) : Fin 4096 := ⟨t.val * 512 + r, by have := tlt t; omega⟩

theorem blk0 (r : Fin 512) (k : Fin 1024) : (iblk m c 0 t : Vec Ideal S512x1024 .bf16) (ix2 r k) = A6 m c (ix3 (sb t) (sr t r) k) := by
  have e : (V m c main_v5 : FVec Ideal S4096x1024 .bf16) (ix2 (row t r) k) = A6 m c (ix3 (sb t) (sr t r) k) := by
    simp only [V, hostOps0, hostOps0_1, hostOps0_2, List.flatten_cons, List.flatten_nil, List.append_nil, List.cons_append, List.nil_append]
    entry_read
    pointwise
    blk_ext
  rw [← e]; blk_ext [iblk, idx t]

theorem blk1 (r : Fin 512) (k : Fin 2048) : (iblk m c 1 t : Vec Ideal S512x2048 .bf16) (ix2 r k) = A0 m c (ix3 (sb t) (sr t r) k) := by
  have e : (V m c main_v7 : FVec Ideal S4096x2048 .bf16) (ix2 (row t r) k) = A0 m c (ix3 (sb t) (sr t r) k) := by
    simp only [V, hostOps0, hostOps0_1, hostOps0_2, List.flatten_cons, List.flatten_nil, List.append_nil, List.cons_append, List.nil_append]
    entry_read
    pointwise
    blk_ext
  rw [← e]; blk_ext [iblk, idx t]

theorem blk2 (r : Fin 512) (j : Fin 1024) : (iblk m c 2 t : Vec Ideal S512x1024 .bf16) (ix2 r j)
    = ∑ k : Fin 512, A1 m c (ix3 (sb t) (sr t r) k) * A3 m c (ix3 0 k j) := by
  have e : (V m c main_v9 : FVec Ideal S4096x1024 .bf16) (ix2 (row t r) j)
      = ∑ k : Fin 512, A1 m c (ix3 (sb t) (sr t r) k) * A3 m c (ix3 0 k j) := by
    simp only [V, hostOps0, hostOps0_1, hostOps0_2, List.flatten_cons, List.flatten_nil, List.append_nil, List.cons_append, List.nil_append]
    entry_read
    pointwise
    exact Finset.sum_congr (M := EReal) rfl fun k _ => congrArg₂ _ (by blk_ext) (by blk_ext)
  rw [← e]; blk_ext [iblk, idx t]

theorem blk3 (r : Fin 512) (j : Fin 1024) : (iblk m c 3 t : Vec Ideal S512x1024 .bf16) (ix2 r j)
    = ∑ k : Fin 512, A2 m c (ix3 (sb t) (sr t r) k) * A4 m c (ix3 0 k j) := by
  have e : (V m c main_v11 : FVec Ideal S4096x1024 .bf16) (ix2 (row t r) j)
      = ∑ k : Fin 512, A2 m c (ix3 (sb t) (sr t r) k) * A4 m c (ix3 0 k j) := by
    simp only [V, hostOps0, hostOps0_1, hostOps0_2, List.flatten_cons, List.flatten_nil, List.append_nil, List.cons_append, List.nil_append]
    entry_read
    pointwise
    exact Finset.sum_congr (M := EReal) rfl fun k _ => congrArg₂ _ (by blk_ext) (by blk_ext)
  rw [← e]; blk_ext [iblk, idx t]

theorem blk4 (k : Fin 1024) (l : Fin 512) : (iblk m c 4 t : Vec Ideal S1024x512 .bf16) (ix2 k l) = A3 m c (ix3 0 l k) := by
  have e : (V m c main_v14 : FVec Ideal S1024x512 .bf16) (ix2 k l) = A3 m c (ix3 0 l k) := by
    simp only [V, hostOps0, hostOps0_1, hostOps0_2, List.flatten_cons, List.flatten_nil, List.append_nil, List.cons_append, List.nil_append]
    entry_read
    pointwise
    blk_ext
  rw [← e]; blk_ext [iblk, idx t]

theorem blk5 (k : Fin 1024) (q : Fin 1024) : (iblk m c 5 t : Vec Ideal S1024x1024 .bf16) (ix2 k q)
    = if h : 64 ≤ q.val % 128 then A4 m c (ix3 0 (⟨q / 128 * 64 + (q % 128 - 64), by omega⟩ : Fin 512) k) else 0 := by
  have e : (V m c main_v22 : FVec Ideal S1024x1024 .bf16) (ix2 k q)
      = if h : 64 ≤ q.val % 128 then A4 m c (ix3 0 (⟨q / 128 * 64 + (q % 128 - 64), by omega⟩ : Fin 512) k) else 0 := by
    simp only [V, hostOps0, hostOps0_1, hostOps0_2, List.flatten_cons, List.flatten_nil, List.append_nil, List.cons_append, List.nil_append]
    entry_read
    pointwise
    simp only [StableHlo.TRef.toBuf, StableHlo.TRef.ofBuf, cast_eq]
    by_cases h : 64 ≤ q.val % 128
    · rw [dif_pos h]
      refine (pad_apply_of_inside _ _ _ _ _ _ _ _ (ix3 k (⟨q / 128, by omega⟩ : Fin 8) (⟨q % 128 - 64, by omega⟩ : Fin 64)) (fun a => ?_)).trans ?_
      · fin_cases a
        · show k.val = 0 + k.val * 1; omega
        · show q.val / 128 = 0 + q.val / 128 * 1; omega
        · show q.val % 128 = 64 + (q.val % 128 - 64) * 1; omega
      · blk_ext
    · rw [dif_neg h]
      refine (pad_apply_of_not_inside _ _ _ _ _ _ _ _ 2 (fun hh => h hh.1)).trans ?_
      exact sitofp_zero (φ := .f32)
  rw [← e]; blk_ext [iblk, idx t]

theorem blk6 (j : Fin 1024) (k : Fin 1024) : (iblk m c 6 t : Vec Ideal S1024x1024 .bf16) (ix2 j k) = A5 m c (ix3 0 j k) := by
  have e : (V m c main_v16 : FVec Ideal S1024x1024 .bf16) (ix2 j k) = A5 m c (ix3 0 j k) := by
    simp only [V, hostOps0, hostOps0_1, hostOps0_2, List.flatten_cons, List.flatten_nil, List.append_nil, List.cons_append, List.nil_append]
    entry_read
    pointwise
    blk_ext
  rw [← e]; blk_ext [iblk, idx t]

end Entry

/-! ## The results in the arguments -/

section Forms

variable (zg : FVec Ideal S2x2048x2048 .f32) (ps attn : FVec Ideal S2x2048x512 .f32) (wp wm : FVec Ideal S1x512x1024 .f32)
  (wo : FVec Ideal S1x1024x1024 .f32) (ct : FVec Ideal S2x2048x1024 .f32) (b : Fin 2) (s : Fin 2048)

/-- The merged branches' gradient: the cotangent times the transposed weight. -/
def dm (j : Fin 1024) : EReal := ∑ k : Fin 1024, ct (ix3 b s k) * wo (ix3 0 j k)

/-- A branch: its input times its weight. -/
def branch (x : FVec Ideal S2x2048x512 .f32) (w : FVec Ideal S1x512x1024 .f32) (j : Fin 1024) : EReal :=
  ∑ k : Fin 512, x (ix3 b s k) * w (ix3 0 k j)

def gateP (j : Fin 1024) : EReal := Ideal.logistic (zg (ix3 b s (⟨j, by omega⟩ : Fin 2048)))
def gateM (j : Fin 1024) : EReal := Ideal.logistic (zg (ix3 b s (⟨1024 + j, by omega⟩ : Fin 2048)))

def dbp (j : Fin 1024) : EReal := dm wo ct b s j * gateP zg b s j
def dbm (j : Fin 1024) : EReal := dm wo ct b s j * gateM zg b s j

def dzg (q : Fin 2048) : EReal :=
  if h : q.val < 1024 then dm wo ct b s ⟨q, h⟩ * branch b s ps wp ⟨q, h⟩ * gateP zg b s ⟨q, h⟩ * (1 - gateP zg b s ⟨q, h⟩)
  else dm wo ct b s ⟨q - 1024, by omega⟩ * branch b s attn wm ⟨q - 1024, by omega⟩ * gateM zg b s ⟨q - 1024, by omega⟩
    * (1 - gateM zg b s ⟨q - 1024, by omega⟩)

def dps (l : Fin 512) : EReal := ∑ k : Fin 1024, dbp zg wo ct b s k * wp (ix3 0 l k)

def dattn (q : Fin 1024) : EReal :=
  if h : 64 ≤ q.val % 128 then ∑ k : Fin 1024, dbm zg wo ct b s k * wm (ix3 0 (⟨q / 128 * 64 + (q % 128 - 64), by omega⟩ : Fin 512) k) else 0

end Forms

variable (m : (ℓ : Loc nD τ sig) → Buf (Elt Ideal) ℓ) (c : Dev nD)

section Point

variable (t : Fin cfg0.N) (r : Fin 512)

theorem dm_blk (j : Fin 1024) : k0_pay8 (iblk m c 0 t) (iblk m c 6 t) (ix2 r j) = dm (A5 m c) (A6 m c) (sb t) (sr t r) j := by
  rw [dm_at, dm]; exact Finset.sum_congr rfl fun k _ => by rw [blk0, blk6]

theorem gateP_blk (j : Fin 1024) : k0_pay11 (iblk m c 1 t) (ix2 r j) = gateP (A0 m c) (sb t) (sr t r) j := by
  rw [gate_pool_at, blk1, gateP]

theorem gateM_blk (j : Fin 1024) : k0_pay12 (iblk m c 1 t) (ix2 r j) = gateM (A0 m c) (sb t) (sr t r) j := by
  rw [gate_mla_at, blk1, gateM]

theorem pt7 (j : Fin 1024) : out0_7 (iblk m c 0 t) (iblk m c 1 t) (iblk m c 2 t) (iblk m c 3 t) (iblk m c 4 t) (iblk m c 5 t) (iblk m c 6 t) (ix2 r j)
    = dbp (A0 m c) (A5 m c) (A6 m c) (sb t) (sr t r) j := by
  rw [out7_at, dm_blk, gateP_blk, dbp]

theorem at7 (y : S512x1024.Idx) : out0_7 (iblk m c 0 t) (iblk m c 1 t) (iblk m c 2 t) (iblk m c 3 t) (iblk m c 4 t) (iblk m c 5 t) (iblk m c 6 t) y
    = dbp (A0 m c) (A5 m c) (A6 m c) (sb t) (sr t (y 0)) (y 1) :=
  (congrArg _ (eq_ix2 y)).trans (pt7 m c t (y 0) (y 1))

theorem pt8 (j : Fin 1024) : out0_8 (iblk m c 0 t) (iblk m c 1 t) (iblk m c 2 t) (iblk m c 3 t) (iblk m c 4 t) (iblk m c 5 t) (iblk m c 6 t) (ix2 r j)
    = dbm (A0 m c) (A5 m c) (A6 m c) (sb t) (sr t r) j := by
  rw [out8_at, dm_blk, gateM_blk, dbm]

theorem at8 (y : S512x1024.Idx) : out0_8 (iblk m c 0 t) (iblk m c 1 t) (iblk m c 2 t) (iblk m c 3 t) (iblk m c 4 t) (iblk m c 5 t) (iblk m c 6 t) y
    = dbm (A0 m c) (A5 m c) (A6 m c) (sb t) (sr t (y 0)) (y 1) :=
  (congrArg _ (eq_ix2 y)).trans (pt8 m c t (y 0) (y 1))

theorem pt9 (q : Fin 2048) : out0_9 (iblk m c 0 t) (iblk m c 1 t) (iblk m c 2 t) (iblk m c 3 t) (iblk m c 4 t) (iblk m c 5 t) (iblk m c 6 t) (ix2 r q)
    = dzg (A0 m c) (A1 m c) (A2 m c) (A3 m c) (A4 m c) (A5 m c) (A6 m c) (sb t) (sr t r) q := by
  unfold dzg
  by_cases h : q.val < 1024
  · rw [dif_pos h]
    refine (out9_left _ _ _ _ _ _ _ r ⟨q, h⟩).trans ?_
    rw [dm_blk, gateP_blk, blk2, branch]
  · rw [dif_neg h]
    have e : q = (⟨1024 + (q.val - 1024), by omega⟩ : Fin 2048) := Fin.ext (by show q.val = 1024 + (q.val - 1024); omega)
    refine Eq.trans (congrArg (fun z => out0_9 (iblk m c 0 t) (iblk m c 1 t) (iblk m c 2 t) (iblk m c 3 t) (iblk m c 4 t) (iblk m c 5 t) (iblk m c 6 t) (ix2 r z)) e) ?_
    refine (out9_right _ _ _ _ _ _ _ r ⟨q.val - 1024, by omega⟩).trans ?_
    rw [dm_blk, gateM_blk, blk3, branch]

theorem at9 (y : S512x2048.Idx) : out0_9 (iblk m c 0 t) (iblk m c 1 t) (iblk m c 2 t) (iblk m c 3 t) (iblk m c 4 t) (iblk m c 5 t) (iblk m c 6 t) y
    = dzg (A0 m c) (A1 m c) (A2 m c) (A3 m c) (A4 m c) (A5 m c) (A6 m c) (sb t) (sr t (y 0)) (y 1) :=
  (congrArg _ (eq_ix2 y)).trans (pt9 m c t (y 0) (y 1))

theorem pt10 (l : Fin 512) : out0_10 (iblk m c 0 t) (iblk m c 1 t) (iblk m c 2 t) (iblk m c 3 t) (iblk m c 4 t) (iblk m c 5 t) (iblk m c 6 t) (ix2 r l)
    = dps (A0 m c) (A3 m c) (A5 m c) (A6 m c) (sb t) (sr t r) l := by
  rw [out10_at, dps]
  exact Finset.sum_congr rfl fun k _ => by rw [dm_blk, gateP_blk, blk4, dbp]

theorem at10 (y : S512x512.Idx) : out0_10 (iblk m c 0 t) (iblk m c 1 t) (iblk m c 2 t) (iblk m c 3 t) (iblk m c 4 t) (iblk m c 5 t) (iblk m c 6 t) y
    = dps (A0 m c) (A3 m c) (A5 m c) (A6 m c) (sb t) (sr t (y 0)) (y 1) :=
  (congrArg _ (eq_ix2 y)).trans (pt10 m c t (y 0) (y 1))

theorem pt11 (q : Fin 1024) : out0_11 (iblk m c 0 t) (iblk m c 1 t) (iblk m c 2 t) (iblk m c 3 t) (iblk m c 4 t) (iblk m c 5 t) (iblk m c 6 t) (ix2 r q)
    = dattn (A0 m c) (A4 m c) (A5 m c) (A6 m c) (sb t) (sr t r) q := by
  rw [out11_at, dattn]
  by_cases h : 64 ≤ q.val % 128
  · rw [dif_pos h]
    exact Finset.sum_congr rfl fun k _ => by rw [dm_blk, gateM_blk, blk5, dif_pos h, dbm]
  · rw [dif_neg h]
    exact Finset.sum_eq_zero fun k _ => by rw [blk5, dif_neg h, mul_zero]

theorem at11 (y : S512x1024.Idx) : out0_11 (iblk m c 0 t) (iblk m c 1 t) (iblk m c 2 t) (iblk m c 3 t) (iblk m c 4 t) (iblk m c 5 t) (iblk m c 6 t) y
    = dattn (A0 m c) (A4 m c) (A5 m c) (A6 m c) (sb t) (sr t (y 0)) (y 1) :=
  (congrArg _ (eq_ix2 y)).trans (pt11 m c t (y 0) (y 1))

end Point

theorem final7 : (dats m 0 c).arrAt 7 cfg0.N = fun i : S4096x1024.Idx => dbp (A0 m c) (A5 m c) (A6 m c) (Reals.bat (i 0)) (Reals.pos (i 0)) (i 1) := by
  refine (dats m 0 c).arrAt_eq_of_covers 7 _ (by decide +kernel) fun t hf y => ?_
  blk_simp
  rw [after0_7]
  refine (at7 m c t _).trans ?_
  have ht := tlt t
  have hy : (y 0).val < 512 := (y 0).isLt
  congr 1 <;> (apply Fin.ext; try dsimp only [Reals.bat, Reals.pos, sb, sr]; blk_simp [idx t]; try (dsimp only; omega))

theorem final8 : (dats m 0 c).arrAt 8 cfg0.N = fun i : S4096x1024.Idx => dbm (A0 m c) (A5 m c) (A6 m c) (Reals.bat (i 0)) (Reals.pos (i 0)) (i 1) := by
  refine (dats m 0 c).arrAt_eq_of_covers 8 _ (by decide +kernel) fun t hf y => ?_
  blk_simp
  rw [after0_8]
  refine (at8 m c t _).trans ?_
  have ht := tlt t
  have hy : (y 0).val < 512 := (y 0).isLt
  congr 1 <;> (apply Fin.ext; try dsimp only [Reals.bat, Reals.pos, sb, sr]; blk_simp [idx t]; try (dsimp only; omega))

theorem final9 : (dats m 0 c).arrAt 9 cfg0.N = fun i : S4096x2048.Idx => dzg (A0 m c) (A1 m c) (A2 m c) (A3 m c) (A4 m c) (A5 m c) (A6 m c) (Reals.bat (i 0)) (Reals.pos (i 0)) (i 1) := by
  refine (dats m 0 c).arrAt_eq_of_covers 9 _ (by decide +kernel) fun t hf y => ?_
  blk_simp
  rw [after0_9]
  refine (at9 m c t _).trans ?_
  have ht := tlt t
  have hy : (y 0).val < 512 := (y 0).isLt
  congr 1 <;> (apply Fin.ext; try dsimp only [Reals.bat, Reals.pos, sb, sr]; blk_simp [idx t]; try (dsimp only; omega))

theorem final10 : (dats m 0 c).arrAt 10 cfg0.N = fun i : S4096x512.Idx => dps (A0 m c) (A3 m c) (A5 m c) (A6 m c) (Reals.bat (i 0)) (Reals.pos (i 0)) (i 1) := by
  refine (dats m 0 c).arrAt_eq_of_covers 10 _ (by decide +kernel) fun t hf y => ?_
  blk_simp
  rw [after0_10]
  refine (at10 m c t _).trans ?_
  have ht := tlt t
  have hy : (y 0).val < 512 := (y 0).isLt
  congr 1 <;> (apply Fin.ext; try dsimp only [Reals.bat, Reals.pos, sb, sr]; blk_simp [idx t]; try (dsimp only; omega))

theorem final11 : (dats m 0 c).arrAt 11 cfg0.N = fun i : S4096x1024.Idx => dattn (A0 m c) (A4 m c) (A5 m c) (A6 m c) (Reals.bat (i 0)) (Reals.pos (i 0)) (i 1) := by
  refine (dats m 0 c).arrAt_eq_of_covers 11 _ (by decide +kernel) fun t hf y => ?_
  blk_simp
  rw [after0_11]
  refine (at11 m c t _).trans ?_
  have ht := tlt t
  have hy : (y 0).val < 512 := (y 0).isLt
  congr 1 <;> (apply Fin.ext; try dsimp only [Reals.bat, Reals.pos, sb, sr]; blk_simp [idx t]; try (dsimp only; omega))

end Cert.MergeBwdIdeal.Value
end
-- ==== Proof.MergeRef.lean ====
module

public import proofs.«01_k».proof.Proof.Merge
public import proofs.«01_k».proof.Proof.Gen.MergeBwdRefIdeal.Read

@[expose] public section

/-! The gradient of the gated merge of the two branches: the reference's arrays, in the entries of the arguments. -/

set_option maxRecDepth 16384

noncomputable section

open Idealize.ShloMosaic Idealize.ShloMosaic.TcCoe Idealize.SL.Sem
open Cert.MergeBwdIdeal.Value (dm branch gateP gateM dbp dbm dzg dps dattn)

namespace Cert.MergeBwdRefIdeal.Read

open Cert.MergeBwdRefIdeal Cert.MergeBwdRefIdeal.Value

variable (zg : FVec Ideal S2x2048x2048 .f32) (ps attn : FVec Ideal S2x2048x512 .f32) (wp wm : FVec Ideal S1x512x1024 .f32)
  (wo : FVec Ideal S1x1024x1024 .f32) (ct : FVec Ideal S2x2048x1024 .f32)

section Stage

variable (b : Fin 2) (s : Fin 2048)

theorem ref29 (j : Fin 1024) : val_main_v29 (F := Ideal) wo ct (ix3 b s j) = dm wo ct b s j := by
  rw [val_main_v29_apply, dm]
  refine Finset.sum_congr rfl fun k _ => ?_
  rw [val_main_v27_apply]
  congr 1 <;> blk_ext

theorem ref1 (j : Fin 1024) : val_main_v1 (F := Ideal) ps wp (ix3 b s j) = branch b s ps wp j := by
  rw [val_main_v1_apply, branch]
  refine Finset.sum_congr rfl fun k _ => ?_
  rw [val_main_v0_apply]
  congr 1 <;> blk_ext

theorem ref3 (j : Fin 1024) : val_main_v3 (F := Ideal) attn wm (ix3 b s j) = branch b s attn wm j := by
  rw [val_main_v3_apply, branch]
  refine Finset.sum_congr rfl fun k _ => ?_
  rw [val_main_v2_apply]
  congr 1 <;> blk_ext

theorem ref11 (j : Fin 1024) : val_main_v11 (F := Ideal) zg (ix3 b s j) = gateP zg b s j := by
  rw [gateP]
  pointwise [Ideal.logistic, val_main_v11, val_main_v10, val_main_v9, val_main_v8, val_main_v7, val_main_v6, val_main_v4, val_main_cst, val_main_cst_0]

theorem ref21 (j : Fin 1024) : val_main_v21 (F := Ideal) zg (ix3 b s j) = gateM zg b s j := by
  rw [gateM]
  pointwise [Ideal.logistic, val_main_v21, val_main_v20, val_main_v19, val_main_v18, val_main_v17, val_main_v16, val_main_v5, val_main_cst_2, val_main_cst_3]

theorem ref33 (j : Fin 1024) : val_main_v33 (F := Ideal) zg wo ct (ix3 b s j) = dbp zg wo ct b s j := by
  rw [val_main_v33_apply, ref11, ref29, dbp]
  exact mul_comm _ _

theorem ref30 (j : Fin 1024) : val_main_v30 (F := Ideal) zg wo ct (ix3 b s j) = dbm zg wo ct b s j := by
  rw [val_main_v30_apply, ref21, ref29, dbm]
  exact mul_comm _ _

theorem ref36 (q : Fin 2048) : val_main_v36 (F := Ideal) zg ps attn wp wm wo ct (ix3 b s q) = dzg zg ps attn wp wm wo ct b s q := by
  unfold dzg val_main_v36
  by_cases h : q.val < 1024
  · rw [dif_pos h]
    refine (concatenate_pair_apply_left (t := S2x2048x2048) (s₁ := S2x2048x1024) (s₂ := S2x2048x1024) 2 _ _ _ _ rfl
      (ix3 b s ⟨q, h⟩) (fun a => by fin_cases a <;> rfl)).trans ?_
    rw [val_main_v35_apply, val_main_v34_apply, val_main_v14_apply, val_main_v13_apply, ref29, ref1, ref11]
    refine Eq.trans ?_ (mul_assoc _ _ _).symm
    pointwise [val_main_v12, val_main_cst_1]
  · rw [dif_neg h]
    refine (concatenate_pair_apply_right (t := S2x2048x2048) (s₁ := S2x2048x1024) (s₂ := S2x2048x1024) 2 _ _ _ _ rfl rfl
      (ix3 b s ⟨q - 1024, by omega⟩) (fun a ha => by fin_cases a <;> first | rfl | exact absurd rfl ha)
      (by show q.val - 1024 + 1024 = q.val; omega)).trans ?_
    rw [val_main_v32_apply, val_main_v31_apply, val_main_v24_apply, val_main_v23_apply, ref29, ref3, ref21]
    refine Eq.trans ?_ (mul_assoc _ _ _).symm
    pointwise [val_main_v22, val_main_cst_4]

theorem ref37 (l : Fin 512) : val_main_v37 (F := Ideal) zg wp wo ct (ix3 b s l) = dps zg wp wo ct b s l := by
  rw [val_main_v37_apply, dps]
  refine Finset.sum_congr rfl fun k _ => ?_
  rw [val_main_v0_apply, ← ref33]
  congr 1 <;> blk_ext

theorem ref38 (l : Fin 512) : val_main_v38 (F := Ideal) zg wm wo ct (ix3 b s l)
    = ∑ k : Fin 1024, dbm zg wo ct b s k * wm (ix3 0 l k) := by
  rw [val_main_v38_apply]
  refine Finset.sum_congr rfl fun k _ => ?_
  rw [val_main_v2_apply, ← ref30]
  congr 1 <;> blk_ext

end Stage

theorem ref42 : val_main_v42 (F := Ideal) zg wo ct = fun i : S4096x1024.Idx => dbp zg wo ct (Reals.bat (i 0)) (Reals.pos (i 0)) (i 1) := by
  funext i
  refine Eq.trans ?_ (ref33 zg wo ct _ _ _)
  change val_main_v41 (F := Ideal) zg wo ct i = _
  rw [val_main_v41_apply]
  blk_ext

theorem ref44 : val_main_v44 (F := Ideal) zg wo ct = fun i : S4096x1024.Idx => dbm zg wo ct (Reals.bat (i 0)) (Reals.pos (i 0)) (i 1) := by
  funext i
  refine Eq.trans ?_ (ref30 zg wo ct _ _ _)
  change val_main_v43 (F := Ideal) zg wo ct i = _
  rw [val_main_v43_apply]
  blk_ext

theorem ref46 : val_main_v46 (F := Ideal) zg ps attn wp wm wo ct
    = fun i : S4096x2048.Idx => dzg zg ps attn wp wm wo ct (Reals.bat (i 0)) (Reals.pos (i 0)) (i 1) := by
  funext i
  refine Eq.trans ?_ (ref36 zg ps attn wp wm wo ct _ _ _)
  change val_main_v45 (F := Ideal) zg ps attn wp wm wo ct i = _
  rw [val_main_v45_apply]
  blk_ext

theorem ref47 : val_main_v47 (F := Ideal) zg wp wo ct = fun i : S4096x512.Idx => dps zg wp wo ct (Reals.bat (i 0)) (Reals.pos (i 0)) (i 1) := by
  funext i
  refine Eq.trans ?_ (ref37 zg wp wo ct _ _ _)
  rw [val_main_v47_apply]
  blk_ext

theorem ref49 : val_main_v49 (F := Ideal) zg wm wo ct = fun i : S4096x1024.Idx => dattn zg wm wo ct (Reals.bat (i 0)) (Reals.pos (i 0)) (i 1) := by
  funext i
  change val_main_v48 (F := Ideal) zg wm wo ct i = _
  rw [val_main_v48_apply]
  have h0 : (i 0).val < 4096 := (i 0).isLt
  have h1 : (i 1).val < 1024 := (i 1).isLt
  unfold dattn val_main_v40
  by_cases h : 64 ≤ (i 1).val % 128
  · rw [dif_pos h]
    refine (pad_apply_of_inside _ _ _ _ _ _ _ _ (ix3 (⟨(i 0).val, h0⟩ : Fin 4096) (⟨(i 1).val / 128, by omega⟩ : Fin 8) (⟨(i 1).val % 128 - 64, by omega⟩ : Fin 64)) (fun a => ?_)).trans ?_
    · fin_cases a
      · show ((i 0).val * 1024 + (i 1).val) / 1024 = 0 + (i 0).val * 1; omega
      · show ((i 0).val * 1024 + (i 1).val) / 128 % 8 = 0 + (i 1).val / 128 * 1; omega
      · show ((i 0).val * 1024 + (i 1).val) % 128 = 64 + ((i 1).val % 128 - 64) * 1; omega
    · refine (val_main_v39_apply ..).trans ?_
      refine Eq.trans ?_ (ref38 zg wm wo ct _ _ _)
      blk_ext
  · rw [dif_neg h]
    refine (pad_apply_of_not_inside _ _ _ _ _ _ _ _ 2 (fun hh => h ?_)).trans ?_
    · have := hh.1
      change 64 ≤ ((i 0).val * 1024 + (i 1).val) % 128 at this
      omega
    · exact sitofp_zero (φ := .f32)

end Cert.MergeBwdRefIdeal.Read
end
-- ==== Proof.MergeBwdClaim.lean ====
module

public import proofs.«01_k».proof.Defs
public import proofs.«01_k».proof.Proof.MergeRef
public import proofs.«01_k».proof.Proof.Gen.MergeBwdRefIdeal.Run
public import proofs.«01_k».proof.Proof.Gen.MergeBwd.Frame

@[expose] public section

noncomputable section

namespace Cert.Proof

open Idealize.ShloMosaic Idealize.ShloMosaic.TcCoe Idealize.SL.Sem

open Cert.MergeBwdIdeal.Value Cert.MergeBwdRefIdeal.Read in
theorem algebraic_MergeBwd : Cert.algebraic_MergeBwdIdeal_MergeBwdRefIdeal := by
  intro m g m' g' hpre hagree
  refine ⟨fun c => (Cert.MergeBwdIdeal.Gen.dats m 0 c).arrAt 7 Cert.MergeBwdIdeal.cfg0.N,
    fun c => (Cert.MergeBwdIdeal.Gen.dats m 0 c).arrAt 8 Cert.MergeBwdIdeal.cfg0.N,
    fun c => (Cert.MergeBwdIdeal.Gen.dats m 0 c).arrAt 9 Cert.MergeBwdIdeal.cfg0.N,
    fun c => (Cert.MergeBwdIdeal.Gen.dats m 0 c).arrAt 10 Cert.MergeBwdIdeal.cfg0.N,
    fun c => (Cert.MergeBwdIdeal.Gen.dats m 0 c).arrAt 11 Cert.MergeBwdIdeal.cfg0.N,
    run_blocks m g, θ_run_mono (Cert.MergeBwdRefIdeal.Value.run m' g') fun r hr c => ?_⟩
  obtain ⟨h7, h8, h9, h10, h11, h⟩ := hr c
  obtain ⟨e0, e1, e2, e3, e4, e5, e6⟩ := hagree c
  rw [e0, e5, e6] at h7 h8
  rw [e0, e1, e2, e3, e4, e5, e6] at h9
  rw [e0, e3, e5, e6] at h10
  rw [e0, e4, e5, e6] at h11
  exact ⟨h7.trans ((val_main_v42_eq ..).trans ((ref42 ..).trans (final7 m c).symm)),
    h8.trans ((val_main_v44_eq ..).trans ((ref44 ..).trans (final8 m c).symm)),
    h9.trans ((val_main_v46_eq ..).trans ((ref46 ..).trans (final9 m c).symm)),
    h10.trans ((val_main_v47_eq ..).trans ((ref47 ..).trans (final10 m c).symm)),
    h11.trans ((val_main_v49_eq ..).trans ((ref49 ..).trans (final11 m c).symm)), h⟩

end Cert.Proof
end
-- ==== Proof.Rms.lean ====
module

public import proofs.«01_k».proof.Proof.Reals

@[expose] public section

/-! The gradient of a root-mean-square norm: the closed form a kernel computes from the normalised row, and the form
differentiation gives. At real rows they are equal. -/

noncomputable section

namespace Cert.Reals

open Idealize.ShloMosaic

/-- The host's sum from zero over the first two axes of a rank-3 array, at an index. -/
theorem hostSum_two {n0 n1 n2 : Nat} (h : (⟨3, ![n0, n1, n2]⟩ : Shape).ReducesTo [0, 1] ⟨1, ![n2]⟩)
    (v : FVec Ideal ⟨3, ![n0, n1, n2]⟩ .f32) (init : FVec Ideal ⟨0, ![]⟩ .f32) (hu : 0 < (⟨0, ![]⟩ : Shape).numel)
    (hi : init = constant ⟨0, ![]⟩ .f32 0x00000000#32) (l : Fin n2) :
    Host.reduceAdd v init h hu (ix1 l) = ∑ b : Fin n0, ∑ s : Fin n1, v (ix3 b s l) := by
  refine (hostSum_first_two h v _ l).trans ?_
  subst hi
  refine Eq.trans (congrArg (· + _) ?_) (zero_add _)
  exact lit_zero

end Cert.Reals

namespace Cert.Rms

open Idealize.ShloMosaic

variable {n : Nat} (x w : Fin n → EReal)

/-- The constant added to the mean square. -/
def eps : EReal := Ideal.ofBits .f32 0x358637BD#32

/-- One over the root of the mean square, the mean taken by the factor `μ`. -/
def inv (μ : EReal) : EReal := Ideal.rsqrt ((∑ k, x k * x k) * μ + eps)

/-- The gradient by the row, from the normalised row. -/
def grad (μ : EReal) (j : Fin n) : EReal := inv x μ * (w j - x j * inv x μ * ((∑ k, w k * (x k * inv x μ)) * μ))

/-- The mean square and the constant, the mean taken by dividing by `N`. -/
def ms (N : EReal) : EReal := Ideal.div (∑ k, x k * x k) N + eps

/-- What the mean square's derivative puts on each entry. -/
def via (N : EReal) : EReal :=
  Ideal.div ((∑ k, x k * w k) * (Ideal.ofBits .f32 0xBF000000#32 * Ideal.div (Ideal.rsqrt (ms x N)) (ms x N))) N

/-- The gradient by the row, the three ways the row enters differentiated one by one. -/
def vjp (N : EReal) (j : Fin n) : EReal := w j * Ideal.rsqrt (ms x N) + x j * via x w N + via x w N * x j

theorem lit_eps : eps = ((8796093 / 8796093022208 : ℝ) : EReal) := by
  unfold eps; simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

variable (x w : Fin n → ℝ) {N : ℝ}

/-- The mean square and the constant, a positive real number. -/
def v (N : ℝ) : ℝ := (∑ k, x k * x k) / N + 8796093 / 8796093022208

theorem v_pos (hN : 0 < N) : 0 < v x N := by
  have h : 0 ≤ (∑ k, x k * x k) / N := div_nonneg (Finset.sum_nonneg fun k _ => mul_self_nonneg _) hN.le
  unfold v; positivity

theorem ms_coe (hN : 0 < N) : ms (Reals.up x) (N : EReal) = (v x N : EReal) := by
  unfold ms
  simp only [← EReal.coe_mul, Reals.sum_coe]
  rw [Reals.div_coe _ hN.ne', lit_eps, ← EReal.coe_add, v]

theorem inv_coe (hN : 0 < N) : inv (Reals.up x) ((N⁻¹ : ℝ) : EReal) = (((Real.sqrt (v x N))⁻¹ : ℝ) : EReal) := by
  unfold inv
  simp only [← EReal.coe_mul, Reals.sum_coe]
  rw [lit_eps, ← EReal.coe_add, ← div_eq_mul_inv, ← Reals.rsqrt_coe (v_pos x hN), v]

/-- The two norms of a real row are equal. -/
theorem inv_eq (hN : 0 < N) : inv (Reals.up x) ((N⁻¹ : ℝ) : EReal) = Ideal.rsqrt (ms (Reals.up x) (N : EReal)) := by
  rw [inv_coe x hN, ms_coe x hN, Reals.rsqrt_coe (v_pos x hN)]

/-- The two gradients of a real row are equal. -/
theorem grad_eq (hN : 0 < N) (j : Fin n) :
    grad (Reals.up x) (Reals.up w) ((N⁻¹ : ℝ) : EReal) j = vjp (Reals.up x) (Reals.up w) (N : EReal) j := by
  have hv := v_pos x hN
  unfold grad vjp via
  rw [inv_coe x hN, ms_coe x hN, Reals.rsqrt_coe hv, Reals.div_coe _ hv.ne', lit_neg_half]
  simp only [← EReal.coe_mul, Reals.sum_coe]
  rw [Reals.div_coe _ hN.ne']
  simp only [← EReal.coe_mul, ← EReal.coe_add, ← EReal.coe_sub]
  congr 1
  have hs : 0 < Real.sqrt (v x N) := Real.sqrt_pos.2 hv
  have e : v x N = Real.sqrt (v x N) * Real.sqrt (v x N) := (Real.mul_self_sqrt hv.le).symm
  generalize v x N = V at *
  generalize Real.sqrt V = s at *
  have h : ∑ k, w k * (x k * s⁻¹) = (∑ k, x k * w k) * s⁻¹ := by
    rw [Finset.sum_mul]; exact Finset.sum_congr rfl fun k _ => by ring
  rw [h, e]
  field_simp
  ring

end Cert.Rms
end
-- ==== Proof.Latent.lean ====
module

public import proofs.«01_k».proof.Proof.Gen.LatentBwdIdeal.Value
public import proofs.«01_k».proof.Proof.Rms
public import Idealize.ShloMosaic.Lib.Pipeline.ValueKit
public import Idealize.ShloMosaic.Lib.KernelVsHost

@[expose] public section

/-! The gradient of the two latent norms, as its kernel computes it: per tile, then per array. -/

set_option maxRecDepth 16384

noncomputable section

open Idealize.ShloMosaic Idealize.ShloMosaic.TcCoe Idealize.SL.Sem
open Idealize.ShloMosaic.Pipeline (Dat)

namespace Cert.LatentBwdIdeal.Value

open Cert.LatentBwdIdeal Cert.LatentBwdIdeal.Gen

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![0, 0] ∧ win0_10.index t = ![0, 0] :=
  (by decide +kernel : ∀ t : Fin grid0.N, _)

/-! ## A tile -/

/-- The factors that take the means over the query's and the key's latent columns. -/
abbrev μq : EReal := ((384⁻¹ : ℝ) : EReal)
abbrev μk : EReal := Ideal.ofBits .f32 0x3B800000#32

theorem named : Named.named (F := Ideal) κ "inv_q_lora" (φ := .f32) 0x3B2AAAAB#32 = μq :=
  IdealRules.named_const.ideal_named_scalar κ "inv_q_lora" (φ := .f32) _ _ rfl

section Tile

variable (x0 x1 : Vec Ideal S512x1024 .bf16) (x2 : Vec Ideal S512x128 .f32) (x3 : Vec Ideal S512x768 .f32) (x4 : Vec Ideal S1x384 .f32)
  (x5 : Vec Ideal S1x256 .f32) (x6 : Vec Ideal S1024x384 .bf16) (x7 : Vec Ideal S1024x256 .bf16) (r : Fin 512)

theorem pay5_at (j : Fin 384) : k0_pay5 x0 x6 (ix2 r j) = ∑ k : Fin 1024, x0 (ix2 r k) * x6 (ix2 k j) := by
  pointwise [k0_pay5]

theorem pay6_at (j : Fin 256) : k0_pay6 x1 x7 (ix2 r j) = ∑ k : Fin 1024, x1 (ix2 r k) * x7 (ix2 k j) := by
  pointwise [k0_pay6]

theorem pay7_at (j : Fin 384) : k0_pay7 x3 (ix2 r j) = x3 (ix2 r (⟨j, by omega⟩ : Fin 768)) := by
  pointwise [k0_pay7, k0_pay4]

theorem pay8_at (j : Fin 256) : k0_pay8 x3 (ix2 r j) = x3 (ix2 r (⟨384 + j, by omega⟩ : Fin 768)) := by
  pointwise [k0_pay8, k0_pay4]

theorem pay9_at : k0_pay9 x3 (ix2 r 0) = Rms.inv (fun k : Fin 384 => k0_pay7 x3 (ix2 r k)) μq := by
  rw [Rms.inv, Rms.eps, ← named]
  unfold k0_pay9
  generalize k0_pay7 x3 = u
  pointwise

theorem pay10_at (j : Fin 384) : k0_pay10 x3 (ix2 r j) = k0_pay7 x3 (ix2 r j) * k0_pay9 x3 (ix2 r 0) := by
  unfold k0_pay10
  generalize k0_pay7 x3 = u; generalize k0_pay9 x3 = v
  pointwise

theorem pay11_at (j : Fin 384) : k0_pay11 x4 x0 x6 (ix2 r j) = k0_pay5 x0 x6 (ix2 r j) * x4 (ix2 0 j) := by
  unfold k0_pay11
  generalize k0_pay5 x0 x6 = u
  pointwise

theorem pay12_at : k0_pay12 x4 x0 x3 x6 (ix2 r 0) = (∑ k : Fin 384, k0_pay11 x4 x0 x6 (ix2 r k) * k0_pay10 x3 (ix2 r k)) * μq := by
  rw [← named]
  unfold k0_pay12
  generalize k0_pay11 x4 x0 x6 = u; generalize k0_pay10 x3 = v
  pointwise

variable (d : FVec Ideal S512x256 .f32) (z : FVec Ideal S512x256 .f32)

theorem pay13_at : k0_pay13 z (ix2 r 0) = Rms.inv (fun k : Fin 256 => z (ix2 r k)) μk := by
  rw [Rms.inv, Rms.eps]
  pointwise [k0_pay13]

theorem pay14_at (j : Fin 256) : k0_pay14 z (ix2 r j) = z (ix2 r j) * k0_pay13 z (ix2 r 0) := by
  unfold k0_pay14
  generalize k0_pay13 z = v
  pointwise

variable (a b : FVec Ideal S512x384 .f32)

theorem pay15_at (j : Fin 384) : k0_pay15 a b (ix2 0 j) = ∑ r : Fin 512, a (ix2 r j) * b (ix2 r j) := by
  pointwise [k0_pay15]

theorem pay16_at (j : Fin 256) : k0_pay16 d z (ix2 0 j) = ∑ r : Fin 512, d (ix2 r j) * k0_pay14 z (ix2 r j) := by
  unfold k0_pay16
  generalize k0_pay14 z = v
  pointwise

variable (s m : FVec Ideal S512x1 .f32) (p : FVec Ideal S512x128 .f32)

theorem pay17_query (j : Fin 384) : k0_pay17 x5 p d z s a b m (ix2 r (⟨j, by omega⟩ : Fin 768))
    = s (ix2 r 0) * (b (ix2 r j) - a (ix2 r j) * m (ix2 r 0)) := by
  unfold k0_pay17
  refine (truncf_apply _ _ _ _).trans ?_
  refine (concatenate_apply_piece (t := S512x768) 1 _ _ _ 0 (by simp) S512x384 _ rfl rfl 0 rfl (ix2 r j)
    (fun b hb => by fin_cases b <;> first | rfl | exact absurd rfl hb) (by show 0 + j.val = j.val; omega)).trans ?_
  pointwise

theorem pay17_key (j : Fin 256) : k0_pay17 x5 p d z s a b m (ix2 r (⟨384 + j, by omega⟩ : Fin 768))
    = Rms.grad (fun k : Fin 256 => z (ix2 r k)) (fun k => d (ix2 r k) * x5 (ix2 0 k)) μk j := by
  rw [Rms.grad, ← pay13_at]
  simp only [← pay14_at]
  unfold k0_pay17
  refine (truncf_apply _ _ _ _).trans ?_
  refine (concatenate_apply_piece (t := S512x768) 1 _ _ _ 1 (by simp) S512x256 _ rfl rfl 384 rfl (ix2 r j)
    (fun b hb => by fin_cases b <;> first | rfl | exact absurd rfl hb) rfl).trans ?_
  generalize k0_pay13 z = u; generalize k0_pay14 z = v
  pointwise

theorem pay17_rope (j : Fin 128) : k0_pay17 x5 p d z s a b m (ix2 r (⟨640 + j, by omega⟩ : Fin 768)) = p (ix2 r j) := by
  unfold k0_pay17
  refine (truncf_apply _ _ _ _).trans ?_
  exact concatenate_apply_piece (t := S512x768) 1 _ _ _ 2 (by simp) S512x128 _ rfl rfl 640 rfl (ix2 r j)
    (fun b hb => by fin_cases b <;> first | rfl | exact absurd rfl hb) rfl

end Tile

/-- The two kinds of grid point: the first, which stores the column sums, and the later ones, which add to them. -/
theorem kinds : ∀ t : Fin cfg0.N, (t.val % 8 = 0 ∧ ¬1 ≤ t.val) ∨ (¬t.val % 8 = 0 ∧ 1 ≤ t.val) :=
  (by decide +kernel : ∀ t : Fin grid0.N, _)

section Entry

variable (m : (ℓ : Loc nD τ sig) → Buf (Elt Ideal) ℓ) (c : Dev nD) (t : Fin cfg0.N)

abbrev A0 : FVec Ideal S2x2048x672 .f32 := m ((c : Thread nD τ).loc main_arg0)
abbrev A1 : FVec Ideal S1x384 .f32 := m ((c : Thread nD τ).loc main_arg1)
abbrev A2 : FVec Ideal S1x256 .f32 := m ((c : Thread nD τ).loc main_arg2)
abbrev A3 : FVec Ideal S1x384x768 .f32 := m ((c : Thread nD τ).loc main_arg3)
abbrev A4 : FVec Ideal S1x256x1024 .f32 := m ((c : Thread nD τ).loc main_arg4)
abbrev A5 : FVec Ideal S2x2048x8x96 .f32 := m ((c : Thread nD τ).loc main_arg5)
abbrev A6 : FVec Ideal S2x2048x8x128 .f32 := m ((c : Thread nD τ).loc main_arg6)
abbrev A7 : FVec Ideal S2x2048x32 .f32 := m ((c : Thread nD τ).loc main_arg7)

theorem tlt : t.val < 8 := lt_of_lt_of_eq t.isLt N_0

/-- The sequence and the position that row `r` of tile `t` belongs to. -/
abbrev sb : Fin 2 := ⟨t.val / 4, by have := tlt t; omega⟩
abbrev sr (r : Fin 512) : Fin 2048 := ⟨t.val % 4 * 512 + r, by omega⟩
abbrev row (r : Fin 512) : Fin 4096 := ⟨t.val * 512 + r, by have := tlt t; omega⟩

theorem blk0 (r : Fin 512) (h : Fin 8) (d : Fin 128) : (iblk m c 0 t : Vec Ideal S512x1024 .bf16) (ix2 r (⟨h * 128 + d, by omega⟩ : Fin 1024))
    = if hd : d.val < 96 then A5 m c (ix4 (sb t) (sr t r) h ⟨d, hd⟩) else 0 := by
  have ht := tlt t
  have e : (V m c main_v8 : FVec Ideal S4096x1024 .bf16) (ix2 (row t r) (⟨h * 128 + d, by omega⟩ : Fin 1024))
      = if hd : d.val < 96 then A5 m c (ix4 (sb t) (sr t r) h ⟨d, hd⟩) else 0 := by
    simp only [V, hostOps0, hostOps0_1, hostOps0_2, List.flatten_cons, List.flatten_nil, List.append_nil, List.cons_append, List.nil_append]
    entry_read
    pointwise
    simp only [StableHlo.TRef.toBuf, StableHlo.TRef.ofBuf, cast_eq]
    by_cases hd : d.val < 96
    · rw [dif_pos hd]
      refine (pad_apply_of_inside _ _ _ _ _ _ _ _ (ix4 (sb t) (sr t r) h (⟨d, hd⟩ : Fin 96)) (fun a => ?_)).trans ?_
      · fin_cases a <;> (dsimp; omega)
      · blk_ext
    · rw [dif_neg hd]
      refine (pad_apply_of_not_inside _ _ _ _ _ _ _ _ 3 (fun hh => hd (by have := hh.2.2; dsimp at this; omega))).trans ?_
      exact sitofp_zero (φ := .f32)
  rw [← e]; blk_ext [iblk, idx t]

theorem blk1 (r : Fin 512) (k : Fin 1024) : (iblk m c 1 t : Vec Ideal S512x1024 .bf16) (ix2 r k)
    = A6 m c (ix4 (sb t) (sr t r) (⟨k / 128, by omega⟩ : Fin 8) (⟨k % 128, by omega⟩ : Fin 128)) := by
  have e : (V m c main_v16 : FVec Ideal S4096x1024 .bf16) (ix2 (row t r) k)
      = A6 m c (ix4 (sb t) (sr t r) (⟨k / 128, by omega⟩ : Fin 8) (⟨k % 128, by omega⟩ : Fin 128)) := by
    simp only [V, hostOps0, hostOps0_1, hostOps0_2, List.flatten_cons, List.flatten_nil, List.append_nil, List.cons_append, List.nil_append]
    entry_read
    pointwise
    blk_ext
  rw [← e]; blk_ext [iblk, idx t]

theorem blk2 (r : Fin 512) (j : Fin 128) : (iblk m c 2 t : Vec Ideal S512x128 .f32) (ix2 r j)
    = if h : 64 ≤ j.val ∧ j.val < 96 then A7 m c (ix3 (sb t) (sr t r) (⟨j - 64, by omega⟩ : Fin 32)) else 0 := by
  have ht := tlt t
  have e : (V m c main_v21 : FVec Ideal S4096x128 .f32) (ix2 (row t r) j)
      = if h : 64 ≤ j.val ∧ j.val < 96 then A7 m c (ix3 (sb t) (sr t r) (⟨j - 64, by omega⟩ : Fin 32)) else 0 := by
    simp only [V, hostOps0, hostOps0_1, hostOps0_2, List.flatten_cons, List.flatten_nil, List.append_nil, List.cons_append, List.nil_append]
    entry_read
    pointwise
    simp only [StableHlo.TRef.toBuf, StableHlo.TRef.ofBuf, cast_eq]
    by_cases h : 64 ≤ j.val ∧ j.val < 96
    · rw [dif_pos h]
      refine (pad_apply_of_inside _ _ _ _ _ _ _ _ (ix3 (sb t) (sr t r) (⟨j - 64, by omega⟩ : Fin 32)) (fun a => ?_)).trans ?_
      · fin_cases a <;> (dsimp; omega)
      · blk_ext
    · rw [dif_neg h]
      refine (pad_apply_of_not_inside _ _ _ _ _ _ _ _ 2 (fun hh => h ⟨by have := hh.1; dsimp at this; omega, by have := hh.2.2; dsimp at this; omega⟩)).trans ?_
      exact sitofp_zero (φ := .f32)
  rw [← e]; blk_ext [iblk, idx t]

theorem blk3 (r : Fin 512) (j : Fin 640) : (iblk m c 3 t : Vec Ideal S512x768 .f32) (ix2 r (⟨j, by omega⟩ : Fin 768))
    = A0 m c (ix3 (sb t) (sr t r) (⟨j, by omega⟩ : Fin 672)) := by
  have ht := tlt t
  have e : (V m c main_v5 : FVec Ideal S4096x768 .f32) (ix2 (row t r) (⟨j, by omega⟩ : Fin 768))
      = A0 m c (ix3 (sb t) (sr t r) (⟨j, by omega⟩ : Fin 672)) := by
    simp only [V, hostOps0, hostOps0_1, hostOps0_2, List.flatten_cons, List.flatten_nil, List.append_nil, List.cons_append, List.nil_append]
    entry_read
    refine (concatenate_pair_apply_left (t := S4096x768) (s₁ := S4096x640) (s₂ := S4096x128) 1 _ _ _ _ rfl
      (ix2 (row t r) j) (fun a => by fin_cases a <;> rfl)).trans ?_
    pointwise
    blk_ext
  rw [← e]; blk_ext [iblk, idx t]

theorem blk4 (j : Fin 384) : (iblk m c 4 t : Vec Ideal S1x384 .f32) (ix2 0 j) = A1 m c (ix2 0 j) := by
  have e : (V m c main_arg1 : FVec Ideal S1x384 .f32) (ix2 0 j) = A1 m c (ix2 0 j) := by
    simp only [V, hostOps0, hostOps0_1, hostOps0_2, List.flatten_cons, List.flatten_nil, List.append_nil, List.cons_append, List.nil_append]
    entry_read
    rfl
  rw [← e]; blk_ext [iblk, idx t]

theorem blk5 (j : Fin 256) : (iblk m c 5 t : Vec Ideal S1x256 .f32) (ix2 0 j) = A2 m c (ix2 0 j) := by
  have e : (V m c main_arg2 : FVec Ideal S1x256 .f32) (ix2 0 j) = A2 m c (ix2 0 j) := by
    simp only [V, hostOps0, hostOps0_1, hostOps0_2, List.flatten_cons, List.flatten_nil, List.append_nil, List.cons_append, List.nil_append]
    entry_read
    rfl
  rw [← e]; blk_ext [iblk, idx t]

theorem blk6 (h : Fin 8) (d : Fin 128) (j : Fin 384) : (iblk m c 6 t : Vec Ideal S1024x384 .bf16) (ix2 (⟨h * 128 + d, by omega⟩ : Fin 1024) j)
    = if hd : d.val < 96 then A3 m c (ix3 0 j (⟨h * 96 + d, by omega⟩ : Fin 768)) else 0 := by
  have e : (V m c main_v14 : FVec Ideal S1024x384 .bf16) (ix2 (⟨h * 128 + d, by omega⟩ : Fin 1024) j)
      = if hd : d.val < 96 then A3 m c (ix3 0 j (⟨h * 96 + d, by omega⟩ : Fin 768)) else 0 := by
    simp only [V, hostOps0, hostOps0_1, hostOps0_2, List.flatten_cons, List.flatten_nil, List.append_nil, List.cons_append, List.nil_append]
    entry_read
    pointwise
    simp only [StableHlo.TRef.toBuf, StableHlo.TRef.ofBuf, cast_eq]
    by_cases hd : d.val < 96
    · rw [dif_pos hd]
      refine (pad_apply_of_inside _ _ _ _ _ _ _ _ (ix3 h (⟨d, hd⟩ : Fin 96) j) (fun a => ?_)).trans ?_
      · fin_cases a <;> (dsimp; omega)
      · blk_ext
    · rw [dif_neg hd]
      refine (pad_apply_of_not_inside _ _ _ _ _ _ _ _ 1 (fun hh => hd (by have := hh.2.2; dsimp at this; omega))).trans ?_
      exact sitofp_zero (φ := .f32)
  rw [← e]; blk_ext [iblk, idx t]

theorem blk7 (k : Fin 1024) (j : Fin 256) : (iblk m c 7 t : Vec Ideal S1024x256 .bf16) (ix2 k j) = A4 m c (ix3 0 j k) := by
  have e : (V m c main_v19 : FVec Ideal S1024x256 .bf16) (ix2 k j) = A4 m c (ix3 0 j k) := by
    simp only [V, hostOps0, hostOps0_1, hostOps0_2, List.flatten_cons, List.flatten_nil, List.append_nil, List.cons_append, List.nil_append]
    entry_read
    pointwise
    blk_ext
  rw [← e]; blk_ext [iblk, idx t]

end Entry

/-! ## The results in the arguments -/

section Forms

variable (z : FVec Ideal S2x2048x672 .f32) (gq : FVec Ideal S1x384 .f32) (gk : FVec Ideal S1x256 .f32) (wq : FVec Ideal S1x384x768 .f32)
  (wk : FVec Ideal S1x256x1024 .f32) (dq : FVec Ideal S2x2048x8x96 .f32) (dk : FVec Ideal S2x2048x8x128 .f32)
  (dr : FVec Ideal S2x2048x32 .f32) (b : Fin 2) (s : Fin 2048)

/-- The query's and the key's latent columns of a row. -/
abbrev zq (j : Fin 384) : EReal := z (ix3 b s (⟨j, by omega⟩ : Fin 672))
abbrev zk (j : Fin 256) : EReal := z (ix3 b s (⟨384 + j, by omega⟩ : Fin 672))

/-- The gradients by the normed columns: the cotangents times the transposed weights. -/
def dnq (j : Fin 384) : EReal :=
  ∑ k : Fin 768, dq (ix4 b s (⟨k / 96, by omega⟩ : Fin 8) (⟨k % 96, by omega⟩ : Fin 96)) * wq (ix3 0 j k)
def dnk (j : Fin 256) : EReal :=
  ∑ k : Fin 1024, dk (ix4 b s (⟨k / 128, by omega⟩ : Fin 8) (⟨k % 128, by omega⟩ : Fin 128)) * wk (ix3 0 j k)

/-- The gradients by the query's and the key's latent columns. -/
def dzq (j : Fin 384) : EReal := Rms.grad (zq z b s) (fun k => dnq wq dq b s k * gq (ix2 0 k)) μq j
def dzk (j : Fin 256) : EReal := Rms.grad (zk z b s) (fun k => dnk wk dk b s k * gk (ix2 0 k)) μk j

/-- The rotary key's gradient, at columns 64 to 95 of 128. -/
def dro (j : Fin 128) : EReal := if h : 64 ≤ j.val ∧ j.val < 96 then dr (ix3 b s (⟨j - 64, by omega⟩ : Fin 32)) else 0

/-- The gradient by the latent row: three column ranges. -/
def dz (j : Fin 768) : EReal :=
  if h : j.val < 384 then dzq z gq wq dq b s ⟨j, h⟩
  else if h2 : j.val < 640 then dzk z gk wk dk b s ⟨j - 384, by omega⟩ else dro dr b s ⟨j - 640, by omega⟩

/-- The gradients by the gains, of one row. -/
def gainq (j : Fin 384) : EReal := dnq wq dq b s j * (zq z b s j * Rms.inv (zq z b s) μq)
def gaink (j : Fin 256) : EReal := dnk wk dk b s j * (zk z b s j * Rms.inv (zk z b s) μk)

end Forms

/-- A sum over heads of 128 columns whose last 32 are null is the sum over heads of 96. -/
theorem sum_heads (f : Fin 1024 → EReal) (g : Fin 768 → EReal)
    (h : ∀ (i : Fin 8) (d : Fin 96), f ⟨i * 128 + d, by omega⟩ = g ⟨i * 96 + d, by omega⟩)
    (h0 : ∀ (i : Fin 8) (d : Fin 32), f ⟨i * 128 + (96 + d), by omega⟩ = 0) : ∑ k, f k = ∑ k, g k := by
  refine (Fin.sum_mul_add_fin 8 128 f).symm.trans (Eq.trans ?_ (Fin.sum_mul_add_fin 8 96 g))
  refine Finset.sum_congr rfl fun i _ => ?_
  refine (Fin.sum_univ_add (a := 96) (b := 32) fun d => f ⟨i * 128 + d, by omega⟩).trans ?_
  refine (congrArg₂ (· + ·) (Finset.sum_congr rfl fun d _ => h i d) (Finset.sum_eq_zero fun d _ => h0 i d)).trans (add_zero _)

variable (m : (ℓ : Loc nD τ sig) → Buf (Elt Ideal) ℓ) (c : Dev nD)

section Point

variable (t : Fin cfg0.N) (r : Fin 512)

theorem dnq_blk (j : Fin 384) : k0_pay5 (iblk m c 0 t) (iblk m c 6 t) (ix2 r j) = dnq (A3 m c) (A5 m c) (sb t) (sr t r) j := by
  rw [pay5_at, dnq]
  refine sum_heads _ _ (fun i d => ?_) (fun i d => ?_)
  · refine (congrArg₂ (· * · : EReal → EReal → EReal) (blk0 m c t r i ⟨d, by omega⟩) (blk6 m c t i ⟨d, by omega⟩ j)).trans ?_
    rw [dif_pos d.isLt, dif_pos d.isLt]
    exact congrArg₂ (· * · : EReal → EReal → EReal) (by blk_ext) (by blk_ext)
  · refine (congrArg₂ (· * · : EReal → EReal → EReal) (blk0 m c t r i ⟨96 + d, by omega⟩) (blk6 m c t i ⟨96 + d, by omega⟩ j)).trans ?_
    rw [dif_neg (by dsimp; omega)]
    exact zero_mul (M₀ := EReal) _

theorem dnk_blk (j : Fin 256) : k0_pay6 (iblk m c 1 t) (iblk m c 7 t) (ix2 r j) = dnk (A4 m c) (A6 m c) (sb t) (sr t r) j := by
  rw [pay6_at, dnk]; exact Finset.sum_congr rfl fun k _ => by rw [blk1, blk7]

theorem zq_blk (j : Fin 384) : k0_pay7 (iblk m c 3 t) (ix2 r j) = zq (A0 m c) (sb t) (sr t r) j := by
  rw [pay7_at]; exact blk3 m c t r ⟨j, by omega⟩

theorem zk_blk (j : Fin 256) : k0_pay8 (iblk m c 3 t) (ix2 r j) = zk (A0 m c) (sb t) (sr t r) j := by
  rw [pay8_at]; exact blk3 m c t r ⟨384 + j, by omega⟩

theorem invq_blk : k0_pay9 (iblk m c 3 t) (ix2 r 0) = Rms.inv (zq (A0 m c) (sb t) (sr t r)) μq := by
  rw [pay9_at]; exact congrArg (Rms.inv · μq) (funext fun k => zq_blk m c t r k)

theorem gq_blk (j : Fin 384) : k0_pay11 (iblk m c 4 t) (iblk m c 0 t) (iblk m c 6 t) (ix2 r j)
    = dnq (A3 m c) (A5 m c) (sb t) (sr t r) j * A1 m c (ix2 0 j) := by
  rw [pay11_at, dnq_blk, blk4]

theorem xhat_blk (j : Fin 384) : k0_pay10 (iblk m c 3 t) (ix2 r j)
    = zq (A0 m c) (sb t) (sr t r) j * Rms.inv (zq (A0 m c) (sb t) (sr t r)) μq := by
  rw [pay10_at, zq_blk, invq_blk]

/-- The tile's gradient by the latent rows. -/
abbrev P8 : FVec Ideal S512x768 .bf16 := k0_pay17 (iblk m c 5 t) (k0_pay3 (iblk m c 2 t)) (k0_pay6 (iblk m c 1 t) (iblk m c 7 t))
  (k0_pay8 (iblk m c 3 t)) (k0_pay9 (iblk m c 3 t)) (k0_pay10 (iblk m c 3 t)) (k0_pay11 (iblk m c 4 t) (iblk m c 0 t) (iblk m c 6 t))
  (k0_pay12 (iblk m c 4 t) (iblk m c 0 t) (iblk m c 3 t) (iblk m c 6 t))
/-- The tile's column sums for the two gains. -/
abbrev P9 : FVec Ideal S1x384 .f32 := k0_pay15 (k0_pay5 (iblk m c 0 t) (iblk m c 6 t)) (k0_pay10 (iblk m c 3 t))
abbrev P10 : FVec Ideal S1x256 .f32 := k0_pay16 (k0_pay6 (iblk m c 1 t) (iblk m c 7 t)) (k0_pay8 (iblk m c 3 t))

theorem left8 : (outsAt0 m c t.val t.isLt).1 = P8 m c t := by
  rcases kinds t with ⟨h0, h1⟩ | ⟨h0, h1⟩
  · rw [outsAt0_A m c t h0 h1 h0 h1]; frame_out; try rfl
  · rw [outsAt0_B m c t h0 h1 h0 h1]; frame_out; try rfl

theorem pt8 (j : Fin 768) : P8 m c t (ix2 r j)
    = dz (A0 m c) (A1 m c) (A2 m c) (A3 m c) (A4 m c) (A5 m c) (A6 m c) (A7 m c) (sb t) (sr t r) j := by
  unfold dz
  by_cases h : j.val < 384
  · rw [dif_pos h]
    refine (pay17_query _ r _ _ _ _ _ _ _ ⟨j, h⟩).trans ?_
    rw [pay12_at, dzq, Rms.grad]
    simp only [gq_blk, xhat_blk, invq_blk]
  rw [dif_neg h]
  by_cases h2 : j.val < 640
  · rw [dif_pos h2]
    have e : j = (⟨384 + (j.val - 384), by omega⟩ : Fin 768) := Fin.ext (by show j.val = 384 + (j.val - 384); omega)
    refine Eq.trans (congrArg (fun q => P8 m c t (ix2 r q)) e) ?_
    refine (pay17_key _ r _ _ _ _ _ _ _ ⟨j - 384, by omega⟩).trans ?_
    unfold dzk
    congr 1
    · funext k; exact zk_blk m c t r k
    · funext k; rw [dnk_blk, blk5]
  · rw [dif_neg h2]
    have e : j = (⟨640 + (j.val - 640), by omega⟩ : Fin 768) := Fin.ext (by show j.val = 640 + (j.val - 640); omega)
    refine Eq.trans (congrArg (fun q => P8 m c t (ix2 r q)) e) ?_
    refine (pay17_rope _ r _ _ _ _ _ _ _ ⟨j - 640, by omega⟩).trans ?_
    refine Eq.trans ?_ (blk2 m c t r ⟨j - 640, by omega⟩)
    pointwise [k0_pay3]

theorem at8 (y : S512x768.Idx) : P8 m c t y
    = dz (A0 m c) (A1 m c) (A2 m c) (A3 m c) (A4 m c) (A5 m c) (A6 m c) (A7 m c) (sb t) (sr t (y 0)) (y 1) :=
  (congrArg _ (eq_ix2 y)).trans (pt8 m c t (y 0) (y 1))

theorem reset9 (h : t.val % 8 = 0) (j : Fin 384) : (outsAt0 m c t.val t.isLt).2.1 (ix2 0 j) = P9 m c t (ix2 0 j) := by
  rcases kinds t with ⟨h0, h1⟩ | ⟨h0, h1⟩
  · rw [outsAt0_A m c t h0 h1 h0 h1]; frame_out; try rfl
  · exact absurd h h0

theorem step9 (h : ¬t.val % 8 = 0) (j : Fin 384) : (outsAt0 m c t.val t.isLt).2.1 (ix2 0 j)
    = (outsAt0 m c (t.val - 1) (Nat.lt_of_le_of_lt (Nat.sub_le _ _) t.isLt)).2.1 (ix2 0 j) + P9 m c t (ix2 0 j) := by
  rcases kinds t with ⟨h0, h1⟩ | ⟨h0, h1⟩
  · exact absurd h0 h
  · rw [outsAt0_B m c t h0 h1 h0 h1]; frame_out; pointwise [k0_pay1]

theorem reset10 (h : t.val % 8 = 0) (j : Fin 256) : (outsAt0 m c t.val t.isLt).2.2 (ix2 0 j) = P10 m c t (ix2 0 j) := by
  rcases kinds t with ⟨h0, h1⟩ | ⟨h0, h1⟩
  · rw [outsAt0_A m c t h0 h1 h0 h1]; frame_out; try rfl
  · exact absurd h h0

theorem step10 (h : ¬t.val % 8 = 0) (j : Fin 256) : (outsAt0 m c t.val t.isLt).2.2 (ix2 0 j)
    = (outsAt0 m c (t.val - 1) (Nat.lt_of_le_of_lt (Nat.sub_le _ _) t.isLt)).2.2 (ix2 0 j) + P10 m c t (ix2 0 j) := by
  rcases kinds t with ⟨h0, h1⟩ | ⟨h0, h1⟩
  · exact absurd h0 h
  · rw [outsAt0_B m c t h0 h1 h0 h1]; frame_out; pointwise [k0_pay2]

theorem sum9 (j : Fin 384) : P9 m c t (ix2 0 j) = ∑ r : Fin 512, gainq (A0 m c) (A3 m c) (A5 m c) (sb t) (sr t r) j :=
  (pay15_at ..).trans (Finset.sum_congr rfl fun r _ => by rw [dnq_blk, xhat_blk, gainq])

theorem sum10 (j : Fin 256) : P10 m c t (ix2 0 j) = ∑ r : Fin 512, gaink (A0 m c) (A4 m c) (A6 m c) (sb t) (sr t r) j :=
  (pay16_at ..).trans (Finset.sum_congr rfl fun r _ => by
    unfold gaink
    refine congrArg₂ (· * · : EReal → EReal → EReal) (dnk_blk m c t r j) ((pay14_at _ _ _).trans ?_)
    exact congrArg₂ (· * · : EReal → EReal → EReal) (zk_blk m c t r j)
      ((pay13_at _ _).trans (congrArg (Rms.inv · μk) (funext fun k => zk_blk m c t r k))))

end Point

theorem final8 : (dats m 0 c).arrAt 8 cfg0.N = fun i : S4096x768.Idx =>
    dz (A0 m c) (A1 m c) (A2 m c) (A3 m c) (A4 m c) (A5 m c) (A6 m c) (A7 m c) (Reals.bat (i 0)) (Reals.pos (i 0)) (i 1) := by
  refine (dats m 0 c).arrAt_eq_of_covers 8 _ (by decide +kernel) fun t hf y => ?_
  blk_simp
  rw [after0_8, left8]
  refine (at8 m c t _).trans ?_
  have ht := tlt t
  have hy : (y 0).val < 512 := (y 0).isLt
  congr 1 <;> (apply Fin.ext; try dsimp only [Reals.bat, Reals.pos, sb, sr]; blk_simp [idx t]; try (dsimp only; omega))

theorem final9 : (dats m 0 c).arrAt 9 cfg0.N = fun i : S1x384.Idx =>
    ∑ b : Fin 2, ∑ s : Fin 2048, gainq (A0 m c) (A3 m c) (A5 m c) b s (i 1) := by
  refine (dats m 0 c).arrAt_eq_of_after_last 9 t0_7 (by decide +kernel) _ fun j => ?_
  blk_simp
  rw [after0_9]
  obtain ⟨l, rfl⟩ : ∃ l : Fin 384, j = ix2 0 l := ⟨j 1, by rw [eq_ix2 j]; congr 1; exact Subsingleton.elim (α := Fin 1) _ _⟩
  have h := Pipeline.eq_sum_fin_of_reset_step_apply_last (fun n h (l : Fin 384) => ((outsAt0 m c n h).2.1 (ix2 0 l) : EReal)) 8
    (fun _ => 0) (fun t l => P9 m c t (ix2 0 l)) (fun t h l => by rw [zero_add]; exact reset9 m c t h l) (fun t h l => step9 m c t h l)
    (le_of_eq N_0) t0_7 rfl l
  refine h.trans ?_
  rw [zero_add]
  refine Eq.trans (Fin.sum_fin_congr fun t => sum9 m c t l) ?_
  exact Fin.sum_points_lanes_congr 4 (fun t r ha hs => rfl)

theorem final10 : (dats m 0 c).arrAt 10 cfg0.N = fun i : S1x256.Idx =>
    ∑ b : Fin 2, ∑ s : Fin 2048, gaink (A0 m c) (A4 m c) (A6 m c) b s (i 1) := by
  refine (dats m 0 c).arrAt_eq_of_after_last 10 t0_7 (by decide +kernel) _ fun j => ?_
  blk_simp
  rw [after0_10]
  obtain ⟨l, rfl⟩ : ∃ l : Fin 256, j = ix2 0 l := ⟨j 1, by rw [eq_ix2 j]; congr 1; exact Subsingleton.elim (α := Fin 1) _ _⟩
  have h := Pipeline.eq_sum_fin_of_reset_step_apply_last (fun n h (l : Fin 256) => ((outsAt0 m c n h).2.2 (ix2 0 l) : EReal)) 8
    (fun _ => 0) (fun t l => P10 m c t (ix2 0 l)) (fun t h l => by rw [zero_add]; exact reset10 m c t h l) (fun t h l => step10 m c t h l)
    (le_of_eq N_0) t0_7 rfl l
  refine h.trans ?_
  rw [zero_add]
  refine Eq.trans (Fin.sum_fin_congr fun t => sum10 m c t l) ?_
  exact Fin.sum_points_lanes_congr 4 (fun t r ha hs => rfl)

end Cert.LatentBwdIdeal.Value
end
-- ==== Proof.LatentRef.lean ====
module

public import proofs.«01_k».proof.Proof.Latent
public import proofs.«01_k».proof.Proof.Gen.LatentBwdRefIdeal.Read

@[expose] public section

/-! The gradient of the two latent norms, as differentiation gives it, and its equality with the kernel's at real arguments. -/

set_option maxRecDepth 16384

noncomputable section

open Idealize.ShloMosaic Idealize.ShloMosaic.TcCoe Idealize.SL.Sem
open Cert.LatentBwdIdeal.Value (zq zk dnq dnk dro gainq gaink dz dzq dzk μq μk)

namespace Cert.LatentBwdRefIdeal.Read

open Cert.LatentBwdRefIdeal Cert.LatentBwdRefIdeal.Value

variable (z : FVec Ideal S2x2048x672 .f32) (gq : FVec Ideal S1x384 .f32) (gk : FVec Ideal S1x256 .f32) (wq : FVec Ideal S1x384x768 .f32)
  (wk : FVec Ideal S1x256x1024 .f32) (dq : FVec Ideal S2x2048x8x96 .f32) (dk : FVec Ideal S2x2048x8x128 .f32)
  (dr : FVec Ideal S2x2048x32 .f32)

/-- The divisors that take the means over the query's and the key's latent columns. -/
abbrev Nq : EReal := Ideal.ofBits .f32 0x43C00000#32
abbrev Nk : EReal := Ideal.ofBits .f32 0x43800000#32

section Stage

variable (b : Fin 2) (s : Fin 2048)

theorem ref0 (j : Fin 384) : val_main_v0 (F := Ideal) z (ix3 b s j) = zq z b s j := by
  pointwise [val_main_v0]

theorem ref1 (j : Fin 256) : val_main_v1 (F := Ideal) z (ix3 b s j) = zk z b s j := by
  pointwise [val_main_v1]

theorem ref10 : val_main_v10 (F := Ideal) z (ix3 b s 0) = Rms.ms (zq z b s) Nq := by
  rw [Rms.ms, Rms.eps]
  pointwise [val_main_v10, val_main_v9, val_main_v8, val_main_v7, val_main_v6, val_main_v5, val_main_v4, val_main_v0, val_main_cst,
    val_main_cst_0, val_main_cst_1]

theorem ref30 : val_main_v30 (F := Ideal) z (ix3 b s 0) = Rms.ms (zk z b s) Nk := by
  rw [Rms.ms, Rms.eps]
  pointwise [val_main_v30, val_main_v29, val_main_v28, val_main_v27, val_main_v26, val_main_v25, val_main_v24, val_main_v1, val_main_cst_3,
    val_main_cst_4, val_main_cst_5]

theorem ref67 (j : Fin 384) : val_main_v67 (F := Ideal) wq dq (ix3 b s j) = dnq wq dq b s j := by
  rw [val_main_v67_apply, dnq]
  refine Finset.sum_congr rfl fun k _ => ?_
  rw [val_main_v66_apply, val_main_v20_apply]
  congr 1 <;> blk_ext

theorem ref44 (j : Fin 256) : val_main_v44 (F := Ideal) wk dk (ix3 b s j) = dnk wk dk b s j := by
  rw [val_main_v44_apply, dnk]
  refine Finset.sum_congr rfl fun k _ => ?_
  rw [val_main_v43_apply, val_main_v40_apply]
  congr 1 <;> blk_ext

/-- The row of scaled gradients of the query's and of the key's normed columns. -/
abbrev wgq (k : Fin 384) : EReal := dnq wq dq b s k * gq (ix2 0 k)
abbrev wgk (k : Fin 256) : EReal := dnk wk dk b s k * gk (ix2 0 k)

theorem ref72 (j : Fin 384) : val_main_v72 (F := Ideal) gq wq dq (ix3 b s j) = wgq gq wq dq b s j := by
  rw [val_main_v72_apply, ref67]
  pointwise [val_main_v71, val_main_v17, val_main_v3]

theorem ref49 (j : Fin 256) : val_main_v49 (F := Ideal) gk wk dk (ix3 b s j) = wgk gk wk dk b s j := by
  rw [val_main_v49_apply, ref44]
  pointwise [val_main_v48, val_main_v37, val_main_v23]

theorem ref82 : val_main_v82 (F := Ideal) z gq wq dq (ix2 b s) = Rms.via (zq z b s) (wgq gq wq dq b s) Nq := by
  rw [Rms.via]
  simp only [← ref10, ← ref0, ← ref72]
  generalize hv : val_main_v10 (F := Ideal) z = v at *
  generalize hw : val_main_v72 (F := Ideal) gq wq dq = w at *
  generalize hz : val_main_v0 (F := Ideal) z = u at *
  pointwise [val_main_v82, val_main_v81, val_main_v80, val_main_v79, val_main_v76, val_main_v75, val_main_v74, val_main_v14, val_main_v13,
    val_main_v12, val_main_v11, val_main_cst_2, val_main_cst_14, val_main_cst_15, val_main_cst_16, hv, hw, hz]
  refine (Fin.sum_univ_one (M := EReal) _).trans ?_
  subst hz
  simp only [ref0, ref1]

theorem ref59 : val_main_v59 (F := Ideal) z gk wk dk (ix2 b s) = Rms.via (zk z b s) (wgk gk wk dk b s) Nk := by
  rw [Rms.via]
  simp only [← ref30, ← ref1, ← ref49]
  generalize hv : val_main_v30 (F := Ideal) z = v at *
  generalize hw : val_main_v49 (F := Ideal) gk wk dk = w at *
  generalize hz : val_main_v1 (F := Ideal) z = u at *
  pointwise [val_main_v59, val_main_v58, val_main_v57, val_main_v56, val_main_v53, val_main_v52, val_main_v51, val_main_v34, val_main_v33,
    val_main_v32, val_main_v31, val_main_cst_6, val_main_cst_9, val_main_cst_10, val_main_cst_11, hv, hw, hz]
  refine (Fin.sum_univ_one (M := EReal) _).trans ?_
  subst hz
  simp only [ref0, ref1]

theorem ref87 (j : Fin 384) : val_main_v87 (F := Ideal) z gq wq dq (ix3 b s j) = Rms.vjp (zq z b s) (wgq gq wq dq b s) Nq j := by
  rw [Rms.vjp, ← ref82, ← ref10, ← ref72, ← ref0]
  generalize hv : val_main_v10 (F := Ideal) z = v at *
  generalize hw : val_main_v72 (F := Ideal) gq wq dq = w at *
  generalize hz : val_main_v0 (F := Ideal) z = u at *
  generalize hd : val_main_v82 (F := Ideal) z gq wq dq = d at *
  pointwise [val_main_v87, val_main_v86, val_main_v85, val_main_v84, val_main_v83, val_main_v78, val_main_v77, val_main_v11, hv, hw, hz, hd]

theorem ref64 (j : Fin 256) : val_main_v64 (F := Ideal) z gk wk dk (ix3 b s j) = Rms.vjp (zk z b s) (wgk gk wk dk b s) Nk j := by
  rw [Rms.vjp, ← ref59, ← ref30, ← ref49, ← ref1]
  generalize hv : val_main_v30 (F := Ideal) z = v at *
  generalize hw : val_main_v49 (F := Ideal) gk wk dk = w at *
  generalize hz : val_main_v1 (F := Ideal) z = u at *
  generalize hd : val_main_v59 (F := Ideal) z gk wk dk = d at *
  pointwise [val_main_v64, val_main_v63, val_main_v62, val_main_v61, val_main_v60, val_main_v55, val_main_v54, val_main_v31, hv, hw, hz, hd]

theorem ref68 (j : Fin 384) : val_main_v68 (F := Ideal) z wq dq (ix3 b s j)
    = zq z b s j * Ideal.rsqrt (Rms.ms (zq z b s) Nq) * dnq wq dq b s j := by
  rw [← ref10, ← ref67, ← ref0]
  generalize hv : val_main_v10 (F := Ideal) z = v at *
  generalize hw : val_main_v67 (F := Ideal) wq dq = w at *
  generalize hz : val_main_v0 (F := Ideal) z = u at *
  pointwise [val_main_v68, val_main_v16, val_main_v15, val_main_v11, hv, hw, hz]

theorem ref45 (j : Fin 256) : val_main_v45 (F := Ideal) z wk dk (ix3 b s j)
    = zk z b s j * Ideal.rsqrt (Rms.ms (zk z b s) Nk) * dnk wk dk b s j := by
  rw [← ref30, ← ref44, ← ref1]
  generalize hv : val_main_v30 (F := Ideal) z = v at *
  generalize hw : val_main_v44 (F := Ideal) wk dk = w at *
  generalize hz : val_main_v1 (F := Ideal) z = u at *
  pointwise [val_main_v45, val_main_v36, val_main_v35, val_main_v31, hv, hw, hz]

/-- The gradient by the latent row as differentiation gives it: three column ranges. -/
def dzr (j : Fin 768) : EReal :=
  if h : j.val < 384 then Rms.vjp (zq z b s) (wgq gq wq dq b s) Nq ⟨j, h⟩
  else if h2 : j.val < 640 then Rms.vjp (zk z b s) (wgk gk wk dk b s) Nk ⟨j - 384, by omega⟩ else dro dr b s ⟨j - 640, by omega⟩

theorem ref90 (j : Fin 384) : val_main_v90 (F := Ideal) z gq gk wq wk dq dk dr (ix3 b s j) = Rms.vjp (zq z b s) (wgq gq wq dq b s) Nq j := by
  rw [val_main_v90_apply, ← ref87, val_main_v89]
  exact concatenate_apply_piece (t := S2x2048x672) 2 _ _ _ 0 (by simp) S2x2048x384 _ rfl rfl 0 rfl (ix3 b s j)
    (fun b hb => by fin_cases b <;> first | rfl | exact absurd rfl hb) (by show 0 + j.val = j.val; omega)

theorem ref91 (j : Fin 256) : val_main_v91 (F := Ideal) z gq gk wq wk dq dk dr (ix3 b s j) = Rms.vjp (zk z b s) (wgk gk wk dk b s) Nk j := by
  rw [val_main_v91_apply, ← ref64, val_main_v89]
  exact concatenate_apply_piece (t := S2x2048x672) 2 _ _ _ 1 (by simp) S2x2048x256 _ rfl rfl 384 rfl (ix3 b s j)
    (fun b hb => by fin_cases b <;> first | rfl | exact absurd rfl hb) rfl

theorem ref92 (j : Fin 32) : val_main_v92 (F := Ideal) z gq gk wq wk dq dk dr (ix3 b s j) = dr (ix3 b s j) := by
  rw [val_main_v92_apply, val_main_v89]
  exact concatenate_apply_piece (t := S2x2048x672) 2 _ _ _ 2 (by simp) S2x2048x32 _ rfl rfl 640 rfl (ix3 b s j)
    (fun b hb => by fin_cases b <;> first | rfl | exact absurd rfl hb) rfl

theorem ref93 (j : Fin 128) : val_main_v93 (F := Ideal) z gq gk wq wk dq dk dr (ix3 b s j) = dro dr b s j := by
  unfold val_main_v93 dro
  by_cases h : 64 ≤ j.val ∧ j.val < 96
  · rw [dif_pos h]
    refine (pad_apply_of_inside _ _ _ _ _ _ _ _ (ix3 b s (⟨j - 64, by omega⟩ : Fin 32)) (fun a => ?_)).trans (ref92 ..)
    fin_cases a <;> (dsimp; omega)
  · rw [dif_neg h]
    refine (pad_apply_of_not_inside _ _ _ _ _ _ _ _ 2 (fun hh => h ⟨by have := hh.1; dsimp at this; omega, by have := hh.2.2; dsimp at this; omega⟩)).trans ?_
    exact sitofp_zero (φ := .f32)

theorem ref94 (j : Fin 768) : val_main_v94 (F := Ideal) z gq gk wq wk dq dk dr (ix3 b s j) = dzr z gq gk wq wk dq dk dr b s j := by
  unfold dzr val_main_v94
  by_cases h : j.val < 384
  · rw [dif_pos h]
    refine (concatenate_apply_piece (t := S2x2048x768) 2 _ _ _ 0 (by simp) S2x2048x384 _ rfl rfl 0 rfl (ix3 b s ⟨j, h⟩)
      (fun b hb => by fin_cases b <;> first | rfl | exact absurd rfl hb) (by show 0 + j.val = j.val; omega)).trans (ref90 ..)
  rw [dif_neg h]
  by_cases h2 : j.val < 640
  · rw [dif_pos h2]
    refine (concatenate_apply_piece (t := S2x2048x768) 2 _ _ _ 1 (by simp) S2x2048x256 _ rfl rfl 384 rfl (ix3 b s ⟨j - 384, by omega⟩)
      (fun b hb => by fin_cases b <;> first | rfl | exact absurd rfl hb) (by show 384 + (j.val - 384) = j.val; omega)).trans (ref91 ..)
  · rw [dif_neg h2]
    refine (concatenate_apply_piece (t := S2x2048x768) 2 _ _ _ 2 (by simp) S2x2048x128 _ rfl rfl 640 rfl (ix3 b s ⟨j - 640, by omega⟩)
      (fun b hb => by fin_cases b <;> first | rfl | exact absurd rfl hb) (by show 640 + (j.val - 640) = j.val; omega)).trans (ref93 ..)

end Stage

theorem ref96 : val_main_v96 (F := Ideal) z gq gk wq wk dq dk dr
    = fun i : S4096x768.Idx => dzr z gq gk wq wk dq dk dr (Reals.bat (i 0)) (Reals.pos (i 0)) (i 1) := by
  funext i
  refine Eq.trans ?_ (ref94 z gq gk wq wk dq dk dr _ _ _)
  change val_main_v95 (F := Ideal) z gq gk wq wk dq dk dr i = _
  rw [val_main_v95_apply]
  blk_ext

theorem ref69 (l : Fin 384) : val_main_v69 (F := Ideal) z wq dq (ix1 l) = ∑ b : Fin 2, ∑ s : Fin 2048, zq z b s l * Ideal.rsqrt (Rms.ms (zq z b s) Nq) * dnq wq dq b s l := by
  unfold val_main_v69
  refine (Reals.hostSum_two _ _ _ _ rfl l).trans ?_
  exact Finset.sum_congr rfl fun b _ => Finset.sum_congr rfl fun s _ => ref68 z wq dq b s l

theorem ref73 (l : Fin 384) : val_main_v73 (F := Ideal) z wq dq (ix1 l) = val_main_v69 (F := Ideal) z wq dq (ix1 l) := by
  unfold val_main_v73
  refine (Reals.hostSum_two _ _ _ _ rfl l).trans ?_
  rw [Fin.sum_univ_one, Fin.sum_univ_one, val_main_v70_apply]
  blk_ext

theorem ref88 : val_main_v88 (F := Ideal) z wq dq = fun i : S1x384.Idx => ∑ b : Fin 2, ∑ s : Fin 2048, zq z b s (i 1) * Ideal.rsqrt (Rms.ms (zq z b s) Nq) * dnq wq dq b s (i 1) := by
  funext i
  rw [val_main_v88_apply]
  refine Eq.trans ?_ ((ref73 z wq dq (i 1)).trans (ref69 z wq dq (i 1)))
  blk_ext

theorem ref46 (l : Fin 256) : val_main_v46 (F := Ideal) z wk dk (ix1 l) = ∑ b : Fin 2, ∑ s : Fin 2048, zk z b s l * Ideal.rsqrt (Rms.ms (zk z b s) Nk) * dnk wk dk b s l := by
  unfold val_main_v46
  refine (Reals.hostSum_two _ _ _ _ rfl l).trans ?_
  exact Finset.sum_congr rfl fun b _ => Finset.sum_congr rfl fun s _ => ref45 z wk dk b s l

theorem ref50 (l : Fin 256) : val_main_v50 (F := Ideal) z wk dk (ix1 l) = val_main_v46 (F := Ideal) z wk dk (ix1 l) := by
  unfold val_main_v50
  refine (Reals.hostSum_two _ _ _ _ rfl l).trans ?_
  rw [Fin.sum_univ_one, Fin.sum_univ_one, val_main_v47_apply]
  blk_ext

theorem ref65 : val_main_v65 (F := Ideal) z wk dk = fun i : S1x256.Idx => ∑ b : Fin 2, ∑ s : Fin 2048, zk z b s (i 1) * Ideal.rsqrt (Rms.ms (zk z b s) Nk) * dnk wk dk b s (i 1) := by
  funext i
  rw [val_main_v65_apply]
  refine Eq.trans ?_ ((ref50 z wk dk (i 1)).trans (ref46 z wk dk (i 1)))
  blk_ext

/-! ## The two forms at real arguments -/

theorem lit_Nq : Nq = ((384 : ℝ) : EReal) := by simp [Ideal.ofBits, Ideal.ieee, -EReal.coe_mul]; norm_num
theorem lit_Nk : Nk = ((256 : ℝ) : EReal) := by simp [Ideal.ofBits, Ideal.ieee, -EReal.coe_mul]; norm_num
theorem lit_μk : μk = ((256⁻¹ : ℝ) : EReal) := by simp [Ideal.ofBits, Ideal.ieee, -EReal.coe_mul]; norm_num

section Real

variable (z : S2x2048x672.Idx → ℝ) (gq : S1x384.Idx → ℝ) (gk : S1x256.Idx → ℝ) (wq : S1x384x768.Idx → ℝ)
  (wk : S1x256x1024.Idx → ℝ) (dq : S2x2048x8x96.Idx → ℝ) (dk : S2x2048x8x128.Idx → ℝ) (b : Fin 2) (s : Fin 2048)

theorem wgq_coe : wgq (Reals.up gq) (Reals.up wq) (Reals.up dq) b s
    = Reals.up fun j => (∑ k : Fin 768, dq (ix4 b s (⟨k / 96, by omega⟩ : Fin 8) (⟨k % 96, by omega⟩ : Fin 96)) * wq (ix3 0 j k)) * gq (ix2 0 j) := by
  funext j
  unfold wgq dnq
  simp only [← EReal.coe_mul, Reals.sum_coe]

theorem wgk_coe : wgk (Reals.up gk) (Reals.up wk) (Reals.up dk) b s
    = Reals.up fun j => (∑ k : Fin 1024, dk (ix4 b s (⟨k / 128, by omega⟩ : Fin 8) (⟨k % 128, by omega⟩ : Fin 128)) * wk (ix3 0 j k)) * gk (ix2 0 j) := by
  funext j
  unfold wgk dnk
  simp only [← EReal.coe_mul, Reals.sum_coe]

theorem dzr_eq (dr : FVec Ideal S2x2048x32 .f32) (j : Fin 768) :
    dzr (Reals.up z) (Reals.up gq) (Reals.up gk) (Reals.up wq) (Reals.up wk) (Reals.up dq) (Reals.up dk) dr b s j
      = dz (Reals.up z) (Reals.up gq) (Reals.up gk) (Reals.up wq) (Reals.up wk) (Reals.up dq) (Reals.up dk) dr b s j := by
  have hq := wgq_coe gq wq dq b s
  have hk := wgk_coe gk wk dk b s
  unfold dzr dz
  split
  · rw [dzq]
    change _ = Rms.grad _ (wgq (Reals.up gq) (Reals.up wq) (Reals.up dq) b s) μq _
    rw [hq, lit_Nq]
    exact (Rms.grad_eq _ _ (by norm_num) _).symm
  split
  · rw [dzk]
    change _ = Rms.grad _ (wgk (Reals.up gk) (Reals.up wk) (Reals.up dk) b s) μk _
    rw [hk, lit_Nk, lit_μk]
    exact (Rms.grad_eq _ _ (by norm_num) _).symm
  · rfl

theorem gainq_eq (wq : FVec Ideal S1x384x768 .f32) (dq : FVec Ideal S2x2048x8x96 .f32) (j : Fin 384) :
    zq (Reals.up z) b s j * Ideal.rsqrt (Rms.ms (zq (Reals.up z) b s) Nq) * dnq wq dq b s j = gainq (Reals.up z) wq dq b s j := by
  rw [gainq, lit_Nq]
  refine (mul_comm _ _).trans (congrArg (fun q => dnq wq dq b s j * (zq (Reals.up z) b s j * q)) ?_)
  exact (Rms.inv_eq _ (by norm_num)).symm

theorem gaink_eq (wk : FVec Ideal S1x256x1024 .f32) (dk : FVec Ideal S2x2048x8x128 .f32) (j : Fin 256) :
    zk (Reals.up z) b s j * Ideal.rsqrt (Rms.ms (zk (Reals.up z) b s) Nk) * dnk wk dk b s j = gaink (Reals.up z) wk dk b s j := by
  rw [gaink, lit_Nk, lit_μk]
  refine (mul_comm _ _).trans (congrArg (fun q => dnk wk dk b s j * (zk (Reals.up z) b s j * q)) ?_)
  exact (Rms.inv_eq _ (by norm_num)).symm

end Real

end Cert.LatentBwdRefIdeal.Read
end
-- ==== Proof.LatentBwdClaim.lean ====
module

public import proofs.«01_k».proof.Defs
public import proofs.«01_k».proof.Proof.LatentRef
public import proofs.«01_k».proof.Proof.Gen.LatentBwdRefIdeal.Run
public import proofs.«01_k».proof.Proof.Gen.LatentBwd.Frame

@[expose] public section

noncomputable section

namespace Cert.Proof

open Idealize.ShloMosaic Idealize.ShloMosaic.TcCoe Idealize.SL.Sem

instance facts_latent_bwd : Pre_latent_bwd_finite.Facts := by constructor <;> decide

open Pre_latent_bwd_finite in
/-- Arguments that pass the precondition are arrays of real numbers. -/
theorem finite_LatentBwd (x0 : FVec Ideal S2x2048x672 .f32) (x1 : FVec Ideal S1x384 .f32) (x2 : FVec Ideal S1x256 .f32)
    (x3 : FVec Ideal S1x384x768 .f32) (x4 : FVec Ideal S1x256x1024 .f32) (x5 : FVec Ideal S2x2048x8x96 .f32)
    (x6 : FVec Ideal S2x2048x8x128 .f32) (x7 : FVec Ideal S2x2048x32 .f32)
    (h : Pre_latent_bwd_finite.fn (F := Ideal) x0 x1 x2 x3 x4 x5 x6 x7 = fun _ => 1#1) :
    (∃ r, x0 = Reals.up r) ∧ (∃ r, x1 = Reals.up r) ∧ (∃ r, x2 = Reals.up r) ∧ (∃ r, x3 = Reals.up r) ∧ (∃ r, x4 = Reals.up r)
      ∧ (∃ r, x5 = Reals.up r) ∧ (∃ r, x6 = Reals.up r) := by
  have h1 := congrFun h (fun a => a.elim0)
  unfold Pre_latent_bwd_finite.fn at h1
  obtain ⟨h, h6⟩ := Reals.and_one h1
  obtain ⟨h, h5⟩ := Reals.and_one h
  obtain ⟨h, h4⟩ := Reals.and_one h
  obtain ⟨h, h3⟩ := Reals.and_one h
  obtain ⟨h, h2⟩ := Reals.and_one h
  obtain ⟨h0, h1⟩ := Reals.and_one h
  exact ⟨Reals.real_of_all _ _ _ _ _ _ h0, Reals.real_of_all _ _ _ _ _ _ h1, Reals.real_of_all _ _ _ _ _ _ h2,
    Reals.real_of_all _ _ _ _ _ _ h3, Reals.real_of_all _ _ _ _ _ _ h4, Reals.real_of_all _ _ _ _ _ _ h5,
    Reals.real_of_all _ _ _ _ _ _ h6⟩

open Cert.LatentBwdIdeal.Value Cert.LatentBwdRefIdeal.Read in
theorem algebraic_LatentBwd : Cert.algebraic_LatentBwdIdeal_LatentBwdRefIdeal_pre_latent_bwd_finite := by
  intro m g m' g' hpre hagree
  refine ⟨fun c => (Cert.LatentBwdIdeal.Gen.dats m 0 c).arrAt 8 Cert.LatentBwdIdeal.cfg0.N,
    fun c => (Cert.LatentBwdIdeal.Gen.dats m 0 c).arrAt 9 Cert.LatentBwdIdeal.cfg0.N,
    fun c => (Cert.LatentBwdIdeal.Gen.dats m 0 c).arrAt 10 Cert.LatentBwdIdeal.cfg0.N,
    run_blocks m g, θ_run_mono (Cert.LatentBwdRefIdeal.Value.run m' g') fun r hr c => ?_⟩
  obtain ⟨h8, h9, h10, h⟩ := hr c
  obtain ⟨e0, e1, e2, e3, e4, e5, e6, e7⟩ := hagree c
  replace h8 := h8.trans (val_main_v96_eq ..)
  rw [e0, e1, e2, e3, e4, e5, e6, e7] at h8
  rw [e0, e3, e5] at h9
  rw [e0, e4, e6] at h10
  refine ⟨h8.trans ((ref96 ..).trans ((?_ : _ = _).trans (final8 m c).symm)),
    h9.trans ((val_main_v88_eq ..).trans ((ref88 ..).trans ((?_ : _ = _).trans (final9 m c).symm))),
    h10.trans ((val_main_v65_eq ..).trans ((ref65 ..).trans ((?_ : _ = _).trans (final10 m c).symm))), h⟩
  all_goals obtain ⟨⟨x0, h0⟩, ⟨x1, h1⟩, ⟨x2, h2⟩, ⟨x3, h3⟩, ⟨x4, h4⟩, ⟨x5, h5⟩, ⟨x6, h6⟩⟩ := finite_LatentBwd _ _ _ _ _ _ _ _ (hpre c)
  · funext i
    change dzr (A0 m c) (A1 m c) (A2 m c) (A3 m c) (A4 m c) (A5 m c) (A6 m c) (A7 m c) _ _ _
      = dz (A0 m c) (A1 m c) (A2 m c) (A3 m c) (A4 m c) (A5 m c) (A6 m c) (A7 m c) _ _ _
    rw [A0, A1, A2, A3, A4, A5, A6, h0, h1, h2, h3, h4, h5, h6]
    exact dzr_eq ..
  · funext i
    change ∑ b, ∑ s, _ * Ideal.rsqrt (Rms.ms (zq (A0 m c) b s) Nq) * dnq (A3 m c) (A5 m c) b s _ = ∑ b, ∑ s, gainq (A0 m c) (A3 m c) (A5 m c) b s _
    rw [A0, h0]
    exact Finset.sum_congr rfl fun b _ => Finset.sum_congr rfl fun s _ => gainq_eq ..
  · funext i
    change ∑ b, ∑ s, _ * Ideal.rsqrt (Rms.ms (zk (A0 m c) b s) Nk) * dnk (A4 m c) (A6 m c) b s _ = ∑ b, ∑ s, gaink (A0 m c) (A4 m c) (A6 m c) b s _
    rw [A0, h0]
    exact Finset.sum_congr rfl fun b _ => Finset.sum_congr rfl fun s _ => gaink_eq ..

end Cert.Proof
end
-- ==== Proof.Norm.lean ====
module

public import proofs.«01_k».proof.Proof.Gen.NormBwdIdeal.Value
public import proofs.«01_k».proof.Proof.Rms
public import Idealize.ShloMosaic.Lib.Pipeline.ValueKit

@[expose] public section

/-! The gradient of the modulated norm behind a product, with the gated residual before it, as its kernel computes it: per tile, then
per array. -/

set_option maxRecDepth 16384

noncomputable section

open Idealize.ShloMosaic Idealize.ShloMosaic.TcCoe Idealize.SL.Sem
open Idealize.ShloMosaic.Pipeline (Dat)

namespace Cert.NormBwdIdeal.Value

open Cert.NormBwdIdeal Cert.NormBwdIdeal.Gen

theorem idx : ∀ t : Fin cfg0.N, win0_0.index t = ![t.val, 0] ∧ win0_1.index t = ![t.val, 0] ∧ win0_2.index t = ![t.val, 0]
    ∧ win0_3.index t = ![t.val, 0] ∧ win0_4.index t = ![t.val / 4, 0, 0] ∧ win0_5.index t = ![t.val / 4, 0, 0] ∧ win0_6.index t = ![0, 0]
    ∧ win0_7.index t = ![0, 0] ∧ win0_8.index t = ![t.val, 0] ∧ win0_9.index t = ![t.val, 0] ∧ win0_10.index t = ![t.val / 4, 0, 0]
    ∧ win0_11.index t = ![t.val / 4, 0, 0] ∧ win0_12.index t = ![t.val / 4, 0, 0] ∧ win0_13.index t = ![0, 0] :=
  (by decide +kernel : ∀ t : Fin grid0.N, _)

/-- The factor that takes the mean over the columns. -/
abbrev μ : EReal := Ideal.ofBits .f32 0x3A800000#32
/-- The number one, added to the modulation's scale. -/
abbrev one : EReal := Ideal.ofBits .f32 0x3F800000#32

/-! ## A tile -/

section Tile

variable (sc ga : Vec Ideal S1x1x1024 .f32) (gm : Vec Ideal S1x1024 .f32) (dg : Vec Ideal S512x5632 .bf16) (x dx : Vec Ideal S512x1024 .f32)
  (f : Vec Ideal S512x1024 .bf16) (w : Vec Ideal S5632x1024 .bf16) (r : Fin 512)

theorem pay9_at (j : Fin 1024) : k0_pay9 dg w (ix2 r j) = ∑ k : Fin 5632, dg (ix2 r k) * w (ix2 k j) := by
  pointwise [k0_pay9]

theorem pay10_at : k0_pay10 x (ix2 r 0) = Rms.inv (fun k : Fin 1024 => x (ix2 r k)) μ := by
  rw [Rms.inv, Rms.eps]
  pointwise [k0_pay10, k0_pay6]

theorem pay11_at (j : Fin 1024) : k0_pay11 sc dg w (ix2 r j) = k0_pay9 dg w (ix2 r j) * (one + sc (ix3 0 0 j)) := by
  unfold k0_pay11
  generalize k0_pay9 dg w = u
  pointwise

theorem pay12_at (j : Fin 1024) : k0_pay12 x (ix2 r j) = x (ix2 r j) * k0_pay10 x (ix2 r 0) := by
  unfold k0_pay12
  generalize k0_pay10 x = u
  pointwise [k0_pay6]

theorem pay13_at (j : Fin 1024) : k0_pay13 sc gm dg w (ix2 r j) = k0_pay11 sc dg w (ix2 r j) * gm (ix2 0 j) := by
  unfold k0_pay13
  generalize k0_pay11 sc dg w = u
  pointwise

theorem pay14_at : k0_pay14 sc gm dg x w (ix1 r) = ∑ k : Fin 1024, k0_pay13 sc gm dg w (ix2 r k) * k0_pay12 x (ix2 r k) := by
  unfold k0_pay14
  generalize k0_pay13 sc gm dg w = u; generalize k0_pay12 x = v
  pointwise

variable (d a b e : FVec Ideal S512x1024 .f32) (i : FVec Ideal S512x1 .f32) (s : FVec Ideal S512 .f32) (h : FVec Ideal S512x1024 .bf16)
  (g : FVec Ideal S1x1024 .f32) (u : Vec Ideal S1x1x1024 .f32) (u2 : Vec Ideal S1x1024 .f32)

theorem pay15_at (j : Fin 1024) : k0_pay15 d i a b s (ix2 r j)
    = d (ix2 r j) + i (ix2 r 0) * (b (ix2 r j) - a (ix2 r j) * (s (ix1 r) * μ)) := by
  pointwise [k0_pay15]

theorem pay20_at (j : Fin 1024) : k0_pay20 g d i a b s (ix2 r j) = g (ix2 0 j) * k0_pay15 d i a b s (ix2 r j) := by
  unfold k0_pay20
  generalize k0_pay15 d i a b s = v
  refine (truncf_apply _ _ _ _).trans ?_
  pointwise

theorem pay16_at (j : Fin 1024) : k0_pay16 d (ix2 0 j) = ∑ r : Fin 512, d (ix2 r j) := by
  pointwise [k0_pay16]

theorem pay17_at (j : Fin 1024) : k0_pay17 gm a d i (ix2 0 j) = ∑ r : Fin 512, d (ix2 r j) * (a (ix2 r j) * i (ix2 r 0) * gm (ix2 0 j)) := by
  pointwise [k0_pay17]

theorem pay18_at (j : Fin 1024) : k0_pay18 d h i a b s (ix2 0 j) = ∑ r : Fin 512, k0_pay15 d i a b s (ix2 r j) * h (ix2 r j) := by
  unfold k0_pay18
  generalize k0_pay15 d i a b s = v
  pointwise

theorem pay19_at (j : Fin 1024) : k0_pay19 a b (ix2 0 j) = ∑ r : Fin 512, a (ix2 r j) * b (ix2 r j) := by
  pointwise [k0_pay19]

theorem pay21_at (j : Fin 1024) : k0_pay21 d (ix3 0 0 j) = k0_pay16 d (ix2 0 j) := by
  unfold k0_pay21
  generalize k0_pay16 d = v
  pointwise

theorem pay22_at (j : Fin 1024) : k0_pay22 d u (ix3 0 0 j) = u (ix3 0 0 j) + k0_pay16 d (ix2 0 j) := by
  unfold k0_pay22
  generalize k0_pay16 d = v
  pointwise

theorem pay23_at (j : Fin 1024) : k0_pay23 gm a d i (ix3 0 0 j) = k0_pay17 gm a d i (ix2 0 j) := by
  unfold k0_pay23
  generalize k0_pay17 gm a d i = v
  pointwise

theorem pay1_at (j : Fin 1024) : k0_pay1 g u (ix3 0 0 j) = u (ix3 0 0 j) + g (ix2 0 j) := by
  pointwise [k0_pay1]

theorem pay2_at (j : Fin 1024) : k0_pay2 g (ix3 0 0 j) = g (ix2 0 j) := by
  pointwise [k0_pay2]

theorem pay3_at (j : Fin 1024) : k0_pay3 g u (ix3 0 0 j) = u (ix3 0 0 j) + g (ix2 0 j) := by
  pointwise [k0_pay3]

theorem pay4_at (j : Fin 1024) : k0_pay4 g u2 (ix2 0 j) = u2 (ix2 0 j) + g (ix2 0 j) := by
  pointwise [k0_pay4]

end Tile

/-- The three kinds of grid point: the first of all, a later tile of a sequence, the first tile of a later sequence. -/
theorem kinds : ∀ t : Fin cfg0.N, (t.val % 4 = 0 ∧ ¬1 ≤ t.val % 4 ∧ t.val % 8 = 0 ∧ ¬1 ≤ t.val)
    ∨ (¬t.val % 4 = 0 ∧ 1 ≤ t.val % 4 ∧ ¬t.val % 8 = 0 ∧ 1 ≤ t.val)
    ∨ (t.val % 4 = 0 ∧ ¬1 ≤ t.val % 4 ∧ ¬t.val % 8 = 0 ∧ 1 ≤ t.val) :=
  (by decide +kernel : ∀ t : Fin grid0.N, _)

section Entry

variable (m : (ℓ : Loc nD τ sig) → Buf (Elt Ideal) ℓ) (c : Dev nD) (t : Fin cfg0.N)

abbrev A0 : FVec Ideal S2x2048x1024 .f32 := m ((c : Thread nD τ).loc main_arg0)
abbrev A1 : FVec Ideal S2x2048x1024 .f32 := m ((c : Thread nD τ).loc main_arg1)
abbrev A2 : FVec Ideal S2x1024 .f32 := m ((c : Thread nD τ).loc main_arg2)
abbrev A4 : FVec Ideal S2x1024 .f32 := m ((c : Thread nD τ).loc main_arg4)
abbrev A5 : FVec Ideal S1x1024 .f32 := m ((c : Thread nD τ).loc main_arg5)
abbrev A6 : FVec Ideal S1x1024x5632 .f32 := m ((c : Thread nD τ).loc main_arg6)
abbrev A7 : FVec Ideal S2x2048x5632 .f32 := m ((c : Thread nD τ).loc main_arg7)
abbrev A8 : FVec Ideal S2x2048x1024 .f32 := m ((c : Thread nD τ).loc main_arg8)

theorem tlt : t.val < 8 := lt_of_lt_of_eq t.isLt N_0

/-- The sequence and the position that row `r` of tile `t` belongs to. -/
abbrev sb : Fin 2 := ⟨t.val / 4, by have := tlt t; omega⟩
abbrev sr (r : Fin 512) : Fin 2048 := ⟨t.val % 4 * 512 + r, by omega⟩
abbrev row (r : Fin 512) : Fin 4096 := ⟨t.val * 512 + r, by have := tlt t; omega⟩

theorem blk0 (r : Fin 512) (k : Fin 5632) : (iblk m c 0 t : Vec Ideal S512x5632 .bf16) (ix2 r k) = A7 m c (ix3 (sb t) (sr t r) k) := by
  have e : (V m c main_v6 : FVec Ideal S4096x5632 .bf16) (ix2 (row t r) k) = A7 m c (ix3 (sb t) (sr t r) k) := by
    entry_read
    pointwise
    blk_ext
  rw [← e]; blk_ext [iblk, idx t]

theorem blk1 (r : Fin 512) (k : Fin 1024) : (iblk m c 1 t : Vec Ideal S512x1024 .f32) (ix2 r k)
    = A0 m c (ix3 (sb t) (sr t r) k) + A2 m c (ix2 (sb t) k) * A1 m c (ix3 (sb t) (sr t r) k) := by
  have e : (V m c main_v10 : FVec Ideal S4096x1024 .f32) (ix2 (row t r) k)
      = A0 m c (ix3 (sb t) (sr t r) k) + A2 m c (ix2 (sb t) k) * A1 m c (ix3 (sb t) (sr t r) k) := by
    entry_read
    pointwise
    refine congrArg₂ (· + · : EReal → EReal → EReal) (by blk_ext) (congrArg₂ (· * · : EReal → EReal → EReal) (by blk_ext) (by blk_ext))
  rw [← e]; blk_ext [iblk, idx t]

theorem blk2 (r : Fin 512) (k : Fin 1024) : (iblk m c 2 t : Vec Ideal S512x1024 .f32) (ix2 r k) = A8 m c (ix3 (sb t) (sr t r) k) := by
  have e : (V m c main_v11 : FVec Ideal S4096x1024 .f32) (ix2 (row t r) k) = A8 m c (ix3 (sb t) (sr t r) k) := by
    entry_read
    pointwise
    blk_ext
  rw [← e]; blk_ext [iblk, idx t]

theorem blk3 (r : Fin 512) (k : Fin 1024) : (iblk m c 3 t : Vec Ideal S512x1024 .bf16) (ix2 r k) = A1 m c (ix3 (sb t) (sr t r) k) := by
  have e : (V m c main_v13 : FVec Ideal S4096x1024 .bf16) (ix2 (row t r) k) = A1 m c (ix3 (sb t) (sr t r) k) := by
    entry_read
    pointwise
    blk_ext
  rw [← e]; blk_ext [iblk, idx t]

theorem blk4 (k : Fin 1024) : (iblk m c 4 t : Vec Ideal S1x1x1024 .f32) (ix3 0 0 k) = A4 m c (ix2 (sb t) k) := by
  have e : (V m c main_v4 : FVec Ideal S2x1x1024 .f32) (ix3 (sb t) 0 k) = A4 m c (ix2 (sb t) k) := by
    entry_read
    pointwise
    blk_ext
  rw [← e]; blk_ext [iblk, idx t]

theorem blk5 (k : Fin 1024) : (iblk m c 5 t : Vec Ideal S1x1x1024 .f32) (ix3 0 0 k) = A2 m c (ix2 (sb t) k) := by
  have e : (V m c main_v14 : FVec Ideal S2x1x1024 .f32) (ix3 (sb t) 0 k) = A2 m c (ix2 (sb t) k) := by
    entry_read
    pointwise
    blk_ext
  rw [← e]; blk_ext [iblk, idx t]

theorem blk6 (k : Fin 1024) : (iblk m c 6 t : Vec Ideal S1x1024 .f32) (ix2 0 k) = A5 m c (ix2 0 k) := by
  have e : (V m c main_arg5 : FVec Ideal S1x1024 .f32) (ix2 0 k) = A5 m c (ix2 0 k) := by
    entry_read
    rfl
  rw [← e]; blk_ext [iblk, idx t]

theorem blk7 (k : Fin 5632) (j : Fin 1024) : (iblk m c 7 t : Vec Ideal S5632x1024 .bf16) (ix2 k j) = A6 m c (ix3 0 j k) := by
  have e : (V m c main_v9 : FVec Ideal S5632x1024 .bf16) (ix2 k j) = A6 m c (ix3 0 j k) := by
    entry_read
    pointwise
    blk_ext
  rw [← e]; blk_ext [iblk, idx t]

end Entry

/-! ## The results in the arguments -/

section Forms

variable (res f : FVec Ideal S2x2048x1024 .f32) (ga sc : FVec Ideal S2x1024 .f32) (gm : FVec Ideal S1x1024 .f32)
  (w : FVec Ideal S1x1024x5632 .f32) (dgu : FVec Ideal S2x2048x5632 .f32) (dx : FVec Ideal S2x2048x1024 .f32) (b : Fin 2) (s : Fin 2048)

/-- The gated residual, the norm's input. -/
def xs (j : Fin 1024) : EReal := res (ix3 b s j) + ga (ix2 b j) * f (ix3 b s j)

/-- The gradient by the modulated norm: the cotangent times the transposed weight. -/
def dh (j : Fin 1024) : EReal := ∑ k : Fin 5632, dgu (ix3 b s k) * w (ix3 0 j k)

/-- The gradient by the gained row, and by the normalised row. -/
def dn (j : Fin 1024) : EReal := dh w dgu b s j * (one + sc (ix2 b j))
def dw (j : Fin 1024) : EReal := dn sc w dgu b s j * gm (ix2 0 j)

/-- The gradient by the residual. -/
def dres (j : Fin 1024) : EReal := dx (ix3 b s j) + Rms.grad (xs res f ga b s) (dw sc gm w dgu b s) μ j

/-- The gradient by the branch. -/
def df (j : Fin 1024) : EReal := ga (ix2 b j) * dres res f ga sc gm w dgu dx b s j

/-- The normalised row. -/
def xhat (j : Fin 1024) : EReal := xs res f ga b s j * Rms.inv (xs res f ga b s) μ

/-- The gradients by the modulation's shift and scale, by the gate and by the gain, of one row. -/
def rscale (j : Fin 1024) : EReal := dh w dgu b s j * (xhat res f ga b s j * gm (ix2 0 j))
def rgate (j : Fin 1024) : EReal := dres res f ga sc gm w dgu dx b s j * f (ix3 b s j)
def rgain (j : Fin 1024) : EReal := dn sc w dgu b s j * xhat res f ga b s j

end Forms

variable (m : (ℓ : Loc nD τ sig) → Buf (Elt Ideal) ℓ) (c : Dev nD)

section Point

variable (t : Fin cfg0.N) (r : Fin 512)

theorem dh_blk (j : Fin 1024) : k0_pay9 (iblk m c 0 t) (iblk m c 7 t) (ix2 r j) = dh (A6 m c) (A7 m c) (sb t) (sr t r) j := by
  rw [pay9_at, dh]; exact Finset.sum_congr rfl fun k _ => by rw [blk0, blk7]

theorem x_blk (j : Fin 1024) : (iblk m c 1 t : Vec Ideal S512x1024 .f32) (ix2 r j) = xs (A0 m c) (A1 m c) (A2 m c) (sb t) (sr t r) j :=
  blk1 m c t r j

theorem x6_blk (j : Fin 1024) : k0_pay6 (iblk m c 1 t) (ix2 r j) = xs (A0 m c) (A1 m c) (A2 m c) (sb t) (sr t r) j := by
  refine Eq.trans ?_ (x_blk m c t r j)
  pointwise [k0_pay6]

theorem inv_blk : k0_pay10 (iblk m c 1 t) (ix2 r 0) = Rms.inv (xs (A0 m c) (A1 m c) (A2 m c) (sb t) (sr t r)) μ := by
  rw [pay10_at]; exact congrArg (Rms.inv · μ) (funext fun k => x_blk m c t r k)

theorem dn_blk (j : Fin 1024) : k0_pay11 (iblk m c 4 t) (iblk m c 0 t) (iblk m c 7 t) (ix2 r j)
    = dn (A4 m c) (A6 m c) (A7 m c) (sb t) (sr t r) j := by
  rw [pay11_at, dh_blk, blk4, dn]

theorem xhat_blk (j : Fin 1024) : k0_pay12 (iblk m c 1 t) (ix2 r j) = xhat (A0 m c) (A1 m c) (A2 m c) (sb t) (sr t r) j := by
  rw [pay12_at, x_blk, inv_blk, xhat]

theorem dw_blk (j : Fin 1024) : k0_pay13 (iblk m c 4 t) (iblk m c 6 t) (iblk m c 0 t) (iblk m c 7 t) (ix2 r j)
    = dw (A4 m c) (A5 m c) (A6 m c) (A7 m c) (sb t) (sr t r) j := by
  rw [pay13_at, dn_blk, blk6, dw]

/-- The tile's gradients by the residual and by the branch, and its column sums. -/
abbrev P8 : FVec Ideal S512x1024 .f32 := k0_pay15 (k0_pay7 (iblk m c 2 t)) (k0_pay10 (iblk m c 1 t)) (k0_pay12 (iblk m c 1 t))
  (k0_pay13 (iblk m c 4 t) (iblk m c 6 t) (iblk m c 0 t) (iblk m c 7 t))
  (k0_pay14 (iblk m c 4 t) (iblk m c 6 t) (iblk m c 0 t) (iblk m c 1 t) (iblk m c 7 t))
abbrev P9 : FVec Ideal S512x1024 .bf16 := k0_pay20 (k0_pay5 (iblk m c 5 t)) (k0_pay7 (iblk m c 2 t)) (k0_pay10 (iblk m c 1 t))
  (k0_pay12 (iblk m c 1 t)) (k0_pay13 (iblk m c 4 t) (iblk m c 6 t) (iblk m c 0 t) (iblk m c 7 t))
  (k0_pay14 (iblk m c 4 t) (iblk m c 6 t) (iblk m c 0 t) (iblk m c 1 t) (iblk m c 7 t))
abbrev P10 : FVec Ideal S1x1024 .f32 := k0_pay16 (k0_pay9 (iblk m c 0 t) (iblk m c 7 t))
abbrev P11 : FVec Ideal S1x1024 .f32 := k0_pay17 (iblk m c 6 t) (k0_pay6 (iblk m c 1 t)) (k0_pay9 (iblk m c 0 t) (iblk m c 7 t))
  (k0_pay10 (iblk m c 1 t))
abbrev P12 : FVec Ideal S1x1024 .f32 := k0_pay18 (k0_pay7 (iblk m c 2 t)) (k0_pay8 (iblk m c 3 t)) (k0_pay10 (iblk m c 1 t))
  (k0_pay12 (iblk m c 1 t)) (k0_pay13 (iblk m c 4 t) (iblk m c 6 t) (iblk m c 0 t) (iblk m c 7 t))
  (k0_pay14 (iblk m c 4 t) (iblk m c 6 t) (iblk m c 0 t) (iblk m c 1 t) (iblk m c 7 t))
abbrev P13 : FVec Ideal S1x1024 .f32 := k0_pay19 (k0_pay11 (iblk m c 4 t) (iblk m c 0 t) (iblk m c 7 t)) (k0_pay12 (iblk m c 1 t))

theorem pt8 (j : Fin 1024) : P8 m c t (ix2 r j)
    = dres (A0 m c) (A1 m c) (A2 m c) (A4 m c) (A5 m c) (A6 m c) (A7 m c) (A8 m c) (sb t) (sr t r) j := by
  have e : k0_pay7 (iblk m c 2 t) (ix2 r j) = A8 m c (ix3 (sb t) (sr t r) j) := by
    refine Eq.trans ?_ (blk2 m c t r j)
    pointwise [k0_pay7]
  rw [P8, pay15_at, pay14_at, e, dres, Rms.grad]
  simp only [dw_blk, xhat_blk, inv_blk, xhat]

theorem pt9 (j : Fin 1024) : P9 m c t (ix2 r j)
    = df (A0 m c) (A1 m c) (A2 m c) (A4 m c) (A5 m c) (A6 m c) (A7 m c) (A8 m c) (sb t) (sr t r) j := by
  have e : k0_pay5 (iblk m c 5 t) (ix2 0 j) = A2 m c (ix2 (sb t) j) := by
    refine Eq.trans ?_ (blk5 m c t j)
    pointwise [k0_pay5]
  rw [P9, pay20_at, e, ← P8, pt8, df]

theorem pt10 (j : Fin 1024) : P10 m c t (ix2 0 j) = ∑ r : Fin 512, dh (A6 m c) (A7 m c) (sb t) (sr t r) j :=
  (pay16_at _ _).trans (Finset.sum_congr rfl fun r _ => dh_blk m c t r j)

theorem pt11 (j : Fin 1024) : P11 m c t (ix2 0 j)
    = ∑ r : Fin 512, rscale (A0 m c) (A1 m c) (A2 m c) (A5 m c) (A6 m c) (A7 m c) (sb t) (sr t r) j :=
  (pay17_at _ _ _ _ _).trans (Finset.sum_congr rfl fun r _ => by rw [dh_blk, x6_blk, inv_blk, blk6, rscale, xhat])

theorem pt12 (j : Fin 1024) : P12 m c t (ix2 0 j)
    = ∑ r : Fin 512, rgate (A0 m c) (A1 m c) (A2 m c) (A4 m c) (A5 m c) (A6 m c) (A7 m c) (A8 m c) (sb t) (sr t r) j := by
  refine (pay18_at _ _ _ _ _ _ _).trans (Finset.sum_congr rfl fun r _ => ?_)
  have e : k0_pay8 (iblk m c 3 t) (ix2 r j) = A1 m c (ix3 (sb t) (sr t r) j) := by
    refine Eq.trans ?_ (blk3 m c t r j)
    pointwise [k0_pay8]
  rw [e, ← P8, pt8, rgate]

theorem pt13 (j : Fin 1024) : P13 m c t (ix2 0 j)
    = ∑ r : Fin 512, rgain (A0 m c) (A1 m c) (A2 m c) (A4 m c) (A6 m c) (A7 m c) (sb t) (sr t r) j :=
  (pay19_at _ _ _).trans (Finset.sum_congr rfl fun r _ => by rw [dn_blk, xhat_blk, rgain])

theorem left8 : (outsAt0 m c t.val t.isLt).1 = P8 m c t := by
  rcases kinds t with ⟨h0, h1, h2, h3⟩ | ⟨h0, h1, h2, h3⟩ | ⟨h0, h1, h2, h3⟩
  · rw [outsAt0_A m c t h0 h1 h0 h1 h0 h1 h2 h3]; frame_out; try rfl
  · rw [outsAt0_B m c t h0 h1 h0 h1 h0 h1 h2 h3]; frame_out; try rfl
  · rw [outsAt0_C m c t h0 h1 h0 h1 h0 h1 h2 h3]; frame_out; try rfl

theorem left9 : (outsAt0 m c t.val t.isLt).2.1 = P9 m c t := by
  rcases kinds t with ⟨h0, h1, h2, h3⟩ | ⟨h0, h1, h2, h3⟩ | ⟨h0, h1, h2, h3⟩
  · rw [outsAt0_A m c t h0 h1 h0 h1 h0 h1 h2 h3]; frame_out; try rfl
  · rw [outsAt0_B m c t h0 h1 h0 h1 h0 h1 h2 h3]; frame_out; try rfl
  · rw [outsAt0_C m c t h0 h1 h0 h1 h0 h1 h2 h3]; frame_out; try rfl

theorem reset10 (h : t.val % 4 = 0) (l : Fin 1024) : (outsAt0 m c t.val t.isLt).2.2.1 (ix3 0 0 l) = P10 m c t (ix2 0 l) := by
  rcases kinds t with ⟨h0, h1, h2, h3⟩ | ⟨h0, h1, h2, h3⟩ | ⟨h0, h1, h2, h3⟩
  · rw [outsAt0_A m c t h0 h1 h0 h1 h0 h1 h2 h3]; frame_out; exact pay21_at ..
  · exact absurd h h0
  · rw [outsAt0_C m c t h0 h1 h0 h1 h0 h1 h2 h3]; frame_out; exact pay21_at ..

theorem step10 (h : ¬t.val % 4 = 0) (l : Fin 1024) : (outsAt0 m c t.val t.isLt).2.2.1 (ix3 0 0 l)
    = (outsAt0 m c (t.val - 1) (Nat.lt_of_le_of_lt (Nat.sub_le _ _) t.isLt)).2.2.1 (ix3 0 0 l) + P10 m c t (ix2 0 l) := by
  rcases kinds t with ⟨h0, h1, h2, h3⟩ | ⟨h0, h1, h2, h3⟩ | ⟨h0, h1, h2, h3⟩
  · exact absurd h0 h
  · rw [outsAt0_B m c t h0 h1 h0 h1 h0 h1 h2 h3]; frame_out; exact pay22_at ..
  · exact absurd h0 h

theorem reset11 (h : t.val % 4 = 0) (l : Fin 1024) : (outsAt0 m c t.val t.isLt).2.2.2.1 (ix3 0 0 l) = P11 m c t (ix2 0 l) := by
  rcases kinds t with ⟨h0, h1, h2, h3⟩ | ⟨h0, h1, h2, h3⟩ | ⟨h0, h1, h2, h3⟩
  · rw [outsAt0_A m c t h0 h1 h0 h1 h0 h1 h2 h3]; frame_out; exact pay23_at ..
  · exact absurd h h0
  · rw [outsAt0_C m c t h0 h1 h0 h1 h0 h1 h2 h3]; frame_out; exact pay23_at ..

theorem step11 (h : ¬t.val % 4 = 0) (l : Fin 1024) : (outsAt0 m c t.val t.isLt).2.2.2.1 (ix3 0 0 l)
    = (outsAt0 m c (t.val - 1) (Nat.lt_of_le_of_lt (Nat.sub_le _ _) t.isLt)).2.2.2.1 (ix3 0 0 l) + P11 m c t (ix2 0 l) := by
  rcases kinds t with ⟨h0, h1, h2, h3⟩ | ⟨h0, h1, h2, h3⟩ | ⟨h0, h1, h2, h3⟩
  · exact absurd h0 h
  · rw [outsAt0_B m c t h0 h1 h0 h1 h0 h1 h2 h3]; frame_out; exact pay1_at ..
  · exact absurd h0 h

theorem reset12 (h : t.val % 4 = 0) (l : Fin 1024) : (outsAt0 m c t.val t.isLt).2.2.2.2.1 (ix3 0 0 l) = P12 m c t (ix2 0 l) := by
  rcases kinds t with ⟨h0, h1, h2, h3⟩ | ⟨h0, h1, h2, h3⟩ | ⟨h0, h1, h2, h3⟩
  · rw [outsAt0_A m c t h0 h1 h0 h1 h0 h1 h2 h3]; frame_out; exact pay2_at ..
  · exact absurd h h0
  · rw [outsAt0_C m c t h0 h1 h0 h1 h0 h1 h2 h3]; frame_out; exact pay2_at ..

theorem step12 (h : ¬t.val % 4 = 0) (l : Fin 1024) : (outsAt0 m c t.val t.isLt).2.2.2.2.1 (ix3 0 0 l)
    = (outsAt0 m c (t.val - 1) (Nat.lt_of_le_of_lt (Nat.sub_le _ _) t.isLt)).2.2.2.2.1 (ix3 0 0 l) + P12 m c t (ix2 0 l) := by
  rcases kinds t with ⟨h0, h1, h2, h3⟩ | ⟨h0, h1, h2, h3⟩ | ⟨h0, h1, h2, h3⟩
  · exact absurd h0 h
  · rw [outsAt0_B m c t h0 h1 h0 h1 h0 h1 h2 h3]; frame_out; exact pay3_at ..
  · exact absurd h0 h

theorem reset13 (h : t.val % 8 = 0) (l : Fin 1024) : (outsAt0 m c t.val t.isLt).2.2.2.2.2 (ix2 0 l) = P13 m c t (ix2 0 l) := by
  rcases kinds t with ⟨h0, h1, h2, h3⟩ | ⟨h0, h1, h2, h3⟩ | ⟨h0, h1, h2, h3⟩
  · rw [outsAt0_A m c t h0 h1 h0 h1 h0 h1 h2 h3]; frame_out; try rfl
  · exact absurd h h2
  · exact absurd h h2

theorem step13 (h : ¬t.val % 8 = 0) (l : Fin 1024) : (outsAt0 m c t.val t.isLt).2.2.2.2.2 (ix2 0 l)
    = (outsAt0 m c (t.val - 1) (Nat.lt_of_le_of_lt (Nat.sub_le _ _) t.isLt)).2.2.2.2.2 (ix2 0 l) + P13 m c t (ix2 0 l) := by
  rcases kinds t with ⟨h0, h1, h2, h3⟩ | ⟨h0, h1, h2, h3⟩ | ⟨h0, h1, h2, h3⟩
  · exact absurd h2 h
  · rw [outsAt0_B m c t h0 h1 h0 h1 h0 h1 h2 h3]; frame_out; exact pay4_at ..
  · rw [outsAt0_C m c t h0 h1 h0 h1 h0 h1 h2 h3]; frame_out; exact pay4_at ..

end Point

theorem final8 : (dats m 0 c).arrAt 8 cfg0.N = fun i : S4096x1024.Idx => dres (A0 m c) (A1 m c) (A2 m c) (A4 m c) (A5 m c) (A6 m c)
    (A7 m c) (A8 m c) (Reals.bat (i 0)) (Reals.pos (i 0)) (i 1) := by
  refine (dats m 0 c).arrAt_eq_of_covers 8 _ (by decide +kernel) fun t hf y => ?_
  blk_simp
  rw [after0_8, left8]
  obtain ⟨r, l, rfl⟩ : ∃ (r : Fin 512) (l : Fin 1024), y = ix2 r l := ⟨_, _, eq_ix2 y⟩
  rw [pt8]
  have ht := tlt t
  congr 1 <;> (apply Fin.ext; try dsimp only [Reals.bat, Reals.pos, sb, sr]; blk_simp [idx t]; try omega)

theorem final9 : (dats m 0 c).arrAt 9 cfg0.N = fun i : S4096x1024.Idx => df (A0 m c) (A1 m c) (A2 m c) (A4 m c) (A5 m c) (A6 m c)
    (A7 m c) (A8 m c) (Reals.bat (i 0)) (Reals.pos (i 0)) (i 1) := by
  refine (dats m 0 c).arrAt_eq_of_covers 9 _ (by decide +kernel) fun t hf y => ?_
  blk_simp
  rw [after0_9, left9]
  obtain ⟨r, l, rfl⟩ : ∃ (r : Fin 512) (l : Fin 1024), y = ix2 r l := ⟨_, _, eq_ix2 y⟩
  rw [pt9]
  have ht := tlt t
  congr 1 <;> (apply Fin.ext; try dsimp only [Reals.bat, Reals.pos, sb, sr]; blk_simp [idx t]; try omega)

/-- The rows of a sequence, tile by tile, are its positions. -/
theorem sum_rows (f : Fin 2 → Fin 2048 → EReal) (t : Fin cfg0.N) (p : Fin 4 → Fin cfg0.N) (hp : ∀ s, (p s).val = 4 * (t.val / 4) + s.val) :
    ∑ s : Fin 4, ∑ r : Fin 512, f (sb (p s)) (sr (p s) r) = ∑ s : Fin 2048, f (sb t) s := by
  have ht := tlt t
  refine Eq.trans ?_ (Fin.sum_mul_add_fin 4 512 fun s => f (sb t) s)
  refine Fin.sum_fin_congr fun s => Fin.sum_fin_congr fun r => ?_
  have e1 : sb (p s) = sb t := by ext; simp only [sb, hp]; omega
  have e3 : sr (p s) r = ⟨s.val * 512 + r.val, by omega⟩ := by ext; simp only [sr, hp]; omega
  rw [e1, e3]

theorem final10 : (dats m 0 c).arrAt 10 cfg0.N = fun i : S2x1x1024.Idx => ∑ s : Fin 2048, dh (A6 m c) (A7 m c) (i 0) s (i 2) := by
  refine (dats m 0 c).arrAt_eq_of_covers 10 _ (by decide +kernel) fun t hf y => ?_
  blk_simp
  rw [after0_10]
  obtain ⟨l, rfl⟩ : ∃ l : Fin 1024, y = ix3 0 0 l := ⟨y 2, by rw [eq_ix3 y]; congr 1 <;> exact Subsingleton.elim (α := Fin 1) _ _⟩
  have h := Pipeline.eq_sum_fin_of_reset_step_apply_of_flush (fun n h (l : Fin 1024) => ((outsAt0 m c n h).2.2.1 (ix3 0 0 l) : EReal)) 4
    (fun _ => 0) (fun t l => P10 m c t (ix2 0 l)) (fun t h l => by rw [zero_add]; exact reset10 m c t h l) (fun t h l => step10 m c t h l)
    t ((flush0_10 t).mp hf) l
  refine h.trans ?_
  have e0 : (win0_10.blk t).view.emb (ix3 0 0 l) 0 = sb t := by apply Fin.ext; blk_simp [idx t]; rfl
  have e2 : (win0_10.blk t).view.emb (ix3 0 0 l) 2 = l := by apply Fin.ext; blk_simp [idx t]
  rw [zero_add, e0, e2]
  refine Eq.trans (Fin.sum_fin_congr fun s => pt10 m c _ l) ?_
  exact sum_rows (fun b s => dh (A6 m c) (A7 m c) b s l) t _ fun s => rfl

theorem final11 : (dats m 0 c).arrAt 11 cfg0.N = fun i : S2x1x1024.Idx =>
    ∑ s : Fin 2048, rscale (A0 m c) (A1 m c) (A2 m c) (A5 m c) (A6 m c) (A7 m c) (i 0) s (i 2) := by
  refine (dats m 0 c).arrAt_eq_of_covers 11 _ (by decide +kernel) fun t hf y => ?_
  blk_simp
  rw [after0_11]
  obtain ⟨l, rfl⟩ : ∃ l : Fin 1024, y = ix3 0 0 l := ⟨y 2, by rw [eq_ix3 y]; congr 1 <;> exact Subsingleton.elim (α := Fin 1) _ _⟩
  have h := Pipeline.eq_sum_fin_of_reset_step_apply_of_flush (fun n h (l : Fin 1024) => ((outsAt0 m c n h).2.2.2.1 (ix3 0 0 l) : EReal)) 4
    (fun _ => 0) (fun t l => P11 m c t (ix2 0 l)) (fun t h l => by rw [zero_add]; exact reset11 m c t h l) (fun t h l => step11 m c t h l)
    t ((flush0_11 t).mp hf) l
  refine h.trans ?_
  have e0 : (win0_11.blk t).view.emb (ix3 0 0 l) 0 = sb t := by apply Fin.ext; blk_simp [idx t]; rfl
  have e2 : (win0_11.blk t).view.emb (ix3 0 0 l) 2 = l := by apply Fin.ext; blk_simp [idx t]
  rw [zero_add, e0, e2]
  refine Eq.trans (Fin.sum_fin_congr fun s => pt11 m c _ l) ?_
  exact sum_rows (fun b s => rscale (A0 m c) (A1 m c) (A2 m c) (A5 m c) (A6 m c) (A7 m c) b s l) t _ fun s => rfl

theorem final12 : (dats m 0 c).arrAt 12 cfg0.N = fun i : S2x1x1024.Idx =>
    ∑ s : Fin 2048, rgate (A0 m c) (A1 m c) (A2 m c) (A4 m c) (A5 m c) (A6 m c) (A7 m c) (A8 m c) (i 0) s (i 2) := by
  refine (dats m 0 c).arrAt_eq_of_covers 12 _ (by decide +kernel) fun t hf y => ?_
  blk_simp
  rw [after0_12]
  obtain ⟨l, rfl⟩ : ∃ l : Fin 1024, y = ix3 0 0 l := ⟨y 2, by rw [eq_ix3 y]; congr 1 <;> exact Subsingleton.elim (α := Fin 1) _ _⟩
  have h := Pipeline.eq_sum_fin_of_reset_step_apply_of_flush (fun n h (l : Fin 1024) => ((outsAt0 m c n h).2.2.2.2.1 (ix3 0 0 l) : EReal)) 4
    (fun _ => 0) (fun t l => P12 m c t (ix2 0 l)) (fun t h l => by rw [zero_add]; exact reset12 m c t h l) (fun t h l => step12 m c t h l)
    t ((flush0_12 t).mp hf) l
  refine h.trans ?_
  have e0 : (win0_12.blk t).view.emb (ix3 0 0 l) 0 = sb t := by apply Fin.ext; blk_simp [idx t]; rfl
  have e2 : (win0_12.blk t).view.emb (ix3 0 0 l) 2 = l := by apply Fin.ext; blk_simp [idx t]
  rw [zero_add, e0, e2]
  refine Eq.trans (Fin.sum_fin_congr fun s => pt12 m c _ l) ?_
  exact sum_rows (fun b s => rgate (A0 m c) (A1 m c) (A2 m c) (A4 m c) (A5 m c) (A6 m c) (A7 m c) (A8 m c) b s l) t _ fun s => rfl

theorem final13 : (dats m 0 c).arrAt 13 cfg0.N = fun i : S1x1024.Idx =>
    ∑ b : Fin 2, ∑ s : Fin 2048, rgain (A0 m c) (A1 m c) (A2 m c) (A4 m c) (A6 m c) (A7 m c) b s (i 1) := by
  refine (dats m 0 c).arrAt_eq_of_after_last 13 t0_7 (by decide +kernel) _ fun j => ?_
  blk_simp
  rw [after0_13]
  obtain ⟨l, rfl⟩ : ∃ l : Fin 1024, j = ix2 0 l := ⟨j 1, by rw [eq_ix2 j]; congr 1; exact Subsingleton.elim (α := Fin 1) _ _⟩
  have h := Pipeline.eq_sum_fin_of_reset_step_apply_last (fun n h (l : Fin 1024) => ((outsAt0 m c n h).2.2.2.2.2 (ix2 0 l) : EReal)) 8
    (fun _ => 0) (fun t l => P13 m c t (ix2 0 l)) (fun t h l => by rw [zero_add]; exact reset13 m c t h l) (fun t h l => step13 m c t h l)
    (le_of_eq N_0) t0_7 rfl l
  refine h.trans ?_
  rw [zero_add]
  refine Eq.trans (Fin.sum_fin_congr fun t => pt13 m c t l) ?_
  exact Fin.sum_points_lanes_congr 4 (fun t r ha hs => rfl)

end Cert.NormBwdIdeal.Value
end
-- ==== Proof.NormBwdClaim.lean ====
module

public import proofs.«01_k».proof.Defs
public import proofs.«01_k».proof.Proof.NormRef
public import proofs.«01_k».proof.Proof.Gen.NormBwdRefIdeal.Run
public import proofs.«01_k».proof.Proof.Gen.NormBwd.Frame

@[expose] public section

set_option maxHeartbeats 1600000

noncomputable section

namespace Cert.Proof

open Idealize.ShloMosaic Idealize.ShloMosaic.TcCoe Idealize.SL.Sem

instance facts_norm_bwd : Pre_norm_bwd_finite.Facts := by constructor <;> decide

open Pre_norm_bwd_finite in
/-- Arguments that pass the precondition are arrays of real numbers. -/
theorem finite_NormBwd (x0 x1 : FVec Ideal S2x2048x1024 .f32) (x2 x3 x4 : FVec Ideal S2x1024 .f32) (x5 : FVec Ideal S1x1024 .f32)
    (x6 : FVec Ideal S1x1024x5632 .f32) (x7 : FVec Ideal S2x2048x5632 .f32) (x8 : FVec Ideal S2x2048x1024 .f32)
    (h : Pre_norm_bwd_finite.fn (F := Ideal) x0 x1 x2 x3 x4 x5 x6 x7 x8 = fun _ => 1#1) :
    (∃ r, x0 = Reals.up r) ∧ (∃ r, x1 = Reals.up r) ∧ (∃ r, x2 = Reals.up r) ∧ (∃ r, x4 = Reals.up r) ∧ (∃ r, x5 = Reals.up r)
      ∧ (∃ r, x6 = Reals.up r) ∧ (∃ r, x7 = Reals.up r) := by
  have h1 := congrFun h (fun a => a.elim0)
  unfold Pre_norm_bwd_finite.fn at h1
  obtain ⟨h, h8⟩ := Reals.and_one h1
  obtain ⟨h, h7⟩ := Reals.and_one h
  obtain ⟨h, h6⟩ := Reals.and_one h
  obtain ⟨h, h5⟩ := Reals.and_one h
  obtain ⟨h, h4⟩ := Reals.and_one h
  obtain ⟨h, h2⟩ := Reals.and_one h
  obtain ⟨h0, h1⟩ := Reals.and_one h
  exact ⟨Reals.real_of_all _ _ _ _ _ _ h0, Reals.real_of_all _ _ _ _ _ _ h1, Reals.real_of_all _ _ _ _ _ _ h2,
    Reals.real_of_all _ _ _ _ _ _ h4, Reals.real_of_all _ _ _ _ _ _ h5, Reals.real_of_all _ _ _ _ _ _ h6,
    Reals.real_of_all _ _ _ _ _ _ h7⟩

open Cert.NormBwdIdeal.Value Cert.NormBwdRefIdeal.Read in
theorem algebraic_NormBwd : Cert.algebraic_NormBwdIdeal_NormBwdRefIdeal_pre_norm_bwd_finite := by
  intro m g m' g' hpre hagree
  refine ⟨fun c => (Cert.NormBwdIdeal.Gen.dats m 0 c).arrAt 8 Cert.NormBwdIdeal.cfg0.N,
    fun c => (Cert.NormBwdIdeal.Gen.dats m 0 c).arrAt 9 Cert.NormBwdIdeal.cfg0.N,
    fun c => (Cert.NormBwdIdeal.Gen.dats m 0 c).arrAt 10 Cert.NormBwdIdeal.cfg0.N,
    fun c => (Cert.NormBwdIdeal.Gen.dats m 0 c).arrAt 11 Cert.NormBwdIdeal.cfg0.N,
    fun c => (Cert.NormBwdIdeal.Gen.dats m 0 c).arrAt 12 Cert.NormBwdIdeal.cfg0.N,
    fun c => (Cert.NormBwdIdeal.Gen.dats m 0 c).arrAt 13 Cert.NormBwdIdeal.cfg0.N,
    run_blocks m g, θ_run_mono (Cert.NormBwdRefIdeal.Value.run m' g') fun r hr c => ?_⟩
  obtain ⟨h8, h9, h10, h11, h12, h13, h⟩ := hr c
  obtain ⟨e0, e1, e2, e3, e4, e5, e6, e7, e8⟩ := hagree c
  replace h8 := h8.trans (val_main_v70_eq ..)
  replace h9 := h9.trans (val_main_v72_eq ..)
  replace h10 := h10.trans (val_main_v73_eq ..)
  replace h11 := h11.trans (val_main_v74_eq ..)
  replace h12 := h12.trans (val_main_v75_eq ..)
  replace h13 := h13.trans (val_main_v62_eq ..)
  rw [e0, e1, e2, e4, e5, e6, e7, e8] at h8 h9 h12
  rw [e6, e7] at h10
  rw [e0, e1, e2, e5, e6, e7] at h11
  rw [e0, e1, e2, e4, e6, e7] at h13
  refine ⟨h8.trans ((ref70 ..).trans ((?_ : _ = _).trans (final8 m c).symm)), h9.trans ((ref72 ..).trans ((?_ : _ = _).trans (final9 m c).symm)),
    h10.trans ((ref73 ..).trans (final10 m c).symm), h11.trans ((ref74 ..).trans ((?_ : _ = _).trans (final11 m c).symm)),
    h12.trans ((ref75 ..).trans ((?_ : _ = _).trans (final12 m c).symm)), h13.trans ((ref62 ..).trans ((?_ : _ = _).trans (final13 m c).symm)), h⟩
  all_goals obtain ⟨⟨x0, h0⟩, ⟨x1, h1⟩, ⟨x2, h2⟩, ⟨x4, h4⟩, ⟨x5, h5⟩, ⟨x6, h6⟩, ⟨x7, h7⟩⟩ := finite_NormBwd _ _ _ _ _ _ _ _ _ (hpre c)
  · funext i
    change dresR (A0 m c) (A1 m c) (A2 m c) (A4 m c) (A5 m c) (A6 m c) (A7 m c) (A8 m c) _ _ _
      = dres (A0 m c) (A1 m c) (A2 m c) (A4 m c) (A5 m c) (A6 m c) (A7 m c) (A8 m c) _ _ _
    rw [A0, A1, A2, A4, A5, A6, A7, h0, h1, h2, h4, h5, h6, h7]
    exact dres_eq ..
  · funext i
    change A2 m c _ * dresR (A0 m c) (A1 m c) (A2 m c) (A4 m c) (A5 m c) (A6 m c) (A7 m c) (A8 m c) _ _ _
      = A2 m c _ * dres (A0 m c) (A1 m c) (A2 m c) (A4 m c) (A5 m c) (A6 m c) (A7 m c) (A8 m c) _ _ _
    rw [A0, A1, A2, A4, A5, A6, A7, h0, h1, h2, h4, h5, h6, h7]
    exact congrArg _ (dres_eq ..)
  · funext i
    change ∑ s, xhatR (A0 m c) (A1 m c) (A2 m c) _ _ _ * A5 m c _ * dh (A6 m c) (A7 m c) _ _ _
      = ∑ s, dh (A6 m c) (A7 m c) _ _ _ * (xhat (A0 m c) (A1 m c) (A2 m c) _ _ _ * A5 m c _)
    rw [A0, A1, A2, h0, h1, h2]
    exact Finset.sum_congr rfl fun s _ => (mul_comm _ _).trans (congrArg (fun q : EReal => _ * (q * _)) (xhat_eq ..))
  · funext i
    change ∑ s, dresR (A0 m c) (A1 m c) (A2 m c) (A4 m c) (A5 m c) (A6 m c) (A7 m c) (A8 m c) _ _ _ * A1 m c _
      = ∑ s, dres (A0 m c) (A1 m c) (A2 m c) (A4 m c) (A5 m c) (A6 m c) (A7 m c) (A8 m c) _ _ _ * A1 m c _
    rw [A0, A1, A2, A4, A5, A6, A7, h0, h1, h2, h4, h5, h6, h7]
    exact Finset.sum_congr rfl fun s _ => congrArg (fun q : EReal => q * _) (dres_eq ..)
  · funext i
    change ∑ b, ∑ s, xhatR (A0 m c) (A1 m c) (A2 m c) _ _ _ * dn (A4 m c) (A6 m c) (A7 m c) _ _ _
      = ∑ b, ∑ s, dn (A4 m c) (A6 m c) (A7 m c) _ _ _ * xhat (A0 m c) (A1 m c) (A2 m c) _ _ _
    rw [A0, A1, A2, h0, h1, h2]
    exact Finset.sum_congr rfl fun b _ => Finset.sum_congr rfl fun s _ =>
      (mul_comm _ _).trans (congrArg₂ (· * · : EReal → EReal → EReal) rfl (xhat_eq ..))

end Cert.Proof
end
-- ==== Proof.Attn.lean ====
module

public import proofs.«01_k».proof.Proof.Gen.AttnBwdIdeal.Value
public import proofs.«01_k».proof.Proof.Rms
public import Idealize.ShloMosaic.Lib.Pipeline.ValueKit
public import Idealize.ShloMosaic.Lib.KernelVsHost

@[expose] public section

/-! The gradient of the causal attention, as its kernel computes it: a tile of 256 query rows after another, then per head. -/

set_option maxRecDepth 16384

noncomputable section

open Idealize.ShloMosaic Idealize.ShloMosaic.TcCoe Idealize.SL.Sem
open Idealize.ShloMosaic.Pipeline (Dat)

namespace Cert.AttnBwdIdeal.Value

open Cert.AttnBwdIdeal Cert.AttnBwdIdeal.Gen

/-- The scale of the scores. -/
abbrev sc : EReal := Ideal.ofBits .f32 0x3DD105EC#32

theorem named : Named.named (F := Ideal) κ "mask" (φ := .f32) 0xF149F2CA#32 = (⊥ : EReal) :=
  IdealRules.named_const.ideal_named_scalar κ "mask" (φ := .f32) _ _ rfl

/-! ## A tile of 256 queries against the first `N` keys -/

section Generic

variable {N : ℕ} (n : ℕ) (q o d : Vec Ideal S256x128 .bf16) (k v : Vec Ideal ⟨2, ![N, 128]⟩ .bf16) (l : Vec Ideal S256x128 .f32)

def sT (r : Fin 256) (j : Fin N) : EReal := (∑ e : Fin 128, q (ix2 r e) * k (ix2 j e)) * sc

def pT (r : Fin 256) (j : Fin N) : EReal :=
  Ideal.exp ((if j.val ≤ n + r.val then sT q k r j else ⊥) - l (ix2 r (⟨j.val % 128, Nat.mod_lt _ (by omega)⟩ : Fin 128)))

def dT (r : Fin 256) (j : Fin N) : EReal :=
  (∑ e : Fin 128, d (ix2 r e) * v (ix2 j e)) - ∑ e : Fin 128, d (ix2 r e) * o (ix2 r e)

def gT (r : Fin 256) (j : Fin N) : EReal := pT n q k l r j * dT o d v r j * sc

theorem lanes (M : ℕ) (x : Vec Ideal S256x128 .f32)
    (h : Shape.Concatenates ((List.replicate M (⟨S256x128, x⟩ : (s : Shape) × (s.Idx → Elt Ideal .f32))).map (·.1)) (⟨2, ![256, N]⟩ : Shape) 1)
    (r : Fin 256) (j : Fin N) :
    concatenate (⟨2, ![256, N]⟩ : Shape) 1 (List.replicate M (⟨S256x128, x⟩ : (s : Shape) × (s.Idx → Elt Ideal .f32))) h (ix2 r j)
      = x (ix2 r (⟨j.val % 128, Nat.mod_lt _ (by omega)⟩ : Fin 128)) :=
  concatenate_replicate_apply 1 M x h rfl (ix2 r j) _ rfl (fun b hb => by fin_cases b <;> first | rfl | exact absurd rfl hb)

theorem le_of (a b : ℕ) (ha : a < 2048) (hb : b < 2048) : ((BitVec.ofNat 32 a).sle (BitVec.ofNat 32 b) = true) ↔ a ≤ b := by
  rw [BitVec.sle_eq_decide]
  simp only [decide_eq_true_eq]
  rw [BitVec.toInt_eq_toNat_of_lt (by simp; omega), BitVec.toInt_eq_toNat_of_lt (by simp; omega)]
  simp only [BitVec.toNat_ofNat]
  rw [Nat.mod_eq_of_lt (by omega), Nat.mod_eq_of_lt (by omega)]
  omega

theorem select_le (a b : ℕ) (ha : a < 256) (hb : b < 256) (x : EReal) :
    Scalar.select (IntOp.cmpi CmpIPredicate.sle (BitVec.ofNat 32 a) (BitVec.ofNat 32 b)) x
      (Named.named (F := Ideal) κ "mask" (φ := .f32) 0xF149F2CA#32) = if a ≤ b then x else ⊥ := by
  rw [named]
  by_cases h : a ≤ b
  · rw [if_pos h]
    simp [Scalar.select, IntOp.cmpi, (le_of a b (by omega) (by omega)).2 h]
  · rw [if_neg h]
    have := mt (le_of a b (by omega) (by omega)).1 h
    simp [Scalar.select, IntOp.cmpi, this]

/-- What the first `256 * i` queries leave in a key's row: query `q` reads the keys below the end of its block of 256. -/
def rowsUpTo (T : Fin 2048 → Fin 2048 → Fin 128 → EReal) (i : ℕ) (j : Fin 2048) (e : Fin 128) : EReal :=
  ∑ s ∈ Finset.range (256 * i), if h : s < 2048 then (if j.val < 256 * (s / 256 + 1) then T ⟨s, h⟩ j e else 0) else 0

theorem rowsUpTo_zero (T : Fin 2048 → Fin 2048 → Fin 128 → EReal) (j : Fin 2048) (e : Fin 128) : rowsUpTo T 0 j e = 0 := by
  simp [rowsUpTo]

theorem rowsUpTo_succ (T : Fin 2048 → Fin 2048 → Fin 128 → EReal) (i : ℕ) (hi : 256 * i + 256 ≤ 2048) (j : Fin 2048) (e : Fin 128) :
    rowsUpTo T (i + 1) j e = if j.val < 256 * i + 256 then rowsUpTo T i j e + ∑ r : Fin 256, T ⟨256 * i + r.val, by omega⟩ j e
      else rowsUpTo T i j e := by
  unfold rowsUpTo
  rw [Nat.mul_succ, Finset.sum_range_add, Finset.sum_range (n := 256)]
  have e1 : ∀ r : Fin 256, (if h : 256 * i + r.val < 2048 then (if j.val < 256 * ((256 * i + r.val) / 256 + 1) then T ⟨256 * i + r.val, h⟩ j e else 0) else 0)
      = if j.val < 256 * i + 256 then T ⟨256 * i + r.val, by omega⟩ j e else 0 := fun r => by
    rw [dif_pos (by omega)]
    have : (256 * i + r.val) / 256 = i := by omega
    rw [this, Nat.mul_succ]
  rw [Finset.sum_congr rfl fun r _ => e1 r]
  split
  · rfl
  · rw [Finset.sum_const_zero, add_zero]

theorem rowsUpTo_all (T : Fin 2048 → Fin 2048 → Fin 128 → EReal) (j : Fin 2048) (e : Fin 128) :
    rowsUpTo T 8 j e = ∑ s : Fin 2048, if j.val < 256 * (s.val / 256 + 1) then T s j e else 0 := by
  unfold rowsUpTo
  rw [show 256 * 8 = 2048 from rfl, Finset.sum_range (n := 2048)]
  exact Finset.sum_congr rfl fun s _ => dif_pos s.isLt

/-- One block's turn on an array that gathers rows: read the first `N` rows, add, put back. -/
theorem turn {sg : RefSig} {κ' : Kind} {sp : Space} (T : Fin 2048 → Fin 2048 → Fin 128 → EReal) (i : ℕ) (hi : 256 * i + 256 ≤ 2048)
    (hN : N = 256 * i + 256) (vw : View sg κ' sp S2048x128 .f32) (inb inb')
    (w : (Rect.unit (s := S2048x128) ![0, 0] ![N, 128] inb).shape.Idx → Elt Ideal .f32) (L : List (View.Piece (Elt Ideal) S2048x128 .f32))
    (hL : ∀ (j : Fin 2048) (e : Fin 128), View.canon L (ix2 j e) = rowsUpTo T i j e)
    (hw : ∀ (j : Fin N) (e : Fin 128), w (ix2 j e) = vw.readCov L (Rect.unit (s := S2048x128) ![0, 0] ![N, 128] inb').toLoadRect (ix2 j e)
      + ∑ r : Fin 256, T ⟨256 * i + r.val, by omega⟩ ⟨j.val, by omega⟩ e) (j : Fin 2048) (e : Fin 128) :
    View.canon (⟨Rect.unit (s := S2048x128) ![0, 0] ![N, 128] inb, w⟩ :: L) (ix2 j e) = rowsUpTo T (i + 1) j e := by
  rw [rowsUpTo_succ T i hi]
  by_cases h : j.val < N
  · rw [if_pos (by omega)]
    have e1 : (ix2 j e : S2048x128.Idx) = (Rect.unit (s := S2048x128) ![0, 0] ![N, 128] inb).emb (ix2 (⟨j.val, h⟩ : Fin N) e) := by
      funext a; fin_cases a <;> exact Fin.ext (by simp [Rect.idx_unit_val])
    have e2 : (Rect.unit (s := S2048x128) ![0, 0] ![N, 128] inb').toLoadRect.idx (ix2 (⟨j.val, h⟩ : Fin N) e) = ix2 j e := by
      funext a; fin_cases a <;> exact Fin.ext (by simp [Rect.idx_unit_val])
    refine (congrArg _ e1).trans ((View.canon_cons_emb _ _ _ _).trans ((hw ⟨j.val, h⟩ e).trans ?_))
    rw [View.readCov_eq_canon', ← hL]
    exact congrArg (fun y => View.canon L y + _) e2
  · rw [if_neg (by omega), View.canon_cons_of_not_mem _ _ (fun hm => h ?_)]
    · exact hL j e
    · have := ((Rect.mem_set_unit (inb := inb)).1 hm 0).2
      simpa using this

/-- The last block's turn, whose write is the whole array. -/
theorem lastTurn {sg : RefSig} {κ' : Kind} {sp : Space} (T : Fin 2048 → Fin 2048 → Fin 128 → EReal) (vw : View sg κ' sp S2048x128 .f32) (inb')
    (w : FVec Ideal S2048x128 .f32) (L : List (View.Piece (Elt Ideal) S2048x128 .f32))
    (hL : ∀ (j : Fin 2048) (e : Fin 128), View.canon L (ix2 j e) = rowsUpTo T 7 j e) (j : Fin 2048) (e : Fin 128)
    (hw : w (ix2 j e) = vw.readCov L (Rect.unit (s := S2048x128) ![0, 0] ![2048, 128] inb').toLoadRect (ix2 j e)
      + ∑ r : Fin 256, T ⟨1792 + r.val, by omega⟩ j e) : w (ix2 j e) = rowsUpTo T 8 j e := by
  have e2 : (Rect.unit (s := S2048x128) ![0, 0] ![2048, 128] inb').toLoadRect.idx (ix2 j e) = ix2 j e := by
    funext a; fin_cases a <;> exact Fin.ext (by simp [Rect.idx_unit_val])
  rw [rowsUpTo_succ T 7 (by omega), if_pos (by omega), hw, View.readCov_eq_canon', ← hL]
  exact congrArg (fun y => View.canon L y + _) e2

/-- One block's turn on an array that is written a block of rows after another. -/
theorem laid (F : Fin 2048 → Fin 128 → EReal) (hn : n + 256 ≤ 2048) (inb)
    (w : (Rect.unit (s := S2048x128) ![n, 0] ![256, 128] inb).shape.Idx → Elt Ideal .f32) (L : List (View.Piece (Elt Ideal) S2048x128 .f32))
    (hL : ∀ (r : Fin 2048) (e : Fin 128), r.val < n → View.canon L (ix2 r e) = F r e)
    (hw : ∀ (r : Fin 256) (e : Fin 128), w (ix2 r e) = F ⟨n + r.val, by omega⟩ e) (r : Fin 2048) (e : Fin 128) (hr : r.val < n + 256) :
    View.canon (⟨Rect.unit (s := S2048x128) ![n, 0] ![256, 128] inb, w⟩ :: L) (ix2 r e) = F r e := by
  by_cases h : r.val < n
  · rw [View.canon_cons_of_not_mem _ _ (fun hm => ?_)]
    · exact hL r e h
    · have := ((Rect.mem_set_unit (inb := inb)).1 hm 0).1
      exact absurd h (by simpa using this)
  · have e1 : (ix2 r e : S2048x128.Idx) = (Rect.unit (s := S2048x128) ![n, 0] ![256, 128] inb).emb (ix2 (⟨r.val - n, by omega⟩ : Fin 256) e) := by
      funext a; fin_cases a <;> exact Fin.ext (by simp [Rect.idx_unit_val]; try omega)
    refine (congrArg _ e1).trans ((View.canon_cons_emb _ _ _ _).trans ((hw _ e).trans ?_))
    congr 1
    exact Fin.ext (by dsimp only; omega)

theorem sum_lt (hN : N ≤ 2048) (f : Fin 2048 → EReal) : (∑ j : Fin N, f ⟨j.val, by omega⟩) = ∑ j : Fin 2048, if j.val < N then f j else 0 := by
  have a := Finset.sum_range (n := N) (fun s => if h : s < 2048 then f ⟨s, h⟩ else 0)
  have b := Finset.sum_range (n := 2048) (fun s => if s < N then (if h : s < 2048 then f ⟨s, h⟩ else 0) else 0)
  have a' : (∑ j : Fin N, f ⟨j.val, by omega⟩) = ∑ j : Fin N, (if h : j.val < 2048 then f ⟨j.val, h⟩ else 0) :=
    Finset.sum_congr rfl fun j _ => by rw [dif_pos (show j.val < 2048 by omega)]
  have b' : (∑ j : Fin 2048, if j.val < N then f j else 0)
      = ∑ j : Fin 2048, if j.val < N then (if h : j.val < 2048 then f ⟨j.val, h⟩ else 0) else 0 :=
    Finset.sum_congr rfl fun j _ => by rw [dif_pos j.isLt]
  rw [a', b', ← a, ← b, ← Finset.sum_filter]
  refine Finset.sum_congr (Finset.ext fun s => ?_) fun _ _ => rfl
  simp only [Finset.mem_filter, Finset.mem_range]
  omega

theorem masked (hN : N = n + 256) (r : Fin 256) (j : Fin N) (f : Fin N → EReal) :
    (if h : j.val < n then f j
      else Scalar.select (IntOp.cmpi CmpIPredicate.sle (BitVec.ofNat 32 (j.val - n)) (BitVec.ofNat 32 r.val)) (f ⟨n + (j.val - n), by omega⟩)
        (Named.named (F := Ideal) κ "mask" (φ := .f32) 0xF149F2CA#32)) = if j.val ≤ n + r.val then f j else ⊥ := by
  split
  · rw [if_pos (by omega)]
  · rw [select_le _ _ (by omega) r.isLt]
    have e : (⟨n + (j.val - n), by omega⟩ : Fin N) = j := Fin.ext (by dsimp only; omega)
    rw [e]
    by_cases h : j.val ≤ n + r.val
    · rw [if_pos h, if_pos (by omega)]
    · rw [if_neg h, if_neg (by omega)]

end Generic

variable (q o d : Vec Ideal S256x128 .bf16) (l : Vec Ideal S256x128 .f32)

theorem p0 (k : Vec Ideal S256x128 .bf16) (r : Fin 256) (j : Fin 256) : k0_pay6 q k l (ix2 r j) = pT 0 q k l r j := by
  unfold pT
  unfold k0_pay6
  refine congrArg Ideal.exp (congrArg₂ (· - · : EReal → EReal → EReal) ?_ ((lanes 2 (shapeCast S256x128 l _) _ r j).trans
    (congrFun (shapeCast_self l _) _)))
  pointwise [k0_pay3]
  refine (select_le _ _ j.isLt r.isLt _).trans ?_
  rfl

theorem p1 (k : Vec Ideal S512x128 .bf16) (r : Fin 256) (j : Fin 512) : k0_pay15 (k0_pay12 q) k l (ix2 r j) = pT 256 q k l r j := by
  unfold pT
  unfold k0_pay15
  refine congrArg Ideal.exp (congrArg₂ (· - · : EReal → EReal → EReal) ?_ ((lanes 4 (shapeCast S256x128 l _) _ r j).trans
    (congrFun (shapeCast_self l _) _)))
  pointwise [k0_pay12]
  exact masked 256 rfl r j (sT q k r)

theorem p2 (k : Vec Ideal S768x128 .bf16) (r : Fin 256) (j : Fin 768) : k0_pay22 q k l (ix2 r j) = pT 512 q k l r j := by
  unfold pT
  unfold k0_pay22
  refine congrArg Ideal.exp (congrArg₂ (· - · : EReal → EReal → EReal) ?_ ((lanes 6 (shapeCast S256x128 l _) _ r j).trans
    (congrFun (shapeCast_self l _) _)))
  pointwise [k0_pay20]
  exact masked 512 rfl r j (sT q k r)

theorem p3 (k : Vec Ideal S1024x128 .bf16) (r : Fin 256) (j : Fin 1024) : k0_pay32 (k0_pay28 q) (k0_pay31 k) l (ix2 r j) = pT 768 q k l r j := by
  unfold pT
  unfold k0_pay32
  refine congrArg Ideal.exp (congrArg₂ (· - · : EReal → EReal → EReal) ?_ ((lanes 8 (shapeCast S256x128 l _) _ r j).trans
    (congrFun (shapeCast_self l _) _)))
  pointwise [k0_pay28, k0_pay31]
  exact masked 768 rfl r j (sT q k r)

theorem p4 (k : Vec Ideal S1280x128 .bf16) (r : Fin 256) (j : Fin 1280) : k0_pay41 q k l (ix2 r j) = pT 1024 q k l r j := by
  unfold pT
  unfold k0_pay41
  refine congrArg Ideal.exp (congrArg₂ (· - · : EReal → EReal → EReal) ?_ ((lanes 10 (shapeCast S256x128 l _) _ r j).trans
    (congrFun (shapeCast_self l _) _)))
  pointwise [k0_pay39]
  exact masked 1024 rfl r j (sT q k r)

theorem p5 (k : Vec Ideal S1536x128 .bf16) (r : Fin 256) (j : Fin 1536) : k0_pay51 (k0_pay50 q k) l (ix2 r j) = pT 1280 q k l r j := by
  unfold pT
  unfold k0_pay51
  refine congrArg Ideal.exp (congrArg₂ (· - · : EReal → EReal → EReal) ?_ ((lanes 12 (shapeCast S256x128 l _) _ r j).trans
    (congrFun (shapeCast_self l _) _)))
  pointwise [k0_pay50, k0_pay47]
  exact masked 1280 rfl r j (sT q k r)

theorem p6 (k : Vec Ideal S1792x128 .bf16) (r : Fin 256) (j : Fin 1792) : k0_pay60 q k l (ix2 r j) = pT 1536 q k l r j := by
  unfold pT
  unfold k0_pay60
  refine congrArg Ideal.exp (congrArg₂ (· - · : EReal → EReal → EReal) ?_ ((lanes 14 (shapeCast S256x128 l _) _ r j).trans
    (congrFun (shapeCast_self l _) _)))
  pointwise [k0_pay58]
  exact masked 1536 rfl r j (sT q k r)

theorem p7 (k : Vec Ideal S2048x128 .bf16) (r : Fin 256) (j : Fin 2048) : k0_pay71 (k0_pay69 q k) (k0_pay70) l (ix2 r j) = pT 1792 q k l r j := by
  unfold pT
  unfold k0_pay71
  refine congrArg Ideal.exp (congrArg₂ (· - · : EReal → EReal → EReal) ?_ ((lanes 16 (shapeCast S256x128 l _) _ r j).trans
    (congrFun (shapeCast_self l _) _)))
  pointwise [k0_pay69, k0_pay66, k0_pay70]
  exact masked 1792 rfl r j (sT q k r)

section Tile0

variable (k k' v : Vec Ideal S256x128 .bf16) (a : Vec Ideal S256x128 .f32)

theorem g0 (r : Fin 256) (j : Fin 256) : k0_pay8 (k0_pay5 d o) (k0_pay6 q k l) (k0_pay7 d v) (ix2 r j) = gT 0 q o d k v l r j := by
  rw [gT, dT, ← p0]
  unfold k0_pay8 k0_pay7 k0_pay5
  generalize k0_pay6 q k l = p
  pointwise [k0_pay4]

theorem dq0 (r : Fin 256) (e : Fin 128) : k0_pay9 (k0_pay5 d o) (k0_pay6 q k l) (k0_pay7 d v) k' (ix2 r e) = ∑ j : Fin 256, gT 0 q o d k v l r j * k' (ix2 j e) := by
  simp only [← g0]
  unfold k0_pay9
  generalize k0_pay8 (k0_pay5 d o) (k0_pay6 q k l) (k0_pay7 d v) = g
  pointwise

theorem dk0 (j : Fin 256) (e : Fin 128) : k0_pay10 (k0_pay3 q) (k0_pay5 d o) (k0_pay6 q k l) (k0_pay7 d v) a (ix2 j e) = a (ix2 j e) + ∑ r : Fin 256, gT 0 q o d k v l r j * q (ix2 r e) := by
  simp only [← g0]
  unfold k0_pay10
  generalize k0_pay8 (k0_pay5 d o) (k0_pay6 q k l) (k0_pay7 d v) = g
  pointwise [k0_pay3]

theorem dv0 (j : Fin 256) (e : Fin 128) : k0_pay11 (k0_pay4 d) (k0_pay6 q k l) a (ix2 j e) = a (ix2 j e) + ∑ r : Fin 256, pT 0 q k l r j * d (ix2 r e) := by
  simp only [← p0]
  unfold k0_pay11
  generalize k0_pay6 q k l = p
  pointwise [k0_pay4]

end Tile0

section Tile1

variable (k k' v : Vec Ideal S512x128 .bf16) (a : Vec Ideal S512x128 .f32)

theorem g1 (r : Fin 256) (j : Fin 512) : k0_pay16 (k0_pay12 q) (k0_pay13 d) (k0_pay14 d o) k l v (ix2 r j) = gT 256 q o d k v l r j := by
  rw [gT, dT, ← p1]
  unfold k0_pay16
  generalize k0_pay15 (k0_pay12 q) k l = p
  pointwise [k0_pay13, k0_pay14]

theorem dq1 (r : Fin 256) (e : Fin 128) : k0_pay17 (k0_pay12 q) (k0_pay13 d) (k0_pay14 d o) k l v k' (ix2 r e) = ∑ j : Fin 512, gT 256 q o d k v l r j * k' (ix2 j e) := by
  simp only [← g1]
  unfold k0_pay17
  generalize k0_pay16 (k0_pay12 q) (k0_pay13 d) (k0_pay14 d o) k l v = g
  pointwise

theorem dk1 (j : Fin 512) (e : Fin 128) : k0_pay18 (k0_pay12 q) (k0_pay13 d) (k0_pay14 d o) k l v a (ix2 j e) = a (ix2 j e) + ∑ r : Fin 256, gT 256 q o d k v l r j * q (ix2 r e) := by
  simp only [← g1]
  unfold k0_pay18
  generalize k0_pay16 (k0_pay12 q) (k0_pay13 d) (k0_pay14 d o) k l v = g
  pointwise [k0_pay12]

theorem dv1 (j : Fin 512) (e : Fin 128) : k0_pay19 (k0_pay13 d) (k0_pay15 (k0_pay12 q) k l) a (ix2 j e) = a (ix2 j e) + ∑ r : Fin 256, pT 256 q k l r j * d (ix2 r e) := by
  simp only [← p1]
  unfold k0_pay19
  generalize k0_pay15 (k0_pay12 q) k l = p
  pointwise [k0_pay13]

end Tile1

section Tile2

variable (k k' v : Vec Ideal S768x128 .bf16) (a : Vec Ideal S768x128 .f32)

theorem g2 (r : Fin 256) (j : Fin 768) : k0_pay24 (k0_pay22 q k l) (k0_pay23 d o v) (ix2 r j) = gT 512 q o d k v l r j := by
  rw [gT, dT, ← p2]
  unfold k0_pay24 k0_pay23
  generalize k0_pay22 q k l = p
  pointwise [k0_pay21]

theorem dq2 (r : Fin 256) (e : Fin 128) : k0_pay25 (k0_pay22 q k l) (k0_pay23 d o v) k' (ix2 r e) = ∑ j : Fin 768, gT 512 q o d k v l r j * k' (ix2 j e) := by
  simp only [← g2]
  unfold k0_pay25
  generalize k0_pay24 (k0_pay22 q k l) (k0_pay23 d o v) = g
  pointwise

theorem dk2 (j : Fin 768) (e : Fin 128) : k0_pay26 (k0_pay20 q) (k0_pay22 q k l) (k0_pay23 d o v) a (ix2 j e) = a (ix2 j e) + ∑ r : Fin 256, gT 512 q o d k v l r j * q (ix2 r e) := by
  simp only [← g2]
  unfold k0_pay26
  generalize k0_pay24 (k0_pay22 q k l) (k0_pay23 d o v) = g
  pointwise [k0_pay20]

theorem dv2 (j : Fin 768) (e : Fin 128) : k0_pay27 (k0_pay21 d) (k0_pay22 q k l) a (ix2 j e) = a (ix2 j e) + ∑ r : Fin 256, pT 512 q k l r j * d (ix2 r e) := by
  simp only [← p2]
  unfold k0_pay27
  generalize k0_pay22 q k l = p
  pointwise [k0_pay21]

end Tile2

section Tile3

variable (k k' v : Vec Ideal S1024x128 .bf16) (a : Vec Ideal S1024x128 .f32)

theorem g3 (r : Fin 256) (j : Fin 1024) : k0_pay33 (k0_pay28 q) (k0_pay29 d) (k0_pay30 d o) (k0_pay31 k) l v (ix2 r j) = gT 768 q o d k v l r j := by
  rw [gT, dT, ← p3]
  unfold k0_pay33
  generalize k0_pay32 (k0_pay28 q) (k0_pay31 k) l = p
  pointwise [k0_pay29, k0_pay30]

theorem dq3 (r : Fin 256) (e : Fin 128) : k0_pay34 (k0_pay28 q) (k0_pay29 d) (k0_pay30 d o) (k0_pay31 k) l v k' (ix2 r e) = ∑ j : Fin 1024, gT 768 q o d k v l r j * k' (ix2 j e) := by
  simp only [← g3]
  unfold k0_pay34
  generalize k0_pay33 (k0_pay28 q) (k0_pay29 d) (k0_pay30 d o) (k0_pay31 k) l v = g
  pointwise

theorem dk3 (j : Fin 1024) (e : Fin 128) : k0_pay35 (k0_pay28 q) (k0_pay29 d) (k0_pay30 d o) (k0_pay31 k) l v a (ix2 j e) = a (ix2 j e) + ∑ r : Fin 256, gT 768 q o d k v l r j * q (ix2 r e) := by
  simp only [← g3]
  unfold k0_pay35
  generalize k0_pay33 (k0_pay28 q) (k0_pay29 d) (k0_pay30 d o) (k0_pay31 k) l v = g
  pointwise [k0_pay28]

theorem dv3 (j : Fin 1024) (e : Fin 128) : k0_pay38 (k0_pay29 d) (k0_pay36 a) (k0_pay37 (k0_pay28 q) (k0_pay31 k) l) (ix2 j e) = a (ix2 j e) + ∑ r : Fin 256, pT 768 q k l r j * d (ix2 r e) := by
  simp only [← p3]
  unfold k0_pay38 k0_pay37 k0_pay36
  generalize k0_pay32 (k0_pay28 q) (k0_pay31 k) l = p
  pointwise [k0_pay29]

end Tile3

section Tile4

variable (k k' v : Vec Ideal S1280x128 .bf16) (a : Vec Ideal S1280x128 .f32)

theorem g4 (r : Fin 256) (j : Fin 1280) : k0_pay43 (k0_pay42 q d o k l v) (Scalar.ofBits .f32 0x3DD105EC#32) (ix2 r j) = gT 1024 q o d k v l r j := by
  rw [gT, dT, ← p4]
  unfold k0_pay43 k0_pay42
  generalize k0_pay41 q k l = p
  pointwise [k0_pay40]

theorem dq4 (r : Fin 256) (e : Fin 128) : k0_pay44 (k0_pay42 q d o k l v) (Scalar.ofBits .f32 0x3DD105EC#32) k' (ix2 r e) = ∑ j : Fin 1280, gT 1024 q o d k v l r j * k' (ix2 j e) := by
  simp only [← g4]
  unfold k0_pay44
  generalize k0_pay43 (k0_pay42 q d o k l v) (Scalar.ofBits .f32 0x3DD105EC#32) = g
  pointwise

theorem dk4 (j : Fin 1280) (e : Fin 128) : k0_pay45 (k0_pay39 q) (k0_pay42 q d o k l v) (Scalar.ofBits .f32 0x3DD105EC#32) a (ix2 j e) = a (ix2 j e) + ∑ r : Fin 256, gT 1024 q o d k v l r j * q (ix2 r e) := by
  simp only [← g4]
  unfold k0_pay45
  generalize k0_pay43 (k0_pay42 q d o k l v) (Scalar.ofBits .f32 0x3DD105EC#32) = g
  pointwise [k0_pay39]

theorem dv4 (j : Fin 1280) (e : Fin 128) : k0_pay46 (k0_pay40 d) (k0_pay41 q k l) a (ix2 j e) = a (ix2 j e) + ∑ r : Fin 256, pT 1024 q k l r j * d (ix2 r e) := by
  simp only [← p4]
  unfold k0_pay46
  generalize k0_pay41 q k l = p
  pointwise [k0_pay40]

end Tile4

section Tile5

variable (k k' v : Vec Ideal S1536x128 .bf16) (a : Vec Ideal S1536x128 .f32)

theorem g5 (r : Fin 256) (j : Fin 1536) : k0_pay52 (k0_pay48 d) (k0_pay49 d o) (k0_pay50 q k) l v (ix2 r j) = gT 1280 q o d k v l r j := by
  rw [gT, dT, ← p5]
  unfold k0_pay52
  generalize k0_pay51 (k0_pay50 q k) l = p
  pointwise [k0_pay48, k0_pay49]

theorem dq5 (r : Fin 256) (e : Fin 128) : k0_pay53 (k0_pay48 d) (k0_pay49 d o) (k0_pay50 q k) l v k' (ix2 r e) = ∑ j : Fin 1536, gT 1280 q o d k v l r j * k' (ix2 j e) := by
  simp only [← g5]
  unfold k0_pay53
  generalize k0_pay52 (k0_pay48 d) (k0_pay49 d o) (k0_pay50 q k) l v = g
  pointwise

theorem dk5 (j : Fin 1536) (e : Fin 128) : k0_pay54 (k0_pay47 q) (k0_pay48 d) (k0_pay49 d o) (k0_pay50 q k) l v a (ix2 j e) = a (ix2 j e) + ∑ r : Fin 256, gT 1280 q o d k v l r j * q (ix2 r e) := by
  simp only [← g5]
  unfold k0_pay54
  generalize k0_pay52 (k0_pay48 d) (k0_pay49 d o) (k0_pay50 q k) l v = g
  pointwise [k0_pay47]

theorem dv5 (j : Fin 1536) (e : Fin 128) : k0_pay57 (k0_pay55 a) (k0_pay56 (k0_pay48 d) (k0_pay50 q k) l) (ix2 j e) = a (ix2 j e) + ∑ r : Fin 256, pT 1280 q k l r j * d (ix2 r e) := by
  simp only [← p5]
  unfold k0_pay57 k0_pay56 k0_pay55
  generalize k0_pay51 (k0_pay50 q k) l = p
  pointwise [k0_pay48]

end Tile5

section Tile6

variable (k k' v : Vec Ideal S1792x128 .bf16) (a : Vec Ideal S1792x128 .f32)

theorem g6 (r : Fin 256) (j : Fin 1792) : k0_pay62 (k0_pay61 q d o k l v) (ix2 r j) = gT 1536 q o d k v l r j := by
  rw [gT, dT, ← p6]
  unfold k0_pay62 k0_pay61
  generalize k0_pay60 q k l = p
  pointwise [k0_pay59]

theorem dq6 (r : Fin 256) (e : Fin 128) : k0_pay63 (k0_pay61 q d o k l v) k' (ix2 r e) = ∑ j : Fin 1792, gT 1536 q o d k v l r j * k' (ix2 j e) := by
  simp only [← g6]
  unfold k0_pay63
  generalize k0_pay62 (k0_pay61 q d o k l v) = g
  pointwise

theorem dk6 (j : Fin 1792) (e : Fin 128) : k0_pay64 (k0_pay58 q) (k0_pay61 q d o k l v) a (ix2 j e) = a (ix2 j e) + ∑ r : Fin 256, gT 1536 q o d k v l r j * q (ix2 r e) := by
  simp only [← g6]
  unfold k0_pay64
  generalize k0_pay62 (k0_pay61 q d o k l v) = g
  pointwise [k0_pay58]

theorem dv6 (j : Fin 1792) (e : Fin 128) : k0_pay65 (k0_pay59 d) (k0_pay60 q k l) a (ix2 j e) = a (ix2 j e) + ∑ r : Fin 256, pT 1536 q k l r j * d (ix2 r e) := by
  simp only [← p6]
  unfold k0_pay65
  generalize k0_pay60 q k l = p
  pointwise [k0_pay59]

end Tile6

section Tile7

variable (k k' v : Vec Ideal S2048x128 .bf16) (a : Vec Ideal S2048x128 .f32)

theorem g7 (r : Fin 256) (j : Fin 2048) : k0_pay72 (k0_pay67 d) (k0_pay68 d o) (k0_pay69 q k) k0_pay70 l v (ix2 r j) = gT 1792 q o d k v l r j := by
  rw [gT, dT, ← p7]
  unfold k0_pay72
  generalize k0_pay71 (k0_pay69 q k) (k0_pay70) l = p
  pointwise [k0_pay67, k0_pay68]

theorem dq7 (r : Fin 256) (e : Fin 128) : k0_pay73 (k0_pay67 d) (k0_pay68 d o) (k0_pay69 q k) k0_pay70 l v k' (ix2 r e) = ∑ j : Fin 2048, gT 1792 q o d k v l r j * k' (ix2 j e) := by
  simp only [← g7]
  unfold k0_pay73
  generalize k0_pay72 (k0_pay67 d) (k0_pay68 d o) (k0_pay69 q k) k0_pay70 l v = g
  pointwise

theorem dk7 (j : Fin 2048) (e : Fin 128) : k0_pay74 (k0_pay66 q) (k0_pay67 d) (k0_pay68 d o) (k0_pay69 q k) k0_pay70 l v a (ix2 j e) = a (ix2 j e) + ∑ r : Fin 256, gT 1792 q o d k v l r j * q (ix2 r e) := by
  simp only [← g7]
  unfold k0_pay74
  generalize k0_pay72 (k0_pay67 d) (k0_pay68 d o) (k0_pay69 q k) k0_pay70 l v = g
  pointwise [k0_pay66]

theorem dv7 (j : Fin 2048) (e : Fin 128) : k0_pay75 (k0_pay67 d) (k0_pay69 q k) k0_pay70 l a (ix2 j e) = a (ix2 j e) + ∑ r : Fin 256, pT 1792 q k l r j * d (ix2 r e) := by
  simp only [← p7]
  unfold k0_pay75
  generalize k0_pay71 (k0_pay69 q k) (k0_pay70) l = p
  pointwise [k0_pay67]

end Tile7

/-! ## A head -/

section Head

variable (x0 x1 x2 x3 x5 : Vec Ideal S2048x128 .bf16) (x4 : Vec Ideal S2048x128 .f32)

def sH (r j : Fin 2048) : EReal := (∑ e : Fin 128, x0 (ix2 r e) * x1 (ix2 j e)) * sc

def pH (r j : Fin 2048) : EReal :=
  Ideal.exp ((if j.val ≤ r.val then sH x0 x1 r j else ⊥) - x4 (ix2 r (⟨j.val % 128, Nat.mod_lt _ (by omega)⟩ : Fin 128)))

def dH (r j : Fin 2048) : EReal := (∑ e : Fin 128, x5 (ix2 r e) * x2 (ix2 j e)) - ∑ e : Fin 128, x5 (ix2 r e) * x3 (ix2 r e)

def gH (r j : Fin 2048) : EReal := pH x0 x1 x4 r j * dH x2 x3 x5 r j * sc

def dqH (r : Fin 2048) (e : Fin 128) : EReal :=
  ∑ j : Fin 2048, if j.val < 256 * (r.val / 256 + 1) then gH x0 x1 x2 x3 x5 x4 r j * x1 (ix2 j e) else 0

def dkT (r j : Fin 2048) (e : Fin 128) : EReal := gH x0 x1 x2 x3 x5 x4 r j * x0 (ix2 r e)

def dvT (r j : Fin 2048) (e : Fin 128) : EReal := pH x0 x1 x4 r j * x5 (ix2 r e)

theorem ld_row (n : ℕ) (hn : n + 256 ≤ 2048)
    (ir : ∀ a, (![n, 0] : Fin S2048x128.rank → ℕ) a + (![256, 128] : Fin S2048x128.rank → ℕ) a ≤ S2048x128.size a) {φ : EltTy} (x : Vec Ideal S2048x128 φ) (r : Fin 256) (e : Fin 128) :
    View.ld x (Rect.unit (s := S2048x128) ![n, 0] ![256, 128] ir) (ix2 r e) = x (ix2 (⟨n + r.val, by omega⟩ : Fin 2048) e) :=
  congrArg x (funext fun a => Fin.ext ((Rect.idx_unit_val _ _ ir _ a).trans (by fin_cases a <;> simp)))

theorem ld_top {N : ℕ} (hN : N ≤ 2048)
    (ik : ∀ a, (![0, 0] : Fin S2048x128.rank → ℕ) a + (![N, 128] : Fin S2048x128.rank → ℕ) a ≤ S2048x128.size a) {φ : EltTy} (x : Vec Ideal S2048x128 φ) (j : Fin N) (e : Fin 128) :
    View.ld x (Rect.unit (s := S2048x128) ![0, 0] ![N, 128] ik) (ix2 j e) = x (ix2 (⟨j.val, by omega⟩ : Fin 2048) e) :=
  congrArg x (funext fun a => Fin.ext ((Rect.idx_unit_val _ _ ik _ a).trans (by fin_cases a <;> simp)))

section Loads

variable {N : ℕ} (n : ℕ) (hn : n + 256 ≤ 2048) (hN : N ≤ 2048)
  (ir : ∀ a, (![n, 0] : Fin S2048x128.rank → ℕ) a + (![256, 128] : Fin S2048x128.rank → ℕ) a ≤ S2048x128.size a)
  (ik : ∀ a, (![0, 0] : Fin S2048x128.rank → ℕ) a + (![N, 128] : Fin S2048x128.rank → ℕ) a ≤ S2048x128.size a)

include hn hN in
theorem pT_of (q : Vec Ideal S256x128 .bf16) (k : Vec Ideal ⟨2, ![N, 128]⟩ .bf16) (l : Vec Ideal S256x128 .f32)
    (hq : ∀ (r : Fin 256) (e : Fin 128), q (ix2 r e) = x0 (ix2 (⟨n + r.val, by omega⟩ : Fin 2048) e))
    (hk : ∀ (j : Fin N) (e : Fin 128), k (ix2 j e) = x1 (ix2 (⟨j.val, by omega⟩ : Fin 2048) e))
    (hl : ∀ (r : Fin 256) (e : Fin 128), l (ix2 r e) = x4 (ix2 (⟨n + r.val, by omega⟩ : Fin 2048) e)) (r : Fin 256) (j : Fin N) :
    pT n q k l r j = pH x0 x1 x4 ⟨n + r.val, by omega⟩ ⟨j.val, by omega⟩ := by
  simp only [pT, pH, sT, sH, hq, hk, hl]

include hn hN in
theorem dT_of (o d : Vec Ideal S256x128 .bf16) (v : Vec Ideal ⟨2, ![N, 128]⟩ .bf16)
    (ho : ∀ (r : Fin 256) (e : Fin 128), o (ix2 r e) = x3 (ix2 (⟨n + r.val, by omega⟩ : Fin 2048) e))
    (hd : ∀ (r : Fin 256) (e : Fin 128), d (ix2 r e) = x5 (ix2 (⟨n + r.val, by omega⟩ : Fin 2048) e))
    (hv : ∀ (j : Fin N) (e : Fin 128), v (ix2 j e) = x2 (ix2 (⟨j.val, by omega⟩ : Fin 2048) e)) (r : Fin 256) (j : Fin N) :
    dT o d v r j = dH x2 x3 x5 ⟨n + r.val, by omega⟩ ⟨j.val, by omega⟩ := by
  simp only [dT, dH, ho, hd, hv]

include hn hN in
theorem pT_ld (r : Fin 256) (j : Fin N) :
    pT n (View.ld x0 (Rect.unit (s := S2048x128) ![n, 0] ![256, 128] ir)) (View.ld x1 (Rect.unit (s := S2048x128) ![0, 0] ![N, 128] ik))
      (View.ld x4 (Rect.unit (s := S2048x128) ![n, 0] ![256, 128] ir)) r j = pH x0 x1 x4 ⟨n + r.val, by omega⟩ ⟨j.val, by omega⟩ :=
  pT_of x0 x1 x4 n hn hN _ _ _ (ld_row n hn ir x0) (ld_top hN ik x1) (ld_row n hn ir x4) r j

include hn hN in
theorem gT_ld (r : Fin 256) (j : Fin N) :
    gT n (View.ld x0 (Rect.unit (s := S2048x128) ![n, 0] ![256, 128] ir)) (View.ld x3 (Rect.unit (s := S2048x128) ![n, 0] ![256, 128] ir))
      (View.ld x5 (Rect.unit (s := S2048x128) ![n, 0] ![256, 128] ir)) (View.ld x1 (Rect.unit (s := S2048x128) ![0, 0] ![N, 128] ik))
      (View.ld x2 (Rect.unit (s := S2048x128) ![0, 0] ![N, 128] ik)) (View.ld x4 (Rect.unit (s := S2048x128) ![n, 0] ![256, 128] ir)) r j
      = gH x0 x1 x2 x3 x5 x4 ⟨n + r.val, by omega⟩ ⟨j.val, by omega⟩ :=
  congrArg (· * sc) (congrArg₂ (· * · : EReal → EReal → EReal) (pT_ld x0 x1 x4 n hn hN ir ik r j)
    (dT_of x2 x3 x5 n hn hN _ _ _ (ld_row n hn ir x3) (ld_row n hn ir x5) (ld_top hN ik x2) r j))

include hn hN in
theorem dq_ld (h2 : N = n + 256) (hb : 256 * (n / 256) = n) (r : Fin 256) (e : Fin 128) :
    (∑ j : Fin N, gT n (View.ld x0 (Rect.unit (s := S2048x128) ![n, 0] ![256, 128] ir)) (View.ld x3 (Rect.unit (s := S2048x128) ![n, 0] ![256, 128] ir))
      (View.ld x5 (Rect.unit (s := S2048x128) ![n, 0] ![256, 128] ir)) (View.ld x1 (Rect.unit (s := S2048x128) ![0, 0] ![N, 128] ik))
      (View.ld x2 (Rect.unit (s := S2048x128) ![0, 0] ![N, 128] ik)) (View.ld x4 (Rect.unit (s := S2048x128) ![n, 0] ![256, 128] ir)) r j
      * View.ld x1 (Rect.unit (s := S2048x128) ![0, 0] ![N, 128] ik) (ix2 j e) : EReal) = dqH x0 x1 x2 x3 x5 x4 ⟨n + r.val, by omega⟩ e := by
  refine (Finset.sum_congr (M := EReal) rfl fun j _ => congrArg₂ (· * · : EReal → EReal → EReal) (gT_ld x0 x1 x2 x3 x5 x4 n hn hN ir ik r j)
    (ld_top hN ik x1 j e)).trans ?_
  refine (sum_lt hN fun j => gH x0 x1 x2 x3 x5 x4 ⟨n + r.val, by omega⟩ j * x1 (ix2 j e)).trans ?_
  unfold dqH
  have hd : 256 * ((n + r.val) / 256 + 1) = N := by omega
  simp only [hd]

include hn hN in
theorem dk_ld (r : Fin 256) (j : Fin N) (e : Fin 128) :
    (gT n (View.ld x0 (Rect.unit (s := S2048x128) ![n, 0] ![256, 128] ir)) (View.ld x3 (Rect.unit (s := S2048x128) ![n, 0] ![256, 128] ir))
      (View.ld x5 (Rect.unit (s := S2048x128) ![n, 0] ![256, 128] ir)) (View.ld x1 (Rect.unit (s := S2048x128) ![0, 0] ![N, 128] ik))
      (View.ld x2 (Rect.unit (s := S2048x128) ![0, 0] ![N, 128] ik)) (View.ld x4 (Rect.unit (s := S2048x128) ![n, 0] ![256, 128] ir)) r j
      * View.ld x0 (Rect.unit (s := S2048x128) ![n, 0] ![256, 128] ir) (ix2 r e) : EReal)
      = dkT x0 x1 x2 x3 x5 x4 ⟨n + r.val, by omega⟩ ⟨j.val, by omega⟩ e :=
  congrArg₂ (· * · : EReal → EReal → EReal) (gT_ld x0 x1 x2 x3 x5 x4 n hn hN ir ik r j) (ld_row n hn ir x0 r e)

include hn hN in
theorem dv_ld (r : Fin 256) (j : Fin N) (e : Fin 128) :
    (pT n (View.ld x0 (Rect.unit (s := S2048x128) ![n, 0] ![256, 128] ir)) (View.ld x1 (Rect.unit (s := S2048x128) ![0, 0] ![N, 128] ik))
      (View.ld x4 (Rect.unit (s := S2048x128) ![n, 0] ![256, 128] ir)) r j
      * View.ld x5 (Rect.unit (s := S2048x128) ![n, 0] ![256, 128] ir) (ix2 r e) : EReal)
      = dvT x0 x1 x5 x4 ⟨n + r.val, by omega⟩ ⟨j.val, by omega⟩ e :=
  congrArg₂ (· * · : EReal → EReal → EReal) (pT_ld x0 x1 x4 n hn hN ir ik r j) (ld_row n hn ir x5 r e)

end Loads

section All

variable (n : ℕ) (hn : n + 256 ≤ 2048)
  (ir : ∀ a, (![n, 0] : Fin S2048x128.rank → ℕ) a + (![256, 128] : Fin S2048x128.rank → ℕ) a ≤ S2048x128.size a)

include hn in
theorem gT_all (r : Fin 256) (j : Fin 2048) :
    gT n (View.ld x0 (Rect.unit (s := S2048x128) ![n, 0] ![256, 128] ir)) (View.ld x3 (Rect.unit (s := S2048x128) ![n, 0] ![256, 128] ir))
      (View.ld x5 (Rect.unit (s := S2048x128) ![n, 0] ![256, 128] ir)) x1 x2 (View.ld x4 (Rect.unit (s := S2048x128) ![n, 0] ![256, 128] ir)) r j
      = gH x0 x1 x2 x3 x5 x4 ⟨n + r.val, by omega⟩ j :=
  congrArg (· * sc) (congrArg₂ (· * · : EReal → EReal → EReal)
    (pT_of x0 x1 x4 n hn (le_refl 2048) _ _ _ (ld_row n hn ir x0) (fun _ _ => rfl) (ld_row n hn ir x4) r j)
    (dT_of x2 x3 x5 n hn (le_refl 2048) _ _ _ (ld_row n hn ir x3) (ld_row n hn ir x5) (fun _ _ => rfl) r j))

include hn in
theorem dq_all (h2 : 2048 = n + 256) (r : Fin 256) (e : Fin 128) :
    (∑ j : Fin 2048, gT n (View.ld x0 (Rect.unit (s := S2048x128) ![n, 0] ![256, 128] ir)) (View.ld x3 (Rect.unit (s := S2048x128) ![n, 0] ![256, 128] ir))
      (View.ld x5 (Rect.unit (s := S2048x128) ![n, 0] ![256, 128] ir)) x1 x2 (View.ld x4 (Rect.unit (s := S2048x128) ![n, 0] ![256, 128] ir)) r j
      * x1 (ix2 j e) : EReal) = dqH x0 x1 x2 x3 x5 x4 ⟨n + r.val, by omega⟩ e := by
  refine Finset.sum_congr (M := EReal) rfl fun j _ => ?_
  have hj : j.val < 256 * ((n + r.val) / 256 + 1) := by have := j.isLt; omega
  exact (congrArg (· * x1 (ix2 j e)) (gT_all x0 x1 x2 x3 x5 x4 n hn ir r j)).trans (if_pos hj).symm

include hn in
theorem dk_all (r : Fin 256) (j : Fin 2048) (e : Fin 128) :
    (gT n (View.ld x0 (Rect.unit (s := S2048x128) ![n, 0] ![256, 128] ir)) (View.ld x3 (Rect.unit (s := S2048x128) ![n, 0] ![256, 128] ir))
      (View.ld x5 (Rect.unit (s := S2048x128) ![n, 0] ![256, 128] ir)) x1 x2 (View.ld x4 (Rect.unit (s := S2048x128) ![n, 0] ![256, 128] ir)) r j
      * View.ld x0 (Rect.unit (s := S2048x128) ![n, 0] ![256, 128] ir) (ix2 r e) : EReal)
      = dkT x0 x1 x2 x3 x5 x4 ⟨n + r.val, by omega⟩ j e :=
  congrArg₂ (· * · : EReal → EReal → EReal) (gT_all x0 x1 x2 x3 x5 x4 n hn ir r j) (ld_row n hn ir x0 r e)

include hn in
theorem dv_all (r : Fin 256) (j : Fin 2048) (e : Fin 128) :
    (pT n (View.ld x0 (Rect.unit (s := S2048x128) ![n, 0] ![256, 128] ir)) x1 (View.ld x4 (Rect.unit (s := S2048x128) ![n, 0] ![256, 128] ir)) r j
      * View.ld x5 (Rect.unit (s := S2048x128) ![n, 0] ![256, 128] ir) (ix2 r e) : EReal)
      = dvT x0 x1 x5 x4 ⟨n + r.val, by omega⟩ j e :=
  congrArg₂ (· * · : EReal → EReal → EReal)
    (pT_of x0 x1 x4 n hn (le_refl 2048) _ _ _ (ld_row n hn ir x0) (fun _ _ => rfl) (ld_row n hn ir x4) r j) (ld_row n hn ir x5 r e)

end All

end Head

variable (m : (ℓ : Loc nD τ sig) → Buf (Elt Ideal) ℓ) (c : Dev nD) (t : Fin cfg0.N)

set_option maxHeartbeats 2000000 in
theorem tile6 (r : Fin 2048) (e : Fin 128) : (outsAt0 m c t).1 (ix2 r e)
    = dqH (iblk m c 0 t) (iblk m c 1 t) (iblk m c 2 t) (iblk m c 3 t) (iblk m c 5 t) (iblk m c 4 t) r e := by
  unfold outsAt0
  frame_out
  refine laid (n := 1792) _ (by omega) _ _ _ (fun r e hr => ?_) (fun r e => (dq7 _ _ _ _ _ _ _ r e).trans (dq_all _ _ _ _ _ _ 1792 (by omega) _ rfl r e)) r e (by omega)
  refine laid (n := 1536) _ (by omega) _ _ _ (fun r e hr => ?_) (fun r e => (dq6 _ _ _ _ _ _ _ r e).trans (dq_ld _ _ _ _ _ _ 1536 (by omega) (by omega) _ _ rfl rfl r e)) r e (by omega)
  refine laid (n := 1280) _ (by omega) _ _ _ (fun r e hr => ?_) (fun r e => (dq5 _ _ _ _ _ _ _ r e).trans (dq_ld _ _ _ _ _ _ 1280 (by omega) (by omega) _ _ rfl rfl r e)) r e (by omega)
  refine laid (n := 1024) _ (by omega) _ _ _ (fun r e hr => ?_) (fun r e => (dq4 _ _ _ _ _ _ _ r e).trans (dq_ld _ _ _ _ _ _ 1024 (by omega) (by omega) _ _ rfl rfl r e)) r e (by omega)
  refine laid (n := 768) _ (by omega) _ _ _ (fun r e hr => ?_) (fun r e => (dq3 _ _ _ _ _ _ _ r e).trans (dq_ld _ _ _ _ _ _ 768 (by omega) (by omega) _ _ rfl rfl r e)) r e (by omega)
  refine laid (n := 512) _ (by omega) _ _ _ (fun r e hr => ?_) (fun r e => (dq2 _ _ _ _ _ _ _ r e).trans (dq_ld _ _ _ _ _ _ 512 (by omega) (by omega) _ _ rfl rfl r e)) r e (by omega)
  refine laid (n := 256) _ (by omega) _ _ _ (fun r e hr => ?_) (fun r e => (dq1 _ _ _ _ _ _ _ r e).trans (dq_ld _ _ _ _ _ _ 256 (by omega) (by omega) _ _ rfl rfl r e)) r e (by omega)
  refine laid (n := 0) _ (by omega) _ _ _ (fun r e hr => ?_) (fun r e => (dq0 _ _ _ _ _ _ _ r e).trans (dq_ld _ _ _ _ _ _ 0 (by omega) (by omega) _ _ rfl rfl r e)) r e (by omega)
  exact absurd hr (by omega)

set_option maxHeartbeats 2000000 in
theorem tile7 (j : Fin 2048) (e : Fin 128) : (outsAt0 m c t).2.1 (ix2 j e)
    = ∑ s : Fin 2048, if j.val < 256 * (s.val / 256 + 1) then dkT (iblk m c 0 t) (iblk m c 1 t) (iblk m c 2 t) (iblk m c 3 t) (iblk m c 5 t) (iblk m c 4 t) s j e else 0 := by
  rw [← rowsUpTo_all]
  unfold outsAt0
  frame_out
  refine lastTurn _ _ _ _ _ (fun j e => ?_) j e ((dk7 _ _ _ _ _ _ _ j e).trans
    (congrArg (_ + · : EReal → EReal) (Finset.sum_congr (M := EReal) rfl fun r _ => dk_all _ _ _ _ _ _ 1792 (by omega) _ r j e)))
  refine turn (N := 1792) _ 6 (by omega) rfl _ _ _ _ _ (fun j e => ?_) (fun j e => (dk6 _ _ _ _ _ _ _ j e).trans
    (congrArg (_ + · : EReal → EReal) (Finset.sum_congr (M := EReal) rfl fun r _ => dk_ld _ _ _ _ _ _ 1536 (by omega) (by omega) _ _ r j e))) j e
  refine turn (N := 1536) _ 5 (by omega) rfl _ _ _ _ _ (fun j e => ?_) (fun j e => (dk5 _ _ _ _ _ _ _ j e).trans
    (congrArg (_ + · : EReal → EReal) (Finset.sum_congr (M := EReal) rfl fun r _ => dk_ld _ _ _ _ _ _ 1280 (by omega) (by omega) _ _ r j e))) j e
  refine turn (N := 1280) _ 4 (by omega) rfl _ _ _ _ _ (fun j e => ?_) (fun j e => (dk4 _ _ _ _ _ _ _ j e).trans
    (congrArg (_ + · : EReal → EReal) (Finset.sum_congr (M := EReal) rfl fun r _ => dk_ld _ _ _ _ _ _ 1024 (by omega) (by omega) _ _ r j e))) j e
  refine turn (N := 1024) _ 3 (by omega) rfl _ _ _ _ _ (fun j e => ?_) (fun j e => (dk3 _ _ _ _ _ _ _ j e).trans
    (congrArg (_ + · : EReal → EReal) (Finset.sum_congr (M := EReal) rfl fun r _ => dk_ld _ _ _ _ _ _ 768 (by omega) (by omega) _ _ r j e))) j e
  refine turn (N := 768) _ 2 (by omega) rfl _ _ _ _ _ (fun j e => ?_) (fun j e => (dk2 _ _ _ _ _ _ _ j e).trans
    (congrArg (_ + · : EReal → EReal) (Finset.sum_congr (M := EReal) rfl fun r _ => dk_ld _ _ _ _ _ _ 512 (by omega) (by omega) _ _ r j e))) j e
  refine turn (N := 512) _ 1 (by omega) rfl _ _ _ _ _ (fun j e => ?_) (fun j e => (dk1 _ _ _ _ _ _ _ j e).trans
    (congrArg (_ + · : EReal → EReal) (Finset.sum_congr (M := EReal) rfl fun r _ => dk_ld _ _ _ _ _ _ 256 (by omega) (by omega) _ _ r j e))) j e
  refine turn (N := 256) _ 0 (by omega) rfl _ _ _ _ _ (fun j e => ?_) (fun j e => (dk0 _ _ _ _ _ _ _ j e).trans
    (congrArg (_ + · : EReal → EReal) (Finset.sum_congr (M := EReal) rfl fun r _ => dk_ld _ _ _ _ _ _ 0 (by omega) (by omega) _ _ r j e))) j e
  rw [rowsUpTo_zero]
  refine (congrFun (View.canon_cons_unit_lit' _ _ _ (fun a => by fin_cases a <;> rfl)) _).trans ?_
  pointwise [k0_pay1]

set_option maxHeartbeats 2000000 in
theorem tile8 (j : Fin 2048) (e : Fin 128) : (outsAt0 m c t).2.2 (ix2 j e)
    = ∑ s : Fin 2048, if j.val < 256 * (s.val / 256 + 1) then dvT (iblk m c 0 t) (iblk m c 1 t) (iblk m c 5 t) (iblk m c 4 t) s j e else 0 := by
  rw [← rowsUpTo_all]
  unfold outsAt0
  frame_out
  refine lastTurn _ _ _ _ _ (fun j e => ?_) j e ((dv7 _ _ _ _ _ j e).trans
    (congrArg (_ + · : EReal → EReal) (Finset.sum_congr (M := EReal) rfl fun r _ => dv_all _ _ _ _ 1792 (by omega) _ r j e)))
  refine turn (N := 1792) _ 6 (by omega) rfl _ _ _ _ _ (fun j e => ?_) (fun j e => (dv6 _ _ _ _ _ j e).trans
    (congrArg (_ + · : EReal → EReal) (Finset.sum_congr (M := EReal) rfl fun r _ => dv_ld _ _ _ _ 1536 (by omega) (by omega) _ _ r j e))) j e
  refine turn (N := 1536) _ 5 (by omega) rfl _ _ _ _ _ (fun j e => ?_) (fun j e => (dv5 _ _ _ _ _ j e).trans
    (congrArg (_ + · : EReal → EReal) (Finset.sum_congr (M := EReal) rfl fun r _ => dv_ld _ _ _ _ 1280 (by omega) (by omega) _ _ r j e))) j e
  refine turn (N := 1280) _ 4 (by omega) rfl _ _ _ _ _ (fun j e => ?_) (fun j e => (dv4 _ _ _ _ _ j e).trans
    (congrArg (_ + · : EReal → EReal) (Finset.sum_congr (M := EReal) rfl fun r _ => dv_ld _ _ _ _ 1024 (by omega) (by omega) _ _ r j e))) j e
  refine turn (N := 1024) _ 3 (by omega) rfl _ _ _ _ _ (fun j e => ?_) (fun j e => (dv3 _ _ _ _ _ j e).trans
    (congrArg (_ + · : EReal → EReal) (Finset.sum_congr (M := EReal) rfl fun r _ => dv_ld _ _ _ _ 768 (by omega) (by omega) _ _ r j e))) j e
  refine turn (N := 768) _ 2 (by omega) rfl _ _ _ _ _ (fun j e => ?_) (fun j e => (dv2 _ _ _ _ _ j e).trans
    (congrArg (_ + · : EReal → EReal) (Finset.sum_congr (M := EReal) rfl fun r _ => dv_ld _ _ _ _ 512 (by omega) (by omega) _ _ r j e))) j e
  refine turn (N := 512) _ 1 (by omega) rfl _ _ _ _ _ (fun j e => ?_) (fun j e => (dv1 _ _ _ _ _ j e).trans
    (congrArg (_ + · : EReal → EReal) (Finset.sum_congr (M := EReal) rfl fun r _ => dv_ld _ _ _ _ 256 (by omega) (by omega) _ _ r j e))) j e
  refine turn (N := 256) _ 0 (by omega) rfl _ _ _ _ _ (fun j e => ?_) (fun j e => (dv0 _ _ _ _ _ j e).trans
    (congrArg (_ + · : EReal → EReal) (Finset.sum_congr (M := EReal) rfl fun r _ => dv_ld _ _ _ _ 0 (by omega) (by omega) _ _ r j e))) j e
  rw [rowsUpTo_zero]
  refine (congrFun (View.canon_cons_unit_lit' _ _ _ (fun a => by fin_cases a <;> rfl)) _).trans ?_
  pointwise [k0_pay2]

end Cert.AttnBwdIdeal.Value
end
-- ==== Proof.AttnBlk.lean ====
module

public import proofs.«01_k».proof.Proof.Attn
public import proofs.«01_k».proof.Proof.Reals
public import Idealize.ShloMosaic.Lib.KernelVsHost

@[expose] public section

/-! The attention gradient's operands, as the host lines before its kernel leave them. -/

set_option maxRecDepth 16384

noncomputable section

open Idealize.ShloMosaic Idealize.ShloMosaic.TcCoe Idealize.SL.Sem
open Idealize.ShloMosaic.Pipeline (Dat)

namespace Cert.AttnBwdIdeal.Value

open Cert.AttnBwdIdeal Cert.AttnBwdIdeal.Gen

theorem idx : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8] ∧ win0_4.index t = ![t.val / 8, t.val % 8]
    ∧ win0_5.index t = ![t.val / 8, t.val % 8] ∧ win0_6.index t = ![t.val / 8, t.val % 8] ∧ win0_7.index t = ![t.val / 8, t.val % 8]
    ∧ win0_8.index t = ![t.val / 8, t.val % 8] :=
  (by decide +kernel : ∀ t : Fin grid0.N, _)

theorem select_or (a b : ℕ) (ha : a < 2048) (hb : b < 2048) (x y : EReal) :
    Scalar.select (IntOp.cmpi CmpIPredicate.sle (BitVec.ofNat 32 a) (BitVec.ofNat 32 b)) x y = if a ≤ b then x else y := by
  by_cases h : a ≤ b
  · rw [if_pos h]
    simp [Scalar.select, IntOp.cmpi, (le_of a b ha hb).2 h]
  · rw [if_neg h]
    have := mt (le_of a b ha hb).1 h
    simp [Scalar.select, IntOp.cmpi, this]

/-! ## The forward pass on the host lines -/

section Forward

variable (a0 : FVec Ideal S2x2048x8x64 .f32) (a1 : FVec Ideal S2x2048x8x32 .f32) (a2 : FVec Ideal S2x2048x8x64 .f32)
  (a3 : FVec Ideal S2x2048x32 .f32) (a4 : FVec Ideal S2x2048x8x64 .f32) (b : Fin 2) (h : Fin 8) (q k : Fin 2048)

/-- A masked score, a row's greatest score, its weights, their sum, its output and its log-sum. -/
def fS : EReal := if k.val ≤ q.val then ((∑ e : Fin 64, a0 (ix4 b q h e) * a2 (ix4 b k h e)) + ∑ e : Fin 32, a3 (ix3 b k e) * a1 (ix4 b q h e)) * sc else ⊥

def fM : EReal := Finset.univ.sup fun k : Fin 2048 => fS a0 a1 a2 a3 b h q k

def fE : EReal := Ideal.exp (fS a0 a1 a2 a3 b h q k - fM a0 a1 a2 a3 b h q)

def fL : EReal := ∑ k : Fin 2048, fE a0 a1 a2 a3 b h q k

def fO (e : Fin 64) : EReal := ∑ k : Fin 2048, a4 (ix4 b k h e) * Ideal.div (fE a0 a1 a2 a3 b h q k) (fL a0 a1 a2 a3 b h q)

def fLse : EReal := fM a0 a1 a2 a3 b h q + Ideal.log (fL a0 a1 a2 a3 b h q)

end Forward

variable (m : (ℓ : Loc nD τ sig) → Buf (Elt Ideal) ℓ) (c : Dev nD)

abbrev A0 : FVec Ideal S2x2048x8x64 .f32 := m ((c : Thread nD τ).loc main_arg0)
abbrev A1 : FVec Ideal S2x2048x8x32 .f32 := m ((c : Thread nD τ).loc main_arg1)
abbrev A2 : FVec Ideal S2x2048x8x64 .f32 := m ((c : Thread nD τ).loc main_arg2)
abbrev A3 : FVec Ideal S2x2048x32 .f32 := m ((c : Thread nD τ).loc main_arg3)
abbrev A4 : FVec Ideal S2x2048x8x64 .f32 := m ((c : Thread nD τ).loc main_arg4)
abbrev A5 : FVec Ideal S2x2048x8x64 .f32 := m ((c : Thread nD τ).loc main_arg5)

theorem bot : Ideal.ofBits .f32 0xFF800000#32 = (⊥ : EReal) := by simp [Ideal.ofBits, Ideal.ieee]

section Steps

variable (x : FVec Ideal S2x8x2048x2048 .f32) (y z : FVec Ideal S2x8x2048 .f32) (u : FVec Ideal S2x2048x8x64 .f32)

/-- The largest score of every row. -/
abbrev maxStep : FVec Ideal S2x8x2048 .f32 :=
  Host.reduce FloatOps.maximumf x (constant S_ .f32 0xFF800000#32) reducesTo_S2x8x2048x2048_S2x8x2048_d3 h_S_

abbrev expStep : FVec Ideal S2x8x2048x2048 .f32 :=
  Host.exp (subf x (broadcastInDim S2x8x2048x2048 ![0, 1, 2, 3] bcast_S2x8x2048x1_S2x8x2048x2048_0_1_2_3
    (broadcastInDim S2x8x2048x1 ![0, 1, 2] bcast_S2x8x2048_S2x8x2048x1_0_1_2 y)))

abbrev sumStep : FVec Ideal S2x8x2048 .f32 :=
  Host.reduceAdd x (constant S_ .f32 0x00000000#32) reducesTo_S2x8x2048x2048_S2x8x2048_d3 h_S_

abbrev outStep : FVec Ideal S2x2048x8x64 .f32 :=
  transpose S2x2048x8x64 [0, 3, 1, 2] (Host.dotGeneral dot_S2x2048x8x64_S2x8x2048x2048_S2x8x64x2048_1_3_3_2_02_01 none u
    (Host.divf x (broadcastInDim S2x8x2048x2048 ![0, 1, 2, 3] bcast_S2x8x2048x1_S2x8x2048x2048_0_1_2_3
    (broadcastInDim S2x8x2048x1 ![0, 1, 2] bcast_S2x8x2048_S2x8x2048x1_0_1_2 y)))) transposes_S2x8x64x2048_S2x2048x8x64_0_3_1_2

abbrev lseStep : FVec Ideal S2x2048x8x128 .f32 :=
  broadcastInDim S2x2048x8x128 ![0, 1, 2, 3] bcast_S2x2048x8x1_S2x2048x8x128_0_1_2_3
    (transpose S2x2048x8x1 [0, 2, 1, 3] (addf (broadcastInDim S2x8x2048x1 ![0, 1, 2] bcast_S2x8x2048_S2x8x2048x1_0_1_2 y)
      (Host.log (broadcastInDim S2x8x2048x1 ![0, 1, 2] bcast_S2x8x2048_S2x8x2048x1_0_1_2 z))) transposes_S2x8x2048x1_S2x2048x8x1_0_2_1_3)

variable (b : Fin 2) (h : Fin 8) (q k : Fin 2048)

theorem max_at : maxStep x (ix3 b h q) = Finset.univ.sup fun k : Fin 2048 => (x (ix4 b h q k) : EReal) := by
  pointwise
  rw [bot]
  rfl

theorem exp_at : expStep x y (ix4 b h q k) = Ideal.exp (x (ix4 b h q k) - y (ix3 b h q)) := by
  pointwise

theorem sum_at : sumStep x (ix3 b h q) = ∑ k : Fin 2048, (x (ix4 b h q k) : EReal) := by
  pointwise

theorem out_at (e : Fin 64) : outStep x y u (ix4 b q h e) = ∑ k : Fin 2048, (u (ix4 b k h e) : EReal) * Ideal.div (x (ix4 b h q k)) (y (ix3 b h q)) := by
  pointwise

theorem lse_at (e : Fin 128) : lseStep y z (ix4 b q h e) = (y (ix3 b h q) : EReal) + Ideal.log (z (ix3 b h q)) := by
  pointwise

/-! ### The kernel's operands: a head's lanes padded to 128 -/

variable (v : FVec Ideal S2x2048x8x32 .f32) (R : Fin 4096) (C : Fin 1024)

abbrev hd (C : Fin 1024) : Fin 8 := ⟨C / 128, by omega⟩
abbrev ln (C : Fin 1024) : Fin 128 := ⟨C % 128, by omega⟩

/-- Sixty-four lanes, thirty-two lanes, zeros. -/
def lay2 (f : Fin 64 → EReal) (g : Fin 32 → EReal) (e : Fin 128) : EReal :=
  if h : e.val < 64 then f ⟨e, h⟩ else if h2 : e.val < 96 then g ⟨e - 64, by omega⟩ else 0

/-- Sixty-four zeros, sixty-four lanes. -/
def lay1 (f : Fin 64 → EReal) (e : Fin 128) : EReal := if h : e.val < 64 then 0 else f ⟨e - 64, by omega⟩

abbrev catStep : FVec Ideal S4096x1024 .f32 :=
  shapeCast _ (pad S2x2048x8x128 ![0, 0, 0, 0] ![0, 0, 0, 32] ![0, 0, 0, 0]
    (concatenate S2x2048x8x96 3 [⟨S2x2048x8x64, u⟩, ⟨S2x2048x8x32, v⟩] concatenates_S2x2048x8x64_S2x2048x8x32_S2x2048x8x96_d3)
    (sitofp .f32 (constantI S_ 32 0#32)) pads_S2x2048x8x96_S2x2048x8x128_000_000_000_0320 h_S_) shapeCasts_S2x2048x8x128_S4096x1024

abbrev lowStep : FVec Ideal S4096x1024 .f32 :=
  shapeCast _ (pad S2x2048x8x128 ![0, 0, 0, 64] ![0, 0, 0, 0] ![0, 0, 0, 0] u
    (sitofp .f32 (constantI S_ 32 0#32)) pads_S2x2048x8x64_S2x2048x8x128_000_000_000_6400 h_S_) shapeCasts_S2x2048x8x128_S4096x1024

theorem cat_at : catStep u v (ix2 R C) = lay2 (fun e => u (ix4 (Reals.bat R) (Reals.pos R) (hd C) e))
    (fun e => v (ix4 (Reals.bat R) (Reals.pos R) (hd C) e)) (ln C) := by
  have hC := C.isLt
  have hR := R.isLt
  pointwise
  unfold lay2
  have c1 : R.val / 2048 < 2 := by omega
  have c2 : R.val % 2048 < 2048 := by omega
  have c3 : C.val / 128 < 8 := by omega
  by_cases h : C.val % 128 < 96
  · by_cases h1 : C.val % 128 < 64
    · simp only [c1, c2, c3, h, h1, and_self, ↓reduceDIte]
    · simp only [c1, c2, c3, h, h1, and_self, ↓reduceDIte]
  · have h1 : ¬C.val % 128 < 64 := by omega
    simp only [c1, c2, c3, h, h1, and_false, ↓reduceDIte]
    exact sitofp_zero (φ := .f32)

theorem low_at : lowStep u (ix2 R C) = lay1 (fun e => u (ix4 (Reals.bat R) (Reals.pos R) (hd C) e)) (ln C) := by
  have hC := C.isLt
  have hR := R.isLt
  pointwise
  unfold lay1
  have c1 : R.val / 2048 < 2 := by omega
  have c2 : R.val % 2048 < 2048 := by omega
  have c3 : C.val / 128 < 8 := by omega
  have c4 : C.val % 128 - 64 < 64 := by omega
  by_cases h : C.val % 128 < 64
  · have h1 : ¬64 ≤ C.val % 128 := by omega
    simp only [h, h1, false_and, and_false, ↓reduceDIte]
    exact sitofp_zero (φ := .f32)
  · have h1 : 64 ≤ C.val % 128 := by omega
    simp only [c1, c2, c3, c4, h, h1, and_self, ↓reduceDIte]

end Steps

section Host

def W12 : FVec Ideal S2x8x2048x2048 .f32 := V m c main_v12
def W13 : FVec Ideal S2x8x2048 .f32 := V m c main_v13
def W17 : FVec Ideal S2x8x2048x2048 .f32 := V m c main_v17
def W18 : FVec Ideal S2x8x2048 .f32 := V m c main_v18
def W23 : FVec Ideal S2x2048x8x64 .f32 := V m c main_v23
def W27 : FVec Ideal S2x2048x8x128 .f32 := V m c main_v27

variable (b : Fin 2) (h : Fin 8) (q k : Fin 2048)

theorem r12 : W12 m c (ix4 b h q k) = fS (A0 m c) (A1 m c) (A2 m c) (A3 m c) b h q k := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]
  pointwise
  rw [bot]
  exact select_or _ _ k.isLt q.isLt _ _

theorem e13 : W13 m c = maxStep (W12 m c) := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]

theorem r13 : W13 m c (ix3 b h q) = fM (A0 m c) (A1 m c) (A2 m c) (A3 m c) b h q := by
  rw [e13, max_at, fM]
  simp only [r12]

theorem e17 : W17 m c = expStep (W12 m c) (W13 m c) := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]

theorem r17 : W17 m c (ix4 b h q k) = fE (A0 m c) (A1 m c) (A2 m c) (A3 m c) b h q k := by
  rw [e17, exp_at, fE, r12, r13]

theorem e18 : W18 m c = sumStep (W17 m c) := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]

theorem r18 : W18 m c (ix3 b h q) = fL (A0 m c) (A1 m c) (A2 m c) (A3 m c) b h q := by
  rw [e18, sum_at, fL]
  simp only [r17]

theorem e23 : W23 m c = outStep (W17 m c) (W18 m c) (A4 m c) := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]

theorem r23 (e : Fin 64) : W23 m c (ix4 b q h e) = fO (A0 m c) (A1 m c) (A2 m c) (A3 m c) (A4 m c) b h q e := by
  rw [e23, out_at, fO]
  simp only [r17, r18]

theorem e27 : W27 m c = lseStep (W13 m c) (W18 m c) := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]

theorem r27 (e : Fin 128) : W27 m c (ix4 b q h e) = fLse (A0 m c) (A1 m c) (A2 m c) (A3 m c) b h q := by
  rw [e27, lse_at, fLse, r13, r18]

theorem e33 : V m c main_v33 = truncf .bf16 (catStep (A0 m c) (A1 m c)) bitsLt_bf16_f32 := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]
  try rfl

theorem e37 : V m c main_v37 = truncf .bf16 (catStep (A2 m c) (broadcastInDim S2x2048x8x32 ![0, 1, 2, 3] bcast_S2x2048x1x32_S2x2048x8x32_0_1_2_3
    (broadcastInDim S2x2048x1x32 ![0, 1, 3] bcast_S2x2048x32_S2x2048x1x32_0_1_3 (A3 m c)))) bitsLt_bf16_f32 := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]
  try rfl

theorem e40 : V m c main_v40 = truncf .bf16 (lowStep (A4 m c)) bitsLt_bf16_f32 := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]
  try rfl

theorem e43 : V m c main_v43 = truncf .bf16 (lowStep (W23 m c)) bitsLt_bf16_f32 := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]
  try rfl

theorem e44 : V m c main_v44 = shapeCast S4096x1024 (W27 m c) shapeCasts_S2x2048x8x128_S4096x1024 := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]
  try rfl

theorem e47 : V m c main_v47 = truncf .bf16 (lowStep (A5 m c)) bitsLt_bf16_f32 := by
  simp only [W12, W13, W17, W18, W23, W27, V, hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append]
  entry_read
  simp only [StableHlo.TRef.toBuf, StableHlo.TRef.ofBuf, cast_eq]
  try rfl

end Host

section Blocks

variable (t : Fin cfg0.N)

theorem tlt : t.val < 16 := lt_of_lt_of_eq t.isLt N_0

/-- Grid point `t`'s sequence and head, and a tile's row and lane in the whole arrays. -/
abbrev tb : Fin 2 := ⟨t.val / 8, by have := tlt t; omega⟩
abbrev th : Fin 8 := ⟨t.val % 8, by omega⟩
abbrev trow (r : Fin 2048) : Fin 4096 := ⟨t.val / 8 * 2048 + r, by have := tlt t; omega⟩
abbrev tcol (e : Fin 128) : Fin 1024 := ⟨t.val % 8 * 128 + e, by omega⟩

theorem bat_row (r : Fin 2048) : Reals.bat (trow t r) = tb t := Fin.ext (by dsimp [Reals.bat]; omega)
theorem pos_row (r : Fin 2048) : Reals.pos (trow t r) = r := Fin.ext (by dsimp [Reals.pos]; omega)
theorem hd_col (e : Fin 128) : hd (tcol t e) = th t := Fin.ext (by dsimp [hd]; omega)
theorem ln_col (e : Fin 128) : ln (tcol t e) = e := Fin.ext (by dsimp [ln]; omega)

/-- A head's query, key, value, output, log-sum and cotangent rows as the kernel is given them. -/
def hq (a0 : FVec Ideal S2x2048x8x64 .f32) (a1 : FVec Ideal S2x2048x8x32 .f32) (b : Fin 2) (h : Fin 8) (r : Fin 2048) : Fin 128 → EReal :=
  lay2 (fun e => a0 (ix4 b r h e)) (fun e => a1 (ix4 b r h e))

def hk (a2 : FVec Ideal S2x2048x8x64 .f32) (a3 : FVec Ideal S2x2048x32 .f32) (b : Fin 2) (h : Fin 8) (r : Fin 2048) : Fin 128 → EReal :=
  lay2 (fun e => a2 (ix4 b r h e)) (fun e => a3 (ix3 b r e))

def hv (a4 : FVec Ideal S2x2048x8x64 .f32) (b : Fin 2) (h : Fin 8) (r : Fin 2048) : Fin 128 → EReal := lay1 (fun e => a4 (ix4 b r h e))

def ho (a0 : FVec Ideal S2x2048x8x64 .f32) (a1 : FVec Ideal S2x2048x8x32 .f32) (a2 : FVec Ideal S2x2048x8x64 .f32)
    (a3 : FVec Ideal S2x2048x32 .f32) (a4 : FVec Ideal S2x2048x8x64 .f32) (b : Fin 2) (h : Fin 8) (r : Fin 2048) : Fin 128 → EReal :=
  lay1 (fun e => fO a0 a1 a2 a3 a4 b h r e)

section Forms

variable (a0 : FVec Ideal S2x2048x8x64 .f32) (a1 : FVec Ideal S2x2048x8x32 .f32) (a2 : FVec Ideal S2x2048x8x64 .f32)
  (a3 : FVec Ideal S2x2048x32 .f32) (a4 a5 : FVec Ideal S2x2048x8x64 .f32) (b : Fin 2) (h : Fin 8) (r j : Fin 2048) (e : Fin 128)

/-- A row's weights from its saved log-sum, the score gradients, and the three results of a head. -/
def pA : EReal := Ideal.exp ((if j.val ≤ r.val then (∑ e : Fin 128, hq a0 a1 b h r e * hk a2 a3 b h j e) * sc else ⊥) - fLse a0 a1 a2 a3 b h r)

def dA : EReal := (∑ e : Fin 128, hv a5 b h r e * hv a4 b h j e) - ∑ e : Fin 128, hv a5 b h r e * ho a0 a1 a2 a3 a4 b h r e

def gA : EReal := pA a0 a1 a2 a3 b h r j * dA a0 a1 a2 a3 a4 a5 b h r j * sc

def dqA : EReal := ∑ j : Fin 2048, if j.val < 256 * (r.val / 256 + 1) then gA a0 a1 a2 a3 a4 a5 b h r j * hk a2 a3 b h j e else 0

def dkA : EReal := ∑ s : Fin 2048, if r.val < 256 * (s.val / 256 + 1) then gA a0 a1 a2 a3 a4 a5 b h s r * hq a0 a1 b h s e else 0

def dvA : EReal := ∑ s : Fin 2048, if r.val < 256 * (s.val / 256 + 1) then pA a0 a1 a2 a3 b h s r * hv a5 b h s e else 0

end Forms

theorem blk0 (r : Fin 2048) (e : Fin 128) : (iblk m c 0 t : Vec Ideal S2048x128 .bf16) (ix2 r e) = hq (A0 m c) (A1 m c) (tb t) (th t) r e := by
  have h : (V m c main_v33 : FVec Ideal S4096x1024 .bf16) (ix2 (trow t r) (tcol t e)) = hq (A0 m c) (A1 m c) (tb t) (th t) r e := by
    rw [e33]
    refine (truncf_apply _ _ _ _).trans ((cat_at ..).trans ?_)
    rw [bat_row, pos_row, hd_col, ln_col]; rfl
  rw [← h]; blk_ext [iblk, idx t]

theorem blk1 (r : Fin 2048) (e : Fin 128) : (iblk m c 1 t : Vec Ideal S2048x128 .bf16) (ix2 r e) = hk (A2 m c) (A3 m c) (tb t) (th t) r e := by
  have h : (V m c main_v37 : FVec Ideal S4096x1024 .bf16) (ix2 (trow t r) (tcol t e)) = hk (A2 m c) (A3 m c) (tb t) (th t) r e := by
    rw [e37]
    refine (truncf_apply _ _ _ _).trans ((cat_at ..).trans ?_)
    rw [bat_row, pos_row, hd_col, ln_col, hk]
    congr 1
    funext e
    pointwise
  rw [← h]; blk_ext [iblk, idx t]

theorem blk2 (r : Fin 2048) (e : Fin 128) : (iblk m c 2 t : Vec Ideal S2048x128 .bf16) (ix2 r e) = hv (A4 m c) (tb t) (th t) r e := by
  have h : (V m c main_v40 : FVec Ideal S4096x1024 .bf16) (ix2 (trow t r) (tcol t e)) = hv (A4 m c) (tb t) (th t) r e := by
    rw [e40]
    refine (truncf_apply _ _ _ _).trans ((low_at ..).trans ?_)
    rw [bat_row, pos_row, hd_col, ln_col]; rfl
  rw [← h]; blk_ext [iblk, idx t]

theorem blk3 (r : Fin 2048) (e : Fin 128) : (iblk m c 3 t : Vec Ideal S2048x128 .bf16) (ix2 r e)
    = ho (A0 m c) (A1 m c) (A2 m c) (A3 m c) (A4 m c) (tb t) (th t) r e := by
  have h : (V m c main_v43 : FVec Ideal S4096x1024 .bf16) (ix2 (trow t r) (tcol t e))
      = ho (A0 m c) (A1 m c) (A2 m c) (A3 m c) (A4 m c) (tb t) (th t) r e := by
    rw [e43]
    refine (truncf_apply _ _ _ _).trans ((low_at ..).trans ?_)
    rw [bat_row, pos_row, hd_col, ln_col, ho]
    simp only [r23]
  rw [← h]; blk_ext [iblk, idx t]

theorem join_at (w : FVec Ideal S2x2048x8x128 .f32) (r : Fin 2048) (e : Fin 128) :
    shapeCast S4096x1024 w shapeCasts_S2x2048x8x128_S4096x1024 (ix2 (trow t r) (tcol t e)) = w (ix4 (tb t) r (th t) e) := by
  have ht := tlt t
  pointwise
  blk_ext

theorem v44 (r : Fin 2048) (e : Fin 128) : (V m c main_v44 : FVec Ideal S4096x1024 .f32) (ix2 (trow t r) (tcol t e))
    = fLse (A0 m c) (A1 m c) (A2 m c) (A3 m c) (tb t) (th t) r :=
  (congrFun (e44 m c) _).trans ((join_at t _ r e).trans (r27 m c (tb t) (th t) r e))

theorem rd4 (f : Vec Ideal S4096x1024 .f32) (r : Fin 2048) (e : Fin 128) :
    (View.read (Elt Ideal) ((cfg0.win 4).blk t).view f : Vec Ideal S2048x128 .f32) (ix2 r e) = f ((win0_4.blk t).view.emb (ix2 r e)) := rfl

theorem emb4 (r : Fin 2048) (e : Fin 128) : (win0_4.blk t).view.emb (ix2 r e) = ix2 (trow t r) (tcol t e) := by
  blk_ext [idx t]

theorem blk4 (r : Fin 2048) (e : Fin 128) : (iblk m c 4 t : Vec Ideal S2048x128 .f32) (ix2 r e)
    = fLse (A0 m c) (A1 m c) (A2 m c) (A3 m c) (tb t) (th t) r :=
  (rd4 t (V m c main_v44) r e).trans ((congrArg (V m c main_v44 : FVec Ideal S4096x1024 .f32) (emb4 t r e)).trans (v44 m c t r e))

theorem blk5 (r : Fin 2048) (e : Fin 128) : (iblk m c 5 t : Vec Ideal S2048x128 .bf16) (ix2 r e) = hv (A5 m c) (tb t) (th t) r e := by
  have h : (V m c main_v47 : FVec Ideal S4096x1024 .bf16) (ix2 (trow t r) (tcol t e)) = hv (A5 m c) (tb t) (th t) r e := by
    rw [e47]
    refine (truncf_apply _ _ _ _).trans ((low_at ..).trans ?_)
    rw [bat_row, pos_row, hd_col, ln_col]; rfl
  rw [← h]; blk_ext [iblk, idx t]

theorem pH_blk (r j : Fin 2048) : pH (iblk m c 0 t) (iblk m c 1 t) (iblk m c 4 t) r j = pA (A0 m c) (A1 m c) (A2 m c) (A3 m c) (tb t) (th t) r j := by
  unfold pH pA sH
  simp only [blk0, blk1, blk4]

theorem dH_blk (r j : Fin 2048) : dH (iblk m c 2 t) (iblk m c 3 t) (iblk m c 5 t) r j
    = dA (A0 m c) (A1 m c) (A2 m c) (A3 m c) (A4 m c) (A5 m c) (tb t) (th t) r j := by
  unfold dH dA
  simp only [blk2, blk3, blk5]

theorem gH_blk (r j : Fin 2048) : gH (iblk m c 0 t) (iblk m c 1 t) (iblk m c 2 t) (iblk m c 3 t) (iblk m c 5 t) (iblk m c 4 t) r j
    = gA (A0 m c) (A1 m c) (A2 m c) (A3 m c) (A4 m c) (A5 m c) (tb t) (th t) r j := by
  unfold gH gA
  rw [pH_blk, dH_blk]

/-! What the kernel leaves at a grid point: the results of the head it works on. -/

theorem pt6 (r : Fin 2048) (e : Fin 128) : (outsAt0 m c t).1 (ix2 r e) = dqA (A0 m c) (A1 m c) (A2 m c) (A3 m c) (A4 m c) (A5 m c) (tb t) (th t) r e := by
  refine (tile6 m c t r e).trans ?_
  unfold dqA dqH
  refine Finset.sum_congr rfl fun j _ => ?_
  simp only [gH_blk, blk1]

theorem at6 (y : S2048x128.Idx) : (outsAt0 m c t).1 y = dqA (A0 m c) (A1 m c) (A2 m c) (A3 m c) (A4 m c) (A5 m c) (tb t) (th t) (y 0) (y 1) :=
  (congrArg _ (eq_ix2 y)).trans (pt6 m c t (y 0) (y 1))

theorem pt7 (r : Fin 2048) (e : Fin 128) : (outsAt0 m c t).2.1 (ix2 r e) = dkA (A0 m c) (A1 m c) (A2 m c) (A3 m c) (A4 m c) (A5 m c) (tb t) (th t) r e := by
  refine (tile7 m c t r e).trans ?_
  unfold dkA dkT
  refine Finset.sum_congr rfl fun j _ => ?_
  simp only [gH_blk, blk0]

theorem at7 (y : S2048x128.Idx) : (outsAt0 m c t).2.1 y = dkA (A0 m c) (A1 m c) (A2 m c) (A3 m c) (A4 m c) (A5 m c) (tb t) (th t) (y 0) (y 1) :=
  (congrArg _ (eq_ix2 y)).trans (pt7 m c t (y 0) (y 1))

theorem pt8 (r : Fin 2048) (e : Fin 128) : (outsAt0 m c t).2.2 (ix2 r e) = dvA (A0 m c) (A1 m c) (A2 m c) (A3 m c) (A5 m c) (tb t) (th t) r e := by
  refine (tile8 m c t r e).trans ?_
  unfold dvA dvT
  refine Finset.sum_congr rfl fun j _ => ?_
  simp only [pH_blk, blk5]

theorem at8 (y : S2048x128.Idx) : (outsAt0 m c t).2.2 y = dvA (A0 m c) (A1 m c) (A2 m c) (A3 m c) (A5 m c) (tb t) (th t) (y 0) (y 1) :=
  (congrArg _ (eq_ix2 y)).trans (pt8 m c t (y 0) (y 1))

end Blocks

theorem final6 : (dats m 0 c).arrAt 6 cfg0.N = fun i : S4096x1024.Idx =>
    dqA (A0 m c) (A1 m c) (A2 m c) (A3 m c) (A4 m c) (A5 m c) (Reals.bat (i 0)) (hd (i 1)) (Reals.pos (i 0)) (ln (i 1)) := by
  refine (dats m 0 c).arrAt_eq_of_covers 6 _ (by decide +kernel) fun t hf y => ?_
  blk_simp
  rw [after0_6]
  refine (at6 m c t _).trans ?_
  have ht := tlt t
  have hy : (y 0).val < 2048 := (y 0).isLt
  have hz : (y 1).val < 128 := (y 1).isLt
  congr 1 <;> (apply Fin.ext; try dsimp only [Reals.bat, Reals.pos, hd, ln, tb, th]; blk_simp [idx t]; try (dsimp only; omega))

theorem final7 : (dats m 0 c).arrAt 7 cfg0.N = fun i : S4096x1024.Idx =>
    dkA (A0 m c) (A1 m c) (A2 m c) (A3 m c) (A4 m c) (A5 m c) (Reals.bat (i 0)) (hd (i 1)) (Reals.pos (i 0)) (ln (i 1)) := by
  refine (dats m 0 c).arrAt_eq_of_covers 7 _ (by decide +kernel) fun t hf y => ?_
  blk_simp
  rw [after0_7]
  refine (at7 m c t _).trans ?_
  have ht := tlt t
  have hy : (y 0).val < 2048 := (y 0).isLt
  have hz : (y 1).val < 128 := (y 1).isLt
  congr 1 <;> (apply Fin.ext; try dsimp only [Reals.bat, Reals.pos, hd, ln, tb, th]; blk_simp [idx t]; try (dsimp only; omega))

theorem final8 : (dats m 0 c).arrAt 8 cfg0.N = fun i : S4096x1024.Idx =>
    dvA (A0 m c) (A1 m c) (A2 m c) (A3 m c) (A5 m c) (Reals.bat (i 0)) (hd (i 1)) (Reals.pos (i 0)) (ln (i 1)) := by
  refine (dats m 0 c).arrAt_eq_of_covers 8 _ (by decide +kernel) fun t hf y => ?_
  blk_simp
  rw [after0_8]
  refine (at8 m c t _).trans ?_
  have ht := tlt t
  have hy : (y 0).val < 2048 := (y 0).isLt
  have hz : (y 1).val < 128 := (y 1).isLt
  congr 1 <;> (apply Fin.ext; try dsimp only [Reals.bat, Reals.pos, hd, ln, tb, th]; blk_simp [idx t]; try (dsimp only; omega))

end Cert.AttnBwdIdeal.Value
end
-- ==== Proof.AttnMath.lean ====
module

public import proofs.«01_k».proof.Proof.AttnBlk
public import proofs.«01_k».proof.Proof.Rms

@[expose] public section

/-! The attention gradient at real numbers: the weights recomputed from the saved log-sum are the softmax's, and the
saved output gives the sum the softmax's own gradient takes over the keys. -/

set_option maxRecDepth 16384

noncomputable section

open Idealize.ShloMosaic Idealize.ShloMosaic.TcCoe Idealize.SL.Sem

namespace Cert.AttnBwdIdeal.Value

open Cert.AttnBwdIdeal Cert.AttnBwdIdeal.Gen

/-! ## One row of a softmax -/

section Row

variable (σ : Fin 2048 → ℝ) (q : Fin 2048)

/-- A row's masked scores. -/
def mrow (k : Fin 2048) : EReal := if k.val ≤ q.val then (σ k : EReal) else ⊥

theorem sup_real : ∃ μ : ℝ, (Finset.univ.sup (mrow σ q)) = (μ : EReal) := by
  have h1 : Finset.univ.sup (mrow σ q) < ⊤ := by
    rw [Finset.sup_lt_iff (by simp)]
    intro k _
    unfold mrow
    split
    · exact EReal.coe_lt_top _
    · simp
  have h2 : (σ q : EReal) ≤ Finset.univ.sup (mrow σ q) := by
    refine le_trans (le_of_eq ?_) (Finset.le_sup (Finset.mem_univ q))
    rw [mrow, if_pos le_rfl]
  generalize Finset.univ.sup (mrow σ q) = M at *
  induction M with
  | bot => simp at h2
  | top => simp at h1
  | coe r => exact ⟨r, rfl⟩

/-- A row's weights are nonnegative numbers, zero under the mask; their sum `l` is positive, and the weight over `l` is
the exponential of the score less the log-sum. -/
theorem row : ∃ (ε : Fin 2048 → ℝ) (l : ℝ), 0 < l ∧ (∀ k, ¬k.val ≤ q.val → ε k = 0)
    ∧ (∀ k, Ideal.exp (mrow σ q k - Finset.univ.sup (mrow σ q)) = (ε k : EReal)) ∧ ∑ k, (ε k : EReal) = (l : EReal)
    ∧ ∀ k, Ideal.exp (mrow σ q k - (Finset.univ.sup (mrow σ q) + Ideal.log (l : EReal))) = ((ε k / l : ℝ) : EReal) := by
  obtain ⟨μ, hμ⟩ := sup_real σ q
  rw [hμ]
  have hq : 0 < ∑ k : Fin 2048, if k.val ≤ q.val then Real.exp (σ k - μ) else 0 := by
    refine Finset.sum_pos' (fun k _ => ?_) ⟨q, Finset.mem_univ _, ?_⟩
    · split
      · exact (Real.exp_pos _).le
      · exact le_rfl
    · rw [if_pos le_rfl]; exact Real.exp_pos _
  refine ⟨fun k => if k.val ≤ q.val then Real.exp (σ k - μ) else 0, _, hq, fun k hk => if_neg hk, fun k => ?_, Reals.sum_coe _ _, fun k => ?_⟩
  · unfold mrow
    by_cases h : k.val ≤ q.val
    · dsimp only; rw [if_pos h, if_pos h, ← EReal.coe_sub, Ideal.exp_coe]
    · dsimp only; rw [if_neg h, if_neg h, EReal.bot_sub]; exact Ideal.exp_bot
  · generalize ∑ k : Fin 2048, (if k.val ≤ q.val then Real.exp (σ k - μ) else 0) = l at *
    rw [Ideal.log_coe, if_neg (not_le.2 hq), ← EReal.coe_add]
    unfold mrow
    by_cases h : k.val ≤ q.val
    · dsimp only; rw [if_pos h, if_pos h, ← EReal.coe_sub, Ideal.exp_coe, ← sub_sub, Real.exp_sub, Real.exp_log hq]
    · dsimp only; rw [if_neg h, if_neg h, EReal.bot_sub, zero_div]; exact Ideal.exp_bot

end Row

/-! ## Sums over padded lanes -/

theorem sum_lay2 (f f' : Fin 64 → EReal) (g g' : Fin 32 → EReal) :
    ∑ e : Fin 128, lay2 f g e * lay2 f' g' e = (∑ e : Fin 64, f e * f' e) + ∑ e : Fin 32, g e * g' e := by
  refine (Fin.sum_univ_add (M := EReal) (a := 64) (b := 64) _).trans ?_
  refine congrArg₂ (· + · : EReal → EReal → EReal) (Finset.sum_congr rfl fun e _ => ?_) ?_
  · have h : (Fin.castAdd 64 e).val < 64 := e.isLt
    rw [lay2, lay2, dif_pos h, dif_pos h]; rfl
  · refine (Fin.sum_univ_add (M := EReal) (a := 32) (b := 32) _).trans ?_
    rw [← add_zero (∑ e : Fin 32, g e * g' e)]
    refine congrArg₂ (· + · : EReal → EReal → EReal) (Finset.sum_congr rfl fun e _ => ?_) (Finset.sum_eq_zero fun e _ => ?_)
    · have h : ¬(Fin.natAdd 64 (Fin.castAdd 32 e)).val < 64 := by simp
      have h2 : (Fin.natAdd 64 (Fin.castAdd 32 e)).val < 96 := by rw [Fin.val_natAdd, Fin.val_castAdd]; omega
      rw [lay2, lay2, dif_neg h, dif_neg h, dif_pos h2, dif_pos h2]
      exact congrArg₂ (· * · : EReal → EReal → EReal) (congrArg g (Fin.ext (by simp))) (congrArg g' (Fin.ext (by simp)))
    · have h : ¬(Fin.natAdd 64 (Fin.natAdd 32 e)).val < 64 := by simp
      have h2 : ¬(Fin.natAdd 64 (Fin.natAdd 32 e)).val < 96 := by rw [Fin.val_natAdd, Fin.val_natAdd]; omega
      rw [lay2, dif_neg h, dif_neg h2, zero_mul (M₀ := EReal)]

theorem sum_lay1 (f f' : Fin 64 → EReal) : ∑ e : Fin 128, lay1 f e * lay1 f' e = ∑ e : Fin 64, f e * f' e := by
  refine (Fin.sum_univ_add (M := EReal) (a := 64) (b := 64) _).trans ?_
  rw [← zero_add (∑ e : Fin 64, f e * f' e)]
  refine congrArg₂ (· + · : EReal → EReal → EReal) (Finset.sum_eq_zero fun e _ => ?_) (Finset.sum_congr rfl fun e _ => ?_)
  · have h : (Fin.castAdd 64 e).val < 64 := e.isLt
    rw [lay1, dif_pos h, zero_mul (M₀ := EReal)]
  · have h : ¬(Fin.natAdd 64 e).val < 64 := by simp
    rw [lay1, lay1, dif_neg h, dif_neg h]
    exact congrArg₂ (· * · : EReal → EReal → EReal) (congrArg f (Fin.ext (by simp))) (congrArg f' (Fin.ext (by simp)))

theorem lay2_sum (w : Fin 2048 → EReal) (f : Fin 2048 → Fin 64 → EReal) (g : Fin 2048 → Fin 32 → EReal) (e : Fin 128) :
    ∑ k, w k * lay2 (f k) (g k) e = lay2 (fun e => ∑ k, w k * f k e) (fun e => ∑ k, w k * g k e) e := by
  by_cases h : e.val < 64
  · simp only [lay2, h, ↓reduceDIte]
  by_cases h2 : e.val < 96
  · simp only [lay2, h, h2, ↓reduceDIte]
  · simp only [lay2, h, h2, ↓reduceDIte, mul_zero, Finset.sum_const_zero]

theorem lay1_sum (w : Fin 2048 → EReal) (f : Fin 2048 → Fin 64 → EReal) (e : Fin 128) :
    ∑ k, w k * lay1 (f k) e = lay1 (fun e => ∑ k, w k * f k e) e := by
  by_cases h : e.val < 64
  · simp only [lay1, h, ↓reduceDIte, mul_zero, Finset.sum_const_zero]
  · simp only [lay1, h, ↓reduceDIte]

/-! ## The softmax's own gradient -/

section Forms

variable (a0 : FVec Ideal S2x2048x8x64 .f32) (a1 : FVec Ideal S2x2048x8x32 .f32) (a2 : FVec Ideal S2x2048x8x64 .f32)
  (a3 : FVec Ideal S2x2048x32 .f32) (a4 a5 : FVec Ideal S2x2048x8x64 .f32) (b : Fin 2) (h : Fin 8) (q k : Fin 2048) (e : Fin 128)

def rP : EReal := Ideal.div (fE a0 a1 a2 a3 b h q k) (fL a0 a1 a2 a3 b h q)

def rD : EReal := ∑ e : Fin 64, a5 (ix4 b q h e) * a4 (ix4 b k h e)

def rT : EReal := ∑ k : Fin 2048, rD a4 a5 b h q k * Ideal.div (Ideal.ofBits .f32 0x3F800000#32) (fL a0 a1 a2 a3 b h q * fL a0 a1 a2 a3 b h q) * fE a0 a1 a2 a3 b h q k

def rG : EReal := (if k.val ≤ q.val then (Ideal.div (rD a4 a5 b h q k) (fL a0 a1 a2 a3 b h q) + -rT a0 a1 a2 a3 a4 a5 b h q) * fE a0 a1 a2 a3 b h q k else 0) * sc

/-- The reference's results, laid out as the kernel's. -/
def rdq (e : Fin 128) : EReal :=
  lay2 (fun e => ∑ k : Fin 2048, rG a0 a1 a2 a3 a4 a5 b h q k * a2 (ix4 b k h e))
    (fun e => ∑ k : Fin 2048, rG a0 a1 a2 a3 a4 a5 b h q k * a3 (ix3 b k e)) e

def rdk (e : Fin 128) : EReal :=
  lay2 (fun e => ∑ s : Fin 2048, rG a0 a1 a2 a3 a4 a5 b h s k * a0 (ix4 b s h e))
    (fun e => ∑ s : Fin 2048, rG a0 a1 a2 a3 a4 a5 b h s k * a1 (ix4 b s h e)) e

def rdv (e : Fin 128) : EReal := lay1 (fun e => ∑ s : Fin 2048, a5 (ix4 b s h e) * rP a0 a1 a2 a3 b h s k) e

theorem rG_masked (hk : ¬k.val ≤ q.val) : rG a0 a1 a2 a3 a4 a5 b h q k = 0 := by
  rw [rG, if_neg hk, zero_mul]

end Forms

/-! ## At real numbers -/

theorem swap (u : Fin 64 → ℝ) (w : Fin 2048 → Fin 64 → ℝ) (p : Fin 2048 → ℝ) :
    ∑ e, u e * ∑ j, w j e * p j = ∑ j, (∑ e, u e * w j e) * p j := by
  simp only [Finset.mul_sum, Finset.sum_mul]
  rw [Finset.sum_comm]
  exact Finset.sum_congr rfl fun j _ => Finset.sum_congr rfl fun e _ => by ring

theorem softmax_grad (δ ε : Fin 2048 → ℝ) (q : Fin 2048) {l : ℝ} (hl : 0 < l) (h0 : ∀ k, ¬k.val ≤ q.val → ε k = 0) (κ : ℝ) (k : Fin 2048) :
    ((ε k / l : ℝ) : EReal) * ((δ k - ∑ j, δ j * (ε j / l) : ℝ) : EReal) * (κ : EReal)
      = (if k.val ≤ q.val then (Ideal.div (δ k : EReal) (l : EReal)
          + -∑ j, (δ j : EReal) * Ideal.div ((1 : ℝ) : EReal) ((l : EReal) * (l : EReal)) * (ε j : EReal)) * (ε k : EReal) else 0) * (κ : EReal) := by
  have hll : l * l ≠ 0 := mul_ne_zero hl.ne' hl.ne'
  by_cases h : k.val ≤ q.val
  · rw [if_pos h]
    simp only [← EReal.coe_mul, Reals.div_coe _ hl.ne', Reals.div_coe _ hll, Reals.sum_coe, ← EReal.coe_neg, ← EReal.coe_add]
    congr 2
    have e : ∑ j, δ j * (1 / (l * l)) * ε j = (∑ j, δ j * (ε j / l)) / l := by
      rw [Finset.sum_div]
      exact Finset.sum_congr rfl fun j _ => by field_simp
    rw [e]
    field_simp
    ring
  · rw [if_neg h, h0 k h, zero_div, EReal.coe_zero, zero_mul]

theorem sc_real : ∃ κ : ℝ, sc = (κ : EReal) := by
  refine ⟨13698540 / 134217728, ?_⟩
  simp [sc, Ideal.ofBits, Ideal.ieee, -EReal.coe_mul]; norm_num

section AtReals

variable (x0 : S2x2048x8x64.Idx → ℝ) (x1 : S2x2048x8x32.Idx → ℝ) (x2 : S2x2048x8x64.Idx → ℝ)
  (x3 : S2x2048x32.Idx → ℝ) (x4 x5 : S2x2048x8x64.Idx → ℝ) (b : Fin 2) (h : Fin 8) (q k : Fin 2048)

open Reals (up)

theorem score_real : ∃ σ : Fin 2048 → ℝ, ∀ k, fS (up x0) (up x1) (up x2) (up x3) b h q k = mrow σ q k := by
  obtain ⟨κ, hκ⟩ := sc_real
  refine ⟨fun k => ((∑ e : Fin 64, x0 (ix4 b q h e) * x2 (ix4 b k h e)) + ∑ e : Fin 32, x3 (ix3 b k e) * x1 (ix4 b q h e)) * κ, fun k => ?_⟩
  unfold fS mrow
  rw [hκ]
  split
  · simp only [up, ← EReal.coe_mul, Reals.sum_coe, ← EReal.coe_add]
  · rfl

theorem pA_score : pA (up x0) (up x1) (up x2) (up x3) b h q k
    = Ideal.exp (fS (up x0) (up x1) (up x2) (up x3) b h q k - fLse (up x0) (up x1) (up x2) (up x3) b h q) := by
  unfold pA fS hq hk
  rw [sum_lay2]
  simp only [mul_comm]

/-- The weights and the score gradient of the two forms, and that both vanish under the mask. -/
theorem weights : (∀ k, pA (up x0) (up x1) (up x2) (up x3) b h q k = rP (up x0) (up x1) (up x2) (up x3) b h q k)
    ∧ (∀ k, ¬k.val ≤ q.val → rP (up x0) (up x1) (up x2) (up x3) b h q k = 0)
    ∧ ∀ k, gA (up x0) (up x1) (up x2) (up x3) (up x4) (up x5) b h q k = rG (up x0) (up x1) (up x2) (up x3) (up x4) (up x5) b h q k := by
  obtain ⟨σ, hσ⟩ := score_real x0 x1 x2 x3 b h q
  obtain ⟨ε, l, hl, h0, hε, hsum, hp⟩ := row σ q
  obtain ⟨κ, hκ⟩ := sc_real
  have hM : fM (up x0) (up x1) (up x2) (up x3) b h q = Finset.univ.sup (mrow σ q) := by
    unfold fM
    simp only [hσ]
  have hE : ∀ k, fE (up x0) (up x1) (up x2) (up x3) b h q k = (ε k : EReal) := fun k => by rw [fE, hM, hσ, hε]
  have hL : fL (up x0) (up x1) (up x2) (up x3) b h q = (l : EReal) := by
    unfold fL
    simp only [hE]
    exact hsum
  have hP : ∀ k, rP (up x0) (up x1) (up x2) (up x3) b h q k = ((ε k / l : ℝ) : EReal) := fun k => by
    rw [rP, hE, hL, Reals.div_coe _ hl.ne']
  have hpA : ∀ k, pA (up x0) (up x1) (up x2) (up x3) b h q k = ((ε k / l : ℝ) : EReal) := fun k => by
    rw [pA_score, fLse, hM, hL, hσ, hp]
  have hD : ∀ k, rD (up x4) (up x5) b h q k = ((∑ e : Fin 64, x5 (ix4 b q h e) * x4 (ix4 b k h e) : ℝ) : EReal) := fun k => by
    unfold rD
    simp only [up, ← EReal.coe_mul, Reals.sum_coe]
  have hO : ∀ e, fO (up x0) (up x1) (up x2) (up x3) (up x4) b h q e = ((∑ k : Fin 2048, x4 (ix4 b k h e) * (ε k / l) : ℝ) : EReal) := fun e => by
    unfold fO
    simp only [hE, hL, Reals.div_coe _ hl.ne', up, ← EReal.coe_mul, Reals.sum_coe]
  have hdA : ∀ k, dA (up x0) (up x1) (up x2) (up x3) (up x4) (up x5) b h q k
      = (((∑ e : Fin 64, x5 (ix4 b q h e) * x4 (ix4 b k h e)) - ∑ j : Fin 2048, (∑ e : Fin 64, x5 (ix4 b q h e) * x4 (ix4 b j h e)) * (ε j / l) : ℝ) : EReal) := fun k => by
    unfold dA hv ho
    rw [sum_lay1, sum_lay1]
    simp only [hO, up, ← EReal.coe_mul, Reals.sum_coe, ← EReal.coe_sub]
    refine congrArg (fun x : ℝ => (((∑ e : Fin 64, x5 (ix4 b q h e) * x4 (ix4 b k h e)) - x : ℝ) : EReal)) (swap _ _ _)
  refine ⟨fun k => (hpA k).trans (hP k).symm, fun k hk => by rw [hP, h0 k hk, zero_div]; rfl, fun k => ?_⟩
  unfold gA rG rT
  simp only [hpA, hdA, hD, hE, hL, hκ, Reals.lit_one]
  exact softmax_grad (fun k : Fin 2048 => ∑ e : Fin 64, x5 (ix4 b q h e) * x4 (ix4 b k h e)) ε q hl h0 κ k

theorem dq_eq (e : Fin 128) : rdq (up x0) (up x1) (up x2) (up x3) (up x4) (up x5) b h q e
    = dqA (up x0) (up x1) (up x2) (up x3) (up x4) (up x5) b h q e := by
  obtain ⟨hP, hz, hG⟩ := weights x0 x1 x2 x3 x4 x5 b h q
  unfold rdq dqA hk
  rw [← lay2_sum]
  refine Finset.sum_congr rfl fun j _ => ?_
  rw [hG]
  by_cases hj : j.val < 256 * (q.val / 256 + 1)
  · rw [if_pos hj]
  · rw [if_neg hj, rG_masked _ _ _ _ _ _ _ _ _ _ (by omega), zero_mul]

theorem dk_eq (e : Fin 128) : rdk (up x0) (up x1) (up x2) (up x3) (up x4) (up x5) b h k e
    = dkA (up x0) (up x1) (up x2) (up x3) (up x4) (up x5) b h k e := by
  unfold rdk dkA hq
  rw [← lay2_sum]
  refine Finset.sum_congr rfl fun s _ => ?_
  obtain ⟨hP, hz, hG⟩ := weights x0 x1 x2 x3 x4 x5 b h s
  rw [hG]
  by_cases hj : k.val < 256 * (s.val / 256 + 1)
  · rw [if_pos hj]
  · rw [if_neg hj, rG_masked _ _ _ _ _ _ _ _ _ _ (by omega), zero_mul]

theorem dv_eq (e : Fin 128) : rdv (up x0) (up x1) (up x2) (up x3) (up x5) b h k e
    = dvA (up x0) (up x1) (up x2) (up x3) (up x5) b h k e := by
  unfold rdv dvA hv
  simp only [mul_comm (up x5 _ : EReal)]
  rw [← lay1_sum]
  refine Finset.sum_congr rfl fun s _ => ?_
  obtain ⟨hP, hz, hG⟩ := weights x0 x1 x2 x3 x5 x5 b h s
  rw [hP]
  by_cases hj : k.val < 256 * (s.val / 256 + 1)
  · rw [if_pos hj]
  · rw [if_neg hj, hz _ (by omega), zero_mul]

end AtReals

end Cert.AttnBwdIdeal.Value
end
-- ==== Proof.AttnRef.lean ====
module

public import proofs.«01_k».proof.Proof.AttnMath
public import proofs.«01_k».proof.Proof.Gen.AttnBwdRefIdeal.Read

@[expose] public section

/-! The attention gradient as differentiation gives it. -/

set_option maxRecDepth 16384

noncomputable section

open Idealize.ShloMosaic Idealize.ShloMosaic.TcCoe Idealize.SL.Sem
open Cert.AttnBwdIdeal.Value (fS fM fE fL rP rD rT rG rdq rdk rdv lay1 lay2 sc bot select_or)

namespace Cert.AttnBwdRefIdeal.Read

open Cert.AttnBwdRefIdeal Cert.AttnBwdRefIdeal.Value

variable (a0 : FVec Ideal S2x2048x8x64 .f32) (a1 : FVec Ideal S2x2048x8x32 .f32) (a2 : FVec Ideal S2x2048x8x64 .f32)
  (a3 : FVec Ideal S2x2048x32 .f32) (a4 a5 : FVec Ideal S2x2048x8x64 .f32)

section Stage

variable (b : Fin 2) (h : Fin 8) (q k : Fin 2048)

theorem ref13 : val_main_v13_0 (F := Ideal) a0 a1 a2 a3 (ix4 b h q k) = fS a0 a1 a2 a3 b h q k := by
  pointwise [val_main_v13_0, val_main_v13_1, val_main_call0_v2, val_main_call0_v0, val_main_cst_0, val_main_v12, val_main_v11, val_main_cst,
    val_main_v10, val_main_v9, val_main_v8, val_main_v7, val_main_v6, val_main_v5, val_main_v4, val_main_v3, val_main_v2, val_main_v1, val_main_v0]
  rw [show id (constant (F := Ideal) S_ .f32 0xFF800000#32) ix0 = Ideal.ofBits .f32 0xFF800000#32 from rfl, bot]
  refine (select_or _ _ k.isLt q.isLt _ _).trans ?_
  unfold fS
  simp only [mul_comm (a3 _ : EReal)]

theorem ref14 : val_main_v14 (F := Ideal) a0 a1 a2 a3 (ix3 b h q) = fM a0 a1 a2 a3 b h q := by
  unfold fM
  simp only [← ref13]
  generalize hv : val_main_v13_0 (F := Ideal) a0 a1 a2 a3 = v at *
  pointwise [val_main_v14, val_main_cst_1, hv]
  rw [bot]
  rfl

theorem ref20 (i : S2x8x2048.Idx) : (val_main_v20 (F := Ideal) i : EReal) = ⊥ := bot

theorem ref21 : val_main_v21 (F := Ideal) a0 a1 a2 a3 (ix3 b h q) = fM a0 a1 a2 a3 b h q := by
  refine (val_main_v21_apply ..).trans ?_
  rw [ref14]
  generalize fM a0 a1 a2 a3 b h q = x
  exact (congrArg (fun y : EReal => max y x) (ref20 _)).trans (max_eq_right bot_le)

theorem ref34 : val_main_v34 (F := Ideal) a0 a1 a2 a3 (ix4 b h q k) = fE a0 a1 a2 a3 b h q k := by
  rw [fE, ← ref13, ← ref21]
  generalize hv : val_main_v13_0 (F := Ideal) a0 a1 a2 a3 = v at *
  generalize hw : val_main_v21 (F := Ideal) a0 a1 a2 a3 = w at *
  pointwise [val_main_v34, val_main_v33, val_main_v32, val_main_v31, hv, hw]

theorem ref35 : val_main_v35 (F := Ideal) a0 a1 a2 a3 (ix3 b h q) = fL a0 a1 a2 a3 b h q := by
  unfold fL
  simp only [← ref34]
  generalize hv : val_main_v34 (F := Ideal) a0 a1 a2 a3 = v at *
  pointwise [val_main_v35, val_main_cst_9, hv]

theorem ref38 : val_main_v38 (F := Ideal) a0 a1 a2 a3 (ix4 b h q k) = rP a0 a1 a2 a3 b h q k := by
  rw [rP, ← ref34, ← ref35]
  generalize hv : val_main_v34 (F := Ideal) a0 a1 a2 a3 = v at *
  generalize hw : val_main_v35 (F := Ideal) a0 a1 a2 a3 = w at *
  pointwise [val_main_v38, val_main_v37, val_main_v36, hv, hw]

theorem ref45 : val_main_v45 (F := Ideal) a4 a5 (ix4 b h q k) = rD a4 a5 b h q k := by
  unfold rD
  pointwise [val_main_v45, val_main_v44]

theorem ref51 : val_main_v51 (F := Ideal) a0 a1 a2 a3 a4 a5 (ix3 b h q) = rT a0 a1 a2 a3 a4 a5 b h q := by
  unfold rT
  simp only [← ref34, ← ref35, ← ref45]
  generalize hv : val_main_v34 (F := Ideal) a0 a1 a2 a3 = v at *
  generalize hw : val_main_v35 (F := Ideal) a0 a1 a2 a3 = w at *
  generalize hu : val_main_v45 (F := Ideal) a4 a5 = u at *
  pointwise [val_main_v51, val_main_cst_11, val_main_v50, val_main_v49, val_main_v48, val_main_v41, val_main_v40, val_main_cst_10,
    val_main_v39, val_main_v36, hv, hw, hu]

theorem ref56 : val_main_v56 (F := Ideal) a0 a1 a2 a3 a4 a5 (ix3 b h q) = -rT a0 a1 a2 a3 a4 a5 b h q := by
  rw [← ref51]
  generalize hv : val_main_v51 (F := Ideal) a0 a1 a2 a3 a4 a5 = v at *
  pointwise [val_main_v56, val_main_cst_12, val_main_v53, val_main_v52, hv]
  refine (Fin.sum_univ_one (M := EReal) _).trans ?_
  rfl

theorem ref62 : val_main_v62 (F := Ideal) a0 a1 a2 a3 a4 a5 (ix4 b h q k) = rG a0 a1 a2 a3 a4 a5 b h q k := by
  rw [rG, ← ref56, ← ref34, ← ref35, ← ref45]
  generalize hv : val_main_v34 (F := Ideal) a0 a1 a2 a3 = v at *
  generalize hw : val_main_v35 (F := Ideal) a0 a1 a2 a3 = w at *
  generalize hu : val_main_v45 (F := Ideal) a4 a5 = u at *
  generalize ht : val_main_v56 (F := Ideal) a0 a1 a2 a3 a4 a5 = t at *
  pointwise [val_main_v62, val_main_v61, val_main_cst_13, val_main_v60, val_main_call1_v0, val_main_call1_cst, val_main_v59, val_main_v58,
    val_main_v57, val_main_v55, val_main_v54, val_main_v36, val_main_v13_1, val_main_v10, val_main_v9, val_main_v8, val_main_v7, val_main_v6,
    val_main_v5, hv, hw, hu, ht]
  refine (select_or _ _ k.isLt q.isLt _ _).trans ?_
  by_cases hk : k.val ≤ q.val
  · rw [if_pos hk, if_pos hk]
  · rw [if_neg hk, if_neg hk, zero_mul]

end Stage

abbrev hd (i : Fin 1024) : Fin 8 := ⟨i / 128, by omega⟩
abbrev ln (i : Fin 1024) : Fin 128 := ⟨i % 128, by omega⟩

theorem ref73 : val_main_v73 (F := Ideal) a0 a1 a2 a3 a4 a5 = fun i : S4096x1024.Idx =>
    rdq a0 a1 a2 a3 a4 a5 (Reals.bat (i 0)) (hd (i 1)) (Reals.pos (i 0)) (ln (i 1)) := by
  funext i
  obtain ⟨R, C, rfl⟩ : ∃ (R : Fin 4096) (C : Fin 1024), i = ix2 R C := ⟨i 0, i 1, eq_ix2 i⟩
  change _ = rdq a0 a1 a2 a3 a4 a5 (Reals.bat R) (hd C) (Reals.pos R) (ln C)
  unfold rdq lay2
  simp only [← ref62]
  generalize hv : val_main_v62 (F := Ideal) a0 a1 a2 a3 a4 a5 = v at *
  have hC := C.isLt
  have hR := R.isLt
  have c1 : R.val / 2048 < 2 := by omega
  have c2 : R.val % 2048 < 2048 := by omega
  have c3 : C.val / 128 < 8 := by omega
  pointwise [val_main_v73, val_main_v72, val_main_v71, val_main_v70, val_main_v69, val_main_v66, val_main_v65, val_main_v1, val_main_v0,
    val_main_c, val_main_call2_v0, hv]
  by_cases h : C.val % 128 < 96
  · by_cases h1 : C.val % 128 < 64
    · simp only [c1, c2, c3, h, h1, and_self, ↓reduceDIte]
    · simp only [c1, c2, c3, h, h1, and_self, ↓reduceDIte]
  · have h1 : ¬C.val % 128 < 64 := by omega
    simp only [c1, c2, c3, h, h1, and_false, ↓reduceDIte]
    exact sitofp_zero (φ := .f32)

theorem ref76 : val_main_v76 (F := Ideal) a0 a1 a2 a3 a4 a5 = fun i : S4096x1024.Idx =>
    rdk a0 a1 a2 a3 a4 a5 (Reals.bat (i 0)) (hd (i 1)) (Reals.pos (i 0)) (ln (i 1)) := by
  funext i
  obtain ⟨R, C, rfl⟩ : ∃ (R : Fin 4096) (C : Fin 1024), i = ix2 R C := ⟨i 0, i 1, eq_ix2 i⟩
  change _ = rdk a0 a1 a2 a3 a4 a5 (Reals.bat R) (hd C) (Reals.pos R) (ln C)
  unfold rdk lay2
  simp only [← ref62]
  generalize hv : val_main_v62 (F := Ideal) a0 a1 a2 a3 a4 a5 = v at *
  have hC := C.isLt
  have hR := R.isLt
  have c1 : R.val / 2048 < 2 := by omega
  have c2 : R.val % 2048 < 2048 := by omega
  have c3 : C.val / 128 < 8 := by omega
  pointwise [val_main_v76, val_main_v75, val_main_v74, val_main_v68, val_main_v67, val_main_v64, val_main_v63,
    val_main_c_14, val_main_call3_v0, hv]
  by_cases h : C.val % 128 < 96
  · by_cases h1 : C.val % 128 < 64
    · simp only [c1, c2, c3, h, h1, and_self, ↓reduceDIte]
    · simp only [c1, c2, c3, h, h1, and_self, ↓reduceDIte]
  · have h1 : ¬C.val % 128 < 64 := by omega
    simp only [c1, c2, c3, h, h1, and_false, ↓reduceDIte]
    exact sitofp_zero (φ := .f32)

theorem ref78 : val_main_v78 (F := Ideal) a0 a1 a2 a3 a5 = fun i : S4096x1024.Idx =>
    rdv a0 a1 a2 a3 a5 (Reals.bat (i 0)) (hd (i 1)) (Reals.pos (i 0)) (ln (i 1)) := by
  funext i
  obtain ⟨R, C, rfl⟩ : ∃ (R : Fin 4096) (C : Fin 1024), i = ix2 R C := ⟨i 0, i 1, eq_ix2 i⟩
  change _ = rdv a0 a1 a2 a3 a5 (Reals.bat R) (hd C) (Reals.pos R) (ln C)
  unfold rdv lay1
  simp only [← ref38]
  generalize hv : val_main_v38 (F := Ideal) a0 a1 a2 a3 = v at *
  have hC := C.isLt
  have hR := R.isLt
  have c1 : R.val / 2048 < 2 := by omega
  have c2 : R.val % 2048 < 2048 := by omega
  have c3 : C.val / 128 < 8 := by omega
  have c4 : C.val % 128 - 64 < 64 := by omega
  pointwise [val_main_v78, val_main_v77, val_main_v47, val_main_v46, val_main_v44, val_main_c_15, val_main_call4_v0, hv]
  by_cases h : C.val % 128 < 64
  · have h1 : ¬64 ≤ C.val % 128 := by omega
    simp only [h, h1, false_and, and_false, ↓reduceDIte]
    exact sitofp_zero (φ := .f32)
  · have h1 : 64 ≤ C.val % 128 := by omega
    simp only [c1, c2, c3, c4, h, h1, and_self, ↓reduceDIte]

end Cert.AttnBwdRefIdeal.Read
end
-- ==== Proof.AttnBwdClaim.lean ====
module

public import proofs.«01_k».proof.Defs
public import proofs.«01_k».proof.Proof.AttnRef
public import proofs.«01_k».proof.Proof.Gen.AttnBwdRefIdeal.Run
public import proofs.«01_k».proof.Proof.Gen.AttnBwd.Frame

@[expose] public section

noncomputable section

namespace Cert.Proof

open Idealize.ShloMosaic Idealize.ShloMosaic.TcCoe Idealize.SL.Sem

instance facts_attn_bwd : Pre_attn_bwd_finite.Facts := by constructor <;> decide

open Pre_attn_bwd_finite in
/-- Arguments that pass the precondition are arrays of real numbers. -/
theorem finite_AttnBwd (x0 : FVec Ideal S2x2048x8x64 .f32) (x1 : FVec Ideal S2x2048x8x32 .f32) (x2 : FVec Ideal S2x2048x8x64 .f32)
    (x3 : FVec Ideal S2x2048x32 .f32) (x4 x5 : FVec Ideal S2x2048x8x64 .f32)
    (h : Pre_attn_bwd_finite.fn (F := Ideal) x0 x1 x2 x3 x4 x5 = fun _ => 1#1) :
    (∃ r, x0 = Reals.up r) ∧ (∃ r, x1 = Reals.up r) ∧ (∃ r, x2 = Reals.up r) ∧ (∃ r, x3 = Reals.up r) ∧ (∃ r, x4 = Reals.up r)
      ∧ (∃ r, x5 = Reals.up r) := by
  have h1 := congrFun h (fun a => a.elim0)
  unfold Pre_attn_bwd_finite.fn at h1
  obtain ⟨h, h5⟩ := Reals.and_one h1
  obtain ⟨h, h4⟩ := Reals.and_one h
  obtain ⟨h, h3⟩ := Reals.and_one h
  obtain ⟨h, h2⟩ := Reals.and_one h
  obtain ⟨h0, h1⟩ := Reals.and_one h
  exact ⟨Reals.real_of_all _ _ _ _ _ _ h0, Reals.real_of_all _ _ _ _ _ _ h1, Reals.real_of_all _ _ _ _ _ _ h2,
    Reals.real_of_all _ _ _ _ _ _ h3, Reals.real_of_all _ _ _ _ _ _ h4, Reals.real_of_all _ _ _ _ _ _ h5⟩

open Cert.AttnBwdIdeal.Value Cert.AttnBwdRefIdeal.Read in
theorem algebraic_AttnBwd : Cert.algebraic_AttnBwdIdeal_AttnBwdRefIdeal_pre_attn_bwd_finite := by
  intro m g m' g' hpre hagree
  refine ⟨fun c => (Cert.AttnBwdIdeal.Gen.dats m 0 c).arrAt 6 Cert.AttnBwdIdeal.cfg0.N,
    fun c => (Cert.AttnBwdIdeal.Gen.dats m 0 c).arrAt 7 Cert.AttnBwdIdeal.cfg0.N,
    fun c => (Cert.AttnBwdIdeal.Gen.dats m 0 c).arrAt 8 Cert.AttnBwdIdeal.cfg0.N,
    run_blocks m g, θ_run_mono (Cert.AttnBwdRefIdeal.Value.run m' g') fun r hr c => ?_⟩
  obtain ⟨h6, h7, h8, h⟩ := hr c
  obtain ⟨e0, e1, e2, e3, e4, e5⟩ := hagree c
  replace h6 := h6.trans (val_main_v73_eq ..)
  replace h7 := h7.trans (val_main_v76_eq ..)
  replace h8 := h8.trans (val_main_v78_eq ..)
  rw [e0, e1, e2, e3, e4, e5] at h6 h7
  rw [e0, e1, e2, e3, e5] at h8
  refine ⟨h6.trans ((ref73 ..).trans ((?_ : _ = _).trans (final6 m c).symm)),
    h7.trans ((ref76 ..).trans ((?_ : _ = _).trans (final7 m c).symm)),
    h8.trans ((ref78 ..).trans ((?_ : _ = _).trans (final8 m c).symm)), h⟩
  all_goals obtain ⟨⟨x0, h0⟩, ⟨x1, h1⟩, ⟨x2, h2⟩, ⟨x3, h3⟩, ⟨x4, h4⟩, ⟨x5, h5⟩⟩ := finite_AttnBwd _ _ _ _ _ _ (hpre c)
  · funext i
    change rdq (A0 m c) (A1 m c) (A2 m c) (A3 m c) (A4 m c) (A5 m c) _ _ _ _ = dqA (A0 m c) (A1 m c) (A2 m c) (A3 m c) (A4 m c) (A5 m c) _ _ _ _
    rw [A0, A1, A2, A3, A4, A5, h0, h1, h2, h3, h4, h5]
    exact dq_eq ..
  · funext i
    change rdk (A0 m c) (A1 m c) (A2 m c) (A3 m c) (A4 m c) (A5 m c) _ _ _ _ = dkA (A0 m c) (A1 m c) (A2 m c) (A3 m c) (A4 m c) (A5 m c) _ _ _ _
    rw [A0, A1, A2, A3, A4, A5, h0, h1, h2, h3, h4, h5]
    exact dk_eq ..
  · funext i
    change rdv (A0 m c) (A1 m c) (A2 m c) (A3 m c) (A5 m c) _ _ _ _ = dvA (A0 m c) (A1 m c) (A2 m c) (A3 m c) (A5 m c) _ _ _ _
    rw [A0, A1, A2, A3, A5, h0, h1, h2, h3, h5]
    exact dv_eq ..

end Cert.Proof
end
-- ==== Proof.Qk.lean ====
module

public import proofs.«01_k».proof.Proof.Gen.QkBwdIdeal.Value
public import proofs.«01_k».proof.Proof.Rms
public import Idealize.ShloMosaic.Lib.Pipeline.ValueKit
public import Idealize.ShloMosaic.Lib.KernelVsHost

@[expose] public section

/-! The gradient of the query's and key's norms and of the rotation, as its kernel computes it: per head of a tile, then per array. -/

set_option maxRecDepth 16384

noncomputable section

open Idealize.ShloMosaic Idealize.ShloMosaic.TcCoe Idealize.SL.Sem
open Idealize.ShloMosaic.Pipeline (Dat)

namespace Cert.QkBwdIdeal.Value

open Cert.QkBwdIdeal Cert.QkBwdIdeal.Gen

/-! ## A head of a tile -/

abbrev Slab := FVec Ideal S512x128 .f32
abbrev Wide := FVec Ideal S512x1024 .f32
abbrev Gain := FVec Ideal S1x128 .f32
abbrev Col := FVec Ideal S512x1 .f32

/-- The slab of a head. -/
def slab (h : Fin 8) (x : Wide) : Slab :=
  match h with
  | 0 => extractStridedSlice S512x128 ![0, 0] x slices_S512x1024_o0_0_S512x128
  | 1 => extractStridedSlice S512x128 ![0, 128] x slices_S512x1024_o0_128_S512x128
  | 2 => extractStridedSlice S512x128 ![0, 256] x slices_S512x1024_o0_256_S512x128
  | 3 => extractStridedSlice S512x128 ![0, 384] x slices_S512x1024_o0_384_S512x128
  | 4 => extractStridedSlice S512x128 ![0, 512] x slices_S512x1024_o0_512_S512x128
  | 5 => extractStridedSlice S512x128 ![0, 640] x slices_S512x1024_o0_640_S512x128
  | 6 => extractStridedSlice S512x128 ![0, 768] x slices_S512x1024_o0_768_S512x128
  | 7 => extractStridedSlice S512x128 ![0, 896] x slices_S512x1024_o0_896_S512x128

abbrev zero : Slab := broadcast S512x128 (Scalar.ofBits .f32 0x00000000#32)
abbrev lane : IVec S512x128 32 := iota .tc S512x128 32 [1] iota_S512x128_d1_w32
/-- The lanes of the columns that are normed without a rotation. -/
abbrev low : IVec S512x128 1 := cmpi .slt lane (broadcast S512x128 64#32)
abbrev rowsum (x : Slab) : Col :=
  shapeCast S512x1 (multiReduction .add [1] S512 x 0x00000000#32 reduces_S512x128_S512 (.inl rfl) rfl) shapeCasts_S512_S512x1
abbrev colsum (x : Slab) : Gain :=
  shapeCast S1x128 (multiReduction .add [0] S128 x 0x00000000#32 reduces_S512x128_S128 (.inl rfl) rfl) shapeCasts_S128_S1x128
abbrev spread (x : Col) : Slab := broadcastTo S512x128 x broadcasts_S512x1_S512x128
abbrev spread' (x : Col) : Slab := broadcastTo S512x128 (shapeCast S512x1 x shapeCasts_S512x1_S512x1) broadcasts_S512x1_S512x128
abbrev down (g : Gain) : Slab := broadcastTo S512x128 g broadcasts_S1x128_S512x128
abbrev times (x : Col) (b : BitVec 32) : Col := mulf x (broadcast S512x1 (Scalar.ofBits .f32 b))
abbrev root (x : Col) : Col := rsqrt (addf x (broadcast S512x1 (Scalar.ofBits .f32 0x358637BD#32)))

/-- The rotation's derivative on the rotated lanes. -/
def rot (y : Slab) : Slab :=
  select (andi (cmpi .sge lane (broadcast S512x128 64#32)) (cmpi .slt lane (broadcast S512x128 96#32)))
    (select (cmpi .slt lane (broadcast S512x128 80#32)) (subf zero (dynamicRotate 1 112#32 none y rotates_S512x128_d1))
      (dynamicRotate 1 16#32 none y rotates_S512x128_d1)) zero
def unrot (d cs sn : Slab) : Slab := subf (mulf d cs) (rot (mulf d sn))

/-- One over the roots of the two mean squares of a query's slab. -/
def partInv (x : Slab) : Slab :=
  select low (spread' (root (times (rowsum (select low (mulf x x) zero)) 0x3C800000#32)))
    (spread' (root (times (subf (rowsum (mulf x x)) (rowsum (select low (mulf x x) zero))) 0x3D000000#32)))
def partHat (x : Slab) : Slab := mulf x (partInv x)
def partMean (p : Slab) : Slab :=
  select low (spread' (times (rowsum (select low p zero)) 0x3C800000#32))
    (spread' (times (subf (rowsum p) (rowsum (select low p zero))) 0x3D000000#32))
def partGrad (d x : Slab) (g : Gain) : Slab :=
  mulf (partInv x) (subf (mulf d (down g)) (mulf (partHat x) (partMean (mulf (mulf d (down g)) (partHat x)))))

/-- One over the root of the mean square of a slab, the mean taken by the factor `b`. -/
def oneInv (b : BitVec 32) (x : Slab) : Col := root (times (rowsum (mulf x x)) b)
def oneHat (b : BitVec 32) (x : Slab) : Slab := mulf x (spread (oneInv b x))
def oneGrad (b : BitVec 32) (d x : Slab) (g : Gain) : Slab :=
  mulf (spread (oneInv b x)) (subf (mulf d (down g)) (mulf (oneHat b x) (spread (times (rowsum (mulf (mulf d (down g)) (oneHat b x))) b))))

/-- The heads' terms added one by one, from zero. -/
abbrev addUp (o : Slab) (f : Fin 8 → Slab) : Slab :=
  addf (addf (addf (addf (addf (addf (addf (addf o (f 0)) (f 1)) (f 2)) (f 3)) (f 4)) (f 5)) (f 6)) (f 7)
abbrev addUp' (o : Gain) (f : Fin 8 → Gain) : Gain :=
  addf (addf (addf (addf (addf (addf (addf (addf o (f 0)) (f 1)) (f 2)) (f 3)) (f 4)) (f 5)) (f 6)) (f 7)

/-- A query head's gradient; a key head's, beside the value's. -/
def dqh (dq q : Wide) (cs sn : Slab) (g : Gain) (h : Fin 8) : Slab := partGrad (unrot (slab h dq) cs sn) (slab h q) g
def dkh (dk kv dv : Wide) (g : Gain) (h : Fin 8) : Slab :=
  select low (oneGrad 0x3C800000#32 (select low (slab h dk) zero) (select low (slab h kv) zero) g) (slab h dv)
/-- The rotary key's cotangent, added up over the heads and turned back. -/
def dkr (dk : Wide) (cs sn : Slab) : Slab := unrot (addUp zero fun h => select low zero (slab h dk)) cs sn
/-- A head's parts of the gains' gradients. -/
def gqh (dq q : Wide) (cs sn : Slab) (h : Fin 8) : Gain := colsum (mulf (unrot (slab h dq) cs sn) (partHat (slab h q)))
def gkh (dk kv : Wide) (h : Fin 8) : Gain :=
  colsum (mulf (select low (slab h dk) zero) (oneHat 0x3C800000#32 (select low (slab h kv) zero)))

section Left

variable (m : (ℓ : Loc nD τ sig) → Buf (Elt Ideal) ℓ) (c : Dev nD) (t : Fin cfg0.N)

/-- The two kinds of grid point: the first, which stores the gains' gradients, and the later ones, which add to them. -/
theorem kinds : ∀ t : Fin cfg0.N, (t.val % 8 = 0 ∧ ¬1 ≤ t.val) ∨ (¬t.val % 8 = 0 ∧ 1 ≤ t.val) :=
  (by decide +kernel : ∀ t : Fin grid0.N, _)

abbrev Dq : Wide := k0_pay5 (iblk m c 0 t)
abbrev Dk : Wide := k0_pay6 (iblk m c 1 t)
abbrev Dv : Wide := k0_pay7 (iblk m c 2 t)
abbrev Q : Wide := k0_pay8 (iblk m c 3 t)
abbrev Kv : Wide := k0_pay9 (iblk m c 4 t)
abbrev Kr : Slab := k0_pay10 (iblk m c 5 t)
abbrev Cs : Slab := k0_pay12 (iblk m c 10 t) (iblk m c 6 t)
abbrev Sn : Slab := k0_pay13 (iblk m c 10 t) (iblk m c 6 t)
abbrev Gq : Gain := k0_pay2 (iblk m c 7 t)
abbrev Gk : Gain := k0_pay3 (iblk m c 8 t)
abbrev Gr : Gain := k0_pay4 (iblk m c 9 t)

abbrev P11 (h : Fin 8) : Slab := dqh (Dq m c t) (Q m c t) (Cs m c t) (Sn m c t) (Gq m c t) h
abbrev P12 (h : Fin 8) : Slab := dkh (Dk m c t) (Kv m c t) (Dv m c t) (Gk m c t) h
abbrev P13 : Slab := oneGrad 0x3D000000#32 (dkr (Dk m c t) (Cs m c t) (Sn m c t)) (Kr m c t) (Gr m c t)
abbrev P14 : Gain := addUp' k0_pay15 (gqh (Dq m c t) (Q m c t) (Cs m c t) (Sn m c t))
abbrev P15 : Gain := addUp' k0_pay16 (gkh (Dk m c t) (Kv m c t))
abbrev P16 : Gain := colsum (mulf (dkr (Dk m c t) (Cs m c t) (Sn m c t)) (oneHat 0x3D000000#32 (Kr m c t)))

theorem before_lt : t.val - 1 < cfg0.N := Nat.lt_of_le_of_lt (Nat.sub_le _ _) t.isLt

theorem left11 : (outsAt0 m c t.val t.isLt).1 = k0_pay203 (P11 m c t 0) (P11 m c t 1) (P11 m c t 2) (P11 m c t 3) (P11 m c t 4)
    (P11 m c t 5) (P11 m c t 6) (P11 m c t 7) := by
  rcases kinds t with ⟨h0, h1⟩ | ⟨h0, h1⟩
  · rw [outsAt0_A m c t h0 h1 h0 h1 h0 h1]; frame_out; rfl
  · rw [outsAt0_B m c t h0 h1 h0 h1 h0 h1]; frame_out; rfl

theorem left12 : (outsAt0 m c t.val t.isLt).2.1 = k0_pay204 (P12 m c t 0) (P12 m c t 1) (P12 m c t 2) (P12 m c t 3) (P12 m c t 4)
    (P12 m c t 5) (P12 m c t 6) (P12 m c t 7) := by
  rcases kinds t with ⟨h0, h1⟩ | ⟨h0, h1⟩
  · rw [outsAt0_A m c t h0 h1 h0 h1 h0 h1]; frame_out; rfl
  · rw [outsAt0_B m c t h0 h1 h0 h1 h0 h1]; frame_out; rfl

theorem left13 : (outsAt0 m c t.val t.isLt).2.2.1 = P13 m c t := by
  rcases kinds t with ⟨h0, h1⟩ | ⟨h0, h1⟩
  · rw [outsAt0_A m c t h0 h1 h0 h1 h0 h1]; frame_out; rfl
  · rw [outsAt0_B m c t h0 h1 h0 h1 h0 h1]; frame_out; rfl

theorem reset14 (h : t.val % 8 = 0) : (outsAt0 m c t.val t.isLt).2.2.2.1 = P14 m c t := by
  rcases kinds t with ⟨h0, h1⟩ | ⟨h0, h1⟩
  · rw [outsAt0_A m c t h0 h1 h0 h1 h0 h1]; frame_out; rfl
  · exact absurd h h0
theorem step14 (h : ¬t.val % 8 = 0) : (outsAt0 m c t.val t.isLt).2.2.2.1
    = k0_pay205 (P14 m c t) (outsAt0 m c (t.val - 1) (before_lt t)).2.2.2.1 := by
  rcases kinds t with ⟨h0, h1⟩ | ⟨h0, h1⟩
  · exact absurd h0 h
  · rw [outsAt0_B m c t h0 h1 h0 h1 h0 h1]; frame_out; rfl

theorem reset15 (h : t.val % 8 = 0) : (outsAt0 m c t.val t.isLt).2.2.2.2.1 = P15 m c t := by
  rcases kinds t with ⟨h0, h1⟩ | ⟨h0, h1⟩
  · rw [outsAt0_A m c t h0 h1 h0 h1 h0 h1]; frame_out; rfl
  · exact absurd h h0
theorem step15 (h : ¬t.val % 8 = 0) : (outsAt0 m c t.val t.isLt).2.2.2.2.1
    = k0_pay206 (P15 m c t) (outsAt0 m c (t.val - 1) (before_lt t)).2.2.2.2.1 := by
  rcases kinds t with ⟨h0, h1⟩ | ⟨h0, h1⟩
  · exact absurd h0 h
  · rw [outsAt0_B m c t h0 h1 h0 h1 h0 h1]; frame_out; rfl

theorem reset16 (h : t.val % 8 = 0) : (outsAt0 m c t.val t.isLt).2.2.2.2.2 = P16 m c t := by
  rcases kinds t with ⟨h0, h1⟩ | ⟨h0, h1⟩
  · rw [outsAt0_A m c t h0 h1 h0 h1 h0 h1]; frame_out; rfl
  · exact absurd h h0
theorem step16 (h : ¬t.val % 8 = 0) : (outsAt0 m c t.val t.isLt).2.2.2.2.2
    = k0_pay1 (P16 m c t) (outsAt0 m c (t.val - 1) (before_lt t)).2.2.2.2.2 := by
  rcases kinds t with ⟨h0, h1⟩ | ⟨h0, h1⟩
  · exact absurd h0 h
  · rw [outsAt0_B m c t h0 h1 h0 h1 h0 h1]; frame_out; rfl

end Left

/-! ## The head's terms at an entry -/

section Terms

variable (x y d cs sn : Slab) (g : Gain) (w : Wide) (s : Col) (r : Fin 512)

theorem slab_at (h : Fin 8) (l : Fin 128) : slab h w (ix2 r l) = w (ix2 r (⟨h * 128 + l, by omega⟩ : Fin 1024)) := by
  fin_cases h <;> pointwise [slab]

theorem low_at (l : Fin 128) : low (ix2 r l) = if l.val < 64 then 1#1 else 0#1 := by
  have e : ∀ l : Fin 128, IntOp.cmpi .slt (BitVec.ofNat 32 l.val) 64#32 = if l.val < 64 then 1#1 else 0#1 := by decide +kernel
  rw [← e]; pointwise

theorem pick_at (l : Fin 128) : (select low x y : Slab) (ix2 r l) = if l.val < 64 then x (ix2 r l) else y (ix2 r l) := by
  show Scalar.select (low (ix2 r l)) _ _ = _
  rw [low_at]; split <;> rfl

theorem zero_at (l : Fin 128) : zero (ix2 r l) = 0 := by
  refine (show _ = Ideal.ofBits .f32 0x00000000#32 from rfl).trans ?_
  rw [Reals.lit_zero]; rfl

theorem rowsum_at : rowsum x (ix2 r 0) = ∑ l : Fin 128, x (ix2 r l) := by pointwise
theorem colsum_at (l : Fin 128) : colsum x (ix2 0 l) = ∑ r : Fin 512, x (ix2 r l) := by pointwise
theorem spread_at (l : Fin 128) : spread s (ix2 r l) = s (ix2 r 0) := by pointwise
theorem spread'_at (l : Fin 128) : spread' s (ix2 r l) = s (ix2 r 0) := by pointwise
theorem down_at (l : Fin 128) : down g (ix2 r l) = g (ix2 0 l) := by pointwise

theorem rot_at (l : Fin 128) : rot y (ix2 r l) = if h : 64 ≤ l.val ∧ l.val < 96 then
    (if l.val < 80 then 0 - y (ix2 r (⟨l + 16, by omega⟩ : Fin 128)) else y (ix2 r (⟨l - 16, by omega⟩ : Fin 128))) else 0 := by
  have e1 : ∀ l : Fin 128, IntOp.andi (IntOp.cmpi .sge (BitVec.ofNat 32 l.val) 64#32) (IntOp.cmpi .slt (BitVec.ofNat 32 l.val) 96#32)
      = if 64 ≤ l.val ∧ l.val < 96 then 1#1 else 0#1 := by decide +kernel
  have e2 : ∀ l : Fin 128, IntOp.cmpi .slt (BitVec.ofNat 32 l.val) 80#32 = if l.val < 80 then 1#1 else 0#1 := by decide +kernel
  have c1 : andi (cmpi .sge lane (broadcast S512x128 64#32)) (cmpi .slt lane (broadcast S512x128 96#32)) (ix2 r l)
      = IntOp.andi (IntOp.cmpi .sge (BitVec.ofNat 32 l.val) 64#32) (IntOp.cmpi .slt (BitVec.ofNat 32 l.val) 96#32) := by pointwise
  have c2 : cmpi .slt lane (broadcast S512x128 80#32) (ix2 r l) = IntOp.cmpi .slt (BitVec.ofNat 32 l.val) 80#32 := by pointwise
  show Scalar.select (andi (cmpi .sge lane (broadcast S512x128 64#32)) (cmpi .slt lane (broadcast S512x128 96#32)) (ix2 r l))
    (Scalar.select (cmpi .slt lane (broadcast S512x128 80#32) (ix2 r l))
      (zero (ix2 r l) - dynamicRotate 1 112#32 none y rotates_S512x128_d1 (ix2 r l))
      (dynamicRotate 1 16#32 none y rotates_S512x128_d1 (ix2 r l))) (zero (ix2 r l)) = _
  rw [c1, c2, e1, e2, zero_at]
  by_cases h : 64 ≤ l.val ∧ l.val < 96
  · rw [if_pos h, dif_pos h]
    by_cases h' : l.val < 80
    · rw [if_pos h', if_pos h']
      refine congrArg (0 - · : EReal → EReal) ?_
      refine dynamicRotate_apply _ _ _ _ _ (ix2 r ⟨l.val + 16, by omega⟩) fun b => ?_
      match b with
      | ⟨0, _⟩ => rfl
      | ⟨1, _⟩ =>
        show l.val + 16 = (l.val + 128 - 112 % 128) % 128
        omega
    · rw [if_neg h', if_neg h']
      refine (show _ = dynamicRotate 1 16#32 none y rotates_S512x128_d1 (ix2 r l) from rfl).trans ?_
      refine dynamicRotate_apply _ _ _ _ _ (ix2 r ⟨l.val - 16, by omega⟩) fun b => ?_
      match b with
      | ⟨0, _⟩ => rfl
      | ⟨1, _⟩ =>
        show l.val - 16 = (l.val + 128 - 16 % 128) % 128
        omega
  · rw [if_neg h, dif_neg h]; rfl

theorem unrot_at (l : Fin 128) : unrot d cs sn (ix2 r l) = d (ix2 r l) * cs (ix2 r l) - rot (mulf d sn) (ix2 r l) := rfl

/-- The factors that take the means over the two parts of a head. -/
abbrev μn : EReal := Ideal.ofBits .f32 0x3C800000#32
abbrev μr : EReal := Ideal.ofBits .f32 0x3D000000#32

/-- The sums over the two parts of a row of lanes: the upper one as the whole row's less the lower one's. -/
def lowSum (f : Fin 128 → EReal) : EReal := ∑ l : Fin 128, if l.val < 64 then f l else 0
def highSum (f : Fin 128 → EReal) : EReal := ∑ l : Fin 128, f l - lowSum f

theorem lowSum_at : rowsum (select low x zero) (ix2 r 0) = lowSum fun l => x (ix2 r l) := by
  rw [rowsum_at]
  exact Finset.sum_congr rfl fun l _ => by rw [pick_at, zero_at]

theorem partInv_at (l : Fin 128) : partInv x (ix2 r l) = if l.val < 64
    then Ideal.rsqrt (lowSum (fun l => x (ix2 r l) * x (ix2 r l)) * μn + Rms.eps)
    else Ideal.rsqrt (highSum (fun l => x (ix2 r l) * x (ix2 r l)) * μr + Rms.eps) := by
  unfold partInv
  rw [pick_at, spread'_at, spread'_at]
  refine if_congr Iff.rfl ?_ ?_
  · show Ideal.rsqrt (rowsum (select low (mulf x x) zero) (ix2 r 0) * μn + Rms.eps) = _
    rw [lowSum_at]; rfl
  · show Ideal.rsqrt ((rowsum (mulf x x) (ix2 r 0) - rowsum (select low (mulf x x) zero) (ix2 r 0)) * μr + Rms.eps) = _
    rw [lowSum_at, rowsum_at]; rfl

theorem partMean_at (l : Fin 128) : partMean x (ix2 r l) = if l.val < 64 then lowSum (fun l => x (ix2 r l)) * μn
    else highSum (fun l => x (ix2 r l)) * μr := by
  unfold partMean
  rw [pick_at, spread'_at, spread'_at]
  refine if_congr Iff.rfl ?_ ?_
  · show rowsum (select low x zero) (ix2 r 0) * μn = _
    rw [lowSum_at]
  · show (rowsum x (ix2 r 0) - rowsum (select low x zero) (ix2 r 0)) * μr = _
    rw [lowSum_at, rowsum_at]; rfl

theorem partGrad_at (l : Fin 128) : partGrad d x g (ix2 r l)
    = partInv x (ix2 r l) * (d (ix2 r l) * g (ix2 0 l) - x (ix2 r l) * partInv x (ix2 r l)
      * partMean (mulf (mulf d (down g)) (partHat x)) (ix2 r l)) := by
  rw [← down_at g r]; rfl

theorem oneInv_at (b : BitVec 32) : oneInv b x (ix2 r 0) = Rms.inv (fun l : Fin 128 => x (ix2 r l)) (Ideal.ofBits .f32 b) := by
  show Ideal.rsqrt (rowsum (mulf x x) (ix2 r 0) * Ideal.ofBits .f32 b + Rms.eps) = _
  rw [rowsum_at]; rfl

theorem oneHat_at (b : BitVec 32) (l : Fin 128) : oneHat b x (ix2 r l) = x (ix2 r l) * Rms.inv (fun l : Fin 128 => x (ix2 r l)) (Ideal.ofBits .f32 b) := by
  rw [← oneInv_at, ← spread_at (oneInv b x) r l]; rfl

theorem oneGrad_at (b : BitVec 32) (l : Fin 128) : oneGrad b d x g (ix2 r l)
    = Rms.grad (fun l : Fin 128 => x (ix2 r l)) (fun l => d (ix2 r l) * g (ix2 0 l)) (Ideal.ofBits .f32 b) l := by
  have e : spread (times (rowsum (mulf (mulf d (down g)) (oneHat b x))) b) (ix2 r l)
      = (∑ l : Fin 128, d (ix2 r l) * g (ix2 0 l) * (x (ix2 r l) * Rms.inv (fun l : Fin 128 => x (ix2 r l)) (Ideal.ofBits .f32 b)))
        * Ideal.ofBits .f32 b := by
    rw [spread_at]
    refine (show _ = rowsum (mulf (mulf d (down g)) (oneHat b x)) (ix2 r 0) * Ideal.ofBits .f32 b from rfl).trans ?_
    rw [rowsum_at]
    refine congrArg (· * Ideal.ofBits .f32 b : EReal → EReal) (Finset.sum_congr rfl fun l _ => ?_)
    rw [← oneHat_at, ← down_at g r]; rfl
  rw [Rms.grad, ← e, ← oneHat_at, ← oneInv_at, ← spread_at (oneInv b x) r l, ← down_at g r l]; rfl

end Terms

end Cert.QkBwdIdeal.Value
end
-- ==== Proof.QkBlk.lean ====
module

public import proofs.«01_k».proof.Proof.Qk
public import proofs.«01_k».proof.Proof.Gen.QkBwdRefIdeal.Read

@[expose] public section

/-! The blocks that the kernel of the query's and key's norms reads, in the call's arguments. -/

set_option maxRecDepth 16384

noncomputable section

open Idealize.ShloMosaic Idealize.ShloMosaic.TcCoe Idealize.SL.Sem
open Idealize.ShloMosaic.Pipeline (Dat)

namespace Cert.QkBwdIdeal.Value

open Cert.QkBwdIdeal Cert.QkBwdIdeal.Gen

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 5] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0]
    ∧ win0_14.index t = ![0, 0] ∧ win0_15.index t = ![0, 0] ∧ win0_16.index t = ![0, 0] :=
  (by decide +kernel : ∀ t : Fin grid0.N, _)

/-- The rotation's frequencies. -/
def freq (j : Fin 16) : EReal := (Cert.QkBwdRefIdeal.Read.val_main_v11 (F := Ideal)) (ix1 j)

/-- A row of lanes with a part written from lane 0 and one from lane 64. -/
def two (u : Fin 64 → EReal) (v : Fin 32 → EReal) (l : Fin 128) : EReal :=
  if h : l.val < 64 then u ⟨l, h⟩ else if h : l.val < 96 then v ⟨l - 64, by omega⟩ else 0

/-- An array written over the lanes from `n` on. -/
theorem put_at {w : Nat} (n : Nat) (x : FVec Ideal S128 .f32) (u : FVec Ideal ⟨1, ![w]⟩ .f32) (start : Fin S128.rank → Int)
    (h : S128.Slices (fun _ => 0) ⟨1, ![w]⟩) (hs : ∀ a, start a = (n : Int)) (hw : n + w ≤ 128) (l : Fin 128) :
    Host.dynamicUpdateSlice x u start h (ix1 l)
      = if hl : n ≤ l.val ∧ l.val < n + w then u (ix1 ⟨l - n, by omega⟩) else x (ix1 l) := by
  have hc : ∀ a, Host.clampedStart S128 ⟨1, ![w]⟩ h.1 start a = n := fun a => by
    refine Host.clampedStart_of_le _ _ _ _ (hs a) ?_
    fin_cases a
    exact hw
  refine (Host.dynamicUpdateSlice_apply x u start h (ix1 l)).trans ?_
  by_cases hl : n ≤ l.val ∧ l.val < n + w
  · rw [dif_pos hl, dif_pos]
    · congr 1
      funext b
      fin_cases b
      apply Fin.ext
      show l.val - Host.clampedStart S128 ⟨1, ![w]⟩ h.1 start _ = l.val - n
      rw [hc]
    · intro a
      rw [hc]
      fin_cases a
      exact hl
  · rw [dif_neg hl, dif_neg]
    intro hin
    have := hin 0
    rw [hc] at this
    exact hl this

theorem cast_row (x : FVec Ideal S128 .f32) (l : Fin 128) : shapeCast S1x128 x shapeCasts_S128_S1x128 (ix2 0 l) = x (ix1 l) := by
  pointwise; blk_ext

theorem blank_at (l : Fin 128) : broadcastInDim S128 ![] bcast_S_S128 (constant (F := Ideal) S_ .f32 0x00000000#32) (ix1 l) = 0 := by
  refine Eq.trans (by pointwise) ((show _ = Ideal.ofBits .f32 0x00000000#32 from rfl).trans (by rw [Reals.lit_zero]; rfl))

section Entry

variable (m : (ℓ : Loc nD τ sig) → Buf (Elt Ideal) ℓ) (c : Dev nD) (t : Fin cfg0.N)

abbrev A0 : FVec Ideal S2x2048x8x96 .f32 := m ((c : Thread nD τ).loc main_arg0)
abbrev A1 : FVec Ideal S2x2048x8x128 .f32 := m ((c : Thread nD τ).loc main_arg1)
abbrev A2 : FVec Ideal S2x2048x32 .f32 := m ((c : Thread nD τ).loc main_arg2)
abbrev A3 : IVec S2x2048 32 := m ((c : Thread nD τ).loc main_arg3)
abbrev A4 : FVec Ideal S1x64 .f32 := m ((c : Thread nD τ).loc main_arg4)
abbrev A5 : FVec Ideal S1x32 .f32 := m ((c : Thread nD τ).loc main_arg5)
abbrev A6 : FVec Ideal S1x64 .f32 := m ((c : Thread nD τ).loc main_arg6)
abbrev A7 : FVec Ideal S1x32 .f32 := m ((c : Thread nD τ).loc main_arg7)
abbrev A8 : FVec Ideal S2x2048x8x96 .f32 := m ((c : Thread nD τ).loc main_arg8)
abbrev A9 : FVec Ideal S2x2048x8x96 .f32 := m ((c : Thread nD τ).loc main_arg9)
abbrev A10 : FVec Ideal S2x2048x8x64 .f32 := m ((c : Thread nD τ).loc main_arg10)

theorem tlt : t.val < 8 := lt_of_lt_of_eq t.isLt N_0

/-- The sequence and the position that row `r` of tile `t` belongs to. -/
abbrev sb : Fin 2 := ⟨t.val / 4, by have := tlt t; omega⟩
abbrev sr (r : Fin 512) : Fin 2048 := ⟨t.val % 4 * 512 + r, by omega⟩
abbrev row (r : Fin 512) : Fin 4096 := ⟨t.val * 512 + r, by have := tlt t; omega⟩
abbrev lane' (h : Fin 8) (l : Fin 128) : Fin 1024 := ⟨h * 128 + l, by omega⟩

/-- The position of a row, as the rotation reads it. -/
abbrev at_ (b : Fin 2) (s : Fin 2048) : EReal := FloatOps.sitofp (F := Ideal) .f32 (A3 m c (ix2 b s))

theorem blk0 (r : Fin 512) (h : Fin 8) (d : Fin 128) : (iblk m c 0 t : Wide) (ix2 r (lane' h d))
    = if hd : d.val < 96 then A8 m c (ix4 (sb t) (sr t r) h ⟨d, hd⟩) else 0 := by
  have ht := tlt t
  have e : (V m c main_v33 : FVec Ideal S4096x1024 .f32) (ix2 (row t r) (lane' h d))
      = if hd : d.val < 96 then A8 m c (ix4 (sb t) (sr t r) h ⟨d, hd⟩) else 0 := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    pointwise
    simp only [StableHlo.TRef.toBuf, StableHlo.TRef.ofBuf, cast_eq]
    by_cases hd : d.val < 96
    · rw [dif_pos hd]
      refine (pad_apply_of_inside _ _ _ _ _ _ _ _ (ix4 (sb t) (sr t r) h (⟨d, hd⟩ : Fin 96)) (fun a => ?_)).trans ?_
      · fin_cases a <;> (dsimp; omega)
      · blk_ext
    · rw [dif_neg hd]
      refine (pad_apply_of_not_inside _ _ _ _ _ _ _ _ 3 (fun hh => hd (by have := hh.1; have := hh.2.2; dsimp at *; omega))).trans ?_
      exact sitofp_zero (φ := .f32)
  rw [← e]; blk_ext [iblk, idx t]

theorem blk1 (r : Fin 512) (h : Fin 8) (d : Fin 128) : (iblk m c 1 t : Wide) (ix2 r (lane' h d))
    = if hd : d.val < 96 then A9 m c (ix4 (sb t) (sr t r) h ⟨d, hd⟩) else 0 := by
  have ht := tlt t
  have e : (V m c main_v35 : FVec Ideal S4096x1024 .f32) (ix2 (row t r) (lane' h d))
      = if hd : d.val < 96 then A9 m c (ix4 (sb t) (sr t r) h ⟨d, hd⟩) else 0 := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    pointwise
    simp only [StableHlo.TRef.toBuf, StableHlo.TRef.ofBuf, cast_eq]
    by_cases hd : d.val < 96
    · rw [dif_pos hd]
      refine (pad_apply_of_inside _ _ _ _ _ _ _ _ (ix4 (sb t) (sr t r) h (⟨d, hd⟩ : Fin 96)) (fun a => ?_)).trans ?_
      · fin_cases a <;> (dsimp; omega)
      · blk_ext
    · rw [dif_neg hd]
      refine (pad_apply_of_not_inside _ _ _ _ _ _ _ _ 3 (fun hh => hd (by have := hh.1; have := hh.2.2; dsimp at *; omega))).trans ?_
      exact sitofp_zero (φ := .f32)
  rw [← e]; blk_ext [iblk, idx t]

theorem blk2 (r : Fin 512) (h : Fin 8) (d : Fin 128) : (iblk m c 2 t : Wide) (ix2 r (lane' h d))
    = if hd : 64 ≤ d.val then A10 m c (ix4 (sb t) (sr t r) h ⟨d - 64, by omega⟩) else 0 := by
  have ht := tlt t
  have e : (V m c main_v37 : FVec Ideal S4096x1024 .f32) (ix2 (row t r) (lane' h d))
      = if hd : 64 ≤ d.val then A10 m c (ix4 (sb t) (sr t r) h ⟨d - 64, by omega⟩) else 0 := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    pointwise
    simp only [StableHlo.TRef.toBuf, StableHlo.TRef.ofBuf, cast_eq]
    by_cases hd : 64 ≤ d.val
    · rw [dif_pos hd]
      refine (pad_apply_of_inside _ _ _ _ _ _ _ _ (ix4 (sb t) (sr t r) h (⟨d - 64, by omega⟩ : Fin 64)) (fun a => ?_)).trans ?_
      · fin_cases a <;> (dsimp; omega)
      · blk_ext
    · rw [dif_neg hd]
      refine (pad_apply_of_not_inside _ _ _ _ _ _ _ _ 3 (fun hh => hd (by have := hh.1; have := hh.2.2; dsimp at *; omega))).trans ?_
      exact sitofp_zero (φ := .f32)
  rw [← e]; blk_ext [iblk, idx t]

theorem blk3 (r : Fin 512) (h : Fin 8) (d : Fin 128) : (iblk m c 3 t : Wide) (ix2 r (lane' h d))
    = if hd : d.val < 96 then A0 m c (ix4 (sb t) (sr t r) h ⟨d, hd⟩) else 0 := by
  have ht := tlt t
  have e : (V m c main_v39 : FVec Ideal S4096x1024 .f32) (ix2 (row t r) (lane' h d))
      = if hd : d.val < 96 then A0 m c (ix4 (sb t) (sr t r) h ⟨d, hd⟩) else 0 := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    pointwise
    simp only [StableHlo.TRef.toBuf, StableHlo.TRef.ofBuf, cast_eq]
    by_cases hd : d.val < 96
    · rw [dif_pos hd]
      refine (pad_apply_of_inside _ _ _ _ _ _ _ _ (ix4 (sb t) (sr t r) h (⟨d, hd⟩ : Fin 96)) (fun a => ?_)).trans ?_
      · fin_cases a <;> (dsimp; omega)
      · blk_ext
    · rw [dif_neg hd]
      refine (pad_apply_of_not_inside _ _ _ _ _ _ _ _ 3 (fun hh => hd (by have := hh.1; have := hh.2.2; dsimp at *; omega))).trans ?_
      exact sitofp_zero (φ := .f32)
  rw [← e]; blk_ext [iblk, idx t]

theorem blk4 (r : Fin 512) (h : Fin 8) (d : Fin 128) : (iblk m c 4 t : Wide) (ix2 r (lane' h d)) = A1 m c (ix4 (sb t) (sr t r) h d) := by
  have ht := tlt t
  have e : (V m c main_v40 : FVec Ideal S4096x1024 .f32) (ix2 (row t r) (lane' h d)) = A1 m c (ix4 (sb t) (sr t r) h d) := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    pointwise
    blk_ext
  rw [← e]; blk_ext [iblk, idx t]

theorem blk5 (r : Fin 512) (d : Fin 128) : (iblk m c 5 t : Slab) (ix2 r d)
    = if hd : 64 ≤ d.val ∧ d.val < 96 then A2 m c (ix3 (sb t) (sr t r) (⟨d - 64, by omega⟩ : Fin 32)) else 0 := by
  have ht := tlt t
  have e : (V m c main_v1 : FVec Ideal S4096x768 .f32) (ix2 (row t r) (⟨640 + d, by omega⟩ : Fin 768))
      = if hd : 64 ≤ d.val ∧ d.val < 96 then A2 m c (ix3 (sb t) (sr t r) (⟨d - 64, by omega⟩ : Fin 32)) else 0 := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    pointwise
    simp only [StableHlo.TRef.toBuf, StableHlo.TRef.ofBuf, cast_eq]
    by_cases hd : 64 ≤ d.val ∧ d.val < 96
    · rw [dif_pos hd]
      refine (pad_apply_of_inside _ _ _ _ _ _ _ _ (ix3 (sb t) (sr t r) (⟨d - 64, by omega⟩ : Fin 32)) (fun a => ?_)).trans ?_
      · fin_cases a <;> (dsimp; omega)
      · blk_ext
    · rw [dif_neg hd]
      refine (pad_apply_of_not_inside _ _ _ _ _ _ _ _ 2 (fun hh => hd (by have := hh.1; have := hh.2.2; dsimp at *; omega))).trans ?_
      exact sitofp_zero (φ := .f32)
  rw [← e]; blk_ext [iblk, idx t]

theorem blk6 (r : Fin 512) : (iblk m c 6 t : Col) (ix2 r 0) = at_ m c (sb t) (sr t r) := by
  have ht := tlt t
  have e : (V m c main_v31 : FVec Ideal S4096x1 .f32) (ix2 (row t r) 0) = at_ m c (sb t) (sr t r) := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    pointwise
    refine congrArg (FloatOps.sitofp (F := Ideal) .f32) ?_
    blk_ext
  rw [← e]; blk_ext [iblk, idx t]

theorem blk7 (l : Fin 128) : (iblk m c 7 t : Gain) (ix2 0 l) = two (fun k => A4 m c (ix2 0 k)) (fun k => A5 m c (ix2 0 k)) l := by
  have e : (V m c main_v7 : Gain) (ix2 0 l) = two (fun k => A4 m c (ix2 0 k)) (fun k => A5 m c (ix2 0 k)) l := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    refine (cast_row _ l).trans ?_
    refine (put_at 64 _ _ _ _ (fun a => ?_) (by omega) l).trans ?_
    · fin_cases a
      rfl
    unfold two
    by_cases h : l.val < 64
    · rw [dif_neg (by omega), dif_pos h]
      refine (put_at 0 _ _ _ _ (fun a => ?_) (by omega) l).trans ?_
      · fin_cases a
        rfl
      rw [dif_pos (by omega)]
      pointwise; blk_ext
    · rw [dif_neg h]
      by_cases h' : l.val < 96
      · rw [dif_pos (by omega), dif_pos h']
        pointwise; blk_ext
      · rw [dif_neg (by omega), dif_neg h']
        refine (put_at 0 _ _ _ _ (fun a => ?_) (by omega) l).trans ?_
        · fin_cases a
          rfl
        rw [dif_neg (by omega)]
        exact blank_at l
  rw [← e]; blk_ext [iblk, idx t]

theorem blk8 (l : Fin 128) : (iblk m c 8 t : Gain) (ix2 0 l) = two (fun k => A6 m c (ix2 0 k)) (fun _ => 0) l := by
  have e : (V m c main_v11 : Gain) (ix2 0 l) = two (fun k => A6 m c (ix2 0 k)) (fun _ => 0) l := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    refine (cast_row _ l).trans ?_
    refine (put_at 0 _ _ _ _ (fun a => ?_) (by omega) l).trans ?_
    · fin_cases a
      rfl
    unfold two
    by_cases h : l.val < 64
    · rw [dif_pos (by omega), dif_pos h]
      pointwise; blk_ext
    · rw [dif_neg (by omega), dif_neg h]
      refine (blank_at l).trans ?_
      split <;> rfl
  rw [← e]; blk_ext [iblk, idx t]

theorem blk9 (l : Fin 128) : (iblk m c 9 t : Gain) (ix2 0 l) = two (fun _ => 0) (fun k => A7 m c (ix2 0 k)) l := by
  have e : (V m c main_v15 : Gain) (ix2 0 l) = two (fun _ => 0) (fun k => A7 m c (ix2 0 k)) l := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    refine (cast_row _ l).trans ?_
    refine (put_at 64 _ _ _ _ (fun a => ?_) (by omega) l).trans ?_
    · fin_cases a
      rfl
    unfold two
    by_cases h : l.val < 64
    · rw [dif_neg (by omega), dif_pos h]
      exact blank_at l
    · rw [dif_neg h]
      by_cases h' : l.val < 96
      · rw [dif_pos (by omega), dif_pos h']
        pointwise; blk_ext
      · rw [dif_neg (by omega), dif_neg h']
        exact blank_at l
  rw [← e]; blk_ext [iblk, idx t]

theorem blk10 (l : Fin 128) : (iblk m c 10 t : Gain) (ix2 0 l) = two (fun _ => 0) (fun k => freq ⟨k.val % 16, by omega⟩) l := by
  have e : (V m c main_v29 : Gain) (ix2 0 l) = two (fun _ => 0) (fun k => freq ⟨k.val % 16, by omega⟩) l := by
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    refine (cast_row _ l).trans ?_
    refine (put_at 64 _ _ _ _ (fun a => ?_) (by omega) l).trans ?_
    · fin_cases a
      rfl
    unfold two
    by_cases h : l.val < 64
    · rw [dif_neg (by omega), dif_pos h]
      exact blank_at l
    · rw [dif_neg h]
      by_cases h' : l.val < 96
      · rw [dif_pos (by omega), dif_pos h']
        by_cases h16 : l.val - 64 < 16
        · refine (concatenate_apply_piece (t := S32) 0 _ _ _ 0 (by simp) S16 _ rfl rfl 0 rfl (ix1 (⟨l - 64, h16⟩ : Fin 16))
            (fun b hb => by fin_cases b; exact absurd rfl hb) (by show 0 + (l.val - 64) = l.val - 64; omega)).trans ?_
          exact (show _ = freq ⟨l.val - 64, h16⟩ from rfl).trans (congrArg freq (Fin.ext (by dsimp; omega)))
        · refine (concatenate_apply_piece (t := S32) 0 _ _ _ 1 (by simp) S16 _ rfl rfl 16 rfl (ix1 (⟨l - 64 - 16, by omega⟩ : Fin 16))
            (fun b hb => by fin_cases b; exact absurd rfl hb) (by show 16 + (l.val - 64 - 16) = l.val - 64; omega)).trans ?_
          exact (show _ = freq ⟨l.val - 64 - 16, by omega⟩ from rfl).trans (congrArg freq (Fin.ext (by dsimp; omega)))
      · rw [dif_neg (by omega), dif_neg h']
        exact blank_at l
  rw [← e]; blk_ext [iblk, idx t]

end Entry
end Cert.QkBwdIdeal.Value
end
-- ==== Proof.QkForm.lean ====
module

public import proofs.«01_k».proof.Proof.QkBlk

@[expose] public section

/-! What the kernel of the query's and key's norms leaves, in the call's arguments. -/

set_option maxRecDepth 16384

noncomputable section

open Idealize.ShloMosaic Idealize.ShloMosaic.TcCoe Idealize.SL.Sem
open Idealize.ShloMosaic.Pipeline (Dat)

namespace Cert.QkBwdIdeal.Value

open Cert.QkBwdIdeal Cert.QkBwdIdeal.Gen

/-! ## Rows of two parts -/

abbrev IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.cos {x : EReal} (hx : IsReal x) : IsReal (Ideal.cos x) := by
  obtain ⟨a, rfl⟩ := hx; exact ⟨Real.cos a, rfl⟩
theorem IsReal.sin {x : EReal} (hx : IsReal x) : IsReal (Ideal.sin x) := by
  obtain ⟨a, rfl⟩ := hx; exact ⟨Real.sin a, rfl⟩
theorem IsReal.row {n : Nat} {f : Fin n → EReal} (h : ∀ k, IsReal (f k)) : ∃ r : Fin n → ℝ, f = Reals.up r :=
  ⟨fun k => (h k).choose, funext fun k => (h k).choose_spec⟩
theorem IsReal.sum {n : Nat} {f : Fin n → EReal} (h : ∀ k, IsReal (f k)) : IsReal (∑ k, f k) := by
  obtain ⟨r, rfl⟩ := IsReal.row h; exact ⟨_, Reals.sum_coe _ _⟩

theorem lit_μn : μn = (((64 : ℝ)⁻¹ : ℝ) : EReal) := by
  simp [μn, Ideal.ofBits, Ideal.ieee, -EReal.coe_mul]; norm_num
theorem lit_μr : μr = (((32 : ℝ)⁻¹ : ℝ) : EReal) := by
  simp [μr, Ideal.ofBits, Ideal.ieee, -EReal.coe_mul]; norm_num

section Rows

variable (u u' : Fin 64 → EReal) (v v' : Fin 32 → EReal)

theorem sum_two : ∑ l, two u v l = ∑ k, u k + ∑ j, v j := by
  refine (Fin.sum_univ_add (a := 64) (b := 64) (two u v)).trans (congrArg₂ (· + ·) (Finset.sum_congr rfl fun k _ => dif_pos k.isLt) ?_)
  refine (Fin.sum_univ_add (a := 32) (b := 32) fun l : Fin 64 => two u v (Fin.natAdd 64 l)).trans ?_
  refine (congrArg₂ (· + ·) (Finset.sum_congr rfl fun j _ => ?_) (Finset.sum_eq_zero fun j _ => ?_)).trans (add_zero _)
  · refine (dif_neg (by dsimp; omega)).trans ((dif_pos (by dsimp; omega)).trans (congrArg v (Fin.ext ?_)))
    dsimp; omega
  · exact (dif_neg (by dsimp; omega)).trans (dif_neg (by dsimp; omega))

theorem two_mul' (l : Fin 128) : two u v l * two u' v' l = two (fun k => u k * u' k) (fun j => v j * v' j) l := by
  unfold two; split
  · rfl
  · split
    · rfl
    · exact zero_mul _

theorem low_two : lowSum (two u v) = ∑ k, u k := by
  refine Eq.trans (Finset.sum_congr rfl fun l _ => ?_) ((sum_two u fun _ => 0).trans (by rw [Finset.sum_const_zero, add_zero]))
  unfold two; split
  · rfl
  · split <;> rfl

theorem high_two (hu : ∀ k, IsReal (u k)) (hv : ∀ j, IsReal (v j)) : highSum (two u v) = ∑ j, v j := by
  unfold highSum
  rw [low_two, sum_two]
  obtain ⟨a, ha⟩ := IsReal.sum hu
  obtain ⟨b, hb⟩ := IsReal.sum hv
  rw [ha, hb, ← EReal.coe_add, ← EReal.coe_sub, add_sub_cancel_left]

/-- A row's gradient by its two parts. -/
theorem inv_low (μ : EReal) : Rms.inv (two u fun _ => 0) μ = Rms.inv u μ := by
  unfold Rms.inv
  refine congrArg (fun s => Ideal.rsqrt (s * μ + Rms.eps)) ?_
  refine (Finset.sum_congr rfl fun l _ => two_mul' ..).trans ((sum_two ..).trans ?_)
  simp
theorem inv_high (μ : EReal) : Rms.inv (two (fun _ => 0) v) μ = Rms.inv v μ := by
  unfold Rms.inv
  refine congrArg (fun s => Ideal.rsqrt (s * μ + Rms.eps)) ?_
  refine (Finset.sum_congr rfl fun l _ => two_mul' ..).trans ((sum_two ..).trans ?_)
  simp

theorem two_scale (a : EReal) (l : Fin 128) : two u v l * a = two (fun k => u k * a) (fun j => v j * a) l := by
  unfold two; split
  · rfl
  · split
    · rfl
    · exact zero_mul _

theorem grad_low (μ : EReal) (l : Fin 128) : Rms.grad (two u fun _ => 0) (two u' fun _ => 0) μ l = two (Rms.grad u u' μ) (fun _ => 0) l := by
  have e : ∑ l, two u' (fun _ => 0) l * (two u (fun _ => 0) l * Rms.inv u μ) = ∑ k, u' k * (u k * Rms.inv u μ) := by
    refine (Finset.sum_congr rfl fun l _ => (congrArg _ (two_scale ..)).trans (two_mul' ..)).trans ((sum_two ..).trans ?_)
    simp
  unfold Rms.grad
  rw [inv_low, e]
  unfold two; split
  · rfl
  · split <;> simp
theorem grad_high (μ : EReal) (l : Fin 128) : Rms.grad (two (fun _ => 0) v) (two (fun _ => 0) v') μ l = two (fun _ => 0) (Rms.grad v v' μ) l := by
  have e : ∑ l, two (fun _ => 0) v' l * (two (fun _ => 0) v l * Rms.inv v μ) = ∑ k, v' k * (v k * Rms.inv v μ) := by
    refine (Finset.sum_congr rfl fun l _ => (congrArg _ (two_scale ..)).trans (two_mul' ..)).trans ((sum_two ..).trans ?_)
    simp
  unfold Rms.grad
  rw [inv_high, e]
  unfold two; split
  · simp
  · split
    · rfl
    · simp

end Rows

section Parts

variable (x d : Slab) (g : Gain) (r : Fin 512) {xn dn gn : Fin 64 → EReal} {xr dr gr : Fin 32 → EReal}
  (hx : ∀ l, x (ix2 r l) = two xn xr l) (hn : ∀ k, IsReal (xn k)) (hr : ∀ j, IsReal (xr j))

include hx hn hr

theorem partInv_two (l : Fin 128) : partInv x (ix2 r l) = if l.val < 64 then Rms.inv xn μn else Rms.inv xr μr := by
  have e : (fun l => x (ix2 r l) * x (ix2 r l)) = two (fun k => xn k * xn k) (fun j => xr j * xr j) :=
    funext fun l => by rw [hx]; exact two_mul' ..
  rw [partInv_at, e, low_two, high_two _ _ (fun k => (hn k).mul (hn k)) (fun k => (hr k).mul (hr k))]
  rfl

theorem partHat_two (l : Fin 128) : partHat x (ix2 r l) = two (fun k => xn k * Rms.inv xn μn) (fun j => xr j * Rms.inv xr μr) l := by
  refine (congrArg₂ (· * · : EReal → EReal → EReal) (hx l) (partInv_two x r hx hn hr l)).trans ?_
  unfold two; split
  · rfl
  · split
    · rfl
    · exact zero_mul _

theorem partGrad_two (hd : ∀ l, d (ix2 r l) = two dn dr l) (hg : ∀ l, g (ix2 0 l) = two gn gr l) (hdn : ∀ k, IsReal (dn k))
    (hdr : ∀ k, IsReal (dr k)) (hgn : ∀ k, IsReal (gn k)) (hgr : ∀ k, IsReal (gr k)) (l : Fin 128) : partGrad d x g (ix2 r l)
    = two (Rms.grad xn (fun k => dn k * gn k) μn) (Rms.grad xr (fun j => dr j * gr j) μr) l := by
  have hi : IsReal (Rms.inv xn μn) := by
    obtain ⟨y, rfl⟩ := IsReal.row hn; rw [lit_μn]; exact ⟨_, Rms.inv_coe y (by norm_num)⟩
  have hi' : IsReal (Rms.inv xr μr) := by
    obtain ⟨y, rfl⟩ := IsReal.row hr; rw [lit_μr]; exact ⟨_, Rms.inv_coe y (by norm_num)⟩
  have e : (fun l => mulf (mulf d (down g)) (partHat x) (ix2 r l)) = two (fun k => dn k * gn k * (xn k * Rms.inv xn μn))
      (fun j => dr j * gr j * (xr j * Rms.inv xr μr)) := funext fun l => by
    refine (show _ = d (ix2 r l) * down g (ix2 r l) * partHat x (ix2 r l) from rfl).trans ?_
    rw [hd, down_at, hg, partHat_two x r hx hn hr, two_mul', two_mul']
  rw [partGrad_at, partMean_at, e, low_two, high_two _ _ (fun k => ((hdn k).mul (hgn k)).mul ((hn k).mul hi))
    (fun k => ((hdr k).mul (hgr k)).mul ((hr k).mul hi')), partInv_two x r hx hn hr, hx, hd, hg]
  unfold two Rms.grad; split
  · rfl
  · split
    · rfl
    · simp

end Parts

/-! ## The rotation's derivative -/

section Turn

variable (u : Fin 64 → EReal) (v : Fin 32 → EReal)

theorem two_lo (k : Fin 64) (l : Fin 128) (h : l.val = k.val) : two u v l = u k :=
  (dif_pos (by omega)).trans (congrArg u (Fin.ext h))
theorem two_hi (j : Fin 32) (l : Fin 128) (h : l.val = 64 + j.val) : two u v l = v j :=
  (dif_neg (by omega)).trans ((dif_pos (by omega)).trans (congrArg v (Fin.ext (by dsimp; omega))))
theorem two_out (l : Fin 128) (h : 96 ≤ l.val) : two u v l = 0 := (dif_neg (by omega)).trans (dif_neg (by omega))

/-- A lane is of the first part, of the second, or of neither. -/
theorem lanes (l : Fin 128) : (∃ k : Fin 64, l.val = k.val) ∨ (∃ j : Fin 32, l.val = 64 + j.val) ∨ 96 ≤ l.val := by
  by_cases h : l.val < 64
  · exact .inl ⟨⟨l, h⟩, rfl⟩
  · by_cases h' : l.val < 96
    · exact .inr (.inl ⟨⟨l - 64, by omega⟩, by dsimp; omega⟩)
    · exact .inr (.inr (by omega))

/-- The frequency of a rotated column. -/
abbrev fr (j : Fin 32) : EReal := freq ⟨j.val % 16, by omega⟩

/-- A cotangent turned back by the position `p`. -/
def turn (d : Fin 32 → EReal) (p : EReal) (j : Fin 32) : EReal := d j * Ideal.cos (p * fr j)
  + (if h : j.val < 16 then d ⟨j + 16, by omega⟩ * Ideal.sin (p * fr ⟨j + 16, by omega⟩)
    else -(d ⟨j - 16, by omega⟩ * Ideal.sin (p * fr ⟨j - 16, by omega⟩)))

theorem cos_zero : Ideal.cos 0 = 1 := by
  refine (show Ideal.cos 0 = ((Real.cos 0 : ℝ) : EReal) from rfl).trans ?_
  rw [Real.cos_zero]; rfl

theorem unrot_two (d cs sn : Slab) (r : Fin 512) (p : EReal) {dn : Fin 64 → EReal} {dr : Fin 32 → EReal}
    (hd : ∀ l, d (ix2 r l) = two dn dr l) (hc : ∀ l, cs (ix2 r l) = Ideal.cos (p * two (fun _ => 0) fr l))
    (hs : ∀ l, sn (ix2 r l) = Ideal.sin (p * two (fun _ => 0) fr l)) (l : Fin 128) :
    unrot d cs sn (ix2 r l) = two dn (turn dr p) l := by
  have hm : ∀ l, mulf d sn (ix2 r l) = two dn dr l * Ideal.sin (p * two (fun _ => 0) fr l) := fun l =>
    congrArg₂ (· * · : EReal → EReal → EReal) (hd l) (hs l)
  rw [unrot_at, rot_at, hd, hc]
  rcases lanes l with ⟨k, h⟩ | ⟨j, h⟩ | h
  · rw [dif_neg (by omega), two_lo _ _ k l h, two_lo _ _ k l h, two_lo _ _ k l h, mul_zero, cos_zero, mul_one, sub_zero]
  · rw [dif_pos (by omega), two_hi _ _ j l h, two_hi _ _ j l h, two_hi _ _ j l h, turn, sub_eq_add_neg]
    refine congrArg (fun y : EReal => dr j * Ideal.cos (p * fr j) + y) ?_
    by_cases h' : j.val < 16
    · rw [if_pos (by omega), dif_pos h', hm, two_hi _ _ ⟨j + 16, by omega⟩ _ (by dsimp; omega), two_hi _ _ ⟨j + 16, by omega⟩ _ (by dsimp; omega),
        zero_sub, neg_neg]
    · rw [if_neg (by omega), dif_neg h', hm, two_hi _ _ ⟨j - 16, by omega⟩ _ (by dsimp; omega), two_hi _ _ ⟨j - 16, by omega⟩ _ (by dsimp; omega)]
  · rw [dif_neg (by omega), two_out _ _ l h, two_out _ _ l h, zero_mul, sub_zero, two_out _ _ l h]

end Turn

/-! ## The results in the arguments -/

section Forms

variable (q dq dk : FVec Ideal S2x2048x8x96 .f32) (kv : FVec Ideal S2x2048x8x128 .f32) (kr : FVec Ideal S2x2048x32 .f32) (ps : IVec S2x2048 32)
  (gn : FVec Ideal S1x64 .f32) (gr : FVec Ideal S1x32 .f32) (dv : FVec Ideal S2x2048x8x64 .f32) (b : Fin 2) (s : Fin 2048) (h : Fin 8)

abbrev lo (x : FVec Ideal S2x2048x8x96 .f32) (k : Fin 64) : EReal := x (ix4 b s h (⟨k, by omega⟩ : Fin 96))
abbrev hi (x : FVec Ideal S2x2048x8x96 .f32) (j : Fin 32) : EReal := x (ix4 b s h (⟨64 + j, by omega⟩ : Fin 96))
abbrev kn (k : Fin 64) : EReal := kv (ix4 b s h (⟨k, by omega⟩ : Fin 128))
abbrev krow (j : Fin 32) : EReal := kr (ix3 b s j)
abbrev spot : EReal := FloatOps.sitofp (F := Ideal) .f32 (ps (ix2 b s))

/-- The query's rotated columns' cotangent, turned back; the rotary key's, added up over the heads. -/
abbrev tq : Fin 32 → EReal := turn (hi b s h dq) (spot ps b s)
abbrev tk : Fin 32 → EReal := turn (fun j => ∑ h, hi b s h dk j) (spot ps b s)

def dqo (l : Fin 128) : EReal := two (Rms.grad (lo b s h q) (fun k => lo b s h dq k * gn (ix2 0 k)) μn)
  (Rms.grad (hi b s h q) (fun j => tq dq ps b s h j * gr (ix2 0 j)) μr) l
def dkvo (l : Fin 128) : EReal := if hl : l.val < 64 then Rms.grad (kn kv b s h) (fun k => lo b s h dk k * gn (ix2 0 k)) μn ⟨l, hl⟩
  else dv (ix4 b s h (⟨l - 64, by omega⟩ : Fin 64))
def dkro (l : Fin 128) : EReal := two (fun _ => 0) (Rms.grad (krow kr b s) (fun j => tk dk ps b s j * gr (ix2 0 j)) μr) l
def gqo (l : Fin 128) : EReal := two (fun k => lo b s h dq k * (lo b s h q k * Rms.inv (lo b s h q) μn))
  (fun j => tq dq ps b s h j * (hi b s h q j * Rms.inv (hi b s h q) μr)) l
def gko (l : Fin 128) : EReal := two (fun k => lo b s h dk k * (kn kv b s h k * Rms.inv (kn kv b s h) μn)) (fun _ => 0) l
def gro (l : Fin 128) : EReal := two (fun _ => 0) (fun j => tk dk ps b s j * (krow kr b s j * Rms.inv (krow kr b s) μr)) l

/-- A row of 96 columns, padded. -/
theorem pad96 (d : Fin 128) : (if hd : d.val < 96 then q (ix4 b s h (⟨d, hd⟩ : Fin 96)) else 0) = two (lo b s h q) (hi b s h q) d := by
  rcases lanes d with ⟨k, e⟩ | ⟨j, e⟩ | e
  · rw [two_lo _ _ k d e, dif_pos (by omega)]; congr 2; exact Fin.ext e
  · rw [two_hi _ _ j d e, dif_pos (by omega)]; congr 2; exact Fin.ext e
  · rw [two_out _ _ d e, dif_neg (by omega)]

theorem spot_real : IsReal (spot ps b s) := ⟨_, rfl⟩

end Forms

open Cert.QkBwdRefIdeal.Read in
theorem freq_real (j : Fin 16) : IsReal (freq j) := by
  obtain ⟨a, ha⟩ : IsReal (val_main_v9 (F := Ideal) (ix1 j)) := by
    rw [val_main_v9_apply, val_main_v7_apply, val_main_v6_apply, val_main_v5_apply, val_main_v4_apply, val_main_v3_apply, val_main_v8_apply]
    have e0 : ∀ i, val_main_cst (F := Ideal) i = ((2 : ℝ) : EReal) := fun i => Reals.lit_two
    have e1 : ∀ i, val_main_cst_0 (F := Ideal) i = ((0 : ℝ) : EReal) := fun i => Reals.lit_zero
    have e2 : ∀ i, val_main_cst_1 (F := Ideal) i = ((32 : ℝ) : EReal) := fun i => by
      refine (show _ = Ideal.ofBits .f32 0x42000000#32 from rfl).trans ?_
      simp [Ideal.ofBits, Ideal.ieee, -EReal.coe_mul]; norm_num
    rw [e0, e1, e2]
    obtain ⟨n, hn⟩ : IsReal (val_main_v2 (F := Ideal) (ix1 j)) := ⟨_, rfl⟩
    rw [hn]
    refine ⟨-(0 + 2 * n) / 32, ?_⟩
    rw [← Reals.div_coe _ (by norm_num)]; rfl
  unfold freq
  rw [val_main_v11_apply, val_main_v10_apply, ha]
  have e : ∀ i, val_main_cst_2 (F := Ideal) i = ((10000 : ℝ) : EReal) := fun i => by
    refine (show _ = Ideal.ofBits .f32 0x461C4000#32 from rfl).trans ?_
    simp [Ideal.ofBits, Ideal.ieee, -EReal.coe_mul]; norm_num
  rw [e]
  exact ⟨_, rfl⟩

theorem turn_real {d : Fin 32 → EReal} {p : EReal} (hd : ∀ j, IsReal (d j)) (hp : IsReal p) (j : Fin 32) : IsReal (turn d p j) := by
  unfold turn
  refine ((hd j).mul (hp.mul (freq_real _)).cos).add ?_
  split
  · exact (hd _).mul (hp.mul (freq_real _)).sin
  · exact ((hd _).mul (hp.mul (freq_real _)).sin).neg

variable (m : (ℓ : Loc nD τ sig) → Buf (Elt Ideal) ℓ) (c : Dev nD)

theorem pay12_at (f : Gain) (p : Col) (r : Fin 512) (l : Fin 128) : k0_pay12 (F := Ideal) f p (ix2 r l) = Ideal.cos (k0_pay11 (F := Ideal) f p (ix2 r l)) := rfl
theorem pay13_at (f : Gain) (p : Col) (r : Fin 512) (l : Fin 128) : k0_pay13 (F := Ideal) f p (ix2 r l) = Ideal.sin (k0_pay11 (F := Ideal) f p (ix2 r l)) := rfl

/-- Eight slabs side by side. -/
theorem heads_at (f : Fin 8 → Slab) (r : Fin 512) (h : Fin 8) (l : Fin 128) :
    concatenate S512x1024 1 [⟨S512x128, f 0⟩, ⟨S512x128, f 1⟩, ⟨S512x128, f 2⟩, ⟨S512x128, f 3⟩, ⟨S512x128, f 4⟩, ⟨S512x128, f 5⟩,
      ⟨S512x128, f 6⟩, ⟨S512x128, f 7⟩] concatenates_S512x128_S512x128_S512x128_S512x128_S512x128_S512x128_S512x128_S512x128_S512x1024_d1
      (ix2 r (lane' h l)) = f h (ix2 r l) := by
  fin_cases h <;> first
  | exact concatenate_apply_piece (t := S512x1024) 1 _ _ _ 0 (by simp) S512x128 _ rfl rfl 0 rfl (ix2 r l)
      (fun b hb => by fin_cases b <;> first | rfl | exact absurd rfl hb) (by show 0 + l.val = _; dsimp <;> omega)
  | exact concatenate_apply_piece (t := S512x1024) 1 _ _ _ 1 (by simp) S512x128 _ rfl rfl 128 rfl (ix2 r l)
      (fun b hb => by fin_cases b <;> first | rfl | exact absurd rfl hb) (by show 128 + l.val = _; dsimp <;> omega)
  | exact concatenate_apply_piece (t := S512x1024) 1 _ _ _ 2 (by simp) S512x128 _ rfl rfl 256 rfl (ix2 r l)
      (fun b hb => by fin_cases b <;> first | rfl | exact absurd rfl hb) (by show 256 + l.val = _; dsimp <;> omega)
  | exact concatenate_apply_piece (t := S512x1024) 1 _ _ _ 3 (by simp) S512x128 _ rfl rfl 384 rfl (ix2 r l)
      (fun b hb => by fin_cases b <;> first | rfl | exact absurd rfl hb) (by show 384 + l.val = _; dsimp <;> omega)
  | exact concatenate_apply_piece (t := S512x1024) 1 _ _ _ 4 (by simp) S512x128 _ rfl rfl 512 rfl (ix2 r l)
      (fun b hb => by fin_cases b <;> first | rfl | exact absurd rfl hb) (by show 512 + l.val = _; dsimp <;> omega)
  | exact concatenate_apply_piece (t := S512x1024) 1 _ _ _ 5 (by simp) S512x128 _ rfl rfl 640 rfl (ix2 r l)
      (fun b hb => by fin_cases b <;> first | rfl | exact absurd rfl hb) (by show 640 + l.val = _; dsimp <;> omega)
  | exact concatenate_apply_piece (t := S512x1024) 1 _ _ _ 6 (by simp) S512x128 _ rfl rfl 768 rfl (ix2 r l)
      (fun b hb => by fin_cases b <;> first | rfl | exact absurd rfl hb) (by show 768 + l.val = _; dsimp <;> omega)
  | exact concatenate_apply_piece (t := S512x1024) 1 _ _ _ 7 (by simp) S512x128 _ rfl rfl 896 rfl (ix2 r l)
      (fun b hb => by fin_cases b <;> first | rfl | exact absurd rfl hb) (by show 896 + l.val = _; dsimp <;> omega)

theorem pay15_at (l : Fin 128) : k0_pay15 (F := Ideal) (ix2 0 l) = 0 := by
  refine (show _ = Ideal.ofBits .f32 0x00000000#32 from rfl).trans ?_
  rw [Reals.lit_zero]; rfl
theorem pay16_at (l : Fin 128) : k0_pay16 (F := Ideal) (ix2 0 l) = 0 := pay15_at l
theorem add_eight (o : Gain) (f : Fin 8 → Gain) (l : Fin 128) : addUp' o f (ix2 0 l) = o (ix2 0 l) + ∑ h, f h (ix2 0 l) := by
  refine (show _ = o (ix2 0 l) + f 0 (ix2 0 l) + f 1 (ix2 0 l) + f 2 (ix2 0 l) + f 3 (ix2 0 l) + f 4 (ix2 0 l) + f 5 (ix2 0 l)
    + f 6 (ix2 0 l) + f 7 (ix2 0 l) from rfl).trans ?_
  rw [Fin.sum_univ_eight fun h : Fin 8 => f h (ix2 0 l)]
  simp only [add_assoc]

section Point

variable (t : Fin cfg0.N) (r : Fin 512)

theorem dq_row (h : Fin 8) (l : Fin 128) : slab h (Dq m c t) (ix2 r l)
    = two (lo (sb t) (sr t r) h (A8 m c)) (hi (sb t) (sr t r) h (A8 m c)) l := by
  rw [← pad96, slab_at, ← blk0]; pointwise [k0_pay5]
theorem dk_row (h : Fin 8) (l : Fin 128) : slab h (Dk m c t) (ix2 r l)
    = two (lo (sb t) (sr t r) h (A9 m c)) (hi (sb t) (sr t r) h (A9 m c)) l := by
  rw [← pad96, slab_at, ← blk1]; pointwise [k0_pay6]
theorem q_row (h : Fin 8) (l : Fin 128) : slab h (Q m c t) (ix2 r l)
    = two (lo (sb t) (sr t r) h (A0 m c)) (hi (sb t) (sr t r) h (A0 m c)) l := by
  rw [← pad96, slab_at, ← blk3]; pointwise [k0_pay8]
theorem dv_row (h : Fin 8) (l : Fin 128) (hl : ¬l.val < 64) : slab h (Dv m c t) (ix2 r l)
    = A10 m c (ix4 (sb t) (sr t r) h (⟨l - 64, by omega⟩ : Fin 64)) := by
  refine Eq.trans ?_ ((blk2 m c t r h l).trans (dif_pos (by omega)))
  rw [slab_at]; pointwise [k0_pay7]
theorem kv_row (h : Fin 8) (l : Fin 128) : slab h (Kv m c t) (ix2 r l) = A1 m c (ix4 (sb t) (sr t r) h l) := by
  rw [slab_at, ← blk4]; pointwise [k0_pay9]
theorem kr_row (l : Fin 128) : Kr m c t (ix2 r l) = two (fun _ => 0) (krow (A2 m c) (sb t) (sr t r)) l := by
  refine Eq.trans (by pointwise [k0_pay10]) ((blk5 m c t r l).trans ?_)
  rcases lanes l with ⟨k, e⟩ | ⟨j, e⟩ | e
  · rw [two_lo _ _ k l e, dif_neg (by omega)]
  · rw [two_hi _ _ j l e, dif_pos (by omega)]; congr 2; exact Fin.ext (by dsimp; omega)
  · rw [two_out _ _ l e, dif_neg (by omega)]

theorem angle (l : Fin 128) : k0_pay11 (iblk m c 10 t) (iblk m c 6 t) (ix2 r l)
    = spot (A3 m c) (sb t) (sr t r) * two (fun _ => 0) fr l := by
  refine Eq.trans (by pointwise [k0_pay11]) (congrArg₂ (· * · : EReal → EReal → EReal) (blk6 m c t r) (blk10 m c t l))
theorem cs_row (l : Fin 128) : Cs m c t (ix2 r l) = Ideal.cos (spot (A3 m c) (sb t) (sr t r) * two (fun _ => 0) fr l) := by
  rw [Cs, pay12_at, angle]
theorem sn_row (l : Fin 128) : Sn m c t (ix2 r l) = Ideal.sin (spot (A3 m c) (sb t) (sr t r) * two (fun _ => 0) fr l) := by
  rw [Sn, pay13_at, angle]
theorem gq_row (l : Fin 128) : Gq m c t (ix2 0 l) = two (fun k => A4 m c (ix2 0 k)) (fun k => A5 m c (ix2 0 k)) l := by
  rw [← blk7 m c t]; pointwise [k0_pay2]
theorem gk_row (l : Fin 128) : Gk m c t (ix2 0 l) = two (fun k => A6 m c (ix2 0 k)) (fun _ => 0) l := by
  rw [← blk8 m c t]; pointwise [k0_pay3]
theorem gr_row (l : Fin 128) : Gr m c t (ix2 0 l) = two (fun _ => 0) (fun k => A7 m c (ix2 0 k)) l := by
  rw [← blk9 m c t]; pointwise [k0_pay4]

theorem tq_row (h : Fin 8) (l : Fin 128) : unrot (slab h (Dq m c t)) (Cs m c t) (Sn m c t) (ix2 r l)
    = two (lo (sb t) (sr t r) h (A8 m c)) (tq (A8 m c) (A3 m c) (sb t) (sr t r) h) l :=
  unrot_two _ _ _ r _ (dq_row m c t r h) (cs_row m c t r) (sn_row m c t r) l

theorem low_row {x : Slab} {u : Fin 64 → EReal} {v : Fin 32 → EReal} (hx : ∀ l, x (ix2 r l) = two u v l) (l : Fin 128) :
    (select low x zero : Slab) (ix2 r l) = two u (fun _ => 0) l := by
  rw [pick_at, zero_at, hx]
  unfold two; split
  · rfl
  · split <;> rfl
theorem high_row {x : Slab} {u : Fin 64 → EReal} {v : Fin 32 → EReal} (hx : ∀ l, x (ix2 r l) = two u v l) (l : Fin 128) :
    (select low zero x : Slab) (ix2 r l) = two (fun _ => 0) v l := by
  rw [pick_at, zero_at, hx]
  unfold two; split <;> rfl

theorem up_row (l : Fin 128) : addUp zero (fun h => select low zero (slab h (Dk m c t))) (ix2 r l)
    = two (fun _ => 0) (fun j => ∑ h, hi (sb t) (sr t r) h (A9 m c) j) l := by
  have e := fun h => high_row r (dk_row m c t r h) l
  refine (show _ = zero (ix2 r l) + (select low zero (slab 0 (Dk m c t)) : Slab) (ix2 r l) + (select low zero (slab 1 (Dk m c t)) : Slab) (ix2 r l)
    + (select low zero (slab 2 (Dk m c t)) : Slab) (ix2 r l) + (select low zero (slab 3 (Dk m c t)) : Slab) (ix2 r l)
    + (select low zero (slab 4 (Dk m c t)) : Slab) (ix2 r l) + (select low zero (slab 5 (Dk m c t)) : Slab) (ix2 r l)
    + (select low zero (slab 6 (Dk m c t)) : Slab) (ix2 r l) + (select low zero (slab 7 (Dk m c t)) : Slab) (ix2 r l) from rfl).trans ?_
  rw [e, e, e, e, e, e, e, e, zero_at, zero_add]
  unfold two; split
  · simp
  · split
    · exact (Fin.sum_univ_eight fun h : Fin 8 => hi (sb t) (sr t r) h (A9 m c) _).symm
    · simp

theorem tk_row (l : Fin 128) : dkr (Dk m c t) (Cs m c t) (Sn m c t) (ix2 r l)
    = two (fun _ => 0) (tk (A9 m c) (A3 m c) (sb t) (sr t r)) l :=
  unrot_two _ _ _ r _ (up_row m c t r) (cs_row m c t r) (sn_row m c t r) l

/-- The arguments are real numbers. -/
structure Finite : Prop where
  a0 : ∀ i, IsReal (A0 m c i)
  a1 : ∀ i, IsReal (A1 m c i)
  a2 : ∀ i, IsReal (A2 m c i)
  a4 : ∀ i, IsReal (A4 m c i)
  a5 : ∀ i, IsReal (A5 m c i)
  a6 : ∀ i, IsReal (A6 m c i)
  a7 : ∀ i, IsReal (A7 m c i)
  a8 : ∀ i, IsReal (A8 m c i)
  a9 : ∀ i, IsReal (A9 m c i)

variable {m c} (F : Finite m c)

include F in
theorem pt11 (h : Fin 8) (l : Fin 128) : P11 m c t h (ix2 r l)
    = dqo (A0 m c) (A8 m c) (A3 m c) (A4 m c) (A5 m c) (sb t) (sr t r) h l :=
  partGrad_two _ _ _ r (q_row m c t r h) (fun _ => F.a0 _) (fun _ => F.a0 _) (tq_row m c t r h) (gq_row m c t)
    (fun _ => F.a8 _) (turn_real (fun _ => F.a8 _) (spot_real _ _ _)) (fun _ => F.a4 _) (fun _ => F.a5 _) l

include F in
theorem ptg (h : Fin 8) (l : Fin 128) : (mulf (unrot (slab h (Dq m c t)) (Cs m c t) (Sn m c t)) (partHat (slab h (Q m c t))) : Slab) (ix2 r l)
    = gqo (A0 m c) (A8 m c) (A3 m c) (sb t) (sr t r) h l := by
  refine (congrArg₂ (· * · : EReal → EReal → EReal) (tq_row m c t r h l)
    (partHat_two _ r (q_row m c t r h) (fun _ => F.a0 _) (fun _ => F.a0 _) l)).trans ?_
  exact two_mul' ..

theorem klow (h : Fin 8) (l : Fin 128) : (select low (slab h (Kv m c t)) zero : Slab) (ix2 r l)
    = two (kn (A1 m c) (sb t) (sr t r) h) (fun _ => 0) l := by
  rw [pick_at, zero_at, kv_row]
  unfold two; split
  · rfl
  · split <;> rfl

theorem pt12 (h : Fin 8) (l : Fin 128) : P12 m c t h (ix2 r l)
    = dkvo (A9 m c) (A1 m c) (A6 m c) (A10 m c) (sb t) (sr t r) h l := by
  refine (show _ = (select low (oneGrad 0x3C800000#32 (select low (slab h (Dk m c t)) zero) (select low (slab h (Kv m c t)) zero) (Gk m c t))
    (slab h (Dv m c t)) : Slab) (ix2 r l) from rfl).trans ?_
  rw [pick_at]
  unfold dkvo
  by_cases hl : l.val < 64
  · rw [if_pos hl, dif_pos hl, oneGrad_at]
    rw [show (fun l : Fin 128 => (select low (slab h (Kv m c t)) zero : Slab) (ix2 r l)) = _ from funext (klow t r h),
      show (fun l : Fin 128 => (select low (slab h (Dk m c t)) zero : Slab) (ix2 r l) * Gk m c t (ix2 0 l)) = two (fun k => lo (sb t) (sr t r) h (A9 m c) k * A6 m c (ix2 0 k)) (fun _ => 0)
      from funext fun l => by rw [low_row r (dk_row m c t r h), gk_row, two_mul']; simp]
    exact (grad_low ..).trans (two_lo _ _ ⟨l, hl⟩ l rfl)
  · rw [if_neg hl, dif_neg hl, dv_row m c t r h l hl]

theorem ptk (h : Fin 8) (l : Fin 128) : (mulf (select low (slab h (Dk m c t)) zero) (oneHat 0x3C800000#32 (select low (slab h (Kv m c t)) zero)) : Slab) (ix2 r l)
    = gko (A9 m c) (A1 m c) (sb t) (sr t r) h l := by
  refine (congrArg₂ (· * · : EReal → EReal → EReal) (low_row r (dk_row m c t r h) l) (oneHat_at ..)).trans ?_
  rw [show (fun l : Fin 128 => (select low (slab h (Kv m c t)) zero : Slab) (ix2 r l)) = _ from funext (klow t r h), inv_low, klow]
  refine (congrArg (two _ _ l * · : EReal → EReal) (two_scale ..)).trans ((two_mul' ..).trans ?_)
  unfold gko; simp

theorem pt13 (l : Fin 128) : P13 m c t (ix2 r l) = dkro (A9 m c) (A2 m c) (A3 m c) (A7 m c) (sb t) (sr t r) l := by
  refine (oneGrad_at ..).trans ?_
  rw [show (fun l : Fin 128 => Kr m c t (ix2 r l)) = _ from funext (kr_row m c t r),
      show (fun l : Fin 128 => dkr (Dk m c t) (Cs m c t) (Sn m c t) (ix2 r l) * Gr m c t (ix2 0 l))
        = two (fun _ => 0) (fun j => tk (A9 m c) (A3 m c) (sb t) (sr t r) j * A7 m c (ix2 0 j))
      from funext fun l => by rw [tk_row, gr_row, two_mul']; simp]
  exact grad_high ..

theorem ptr (l : Fin 128) : (mulf (dkr (Dk m c t) (Cs m c t) (Sn m c t)) (oneHat 0x3D000000#32 (Kr m c t)) : Slab) (ix2 r l)
    = gro (A9 m c) (A2 m c) (A3 m c) (sb t) (sr t r) l := by
  refine (congrArg₂ (· * · : EReal → EReal → EReal) (tk_row m c t r l) (oneHat_at ..)).trans ?_
  rw [show (fun l : Fin 128 => Kr m c t (ix2 r l)) = _ from funext (kr_row m c t r), inv_high, kr_row]
  refine (congrArg (two _ _ l * · : EReal → EReal) (two_scale ..)).trans ((two_mul' ..).trans ?_)
  unfold gro; simp

include F in
theorem sum14 (l : Fin 128) : P14 m c t (ix2 0 l)
    = ∑ r : Fin 512, ∑ h : Fin 8, gqo (A0 m c) (A8 m c) (A3 m c) (sb t) (sr t r) h l := by
  rw [Finset.sum_comm]
  have e : ∀ h, gqh (Dq m c t) (Q m c t) (Cs m c t) (Sn m c t) h (ix2 0 l) = ∑ r : Fin 512, gqo (A0 m c) (A8 m c) (A3 m c) (sb t) (sr t r) h l :=
    fun h => (colsum_at _ l).trans (Finset.sum_congr rfl fun r _ => ptg t r F h l)
  refine (add_eight _ _ l).trans ?_
  refine Eq.trans (congrArg (· + _ : EReal → EReal) (pay15_at l)) ((zero_add _).trans (Finset.sum_congr rfl fun h _ => e h))

theorem sum15 (l : Fin 128) : P15 m c t (ix2 0 l)
    = ∑ r : Fin 512, ∑ h : Fin 8, gko (A9 m c) (A1 m c) (sb t) (sr t r) h l := by
  rw [Finset.sum_comm]
  have e : ∀ h, gkh (Dk m c t) (Kv m c t) h (ix2 0 l) = ∑ r : Fin 512, gko (A9 m c) (A1 m c) (sb t) (sr t r) h l :=
    fun h => (colsum_at _ l).trans (Finset.sum_congr rfl fun r _ => ptk t r h l)
  refine (add_eight _ _ l).trans ?_
  refine Eq.trans (congrArg (· + _ : EReal → EReal) (pay16_at l)) ((zero_add _).trans (Finset.sum_congr rfl fun h _ => e h))

theorem sum16 (l : Fin 128) : P16 m c t (ix2 0 l) = ∑ r : Fin 512, gro (A9 m c) (A2 m c) (A3 m c) (sb t) (sr t r) l :=
  (colsum_at _ l).trans (Finset.sum_congr rfl fun r _ => ptr t r l)

end Point

abbrev head (i : Fin 1024) : Fin 8 := ⟨i / 128, by omega⟩
abbrev inner (i : Fin 1024) : Fin 128 := ⟨i % 128, by omega⟩

theorem final11 (F : Finite m c) : (dats m 0 c).arrAt 11 cfg0.N = fun i : S4096x1024.Idx => dqo (A0 m c) (A8 m c) (A3 m c) (A4 m c) (A5 m c)
    (Reals.bat (i 0)) (Reals.pos (i 0)) (head (i 1)) (inner (i 1)) := by
  refine (dats m 0 c).arrAt_eq_of_covers 11 _ (by decide +kernel) fun t hf y => ?_
  blk_simp
  rw [after0_11, left11]
  have ht := tlt t
  have hy : (y 0).val < 512 := (y 0).isLt
  have hy1 : (y 1).val < 1024 := (y 1).isLt
  have e : y = ix2 (y 0) (lane' (head (y 1)) (inner (y 1))) := by
    rw [eq_ix2 y]; congr 1; exact Fin.ext (by dsimp; omega)
  refine (congrArg _ e).trans ?_
  unfold k0_pay203
  refine (truncf_apply _ _ _ _).trans ((heads_at (P11 m c t) (y 0) (head (y 1)) (inner (y 1))).trans ((pt11 t (y 0) F (head (y 1)) (inner (y 1))).trans ?_))
  congr 1 <;> (apply Fin.ext; try dsimp only [Reals.bat, Reals.pos, sb, sr, head, inner]; blk_simp [idx t]; try (dsimp only; omega))

theorem final12 : (dats m 0 c).arrAt 12 cfg0.N = fun i : S4096x1024.Idx => dkvo (A9 m c) (A1 m c) (A6 m c) (A10 m c)
    (Reals.bat (i 0)) (Reals.pos (i 0)) (head (i 1)) (inner (i 1)) := by
  refine (dats m 0 c).arrAt_eq_of_covers 12 _ (by decide +kernel) fun t hf y => ?_
  blk_simp
  rw [after0_12, left12]
  have ht := tlt t
  have hy : (y 0).val < 512 := (y 0).isLt
  have hy1 : (y 1).val < 1024 := (y 1).isLt
  have e : y = ix2 (y 0) (lane' (head (y 1)) (inner (y 1))) := by
    rw [eq_ix2 y]; congr 1; exact Fin.ext (by dsimp; omega)
  refine (congrArg _ e).trans ?_
  unfold k0_pay204
  refine (truncf_apply _ _ _ _).trans ((heads_at (P12 m c t) (y 0) (head (y 1)) (inner (y 1))).trans ((pt12 t (y 0) (head (y 1)) (inner (y 1))).trans ?_))
  congr 1 <;> (apply Fin.ext; try dsimp only [Reals.bat, Reals.pos, sb, sr, head, inner]; blk_simp [idx t]; try (dsimp only; omega))

theorem final13 : (dats m 0 c).arrAt 13 cfg0.N = fun i : S4096x128.Idx =>
    dkro (A9 m c) (A2 m c) (A3 m c) (A7 m c) (Reals.bat (i 0)) (Reals.pos (i 0)) (i 1) := by
  refine (dats m 0 c).arrAt_eq_of_covers 13 _ (by decide +kernel) fun t hf y => ?_
  blk_simp
  rw [after0_13, left13]
  refine (congrArg _ (eq_ix2 y)).trans ((pt13 t (y 0) (y 1)).trans ?_)
  have ht := tlt t
  have hy : (y 0).val < 512 := (y 0).isLt
  congr 1 <;> (apply Fin.ext; try dsimp only [Reals.bat, Reals.pos, sb, sr]; blk_simp [idx t]; try (dsimp only; omega))

theorem final14 (F : Finite m c) : (dats m 0 c).arrAt 14 cfg0.N = fun i : S1x128.Idx => ∑ b : Fin 2, ∑ s : Fin 2048, ∑ h : Fin 8, gqo (A0 m c) (A8 m c) (A3 m c) b s h (i 1) := by
  refine (dats m 0 c).arrAt_eq_of_after_last 14 t0_7 (by decide +kernel) _ fun j => ?_
  blk_simp
  rw [after0_14]
  obtain ⟨l, rfl⟩ : ∃ l : Fin 128, j = ix2 0 l := ⟨j 1, by rw [eq_ix2 j]; congr 1; exact Subsingleton.elim (α := Fin 1) _ _⟩
  have h := Pipeline.eq_sum_fin_of_reset_step_apply_last (fun n h (l : Fin 128) => ((outsAt0 m c n h).2.2.2.1 (ix2 0 l) : EReal)) 8
    (fun _ => 0) (fun t l => P14 m c t (ix2 0 l)) (fun t h l => by rw [zero_add]; exact congrFun (reset14 m c t h) _)
    (fun t h l => (congrFun (step14 m c t h) _).trans (by pointwise [k0_pay205])) (le_of_eq N_0) t0_7 rfl l
  refine h.trans ?_
  rw [zero_add]
  refine Eq.trans (Fin.sum_fin_congr fun t => sum14 t F l) ?_
  exact Fin.sum_points_lanes_congr 4 (fun t r ha hs => rfl)

theorem final15 : (dats m 0 c).arrAt 15 cfg0.N = fun i : S1x128.Idx => ∑ b : Fin 2, ∑ s : Fin 2048, ∑ h : Fin 8, gko (A9 m c) (A1 m c) b s h (i 1) := by
  refine (dats m 0 c).arrAt_eq_of_after_last 15 t0_7 (by decide +kernel) _ fun j => ?_
  blk_simp
  rw [after0_15]
  obtain ⟨l, rfl⟩ : ∃ l : Fin 128, j = ix2 0 l := ⟨j 1, by rw [eq_ix2 j]; congr 1; exact Subsingleton.elim (α := Fin 1) _ _⟩
  have h := Pipeline.eq_sum_fin_of_reset_step_apply_last (fun n h (l : Fin 128) => ((outsAt0 m c n h).2.2.2.2.1 (ix2 0 l) : EReal)) 8
    (fun _ => 0) (fun t l => P15 m c t (ix2 0 l)) (fun t h l => by rw [zero_add]; exact congrFun (reset15 m c t h) _)
    (fun t h l => (congrFun (step15 m c t h) _).trans (by pointwise [k0_pay206])) (le_of_eq N_0) t0_7 rfl l
  refine h.trans ?_
  rw [zero_add]
  refine Eq.trans (Fin.sum_fin_congr fun t => sum15 t l) ?_
  exact Fin.sum_points_lanes_congr 4 (fun t r ha hs => rfl)

theorem final16 : (dats m 0 c).arrAt 16 cfg0.N = fun i : S1x128.Idx => ∑ b : Fin 2, ∑ s : Fin 2048, gro (A9 m c) (A2 m c) (A3 m c) b s (i 1) := by
  refine (dats m 0 c).arrAt_eq_of_after_last 16 t0_7 (by decide +kernel) _ fun j => ?_
  blk_simp
  rw [after0_16]
  obtain ⟨l, rfl⟩ : ∃ l : Fin 128, j = ix2 0 l := ⟨j 1, by rw [eq_ix2 j]; congr 1; exact Subsingleton.elim (α := Fin 1) _ _⟩
  have h := Pipeline.eq_sum_fin_of_reset_step_apply_last (fun n h (l : Fin 128) => ((outsAt0 m c n h).2.2.2.2.2 (ix2 0 l) : EReal)) 8
    (fun _ => 0) (fun t l => P16 m c t (ix2 0 l)) (fun t h l => by rw [zero_add]; exact congrFun (reset16 m c t h) _)
    (fun t h l => (congrFun (step16 m c t h) _).trans (by pointwise [k0_pay1])) (le_of_eq N_0) t0_7 rfl l
  refine h.trans ?_
  rw [zero_add]
  refine Eq.trans (Fin.sum_fin_congr fun t => sum16 t l) ?_
  exact Fin.sum_points_lanes_congr 4 (fun t r ha hs => rfl)

end Cert.QkBwdIdeal.Value
end
-- ==== Proof.QkRef.lean ====
module

public import proofs.«01_k».proof.Proof.QkForm

@[expose] public section

/-! The gradient of the query's and key's norms and of the rotation, as differentiation gives it. -/

set_option maxRecDepth 16384

noncomputable section

open Idealize.ShloMosaic Idealize.ShloMosaic.TcCoe Idealize.SL.Sem
open Cert.QkBwdIdeal.Value (lo hi kn krow spot turn tq tk fr freq two two_lo two_hi two_out lanes head inner IsReal μn μr lit_μn lit_μr dqo dkvo dkro gqo gko gro
  turn_real spot_real)

namespace Cert.Reals

/-- The host's sum from zero over the first three axes of a rank-4 array, at an index. -/
theorem hostSum_three {n0 n1 n2 n3 : Nat} (h : (⟨4, ![n0, n1, n2, n3]⟩ : Shape).ReducesTo [0, 1, 2] ⟨1, ![n3]⟩)
    (v : FVec Ideal ⟨4, ![n0, n1, n2, n3]⟩ .f32) (init : FVec Ideal ⟨0, ![]⟩ .f32) (hu : 0 < (⟨0, ![]⟩ : Shape).numel)
    (hi : init = constant ⟨0, ![]⟩ .f32 0x00000000#32) (l : Fin n3) :
    Host.reduceAdd v init h hu (ix1 l) = ∑ b : Fin n0, ∑ s : Fin n1, ∑ k : Fin n2, v (ix4 b s k l) := by
  have e : Ideal.hostReduceAdd h v 0 (ix1 l) = 0 + ∑ b : Fin n0, ∑ s : Fin n1, ∑ k : Fin n2, v (ix4 b s k l) := by
    refine congrArg ((0 : EReal) + ·) ?_
    have e : ∑ b : Fin n0, ∑ s : Fin n1, ∑ k : Fin n2, v (ix4 b s k l) = ∑ k : (Fin n0 × Fin n1) × Fin n2, v (ix4 k.1.1 k.1.2 k.2 l) := by
      rw [Fintype.sum_prod_type, Fintype.sum_prod_type]
    rw [e]
    refine Finset.sum_filter_eq_sum_of_fiber _ (fun k : (Fin n0 × Fin n1) × Fin n2 => ix4 k.1.1 k.1.2 k.2 l)
      (fun _ _ e => Prod.ext (Prod.ext (congrFun e 0) (congrFun e 1)) (congrFun e 2)) (fun i => ⟨fun e => ⟨((i 0, i 1), i 2), ?_⟩, ?_⟩) v
    · funext a; apply Fin.ext
      match a with
      | ⟨0, _⟩ => rfl
      | ⟨1, _⟩ => rfl
      | ⟨2, _⟩ => rfl
      | ⟨3, _⟩ => exact (congrArg Fin.val (congrFun e 0)).symm
    · rintro ⟨k, rfl⟩
      funext a; apply Fin.ext
      match a with
      | ⟨0, _⟩ => rfl
  refine Eq.trans ?_ (e.trans (zero_add _))
  subst hi
  refine congrArg (fun z : EReal => Ideal.hostReduceAdd h v z (ix1 l)) ?_
  exact lit_zero

end Cert.Reals

namespace Cert.QkBwdRefIdeal.Read

open Cert.QkBwdRefIdeal Cert.QkBwdRefIdeal.Value

variable (x0 x8 x9 : FVec Ideal S2x2048x8x96 .f32) (x1 : FVec Ideal S2x2048x8x128 .f32) (x2 : FVec Ideal S2x2048x32 .f32)
  (x3 : IVec S2x2048 32) (x4 x6 : FVec Ideal S1x64 .f32) (x5 x7 : FVec Ideal S1x32 .f32) (x10 : FVec Ideal S2x2048x8x64 .f32)

/-- The divisors that take the means over the two parts of a head. -/
abbrev Nn : EReal := Ideal.ofBits .f32 0x42800000#32
abbrev Nr : EReal := Ideal.ofBits .f32 0x42000000#32

section Stage

variable (b : Fin 2) (s : Fin 2048) (h : Fin 8)

/-! ## The rotation -/

theorem ref15 (j : Fin 16) : val_main_v15 (F := Ideal) x3 (ix3 b s j) = spot x3 b s * freq j := by
  rw [val_main_v15_apply]
  refine congrArg₂ (· * · : EReal → EReal → EReal) ?_ ?_
  · rw [val_main_v13_apply, val_main_v1_apply, val_main_v0_apply]
    refine congrArg (FloatOps.sitofp (F := Ideal) .f32) ?_
    blk_ext
  · rw [val_main_v14_apply, val_main_v12_apply, freq]
    blk_ext

theorem ref16 (j : Fin 32) : val_main_v16 (F := Ideal) x3 (ix3 b s j) = spot x3 b s * fr j := by
  unfold val_main_v16
  by_cases hj : j.val < 16
  · refine (concatenate_apply_piece (t := S2x2048x32) 2 _ _ _ 0 (by simp) S2x2048x16 _ rfl rfl 0 rfl (ix3 b s (⟨j, hj⟩ : Fin 16))
      (fun b hb => by fin_cases b <;> first | rfl | exact absurd rfl hb) (by show 0 + j.val = j.val; omega)).trans ?_
    rw [ref15]
    exact congrArg (fun k => spot x3 b s * freq k) (Fin.ext (by dsimp; omega))
  · refine (concatenate_apply_piece (t := S2x2048x32) 2 _ _ _ 1 (by simp) S2x2048x16 _ rfl rfl 16 rfl (ix3 b s (⟨j - 16, by omega⟩ : Fin 16))
      (fun b hb => by fin_cases b <;> first | rfl | exact absurd rfl hb) (by show 16 + (j.val - 16) = j.val; omega)).trans ?_
    rw [ref15]
    exact congrArg (fun k => spot x3 b s * freq k) (Fin.ext (by dsimp; omega))

theorem ref17 (j : Fin 32) : val_main_v17 (F := Ideal) x3 (ix3 b s j) = Ideal.cos (spot x3 b s * fr j) :=
  congrArg Ideal.cos (ref16 x3 b s j)
theorem ref18 (j : Fin 32) : val_main_v18 (F := Ideal) x3 (ix3 b s j) = Ideal.sin (spot x3 b s * fr j) :=
  congrArg Ideal.sin (ref16 x3 b s j)

theorem ref116 (j : Fin 32) : val_main_v116 (F := Ideal) x8 (ix4 b s h j) = hi b s h x8 j := by pointwise [val_main_v116]
theorem ref115 (k : Fin 64) : val_main_v115 (F := Ideal) x8 (ix4 b s h k) = lo b s h x8 k := by pointwise [val_main_v115]
theorem ref113 (k : Fin 64) : val_main_v113 (F := Ideal) x9 (ix4 b s h k) = lo b s h x9 k := by pointwise [val_main_v113]

theorem ref149 (j : Fin 32) : val_main_v149 (F := Ideal) x3 x8 (ix4 b s h j) = hi b s h x8 j * Ideal.sin (spot x3 b s * fr j) := by
  rw [val_main_v149_apply, ref116, ← ref18]
  generalize hu : val_main_v18 (F := Ideal) x3 = u
  pointwise [val_main_v148, val_main_v75, hu]

theorem ref156 (j : Fin 32) : val_main_v156 (F := Ideal) x3 x8 (ix4 b s h j) = tq x8 x3 b s h j := by
  rw [val_main_v156_apply]
  refine congrArg₂ (· + · : EReal → EReal → EReal) ?_ ?_
  · rw [val_main_v154_apply, ref116, ← ref17]
    generalize hu : val_main_v17 (F := Ideal) x3 = u
    pointwise [val_main_v153, val_main_v74, hu]
  · unfold val_main_v155
    by_cases hj : j.val < 16
    · rw [dif_pos hj]
      refine (concatenate_apply_piece (t := S2x2048x8x32) 3 _ _ _ 0 (by simp) S2x2048x8x16 _ rfl rfl 0 rfl (ix4 b s h (⟨j, hj⟩ : Fin 16))
        (fun b hb => by fin_cases b <;> first | rfl | exact absurd rfl hb) (by show 0 + j.val = j.val; omega)).trans ?_
      rw [← ref149, val_main_v151_apply]
      blk_ext
    · rw [dif_neg hj]
      refine (concatenate_apply_piece (t := S2x2048x8x32) 3 _ _ _ 1 (by simp) S2x2048x8x16 _ rfl rfl 16 rfl (ix4 b s h (⟨j - 16, by omega⟩ : Fin 16))
        (fun b hb => by fin_cases b <;> first | rfl | exact absurd rfl hb) (by show 16 + (j.val - 16) = j.val; omega)).trans ?_
      rw [← ref149, val_main_v152_apply, val_main_v150_apply]
      refine congrArg (- · : EReal → EReal) ?_
      blk_ext

theorem ref119 (j : Fin 32) : val_main_v119 (F := Ideal) x9 (ix3 b s j) = ∑ h, hi b s h x9 j := by
  have e0 : ∀ i, val_main_cst_19 (F := Ideal) i = 0 := fun i => Reals.lit_zero
  have e1 : ∀ i, val_main_cst_20 (F := Ideal) i = 0 := fun i => Reals.lit_zero
  rw [val_main_v119_apply, e1, zero_add, Fin.sum_univ_one, val_main_v118_apply, val_main_v117_apply, e0, zero_add]
  refine Finset.sum_congr rfl fun h _ => ?_
  rw [val_main_v114_apply]
  blk_ext

theorem ref120 (j : Fin 32) : val_main_v120 (F := Ideal) x3 x9 (ix3 b s j) = (∑ h, hi b s h x9 j) * Ideal.sin (spot x3 b s * fr j) := by
  rw [val_main_v120_apply, ref119, ref18]; rfl

theorem ref126 (j : Fin 32) : val_main_v126 (F := Ideal) x3 x9 (ix3 b s j) = tk x9 x3 b s j := by
  rw [val_main_v126_apply]
  refine congrArg₂ (· + · : EReal → EReal → EReal) ?_ ?_
  · rw [val_main_v124_apply, ref119, ref17]; rfl
  · unfold val_main_v125
    by_cases hj : j.val < 16
    · rw [dif_pos hj]
      refine (concatenate_apply_piece (t := S2x2048x32) 2 _ _ _ 0 (by simp) S2x2048x16 _ rfl rfl 0 rfl (ix3 b s (⟨j, hj⟩ : Fin 16))
        (fun b hb => by fin_cases b <;> first | rfl | exact absurd rfl hb) (by show 0 + j.val = j.val; omega)).trans ?_
      rw [← ref120, val_main_v122_apply]
      blk_ext
    · rw [dif_neg hj]
      refine (concatenate_apply_piece (t := S2x2048x32) 2 _ _ _ 1 (by simp) S2x2048x16 _ rfl rfl 16 rfl (ix3 b s (⟨j - 16, by omega⟩ : Fin 16))
        (fun b hb => by fin_cases b <;> first | rfl | exact absurd rfl hb) (by show 16 + (j.val - 16) = j.val; omega)).trans ?_
      rw [← ref120, val_main_v123_apply, val_main_v121_apply]
      refine congrArg (- · : EReal → EReal) ?_
      blk_ext

/-! ## The four norms -/

theorem ref19 (k : Fin 64) : val_main_v19 (F := Ideal) x0 (ix4 b s h k) = lo b s h x0 k := by pointwise [val_main_v19]
theorem ref20 (j : Fin 32) : val_main_v20 (F := Ideal) x0 (ix4 b s h j) = hi b s h x0 j := by pointwise [val_main_v20]
theorem ref21 (k : Fin 64) : val_main_v21 (F := Ideal) x1 (ix4 b s h k) = kn x1 b s h k := by pointwise [val_main_v21]

theorem ref30 : val_main_v30 (F := Ideal) x0 (ix4 b s h 0) = Rms.ms (lo b s h x0) Nn := by
  rw [Rms.ms, Rms.eps]
  pointwise [val_main_v30, val_main_v29, val_main_v28, val_main_v27, val_main_v26, val_main_v25, val_main_v24, val_main_v19, val_main_cst_3, val_main_cst_4, val_main_cst_5]

theorem ref203 (j : Fin 64) : val_main_v203 (F := Ideal) x4 x8 (ix4 b s h j) = lo b s h x8 j * x4 (ix2 0 j) := by
  rw [val_main_v203_apply, ref115]
  pointwise [val_main_v202, val_main_v23, val_main_v37]

theorem ref213 : val_main_v213 (F := Ideal) x0 x4 x8 (ix3 b s h) = Rms.via (lo b s h x0) (fun j => lo b s h x8 j * x4 (ix2 0 j)) Nn := by
  rw [Rms.via]
  simp only [← ref30, ← ref19 x0, ← ref203]
  generalize hv : val_main_v30 (F := Ideal) x0 = v at *
  generalize hw : val_main_v203 (F := Ideal) x4 x8 = w at *
  generalize hz : val_main_v19 (F := Ideal) x0 = u at *
  pointwise [val_main_v213, val_main_v212, val_main_v211, val_main_v210, val_main_v207, val_main_v206, val_main_v205, val_main_v34, val_main_v33, val_main_v32, val_main_v31, val_main_cst_6, val_main_cst_38, val_main_cst_39, val_main_cst_40, hv, hw, hz]
  refine (Fin.sum_univ_one (M := EReal) _).trans ?_
  subst hz
  simp only [ref19]

theorem ref218 (j : Fin 64) : val_main_v218 (F := Ideal) x0 x4 x8 (ix4 b s h j) = Rms.vjp (lo b s h x0) (fun j => lo b s h x8 j * x4 (ix2 0 j)) Nn j := by
  rw [Rms.vjp, ← ref213, ← ref30, ← ref203, ← ref19 x0]
  generalize hv : val_main_v30 (F := Ideal) x0 = v at *
  generalize hw : val_main_v203 (F := Ideal) x4 x8 = w at *
  generalize hz : val_main_v19 (F := Ideal) x0 = u at *
  generalize hd : val_main_v213 (F := Ideal) x0 x4 x8 = d at *
  pointwise [val_main_v218, val_main_v217, val_main_v216, val_main_v215, val_main_v214, val_main_v209, val_main_v208, val_main_v31, hv, hw, hz, hd]

theorem ref199 (j : Fin 64) : val_main_v199 (F := Ideal) x0 x8 (ix4 b s h j) = (lo b s h x0) j * Ideal.rsqrt (Rms.ms (lo b s h x0) Nn) * lo b s h x8 j := by
  rw [← ref30, ← ref115 x8, ← ref19 x0]
  generalize hv : val_main_v30 (F := Ideal) x0 = v at *
  generalize hw : val_main_v115 (F := Ideal) x8 = w at *
  generalize hz : val_main_v19 (F := Ideal) x0 = u at *
  pointwise [val_main_v199, val_main_v36, val_main_v35, val_main_v31, hv, hw, hz]

theorem ref64 : val_main_v64 (F := Ideal) x0 (ix4 b s h 0) = Rms.ms (hi b s h x0) Nr := by
  rw [Rms.ms, Rms.eps]
  pointwise [val_main_v64, val_main_v63, val_main_v62, val_main_v61, val_main_v60, val_main_v59, val_main_v58, val_main_v20, val_main_cst_11, val_main_cst_12, val_main_cst_13]

theorem ref161 (j : Fin 32) : val_main_v161 (F := Ideal) x3 x5 x8 (ix4 b s h j) = tq x8 x3 b s h j * x5 (ix2 0 j) := by
  rw [val_main_v161_apply, ref156]
  pointwise [val_main_v160, val_main_v71, val_main_v57]

theorem ref171 : val_main_v171 (F := Ideal) x0 x3 x5 x8 (ix3 b s h) = Rms.via (hi b s h x0) (fun j => tq x8 x3 b s h j * x5 (ix2 0 j)) Nr := by
  rw [Rms.via]
  simp only [← ref64, ← ref20 x0, ← ref161]
  generalize hv : val_main_v64 (F := Ideal) x0 = v at *
  generalize hw : val_main_v161 (F := Ideal) x3 x5 x8 = w at *
  generalize hz : val_main_v20 (F := Ideal) x0 = u at *
  pointwise [val_main_v171, val_main_v170, val_main_v169, val_main_v168, val_main_v165, val_main_v164, val_main_v163, val_main_v68, val_main_v67, val_main_v66, val_main_v65, val_main_cst_14, val_main_cst_28, val_main_cst_29, val_main_cst_30, hv, hw, hz]
  refine (Fin.sum_univ_one (M := EReal) _).trans ?_
  subst hz
  simp only [ref20]

theorem ref176 (j : Fin 32) : val_main_v176 (F := Ideal) x0 x3 x5 x8 (ix4 b s h j) = Rms.vjp (hi b s h x0) (fun j => tq x8 x3 b s h j * x5 (ix2 0 j)) Nr j := by
  rw [Rms.vjp, ← ref171, ← ref64, ← ref161, ← ref20 x0]
  generalize hv : val_main_v64 (F := Ideal) x0 = v at *
  generalize hw : val_main_v161 (F := Ideal) x3 x5 x8 = w at *
  generalize hz : val_main_v20 (F := Ideal) x0 = u at *
  generalize hd : val_main_v171 (F := Ideal) x0 x3 x5 x8 = d at *
  pointwise [val_main_v176, val_main_v175, val_main_v174, val_main_v173, val_main_v172, val_main_v167, val_main_v166, val_main_v65, hv, hw, hz, hd]

theorem ref157 (j : Fin 32) : val_main_v157 (F := Ideal) x0 x3 x8 (ix4 b s h j) = (hi b s h x0) j * Ideal.rsqrt (Rms.ms (hi b s h x0) Nr) * tq x8 x3 b s h j := by
  rw [← ref64, ← ref156 x8, ← ref20 x0]
  generalize hv : val_main_v64 (F := Ideal) x0 = v at *
  generalize hw : val_main_v156 (F := Ideal) x3 x8 = w at *
  generalize hz : val_main_v20 (F := Ideal) x0 = u at *
  pointwise [val_main_v157, val_main_v70, val_main_v69, val_main_v65, hv, hw, hz]

theorem ref47 : val_main_v47 (F := Ideal) x1 (ix4 b s h 0) = Rms.ms (kn x1 b s h) Nn := by
  rw [Rms.ms, Rms.eps]
  pointwise [val_main_v47, val_main_v46, val_main_v45, val_main_v44, val_main_v43, val_main_v42, val_main_v41, val_main_v21, val_main_cst_7, val_main_cst_8, val_main_cst_9]

theorem ref182 (j : Fin 64) : val_main_v182 (F := Ideal) x6 x9 (ix4 b s h j) = lo b s h x9 j * x6 (ix2 0 j) := by
  rw [val_main_v182_apply, ref113]
  pointwise [val_main_v181, val_main_v54, val_main_v40]

theorem ref192 : val_main_v192 (F := Ideal) x1 x6 x9 (ix3 b s h) = Rms.via (kn x1 b s h) (fun j => lo b s h x9 j * x6 (ix2 0 j)) Nn := by
  rw [Rms.via]
  simp only [← ref47, ← ref21 x1, ← ref182]
  generalize hv : val_main_v47 (F := Ideal) x1 = v at *
  generalize hw : val_main_v182 (F := Ideal) x6 x9 = w at *
  generalize hz : val_main_v21 (F := Ideal) x1 = u at *
  pointwise [val_main_v192, val_main_v191, val_main_v190, val_main_v189, val_main_v186, val_main_v185, val_main_v184, val_main_v51, val_main_v50, val_main_v49, val_main_v48, val_main_cst_10, val_main_cst_33, val_main_cst_34, val_main_cst_35, hv, hw, hz]
  refine (Fin.sum_univ_one (M := EReal) _).trans ?_
  subst hz
  simp only [ref21]

theorem ref197 (j : Fin 64) : val_main_v197 (F := Ideal) x1 x6 x9 (ix4 b s h j) = Rms.vjp (kn x1 b s h) (fun j => lo b s h x9 j * x6 (ix2 0 j)) Nn j := by
  rw [Rms.vjp, ← ref192, ← ref47, ← ref182, ← ref21 x1]
  generalize hv : val_main_v47 (F := Ideal) x1 = v at *
  generalize hw : val_main_v182 (F := Ideal) x6 x9 = w at *
  generalize hz : val_main_v21 (F := Ideal) x1 = u at *
  generalize hd : val_main_v192 (F := Ideal) x1 x6 x9 = d at *
  pointwise [val_main_v197, val_main_v196, val_main_v195, val_main_v194, val_main_v193, val_main_v188, val_main_v187, val_main_v48, hv, hw, hz, hd]

theorem ref178 (j : Fin 64) : val_main_v178 (F := Ideal) x1 x9 (ix4 b s h j) = (kn x1 b s h) j * Ideal.rsqrt (Rms.ms (kn x1 b s h) Nn) * lo b s h x9 j := by
  rw [← ref47, ← ref113 x9, ← ref21 x1]
  generalize hv : val_main_v47 (F := Ideal) x1 = v at *
  generalize hw : val_main_v113 (F := Ideal) x9 = w at *
  generalize hz : val_main_v21 (F := Ideal) x1 = u at *
  pointwise [val_main_v178, val_main_v53, val_main_v52, val_main_v48, hv, hw, hz]

theorem ref92 : val_main_v92 (F := Ideal) x2 (ix3 b s 0) = Rms.ms (krow x2 b s) Nr := by
  rw [Rms.ms, Rms.eps]
  pointwise [val_main_v92, val_main_v91, val_main_v90, val_main_v89, val_main_v88, val_main_v87, val_main_v86, val_main_cst_15, val_main_cst_16, val_main_cst_17]

theorem ref131 (j : Fin 32) : val_main_v131 (F := Ideal) x3 x7 x9 (ix3 b s j) = tk x9 x3 b s j * x7 (ix2 0 j) := by
  rw [val_main_v131_apply, ref126]
  pointwise [val_main_v130, val_main_v99, val_main_v85]

theorem ref141 : val_main_v141 (F := Ideal) x2 x3 x7 x9 (ix2 b s) = Rms.via (krow x2 b s) (fun j => tk x9 x3 b s j * x7 (ix2 0 j)) Nr := by
  rw [Rms.via]
  simp only [← ref92, ← ref131]
  generalize hv : val_main_v92 (F := Ideal) x2 = v at *
  generalize hw : val_main_v131 (F := Ideal) x3 x7 x9 = w at *
  pointwise [val_main_v141, val_main_v140, val_main_v139, val_main_v138, val_main_v135, val_main_v134, val_main_v133, val_main_v96, val_main_v95, val_main_v94, val_main_v93, val_main_cst_18, val_main_cst_23, val_main_cst_24, val_main_cst_25, hv, hw]
  refine (Fin.sum_univ_one (M := EReal) _).trans ?_
  rfl

theorem ref146 (j : Fin 32) : val_main_v146 (F := Ideal) x2 x3 x7 x9 (ix3 b s j) = Rms.vjp (krow x2 b s) (fun j => tk x9 x3 b s j * x7 (ix2 0 j)) Nr j := by
  rw [Rms.vjp, ← ref141, ← ref92, ← ref131]
  generalize hv : val_main_v92 (F := Ideal) x2 = v at *
  generalize hw : val_main_v131 (F := Ideal) x3 x7 x9 = w at *
  generalize hd : val_main_v141 (F := Ideal) x2 x3 x7 x9 = d at *
  pointwise [val_main_v146, val_main_v145, val_main_v144, val_main_v143, val_main_v142, val_main_v137, val_main_v136, val_main_v93, hv, hw, hd]

theorem ref127 (j : Fin 32) : val_main_v127 (F := Ideal) x2 x3 x9 (ix3 b s j) = (krow x2 b s) j * Ideal.rsqrt (Rms.ms (krow x2 b s) Nr) * tk x9 x3 b s j := by
  rw [← ref92, ← ref126 x9]
  generalize hv : val_main_v92 (F := Ideal) x2 = v at *
  generalize hw : val_main_v126 (F := Ideal) x3 x9 = w at *
  pointwise [val_main_v127, val_main_v98, val_main_v97, val_main_v93, hv, hw]

end Stage

/-! ## The gains' gradients -/

theorem sum204 (l : Fin 64) : val_main_v204 (F := Ideal) x0 x8 (ix1 l) = ∑ b : Fin 2, ∑ s : Fin 2048, ∑ h : Fin 8, (lo b s h x0) l * Ideal.rsqrt (Rms.ms (lo b s h x0) Nn) * lo b s h x8 l := by
  have e : val_main_v200 (F := Ideal) x0 x8 (ix1 l) = ∑ b : Fin 2, ∑ s : Fin 2048, ∑ h : Fin 8, val_main_v199 (F := Ideal) x0 x8 (ix4 b s h l) := by
    unfold val_main_v200
    exact Reals.hostSum_three _ _ _ _ rfl l
  refine Eq.trans ?_ (e.trans (Finset.sum_congr rfl fun b _ => Finset.sum_congr rfl fun s _ => Finset.sum_congr rfl fun h _ => ref199 ..))
  unfold val_main_v204
  refine (Reals.hostSum_three _ _ _ _ rfl l).trans ?_
  rw [Fin.sum_univ_one, Fin.sum_univ_one, Fin.sum_univ_one, val_main_v201_apply]
  blk_ext

theorem sum162 (l : Fin 32) : val_main_v162 (F := Ideal) x0 x3 x8 (ix1 l) = ∑ b : Fin 2, ∑ s : Fin 2048, ∑ h : Fin 8, (hi b s h x0) l * Ideal.rsqrt (Rms.ms (hi b s h x0) Nr) * tq x8 x3 b s h l := by
  have e : val_main_v158 (F := Ideal) x0 x3 x8 (ix1 l) = ∑ b : Fin 2, ∑ s : Fin 2048, ∑ h : Fin 8, val_main_v157 (F := Ideal) x0 x3 x8 (ix4 b s h l) := by
    unfold val_main_v158
    exact Reals.hostSum_three _ _ _ _ rfl l
  refine Eq.trans ?_ (e.trans (Finset.sum_congr rfl fun b _ => Finset.sum_congr rfl fun s _ => Finset.sum_congr rfl fun h _ => ref157 ..))
  unfold val_main_v162
  refine (Reals.hostSum_three _ _ _ _ rfl l).trans ?_
  rw [Fin.sum_univ_one, Fin.sum_univ_one, Fin.sum_univ_one, val_main_v159_apply]
  blk_ext

theorem sum183 (l : Fin 64) : val_main_v183 (F := Ideal) x1 x9 (ix1 l) = ∑ b : Fin 2, ∑ s : Fin 2048, ∑ h : Fin 8, (kn x1 b s h) l * Ideal.rsqrt (Rms.ms (kn x1 b s h) Nn) * lo b s h x9 l := by
  have e : val_main_v179 (F := Ideal) x1 x9 (ix1 l) = ∑ b : Fin 2, ∑ s : Fin 2048, ∑ h : Fin 8, val_main_v178 (F := Ideal) x1 x9 (ix4 b s h l) := by
    unfold val_main_v179
    exact Reals.hostSum_three _ _ _ _ rfl l
  refine Eq.trans ?_ (e.trans (Finset.sum_congr rfl fun b _ => Finset.sum_congr rfl fun s _ => Finset.sum_congr rfl fun h _ => ref178 ..))
  unfold val_main_v183
  refine (Reals.hostSum_three _ _ _ _ rfl l).trans ?_
  rw [Fin.sum_univ_one, Fin.sum_univ_one, Fin.sum_univ_one, val_main_v180_apply]
  blk_ext

theorem sum132 (l : Fin 32) : val_main_v132 (F := Ideal) x2 x3 x9 (ix1 l) = ∑ b : Fin 2, ∑ s : Fin 2048, (krow x2 b s) l * Ideal.rsqrt (Rms.ms (krow x2 b s) Nr) * tk x9 x3 b s l := by
  have e : val_main_v128 (F := Ideal) x2 x3 x9 (ix1 l) = ∑ b : Fin 2, ∑ s : Fin 2048, val_main_v127 (F := Ideal) x2 x3 x9 (ix3 b s l) := by
    unfold val_main_v128
    exact Reals.hostSum_two _ _ _ _ rfl l
  refine Eq.trans ?_ (e.trans (Finset.sum_congr rfl fun b _ => Finset.sum_congr rfl fun s _ => ref127 ..))
  unfold val_main_v132
  refine (Reals.hostSum_two _ _ _ _ rfl l).trans ?_
  rw [Fin.sum_univ_one, Fin.sum_univ_one, val_main_v129_apply]
  blk_ext

/-! ## The results -/

section Results

variable (b : Fin 2) (s : Fin 2048) (h : Fin 8)

def dqr (l : Fin 128) : EReal := two (Rms.vjp (lo b s h x0) (fun j => lo b s h x8 j * x4 (ix2 0 j)) Nn)
  (Rms.vjp (hi b s h x0) (fun j => tq x8 x3 b s h j * x5 (ix2 0 j)) Nr) l
def dkvr (l : Fin 128) : EReal := if hl : l.val < 64 then (Rms.vjp (kn x1 b s h) (fun j => lo b s h x9 j * x6 (ix2 0 j)) Nn) ⟨l, hl⟩
  else x10 (ix4 b s h (⟨l - 64, by omega⟩ : Fin 64))
def dkrr (l : Fin 128) : EReal := two (fun _ => 0) (Rms.vjp (krow x2 b s) (fun j => tk x9 x3 b s j * x7 (ix2 0 j)) Nr) l
def gqr (l : Fin 128) : EReal := two (fun l => ∑ b : Fin 2, ∑ s : Fin 2048, ∑ h : Fin 8, (lo b s h x0) l * Ideal.rsqrt (Rms.ms (lo b s h x0) Nn) * lo b s h x8 l)
  (fun l => ∑ b : Fin 2, ∑ s : Fin 2048, ∑ h : Fin 8, (hi b s h x0) l * Ideal.rsqrt (Rms.ms (hi b s h x0) Nr) * tq x8 x3 b s h l) l
def gkr (l : Fin 128) : EReal := two (fun l => ∑ b : Fin 2, ∑ s : Fin 2048, ∑ h : Fin 8, (kn x1 b s h) l * Ideal.rsqrt (Rms.ms (kn x1 b s h) Nn) * lo b s h x9 l) (fun _ => 0) l
def grr (l : Fin 128) : EReal := two (fun _ => 0) (fun l => ∑ b : Fin 2, ∑ s : Fin 2048, (krow x2 b s) l * Ideal.rsqrt (Rms.ms (krow x2 b s) Nr) * tk x9 x3 b s l) l

theorem ref223_lo (k : Fin 64) : val_main_v223 (F := Ideal) x0 x3 x5 x8 (ix4 b s h (⟨k, by omega⟩ : Fin 96)) = 0 := by
  unfold val_main_v223
  refine (pad_apply_of_not_inside _ _ _ _ _ _ _ _ 3 (fun hh => by have h1 := hh.1; have h2 := hh.2.2; dsimp at h1 h2; omega)).trans ?_
  exact Reals.lit_zero
theorem ref223_hi (j : Fin 32) : val_main_v223 (F := Ideal) x0 x3 x5 x8 (ix4 b s h (⟨64 + j, by omega⟩ : Fin 96)) = val_main_v176 (F := Ideal) x0 x3 x5 x8 (ix4 b s h j) := by
  unfold val_main_v223
  refine (pad_apply_of_inside _ _ _ _ _ _ _ _ (ix4 b s h j) (fun a => by fin_cases a <;> (dsimp <;> omega))).trans ?_
  rfl
theorem ref224_lo (k : Fin 64) : val_main_v224 (F := Ideal) x0 x4 x8 (ix4 b s h (⟨k, by omega⟩ : Fin 96)) = val_main_v218 (F := Ideal) x0 x4 x8 (ix4 b s h k) := by
  unfold val_main_v224
  refine (pad_apply_of_inside _ _ _ _ _ _ _ _ (ix4 b s h k) (fun a => by fin_cases a <;> (dsimp <;> omega))).trans ?_
  rfl
theorem ref224_hi (j : Fin 32) : val_main_v224 (F := Ideal) x0 x4 x8 (ix4 b s h (⟨64 + j, by omega⟩ : Fin 96)) = 0 := by
  unfold val_main_v224
  refine (pad_apply_of_not_inside _ _ _ _ _ _ _ _ 3 (fun hh => by have h1 := hh.1; have h2 := hh.2.2; dsimp at h1 h2; omega)).trans ?_
  exact Reals.lit_zero

theorem ref226 (l : Fin 128) : val_main_v226 (F := Ideal) x0 x3 x4 x5 x8 (ix4 b s h l) = dqr x0 x8 x3 x4 x5 b s h l := by
  unfold val_main_v226 dqr
  rcases lanes l with ⟨k, e⟩ | ⟨j, e⟩ | e
  · refine (pad_apply_of_inside _ _ _ _ _ _ _ _ (ix4 b s h (⟨k, by omega⟩ : Fin 96)) (fun a => by fin_cases a <;> (dsimp <;> omega))).trans ?_
    rw [two_lo _ _ k l e, val_main_v225_apply, ref223_lo, ref224_lo, ref218]
    exact zero_add _
  · refine (pad_apply_of_inside _ _ _ _ _ _ _ _ (ix4 b s h (⟨64 + j, by omega⟩ : Fin 96)) (fun a => by fin_cases a <;> (dsimp <;> omega))).trans ?_
    rw [two_hi _ _ j l e, val_main_v225_apply, ref223_hi, ref224_hi, ref176]
    exact add_zero _
  · refine (pad_apply_of_not_inside _ _ _ _ _ _ _ _ 3 (fun hh => by have h1 := hh.1; have h2 := hh.2.2; dsimp at h1 h2; omega)).trans ?_
    rw [two_out _ _ l e]
    exact sitofp_zero (φ := .f32)

theorem ref222 (l : Fin 128) : val_main_v222 (F := Ideal) x1 x6 x9 x10 (ix4 b s h l) = dkvr x9 x1 x6 x10 b s h l := by
  rw [val_main_v222_apply, dkvr]
  by_cases hl : l.val < 64
  · rw [dif_pos hl, ← ref197]
    refine (congrArg₂ (· + · : EReal → EReal → EReal) ?_ ?_).trans (zero_add _)
    · unfold val_main_v220
      refine (pad_apply_of_not_inside _ _ _ _ _ _ _ _ 3 (fun hh => by have h1 := hh.1; have h2 := hh.2.2; dsimp at h1 h2; omega)).trans ?_
      exact Reals.lit_zero
    · unfold val_main_v221
      exact pad_apply_of_inside _ _ _ _ _ _ _ _ (ix4 b s h (⟨l, hl⟩ : Fin 64)) (fun a => by fin_cases a <;> (dsimp <;> omega))
  · rw [dif_neg hl]
    refine (congrArg₂ (· + · : EReal → EReal → EReal) ?_ ?_).trans (add_zero _)
    · unfold val_main_v220
      exact pad_apply_of_inside _ _ _ _ _ _ _ _ (ix4 b s h (⟨l - 64, by omega⟩ : Fin 64)) (fun a => by fin_cases a <;> (dsimp <;> omega))
    · unfold val_main_v221
      refine (pad_apply_of_not_inside _ _ _ _ _ _ _ _ 3 (fun hh => by have h1 := hh.1; have h2 := hh.2.2; dsimp at h1 h2; omega)).trans ?_
      exact Reals.lit_zero

theorem ref231 (l : Fin 128) : val_main_v231 (F := Ideal) x2 x3 x7 x9 (ix3 b s l) = dkrr x9 x2 x3 x7 b s l := by
  unfold val_main_v231 dkrr
  by_cases hl : 64 ≤ l.val ∧ l.val < 96
  · rw [two_hi _ _ ⟨l - 64, by omega⟩ l (by dsimp; omega), ← ref146]
    exact pad_apply_of_inside _ _ _ _ _ _ _ _ (ix3 b s (⟨l - 64, by omega⟩ : Fin 32)) (fun a => by fin_cases a <;> (dsimp <;> omega))
  · refine (pad_apply_of_not_inside _ _ _ _ _ _ _ _ 2 (fun hh => by have h1 := hh.1; have h2 := hh.2.2; dsimp at h1 h2; omega)).trans ?_
    refine (sitofp_zero (φ := .f32)).trans ?_
    rcases lanes l with ⟨k, e⟩ | ⟨j, e⟩ | e
    · rw [two_lo _ _ k l e]
    · omega
    · rw [two_out _ _ l e]

theorem ref228 : val_main_v228 (F := Ideal) x0 x3 x4 x5 x8 = fun i : S4096x1024.Idx =>
    dqr x0 x8 x3 x4 x5 (Reals.bat (i 0)) (Reals.pos (i 0)) (head (i 1)) (inner (i 1)) := by
  funext i
  refine Eq.trans ?_ (ref226 ..)
  change val_main_v227 (F := Ideal) x0 x3 x4 x5 x8 i = _
  rw [val_main_v227_apply]
  blk_ext
theorem ref230 : val_main_v230 (F := Ideal) x1 x6 x9 x10 = fun i : S4096x1024.Idx =>
    dkvr x9 x1 x6 x10 (Reals.bat (i 0)) (Reals.pos (i 0)) (head (i 1)) (inner (i 1)) := by
  funext i
  refine Eq.trans ?_ (ref222 ..)
  change val_main_v229 (F := Ideal) x1 x6 x9 x10 i = _
  rw [val_main_v229_apply]
  blk_ext
theorem ref232 : val_main_v232 (F := Ideal) x2 x3 x7 x9 = fun i : S4096x128.Idx => dkrr x9 x2 x3 x7 (Reals.bat (i 0)) (Reals.pos (i 0)) (i 1) := by
  funext i
  refine Eq.trans ?_ (ref231 ..)
  rw [val_main_v232_apply]
  blk_ext

end Results

/-- A row of 128 lanes by its lanes. -/
theorem row_ext {x : FVec Ideal S1x128 .f32} {f : Fin 128 → EReal} (e : ∀ l, x (ix2 0 l) = f l) : x = fun i : S1x128.Idx => f (i 1) := by
  funext i
  obtain ⟨l, rfl⟩ : ∃ l : Fin 128, i = ix2 0 l := ⟨i 1, by rw [eq_ix2 i]; congr 1; exact Subsingleton.elim (α := Fin 1) _ _⟩
  exact e l

theorem ref219 (k : Fin 64) : val_main_v219 (F := Ideal) x0 x8 (ix2 0 k) = (fun l => ∑ b : Fin 2, ∑ s : Fin 2048, ∑ h : Fin 8, (lo b s h x0) l * Ideal.rsqrt (Rms.ms (lo b s h x0) Nn) * lo b s h x8 l) k := by
  refine Eq.trans ?_ (sum204 x0 x8 k)
  rw [val_main_v219_apply]; blk_ext
theorem ref177 (j : Fin 32) : val_main_v177 (F := Ideal) x0 x3 x8 (ix2 0 j) = (fun l => ∑ b : Fin 2, ∑ s : Fin 2048, ∑ h : Fin 8, (hi b s h x0) l * Ideal.rsqrt (Rms.ms (hi b s h x0) Nr) * tq x8 x3 b s h l) j := by
  refine Eq.trans ?_ (sum162 x0 x8 x3 j)
  rw [val_main_v177_apply]; blk_ext
theorem ref198 (k : Fin 64) : val_main_v198 (F := Ideal) x1 x9 (ix2 0 k) = (fun l => ∑ b : Fin 2, ∑ s : Fin 2048, ∑ h : Fin 8, (kn x1 b s h) l * Ideal.rsqrt (Rms.ms (kn x1 b s h) Nn) * lo b s h x9 l) k := by
  refine Eq.trans ?_ (sum183 x9 x1 k)
  rw [val_main_v198_apply]; blk_ext
theorem ref147 (j : Fin 32) : val_main_v147 (F := Ideal) x2 x3 x9 (ix2 0 j) = (fun l => ∑ b : Fin 2, ∑ s : Fin 2048, (krow x2 b s) l * Ideal.rsqrt (Rms.ms (krow x2 b s) Nr) * tk x9 x3 b s l) j := by
  refine Eq.trans ?_ (sum132 x9 x2 x3 j)
  rw [val_main_v147_apply]; blk_ext

theorem ref234 : val_main_v234 (F := Ideal) x0 x3 x8 = fun i : S1x128.Idx => gqr x0 x8 x3 (i 1) := row_ext fun l => by
  unfold val_main_v234 gqr
  rcases lanes l with ⟨k, e⟩ | ⟨j, e⟩ | e
  · refine (pad_apply_of_inside _ _ _ _ _ _ _ _ (ix2 0 (⟨k, by omega⟩ : Fin 96)) (fun a => by fin_cases a <;> (dsimp <;> omega))).trans ?_
    rw [two_lo _ _ k l e]
    refine Eq.trans ?_ (ref219 x0 x8 k)
    unfold val_main_v233
    exact concatenate_apply_piece (t := S1x96) 1 _ _ _ 0 (by simp) S1x64 _ rfl rfl 0 rfl (ix2 0 k)
      (fun b hb => by fin_cases b <;> first | rfl | exact absurd rfl hb) (by show 0 + k.val = k.val; omega)
  · refine (pad_apply_of_inside _ _ _ _ _ _ _ _ (ix2 0 (⟨64 + j, by omega⟩ : Fin 96)) (fun a => by fin_cases a <;> (dsimp <;> omega))).trans ?_
    rw [two_hi _ _ j l e]
    refine Eq.trans ?_ (ref177 x0 x8 x3 j)
    unfold val_main_v233
    exact concatenate_apply_piece (t := S1x96) 1 _ _ _ 1 (by simp) S1x32 _ rfl rfl 64 rfl (ix2 0 j)
      (fun b hb => by fin_cases b <;> first | rfl | exact absurd rfl hb) rfl
  · refine (pad_apply_of_not_inside _ _ _ _ _ _ _ _ 1 (fun hh => by have h1 := hh.1; have h2 := hh.2.2; dsimp at h1 h2; omega)).trans ?_
    rw [two_out _ _ l e]
    exact sitofp_zero (φ := .f32)

theorem ref235 : val_main_v235 (F := Ideal) x1 x9 = fun i : S1x128.Idx => gkr x9 x1 (i 1) := row_ext fun l => by
  unfold val_main_v235 gkr
  by_cases hl : l.val < 64
  · rw [two_lo _ _ ⟨l, hl⟩ l rfl]
    refine Eq.trans ?_ (ref198 x9 x1 ⟨l, hl⟩)
    exact pad_apply_of_inside _ _ _ _ _ _ _ _ (ix2 0 (⟨l, hl⟩ : Fin 64)) (fun a => by fin_cases a <;> (dsimp <;> omega))
  · refine (pad_apply_of_not_inside _ _ _ _ _ _ _ _ 1 (fun hh => by have h1 := hh.1; have h2 := hh.2.2; dsimp at h1 h2; omega)).trans ?_
    refine (sitofp_zero (φ := .f32)).trans ?_
    rcases lanes l with ⟨k, e⟩ | ⟨j, e⟩ | e
    · omega
    · rw [two_hi _ _ j l e]
    · rw [two_out _ _ l e]

theorem ref236 : val_main_v236 (F := Ideal) x2 x3 x9 = fun i : S1x128.Idx => grr x9 x2 x3 (i 1) := row_ext fun l => by
  unfold val_main_v236 grr
  by_cases hl : 64 ≤ l.val ∧ l.val < 96
  · rw [two_hi _ _ ⟨l - 64, by omega⟩ l (by dsimp; omega)]
    refine Eq.trans ?_ (ref147 x9 x2 x3 ⟨l - 64, by omega⟩)
    exact pad_apply_of_inside _ _ _ _ _ _ _ _ (ix2 0 (⟨l - 64, by omega⟩ : Fin 32)) (fun a => by fin_cases a <;> (dsimp <;> omega))
  · refine (pad_apply_of_not_inside _ _ _ _ _ _ _ _ 1 (fun hh => by have h1 := hh.1; have h2 := hh.2.2; dsimp at h1 h2; omega)).trans ?_
    refine (sitofp_zero (φ := .f32)).trans ?_
    rcases lanes l with ⟨k, e⟩ | ⟨j, e⟩ | e
    · rw [two_lo _ _ k l e]
    · omega
    · rw [two_out _ _ l e]

/-! ## The two forms at real arguments -/

theorem lit_Nn : Nn = ((64 : ℝ) : EReal) := by simp [Ideal.ofBits, Ideal.ieee, -EReal.coe_mul]; norm_num
theorem lit_Nr : Nr = ((32 : ℝ) : EReal) := by simp [Ideal.ofBits, Ideal.ieee, -EReal.coe_mul]; norm_num

theorem grad_n {x w : Fin 64 → EReal} (hx : ∀ k, IsReal (x k)) (hw : ∀ k, IsReal (w k)) : Rms.vjp x w Nn = Rms.grad x w μn := by
  obtain ⟨x, rfl⟩ := IsReal.row hx
  obtain ⟨w, rfl⟩ := IsReal.row hw
  rw [lit_Nn, lit_μn]
  exact funext fun k => (Rms.grad_eq x w (by norm_num) k).symm
theorem grad_r {x w : Fin 32 → EReal} (hx : ∀ k, IsReal (x k)) (hw : ∀ k, IsReal (w k)) : Rms.vjp x w Nr = Rms.grad x w μr := by
  obtain ⟨x, rfl⟩ := IsReal.row hx
  obtain ⟨w, rfl⟩ := IsReal.row hw
  rw [lit_Nr, lit_μr]
  exact funext fun k => (Rms.grad_eq x w (by norm_num) k).symm
theorem inv_n {x : Fin 64 → EReal} (hx : ∀ k, IsReal (x k)) : Ideal.rsqrt (Rms.ms x Nn) = Rms.inv x μn := by
  obtain ⟨x, rfl⟩ := IsReal.row hx
  rw [lit_Nn, lit_μn]
  exact (Rms.inv_eq x (by norm_num)).symm
theorem inv_r {x : Fin 32 → EReal} (hx : ∀ k, IsReal (x k)) : Ideal.rsqrt (Rms.ms x Nr) = Rms.inv x μr := by
  obtain ⟨x, rfl⟩ := IsReal.row hx
  rw [lit_Nr, lit_μr]
  exact (Rms.inv_eq x (by norm_num)).symm

section Real

variable {x0 x8 x9 x1 x2 x3 x4 x6 x5 x7 x10} (h0 : ∀ i, IsReal (x0 i)) (h1 : ∀ i, IsReal (x1 i)) (h2 : ∀ i, IsReal (x2 i))
  (h4 : ∀ i, IsReal (x4 i)) (h5 : ∀ i, IsReal (x5 i)) (h6 : ∀ i, IsReal (x6 i)) (h7 : ∀ i, IsReal (x7 i)) (h8 : ∀ i, IsReal (x8 i))
  (h9 : ∀ i, IsReal (x9 i)) (b : Fin 2) (s : Fin 2048) (h : Fin 8) (l : Fin 128)

include h0 h4 h5 h8 in
theorem dqr_eq : dqr x0 x8 x3 x4 x5 b s h l = dqo x0 x8 x3 x4 x5 b s h l := by
  rw [dqr, dqo, grad_n (fun _ => h0 _) (fun _ => (h8 _).mul (h4 _)),
    grad_r (fun _ => h0 _) (fun _ => (turn_real (fun _ => h8 _) (spot_real _ _ _) _).mul (h5 _))]
include h1 h6 h9 in
theorem dkvr_eq : dkvr x9 x1 x6 x10 b s h l = dkvo x9 x1 x6 x10 b s h l := by
  rw [dkvr, dkvo, grad_n (fun _ => h1 _) (fun _ => (h9 _).mul (h6 _))]
include h2 h7 h9 in
theorem dkrr_eq : dkrr x9 x2 x3 x7 b s l = dkro x9 x2 x3 x7 b s l := by
  rw [dkrr, dkro, grad_r (fun _ => h2 _) (fun _ => (turn_real (fun _ => IsReal.sum fun _ => h9 _) (spot_real _ _ _) _).mul (h7 _))]

include h0 in
theorem gqr_eq : gqr x0 x8 x3 l = ∑ b : Fin 2, ∑ s : Fin 2048, ∑ h : Fin 8, gqo x0 x8 x3 b s h l := by
  unfold gqr gqo
  rcases lanes l with ⟨k, e⟩ | ⟨j, e⟩ | e
  · simp only [two_lo _ _ k l e]
    refine Finset.sum_congr rfl fun b _ => Finset.sum_congr rfl fun s _ => Finset.sum_congr rfl fun h _ => ?_
    rw [inv_n (fun _ => h0 _), mul_comm]
  · simp only [two_hi _ _ j l e]
    refine Finset.sum_congr rfl fun b _ => Finset.sum_congr rfl fun s _ => Finset.sum_congr rfl fun h _ => ?_
    rw [inv_r (fun _ => h0 _), mul_comm]
  · simp only [two_out _ _ l e, Finset.sum_const_zero]
include h1 in
theorem gkr_eq : gkr x9 x1 l = ∑ b : Fin 2, ∑ s : Fin 2048, ∑ h : Fin 8, gko x9 x1 b s h l := by
  unfold gkr gko
  rcases lanes l with ⟨k, e⟩ | ⟨j, e⟩ | e
  · simp only [two_lo _ _ k l e]
    refine Finset.sum_congr rfl fun b _ => Finset.sum_congr rfl fun s _ => Finset.sum_congr rfl fun h _ => ?_
    rw [inv_n (fun _ => h1 _), mul_comm]
  · simp only [two_hi _ _ j l e, Finset.sum_const_zero]
  · simp only [two_out _ _ l e, Finset.sum_const_zero]
include h2 in
theorem grr_eq : grr x9 x2 x3 l = ∑ b : Fin 2, ∑ s : Fin 2048, gro x9 x2 x3 b s l := by
  unfold grr gro
  rcases lanes l with ⟨k, e⟩ | ⟨j, e⟩ | e
  · simp only [two_lo _ _ k l e, Finset.sum_const_zero]
  · simp only [two_hi _ _ j l e]
    refine Finset.sum_congr rfl fun b _ => Finset.sum_congr rfl fun s _ => ?_
    rw [inv_r (fun _ => h2 _), mul_comm]
  · simp only [two_out _ _ l e, Finset.sum_const_zero]

end Real

end Cert.QkBwdRefIdeal.Read
end
-- ==== Proof.QkBwdClaim.lean ====
module

public import proofs.«01_k».proof.Defs
public import proofs.«01_k».proof.Proof.QkRef
public import proofs.«01_k».proof.Proof.Gen.QkBwdRefIdeal.Run
public import proofs.«01_k».proof.Proof.Gen.QkBwd.Frame

@[expose] public section

noncomputable section

namespace Cert.Proof

open Idealize.ShloMosaic Idealize.ShloMosaic.TcCoe Idealize.SL.Sem
open Cert.QkBwdIdeal.Value (IsReal)

instance facts_qk_bwd : Pre_qk_bwd_finite.Facts := by constructor <;> decide

theorem isReal_of_up {s : Shape} {x : FVec Ideal s .f32} (h : ∃ r, x = Reals.up r) : ∀ i, IsReal (x i) := by
  obtain ⟨r, rfl⟩ := h
  exact fun i => ⟨r i, rfl⟩

open Pre_qk_bwd_finite in
/-- Arguments that pass the precondition are arrays of real numbers; the positions are integers and stay free. -/
theorem finite_QkBwd (x0 : FVec Ideal S2x2048x8x96 .f32) (x1 : FVec Ideal S2x2048x8x128 .f32) (x2 : FVec Ideal S2x2048x32 .f32)
    (x3 : IVec S2x2048 32) (x4 : FVec Ideal S1x64 .f32) (x5 : FVec Ideal S1x32 .f32) (x6 : FVec Ideal S1x64 .f32)
    (x7 : FVec Ideal S1x32 .f32) (x8 : FVec Ideal S2x2048x8x96 .f32) (x9 : FVec Ideal S2x2048x8x96 .f32) (x10 : FVec Ideal S2x2048x8x64 .f32)
    (h : Pre_qk_bwd_finite.fn (F := Ideal) x0 x1 x2 x3 x4 x5 x6 x7 x8 x9 x10 = fun _ => 1#1) :
    (∀ i, IsReal (x0 i)) ∧ (∀ i, IsReal (x1 i)) ∧ (∀ i, IsReal (x2 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i)) := by
  have h1 := congrFun h (fun a => a.elim0)
  unfold Pre_qk_bwd_finite.fn at h1
  obtain ⟨h, h10⟩ := Reals.and_one h1
  obtain ⟨h, h9⟩ := Reals.and_one h
  obtain ⟨h, h8⟩ := Reals.and_one h
  obtain ⟨h, h7⟩ := Reals.and_one h
  obtain ⟨h, h6⟩ := Reals.and_one h
  obtain ⟨h, h5⟩ := Reals.and_one h
  obtain ⟨h, h4⟩ := Reals.and_one h
  obtain ⟨h, h2⟩ := Reals.and_one h
  obtain ⟨h0, h1⟩ := Reals.and_one h
  exact ⟨isReal_of_up (Reals.real_of_all _ _ _ _ _ _ h0), isReal_of_up (Reals.real_of_all _ _ _ _ _ _ h1),
    isReal_of_up (Reals.real_of_all _ _ _ _ _ _ h2), isReal_of_up (Reals.real_of_all _ _ _ _ _ _ h4),
    isReal_of_up (Reals.real_of_all _ _ _ _ _ _ h5), isReal_of_up (Reals.real_of_all _ _ _ _ _ _ h6),
    isReal_of_up (Reals.real_of_all _ _ _ _ _ _ h7), isReal_of_up (Reals.real_of_all _ _ _ _ _ _ h8),
    isReal_of_up (Reals.real_of_all _ _ _ _ _ _ h9)⟩

set_option maxHeartbeats 1600000 in
open Cert.QkBwdIdeal.Value Cert.QkBwdRefIdeal.Read in
theorem algebraic_QkBwd : Cert.algebraic_QkBwdIdeal_QkBwdRefIdeal_pre_qk_bwd_finite := by
  intro m g m' g' hpre hagree
  refine ⟨fun c => (Cert.QkBwdIdeal.Gen.dats m 0 c).arrAt 11 Cert.QkBwdIdeal.cfg0.N,
    fun c => (Cert.QkBwdIdeal.Gen.dats m 0 c).arrAt 12 Cert.QkBwdIdeal.cfg0.N,
    fun c => (Cert.QkBwdIdeal.Gen.dats m 0 c).arrAt 13 Cert.QkBwdIdeal.cfg0.N,
    fun c => (Cert.QkBwdIdeal.Gen.dats m 0 c).arrAt 14 Cert.QkBwdIdeal.cfg0.N,
    fun c => (Cert.QkBwdIdeal.Gen.dats m 0 c).arrAt 15 Cert.QkBwdIdeal.cfg0.N,
    fun c => (Cert.QkBwdIdeal.Gen.dats m 0 c).arrAt 16 Cert.QkBwdIdeal.cfg0.N,
    run_blocks m g, θ_run_mono (Cert.QkBwdRefIdeal.Value.run m' g') fun r hr c => ?_⟩
  obtain ⟨r0, r1, r2, r3, r4, r5, h⟩ := hr c
  obtain ⟨e0, e1, e2, e3, e4, e5, e6, e7, e8, e9, e10⟩ := hagree c
  replace r0 := r0.trans (val_main_v228_eq ..)
  replace r1 := r1.trans (val_main_v230_eq ..)
  replace r2 := r2.trans (val_main_v232_eq ..)
  replace r3 := r3.trans (val_main_v234_eq ..)
  replace r4 := r4.trans (val_main_v235_eq ..)
  replace r5 := r5.trans (val_main_v236_eq ..)
  replace e0 : StableHlo.launchContents m' c (Proc.tc.devRef Cert.QkBwdRefIdeal.main_arg0) = A0 m c := e0
  replace e1 : StableHlo.launchContents m' c (Proc.tc.devRef Cert.QkBwdRefIdeal.main_arg1) = A1 m c := e1
  replace e2 : StableHlo.launchContents m' c (Proc.tc.devRef Cert.QkBwdRefIdeal.main_arg2) = A2 m c := e2
  replace e3 : StableHlo.launchContents m' c (Proc.tc.devRef Cert.QkBwdRefIdeal.main_arg3) = A3 m c := e3
  replace e4 : StableHlo.launchContents m' c (Proc.tc.devRef Cert.QkBwdRefIdeal.main_arg4) = A4 m c := e4
  replace e5 : StableHlo.launchContents m' c (Proc.tc.devRef Cert.QkBwdRefIdeal.main_arg5) = A5 m c := e5
  replace e6 : StableHlo.launchContents m' c (Proc.tc.devRef Cert.QkBwdRefIdeal.main_arg6) = A6 m c := e6
  replace e7 : StableHlo.launchContents m' c (Proc.tc.devRef Cert.QkBwdRefIdeal.main_arg7) = A7 m c := e7
  replace e8 : StableHlo.launchContents m' c (Proc.tc.devRef Cert.QkBwdRefIdeal.main_arg8) = A8 m c := e8
  replace e9 : StableHlo.launchContents m' c (Proc.tc.devRef Cert.QkBwdRefIdeal.main_arg9) = A9 m c := e9
  replace e10 : StableHlo.launchContents m' c (Proc.tc.devRef Cert.QkBwdRefIdeal.main_arg10) = A10 m c := e10
  rw [e0, e3, e4, e5, e8] at r0
  rw [e1, e6, e9, e10] at r1
  rw [e2, e3, e7, e9] at r2
  rw [e0, e3, e8] at r3
  rw [e1, e9] at r4
  rw [e2, e3, e9] at r5
  obtain ⟨h0, h1, h2, h4, h5, h6, h7, h8, h9⟩ := finite_QkBwd _ _ _ _ _ _ _ _ _ _ _ (hpre c)
  exact ⟨r0.trans ((ref228 ..).trans (Eq.trans (funext fun _ => dqr_eq h0 h4 h5 h8 ..) (final11 m c ⟨h0, h1, h2, h4, h5, h6, h7, h8, h9⟩).symm)),
    r1.trans ((ref230 ..).trans (Eq.trans (funext fun _ => dkvr_eq h1 h6 h9 ..) (final12 m c).symm)),
    r2.trans ((ref232 ..).trans (Eq.trans (funext fun _ => dkrr_eq h2 h7 h9 ..) (final13 m c).symm)),
    r3.trans ((ref234 ..).trans (Eq.trans (funext fun _ => gqr_eq h0 ..) (final14 m c ⟨h0, h1, h2, h4, h5, h6, h7, h8, h9⟩).symm)),
    r4.trans ((ref235 ..).trans (Eq.trans (funext fun _ => gkr_eq h1 ..) (final15 m c).symm)),
    r5.trans ((ref236 ..).trans (Eq.trans (funext fun _ => grr_eq h2 ..) (final16 m c).symm)), h⟩

end Cert.Proof
end
-- ==== Proof.PoolHost.lean ====
module

public import proofs.«01_k».proof.Proof.Gen.PoolBwdIdeal.Value
public import proofs.«01_k».proof.Proof.Gen.PoolBwdRefIdeal.Read
public import proofs.«01_k».proof.Proof.Reals
public import Idealize.ShloMosaic.Lib.Pipeline.ValueKit

@[expose] public section

/-! What the host computes before the gradient of the pooling: the pooled channels and their product with the group matrices, by the
same lines in the program of the kernel and in that of the reference. -/

set_option maxRecDepth 16384

noncomputable section

open Idealize.ShloMosaic Idealize.ShloMosaic.TcCoe Idealize.SL.Sem
open Idealize.ShloMosaic.Pipeline (Dat)

namespace Cert.PoolBwdIdeal.Value

open Cert.PoolBwdIdeal Cert.PoolBwdIdeal.Gen
open Cert.PoolBwdRefIdeal.Read (val_main_v0 val_main_v119 val_main_v120 val_main_v121 val_main_v122 val_main_v123 val_main_v124 val_main_v126 val_main_v127)

variable (m : (ℓ : Loc nD τ sig) → Buf (Elt Ideal) ℓ) (c : Dev nD)

abbrev A0 : FVec Ideal S2x2048x512 .f32 := m ((c : Thread nD τ).loc main_arg0)
abbrev A1 : FVec Ideal S1x4x128x128 .f32 := m ((c : Thread nD τ).loc main_arg1)
abbrev A2 : FVec Ideal S1x512 .f32 := m ((c : Thread nD τ).loc main_arg2)
abbrev A3 : FVec Ideal S2x2048x512 .f32 := m ((c : Thread nD τ).loc main_arg3)

set_option maxRecDepth 100000 in
set_option maxHeartbeats 4000000 in
theorem v118_eq : (V m c main_v118 : FVec Ideal S2x2048x1x128 .f32) = val_main_v119 (A0 m c) := by
  simp only [V, hostOps0, hostOps0_1, hostOps0_2, List.flatten_cons, List.flatten_nil, List.append_nil, List.cons_append, List.nil_append]
  entry_read
  rfl

set_option maxRecDepth 100000 in
set_option maxHeartbeats 4000000 in
theorem v119_eq : (V m c main_v119 : FVec Ideal S2x2048x1x128 .f32) = val_main_v120 (A0 m c) := by
  simp only [V, hostOps0, hostOps0_1, hostOps0_2, List.flatten_cons, List.flatten_nil, List.append_nil, List.cons_append, List.nil_append]
  entry_read
  rfl

set_option maxRecDepth 100000 in
set_option maxHeartbeats 4000000 in
theorem v120_eq : (V m c main_v120 : FVec Ideal S2x2048x1x128 .f32) = val_main_v121 (A0 m c) := by
  simp only [V, hostOps0, hostOps0_1, hostOps0_2, List.flatten_cons, List.flatten_nil, List.append_nil, List.cons_append, List.nil_append]
  entry_read
  rfl

set_option maxRecDepth 100000 in
set_option maxHeartbeats 4000000 in
theorem v121_eq : (V m c main_v121 : FVec Ideal S2x2048x1x128 .f32) = val_main_v122 (A0 m c) := by
  simp only [V, hostOps0, hostOps0_1, hostOps0_2, List.flatten_cons, List.flatten_nil, List.append_nil, List.cons_append, List.nil_append]
  entry_read
  rfl

theorem v0_eq : (V m c main_v0 : FVec Ideal S2x2048x4x128 .f32) = val_main_v0 (A0 m c) := by
  simp only [V, hostOps0, hostOps0_1, hostOps0_2, List.flatten_cons, List.flatten_nil, List.append_nil, List.cons_append, List.nil_append]
  entry_read
  rfl

/-- Four arrays, one per group, laid side by side on the axis of the groups. -/
def stack (a b d e : FVec Ideal S2x2048x1x128 .f32) : FVec Ideal S2x2048x4x128 .f32 :=
  concatenate S2x2048x4x128 2 [⟨S2x2048x1x128, a⟩, ⟨S2x2048x1x128, b⟩, ⟨S2x2048x1x128, d⟩, ⟨S2x2048x1x128, e⟩]
    concatenates_S2x2048x1x128_S2x2048x1x128_S2x2048x1x128_S2x2048x1x128_S2x2048x4x128_d2

set_option maxRecDepth 100000 in
set_option maxHeartbeats 4000000 in
theorem v122_eq : (V m c main_v122 : FVec Ideal S2x2048x4x128 .f32)
    = stack (V m c main_v118) (V m c main_v119) (V m c main_v120) (V m c main_v121) := by
  simp only [V, hostOps0, hostOps0_1, hostOps0_2, List.flatten_cons, List.flatten_nil, List.append_nil, List.cons_append, List.nil_append]
  simp only [StableHlo.after_cons, StableHlo.after_nil]
  simp (disch := decide) only [StableHlo.nullary_result_ne', StableHlo.unary_result_ne', StableHlo.binary_result_ne', StableHlo.reshape_result_ne', StableHlo.nary_result_ne']
  refine (StableHlo.nary_result _ _ _ _ _ _).trans ?_
  refine (show _ = stack _ _ _ _ from rfl).trans ?_
  rfl

set_option maxRecDepth 100000 in
set_option maxHeartbeats 4000000 in
theorem v123_eq : (V m c main_v123 : FVec Ideal S2x2048x4x128 .f32)
    = subf (F := Ideal) (s := S2x2048x4x128) (φ := .f32) (V m c main_v122) (V m c main_v0) := by
  simp only [V, hostOps0, hostOps0_1, hostOps0_2, List.flatten_cons, List.flatten_nil, List.append_nil, List.cons_append, List.nil_append]
  simp only [StableHlo.after_cons, StableHlo.after_nil]
  simp (disch := decide) only [StableHlo.nullary_result_ne', StableHlo.unary_result_ne', StableHlo.binary_result_ne', StableHlo.reshape_result_ne', StableHlo.nary_result_ne', StableHlo.binary_result']

/-- The pooled channels are the reference's. -/
theorem pooled_eq : (V m c main_v123 : FVec Ideal S2x2048x4x128 .f32) = val_main_v124 (A0 m c) := by
  rw [v123_eq, v122_eq, v118_eq, v119_eq, v120_eq, v121_eq, v0_eq]
  rfl

set_option maxRecDepth 100000 in
set_option maxHeartbeats 4000000 in
theorem v125_eq : (V m c main_v125 : FVec Ideal S4x128x2x2048 .f32)
    = Host.dotGeneral (F := Ideal) (φ₁ := .f32) (φ₂ := .f32) dot_S4x128x128_S2x2048x4x128_S4x128x2x2048_1_3_2_01_0_2 none
      (V m c main_v124 : FVec Ideal S4x128x128 .f32) (V m c main_v123 : FVec Ideal S2x2048x4x128 .f32) := by
  simp only [V, hostOps0, hostOps0_1, hostOps0_2, List.flatten_cons, List.flatten_nil, List.append_nil, List.cons_append, List.nil_append]
  simp only [StableHlo.after_cons, StableHlo.after_nil]
  simp (disch := decide) only [StableHlo.nullary_result_ne', StableHlo.unary_result_ne', StableHlo.binary_result_ne', StableHlo.reshape_result_ne', StableHlo.nary_result_ne']
  refine (StableHlo.binary_result _ _ _ _ _ _ _ _).trans ?_
  rfl

set_option maxRecDepth 100000 in
set_option maxHeartbeats 4000000 in
theorem v126_eq : (V m c main_v126 : FVec Ideal S2x2048x4x128 .f32) = transpose S2x2048x4x128 [2, 3, 0, 1]
    (V m c main_v125 : FVec Ideal S4x128x2x2048 .f32) transposes_S4x128x2x2048_S2x2048x4x128_2_3_0_1 := by
  simp only [V, hostOps0, hostOps0_1, hostOps0_2, List.flatten_cons, List.flatten_nil, List.append_nil, List.cons_append, List.nil_append]
  simp only [StableHlo.after_cons, StableHlo.after_nil]
  simp (disch := decide) only [StableHlo.nullary_result_ne', StableHlo.unary_result_ne', StableHlo.binary_result_ne', StableHlo.reshape_result_ne', StableHlo.nary_result_ne', StableHlo.unary_result']

theorem v124_eq : (V m c main_v124 : FVec Ideal S4x128x128 .f32) = shapeCast S4x128x128 (A1 m c) shapeCasts_S1x4x128x128_S4x128x128 := by
  simp only [V, hostOps0, hostOps0_1, hostOps0_2, List.flatten_cons, List.flatten_nil, List.append_nil, List.cons_append, List.nil_append]
  entry_read
  rfl

/-- The product of the pooled channels with the group matrices is the reference's. -/
theorem pg_eq : (V m c main_v126 : FVec Ideal S2x2048x4x128 .f32) = val_main_v127 (A0 m c) (A1 m c) := by
  rw [v126_eq, v125_eq, v124_eq, pooled_eq]
  rfl

set_option maxRecDepth 100000 in
set_option maxHeartbeats 4000000 in
theorem v129_eq : (V m c main_v129 : FVec Ideal S4096x512 .bf16) = truncf (F := Ideal) (s := S4096x512) .bf16
    (shapeCast S4096x512 (V m c main_v123 : FVec Ideal S2x2048x4x128 .f32) shapeCasts_S2x2048x4x128_S4096x512) bitsLt_bf16_f32 := by
  simp only [V, hostOps0, hostOps0_1, hostOps0_2, List.flatten_cons, List.flatten_nil, List.append_nil, List.cons_append, List.nil_append]
  simp only [StableHlo.after_cons, StableHlo.after_nil]
  simp (disch := decide) only [StableHlo.nullary_result_ne', StableHlo.unary_result_ne', StableHlo.binary_result_ne', StableHlo.reshape_result_ne', StableHlo.nary_result_ne', StableHlo.reshape_result', StableHlo.unary_result']
  rfl

set_option maxRecDepth 100000 in
set_option maxHeartbeats 4000000 in
theorem v130_eq : (V m c main_v130 : FVec Ideal S4096x512 .f32)
    = shapeCast S4096x512 (V m c main_v126 : FVec Ideal S2x2048x4x128 .f32) shapeCasts_S2x2048x4x128_S4096x512 := by
  simp only [V, hostOps0, hostOps0_1, hostOps0_2, List.flatten_cons, List.flatten_nil, List.append_nil, List.cons_append, List.nil_append]
  simp only [StableHlo.after_cons, StableHlo.after_nil]
  simp (disch := decide) only [StableHlo.nullary_result_ne', StableHlo.unary_result_ne', StableHlo.binary_result_ne', StableHlo.reshape_result_ne', StableHlo.nary_result_ne', StableHlo.reshape_result']
  rfl

end Cert.PoolBwdIdeal.Value
end
-- ==== Proof.PoolSum.lean ====
module

public import proofs.«01_k».proof.Proof.Gen.PoolBwdRefIdeal.Read
public import proofs.«01_k».proof.Proof.Reals
public import Idealize.ShloMosaic.Lib.Pipeline.ValueKit
public import Idealize.ShloMosaic.Lib.Routing.OpsPair
public import Idealize.ShloMosaic.Lib.KernelVsHost

@[expose] public section

/-! The running sum from a position to the end, the sum scattered to the rows of a table, and the sum over a window that they make
together. -/

set_option maxRecDepth 16384

noncomputable section

open Idealize.ShloMosaic Idealize.ShloMosaic.TcCoe Idealize.SL.Sem

namespace Cert.Windows

open Cert.PoolBwdRefIdeal Cert.PoolBwdRefIdeal.Gen

/-- Adding the terms of a list one by one is adding their sum. -/
theorem foldl_add {ι : Type} (l : List ι) (f : ι → EReal) (a : EReal) : l.foldl (fun r n => r + f n) a = a + (l.map f).sum := by
  induction l generalizing a with
  | nil => simp
  | cons x l ih => rw [List.foldl_cons, ih, List.map_cons, List.sum_cons, add_assoc]

/-- The terms at and after position `t`, an array continued by zeros. -/
def from_ (x : Fin 2048 → EReal) (n : ℕ) : EReal := if h : n < 2048 then x ⟨n, h⟩ else 0

abbrev Col : Shape := ⟨4, ![1, 2048, 1, 1]⟩

theorem col_numel : Col.numel = 2048 := by decide

theorem symm_col (n : Fin Col.numel) : Col.rowMajor.symm n = (ix4 (0 : Fin 1) (n.cast col_numel) (0 : Fin 1) (0 : Fin 1) : Col.Idx) := by
  refine (Col.rowMajor.symm_apply_eq).2 (Fin.ext ?_)
  rw [Shape.rowMajor_val_four]
  show n.val = _
  simp [ix4]

/-- The running sum over the positions, taken from the end, reads as the sum of the entry's position and all later ones. -/
theorem cumsum_apply (x : FVec Ideal S2x2048x4x128 .f32) (init : FVec Ideal S_ .f32) (h0 : init ix0 = (0 : EReal)) (hu)
    (b : Fin 2) (t : Fin 2048) (g : Fin 4) (k : Fin 128) :
    Host.reduceWindowAdd ![1, 2048, 1, 1] ![1, 1, 1, 1] ![0, 0, 0, 0] ![0, 2047, 0, 0] x init
      reduceWindows_S2x2048x4x128_S2x2048x4x128_w1s1p0_0_w2048s1p0_2047_w1s1p0_0_w1s1p0_0 hu (ix4 b t g k)
      = ∑ i : Fin 2048, from_ (fun s => x (ix4 b s g k)) (t.val + i.val) := by
  have hv : init (Shape.Idx.first hu) = (0 : EReal) := (congrArg init (ValueIdx.eq_ix0 _)).trans h0
  unfold Host.reduceWindowAdd
  rw [Ideal.hostReduceWindowAdd_def, hv]
  unfold Ideal.hostReduceWindowAdd Host.reduceWindow
  dsimp only
  refine (foldl_add _ _ _).trans ?_
  rw [zero_add, ← List.ofFn_eq_map, List.sum_ofFn]
  refine Eq.trans ?_ (Equiv.sum_comp (finCongr col_numel) (fun i : Fin 2048 => from_ (fun s => x (ix4 b s g k)) (t.val + i.val)))
  refine Finset.sum_congr (M := EReal) rfl fun n _ => ?_
  have w0 : (Col.rowMajor.symm n 0).val = 0 := by rw [symm_col]; rfl
  have w1 : (Col.rowMajor.symm n 1).val = n.val := by rw [symm_col]; rfl
  have w2 : (Col.rowMajor.symm n 2).val = 0 := by rw [symm_col]; rfl
  have w3 : (Col.rowMajor.symm n 3).val = 0 := by rw [symm_col]; rfl
  show _ = from_ (fun s => x (ix4 b s g k)) (t.val + n.val)
  unfold from_
  split
  · next hin =>
    have h1 := hin 1
    change 0 ≤ t.val * 1 + (Col.rowMajor.symm n 1).val ∧ t.val * 1 + (Col.rowMajor.symm n 1).val - 0 < 2048 at h1
    rw [w1] at h1
    rw [dif_pos (by omega)]
    refine congrArg x (funext fun a => Fin.ext ?_)
    match a with
    | ⟨0, _⟩ => show b.val * 1 + (Col.rowMajor.symm n 0).val - 0 = b.val; rw [w0]; omega
    | ⟨1, _⟩ => show t.val * 1 + (Col.rowMajor.symm n 1).val - 0 = t.val + n.val; rw [w1]; omega
    | ⟨2, _⟩ => show g.val * 1 + (Col.rowMajor.symm n 2).val - 0 = g.val; rw [w2]; omega
    | ⟨3, _⟩ => show k.val * 1 + (Col.rowMajor.symm n 3).val - 0 = k.val; rw [w3]; omega
  · next hin =>
    rw [dif_neg fun hle => hin fun a => by
      match a with
      | ⟨0, _⟩ =>
        show 0 ≤ b.val * 1 + (Col.rowMajor.symm n 0).val ∧ b.val * 1 + (Col.rowMajor.symm n 0).val - 0 < 2
        rw [w0]; have := b.isLt; omega
      | ⟨1, _⟩ =>
        show 0 ≤ t.val * 1 + (Col.rowMajor.symm n 1).val ∧ t.val * 1 + (Col.rowMajor.symm n 1).val - 0 < 2048
        rw [w1]; omega
      | ⟨2, _⟩ =>
        show 0 ≤ g.val * 1 + (Col.rowMajor.symm n 2).val ∧ g.val * 1 + (Col.rowMajor.symm n 2).val - 0 < 4
        rw [w2]; have := g.isLt; omega
      | ⟨3, _⟩ =>
        show 0 ≤ k.val * 1 + (Col.rowMajor.symm n 3).val ∧ k.val * 1 + (Col.rowMajor.symm n 3).val - 0 < 128
        rw [w3]; have := k.isLt; omega]

/-! ## The scattered sum -/

abbrev sd : ScatterDims S2x2049x4x128 S2048x2 S2x2048x128 := scatter_S2x2049x4x128_S2048x2_S2x2048x128_02_12_12_1

/-- An update of a sequence, position and channel lands in the row and the group that its position's two words name, in its own sequence
and channel. -/
theorem lands (idx : IVec S2048x2 32) (b b' : Fin 2) (t : Fin 2048) (k k' : Fin 128) (r : Fin 2049) (g : Fin 4) :
    sd.resultIdx? (ix3 b' t k') idx = some (ix4 b r g k)
      ↔ b' = b ∧ (idx (ix2 t 0)).toInt = r.val ∧ (idx (ix2 t 1)).toInt = g.val ∧ k' = k := by
  have s0 : sd.start (ix3 b' t k') idx 0 = 0 := by unfold ScatterDims.start; rw [dif_neg (by decide)]
  have s3 : sd.start (ix3 b' t k') idx 3 = 0 := by unfold ScatterDims.start; rw [dif_neg (by decide)]
  have s1 : sd.start (ix3 b' t k') idx 1 = (idx (ix2 t 0)).toInt := by
    unfold ScatterDims.start
    rw [dif_pos (by decide)]
    congr 2
    funext a
    match a with
    | ⟨0, _⟩ => rfl
    | ⟨1, _⟩ => rfl
  have s2 : sd.start (ix3 b' t k') idx 2 = (idx (ix2 t 1)).toInt := by
    unfold ScatterDims.start
    rw [dif_pos (by decide)]
    congr 2
    funext a
    match a with
    | ⟨0, _⟩ => rfl
    | ⟨1, _⟩ => rfl
  have w0 : sd.window (ix3 b' t k') 0 = b'.val := by unfold ScatterDims.window; rw [dif_pos (by decide)]; rfl
  have w1 : sd.window (ix3 b' t k') 1 = 0 := by unfold ScatterDims.window; rw [dif_neg (by decide)]
  have w2 : sd.window (ix3 b' t k') 2 = 0 := by unfold ScatterDims.window; rw [dif_neg (by decide)]
  have w3 : sd.window (ix3 b' t k') 3 = k'.val := by unfold ScatterDims.window; rw [dif_pos (by decide)]; rfl
  rw [Routing.resultIdx?_eq_some]
  constructor
  · intro h
    have h0 := h 0
    have h1 := h 1
    have h2 := h 2
    have h3 := h 3
    rw [s0, w0] at h0
    rw [s1, w1] at h1
    rw [s2, w2] at h2
    rw [s3, w3] at h3
    change (0 : ℤ) + (b'.val : ℤ) = (b.val : ℤ) at h0
    change _ = (r.val : ℤ) at h1
    change _ = (g.val : ℤ) at h2
    change (0 : ℤ) + (k'.val : ℤ) = (k.val : ℤ) at h3
    refine ⟨Fin.ext (by omega), by omega, by omega, Fin.ext (by omega)⟩
  · rintro ⟨rfl, h1, h2, rfl⟩ a
    match a with
    | ⟨0, _⟩ => show sd.start (ix3 b' t k') idx 0 + (sd.window (ix3 b' t k') 0 : ℤ) = (b'.val : ℤ); rw [s0, w0]; omega
    | ⟨1, _⟩ => show sd.start (ix3 b' t k') idx 1 + (sd.window (ix3 b' t k') 1 : ℤ) = (r.val : ℤ); rw [s1, w1]; omega
    | ⟨2, _⟩ => show sd.start (ix3 b' t k') idx 2 + (sd.window (ix3 b' t k') 2 : ℤ) = (g.val : ℤ); rw [s2, w2]; omega
    | ⟨3, _⟩ => show sd.start (ix3 b' t k') idx 3 + (sd.window (ix3 b' t k') 3 : ℤ) = (k'.val : ℤ); rw [s3, w3]; omega

/-- The scattered sum at an entry: the updates of the positions whose words name the entry's row and group. -/
theorem scatter_apply (x : FVec Ideal S2x2049x4x128 .f32) (idx : IVec S2048x2 32) (upd : FVec Ideal S2x2048x128 .f32)
    (b : Fin 2) (r : Fin 2049) (g : Fin 4) (k : Fin 128) :
    Host.scatterAdd sd x idx upd (ix4 b r g k)
      = x (ix4 b r g k) + ∑ t : Fin 2048, if (idx (ix2 t 0)).toInt = r.val ∧ (idx (ix2 t 1)).toInt = g.val then upd (ix3 b t k) else 0 := by
  unfold Host.scatterAdd
  rw [Ideal.hostScatterAdd_def]
  unfold Ideal.hostScatterAdd
  refine congrArg (x (ix4 b r g k) + ·) ?_
  rw [← Finset.sum_filter]
  refine Finset.sum_bij' (M := EReal) (fun j _ => (j 1 : Fin 2048)) (fun t _ => (ix3 b t k : S2x2048x128.Idx)) ?_ ?_ ?_ ?_ ?_
  · intro j hj
    rw [Finset.mem_filter, ValueIdx.eq_ix3 j] at hj
    have := (lands idx b (j 0) (j 1) k (j 2) r g).1 hj.2
    exact Finset.mem_filter.2 ⟨Finset.mem_univ _, this.2.1, this.2.2.1⟩
  · intro t ht
    rw [Finset.mem_filter] at ht
    exact Finset.mem_filter.2 ⟨Finset.mem_univ _, (lands idx b b t k k r g).2 ⟨rfl, ht.2.1, ht.2.2, rfl⟩⟩
  · intro j hj
    rw [Finset.mem_filter, ValueIdx.eq_ix3 j] at hj
    have := (lands idx b (j 0) (j 1) k (j 2) r g).1 hj.2
    rw [ValueIdx.eq_ix3 j, this.1, this.2.2.2]
    rfl
  · intro t _; rfl
  · intro j hj
    rw [Finset.mem_filter, ValueIdx.eq_ix3 j] at hj
    have := (lands idx b (j 0) (j 1) k (j 2) r g).1 hj.2
    rw [ValueIdx.eq_ix3 j, this.1, this.2.2.2]
    rfl

/-! ## The sum over a window -/

/-- A real array continued by zeros. -/
def ext (q : Fin 2048 → ℝ) (n : ℕ) : ℝ := if h : n < 2048 then q ⟨n, h⟩ else 0

theorem ext_zero (q : Fin 2048 → ℝ) (n : ℕ) (h : 2048 ≤ n) : ext q n = 0 := dif_neg (by omega)

theorem from_coe (q : Fin 2048 → ℝ) (n : ℕ) : from_ (fun s => (q s : EReal)) n = (ext q n : EReal) := by
  unfold from_ ext
  split <;> rfl

/-- An array plus itself moved up by `n`, zeros entering at the end. -/
def dbl (n : ℕ) (x : Fin 2048 → EReal) (t : Fin 2048) : EReal := x t + from_ x (t.val + n)

/-- Once moved sums of windows of `n` are sums of windows of twice `n`. -/
theorem dbl_coe (q : Fin 2048 → ℝ) (n : ℕ) (t : Fin 2048) :
    dbl n (fun s => ((∑ i ∈ Finset.range n, ext q (s.val + i) : ℝ) : EReal)) t = ((∑ i ∈ Finset.range (n + n), ext q (t.val + i) : ℝ) : EReal) := by
  unfold dbl
  rw [from_coe, ← EReal.coe_add, Finset.sum_range_add]
  refine congrArg (fun y : ℝ => (y : EReal)) (congrArg _ ?_)
  unfold ext
  split
  · exact Finset.sum_congr rfl fun i _ => by rw [Nat.add_assoc]
  · exact (Finset.sum_eq_zero fun i _ => dif_neg (by omega)).symm

/-- The running sum from a position to the end, of the terms less the terms `w` further on, is the sum over a window of `w`. -/
theorem window_eq (q : Fin 2048 → ℝ) (w t : ℕ) :
    ∑ i : Fin 2048, (ext q (t + i.val) - ext q (t + i.val + w)) = ∑ i ∈ Finset.range w, ext q (t + i) := by
  rw [Fin.sum_univ_eq_sum_range (fun i => ext q (t + i) - ext q (t + i + w)) 2048, Finset.sum_sub_distrib]
  have a := Finset.sum_range_add (fun i => ext q (t + i)) 2048 w
  have b := Finset.sum_range_add (fun i => ext q (t + i)) w 2048
  have z : ∑ x ∈ Finset.range w, ext q (t + (2048 + x)) = 0 := Finset.sum_eq_zero fun i _ => ext_zero q _ (by omega)
  have e : ∑ x ∈ Finset.range 2048, ext q (t + (w + x)) = ∑ x ∈ Finset.range 2048, ext q (t + x + w) :=
    Finset.sum_congr rfl fun i _ => congrArg _ (by omega)
  rw [Nat.add_comm] at b
  linarith

end Cert.Windows
end
-- ==== Proof.Pool.lean ====
module

public import proofs.«01_k».proof.Proof.PoolHost
public import proofs.«01_k».proof.Proof.PoolSum

@[expose] public section

/-! The gradient of the pooling as its kernel computes it: per group and sequence, then per array. -/

set_option maxRecDepth 16384

noncomputable section

open Idealize.ShloMosaic Idealize.ShloMosaic.TcCoe Idealize.SL.Sem
open Idealize.ShloMosaic.Pipeline (Dat)

namespace Cert.PoolBwdIdeal.Value

open Cert.PoolBwdIdeal Cert.PoolBwdIdeal.Gen Cert.Windows

theorem idx : ∀ t : Fin cfg0.N, win0_0.index t = ![t.val % 2, t.val / 2] ∧ win0_1.index t = ![t.val % 2, t.val / 2]
    ∧ win0_2.index t = ![t.val % 2, t.val / 2] ∧ win0_3.index t = ![t.val / 2, 0, 0] ∧ win0_4.index t = ![0, t.val / 2]
    ∧ win0_5.index t = ![t.val % 2, t.val / 2] ∧ win0_6.index t = ![t.val / 2, 0, 0] ∧ win0_7.index t = ![0, t.val / 2]
    ∧ (grid0.coords t 0).val = t.val / 2 :=
  (by decide +kernel : ∀ t : Fin grid0.N, _)

/-- The number of positions that a window of `w` holds at position `r`. -/
def cnt (w : BitVec 32) (r : Fin 2048) : EReal :=
  FloatOps.sitofp (F := Ideal) .f32 (IntOp.minsi (IntOp.addi (BitVec.ofNat 32 r.val) 1#32) w)

/-- The window of each group. -/
def width (n : Fin 4) : BitVec 32 := match n with | 0 => 2#32 | 1 => 4#32 | 2 => 8#32 | 3 => 16#32

/-! ## A group of a sequence -/

section Tile

variable (dp pg : Vec Ideal S2048x128 .f32) (pl : Vec Ideal S2048x128 .bf16) (gr : Vec Ideal S1x128x128 .f32) (sc : Vec Ideal S1x128 .f32)

theorem pay3_at (r : Fin 2048) (d : Fin 128) : k0_pay3 dp sc (ix2 r d) = dp (ix2 r d) * sc (ix2 0 d) := by
  pointwise [k0_pay3, k0_pay2]

theorem pay4_at (d : Fin 128) : k0_pay4 dp pg (ix2 0 d) = ∑ r : Fin 2048, dp (ix2 r d) * pg (ix2 r d) := by
  pointwise [k0_pay4, k0_pay2]

theorem pay5_at (k d : Fin 128) : k0_pay5 dp sc pl (ix2 k d) = ∑ r : Fin 2048, pl (ix2 r k) * k0_pay3 dp sc (ix2 r d) := by
  unfold k0_pay5
  generalize k0_pay3 dp sc = u
  pointwise

theorem pay6_at (k d : Fin 128) : k0_pay6 dp sc pl (ix3 0 k d) = k0_pay5 dp sc pl (ix2 k d) := by
  unfold k0_pay6
  generalize k0_pay5 dp sc pl = u
  pointwise

theorem pay7_at (o : Vec Ideal S1x128 .f32) (d : Fin 128) : k0_pay7 dp pg o (ix2 0 d) = o (ix2 0 d) + k0_pay4 dp pg (ix2 0 d) := by
  unfold k0_pay7
  generalize k0_pay4 dp pg = u
  pointwise

theorem pay8_at (o : Vec Ideal S1x128x128 .f32) (k d : Fin 128) :
    k0_pay8 dp sc pl o (ix3 0 k d) = o (ix3 0 k d) + k0_pay5 dp sc pl (ix2 k d) := by
  unfold k0_pay8
  generalize k0_pay5 dp sc pl = u
  pointwise

theorem pay9_at (r : Fin 2048) (k : Fin 128) : k0_pay9 dp sc gr (ix2 r k) = ∑ d : Fin 128, k0_pay3 dp sc (ix2 r d) * gr (ix3 0 k d) := by
  unfold k0_pay9
  generalize k0_pay3 dp sc = u
  pointwise

/-- The rows plus the rows moved up by `n`, zeros entering at the end. -/
def shifted (w : BitVec 32) (x : FVec Ideal S2048x128 .f32) : FVec Ideal S2048x128 .f32 :=
  addf x (select (cmpi .slt (iota .tc S2048x128 32 [0] iota_S2048x128_d0_w32) (broadcast S2048x128 w))
    (dynamicRotate 0 w none x rotates_S2048x128_d0) (broadcast S2048x128 (Scalar.ofBits .f32 0x00000000#32)))

theorem shifted_at (w : BitVec 32) (n : ℕ) (hn : 0 < n ∧ n ≤ 2048) (hw : w.toNat = 2048 - n)
    (hc : ∀ r : Fin 2048, IntOp.cmpi .slt (BitVec.ofNat 32 r.val) w = if r.val + n < 2048 then 1#1 else 0#1)
    (x : FVec Ideal S2048x128 .f32) (r : Fin 2048) (k : Fin 128) :
    shifted w x (ix2 r k) = dbl n (fun s => x (ix2 s k)) r := by
  have hr := r.isLt
  unfold shifted dbl from_
  refine congrArg (x (ix2 r k) + · : EReal → EReal) ?_
  have c : cmpi .slt (iota .tc S2048x128 32 [0] iota_S2048x128_d0_w32) (broadcast S2048x128 w) (ix2 r k)
      = IntOp.cmpi .slt (BitVec.ofNat 32 r.val) w := by pointwise
  show Scalar.select (cmpi .slt (iota .tc S2048x128 32 [0] iota_S2048x128_d0_w32) (broadcast S2048x128 w) (ix2 r k))
    (dynamicRotate 0 w none x rotates_S2048x128_d0 (ix2 r k)) (Ideal.ofBits .f32 0x00000000#32) = _
  rw [c, hc]
  by_cases h : r.val + n < 2048
  · rw [if_pos h, dif_pos h]
    refine (show _ = dynamicRotate 0 w none x rotates_S2048x128_d0 (ix2 r k) from rfl).trans ?_
    refine dynamicRotate_apply _ _ _ _ _ (ix2 ⟨r.val + n, h⟩ k) fun b => ?_
    match b with
    | ⟨0, _⟩ =>
      show r.val + n = (r.val + 2048 - w.toNat % 2048) % 2048
      rw [hw]
      omega
    | ⟨1, _⟩ => rfl
  · rw [if_neg h, dif_neg h]
    refine (show _ = Ideal.ofBits .f32 0x00000000#32 from rfl).trans ?_
    exact Reals.lit_zero

theorem shifted_1 (x : FVec Ideal S2048x128 .f32) (r : Fin 2048) (k : Fin 128) :
    shifted 2047#32 x (ix2 r k) = dbl 1 (fun s => x (ix2 s k)) r :=
  shifted_at _ 1 (by omega) rfl (by decide +kernel) x r k
theorem shifted_2 (x : FVec Ideal S2048x128 .f32) (r : Fin 2048) (k : Fin 128) :
    shifted 2046#32 x (ix2 r k) = dbl 2 (fun s => x (ix2 s k)) r :=
  shifted_at _ 2 (by omega) rfl (by decide +kernel) x r k
theorem shifted_4 (x : FVec Ideal S2048x128 .f32) (r : Fin 2048) (k : Fin 128) :
    shifted 2044#32 x (ix2 r k) = dbl 4 (fun s => x (ix2 s k)) r :=
  shifted_at _ 4 (by omega) rfl (by decide +kernel) x r k
theorem shifted_8 (x : FVec Ideal S2048x128 .f32) (r : Fin 2048) (k : Fin 128) :
    shifted 2040#32 x (ix2 r k) = dbl 8 (fun s => x (ix2 s k)) r :=
  shifted_at _ 8 (by omega) rfl (by decide +kernel) x r k

/-- The rows divided by the number of positions that a window of `w` holds. -/
def meaned (w : BitVec 32) (x : FVec Ideal S2048x128 .f32) : FVec Ideal S2048x128 .f32 :=
  mulf x (divf (broadcast S2048x128 (Scalar.ofBits .f32 0x3F800000#32)) (sitofp .f32 (minsi k0_pay10 (broadcast S2048x128 w))))

theorem meaned_at (w : BitVec 32) (x : FVec Ideal S2048x128 .f32) (r : Fin 2048) (k : Fin 128) :
    meaned w x (ix2 r k) = x (ix2 r k) * Ideal.div 1 (cnt w r) := by
  pointwise [meaned, k0_pay10]
  rfl

/-- The kernel's choice of the window from the group's number. -/
abbrev pick (a : BitVec 32) : BitVec 32 := Scalar.select (Scalar.cmpi .eq a 1#32) 4#32 (Scalar.select (Scalar.cmpi .eq a 2#32) 8#32 16#32)

theorem pay11_0 (u : FVec Ideal S2048x128 .f32) : k0_pay11 0#32 u k0_pay10 (pick 0#32) 0#32
    = subf (shifted 2047#32 (meaned 2#32 u)) u := rfl
theorem pay11_1 (u : FVec Ideal S2048x128 .f32) : k0_pay11 1#32 u k0_pay10 (pick 1#32) 0#32
    = subf (shifted 2046#32 (shifted 2047#32 (meaned 4#32 u))) u := rfl
theorem pay11_2 (u : FVec Ideal S2048x128 .f32) : k0_pay11 2#32 u k0_pay10 (pick 2#32) 0#32
    = subf (shifted 2044#32 (shifted 2046#32 (shifted 2047#32 (meaned 8#32 u)))) u := rfl
theorem pay11_3 (u : FVec Ideal S2048x128 .f32) : k0_pay11 3#32 u k0_pay10 (pick 3#32) 0#32
    = subf (shifted 2040#32 (shifted 2044#32 (shifted 2046#32 (shifted 2047#32 (meaned 16#32 u))))) u := rfl

/-- The sum over a group's window, in the doubled steps in which the kernel takes it. -/
def wsum (n : Fin 4) (q : Fin 2048 → EReal) : Fin 2048 → EReal :=
  match n with
  | 0 => dbl 1 q
  | 1 => dbl 2 (dbl 1 q)
  | 2 => dbl 4 (dbl 2 (dbl 1 q))
  | 3 => dbl 8 (dbl 4 (dbl 2 (dbl 1 q)))

theorem pay11_at (n : Fin 4) (u : FVec Ideal S2048x128 .f32) (r : Fin 2048) (k : Fin 128) :
    k0_pay11 (BitVec.ofNat 32 n.val) u k0_pay10 (pick (BitVec.ofNat 32 n.val)) 0#32 (ix2 r k)
      = wsum n (fun s => u (ix2 s k) * Ideal.div 1 (cnt (width n) s)) r - u (ix2 r k) := by
  match n with
  | 0 =>
    refine (congrFun (pay11_0 u) _).trans (congrArg (· - u (ix2 r k) : EReal → EReal) ?_)
    simp only [shifted_1, meaned_at]
    rfl
  | 1 =>
    refine (congrFun (pay11_1 u) _).trans (congrArg (· - u (ix2 r k) : EReal → EReal) ?_)
    simp only [shifted_1, shifted_2, meaned_at]
    rfl
  | 2 =>
    refine (congrFun (pay11_2 u) _).trans (congrArg (· - u (ix2 r k) : EReal → EReal) ?_)
    simp only [shifted_1, shifted_2, shifted_4, meaned_at]
    rfl
  | 3 =>
    refine (congrFun (pay11_3 u) _).trans (congrArg (· - u (ix2 r k) : EReal → EReal) ?_)
    simp only [shifted_1, shifted_2, shifted_4, shifted_8, meaned_at]
    rfl

end Tile

/-! ## The blocks in the arguments -/

section Point

variable (m : (ℓ : Loc nD τ sig) → Buf (Elt Ideal) ℓ) (c : Dev nD) (t : Fin cfg0.N)

/-- The pooled channels, and their product with the group matrices. -/
abbrev PL : FVec Ideal S2x2048x4x128 .f32 := V m c main_v123
abbrev PG : FVec Ideal S2x2048x4x128 .f32 := V m c main_v126

theorem tlt : t.val < 8 := lt_of_lt_of_eq t.isLt N_0

/-- The sequence and the group of a point, and the column of a group's channel. -/
abbrev sb : Fin 2 := ⟨t.val % 2, by omega⟩
abbrev sg : Fin 4 := ⟨t.val / 2, by have := tlt t; omega⟩
abbrev col (g : Fin 4) (k : Fin 128) : Fin 512 := ⟨g.val * 128 + k.val, by omega⟩
abbrev row (r : Fin 2048) : Fin 4096 := ⟨t.val % 2 * 2048 + r.val, by omega⟩

/-- A channel of a group of a position, in the array laid flat. -/
theorem flat_at (u : FVec Ideal S2x2048x4x128 .f32) (b : Fin 2) (r : Fin 2048) (g : Fin 4) (k : Fin 128) :
    shapeCast S4096x512 u shapeCasts_S2x2048x4x128_S4096x512 (ix2 ⟨b.val * 2048 + r.val, by omega⟩ (col g k)) = u (ix4 b r g k) := by
  refine shapeCast_apply _ _ _ _ ?_
  rw [Shape.rowMajor_val_four, Shape.rowMajor_val_two]
  show ((b.val * 2048 + r.val) * 4 + g.val) * 128 + k.val = (b.val * 2048 + r.val) * 512 + (g.val * 128 + k.val)
  omega

theorem blk0 (r : Fin 2048) (k : Fin 128) : (iblk m c 0 t : Vec Ideal S2048x128 .f32) (ix2 r k) = A3 m c (ix3 (sb t) r (col (sg t) k)) := by
  have e : (V m c main_v127 : FVec Ideal S4096x512 .f32) (ix2 (row t r) (col (sg t) k)) = A3 m c (ix3 (sb t) r (col (sg t) k)) := by
    simp only [V, hostOps0, hostOps0_1, hostOps0_2, List.flatten_cons, List.flatten_nil, List.append_nil, List.cons_append, List.nil_append]
    entry_read
    pointwise
    blk_ext
  rw [← e]; blk_ext [iblk, idx t]

theorem blk1 (r : Fin 2048) (k : Fin 128) : (iblk m c 1 t : Vec Ideal S2048x128 .bf16) (ix2 r k) = PL m c (ix4 (sb t) r (sg t) k) := by
  have e : (V m c main_v129 : FVec Ideal S4096x512 .bf16) (ix2 (row t r) (col (sg t) k)) = PL m c (ix4 (sb t) r (sg t) k) := by
    refine (congrFun (v129_eq m c) _).trans ?_
    show _ = (V m c main_v123 : FVec Ideal S2x2048x4x128 .f32) (ix4 (sb t) r (sg t) k)
    generalize (V m c main_v123 : FVec Ideal S2x2048x4x128 .f32) = u
    refine (truncf_apply _ _ _ _).trans ?_
    exact flat_at u (sb t) r (sg t) k
  rw [← e]; blk_ext [iblk, idx t]

theorem blk2 (r : Fin 2048) (k : Fin 128) : (iblk m c 2 t : Vec Ideal S2048x128 .f32) (ix2 r k) = PG m c (ix4 (sb t) r (sg t) k) := by
  have e : (V m c main_v130 : FVec Ideal S4096x512 .f32) (ix2 (row t r) (col (sg t) k)) = PG m c (ix4 (sb t) r (sg t) k) := by
    refine (congrFun (v130_eq m c) _).trans ?_
    show _ = (V m c main_v126 : FVec Ideal S2x2048x4x128 .f32) (ix4 (sb t) r (sg t) k)
    generalize (V m c main_v126 : FVec Ideal S2x2048x4x128 .f32) = u
    exact flat_at u (sb t) r (sg t) k
  rw [← e]; blk_ext [iblk, idx t]

theorem blk3 (k d : Fin 128) : (iblk m c 3 t : Vec Ideal S1x128x128 .f32) (ix3 0 k d) = A1 m c (ix4 0 (sg t) k d) := by
  have e : (V m c main_v131 : FVec Ideal S4x128x128 .f32) (ix3 (sg t) k d) = A1 m c (ix4 0 (sg t) k d) := by
    simp only [V, hostOps0, hostOps0_1, hostOps0_2, List.flatten_cons, List.flatten_nil, List.append_nil, List.cons_append, List.nil_append]
    entry_read
    pointwise
    blk_ext
  rw [← e]; blk_ext [iblk, idx t]

theorem blk4 (k : Fin 128) : (iblk m c 4 t : Vec Ideal S1x128 .f32) (ix2 0 k) = A2 m c (ix2 0 (col (sg t) k)) := by
  have e : (V m c main_arg2 : FVec Ideal S1x512 .f32) (ix2 0 (col (sg t) k)) = A2 m c (ix2 0 (col (sg t) k)) := by
    simp only [V, hostOps0, hostOps0_1, hostOps0_2, List.flatten_cons, List.flatten_nil, List.append_nil, List.cons_append, List.nil_append]
    entry_read
    rfl
  rw [← e]; blk_ext [iblk, idx t]

end Point

/-! ## The results in the arguments -/

section Forms

variable (gr : FVec Ideal S1x4x128x128 .f32) (sc : FVec Ideal S1x512 .f32) (dy : FVec Ideal S2x2048x512 .f32)
  (pl pg : FVec Ideal S2x2048x4x128 .f32)

/-- The gradient by the product with the group matrices. -/
def dprod (b : Fin 2) (s : Fin 2048) (g : Fin 4) (d : Fin 128) : EReal := dy (ix3 b s (col g d)) * sc (ix2 0 (col g d))
/-- The gradient by the pooled channels. -/
def dpool (b : Fin 2) (s : Fin 2048) (g : Fin 4) (k : Fin 128) : EReal := ∑ d : Fin 128, dprod sc dy b s g d * gr (ix4 0 g k d)
/-- The gradient by the channels. -/
def du (b : Fin 2) (s : Fin 2048) (g : Fin 4) (k : Fin 128) : EReal :=
  wsum g (fun s => dpool gr sc dy b s g k * Ideal.div 1 (cnt (width g) s)) s - dpool gr sc dy b s g k
/-- A position's part of the gradients by the group matrices and by the scale. -/
def rgrp (b : Fin 2) (s : Fin 2048) (g : Fin 4) (k d : Fin 128) : EReal := pl (ix4 b s g k) * dprod sc dy b s g d
def rscale (b : Fin 2) (s : Fin 2048) (g : Fin 4) (d : Fin 128) : EReal := dy (ix3 b s (col g d)) * pg (ix4 b s g d)

end Forms

section Left

variable (m : (ℓ : Loc nD τ sig) → Buf (Elt Ideal) ℓ) (c : Dev nD) (t : Fin cfg0.N)

theorem dprod_blk (r : Fin 2048) (d : Fin 128) : k0_pay3 (iblk m c 0 t) (iblk m c 4 t) (ix2 r d)
    = dprod (A2 m c) (A3 m c) (sb t) r (sg t) d := by rw [pay3_at, blk0, blk4, dprod]

theorem dpool_blk (r : Fin 2048) (k : Fin 128) : k0_pay9 (iblk m c 0 t) (iblk m c 4 t) (iblk m c 3 t) (ix2 r k)
    = dpool (A1 m c) (A2 m c) (A3 m c) (sb t) r (sg t) k :=
  (pay9_at _ _ _ r k).trans (Finset.sum_congr (M := EReal) rfl fun d _ => by rw [dprod_blk, blk3])

abbrev P5 : FVec Ideal S2048x128 .bf16 := k0_pay1 (k0_pay11 (BitVec.ofNat 32 (grid0.coords t 0).val)
  (k0_pay9 (iblk m c 0 t) (iblk m c 4 t) (iblk m c 3 t)) k0_pay10 (pick (BitVec.ofNat 32 (grid0.coords t 0).val)) 0#32)
abbrev P6 : FVec Ideal S128x128 .f32 := k0_pay5 (iblk m c 0 t) (iblk m c 4 t) (iblk m c 1 t)
abbrev P7 : FVec Ideal S1x128 .f32 := k0_pay4 (iblk m c 0 t) (iblk m c 2 t)

theorem pt5 (r : Fin 2048) (k : Fin 128) : P5 m c t (ix2 r k) = du (A1 m c) (A2 m c) (A3 m c) (sb t) r (sg t) k := by
  refine (truncf_apply _ _ _ _).trans ?_
  rw [(idx t).2.2.2.2.2.2.2.2]
  refine (pay11_at (sg t) _ r k).trans ?_
  simp only [dpool_blk, du]

theorem pt6 (k d : Fin 128) : P6 m c t (ix2 k d) = ∑ r : Fin 2048, rgrp (A2 m c) (A3 m c) (PL m c) (sb t) r (sg t) k d :=
  (pay5_at _ _ _ k d).trans (Finset.sum_congr (M := EReal) rfl fun r _ => by rw [dprod_blk, blk1, rgrp])

theorem pt7 (d : Fin 128) : P7 m c t (ix2 0 d) = ∑ r : Fin 2048, rscale (A3 m c) (PG m c) (sb t) r (sg t) d :=
  (pay4_at _ _ d).trans (Finset.sum_congr (M := EReal) rfl fun r _ => by rw [blk0, blk2, rscale])

/-- The two kinds of grid point: a group's first sequence and its second. -/
theorem kinds : ∀ t : Fin cfg0.N, (t.val % 2 = 0 ∧ ¬t.val % 2 = 1) ∨ (¬t.val % 2 = 0 ∧ t.val % 2 = 1) :=
  (by decide +kernel : ∀ t : Fin grid0.N, _)

theorem left5 : (outsAt0 m c t.val t.isLt).1 = P5 m c t := by
  rcases kinds t with ⟨h0, h1⟩ | ⟨h0, h1⟩
  · rw [outsAt0_A m c t h0 h1]; frame_out; try rfl
  · rw [outsAt0_B m c t h0 h1]; frame_out; try rfl

theorem reset6 (h : t.val % 2 = 0) (k d : Fin 128) : (outsAt0 m c t.val t.isLt).2.1 (ix3 0 k d) = P6 m c t (ix2 k d) := by
  rcases kinds t with ⟨h0, h1⟩ | ⟨h0, h1⟩
  · rw [outsAt0_A m c t h0 h1]; frame_out; exact pay6_at ..
  · exact absurd h h0

theorem step6 (h : ¬t.val % 2 = 0) (k d : Fin 128) : (outsAt0 m c t.val t.isLt).2.1 (ix3 0 k d)
    = (outsAt0 m c (t.val - 1) (Nat.lt_of_le_of_lt (Nat.sub_le _ _) t.isLt)).2.1 (ix3 0 k d) + P6 m c t (ix2 k d) := by
  rcases kinds t with ⟨h0, h1⟩ | ⟨h0, h1⟩
  · exact absurd h0 h
  · rw [outsAt0_B m c t h0 h1]; frame_out; exact pay8_at ..

theorem reset7 (h : t.val % 2 = 0) (d : Fin 128) : (outsAt0 m c t.val t.isLt).2.2 (ix2 0 d) = P7 m c t (ix2 0 d) := by
  rcases kinds t with ⟨h0, h1⟩ | ⟨h0, h1⟩
  · rw [outsAt0_A m c t h0 h1]; frame_out; try rfl
  · exact absurd h h0

theorem step7 (h : ¬t.val % 2 = 0) (d : Fin 128) : (outsAt0 m c t.val t.isLt).2.2 (ix2 0 d)
    = (outsAt0 m c (t.val - 1) (Nat.lt_of_le_of_lt (Nat.sub_le _ _) t.isLt)).2.2 (ix2 0 d) + P7 m c t (ix2 0 d) := by
  rcases kinds t with ⟨h0, h1⟩ | ⟨h0, h1⟩
  · exact absurd h0 h
  · rw [outsAt0_B m c t h0 h1]; frame_out; exact pay7_at ..

end Left

/-! ## The results of the call -/

section Results

variable (m : (ℓ : Loc nD τ sig) → Buf (Elt Ideal) ℓ) (c : Dev nD)

/-- The group of a column, and its channel. -/
abbrev grp (l : Fin 512) : Fin 4 := ⟨l.val / 128, by omega⟩
abbrev chn (l : Fin 512) : Fin 128 := ⟨l.val % 128, by omega⟩

theorem final5 : (dats m 0 c).arrAt 5 cfg0.N = fun i : S4096x512.Idx => du (A1 m c) (A2 m c) (A3 m c) (Reals.bat (i 0)) (Reals.pos (i 0))
    (grp (i 1)) (chn (i 1)) := by
  refine (dats m 0 c).arrAt_eq_of_covers 5 _ (by decide +kernel) fun t hf y => ?_
  blk_simp
  rw [after0_5, left5]
  obtain ⟨r, l, rfl⟩ : ∃ (r : Fin 2048) (l : Fin 128), y = ix2 r l := ⟨_, _, eq_ix2 y⟩
  rw [pt5]
  have ht := tlt t
  congr 1 <;> (apply Fin.ext; try dsimp only [Reals.bat, Reals.pos, sb, sg, grp, chn]; blk_simp [idx t]; try omega)

/-- The points of a group are its two sequences. -/
theorem sum_points (f : Fin 2 → Fin 4 → EReal) (t : Fin cfg0.N) (p : Fin 2 → Fin cfg0.N) (hp : ∀ s, (p s).val = 2 * (t.val / 2) + s.val) :
    ∑ s : Fin 2, f (sb (p s)) (sg (p s)) = ∑ b : Fin 2, f b (sg t) := by
  have ht := tlt t
  refine Fin.sum_fin_congr fun s => ?_
  have e1 : sb (p s) = s := by ext; simp only [sb, hp]; omega
  have e3 : sg (p s) = sg t := by ext; simp only [sg, hp]; omega
  rw [e1, e3]

theorem final6 : (dats m 0 c).arrAt 6 cfg0.N = fun i : S4x128x128.Idx =>
    ∑ b : Fin 2, ∑ s : Fin 2048, rgrp (A2 m c) (A3 m c) (PL m c) b s (i 0) (i 1) (i 2) := by
  refine (dats m 0 c).arrAt_eq_of_covers 6 _ (by decide +kernel) fun t hf y => ?_
  blk_simp
  rw [after0_6]
  obtain ⟨k, l, rfl⟩ : ∃ k l : Fin 128, y = ix3 0 k l := ⟨y 1, y 2, by rw [eq_ix3 y]; congr 1 <;> exact Subsingleton.elim (α := Fin 1) _ _⟩
  have h := Pipeline.eq_sum_fin_of_reset_step_apply_of_flush (fun n h (l : Fin 128) => ((outsAt0 m c n h).2.1 (ix3 0 k l) : EReal)) 2
    (fun _ => 0) (fun t l => P6 m c t (ix2 k l)) (fun t h l => by rw [zero_add]; exact reset6 m c t h k l) (fun t h l => step6 m c t h k l)
    t ((flush0_6 t).mp hf) l
  refine h.trans ?_
  have e0 : (win0_6.blk t).view.emb (ix3 0 k l) 0 = sg t := by apply Fin.ext; blk_simp [idx t]; rfl
  have e1 : (win0_6.blk t).view.emb (ix3 0 k l) 1 = k := by apply Fin.ext; blk_simp [idx t]
  have e2 : (win0_6.blk t).view.emb (ix3 0 k l) 2 = l := by apply Fin.ext; blk_simp [idx t]
  rw [zero_add, e0, e1, e2]
  refine Eq.trans (Fin.sum_fin_congr fun s => pt6 m c _ k l) ?_
  exact sum_points (fun b g => ∑ s : Fin 2048, rgrp (A2 m c) (A3 m c) (PL m c) b s g k l) t _ fun s => rfl

theorem final7 : (dats m 0 c).arrAt 7 cfg0.N = fun i : S1x512.Idx =>
    ∑ b : Fin 2, ∑ s : Fin 2048, rscale (A3 m c) (PG m c) b s (grp (i 1)) (chn (i 1)) := by
  refine (dats m 0 c).arrAt_eq_of_covers 7 _ (by decide +kernel) fun t hf y => ?_
  blk_simp
  rw [after0_7]
  obtain ⟨l, rfl⟩ : ∃ l : Fin 128, y = ix2 0 l := ⟨y 1, by rw [eq_ix2 y]; congr 1; exact Subsingleton.elim (α := Fin 1) _ _⟩
  have h := Pipeline.eq_sum_fin_of_reset_step_apply_of_flush (fun n h (l : Fin 128) => ((outsAt0 m c n h).2.2 (ix2 0 l) : EReal)) 2
    (fun _ => 0) (fun t l => P7 m c t (ix2 0 l)) (fun t h l => by rw [zero_add]; exact reset7 m c t h l) (fun t h l => step7 m c t h l)
    t ((flush0_7 t).mp hf) l
  refine h.trans ?_
  have e0 : grp ((win0_7.blk t).view.emb (ix2 0 l) 1) = sg t := by apply Fin.ext; dsimp only [grp, sg]; blk_simp [idx t]; try omega
  have e1 : chn ((win0_7.blk t).view.emb (ix2 0 l) 1) = l := by apply Fin.ext; dsimp only [chn]; blk_simp [idx t]; try omega
  rw [zero_add, e0, e1]
  refine Eq.trans (Fin.sum_fin_congr fun s => pt7 m c _ l) ?_
  exact sum_points (fun b g => ∑ s : Fin 2048, rscale (A3 m c) (PG m c) b s g l) t _ fun s => rfl

end Results

end Cert.PoolBwdIdeal.Value
end
-- ==== Proof.PoolRef.lean ====
module

public import proofs.«01_k».proof.Proof.Pool
public import proofs.«01_k».proof.Proof.Rms
public import proofs.«01_k».proof.Proof.Gen.PoolBwdRefIdeal.Read
public import Idealize.ShloMosaic.Lib.TwoAxisContraction

@[expose] public section

/-! The gradient of the pooling as differentiation gives it, and its equality with the kernel's at real arguments. -/

set_option maxRecDepth 16384

noncomputable section

open Idealize.ShloMosaic Idealize.ShloMosaic.TcCoe Idealize.SL.Sem
open Cert.PoolBwdIdeal.Value (col cnt width wsum dprod dpool du rgrp rscale grp chn)

namespace Cert.PoolBwdRefIdeal.Read

open Cert.PoolBwdRefIdeal Cert.PoolBwdRefIdeal.Gen Cert.PoolBwdRefIdeal.Value Cert.Windows

variable (u : FVec Ideal S2x2048x512 .f32) (gr : FVec Ideal S1x4x128x128 .f32) (sc : FVec Ideal S1x512 .f32) (dy : FVec Ideal S2x2048x512 .f32)

section Stage

variable (b : Fin 2) (s : Fin 2048) (g : Fin 4) (k : Fin 128)

theorem ref141 : val_main_v141 (F := Ideal) sc dy (ix4 g k b s) = dprod sc dy b s g k := by
  have hb := b.isLt
  have hs := s.isLt
  have hg := g.isLt
  have hk := k.isLt
  have e : idx_main_v140 (idx_main_v141 (ix4 g k b s)) = ix3 b s (col g k) := by
    funext a
    apply Fin.ext
    match a with
    | ⟨0, _⟩ => show (((b.val * 2048 + s.val) * 4 + g.val) * 128 + k.val) / 1048576 = b.val; omega
    | ⟨1, _⟩ => show (((b.val * 2048 + s.val) * 4 + g.val) * 128 + k.val) / 512 % 2048 = s.val; omega
    | ⟨2, _⟩ => show (((b.val * 2048 + s.val) * 4 + g.val) * 128 + k.val) % 512 = g.val * 128 + k.val; omega
  rw [val_main_v141_apply, val_main_v140_apply, e, dprod]
  pointwise [val_main_v137, val_main_v136, val_main_v130, val_main_v129]

theorem ref142 : val_main_v142 (F := Ideal) gr sc dy (ix4 g b s k) = dpool gr sc dy b s g k := by
  rw [val_main_v142_apply, dpool]
  refine Finset.sum_congr (M := EReal) rfl fun d _ => congrArg₂ (· * · : EReal → EReal → EReal) ?_ ?_
  · refine Eq.trans ?_ (ref141 sc dy b s g d)
    refine congrArg (val_main_v141 (F := Ideal) sc dy) (funext fun a => Fin.ext ?_)
    match a with
    | ⟨0, _⟩ => rfl
    | ⟨1, _⟩ => rfl
    | ⟨2, _⟩ => rfl
    | ⟨3, _⟩ => rfl
  · have e : ridx_main_v142 (ix4 g b s k) d = ix3 g k d := by
      funext a
      match a with
      | ⟨0, _⟩ => rfl
      | ⟨1, _⟩ => rfl
      | ⟨2, _⟩ => rfl
    rw [e]
    pointwise [val_main_v125]
    blk_ext

theorem ref143 : val_main_v143 (F := Ideal) gr sc dy (ix4 b s g k) = dpool gr sc dy b s g k := by
  rw [val_main_v143_apply]
  refine Eq.trans ?_ (ref142 gr sc dy b s g k)
  refine congrArg (val_main_v142 (F := Ideal) gr sc dy) (funext fun a => Fin.ext ?_)
  match a with
  | ⟨0, _⟩ => rfl
  | ⟨1, _⟩ => rfl
  | ⟨2, _⟩ => rfl
  | ⟨3, _⟩ => rfl

theorem ref149 : val_main_v149 (F := Ideal) gr sc dy (ix3 b s k) = dpool gr sc dy b s 0 k := by
  rw [val_main_v149_apply, val_main_v148_apply]; refine Eq.trans ?_ (ref143 gr sc dy b s 0 k); blk_ext
theorem ref151 : val_main_v151 (F := Ideal) gr sc dy (ix3 b s k) = dpool gr sc dy b s 1 k := by
  rw [val_main_v151_apply, val_main_v150_apply]; refine Eq.trans ?_ (ref143 gr sc dy b s 1 k); blk_ext
theorem ref153 : val_main_v153 (F := Ideal) gr sc dy (ix3 b s k) = dpool gr sc dy b s 2 k := by
  rw [val_main_v153_apply, val_main_v152_apply]; refine Eq.trans ?_ (ref143 gr sc dy b s 2 k); blk_ext
theorem ref155 : val_main_v155 (F := Ideal) gr sc dy (ix3 b s k) = dpool gr sc dy b s 3 k := by
  rw [val_main_v155_apply, val_main_v154_apply]; refine Eq.trans ?_ (ref143 gr sc dy b s 3 k); blk_ext

theorem ref182 : val_main_v182 (F := Ideal) (ix3 b s k) = cnt 2#32 s := by
  rw [cnt]
  pointwise [val_main_v182, val_main_v32, val_main_v30, val_main_v29, val_main_v28, val_main_v27, val_main_v26, val_main_v6, val_main_c_6, val_main_c_7]
theorem ref173 : val_main_v173 (F := Ideal) (ix3 b s k) = cnt 4#32 s := by
  rw [cnt]
  pointwise [val_main_v173, val_main_v60, val_main_v58, val_main_v57, val_main_v56, val_main_v55, val_main_v54, val_main_v6, val_main_c_14, val_main_c_15]
theorem ref164 : val_main_v164 (F := Ideal) (ix3 b s k) = cnt 8#32 s := by
  rw [cnt]
  pointwise [val_main_v164, val_main_v88, val_main_v86, val_main_v85, val_main_v84, val_main_v83, val_main_v82, val_main_v6, val_main_c_22, val_main_c_23]
theorem ref156 : val_main_v156 (F := Ideal) (ix3 b s k) = cnt 16#32 s := by
  rw [cnt]
  pointwise [val_main_v156, val_main_v116, val_main_v114, val_main_v113, val_main_v112, val_main_v111, val_main_v110, val_main_v6, val_main_c_30, val_main_c_31]

/-- The gradient by a window's sum. -/
def dmean (s : Fin 2048) : EReal := Ideal.div (dpool gr sc dy b s g k) (cnt (width g) s)

theorem ref183 : val_main_v183 (F := Ideal) gr sc dy (ix3 b s k) = dmean gr sc dy b 0 k s := by
  rw [val_main_v183_apply, ref149, ref182]; rfl
theorem ref174 : val_main_v174 (F := Ideal) gr sc dy (ix3 b s k) = dmean gr sc dy b 1 k s := by
  rw [val_main_v174_apply, ref151, ref173]; rfl
theorem ref165 : val_main_v165 (F := Ideal) gr sc dy (ix3 b s k) = dmean gr sc dy b 2 k s := by
  rw [val_main_v165_apply, ref153, ref164]; rfl
theorem ref157 : val_main_v157 (F := Ideal) gr sc dy (ix3 b s k) = dmean gr sc dy b 3 k s := by
  rw [val_main_v157_apply, ref155, ref156]; rfl

theorem ref184 : val_main_v184 (F := Ideal) gr sc dy (ix3 b s k) = -dmean gr sc dy b 0 k s := by
  rw [val_main_v184_apply, ref183]; rfl
theorem ref175 : val_main_v175 (F := Ideal) gr sc dy (ix3 b s k) = -dmean gr sc dy b 1 k s := by
  rw [val_main_v175_apply, ref174]; rfl
theorem ref166 : val_main_v166 (F := Ideal) gr sc dy (ix3 b s k) = -dmean gr sc dy b 2 k s := by
  rw [val_main_v166_apply, ref165]; rfl
theorem ref158 : val_main_v158 (F := Ideal) gr sc dy (ix3 b s k) = -dmean gr sc dy b 3 k s := by
  rw [val_main_v158_apply, ref157]; rfl

theorem ref188 : val_main_v188 (F := Ideal) gr sc dy (ix4 b s 0 k) = dmean gr sc dy b 0 k s := by
  rw [← ref183]; pointwise [val_main_v188]
theorem ref179 : val_main_v179 (F := Ideal) gr sc dy (ix4 b s 0 k) = dmean gr sc dy b 1 k s := by
  rw [← ref174]; pointwise [val_main_v179]
theorem ref170 : val_main_v170 (F := Ideal) gr sc dy (ix4 b s 0 k) = dmean gr sc dy b 2 k s := by
  rw [← ref165]; pointwise [val_main_v170]
theorem ref161 : val_main_v161 (F := Ideal) gr sc dy (ix4 b s 0 k) = dmean gr sc dy b 3 k s := by
  rw [← ref157]; pointwise [val_main_v161]

end Stage

/-! ## The rows that the sums are scattered to -/

/-- The row word of a position: the position one window back, none below zero. -/
def rowWord (w : BitVec 32) (t : Fin 2048) : BitVec 32 :=
  let x := IntOp.maxsi (IntOp.subi (IntOp.addi (BitVec.ofNat 32 t.val) 1#32) w) 0#32
  Scalar.select (IntOp.cmpi .slt x 0#32) (IntOp.addi x 2049#32) x

/-- The length of a group's window. -/
def span (g : Fin 4) : ℕ := match g with | 0 => 2 | 1 => 4 | 2 => 8 | 3 => 16

theorem rowWord_toInt : ∀ (g : Fin 4) (t : Fin 2048), (rowWord (width g) t).toInt = ((t.val + 1 - span g : ℕ) : ℤ) := by decide +kernel

theorem pair_left (a d : IVec S2048x1 32) (t : Fin 2048) : concatenate S2048x2 1 [⟨S2048x1, a⟩, ⟨S2048x1, d⟩]
    concatenates_S2048x1_S2048x1_S2048x2_d1 (ix2 t 0) = a (ix2 t 0) := by
  pointwise
theorem pair_right (a d : IVec S2048x1 32) (t : Fin 2048) : concatenate S2048x2 1 [⟨S2048x1, a⟩, ⟨S2048x1, d⟩]
    concatenates_S2048x1_S2048x1_S2048x2_d1 (ix2 t 1) = d (ix2 t 0) := by
  pointwise

section Words

variable (t : Fin 2048)

theorem ref24 : (val_main_v24 (F := Ideal) (ix2 t 0)).toInt = ((t.val + 1 - span 0 : ℕ) : ℤ) := by
  rw [← rowWord_toInt, rowWord, width]
  refine congrArg BitVec.toInt ((pair_left _ _ t).trans ?_)
  pointwise [val_main_v22, val_main_v19, val_main_v18, val_main_v17, val_main_v16, val_main_v15, val_main_v14, val_main_v13, val_main_v12, val_main_v11,
    val_main_v10, val_main_v9, val_main_v6, val_main_c, val_main_c_1, val_main_c_2, val_main_c_3, val_main_c_4]
theorem ref24' : (val_main_v24 (F := Ideal) (ix2 t 1)).toInt = ((0 : Fin 4).val : ℤ) := by
  refine (congrArg BitVec.toInt (?_ : _ = 0#32)).trans (by decide)
  refine (pair_right _ _ t).trans ?_
  pointwise [val_main_v23, val_main_v21, val_main_v20, val_main_c_5]
  rfl

theorem ref52 : (val_main_v52 (F := Ideal) (ix2 t 0)).toInt = ((t.val + 1 - span 1 : ℕ) : ℤ) := by
  rw [← rowWord_toInt, rowWord, width]
  refine congrArg BitVec.toInt ((pair_left _ _ t).trans ?_)
  pointwise [val_main_v50, val_main_v47, val_main_v46, val_main_v45, val_main_v44, val_main_v43, val_main_v42, val_main_v41, val_main_v40, val_main_v39,
    val_main_v38, val_main_v37, val_main_v6, val_main_c_8, val_main_c_9, val_main_c_10, val_main_c_11, val_main_c_12]
theorem ref52' : (val_main_v52 (F := Ideal) (ix2 t 1)).toInt = ((1 : Fin 4).val : ℤ) := by
  refine (congrArg BitVec.toInt (?_ : _ = 1#32)).trans (by decide)
  refine (pair_right _ _ t).trans ?_
  pointwise [val_main_v51, val_main_v49, val_main_v48, val_main_c_13]
  rfl

theorem ref80 : (val_main_v80 (F := Ideal) (ix2 t 0)).toInt = ((t.val + 1 - span 2 : ℕ) : ℤ) := by
  rw [← rowWord_toInt, rowWord, width]
  refine congrArg BitVec.toInt ((pair_left _ _ t).trans ?_)
  pointwise [val_main_v78, val_main_v75, val_main_v74, val_main_v73, val_main_v72, val_main_v71, val_main_v70, val_main_v69, val_main_v68, val_main_v67,
    val_main_v66, val_main_v65, val_main_v6, val_main_c_16, val_main_c_17, val_main_c_18, val_main_c_19, val_main_c_20]
theorem ref80' : (val_main_v80 (F := Ideal) (ix2 t 1)).toInt = ((2 : Fin 4).val : ℤ) := by
  refine (congrArg BitVec.toInt (?_ : _ = 2#32)).trans (by decide)
  refine (pair_right _ _ t).trans ?_
  pointwise [val_main_v79, val_main_v77, val_main_v76, val_main_c_21]
  rfl

theorem ref108 : (val_main_v108 (F := Ideal) (ix2 t 0)).toInt = ((t.val + 1 - span 3 : ℕ) : ℤ) := by
  rw [← rowWord_toInt, rowWord, width]
  refine congrArg BitVec.toInt ((pair_left _ _ t).trans ?_)
  pointwise [val_main_v106, val_main_v103, val_main_v102, val_main_v101, val_main_v100, val_main_v99, val_main_v98, val_main_v97, val_main_v96,
    val_main_v95, val_main_v94, val_main_v93, val_main_v6, val_main_c_24, val_main_c_25, val_main_c_26, val_main_c_27, val_main_c_28]
theorem ref108' : (val_main_v108 (F := Ideal) (ix2 t 1)).toInt = ((3 : Fin 4).val : ℤ) := by
  refine (congrArg BitVec.toInt (?_ : _ = 3#32)).trans (by decide)
  refine (pair_right _ _ t).trans ?_
  pointwise [val_main_v107, val_main_v105, val_main_v104, val_main_c_29]
  rfl

end Words

/-! ## The parts of a row -/

/-- A group's scattered sum: at the row after position `s`, the entry one window on. -/
theorem scat (g' : Fin 4) (x : FVec Ideal S2x2049x4x128 .f32) (idx : IVec S2048x2 32) (upd : FVec Ideal S2x2048x128 .f32)
    (hx : ∀ i, x i = (0 : EReal)) (h0 : ∀ t : Fin 2048, (idx (ix2 t 0)).toInt = ((t.val + 1 - span g' : ℕ) : ℤ))
    (h1 : ∀ t : Fin 2048, (idx (ix2 t 1)).toInt = (g'.val : ℤ)) (b : Fin 2) (s : Fin 2048) (g : Fin 4) (k : Fin 128) :
    Host.scatterAdd sd x idx upd (ix4 b ⟨s.val + 1, by omega⟩ g k)
      = if g = g' then from_ (fun t => upd (ix3 b t k)) (s.val + span g') else 0 := by
  rw [scatter_apply, hx, zero_add]
  by_cases hg : g = g'
  · subst hg
    rw [if_pos rfl]
    have hs : 1 ≤ span g := by match g with | 0 => decide | 1 => decide | 2 => decide | 3 => decide
    unfold from_
    split
    · next h =>
      have e : ((s.val + span g + 1 - span g : ℕ) : ℤ) = ((s.val + 1 : ℕ) : ℤ) := by omega
      rw [Finset.sum_eq_single (M := EReal) (⟨s.val + span g, h⟩ : Fin 2048)]
      · rw [if_pos ⟨(h0 _).trans e, h1 _⟩]
      · intro t _ ht
        rw [if_neg]
        rintro ⟨e, _⟩
        rw [h0] at e
        change ((t.val + 1 - span g : ℕ) : ℤ) = ((s.val + 1 : ℕ) : ℤ) at e
        exact ht (Fin.ext (by show t.val = s.val + span g; omega))
      · exact fun h => absurd (Finset.mem_univ _) h
    · next h =>
      refine Finset.sum_eq_zero (M := EReal) fun t _ => ?_
      rw [if_neg]
      rintro ⟨e, _⟩
      rw [h0] at e
      change ((t.val + 1 - span g : ℕ) : ℤ) = ((s.val + 1 : ℕ) : ℤ) at e
      have := t.isLt
      omega
  · rw [if_neg hg]
    refine Finset.sum_eq_zero (M := EReal) fun t _ => ?_
    rw [if_neg]
    rintro ⟨_, e⟩
    rw [h1] at e
    exact hg (Fin.ext (by omega))

/-- A group's entries laid into the table one row down, zeros elsewhere. -/
theorem laid (n : ℕ) (g' : Fin 4) (hn : g'.val = n) (hi : Fin 4 → ℕ) (x : FVec Ideal S2x2048x1x128 .f32) (v : FVec Ideal S_ .f32)
    (hv : ∀ i, v i = (0 : EReal)) (h : S2x2048x1x128.Pads ![0, 1, n, 0] hi ![0, 0, 0, 0] S2x2049x4x128) (hu)
    (b : Fin 2) (s : Fin 2048) (g : Fin 4) (k : Fin 128) :
    pad S2x2049x4x128 ![0, 1, n, 0] hi ![0, 0, 0, 0] x v h hu (ix4 b ⟨s.val + 1, by omega⟩ g k)
      = if g = g' then x (ix4 b s 0 k) else 0 := by
  by_cases hg : g = g'
  · rw [if_pos hg]
    refine pad_apply_of_inside _ _ _ _ _ _ _ _ _ fun a => ?_
    match a with
    | ⟨0, _⟩ => show b.val = 0 + b.val * 1; omega
    | ⟨1, _⟩ => show s.val + 1 = 1 + s.val * 1; omega
    | ⟨2, _⟩ => show g.val = n + 0 * 1; rw [hg, hn]; omega
    | ⟨3, _⟩ => show k.val = 0 + k.val * 1; omega
  · rw [if_neg hg]
    refine (pad_apply_of_not_inside _ _ _ _ _ _ _ _ 2 ?_).trans (hv _)
    rintro ⟨p, _, q⟩
    change n ≤ g.val at p
    change (g.val - n) / 1 < 1 at q
    exact hg (Fin.ext (by omega))

section Rows

variable (b : Fin 2) (s : Fin 2048) (g : Fin 4) (k : Fin 128)

/-- An entry of the table after position `s`. -/
abbrev at_ : S2x2049x4x128.Idx := ix4 b ⟨s.val + 1, by omega⟩ g k

/-- A group's two parts of an entry. -/
def less (g' : Fin 4) : EReal := if g = g' then from_ (fun t => -dmean gr sc dy b g' k t) (s.val + span g') else 0
def own (g' : Fin 4) : EReal := if g = g' then dmean gr sc dy b g' k s else 0

theorem ref186 : val_main_v186 (F := Ideal) gr sc dy (at_ b s g k) = less gr sc dy b s g k 0 := by
  unfold val_main_v186 less
  refine (scat 0 _ _ _ (fun i => ?_) ref24 ref24' b s g k).trans ?_
  · rw [val_main_v185_apply, val_main_cst_40_apply]; exact Reals.lit_zero
  · simp only [ref184]
theorem ref177 : val_main_v177 (F := Ideal) gr sc dy (at_ b s g k) = less gr sc dy b s g k 1 := by
  unfold val_main_v177 less
  refine (scat 1 _ _ _ (fun i => ?_) ref52 ref52' b s g k).trans ?_
  · rw [val_main_v176_apply, val_main_cst_38_apply]; exact Reals.lit_zero
  · simp only [ref175]
theorem ref168 : val_main_v168 (F := Ideal) gr sc dy (at_ b s g k) = less gr sc dy b s g k 2 := by
  unfold val_main_v168 less
  refine (scat 2 _ _ _ (fun i => ?_) ref80 ref80' b s g k).trans ?_
  · rw [val_main_v167_apply, val_main_cst_36_apply]; exact Reals.lit_zero
  · simp only [ref166]
theorem ref160 : val_main_v160 (F := Ideal) gr sc dy (at_ b s g k) = less gr sc dy b s g k 3 := by
  unfold val_main_v160 less
  refine (scat 3 _ _ _ (fun i => ?_) ref108 ref108' b s g k).trans ?_
  · rw [val_main_v159_apply, val_main_cst_34_apply]; exact Reals.lit_zero
  · simp only [ref158]

theorem ref189 : val_main_v189 (F := Ideal) gr sc dy (at_ b s g k) = own gr sc dy b s g k 0 := by
  unfold val_main_v189 own
  refine (laid 0 0 rfl _ _ _ (fun i => ?_) _ _ b s g k).trans ?_
  · rw [val_main_cst_41_apply]; exact Reals.lit_zero
  · rw [ref188]
theorem ref180 : val_main_v180 (F := Ideal) gr sc dy (at_ b s g k) = own gr sc dy b s g k 1 := by
  unfold val_main_v180 own
  refine (laid 1 1 rfl _ _ _ (fun i => ?_) _ _ b s g k).trans ?_
  · rw [val_main_cst_39_apply]; exact Reals.lit_zero
  · rw [ref179]
theorem ref171 : val_main_v171 (F := Ideal) gr sc dy (at_ b s g k) = own gr sc dy b s g k 2 := by
  unfold val_main_v171 own
  refine (laid 2 2 rfl _ _ _ (fun i => ?_) _ _ b s g k).trans ?_
  · rw [val_main_cst_37_apply]; exact Reals.lit_zero
  · rw [ref170]
theorem ref162 : val_main_v162 (F := Ideal) gr sc dy (at_ b s g k) = own gr sc dy b s g k 3 := by
  unfold val_main_v162 own
  refine (laid 3 3 rfl _ _ _ (fun i => ?_) _ _ b s g k).trans ?_
  · rw [val_main_cst_35_apply]; exact Reals.lit_zero
  · rw [ref161]

/-- What the running sum adds at position `s`: its entry less the one a window on. -/
def term : EReal := from_ (fun t => -dmean gr sc dy b g k t) (s.val + span g) + dmean gr sc dy b g k s

theorem ref190 : val_main_v190 (F := Ideal) gr sc dy (at_ b s g k) = term gr sc dy b s g k := by
  rw [val_main_v190_apply, val_main_v187_apply, val_main_v181_apply, val_main_v178_apply, val_main_v172_apply, val_main_v169_apply,
    val_main_v163_apply, ref186, ref177, ref168, ref160, ref189, ref180, ref171, ref162]
  show less gr sc dy b s g k 3 + own gr sc dy b s g k 3 + less gr sc dy b s g k 2 + own gr sc dy b s g k 2 + less gr sc dy b s g k 1
    + own gr sc dy b s g k 1 + less gr sc dy b s g k 0 + own gr sc dy b s g k 0 = term gr sc dy b s g k
  unfold less own term
  match g with
  | 0 => simp
  | 1 => simp
  | 2 => simp
  | 3 => simp

theorem ref192 : val_main_v192 (F := Ideal) gr sc dy (ix4 b s g k) = term gr sc dy b s g k := by
  rw [val_main_v192_apply]
  refine Eq.trans ?_ (ref190 gr sc dy b s g k)
  refine congrArg (val_main_v190 (F := Ideal) gr sc dy) (funext fun a => Fin.ext ?_)
  match a with
  | ⟨0, _⟩ => rfl
  | ⟨1, _⟩ => show 1 + s.val = s.val + 1; omega
  | ⟨2, _⟩ => rfl
  | ⟨3, _⟩ => rfl

/-- The gradient by the channels, as differentiation has it. -/
def duR : EReal := -dpool gr sc dy b s g k + ∑ i : Fin 2048, from_ (fun t => term gr sc dy b t g k) (s.val + i.val)

theorem ref194 : val_main_v194 (F := Ideal) gr sc dy (ix4 b s g k) = duR gr sc dy b s g k := by
  rw [val_main_v194_apply, duR]
  refine congrArg₂ (· + · : EReal → EReal → EReal) ?_ ?_
  · rw [val_main_v147_apply, ref143]; rfl
  · unfold val_main_v193
    refine (cumsum_apply _ _ ?_ _ b s g k).trans ?_
    · rw [val_main_call1_call0_v0_apply]; exact Reals.lit_zero
    · simp only [ref192]

end Rows

theorem ref197 : val_main_v197 (F := Ideal) gr sc dy = fun i : S4096x512.Idx =>
    duR gr sc dy (Reals.bat (i 0)) (Reals.pos (i 0)) (grp (i 1)) (chn (i 1)) := by
  funext i
  rw [val_main_v197_apply]
  refine (show _ = val_main_v196 (F := Ideal) gr sc dy i from rfl).trans ?_
  rw [val_main_v196_apply, val_main_v195_apply]
  refine Eq.trans ?_ (ref194 ..)
  have h0 : (i 0).val < 4096 := (i 0).isLt
  have h1 : (i 1).val < 512 := (i 1).isLt
  blk_ext

/-! ## The gradients by the matrices and the scale -/

abbrev gdot := dot_S4x128x2x2048_S2x2048x4x128_S4x128x128_23_01_1_3_0_2

theorem lhs_0 (i : S4x128x128.Idx) (q : gdot.contr.Idx) : (gdot.lhsIdx i q 0).val = (i 0).val := by
  unfold DotDims.lhsIdx
  rw [dif_pos (show (0 : Fin S4x128x2x2048.rank) ∈ gdot.lhsBatch by decide)]
  rfl
theorem lhs_1 (i : S4x128x128.Idx) (q : gdot.contr.Idx) : (gdot.lhsIdx i q 1).val = (i 1).val := by
  unfold DotDims.lhsIdx
  rw [dif_neg (show ¬(1 : Fin S4x128x2x2048.rank) ∈ gdot.lhsBatch by decide), dif_pos (show (1 : Fin S4x128x2x2048.rank) ∈ gdot.lhsNonContracting by decide)]
  rfl
theorem lhs_2 (i : S4x128x128.Idx) (q : gdot.contr.Idx) : (gdot.lhsIdx i q 2).val = (q ⟨0, by decide⟩).val := by
  unfold DotDims.lhsIdx
  rw [dif_neg (show ¬(2 : Fin S4x128x2x2048.rank) ∈ gdot.lhsBatch by decide), dif_neg (show ¬(2 : Fin S4x128x2x2048.rank) ∈ gdot.lhsNonContracting by decide)]
  rfl
theorem lhs_3 (i : S4x128x128.Idx) (q : gdot.contr.Idx) : (gdot.lhsIdx i q 3).val = (q ⟨1, by decide⟩).val := by
  unfold DotDims.lhsIdx
  rw [dif_neg (show ¬(3 : Fin S4x128x2x2048.rank) ∈ gdot.lhsBatch by decide), dif_neg (show ¬(3 : Fin S4x128x2x2048.rank) ∈ gdot.lhsNonContracting by decide)]
  rfl
theorem rhs_0 (i : S4x128x128.Idx) (q : gdot.contr.Idx) : (gdot.rhsIdx i q 0).val = (q ⟨0, by decide⟩).val := by
  unfold DotDims.rhsIdx
  rw [dif_neg (show ¬(0 : Fin S2x2048x4x128.rank) ∈ gdot.rhsBatch by decide), dif_neg (show ¬(0 : Fin S2x2048x4x128.rank) ∈ gdot.rhsNonContracting by decide)]
  rfl
theorem rhs_1 (i : S4x128x128.Idx) (q : gdot.contr.Idx) : (gdot.rhsIdx i q 1).val = (q ⟨1, by decide⟩).val := by
  unfold DotDims.rhsIdx
  rw [dif_neg (show ¬(1 : Fin S2x2048x4x128.rank) ∈ gdot.rhsBatch by decide), dif_neg (show ¬(1 : Fin S2x2048x4x128.rank) ∈ gdot.rhsNonContracting by decide)]
  rfl
theorem rhs_2 (i : S4x128x128.Idx) (q : gdot.contr.Idx) : (gdot.rhsIdx i q 2).val = (i 0).val := by
  unfold DotDims.rhsIdx
  rw [dif_pos (show (2 : Fin S2x2048x4x128.rank) ∈ gdot.rhsBatch by decide)]
  rfl
theorem rhs_3 (i : S4x128x128.Idx) (q : gdot.contr.Idx) : (gdot.rhsIdx i q 3).val = (i 2).val := by
  unfold DotDims.rhsIdx
  rw [dif_neg (show ¬(3 : Fin S2x2048x4x128.rank) ∈ gdot.rhsBatch by decide), dif_pos (show (3 : Fin S2x2048x4x128.rank) ∈ gdot.rhsNonContracting by decide)]
  rfl

theorem dot_at (y : FVec Ideal S4x128x2x2048 .f32) (z : FVec Ideal S2x2048x4x128 .f32) (g : Fin 4) (d k : Fin 128) :
    Host.dotGeneral (F := Ideal) (φ₁ := .f32) (φ₂ := .f32) gdot none y z (ix3 g d k)
      = ∑ b : Fin 2, ∑ s : Fin 2048, y (ix4 g d b s) * z (ix4 b s g k) := by
  simp only [Host.dotGeneral]
  rw [Ideal.dotGeneral_apply, ValueIdx.sum_contr2 gdot 2 2048 rfl rfl rfl]
  refine Finset.sum_congr (M := EReal) rfl fun b _ => Finset.sum_congr (M := EReal) rfl fun s _ => ?_
  have q0 := ValueIdx.contrEquiv2_symm_val0 gdot 2 2048 rfl rfl rfl (b, s)
  have q1 := ValueIdx.contrEquiv2_symm_val1 gdot 2 2048 rfl rfl rfl (b, s)
  refine congrArg₂ (· * · : EReal → EReal → EReal) (congrArg y (funext fun a => Fin.ext ?_)) (congrArg z (funext fun a => Fin.ext ?_))
  · match a with
    | ⟨0, _⟩ => exact lhs_0 _ _
    | ⟨1, _⟩ => exact lhs_1 _ _
    | ⟨2, _⟩ => exact (lhs_2 _ _).trans q0
    | ⟨3, _⟩ => exact (lhs_3 _ _).trans q1
  · match a with
    | ⟨0, _⟩ => exact (rhs_0 _ _).trans q0
    | ⟨1, _⟩ => exact (rhs_1 _ _).trans q1
    | ⟨2, _⟩ => exact rhs_2 _ _
    | ⟨3, _⟩ => exact rhs_3 _ _

theorem ref144 (g : Fin 4) (d k : Fin 128) : val_main_v144 (F := Ideal) u sc dy (ix3 g d k)
    = ∑ b : Fin 2, ∑ s : Fin 2048, rgrp sc dy (val_main_v124 (F := Ideal) u) b s g k d := by
  unfold val_main_v144
  refine (dot_at _ _ g d k).trans ?_
  refine Finset.sum_congr (M := EReal) rfl fun b _ => Finset.sum_congr (M := EReal) rfl fun s _ => ?_
  rw [ref141, rgrp, mul_comm]

theorem ref198 : val_main_v198 (F := Ideal) u sc dy = fun i : S4x128x128.Idx =>
    ∑ b : Fin 2, ∑ s : Fin 2048, rgrp sc dy (val_main_v124 (F := Ideal) u) b s (i 0) (i 1) (i 2) := by
  funext i
  rw [val_main_v198_apply, val_main_v146_apply, val_main_v145_apply]
  refine Eq.trans ?_ (ref144 u sc dy (i 0) (i 2) (i 1))
  have h0 : (i 0).val < 4 := (i 0).isLt
  have h1 : (i 1).val < 128 := (i 1).isLt
  have h2 : (i 2).val < 128 := (i 2).isLt
  blk_ext

theorem ref133 (b : Fin 2) (s : Fin 2048) (l : Fin 512) : val_main_v133 (F := Ideal) u gr dy (ix3 b s l)
    = rscale dy (val_main_v127 (F := Ideal) u gr) b s (grp l) (chn l) := by
  rw [val_main_v133_apply, val_main_v128_apply, rscale]
  refine (show _ = (_ * _ : EReal) from rfl).trans ((mul_comm _ _).trans ?_)
  have hb := b.isLt
  have hs := s.isLt
  have hl := l.isLt
  refine congrArg₂ (· * · : EReal → EReal → EReal) ?_ ?_
  · refine congrArg dy (congrArg (ix3 b s) (Fin.ext ?_))
    show l.val = l.val / 128 * 128 + l.val % 128
    omega
  · blk_ext

theorem ref134 (l : Fin 512) : val_main_v134 (F := Ideal) u gr dy (ix1 l)
    = ∑ b : Fin 2, ∑ s : Fin 2048, rscale dy (val_main_v127 (F := Ideal) u gr) b s (grp l) (chn l) := by
  unfold val_main_v134
  refine (Reals.hostSum_two _ _ _ _ rfl l).trans ?_
  exact Finset.sum_congr rfl fun b _ => Finset.sum_congr rfl fun s _ => ref133 u gr dy b s l

theorem ref138 (l : Fin 512) : val_main_v138 (F := Ideal) u gr dy (ix1 l) = val_main_v134 (F := Ideal) u gr dy (ix1 l) := by
  unfold val_main_v138
  refine (Reals.hostSum_two _ _ _ _ rfl l).trans ?_
  rw [Fin.sum_univ_one, Fin.sum_univ_one, val_main_v135_apply]
  blk_ext

theorem ref139 : val_main_v139 (F := Ideal) u gr dy = fun i : S1x512.Idx =>
    ∑ b : Fin 2, ∑ s : Fin 2048, rscale dy (val_main_v127 (F := Ideal) u gr) b s (grp (i 1)) (chn (i 1)) := by
  funext i
  rw [val_main_v139_apply]
  refine Eq.trans ?_ ((ref138 u gr dy (i 1)).trans (ref134 u gr dy (i 1)))
  blk_ext

/-! ## The two forms at real arguments -/

/-- The number of positions of a window is a real number and not zero. -/
theorem cnt_real (g : Fin 4) (s : Fin 2048) : ∃ r : ℝ, r ≠ 0 ∧ cnt (width g) s = (r : EReal) := by
  have h : ∀ (g : Fin 4) (s : Fin 2048), (IntOp.minsi (IntOp.addi (BitVec.ofNat 32 s.val) 1#32) (width g)).toInt ≠ 0 := by decide +kernel
  exact ⟨((IntOp.minsi (IntOp.addi (BitVec.ofNat 32 s.val) 1#32) (width g)).toInt : ℝ), Int.cast_ne_zero.2 (h g s), rfl⟩

/-- The doubled steps take the sum over the group's window. -/
theorem wsum_coe (g : Fin 4) (q : Fin 2048 → ℝ) (t : Fin 2048) :
    wsum g (fun s => (q s : EReal)) t = ((∑ i ∈ Finset.range (span g), ext q (t.val + i) : ℝ) : EReal) := by
  have e : (fun s => (q s : EReal)) = fun s : Fin 2048 => ((∑ i ∈ Finset.range 1, ext q (s.val + i) : ℝ) : EReal) := by
    funext s
    rw [Finset.sum_range_one, Nat.add_zero, ext, dif_pos s.isLt]
  have e2 := funext (dbl_coe q 1)
  have e4 := funext (dbl_coe q 2)
  have e8 := funext (dbl_coe q 4)
  have e16 := funext (dbl_coe q 8)
  rw [e]
  match g with
  | 0 => exact congrFun e2 t
  | 1 => show dbl 2 (dbl 1 _) t = _; rw [e2]; exact congrFun e4 t
  | 2 => show dbl 4 (dbl 2 (dbl 1 _)) t = _; rw [e2, e4]; exact congrFun e8 t
  | 3 => show dbl 8 (dbl 4 (dbl 2 (dbl 1 _))) t = _; rw [e2, e4, e8]; exact congrFun e16 t

theorem ext_neg (q : Fin 2048 → ℝ) (n : ℕ) : ext (fun s => -q s) n = -ext q n := by
  unfold ext
  split
  · rfl
  · exact neg_zero.symm

theorem ext_less (q : Fin 2048 → ℝ) (w n : ℕ) : ext (fun s => q s - ext q (s.val + w)) n = ext q n - ext q (n + w) := by
  by_cases h : n < 2048
  · rw [ext, dif_pos h, ext, ext, dif_pos h]
  · rw [ext_zero _ n (by omega), ext_zero q n (by omega), ext_zero q (n + w) (by omega), sub_zero]

section Real

variable (gr : S1x4x128x128.Idx → ℝ) (sc : S1x512.Idx → ℝ) (dy : S2x2048x512.Idx → ℝ) (b : Fin 2) (s : Fin 2048) (g : Fin 4) (k : Fin 128)

theorem dpool_coe : ∃ p : Fin 2048 → ℝ, ∀ t, dpool (Reals.up gr) (Reals.up sc) (Reals.up dy) b t g k = (p t : EReal) :=
  ⟨fun t => ∑ d : Fin 128, dy (ix3 b t (col g d)) * sc (ix2 0 (col g d)) * gr (ix4 0 g k d), fun t => by
    unfold dpool dprod
    simp only [← EReal.coe_mul, Reals.sum_coe]⟩

theorem du_eq : duR (Reals.up gr) (Reals.up sc) (Reals.up dy) b s g k = du (Reals.up gr) (Reals.up sc) (Reals.up dy) b s g k := by
  obtain ⟨p, hp⟩ := dpool_coe gr sc dy b g k
  choose r hr hc using cnt_real g
  have hq : ∀ t, dmean (Reals.up gr) (Reals.up sc) (Reals.up dy) b g k t = ((p t / r t : ℝ) : EReal) := fun t => by
    rw [dmean, hp, hc, Reals.div_coe _ (hr t)]
  have hk : ∀ t, dpool (Reals.up gr) (Reals.up sc) (Reals.up dy) b t g k * Ideal.div 1 (cnt (width g) t) = ((p t / r t : ℝ) : EReal) :=
    fun t => by
      rw [hp, hc, show (1 : EReal) = ((1 : ℝ) : EReal) from rfl, Reals.div_coe _ (hr t), ← EReal.coe_mul, mul_one_div]
  have ht : ∀ t, term (Reals.up gr) (Reals.up sc) (Reals.up dy) b t g k
      = ((p t / r t - ext (fun s => p s / r s) (t.val + span g) : ℝ) : EReal) := fun t => by
    rw [term]
    simp only [hq, ← EReal.coe_neg]
    rw [from_coe, ← EReal.coe_add, ext_neg (fun s => p s / r s)]
    refine congrArg (fun y : ℝ => (y : EReal)) ?_
    ring
  rw [duR, du]
  simp only [ht, hk, from_coe]
  rw [wsum_coe g (fun s => p s / r s), hp]
  simp only [ext_less (fun s => p s / r s)]
  rw [Reals.sum_coe, window_eq (fun s => p s / r s), ← EReal.coe_neg, ← EReal.coe_add, ← EReal.coe_sub]
  refine congrArg (fun y : ℝ => (y : EReal)) ?_
  ring

end Real

end Cert.PoolBwdRefIdeal.Read
end
-- ==== Proof.PoolBwdClaim.lean ====
module

public import proofs.«01_k».proof.Defs
public import proofs.«01_k».proof.Proof.PoolRef
public import proofs.«01_k».proof.Proof.Gen.PoolBwdRefIdeal.Run
public import proofs.«01_k».proof.Proof.Gen.PoolBwd.Frame

@[expose] public section

noncomputable section

namespace Cert.Proof

open Idealize.ShloMosaic Idealize.ShloMosaic.TcCoe Idealize.SL.Sem

instance facts_pool_bwd : Pre_pool_bwd_finite.Facts := by constructor <;> decide

open Pre_pool_bwd_finite in
/-- Arguments that pass the precondition are arrays of real numbers. -/
theorem finite_PoolBwd (x0 : FVec Ideal S2x2048x512 .f32) (x1 : FVec Ideal S1x4x128x128 .f32) (x2 : FVec Ideal S1x512 .f32)
    (x3 : FVec Ideal S2x2048x512 .f32) (h : Pre_pool_bwd_finite.fn (F := Ideal) x0 x1 x2 x3 = fun _ => 1#1) :
    (∃ r, x1 = Reals.up r) ∧ (∃ r, x2 = Reals.up r) ∧ (∃ r, x3 = Reals.up r) := by
  have h1 := congrFun h (fun a => a.elim0)
  unfold Pre_pool_bwd_finite.fn at h1
  obtain ⟨h, h3⟩ := Reals.and_one h1
  obtain ⟨h, h2⟩ := Reals.and_one h
  obtain ⟨h0, h1⟩ := Reals.and_one h
  exact ⟨Reals.real_of_all _ _ _ _ _ _ h1, Reals.real_of_all _ _ _ _ _ _ h2, Reals.real_of_all _ _ _ _ _ _ h3⟩

open Cert.PoolBwdIdeal.Value Cert.PoolBwdRefIdeal.Read in
theorem algebraic_PoolBwd : Cert.algebraic_PoolBwdIdeal_PoolBwdRefIdeal_pre_pool_bwd_finite := by
  intro m g m' g' hpre hagree
  refine ⟨fun c => (Cert.PoolBwdIdeal.Gen.dats m 0 c).arrAt 5 Cert.PoolBwdIdeal.cfg0.N,
    fun c => (Cert.PoolBwdIdeal.Gen.dats m 0 c).arrAt 6 Cert.PoolBwdIdeal.cfg0.N,
    fun c => (Cert.PoolBwdIdeal.Gen.dats m 0 c).arrAt 7 Cert.PoolBwdIdeal.cfg0.N,
    run_blocks m g, θ_run_mono (Cert.PoolBwdRefIdeal.Value.run m' g') fun r hr c => ?_⟩
  obtain ⟨h5, h6, h7, h⟩ := hr c
  obtain ⟨e0, e1, e2, e3⟩ := hagree c
  replace h5 := h5.trans (val_main_v197_eq ..)
  replace h6 := h6.trans (val_main_v198_eq ..)
  replace h7 := h7.trans (val_main_v139_eq ..)
  replace e0 : StableHlo.launchContents m' c (Proc.tc.devRef Cert.PoolBwdRefIdeal.main_arg0) = A0 m c := e0
  replace e1 : StableHlo.launchContents m' c (Proc.tc.devRef Cert.PoolBwdRefIdeal.main_arg1) = A1 m c := e1
  replace e2 : StableHlo.launchContents m' c (Proc.tc.devRef Cert.PoolBwdRefIdeal.main_arg2) = A2 m c := e2
  replace e3 : StableHlo.launchContents m' c (Proc.tc.devRef Cert.PoolBwdRefIdeal.main_arg3) = A3 m c := e3
  rw [e1, e2, e3] at h5
  rw [e0, e2, e3] at h6
  rw [e0, e1, e3] at h7
  refine ⟨h5.trans ((ref197 ..).trans ((?_ : _ = _).trans (final5 m c).symm)),
    h6.trans ((ref198 ..).trans ((?_ : _ = _).trans (final6 m c).symm)),
    h7.trans ((ref139 ..).trans ((?_ : _ = _).trans (final7 m c).symm)), h⟩
  · obtain ⟨⟨x1, h1⟩, ⟨x2, h2⟩, ⟨x3, h3⟩⟩ := finite_PoolBwd _ _ _ _ (hpre c)
    funext i
    change duR (A1 m c) (A2 m c) (A3 m c) _ _ _ _ = du (A1 m c) (A2 m c) (A3 m c) _ _ _ _
    rw [A1, A2, A3, h1, h2, h3]
    exact du_eq ..
  · rw [PL, pooled_eq]
  · rw [PG, pg_eq]

end Cert.Proof
end
-- ==== Proof.MixNorm.lean ====
module

public import proofs.«01_k».proof.Proof.Gen.MixNormBwdIdeal.Value
public import proofs.«01_k».proof.Proof.Rms
public import Idealize.ShloMosaic.Lib.Pipeline.ValueKit
public import Idealize.ShloMosaic.Lib.KernelVsHost
public import proofs.«01_k».proof.Proof.Norm

@[expose] public section

/-! The gradient of the mixers' modulated norm behind three products, with the gated residual before it, as its kernel computes it: per tile, then
per array. -/

set_option maxRecDepth 16384

noncomputable section

open Idealize.ShloMosaic Idealize.ShloMosaic.TcCoe Idealize.SL.Sem
open Idealize.ShloMosaic.Pipeline (Dat)

namespace Cert.MixNormBwdIdeal.Value

open Cert.MixNormBwdIdeal Cert.MixNormBwdIdeal.Gen
open Cert.NormBwdIdeal.Value (xs xhat μ one)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![t.val / 4, 0, 0] ∧ win0_7.index t = ![t.val / 4, 0, 0] ∧ win0_8.index t = ![0, 0] ∧
    win0_9.index t = ![0, 0] ∧ win0_10.index t = ![0, 0] ∧ win0_11.index t = ![0, 0] ∧
    win0_12.index t = ![t.val, 0] ∧ win0_13.index t = ![t.val, 0] ∧ win0_14.index t = ![t.val / 4, 0, 0] ∧
    win0_15.index t = ![t.val / 4, 0, 0] ∧ win0_16.index t = ![t.val / 4, 0, 0] ∧ win0_17.index t = ![0, 0] :=
  (by decide +kernel : ∀ t : Fin grid0.N, _)

/-! ## A tile -/

section Tile

variable (g gm : FVec Ideal S1x1024 .f32) (a b d q : FVec Ideal S512x1024 .f32) (f : FVec Ideal S512x1024 .bf16)
  (u : Vec Ideal S1x1x1024 .f32) (u2 : Vec Ideal S1x1024 .f32) (r : Fin 512) (j : Fin 1024)

theorem pay13_at (l0 : Vec Ideal S512x768 .bf16) (l1 : Vec Ideal S512x512 .bf16) (l2 : Vec Ideal S512x2048 .bf16)
    (w0 : Vec Ideal S768x1024 .bf16) (w1 : Vec Ideal S512x1024 .bf16) (w2 : Vec Ideal S2048x1024 .bf16) :
    k0_pay13 l0 l1 l2 w0 w1 w2 (ix2 r j) = (∑ k : Fin 768, l0 (ix2 r k) * w0 (ix2 k j)) + (∑ k : Fin 512, l1 (ix2 r k) * w1 (ix2 k j))
      + ∑ k : Fin 2048, l2 (ix2 r k) * w2 (ix2 k j) := by
  pointwise [k0_pay13]

theorem pay15_at : k0_pay15 q (ix2 r 0) = Ideal.rsqrt ((∑ k : Fin 1024, q (ix2 r k)) * μ + Rms.eps) := by
  rw [Rms.eps]
  pointwise [k0_pay15]

theorem pay14_at (x : Vec Ideal S512x1024 .f32) : k0_pay14 x (ix2 r j) = x (ix2 r j) * x (ix2 r j) := by
  pointwise [k0_pay14, k0_pay10]

theorem pay16_at : k0_pay16 g d (ix2 r j) = d (ix2 r j) * (one + g (ix2 0 j)) := by
  pointwise [k0_pay16]

theorem pay17_at : k0_pay17 a q (ix2 r j) = a (ix2 r j) * k0_pay15 q (ix2 r 0) := by
  unfold k0_pay17
  generalize k0_pay15 q = i
  pointwise

theorem pay18_at : k0_pay18 g gm a b d q (ix2 r j) = b (ix2 r j) + k0_pay15 q (ix2 r 0) * (k0_pay16 g d (ix2 r j) * gm (ix2 0 j)
    - k0_pay17 a q (ix2 r j) * ((∑ k : Fin 1024, k0_pay16 g d (ix2 r k) * gm (ix2 0 k) * k0_pay17 a q (ix2 r k)) * μ)) := by
  unfold k0_pay18
  generalize k0_pay17 a q = v; generalize k0_pay15 q = i; generalize k0_pay16 g d = e
  pointwise

theorem pay23_at (h : FVec Ideal S1x1024 .f32) : k0_pay23 g h gm a b d q (ix2 r j) = h (ix2 0 j) * k0_pay18 g gm a b d q (ix2 r j) := by
  unfold k0_pay23
  generalize k0_pay18 g gm a b d q = v
  refine (truncf_apply _ _ _ _).trans ?_
  pointwise

theorem pay19_at : k0_pay19 d (ix2 0 j) = ∑ r : Fin 512, d (ix2 r j) := by
  pointwise [k0_pay19]

theorem pay20_at : k0_pay20 gm a d q (ix2 0 j) = ∑ r : Fin 512, d (ix2 r j) * (a (ix2 r j) * k0_pay15 q (ix2 r 0) * gm (ix2 0 j)) := by
  unfold k0_pay20
  generalize k0_pay15 q = i
  pointwise

theorem pay21_at : k0_pay21 g gm a b f d q (ix2 0 j) = ∑ r : Fin 512, k0_pay18 g gm a b d q (ix2 r j) * f (ix2 r j) := by
  unfold k0_pay21
  generalize k0_pay18 g gm a b d q = v
  pointwise

theorem pay22_at : k0_pay22 g a d q (ix2 0 j) = ∑ r : Fin 512, k0_pay16 g d (ix2 r j) * k0_pay17 a q (ix2 r j) := by
  unfold k0_pay22
  generalize k0_pay17 a q = v; generalize k0_pay16 g d = e
  pointwise

theorem pay1_at : k0_pay1 g (ix3 0 0 j) = g (ix2 0 j) := by
  pointwise [k0_pay1]

theorem pay2_at : k0_pay2 g u (ix3 0 0 j) = u (ix3 0 0 j) + g (ix2 0 j) := by
  pointwise [k0_pay2]

theorem pay3_at : k0_pay3 g (ix3 0 0 j) = g (ix2 0 j) := by
  pointwise [k0_pay3]

theorem pay4_at : k0_pay4 g u (ix3 0 0 j) = u (ix3 0 0 j) + g (ix2 0 j) := by
  pointwise [k0_pay4]

theorem pay5_at : k0_pay5 g (ix3 0 0 j) = g (ix2 0 j) := by
  pointwise [k0_pay5]

theorem pay6_at : k0_pay6 g u (ix3 0 0 j) = u (ix3 0 0 j) + g (ix2 0 j) := by
  pointwise [k0_pay6]

theorem pay7_at : k0_pay7 g u2 (ix2 0 j) = u2 (ix2 0 j) + g (ix2 0 j) := by
  pointwise [k0_pay7]

end Tile

/-- The three kinds of grid point: the first of all, a later tile of a sequence, the first tile of a later sequence. -/
theorem kinds : ∀ t : Fin cfg0.N, (t.val % 4 = 0 ∧ ¬1 ≤ t.val % 4 ∧ t.val % 8 = 0 ∧ ¬1 ≤ t.val)
    ∨ (¬t.val % 4 = 0 ∧ 1 ≤ t.val % 4 ∧ ¬t.val % 8 = 0 ∧ 1 ≤ t.val)
    ∨ (t.val % 4 = 0 ∧ ¬1 ≤ t.val % 4 ∧ ¬t.val % 8 = 0 ∧ 1 ≤ t.val) :=
  (by decide +kernel : ∀ t : Fin grid0.N, _)

section Entry

variable (m : (ℓ : Loc nD τ sig) → Buf (Elt Ideal) ℓ) (c : Dev nD) (t : Fin cfg0.N)

abbrev A0 : FVec Ideal S2x2048x1024 .f32 := m ((c : Thread nD τ).loc main_arg0)
abbrev A1 : FVec Ideal S2x2048x1024 .f32 := m ((c : Thread nD τ).loc main_arg1)
abbrev A2 : FVec Ideal S2x1024 .f32 := m ((c : Thread nD τ).loc main_arg2)
abbrev A4 : FVec Ideal S2x1024 .f32 := m ((c : Thread nD τ).loc main_arg4)
abbrev A5 : FVec Ideal S1x1024 .f32 := m ((c : Thread nD τ).loc main_arg5)
abbrev A6 : FVec Ideal S1x1024x3232 .f32 := m ((c : Thread nD τ).loc main_arg6)
abbrev A7 : FVec Ideal S2x2048x3232 .f32 := m ((c : Thread nD τ).loc main_arg7)
abbrev A8 : FVec Ideal S2x2048x1024 .f32 := m ((c : Thread nD τ).loc main_arg8)

theorem tlt : t.val < 8 := lt_of_lt_of_eq t.isLt N_0

/-- The sequence and the position that row `r` of tile `t` belongs to. -/
abbrev sb : Fin 2 := ⟨t.val / 4, by have := tlt t; omega⟩
abbrev sr (r : Fin 512) : Fin 2048 := ⟨t.val % 4 * 512 + r, by omega⟩
abbrev row (r : Fin 512) : Fin 4096 := ⟨t.val * 512 + r, by have := tlt t; omega⟩

/-- The padded slab's column `k`, out of an array's columns: the latents', a gap, the rotary key's, a gap. -/
def slab (g : Fin 3232 → EReal) (k : Fin 768) : EReal :=
  if h : k.val < 640 then g ⟨512 + k.val, by omega⟩ else if h : 704 ≤ k.val ∧ k.val < 736 then g ⟨1152 + (k.val - 704), by omega⟩ else 0

/-- The columns of the weight that the pooling and the gates have. -/
abbrev poolCol (k : Fin 512) : Fin 3232 := ⟨k.val, by omega⟩
abbrev gateCol (k : Fin 2048) : Fin 3232 := ⟨1184 + k.val, by omega⟩

/-- Four arrays laid one under the other, at 4096 columns. -/
def stackG (a : FVec Ideal S640x4096 .f32) (b : FVec Ideal S64x4096 .f32) (d e : FVec Ideal S32x4096 .f32) : FVec Ideal S768x4096 .f32 :=
  concatenate S768x4096 0 [⟨S640x4096, a⟩, ⟨S64x4096, b⟩, ⟨S32x4096, d⟩, ⟨S32x4096, e⟩]
    concatenates_S640x4096_S64x4096_S32x4096_S32x4096_S768x4096_d0

/-- An array's rows of the latents and of the rotary key, each with its gap of zeros. -/
abbrev slabG (a : FVec Ideal S3232x4096 .f32) : FVec Ideal S768x4096 .f32 :=
  stackG (extractStridedSlice S640x4096 ![512, 0] a slices_S3232x4096_S640x4096_512_0)
    (broadcastInDim S64x4096 ![] bcast_S_S64x4096 (constant S_ .f32 0x00000000#32))
    (extractStridedSlice S32x4096 ![1152, 0] a slices_S3232x4096_S32x4096_1152_0)
    (broadcastInDim S32x4096 ![] bcast_S_S32x4096 (constant S_ .f32 0x00000000#32))

theorem slabG_at (a : FVec Ideal S3232x4096 .f32) (k : Fin 768) (j : Fin 4096) : slabG a (ix2 k j) = slab (fun l => a (ix2 l j)) k := by
  pointwise [stackG]
  unfold slab
  by_cases h : k.val < 640
  · simp only [h, ↓reduceDIte]
  · by_cases h' : 704 ≤ k.val ∧ k.val < 736
    · have c1 : ¬k.val - 640 < 64 := by omega
      have c2 : k.val - 640 - 64 < 32 := by omega
      simp only [h, h', c1, c2, and_self, ↓reduceDIte]
      congr 2
    · by_cases c1 : k.val - 640 < 64
      · simp only [h, h', c1, ↓reduceDIte]
      · have c2 : ¬k.val - 640 - 64 < 32 := by omega
        simp only [h, h', c1, c2, ↓reduceDIte]

set_option maxRecDepth 100000 in
set_option maxHeartbeats 4000000 in
theorem v11_eq : (V m c main_v11 : FVec Ideal S768x4096 .f32) = slabG (V m c main_v6 : FVec Ideal S3232x4096 .f32) := by
  unfold V hostOps0
  simp only [StableHlo.after_cons, StableHlo.after_nil]
  simp (disch := decide) only [StableHlo.nullary_result_ne', StableHlo.unary_result_ne', StableHlo.reshape_result_ne', StableHlo.nary_result_ne']
  refine (StableHlo.nary_result _ _ _ _ _ _).trans ?_
  refine (show _ = stackG _ _ _ _ from rfl).trans ?_
  congr 1
  all_goals after_results_simp

/-- Four arrays laid one under the other, at 1024 columns. -/
def stackW (a : FVec Ideal S640x1024 .f32) (b : FVec Ideal S64x1024 .f32) (d e : FVec Ideal S32x1024 .f32) : FVec Ideal S768x1024 .f32 :=
  concatenate S768x1024 0 [⟨S640x1024, a⟩, ⟨S64x1024, b⟩, ⟨S32x1024, d⟩, ⟨S32x1024, e⟩]
    concatenates_S640x1024_S64x1024_S32x1024_S32x1024_S768x1024_d0

/-- An array's rows of the latents and of the rotary key, each with its gap of zeros. -/
abbrev slabW (a : FVec Ideal S3232x1024 .f32) : FVec Ideal S768x1024 .f32 :=
  stackW (extractStridedSlice S640x1024 ![512, 0] a slices_S3232x1024_S640x1024_512_0)
    (broadcastInDim S64x1024 ![] bcast_S_S64x1024 (constant S_ .f32 0x00000000#32))
    (extractStridedSlice S32x1024 ![1152, 0] a slices_S3232x1024_S32x1024_1152_0)
    (broadcastInDim S32x1024 ![] bcast_S_S32x1024 (constant S_ .f32 0x00000000#32))

theorem slabW_at (a : FVec Ideal S3232x1024 .f32) (k : Fin 768) (j : Fin 1024) : slabW a (ix2 k j) = slab (fun l => a (ix2 l j)) k := by
  pointwise [stackW]
  unfold slab
  by_cases h : k.val < 640
  · simp only [h, ↓reduceDIte]
  · by_cases h' : 704 ≤ k.val ∧ k.val < 736
    · have c1 : ¬k.val - 640 < 64 := by omega
      have c2 : k.val - 640 - 64 < 32 := by omega
      simp only [h, h', c1, c2, and_self, ↓reduceDIte]
      congr 2
    · by_cases c1 : k.val - 640 < 64
      · simp only [h, h', c1, ↓reduceDIte]
      · have c2 : ¬k.val - 640 - 64 < 32 := by omega
        simp only [h, h', c1, c2, ↓reduceDIte]

set_option maxRecDepth 100000 in
set_option maxHeartbeats 4000000 in
theorem v26_eq : (V m c main_v26 : FVec Ideal S768x1024 .f32) = slabW (V m c main_v21 : FVec Ideal S3232x1024 .f32) := by
  unfold V hostOps0
  simp only [StableHlo.after_cons, StableHlo.after_nil]
  simp (disch := decide) only [StableHlo.nullary_result_ne', StableHlo.unary_result_ne', StableHlo.reshape_result_ne', StableHlo.nary_result_ne']
  refine (StableHlo.nary_result _ _ _ _ _ _).trans ?_
  refine (show _ = stackW _ _ _ _ from rfl).trans ?_
  congr 1
  all_goals after_results_simp

set_option maxRecDepth 100000 in
set_option maxHeartbeats 4000000 in
theorem v29_eq : (V m c main_v29 : FVec Ideal S768x1024 .bf16)
    = truncf (F := Ideal) (s := S768x1024) .bf16 (V m c main_v26 : FVec Ideal S768x1024 .f32) bitsLt_bf16_f32 := by
  unfold V hostOps0
  simp only [StableHlo.after_cons, StableHlo.after_nil]
  simp (disch := decide) only [StableHlo.nullary_result_ne', StableHlo.unary_result_ne', StableHlo.reshape_result_ne', StableHlo.unary_result']

set_option maxRecDepth 100000 in
set_option maxHeartbeats 4000000 in
theorem v15_eq : (V m c main_v15 : FVec Ideal S4096x768 .bf16)
    = truncf (F := Ideal) (s := S4096x768) .bf16 (transpose S4096x768 [1, 0] (V m c main_v11 : FVec Ideal S768x4096 .f32) transposes_S768x4096_S4096x768_1_0) bitsLt_bf16_f32 := by
  unfold V hostOps0
  simp only [StableHlo.after_cons, StableHlo.after_nil]
  simp (disch := decide) only [StableHlo.nullary_result_ne', StableHlo.unary_result_ne', StableHlo.reshape_result_ne', StableHlo.unary_result', StableHlo.nary_result_ne']

theorem v29_at (k : Fin 768) (j : Fin 1024) : (V m c main_v29 : FVec Ideal S768x1024 .bf16) (ix2 k j)
    = slab (fun l => (V m c main_v21 : FVec Ideal S3232x1024 .f32) (ix2 l j)) k := by
  rw [v29_eq m c, v26_eq m c]
  generalize (V m c main_v21 : FVec Ideal S3232x1024 .f32) = a
  exact (truncf_apply _ _ _ _).trans (slabW_at a k j)

theorem v15_at (i : Fin 4096) (k : Fin 768) : (V m c main_v15 : FVec Ideal S4096x768 .bf16) (ix2 i k)
    = slab (fun l => (V m c main_v6 : FVec Ideal S3232x4096 .f32) (ix2 l i)) k := by
  rw [v15_eq m c, v11_eq m c]
  generalize (V m c main_v6 : FVec Ideal S3232x4096 .f32) = a
  refine (truncf_apply _ _ _ _).trans (Eq.trans ?_ (slabG_at a k i))
  generalize slabG a = q
  pointwise

theorem blk0 (r : Fin 512) (k : Fin 768) : (iblk m c 0 t : Vec Ideal S512x768 .bf16) (ix2 r k) = slab (fun l => A7 m c (ix3 (sb t) (sr t r) l)) k := by
  have e : ∀ l : Fin 3232, (V m c main_v6 : FVec Ideal S3232x4096 .f32) (ix2 l (row t r)) = A7 m c (ix3 (sb t) (sr t r) l) := fun l => by
    entry_read
    pointwise
    blk_ext
  have e' := v15_at m c (row t r) k
  rw [show (fun l => (V m c main_v6 : FVec Ideal S3232x4096 .f32) (ix2 l (row t r))) = _ from funext e] at e'
  refine Eq.trans ?_ e'
  generalize hq : (V m c main_v15 : FVec Ideal S4096x768 .bf16) = q
  rw [iblk, show V m c (Pipeline.arrRef spec0 0) = q from hq]
  blk_ext [idx t]

theorem blk1 (r : Fin 512) (k : Fin 512) : (iblk m c 1 t : Vec Ideal S512x512 .bf16) (ix2 r k) = A7 m c (ix3 (sb t) (sr t r) (poolCol k)) := by
  have e : (V m c main_v17 : FVec Ideal S4096x512 .bf16) (ix2 (row t r) k) = A7 m c (ix3 (sb t) (sr t r) (poolCol k)) := by
    entry_read
    pointwise
    blk_ext
  rw [← e]; blk_ext [iblk, idx t]

theorem blk2 (r : Fin 512) (k : Fin 2048) : (iblk m c 2 t : Vec Ideal S512x2048 .bf16) (ix2 r k) = A7 m c (ix3 (sb t) (sr t r) (gateCol k)) := by
  have e : (V m c main_v19 : FVec Ideal S4096x2048 .bf16) (ix2 (row t r) k) = A7 m c (ix3 (sb t) (sr t r) (gateCol k)) := by
    entry_read
    pointwise
    blk_ext
  rw [← e]; blk_ext [iblk, idx t]

theorem blk3 (r : Fin 512) (k : Fin 1024) : (iblk m c 3 t : Vec Ideal S512x1024 .f32) (ix2 r k) = A0 m c (ix3 (sb t) (sr t r) k) + A2 m c (ix2 (sb t) k) * A1 m c (ix3 (sb t) (sr t r) k) := by
  have e : (V m c main_v32 : FVec Ideal S4096x1024 .f32) (ix2 (row t r) k) = A0 m c (ix3 (sb t) (sr t r) k) + A2 m c (ix2 (sb t) k) * A1 m c (ix3 (sb t) (sr t r) k) := by
    entry_read
    pointwise
    refine congrArg₂ (· + · : EReal → EReal → EReal) (by blk_ext) (congrArg₂ (· * · : EReal → EReal → EReal) (by blk_ext) (by blk_ext))
  rw [← e]; blk_ext [iblk, idx t]

theorem blk4 (r : Fin 512) (k : Fin 1024) : (iblk m c 4 t : Vec Ideal S512x1024 .f32) (ix2 r k) = A8 m c (ix3 (sb t) (sr t r) k) := by
  have e : (V m c main_v33 : FVec Ideal S4096x1024 .f32) (ix2 (row t r) k) = A8 m c (ix3 (sb t) (sr t r) k) := by
    entry_read
    pointwise
    blk_ext
  rw [← e]; blk_ext [iblk, idx t]

theorem blk5 (r : Fin 512) (k : Fin 1024) : (iblk m c 5 t : Vec Ideal S512x1024 .bf16) (ix2 r k) = A1 m c (ix3 (sb t) (sr t r) k) := by
  have e : (V m c main_v35 : FVec Ideal S4096x1024 .bf16) (ix2 (row t r) k) = A1 m c (ix3 (sb t) (sr t r) k) := by
    entry_read
    pointwise
    blk_ext
  rw [← e]; blk_ext [iblk, idx t]

theorem blk6 (k : Fin 1024) : (iblk m c 6 t : Vec Ideal S1x1x1024 .f32) (ix3 0 0 k) = A4 m c (ix2 (sb t) k) := by
  have e : (V m c main_v4 : FVec Ideal S2x1x1024 .f32) (ix3 (sb t) 0 k) = A4 m c (ix2 (sb t) k) := by
    entry_read
    pointwise
    blk_ext
  rw [← e]; blk_ext [iblk, idx t]

theorem blk7 (k : Fin 1024) : (iblk m c 7 t : Vec Ideal S1x1x1024 .f32) (ix3 0 0 k) = A2 m c (ix2 (sb t) k) := by
  have e : (V m c main_v36 : FVec Ideal S2x1x1024 .f32) (ix3 (sb t) 0 k) = A2 m c (ix2 (sb t) k) := by
    entry_read
    pointwise
    blk_ext
  rw [← e]; blk_ext [iblk, idx t]

theorem blk8 (k : Fin 1024) : (iblk m c 8 t : Vec Ideal S1x1024 .f32) (ix2 0 k) = A5 m c (ix2 0 k) := by
  have e : (V m c main_arg5 : FVec Ideal S1x1024 .f32) (ix2 0 k) = A5 m c (ix2 0 k) := by
    entry_read
    rfl
  rw [← e]; blk_ext [iblk, idx t]

theorem blk9 (k : Fin 768) (j : Fin 1024) : (iblk m c 9 t : Vec Ideal S768x1024 .bf16) (ix2 k j) = slab (fun l => A6 m c (ix3 0 j l)) k := by
  have e : ∀ l : Fin 3232, (V m c main_v21 : FVec Ideal S3232x1024 .f32) (ix2 l j) = A6 m c (ix3 0 j l) := fun l => by
    entry_read
    pointwise
    blk_ext
  have e' := v29_at m c k j
  rw [show (fun l => (V m c main_v21 : FVec Ideal S3232x1024 .f32) (ix2 l j)) = _ from funext e] at e'
  refine Eq.trans ?_ e'
  generalize hq : (V m c main_v29 : FVec Ideal S768x1024 .bf16) = q
  rw [iblk, show V m c (Pipeline.arrRef spec0 9) = q from hq]
  blk_ext [idx t]

theorem blk10 (k : Fin 512) (j : Fin 1024) : (iblk m c 10 t : Vec Ideal S512x1024 .bf16) (ix2 k j) = A6 m c (ix3 0 j (poolCol k)) := by
  have e : (V m c main_v30 : FVec Ideal S512x1024 .bf16) (ix2 k j) = A6 m c (ix3 0 j (poolCol k)) := by
    entry_read
    pointwise
    blk_ext
  rw [← e]; blk_ext [iblk, idx t]

theorem blk11 (k : Fin 2048) (j : Fin 1024) : (iblk m c 11 t : Vec Ideal S2048x1024 .bf16) (ix2 k j) = A6 m c (ix3 0 j (gateCol k)) := by
  have e : (V m c main_v31 : FVec Ideal S2048x1024 .bf16) (ix2 k j) = A6 m c (ix3 0 j (gateCol k)) := by
    entry_read
    pointwise
    blk_ext
  rw [← e]; blk_ext [iblk, idx t]

end Entry

/-- The sum over the weight's columns, taken in the three parts the kernel has: the two gaps add nothing. -/
theorem sum_cols (g : Fin 3232 → EReal) : (∑ k : Fin 768, slab g k) + (∑ k : Fin 512, g (poolCol k)) + ∑ k : Fin 2048, g (gateCol k)
    = ∑ l : Fin 3232, g l := by
  let G : ℕ → EReal := fun n => if h : n < 3232 then g ⟨n, h⟩ else 0
  have hg : ∀ l : Fin 3232, g l = G l.val := fun l => by simp only [G, l.isLt, ↓reduceDIte]
  have e1 : ∑ k : Fin 768, slab g k = (∑ n ∈ Finset.range 640, G (512 + n)) + ∑ n ∈ Finset.range 32, G (1152 + n) := by
    let H : ℕ → EReal := fun n => if n < 640 then G (512 + n) else if 704 ≤ n ∧ n < 736 then G (1152 + (n - 704)) else 0
    have hs : ∀ k : Fin 768, slab g k = H k.val := fun k => by
      unfold slab
      by_cases h : k.val < 640
      · simp only [H, h, ↓reduceDIte, ↓reduceIte, hg]
      · by_cases h' : 704 ≤ k.val ∧ k.val < 736
        · simp only [H, h, h', and_self, ↓reduceDIte, ↓reduceIte, hg]
        · simp only [H, h, h', ↓reduceDIte, ↓reduceIte]
    rw [Finset.sum_congr (M := EReal) rfl fun k _ => hs k, Fin.sum_univ_eq_sum_range H 768,
      show 768 = 640 + (64 + (32 + 32)) from rfl, Finset.sum_range_add (M := EReal), Finset.sum_range_add (M := EReal),
      Finset.sum_range_add (M := EReal)]
    have h0 : ∑ n ∈ Finset.range 640, H n = ∑ n ∈ Finset.range 640, G (512 + n) := Finset.sum_congr (M := EReal) rfl fun n hn => by
      have := Finset.mem_range.1 hn
      simp only [H, this, ↓reduceIte]
    have h1 : ∑ n ∈ Finset.range 64, H (640 + n) = 0 := Finset.sum_eq_zero (M := EReal) fun n hn => by
      have := Finset.mem_range.1 hn
      have c1 : ¬640 + n < 640 := by omega
      have c2 : ¬(704 ≤ 640 + n ∧ 640 + n < 736) := by omega
      simp only [H, c1, c2, ↓reduceIte]
    have h2 : ∑ n ∈ Finset.range 32, H (640 + (64 + n)) = ∑ n ∈ Finset.range 32, G (1152 + n) := Finset.sum_congr (M := EReal) rfl fun n hn => by
      have := Finset.mem_range.1 hn
      have c1 : ¬640 + (64 + n) < 640 := by omega
      have c2 : 704 ≤ 640 + (64 + n) ∧ 640 + (64 + n) < 736 := by omega
      have c3 : 1152 + (640 + (64 + n) - 704) = 1152 + n := by omega
      simp only [H, c1, c2, c3, and_self, ↓reduceIte]
    have h3 : ∑ n ∈ Finset.range 32, H (640 + (64 + (32 + n))) = 0 := Finset.sum_eq_zero (M := EReal) fun n hn => by
      have := Finset.mem_range.1 hn
      have c1 : ¬640 + (64 + (32 + n)) < 640 := by omega
      have c2 : ¬(704 ≤ 640 + (64 + (32 + n)) ∧ 640 + (64 + (32 + n)) < 736) := by omega
      simp only [H, c1, c2, ↓reduceIte]
    rw [h0, h1, h2, h3, zero_add, add_zero]
  rw [e1, Finset.sum_congr (M := EReal) rfl fun l _ => hg l, Fin.sum_univ_eq_sum_range G 3232,
    Finset.sum_congr (M := EReal) rfl fun k _ => hg (poolCol k), Fin.sum_univ_eq_sum_range G 512,
    Finset.sum_congr (M := EReal) rfl fun k _ => hg (gateCol k), Fin.sum_univ_eq_sum_range (fun n => G (1184 + n)) 2048,
    show 3232 = 512 + (640 + (32 + 2048)) from rfl, Finset.sum_range_add (M := EReal), Finset.sum_range_add (M := EReal),
    Finset.sum_range_add (M := EReal)]
  have h4 : ∀ n, G (512 + (640 + n)) = G (1152 + n) := fun n => congrArg G (by omega)
  have h5 : ∀ n, G (512 + (640 + (32 + n))) = G (1184 + n) := fun n => congrArg G (by omega)
  simp only [h5]
  simp only [h4]
  generalize (∑ n ∈ Finset.range 640, G (512 + n) : EReal) = a
  generalize (∑ n ∈ Finset.range 32, G (1152 + n) : EReal) = b
  generalize (∑ n ∈ Finset.range 512, G n : EReal) = d
  generalize (∑ n ∈ Finset.range 2048, G (1184 + n) : EReal) = e
  rw [add_comm (a + b) d, add_assoc, add_assoc]

theorem slab_mul (f g : Fin 3232 → EReal) (k : Fin 768) : slab f k * slab g k = slab (fun l => f l * g l) k := by
  unfold slab
  by_cases h : k.val < 640
  · simp only [h, ↓reduceDIte]
  · by_cases h' : 704 ≤ k.val ∧ k.val < 736
    · simp only [h, h', and_self, ↓reduceDIte]
    · simp only [h, h', ↓reduceDIte]
      exact zero_mul (M₀ := EReal) _

/-! ## The results in the arguments -/

section Forms

variable (res f : FVec Ideal S2x2048x1024 .f32) (ga sc : FVec Ideal S2x1024 .f32) (gm : FVec Ideal S1x1024 .f32)
  (w : FVec Ideal S1x1024x3232 .f32) (dgu : FVec Ideal S2x2048x3232 .f32) (dx : FVec Ideal S2x2048x1024 .f32) (b : Fin 2) (s : Fin 2048)

/-- The gradient by the modulated norm: the cotangent times the transposed weight, over all its columns. -/
def dh (j : Fin 1024) : EReal := ∑ k : Fin 3232, dgu (ix3 b s k) * w (ix3 0 j k)

/-- The gradient by the gained row, and by the normalised row. -/
def dn (j : Fin 1024) : EReal := dh w dgu b s j * (one + sc (ix2 b j))
def dw (j : Fin 1024) : EReal := dn sc w dgu b s j * gm (ix2 0 j)

/-- The gradient by the residual. -/
def dres (j : Fin 1024) : EReal := dx (ix3 b s j) + Rms.grad (xs res f ga b s) (dw sc gm w dgu b s) μ j

/-- The gradient by the branch. -/
def df (j : Fin 1024) : EReal := ga (ix2 b j) * dres res f ga sc gm w dgu dx b s j

/-- The gradients by the modulation's shift and scale, by the gate and by the gain, of one row. -/
def rscale (j : Fin 1024) : EReal := dh w dgu b s j * (xhat res f ga b s j * gm (ix2 0 j))
def rgate (j : Fin 1024) : EReal := dres res f ga sc gm w dgu dx b s j * f (ix3 b s j)
def rgain (j : Fin 1024) : EReal := dn sc w dgu b s j * xhat res f ga b s j

end Forms

variable (m : (ℓ : Loc nD τ sig) → Buf (Elt Ideal) ℓ) (c : Dev nD)

section Point

variable (t : Fin cfg0.N) (r : Fin 512)

/-- The tile's gradient by the modulated norm. -/
abbrev D : FVec Ideal S512x1024 .f32 :=
  k0_pay13 (iblk m c 0 t) (iblk m c 1 t) (iblk m c 2 t) (iblk m c 9 t) (iblk m c 10 t) (iblk m c 11 t)

theorem dh_blk (j : Fin 1024) : D m c t (ix2 r j) = dh (A6 m c) (A7 m c) (sb t) (sr t r) j := by
  rw [D, pay13_at, dh, ← sum_cols]
  refine congrArg₂ (· + · : EReal → EReal → EReal) (congrArg₂ (· + · : EReal → EReal → EReal) ?_ ?_) ?_
  · exact Finset.sum_congr rfl fun k _ => by rw [blk0, blk9, slab_mul]
  · exact Finset.sum_congr rfl fun k _ => by rw [blk1, blk10]
  · exact Finset.sum_congr rfl fun k _ => by rw [blk2, blk11]

theorem x_blk (j : Fin 1024) : k0_pay10 (iblk m c 3 t) (ix2 r j) = xs (A0 m c) (A1 m c) (A2 m c) (sb t) (sr t r) j := by
  refine Eq.trans ?_ (blk3 m c t r j)
  pointwise [k0_pay10]

theorem inv_blk : k0_pay15 (k0_pay14 (iblk m c 3 t)) (ix2 r 0) = Rms.inv (xs (A0 m c) (A1 m c) (A2 m c) (sb t) (sr t r)) μ := by
  rw [pay15_at, Rms.inv]
  refine congrArg (fun q : EReal => Ideal.rsqrt (q * μ + Rms.eps)) (Finset.sum_congr (M := EReal) rfl fun k _ => ?_)
  rw [pay14_at, blk3, xs]

theorem dn_blk (j : Fin 1024) : k0_pay16 (k0_pay8 (iblk m c 6 t)) (D m c t) (ix2 r j) = dn (A4 m c) (A6 m c) (A7 m c) (sb t) (sr t r) j := by
  have e : k0_pay8 (iblk m c 6 t) (ix2 0 j) = A4 m c (ix2 (sb t) j) := by
    refine Eq.trans ?_ (blk6 m c t j)
    pointwise [k0_pay8]
  rw [pay16_at, dh_blk, e, dn]

theorem xhat_blk (j : Fin 1024) : k0_pay17 (k0_pay10 (iblk m c 3 t)) (k0_pay14 (iblk m c 3 t)) (ix2 r j) = xhat (A0 m c) (A1 m c) (A2 m c) (sb t) (sr t r) j := by
  rw [pay17_at, x_blk, inv_blk, xhat]

/-- The tile's gradients by the residual and by the branch, and its column sums. -/
abbrev P12 : FVec Ideal S512x1024 .f32 := k0_pay18 (k0_pay8 (iblk m c 6 t)) (iblk m c 8 t) (k0_pay10 (iblk m c 3 t))
  (k0_pay11 (iblk m c 4 t)) (D m c t) (k0_pay14 (iblk m c 3 t))
abbrev P13 : FVec Ideal S512x1024 .bf16 := k0_pay23 (k0_pay8 (iblk m c 6 t)) (k0_pay9 (iblk m c 7 t)) (iblk m c 8 t)
  (k0_pay10 (iblk m c 3 t)) (k0_pay11 (iblk m c 4 t)) (D m c t) (k0_pay14 (iblk m c 3 t))
abbrev P14 : FVec Ideal S1x1024 .f32 := k0_pay19 (D m c t)
abbrev P15 : FVec Ideal S1x1024 .f32 := k0_pay20 (iblk m c 8 t) (k0_pay10 (iblk m c 3 t)) (D m c t) (k0_pay14 (iblk m c 3 t))
abbrev P16 : FVec Ideal S1x1024 .f32 := k0_pay21 (k0_pay8 (iblk m c 6 t)) (iblk m c 8 t) (k0_pay10 (iblk m c 3 t))
  (k0_pay11 (iblk m c 4 t)) (k0_pay12 (iblk m c 5 t)) (D m c t) (k0_pay14 (iblk m c 3 t))
abbrev P17 : FVec Ideal S1x1024 .f32 := k0_pay22 (k0_pay8 (iblk m c 6 t)) (k0_pay10 (iblk m c 3 t)) (D m c t) (k0_pay14 (iblk m c 3 t))

theorem pt12 (j : Fin 1024) : P12 m c t (ix2 r j)
    = dres (A0 m c) (A1 m c) (A2 m c) (A4 m c) (A5 m c) (A6 m c) (A7 m c) (A8 m c) (sb t) (sr t r) j := by
  have e : k0_pay11 (iblk m c 4 t) (ix2 r j) = A8 m c (ix3 (sb t) (sr t r) j) := by
    refine Eq.trans ?_ (blk4 m c t r j)
    pointwise [k0_pay11]
  rw [P12, pay18_at, e, dres, Rms.grad]
  simp only [dn_blk, blk8, xhat_blk, inv_blk, xhat, dw]

theorem pt13 (j : Fin 1024) : P13 m c t (ix2 r j)
    = df (A0 m c) (A1 m c) (A2 m c) (A4 m c) (A5 m c) (A6 m c) (A7 m c) (A8 m c) (sb t) (sr t r) j := by
  have e : k0_pay9 (iblk m c 7 t) (ix2 0 j) = A2 m c (ix2 (sb t) j) := by
    refine Eq.trans ?_ (blk7 m c t j)
    pointwise [k0_pay9]
  rw [P13, pay23_at, e, ← P12, pt12, df]

theorem pt14 (j : Fin 1024) : P14 m c t (ix2 0 j) = ∑ r : Fin 512, dh (A6 m c) (A7 m c) (sb t) (sr t r) j :=
  (pay19_at _ _).trans (Finset.sum_congr rfl fun r _ => dh_blk m c t r j)

theorem pt15 (j : Fin 1024) : P15 m c t (ix2 0 j)
    = ∑ r : Fin 512, rscale (A0 m c) (A1 m c) (A2 m c) (A5 m c) (A6 m c) (A7 m c) (sb t) (sr t r) j :=
  (pay20_at _ _ _ _ _).trans (Finset.sum_congr rfl fun r _ => by rw [dh_blk, x_blk, inv_blk, blk8, rscale, xhat])

theorem pt16 (j : Fin 1024) : P16 m c t (ix2 0 j)
    = ∑ r : Fin 512, rgate (A0 m c) (A1 m c) (A2 m c) (A4 m c) (A5 m c) (A6 m c) (A7 m c) (A8 m c) (sb t) (sr t r) j := by
  refine (pay21_at _ _ _ _ _ _ _ _).trans (Finset.sum_congr rfl fun r _ => ?_)
  have e : k0_pay12 (iblk m c 5 t) (ix2 r j) = A1 m c (ix3 (sb t) (sr t r) j) := by
    refine Eq.trans ?_ (blk5 m c t r j)
    pointwise [k0_pay12]
  rw [e, ← P12, pt12, rgate]

theorem pt17 (j : Fin 1024) : P17 m c t (ix2 0 j)
    = ∑ r : Fin 512, rgain (A0 m c) (A1 m c) (A2 m c) (A4 m c) (A6 m c) (A7 m c) (sb t) (sr t r) j :=
  (pay22_at _ _ _ _ _).trans (Finset.sum_congr rfl fun r _ => by rw [dn_blk, xhat_blk, rgain])

theorem left12 : (outsAt0 m c t.val t.isLt).1 = P12 m c t := by
  rcases kinds t with ⟨h0, h1, h2, h3⟩ | ⟨h0, h1, h2, h3⟩ | ⟨h0, h1, h2, h3⟩
  · rw [outsAt0_A m c t h0 h1 h0 h1 h0 h1 h2 h3]; frame_out; try rfl
  · rw [outsAt0_B m c t h0 h1 h0 h1 h0 h1 h2 h3]; frame_out; try rfl
  · rw [outsAt0_C m c t h0 h1 h0 h1 h0 h1 h2 h3]; frame_out; try rfl

theorem left13 : (outsAt0 m c t.val t.isLt).2.1 = P13 m c t := by
  rcases kinds t with ⟨h0, h1, h2, h3⟩ | ⟨h0, h1, h2, h3⟩ | ⟨h0, h1, h2, h3⟩
  · rw [outsAt0_A m c t h0 h1 h0 h1 h0 h1 h2 h3]; frame_out; try rfl
  · rw [outsAt0_B m c t h0 h1 h0 h1 h0 h1 h2 h3]; frame_out; try rfl
  · rw [outsAt0_C m c t h0 h1 h0 h1 h0 h1 h2 h3]; frame_out; try rfl

theorem reset14 (h : t.val % 4 = 0) (l : Fin 1024) : (outsAt0 m c t.val t.isLt).2.2.1 (ix3 0 0 l) = P14 m c t (ix2 0 l) := by
  rcases kinds t with ⟨h0, h1, h2, h3⟩ | ⟨h0, h1, h2, h3⟩ | ⟨h0, h1, h2, h3⟩
  · rw [outsAt0_A m c t h0 h1 h0 h1 h0 h1 h2 h3]; frame_out; exact pay1_at ..
  · exact absurd h h0
  · rw [outsAt0_C m c t h0 h1 h0 h1 h0 h1 h2 h3]; frame_out; exact pay1_at ..

theorem step14 (h : ¬t.val % 4 = 0) (l : Fin 1024) : (outsAt0 m c t.val t.isLt).2.2.1 (ix3 0 0 l)
    = (outsAt0 m c (t.val - 1) (Nat.lt_of_le_of_lt (Nat.sub_le _ _) t.isLt)).2.2.1 (ix3 0 0 l) + P14 m c t (ix2 0 l) := by
  rcases kinds t with ⟨h0, h1, h2, h3⟩ | ⟨h0, h1, h2, h3⟩ | ⟨h0, h1, h2, h3⟩
  · exact absurd h0 h
  · rw [outsAt0_B m c t h0 h1 h0 h1 h0 h1 h2 h3]; frame_out; exact pay2_at ..
  · exact absurd h0 h

theorem reset15 (h : t.val % 4 = 0) (l : Fin 1024) : (outsAt0 m c t.val t.isLt).2.2.2.1 (ix3 0 0 l) = P15 m c t (ix2 0 l) := by
  rcases kinds t with ⟨h0, h1, h2, h3⟩ | ⟨h0, h1, h2, h3⟩ | ⟨h0, h1, h2, h3⟩
  · rw [outsAt0_A m c t h0 h1 h0 h1 h0 h1 h2 h3]; frame_out; exact pay3_at ..
  · exact absurd h h0
  · rw [outsAt0_C m c t h0 h1 h0 h1 h0 h1 h2 h3]; frame_out; exact pay3_at ..

theorem step15 (h : ¬t.val % 4 = 0) (l : Fin 1024) : (outsAt0 m c t.val t.isLt).2.2.2.1 (ix3 0 0 l)
    = (outsAt0 m c (t.val - 1) (Nat.lt_of_le_of_lt (Nat.sub_le _ _) t.isLt)).2.2.2.1 (ix3 0 0 l) + P15 m c t (ix2 0 l) := by
  rcases kinds t with ⟨h0, h1, h2, h3⟩ | ⟨h0, h1, h2, h3⟩ | ⟨h0, h1, h2, h3⟩
  · exact absurd h0 h
  · rw [outsAt0_B m c t h0 h1 h0 h1 h0 h1 h2 h3]; frame_out; exact pay4_at ..
  · exact absurd h0 h

theorem reset16 (h : t.val % 4 = 0) (l : Fin 1024) : (outsAt0 m c t.val t.isLt).2.2.2.2.1 (ix3 0 0 l) = P16 m c t (ix2 0 l) := by
  rcases kinds t with ⟨h0, h1, h2, h3⟩ | ⟨h0, h1, h2, h3⟩ | ⟨h0, h1, h2, h3⟩
  · rw [outsAt0_A m c t h0 h1 h0 h1 h0 h1 h2 h3]; frame_out; exact pay5_at ..
  · exact absurd h h0
  · rw [outsAt0_C m c t h0 h1 h0 h1 h0 h1 h2 h3]; frame_out; exact pay5_at ..

theorem step16 (h : ¬t.val % 4 = 0) (l : Fin 1024) : (outsAt0 m c t.val t.isLt).2.2.2.2.1 (ix3 0 0 l)
    = (outsAt0 m c (t.val - 1) (Nat.lt_of_le_of_lt (Nat.sub_le _ _) t.isLt)).2.2.2.2.1 (ix3 0 0 l) + P16 m c t (ix2 0 l) := by
  rcases kinds t with ⟨h0, h1, h2, h3⟩ | ⟨h0, h1, h2, h3⟩ | ⟨h0, h1, h2, h3⟩
  · exact absurd h0 h
  · rw [outsAt0_B m c t h0 h1 h0 h1 h0 h1 h2 h3]; frame_out; exact pay6_at ..
  · exact absurd h0 h

theorem reset17 (h : t.val % 8 = 0) (l : Fin 1024) : (outsAt0 m c t.val t.isLt).2.2.2.2.2 (ix2 0 l) = P17 m c t (ix2 0 l) := by
  rcases kinds t with ⟨h0, h1, h2, h3⟩ | ⟨h0, h1, h2, h3⟩ | ⟨h0, h1, h2, h3⟩
  · rw [outsAt0_A m c t h0 h1 h0 h1 h0 h1 h2 h3]; frame_out; try rfl
  · exact absurd h h2
  · exact absurd h h2

theorem step17 (h : ¬t.val % 8 = 0) (l : Fin 1024) : (outsAt0 m c t.val t.isLt).2.2.2.2.2 (ix2 0 l)
    = (outsAt0 m c (t.val - 1) (Nat.lt_of_le_of_lt (Nat.sub_le _ _) t.isLt)).2.2.2.2.2 (ix2 0 l) + P17 m c t (ix2 0 l) := by
  rcases kinds t with ⟨h0, h1, h2, h3⟩ | ⟨h0, h1, h2, h3⟩ | ⟨h0, h1, h2, h3⟩
  · exact absurd h2 h
  · rw [outsAt0_B m c t h0 h1 h0 h1 h0 h1 h2 h3]; frame_out; exact pay7_at ..
  · rw [outsAt0_C m c t h0 h1 h0 h1 h0 h1 h2 h3]; frame_out; exact pay7_at ..

end Point

theorem final12 : (dats m 0 c).arrAt 12 cfg0.N = fun i : S4096x1024.Idx => dres (A0 m c) (A1 m c) (A2 m c) (A4 m c) (A5 m c) (A6 m c)
    (A7 m c) (A8 m c) (Reals.bat (i 0)) (Reals.pos (i 0)) (i 1) := by
  refine (dats m 0 c).arrAt_eq_of_covers 12 _ (by decide +kernel) fun t hf y => ?_
  blk_simp
  rw [after0_12, left12]
  obtain ⟨r, l, rfl⟩ : ∃ (r : Fin 512) (l : Fin 1024), y = ix2 r l := ⟨_, _, eq_ix2 y⟩
  rw [pt12]
  have ht := tlt t
  congr 1 <;> (apply Fin.ext; try dsimp only [Reals.bat, Reals.pos, sb, sr]; blk_simp [idx t]; try omega)

theorem final13 : (dats m 0 c).arrAt 13 cfg0.N = fun i : S4096x1024.Idx => df (A0 m c) (A1 m c) (A2 m c) (A4 m c) (A5 m c) (A6 m c)
    (A7 m c) (A8 m c) (Reals.bat (i 0)) (Reals.pos (i 0)) (i 1) := by
  refine (dats m 0 c).arrAt_eq_of_covers 13 _ (by decide +kernel) fun t hf y => ?_
  blk_simp
  rw [after0_13, left13]
  obtain ⟨r, l, rfl⟩ : ∃ (r : Fin 512) (l : Fin 1024), y = ix2 r l := ⟨_, _, eq_ix2 y⟩
  rw [pt13]
  have ht := tlt t
  congr 1 <;> (apply Fin.ext; try dsimp only [Reals.bat, Reals.pos, sb, sr]; blk_simp [idx t]; try omega)

/-- The rows of a sequence, tile by tile, are its positions. -/
theorem sum_rows (f : Fin 2 → Fin 2048 → EReal) (t : Fin cfg0.N) (p : Fin 4 → Fin cfg0.N) (hp : ∀ s, (p s).val = 4 * (t.val / 4) + s.val) :
    ∑ s : Fin 4, ∑ r : Fin 512, f (sb (p s)) (sr (p s) r) = ∑ s : Fin 2048, f (sb t) s := by
  have ht := tlt t
  refine Eq.trans ?_ (Fin.sum_mul_add_fin 4 512 fun s => f (sb t) s)
  refine Fin.sum_fin_congr fun s => Fin.sum_fin_congr fun r => ?_
  have e1 : sb (p s) = sb t := by ext; simp only [sb, hp]; omega
  have e3 : sr (p s) r = ⟨s.val * 512 + r.val, by omega⟩ := by ext; simp only [sr, hp]; omega
  rw [e1, e3]

theorem final14 : (dats m 0 c).arrAt 14 cfg0.N = fun i : S2x1x1024.Idx => ∑ s : Fin 2048, dh (A6 m c) (A7 m c) (i 0) s (i 2) := by
  refine (dats m 0 c).arrAt_eq_of_covers 14 _ (by decide +kernel) fun t hf y => ?_
  blk_simp
  rw [after0_14]
  obtain ⟨l, rfl⟩ : ∃ l : Fin 1024, y = ix3 0 0 l := ⟨y 2, by rw [eq_ix3 y]; congr 1 <;> exact Subsingleton.elim (α := Fin 1) _ _⟩
  have h := Pipeline.eq_sum_fin_of_reset_step_apply_of_flush (fun n h (l : Fin 1024) => ((outsAt0 m c n h).2.2.1 (ix3 0 0 l) : EReal)) 4
    (fun _ => 0) (fun t l => P14 m c t (ix2 0 l)) (fun t h l => by rw [zero_add]; exact reset14 m c t h l) (fun t h l => step14 m c t h l)
    t ((flush0_14 t).mp hf) l
  refine h.trans ?_
  have e0 : (win0_14.blk t).view.emb (ix3 0 0 l) 0 = sb t := by apply Fin.ext; blk_simp [idx t]; rfl
  have e2 : (win0_14.blk t).view.emb (ix3 0 0 l) 2 = l := by apply Fin.ext; blk_simp [idx t]
  rw [zero_add, e0, e2]
  refine Eq.trans (Fin.sum_fin_congr fun s => pt14 m c _ l) ?_
  exact sum_rows (fun b s => dh (A6 m c) (A7 m c) b s l) t _ fun s => rfl

theorem final15 : (dats m 0 c).arrAt 15 cfg0.N = fun i : S2x1x1024.Idx =>
    ∑ s : Fin 2048, rscale (A0 m c) (A1 m c) (A2 m c) (A5 m c) (A6 m c) (A7 m c) (i 0) s (i 2) := by
  refine (dats m 0 c).arrAt_eq_of_covers 15 _ (by decide +kernel) fun t hf y => ?_
  blk_simp
  rw [after0_15]
  obtain ⟨l, rfl⟩ : ∃ l : Fin 1024, y = ix3 0 0 l := ⟨y 2, by rw [eq_ix3 y]; congr 1 <;> exact Subsingleton.elim (α := Fin 1) _ _⟩
  have h := Pipeline.eq_sum_fin_of_reset_step_apply_of_flush (fun n h (l : Fin 1024) => ((outsAt0 m c n h).2.2.2.1 (ix3 0 0 l) : EReal)) 4
    (fun _ => 0) (fun t l => P15 m c t (ix2 0 l)) (fun t h l => by rw [zero_add]; exact reset15 m c t h l) (fun t h l => step15 m c t h l)
    t ((flush0_15 t).mp hf) l
  refine h.trans ?_
  have e0 : (win0_15.blk t).view.emb (ix3 0 0 l) 0 = sb t := by apply Fin.ext; blk_simp [idx t]; rfl
  have e2 : (win0_15.blk t).view.emb (ix3 0 0 l) 2 = l := by apply Fin.ext; blk_simp [idx t]
  rw [zero_add, e0, e2]
  refine Eq.trans (Fin.sum_fin_congr fun s => pt15 m c _ l) ?_
  exact sum_rows (fun b s => rscale (A0 m c) (A1 m c) (A2 m c) (A5 m c) (A6 m c) (A7 m c) b s l) t _ fun s => rfl

theorem final16 : (dats m 0 c).arrAt 16 cfg0.N = fun i : S2x1x1024.Idx =>
    ∑ s : Fin 2048, rgate (A0 m c) (A1 m c) (A2 m c) (A4 m c) (A5 m c) (A6 m c) (A7 m c) (A8 m c) (i 0) s (i 2) := by
  refine (dats m 0 c).arrAt_eq_of_covers 16 _ (by decide +kernel) fun t hf y => ?_
  blk_simp
  rw [after0_16]
  obtain ⟨l, rfl⟩ : ∃ l : Fin 1024, y = ix3 0 0 l := ⟨y 2, by rw [eq_ix3 y]; congr 1 <;> exact Subsingleton.elim (α := Fin 1) _ _⟩
  have h := Pipeline.eq_sum_fin_of_reset_step_apply_of_flush (fun n h (l : Fin 1024) => ((outsAt0 m c n h).2.2.2.2.1 (ix3 0 0 l) : EReal)) 4
    (fun _ => 0) (fun t l => P16 m c t (ix2 0 l)) (fun t h l => by rw [zero_add]; exact reset16 m c t h l) (fun t h l => step16 m c t h l)
    t ((flush0_16 t).mp hf) l
  refine h.trans ?_
  have e0 : (win0_16.blk t).view.emb (ix3 0 0 l) 0 = sb t := by apply Fin.ext; blk_simp [idx t]; rfl
  have e2 : (win0_16.blk t).view.emb (ix3 0 0 l) 2 = l := by apply Fin.ext; blk_simp [idx t]
  rw [zero_add, e0, e2]
  refine Eq.trans (Fin.sum_fin_congr fun s => pt16 m c _ l) ?_
  exact sum_rows (fun b s => rgate (A0 m c) (A1 m c) (A2 m c) (A4 m c) (A5 m c) (A6 m c) (A7 m c) (A8 m c) b s l) t _ fun s => rfl

theorem final17 : (dats m 0 c).arrAt 17 cfg0.N = fun i : S1x1024.Idx =>
    ∑ b : Fin 2, ∑ s : Fin 2048, rgain (A0 m c) (A1 m c) (A2 m c) (A4 m c) (A6 m c) (A7 m c) b s (i 1) := by
  refine (dats m 0 c).arrAt_eq_of_after_last 17 t0_7 (by decide +kernel) _ fun j => ?_
  blk_simp
  rw [after0_17]
  obtain ⟨l, rfl⟩ : ∃ l : Fin 1024, j = ix2 0 l := ⟨j 1, by rw [eq_ix2 j]; congr 1; exact Subsingleton.elim (α := Fin 1) _ _⟩
  have h := Pipeline.eq_sum_fin_of_reset_step_apply_last (fun n h (l : Fin 1024) => ((outsAt0 m c n h).2.2.2.2.2 (ix2 0 l) : EReal)) 8
    (fun _ => 0) (fun t l => P17 m c t (ix2 0 l)) (fun t h l => by rw [zero_add]; exact reset17 m c t h l) (fun t h l => step17 m c t h l)
    (le_of_eq N_0) t0_7 rfl l
  refine h.trans ?_
  rw [zero_add]
  refine Eq.trans (Fin.sum_fin_congr fun t => pt17 m c t l) ?_
  exact Fin.sum_points_lanes_congr 4 (fun t r ha hs => rfl)

end Cert.MixNormBwdIdeal.Value
end
-- ==== Proof.MixNormRef.lean ====
module

public import proofs.«01_k».proof.Proof.MixNorm
public import proofs.«01_k».proof.Proof.NormRef
public import proofs.«01_k».proof.Proof.Gen.MixNormBwdRefIdeal.Read

@[expose] public section

/-! The gradient of the modulated norm and of the gated residual in front of the mixing, as differentiation gives it, and its equality with the kernel's at
real arguments. -/

set_option maxRecDepth 16384

noncomputable section

open Idealize.ShloMosaic Idealize.ShloMosaic.TcCoe Idealize.SL.Sem
open Cert.NormBwdIdeal.Value (xs xhat μ one)
open Cert.MixNormBwdIdeal.Value (dh dn dw dres df rscale rgate rgain)

namespace Cert.MixNormBwdRefIdeal.Read

open Cert.MixNormBwdRefIdeal Cert.MixNormBwdRefIdeal.Value

variable (res f : FVec Ideal S2x2048x1024 .f32) (ga sc : FVec Ideal S2x1024 .f32) (gm : FVec Ideal S1x1024 .f32)
  (w : FVec Ideal S1x1024x3232 .f32) (dgu : FVec Ideal S2x2048x3232 .f32) (dx : FVec Ideal S2x2048x1024 .f32)

/-- The divisor that takes the mean over the columns. -/
abbrev N : EReal := Ideal.ofBits .f32 0x44800000#32

section Stage

variable (b : Fin 2) (s : Fin 2048)

theorem ref3 (j : Fin 1024) : val_main_v3 (F := Ideal) res f ga (ix3 b s j) = xs res f ga b s j := by
  rw [xs]
  pointwise [val_main_v3, val_main_v2, val_main_v1, val_main_v0]

theorem ref11 : val_main_v11 (F := Ideal) res f ga (ix3 b s 0) = Rms.ms (xs res f ga b s) N := by
  rw [Rms.ms, Rms.eps]
  simp only [← ref3]
  generalize hx : val_main_v3 (F := Ideal) res f ga = x at *
  pointwise [val_main_v11, val_main_v10, val_main_v9, val_main_v8, val_main_v7, val_main_v6, val_main_v5, val_main_cst, val_main_cst_0,
    val_main_cst_1, hx]

theorem ref31 (j : Fin 1024) : val_main_v31 (F := Ideal) w dgu (ix3 b s j) = dh w dgu b s j := by
  rw [val_main_v31_apply, dh]
  refine Finset.sum_congr rfl fun k _ => ?_
  rw [val_main_v29_apply]
  congr 1 <;> blk_ext

theorem ref39 (j : Fin 1024) : val_main_v39 (F := Ideal) sc w dgu (ix3 b s j) = dn sc w dgu b s j := by
  rw [val_main_v39_apply, ref31, dn]
  pointwise [val_main_v38, val_main_v23, val_main_v22, val_main_v21, val_main_cst_3]

theorem ref45 (j : Fin 1024) : val_main_v45 (F := Ideal) sc gm w dgu (ix3 b s j) = dw sc gm w dgu b s j := by
  rw [val_main_v45_apply, ref39, dw]
  pointwise [val_main_v44, val_main_v18, val_main_v4]

theorem ref56 : val_main_v56 (F := Ideal) res f ga sc gm w dgu (ix2 b s) = Rms.via (xs res f ga b s) (dw sc gm w dgu b s) N := by
  rw [Rms.via]
  simp only [← ref11, ← ref3, ← ref45]
  generalize hv : val_main_v11 (F := Ideal) res f ga = v at *
  generalize hw : val_main_v45 (F := Ideal) sc gm w dgu = u at *
  generalize hz : val_main_v3 (F := Ideal) res f ga = x at *
  pointwise [val_main_v56, val_main_v55, val_main_v54, val_main_v53, val_main_v49, val_main_v48, val_main_v47, val_main_v15, val_main_v14,
    val_main_v13, val_main_v12, val_main_cst_2, val_main_cst_10, val_main_cst_11, val_main_cst_12, hv, hw, hz]
  refine (Fin.sum_univ_one (M := EReal) _).trans ?_
  subst hz
  simp only [ref3]

/-- The gradient by the residual, the three ways it enters the norm added one by one. -/
def dresR (j : Fin 1024) : EReal := dx (ix3 b s j) + dw sc gm w dgu b s j * Ideal.rsqrt (Rms.ms (xs res f ga b s) N)
  + xs res f ga b s j * Rms.via (xs res f ga b s) (dw sc gm w dgu b s) N
  + Rms.via (xs res f ga b s) (dw sc gm w dgu b s) N * xs res f ga b s j

theorem ref61 (j : Fin 1024) : val_main_v61 (F := Ideal) res f ga sc gm w dgu dx (ix3 b s j) = dresR res f ga sc gm w dgu dx b s j := by
  rw [dresR, ← ref56, ← ref11, ← ref45, ← ref3]
  generalize hv : val_main_v11 (F := Ideal) res f ga = v at *
  generalize hw : val_main_v45 (F := Ideal) sc gm w dgu = u at *
  generalize hz : val_main_v3 (F := Ideal) res f ga = x at *
  generalize hd : val_main_v56 (F := Ideal) res f ga sc gm w dgu = d at *
  pointwise [val_main_v61, val_main_v60, val_main_v59, val_main_v58, val_main_v57, val_main_v52, val_main_v51, val_main_v50, val_main_v12,
    hv, hw, hz, hd]

/-- The normalised row as differentiation has it. -/
def xhatR (j : Fin 1024) : EReal := xs res f ga b s j * Ideal.rsqrt (Rms.ms (xs res f ga b s) N)

theorem ref17 (j : Fin 1024) : val_main_v17 (F := Ideal) res f ga (ix3 b s j) = xhatR res f ga b s j := by
  rw [xhatR, ← ref11, ← ref3]
  generalize hv : val_main_v11 (F := Ideal) res f ga = v at *
  generalize hz : val_main_v3 (F := Ideal) res f ga = x at *
  pointwise [val_main_v17, val_main_v16, val_main_v12, hv, hz]

theorem ref35 (j : Fin 1024) : val_main_v35 (F := Ideal) res f ga gm w dgu (ix3 b s j)
    = xhatR res f ga b s j * gm (ix2 0 j) * dh w dgu b s j := by
  rw [val_main_v35_apply, val_main_v20_apply, ref17, ref31]
  pointwise [val_main_v19, val_main_v18, val_main_v4]

theorem ref41 (j : Fin 1024) : val_main_v41 (F := Ideal) res f ga sc w dgu (ix3 b s j) = xhatR res f ga b s j * dn sc w dgu b s j := by
  rw [val_main_v41_apply, ref17, ref39]; rfl

theorem ref63 (j : Fin 1024) : val_main_v63 (F := Ideal) res f ga sc gm w dgu dx (ix3 b s j) = dresR res f ga sc gm w dgu dx b s j := by
  rw [val_main_v63_apply, ← ref61]
  blk_ext

theorem ref65 (j : Fin 1024) : val_main_v65 (F := Ideal) res f ga sc gm w dgu dx (ix3 b s j)
    = ga (ix2 b j) * dresR res f ga sc gm w dgu dx b s j := by
  rw [val_main_v65_apply, ref63]
  pointwise [val_main_v64, val_main_v0]

theorem ref66 (j : Fin 1024) : val_main_v66 (F := Ideal) res f ga sc gm w dgu dx (ix3 b s j)
    = dresR res f ga sc gm w dgu dx b s j * f (ix3 b s j) := by
  rw [val_main_v66_apply, ref63]; rfl

end Stage

theorem ref70 : val_main_v70 (F := Ideal) res f ga sc gm w dgu dx
    = fun i : S4096x1024.Idx => dresR res f ga sc gm w dgu dx (Reals.bat (i 0)) (Reals.pos (i 0)) (i 1) := by
  funext i
  refine Eq.trans ?_ (ref61 ..)
  rw [val_main_v70_apply]
  blk_ext

theorem ref72 : val_main_v72 (F := Ideal) res f ga sc gm w dgu dx = fun i : S4096x1024.Idx =>
    ga (ix2 (Reals.bat (i 0)) (i 1)) * dresR res f ga sc gm w dgu dx (Reals.bat (i 0)) (Reals.pos (i 0)) (i 1) := by
  funext i
  refine Eq.trans ?_ (ref65 ..)
  change val_main_v71 (F := Ideal) res f ga sc gm w dgu dx i = _
  rw [val_main_v71_apply]
  blk_ext

/-- The host's sum over the positions, at a sequence and a column, the sum over one entry and the two shapes between left out. -/
theorem ref34 (b : Fin 2) (l : Fin 1024) : val_main_v34 (F := Ideal) w dgu (ix2 b l) = ∑ s : Fin 2048, dh w dgu b s l := by
  simp only [← ref31]
  generalize hv : val_main_v31 (F := Ideal) w dgu = v at *
  pointwise [val_main_v34, val_main_v33, val_main_v32, val_main_cst_4, val_main_cst_5, hv]
  exact Fin.sum_univ_one (M := EReal) _

theorem ref40 (b : Fin 2) (l : Fin 1024) : val_main_v40 (F := Ideal) res f ga gm w dgu (ix2 b l)
    = ∑ s : Fin 2048, xhatR res f ga b s l * gm (ix2 0 l) * dh w dgu b s l := by
  simp only [← ref35]
  generalize hv : val_main_v35 (F := Ideal) res f ga gm w dgu = v at *
  pointwise [val_main_v40, val_main_v37, val_main_v36, val_main_cst_6, val_main_cst_7, hv]
  exact Fin.sum_univ_one (M := EReal) _

theorem ref69 (b : Fin 2) (l : Fin 1024) : val_main_v69 (F := Ideal) res f ga sc gm w dgu dx (ix2 b l)
    = ∑ s : Fin 2048, dresR res f ga sc gm w dgu dx b s l * f (ix3 b s l) := by
  simp only [← ref66]
  generalize hv : val_main_v66 (F := Ideal) res f ga sc gm w dgu dx = v at *
  pointwise [val_main_v69, val_main_v68, val_main_v67, val_main_cst_13, val_main_cst_14, hv]
  exact Fin.sum_univ_one (M := EReal) _

/-- An index whose middle coordinate is the only one there is. -/
theorem mid (i : S2x1x1024.Idx) : ∃ (b : Fin 2) (l : Fin 1024), i = ix3 b 0 l :=
  ⟨i 0, i 2, by rw [eq_ix3 i]; congr 1; exact Subsingleton.elim (α := Fin 1) _ _⟩

theorem ref73 : val_main_v73 (F := Ideal) w dgu = fun i : S2x1x1024.Idx => ∑ s : Fin 2048, dh w dgu (i 0) s (i 2) := by
  funext i
  obtain ⟨b, l, rfl⟩ := mid i
  refine Eq.trans ?_ (ref34 w dgu b l)
  pointwise [val_main_v73]

theorem ref74 : val_main_v74 (F := Ideal) res f ga gm w dgu = fun i : S2x1x1024.Idx =>
    ∑ s : Fin 2048, xhatR res f ga (i 0) s (i 2) * gm (ix2 0 (i 2)) * dh w dgu (i 0) s (i 2) := by
  funext i
  obtain ⟨b, l, rfl⟩ := mid i
  refine Eq.trans ?_ (ref40 res f ga gm w dgu b l)
  pointwise [val_main_v74]

theorem ref75 : val_main_v75 (F := Ideal) res f ga sc gm w dgu dx = fun i : S2x1x1024.Idx =>
    ∑ s : Fin 2048, dresR res f ga sc gm w dgu dx (i 0) s (i 2) * f (ix3 (i 0) s (i 2)) := by
  funext i
  obtain ⟨b, l, rfl⟩ := mid i
  refine Eq.trans ?_ (ref69 res f ga sc gm w dgu dx b l)
  pointwise [val_main_v75]

theorem ref42 (l : Fin 1024) : val_main_v42 (F := Ideal) res f ga sc w dgu (ix1 l)
    = ∑ b : Fin 2, ∑ s : Fin 2048, xhatR res f ga b s l * dn sc w dgu b s l := by
  unfold val_main_v42
  refine (Reals.hostSum_two _ _ _ _ rfl l).trans ?_
  exact Finset.sum_congr rfl fun b _ => Finset.sum_congr rfl fun s _ => ref41 res f ga sc w dgu b s l

theorem ref46 (l : Fin 1024) : val_main_v46 (F := Ideal) res f ga sc w dgu (ix1 l) = val_main_v42 (F := Ideal) res f ga sc w dgu (ix1 l) := by
  unfold val_main_v46
  refine (Reals.hostSum_two _ _ _ _ rfl l).trans ?_
  rw [Fin.sum_univ_one, Fin.sum_univ_one, val_main_v43_apply]
  blk_ext

theorem ref62 : val_main_v62 (F := Ideal) res f ga sc w dgu = fun i : S1x1024.Idx =>
    ∑ b : Fin 2, ∑ s : Fin 2048, xhatR res f ga b s (i 1) * dn sc w dgu b s (i 1) := by
  funext i
  rw [val_main_v62_apply]
  refine Eq.trans ?_ ((ref46 res f ga sc w dgu (i 1)).trans (ref42 res f ga sc w dgu (i 1)))
  blk_ext

/-! ## The two forms at real arguments -/

theorem lit_N : N = ((1024 : ℝ) : EReal) := Reals.lit_1024
theorem lit_μ : μ = ((1024⁻¹ : ℝ) : EReal) := by rw [show ((1024⁻¹ : ℝ)) = 1 / 1024 by norm_num]; exact Reals.lit_inv1024

section Real

variable (res f : S2x2048x1024.Idx → ℝ) (ga sc : S2x1024.Idx → ℝ) (gm : S1x1024.Idx → ℝ)
  (w : S1x1024x3232.Idx → ℝ) (dgu : S2x2048x3232.Idx → ℝ) (b : Fin 2) (s : Fin 2048)

theorem xs_coe : xs (Reals.up res) (Reals.up f) (Reals.up ga) b s
    = Reals.up fun j => res (ix3 b s j) + ga (ix2 b j) * f (ix3 b s j) := by
  funext j
  unfold xs
  simp only [← EReal.coe_mul, ← EReal.coe_add]

theorem dw_coe : dw (Reals.up sc) (Reals.up gm) (Reals.up w) (Reals.up dgu) b s
    = Reals.up fun j => (∑ k : Fin 3232, dgu (ix3 b s k) * w (ix3 0 j k)) * (1 + sc (ix2 b j)) * gm (ix2 0 j) := by
  funext j
  unfold dw dn dh
  rw [show one = ((1 : ℝ) : EReal) from Reals.lit_one]
  simp only [← EReal.coe_mul, Reals.sum_coe, ← EReal.coe_add]

theorem dres_eq (dx : FVec Ideal S2x2048x1024 .f32) (j : Fin 1024) :
    dresR (Reals.up res) (Reals.up f) (Reals.up ga) (Reals.up sc) (Reals.up gm) (Reals.up w) (Reals.up dgu) dx b s j
      = dres (Reals.up res) (Reals.up f) (Reals.up ga) (Reals.up sc) (Reals.up gm) (Reals.up w) (Reals.up dgu) dx b s j := by
  unfold dresR dres
  rw [xs_coe, dw_coe, lit_N, lit_μ, Rms.grad_eq _ _ (by norm_num), Rms.vjp, add_assoc, add_assoc, add_assoc]

theorem xhat_eq (j : Fin 1024) :
    xhatR (Reals.up res) (Reals.up f) (Reals.up ga) b s j = xhat (Reals.up res) (Reals.up f) (Reals.up ga) b s j := by
  unfold xhatR xhat
  rw [xs_coe, lit_N, lit_μ, Rms.inv_eq _ (by norm_num)]

end Real

end Cert.MixNormBwdRefIdeal.Read
end
-- ==== Proof.MixNormBwdClaim.lean ====
module

public import proofs.«01_k».proof.Defs
public import proofs.«01_k».proof.Proof.MixNormRef
public import proofs.«01_k».proof.Proof.Gen.MixNormBwdRefIdeal.Run
public import proofs.«01_k».proof.Proof.Gen.MixNormBwd.Frame

@[expose] public section

set_option maxHeartbeats 1600000

noncomputable section

namespace Cert.Proof

open Idealize.ShloMosaic Idealize.ShloMosaic.TcCoe Idealize.SL.Sem

instance facts_mix_norm_bwd : Pre_mix_norm_bwd_finite.Facts := by constructor <;> decide

open Pre_mix_norm_bwd_finite in
/-- Arguments that pass the precondition are arrays of real numbers. -/
theorem finite_MixNormBwd (x0 x1 : FVec Ideal S2x2048x1024 .f32) (x2 x3 x4 : FVec Ideal S2x1024 .f32) (x5 : FVec Ideal S1x1024 .f32)
    (x6 : FVec Ideal S1x1024x3232 .f32) (x7 : FVec Ideal S2x2048x3232 .f32) (x8 : FVec Ideal S2x2048x1024 .f32)
    (h : Pre_mix_norm_bwd_finite.fn (F := Ideal) x0 x1 x2 x3 x4 x5 x6 x7 x8 = fun _ => 1#1) :
    (∃ r, x0 = Reals.up r) ∧ (∃ r, x1 = Reals.up r) ∧ (∃ r, x2 = Reals.up r) ∧ (∃ r, x4 = Reals.up r) ∧ (∃ r, x5 = Reals.up r)
      ∧ (∃ r, x6 = Reals.up r) ∧ (∃ r, x7 = Reals.up r) := by
  have h1 := congrFun h (fun a => a.elim0)
  unfold Pre_mix_norm_bwd_finite.fn at h1
  obtain ⟨h, h8⟩ := Reals.and_one h1
  obtain ⟨h, h7⟩ := Reals.and_one h
  obtain ⟨h, h6⟩ := Reals.and_one h
  obtain ⟨h, h5⟩ := Reals.and_one h
  obtain ⟨h, h4⟩ := Reals.and_one h
  obtain ⟨h, h2⟩ := Reals.and_one h
  obtain ⟨h0, h1⟩ := Reals.and_one h
  exact ⟨Reals.real_of_all _ _ _ _ _ _ h0, Reals.real_of_all _ _ _ _ _ _ h1, Reals.real_of_all _ _ _ _ _ _ h2,
    Reals.real_of_all _ _ _ _ _ _ h4, Reals.real_of_all _ _ _ _ _ _ h5, Reals.real_of_all _ _ _ _ _ _ h6,
    Reals.real_of_all _ _ _ _ _ _ h7⟩

open Cert.NormBwdIdeal.Value (xs xhat) in
open Cert.MixNormBwdIdeal.Value Cert.MixNormBwdRefIdeal.Read in
theorem algebraic_MixNormBwd : Cert.algebraic_MixNormBwdIdeal_MixNormBwdRefIdeal_pre_mix_norm_bwd_finite := by
  intro m g m' g' hpre hagree
  refine ⟨fun c => (Cert.MixNormBwdIdeal.Gen.dats m 0 c).arrAt 12 Cert.MixNormBwdIdeal.cfg0.N,
    fun c => (Cert.MixNormBwdIdeal.Gen.dats m 0 c).arrAt 13 Cert.MixNormBwdIdeal.cfg0.N,
    fun c => (Cert.MixNormBwdIdeal.Gen.dats m 0 c).arrAt 14 Cert.MixNormBwdIdeal.cfg0.N,
    fun c => (Cert.MixNormBwdIdeal.Gen.dats m 0 c).arrAt 15 Cert.MixNormBwdIdeal.cfg0.N,
    fun c => (Cert.MixNormBwdIdeal.Gen.dats m 0 c).arrAt 16 Cert.MixNormBwdIdeal.cfg0.N,
    fun c => (Cert.MixNormBwdIdeal.Gen.dats m 0 c).arrAt 17 Cert.MixNormBwdIdeal.cfg0.N,
    run_blocks m g, θ_run_mono (Cert.MixNormBwdRefIdeal.Value.run m' g') fun r hr c => ?_⟩
  obtain ⟨h8, h9, h10, h11, h12, h13, h⟩ := hr c
  obtain ⟨e0, e1, e2, e3, e4, e5, e6, e7, e8⟩ := hagree c
  replace h8 := h8.trans (val_main_v70_eq ..)
  replace h9 := h9.trans (val_main_v72_eq ..)
  replace h10 := h10.trans (val_main_v73_eq ..)
  replace h11 := h11.trans (val_main_v74_eq ..)
  replace h12 := h12.trans (val_main_v75_eq ..)
  replace h13 := h13.trans (val_main_v62_eq ..)
  rw [e0, e1, e2, e4, e5, e6, e7, e8] at h8 h9 h12
  rw [e6, e7] at h10
  rw [e0, e1, e2, e5, e6, e7] at h11
  rw [e0, e1, e2, e4, e6, e7] at h13
  refine ⟨h8.trans ((ref70 ..).trans ((?_ : _ = _).trans (final12 m c).symm)), h9.trans ((ref72 ..).trans ((?_ : _ = _).trans (final13 m c).symm)),
    h10.trans ((ref73 ..).trans (final14 m c).symm), h11.trans ((ref74 ..).trans ((?_ : _ = _).trans (final15 m c).symm)),
    h12.trans ((ref75 ..).trans ((?_ : _ = _).trans (final16 m c).symm)), h13.trans ((ref62 ..).trans ((?_ : _ = _).trans (final17 m c).symm)), h⟩
  all_goals obtain ⟨⟨x0, h0⟩, ⟨x1, h1⟩, ⟨x2, h2⟩, ⟨x4, h4⟩, ⟨x5, h5⟩, ⟨x6, h6⟩, ⟨x7, h7⟩⟩ := finite_MixNormBwd _ _ _ _ _ _ _ _ _ (hpre c)
  · funext i
    change dresR (A0 m c) (A1 m c) (A2 m c) (A4 m c) (A5 m c) (A6 m c) (A7 m c) (A8 m c) _ _ _
      = dres (A0 m c) (A1 m c) (A2 m c) (A4 m c) (A5 m c) (A6 m c) (A7 m c) (A8 m c) _ _ _
    rw [A0, A1, A2, A4, A5, A6, A7, h0, h1, h2, h4, h5, h6, h7]
    exact dres_eq ..
  · funext i
    change A2 m c _ * dresR (A0 m c) (A1 m c) (A2 m c) (A4 m c) (A5 m c) (A6 m c) (A7 m c) (A8 m c) _ _ _
      = A2 m c _ * dres (A0 m c) (A1 m c) (A2 m c) (A4 m c) (A5 m c) (A6 m c) (A7 m c) (A8 m c) _ _ _
    rw [A0, A1, A2, A4, A5, A6, A7, h0, h1, h2, h4, h5, h6, h7]
    exact congrArg _ (dres_eq ..)
  · funext i
    change ∑ s, xhatR (A0 m c) (A1 m c) (A2 m c) _ _ _ * A5 m c _ * dh (A6 m c) (A7 m c) _ _ _
      = ∑ s, dh (A6 m c) (A7 m c) _ _ _ * (xhat (A0 m c) (A1 m c) (A2 m c) _ _ _ * A5 m c _)
    rw [A0, A1, A2, h0, h1, h2]
    exact Finset.sum_congr rfl fun s _ => (mul_comm _ _).trans (congrArg (fun q : EReal => _ * (q * _)) (xhat_eq ..))
  · funext i
    change ∑ s, dresR (A0 m c) (A1 m c) (A2 m c) (A4 m c) (A5 m c) (A6 m c) (A7 m c) (A8 m c) _ _ _ * A1 m c _
      = ∑ s, dres (A0 m c) (A1 m c) (A2 m c) (A4 m c) (A5 m c) (A6 m c) (A7 m c) (A8 m c) _ _ _ * A1 m c _
    rw [A0, A1, A2, A4, A5, A6, A7, h0, h1, h2, h4, h5, h6, h7]
    exact Finset.sum_congr rfl fun s _ => congrArg (fun q : EReal => q * _) (dres_eq ..)
  · funext i
    change ∑ b, ∑ s, xhatR (A0 m c) (A1 m c) (A2 m c) _ _ _ * dn (A4 m c) (A6 m c) (A7 m c) _ _ _
      = ∑ b, ∑ s, dn (A4 m c) (A6 m c) (A7 m c) _ _ _ * xhat (A0 m c) (A1 m c) (A2 m c) _ _ _
    rw [A0, A1, A2, h0, h1, h2]
    exact Finset.sum_congr rfl fun b _ => Finset.sum_congr rfl fun s _ =>
      (mul_comm _ _).trans (congrArg₂ (· * · : EReal → EReal → EReal) rfl (xhat_eq ..))

end Cert.Proof
end
-- ==== Proof.FirstNorm.lean ====
module

public import proofs.«01_k».proof.Proof.Gen.FirstNormBwdIdeal.Value
public import proofs.«01_k».proof.Proof.Rms
public import Idealize.ShloMosaic.Lib.Pipeline.ValueKit
public import proofs.«01_k».proof.Proof.Norm

@[expose] public section

/-! The gradient of the first modulated norm behind a product, with no gated residual before it, as its kernel computes it: per tile, then
per array. -/

set_option maxRecDepth 16384

noncomputable section

open Idealize.ShloMosaic Idealize.ShloMosaic.TcCoe Idealize.SL.Sem
open Idealize.ShloMosaic.Pipeline (Dat)

namespace Cert.FirstNormBwdIdeal.Value

open Cert.FirstNormBwdIdeal Cert.FirstNormBwdIdeal.Gen
open Cert.NormBwdIdeal.Value (dh dn dw μ one)

theorem idx : ∀ t : Fin cfg0.N, win0_0.index t = ![t.val, 0] ∧ win0_1.index t = ![t.val, 0] ∧ win0_2.index t = ![t.val, 0]
    ∧ win0_3.index t = ![t.val / 4, 0, 0] ∧ win0_4.index t = ![0, 0] ∧ win0_5.index t = ![0, 0] ∧ win0_6.index t = ![t.val, 0]
    ∧ win0_7.index t = ![t.val / 4, 0, 0] ∧ win0_8.index t = ![t.val / 4, 0, 0] ∧ win0_9.index t = ![0, 0] :=
  (by decide +kernel : ∀ t : Fin grid0.N, _)

/-! ## A tile -/

section Tile

variable (sc : Vec Ideal S1x1x1024 .f32) (gm : Vec Ideal S1x1024 .f32) (dg : Vec Ideal S512x5632 .bf16) (x dx : Vec Ideal S512x1024 .f32)
  (w : Vec Ideal S5632x1024 .bf16) (r : Fin 512)

theorem pay3_at (j : Fin 1024) : k0_pay3 dg w (ix2 r j) = ∑ k : Fin 5632, dg (ix2 r k) * w (ix2 k j) := by
  pointwise [k0_pay3]

theorem pay4_at : k0_pay4 x (ix2 r 0) = Rms.inv (fun k : Fin 1024 => x (ix2 r k)) μ := by
  rw [Rms.inv, Rms.eps]
  pointwise [k0_pay4, k0_pay1]

theorem pay5_at (j : Fin 1024) : k0_pay5 sc dg w (ix2 r j) = k0_pay3 dg w (ix2 r j) * (one + sc (ix3 0 0 j)) := by
  unfold k0_pay5
  generalize k0_pay3 dg w = u
  pointwise

theorem pay6_at (j : Fin 1024) : k0_pay6 x (ix2 r j) = x (ix2 r j) * k0_pay4 x (ix2 r 0) := by
  unfold k0_pay6
  generalize k0_pay4 x = u
  pointwise [k0_pay1]

theorem pay7_at (j : Fin 1024) : k0_pay7 sc gm dg x w (ix2 r j) = k0_pay4 x (ix2 r 0) * (k0_pay5 sc dg w (ix2 r j) * gm (ix2 0 j)
    - k0_pay6 x (ix2 r j) * ((∑ k : Fin 1024, k0_pay5 sc dg w (ix2 r k) * gm (ix2 0 k) * k0_pay6 x (ix2 r k)) * μ)) := by
  unfold k0_pay7
  generalize k0_pay5 sc dg w = u; generalize k0_pay6 x = v; generalize k0_pay4 x = i
  pointwise

variable (d a b : FVec Ideal S512x1024 .f32) (i : FVec Ideal S512x1 .f32) (u : Vec Ideal S1x1x1024 .f32) (u2 : Vec Ideal S1x1024 .f32)

theorem pay8_at (j : Fin 1024) : k0_pay8 a b (ix2 r j) = a (ix2 r j) + b (ix2 r j) := by
  pointwise [k0_pay8]

theorem pay9_at (j : Fin 1024) : k0_pay9 d (ix2 0 j) = ∑ r : Fin 512, d (ix2 r j) := by
  pointwise [k0_pay9]

theorem pay10_at (j : Fin 1024) : k0_pay10 gm a d i (ix2 0 j) = ∑ r : Fin 512, d (ix2 r j) * (a (ix2 r j) * i (ix2 r 0) * gm (ix2 0 j)) := by
  pointwise [k0_pay10]

theorem pay11_at (j : Fin 1024) : k0_pay11 a b (ix2 0 j) = ∑ r : Fin 512, a (ix2 r j) * b (ix2 r j) := by
  pointwise [k0_pay11]

theorem pay12_at (j : Fin 1024) : k0_pay12 d (ix3 0 0 j) = k0_pay9 d (ix2 0 j) := by
  unfold k0_pay12
  generalize k0_pay9 d = v
  pointwise

theorem pay13_at (j : Fin 1024) : k0_pay13 d u (ix3 0 0 j) = u (ix3 0 0 j) + k0_pay9 d (ix2 0 j) := by
  unfold k0_pay13
  generalize k0_pay9 d = v
  pointwise

theorem pay14_at (j : Fin 1024) : k0_pay14 gm a d i (ix3 0 0 j) = k0_pay10 gm a d i (ix2 0 j) := by
  unfold k0_pay14
  generalize k0_pay10 gm a d i = v
  pointwise

theorem pay15_at (j : Fin 1024) : k0_pay15 gm a d i u (ix3 0 0 j) = u (ix3 0 0 j) + k0_pay10 gm a d i (ix2 0 j) := by
  unfold k0_pay15
  generalize k0_pay10 gm a d i = v
  pointwise

theorem pay16_at (j : Fin 1024) : k0_pay16 a b u2 (ix2 0 j) = u2 (ix2 0 j) + k0_pay11 a b (ix2 0 j) := by
  unfold k0_pay16
  generalize k0_pay11 a b = v
  pointwise

end Tile

/-- The three kinds of grid point: the first of all, a later tile of a sequence, the first tile of a later sequence. -/
theorem kinds : ∀ t : Fin cfg0.N, (t.val % 4 = 0 ∧ ¬1 ≤ t.val % 4 ∧ t.val % 8 = 0 ∧ ¬1 ≤ t.val)
    ∨ (¬t.val % 4 = 0 ∧ 1 ≤ t.val % 4 ∧ ¬t.val % 8 = 0 ∧ 1 ≤ t.val)
    ∨ (t.val % 4 = 0 ∧ ¬1 ≤ t.val % 4 ∧ ¬t.val % 8 = 0 ∧ 1 ≤ t.val) :=
  (by decide +kernel : ∀ t : Fin grid0.N, _)

section Entry

variable (m : (ℓ : Loc nD τ sig) → Buf (Elt Ideal) ℓ) (c : Dev nD) (t : Fin cfg0.N)

abbrev A0 : FVec Ideal S2x2048x1024 .f32 := m ((c : Thread nD τ).loc main_arg0)
abbrev A2 : FVec Ideal S2x1024 .f32 := m ((c : Thread nD τ).loc main_arg2)
abbrev A3 : FVec Ideal S1x1024 .f32 := m ((c : Thread nD τ).loc main_arg3)
abbrev A4 : FVec Ideal S1x1024x5632 .f32 := m ((c : Thread nD τ).loc main_arg4)
abbrev A5 : FVec Ideal S2x2048x5632 .f32 := m ((c : Thread nD τ).loc main_arg5)
abbrev A6 : FVec Ideal S2x2048x1024 .f32 := m ((c : Thread nD τ).loc main_arg6)

theorem tlt : t.val < 8 := lt_of_lt_of_eq t.isLt N_0

/-- The sequence and the position that row `r` of tile `t` belongs to. -/
abbrev sb : Fin 2 := ⟨t.val / 4, by have := tlt t; omega⟩
abbrev sr (r : Fin 512) : Fin 2048 := ⟨t.val % 4 * 512 + r, by omega⟩
abbrev row (r : Fin 512) : Fin 4096 := ⟨t.val * 512 + r, by have := tlt t; omega⟩

theorem blk0 (r : Fin 512) (k : Fin 5632) : (iblk m c 0 t : Vec Ideal S512x5632 .bf16) (ix2 r k) = A5 m c (ix3 (sb t) (sr t r) k) := by
  have e : (V m c main_v2 : FVec Ideal S4096x5632 .bf16) (ix2 (row t r) k) = A5 m c (ix3 (sb t) (sr t r) k) := by
    entry_read
    pointwise
    blk_ext
  rw [← e]; blk_ext [iblk, idx t]

theorem blk1 (r : Fin 512) (k : Fin 1024) : (iblk m c 1 t : Vec Ideal S512x1024 .f32) (ix2 r k) = A0 m c (ix3 (sb t) (sr t r) k) := by
  have e : (V m c main_v6 : FVec Ideal S4096x1024 .f32) (ix2 (row t r) k) = A0 m c (ix3 (sb t) (sr t r) k) := by
    entry_read
    pointwise
    blk_ext
  rw [← e]; blk_ext [iblk, idx t]

theorem blk2 (r : Fin 512) (k : Fin 1024) : (iblk m c 2 t : Vec Ideal S512x1024 .f32) (ix2 r k) = A6 m c (ix3 (sb t) (sr t r) k) := by
  have e : (V m c main_v7 : FVec Ideal S4096x1024 .f32) (ix2 (row t r) k) = A6 m c (ix3 (sb t) (sr t r) k) := by
    entry_read
    pointwise
    blk_ext
  rw [← e]; blk_ext [iblk, idx t]

theorem blk3 (k : Fin 1024) : (iblk m c 3 t : Vec Ideal S1x1x1024 .f32) (ix3 0 0 k) = A2 m c (ix2 (sb t) k) := by
  have e : (V m c main_v0 : FVec Ideal S2x1x1024 .f32) (ix3 (sb t) 0 k) = A2 m c (ix2 (sb t) k) := by
    entry_read
    pointwise
    blk_ext
  rw [← e]; blk_ext [iblk, idx t]

theorem blk4 (k : Fin 1024) : (iblk m c 4 t : Vec Ideal S1x1024 .f32) (ix2 0 k) = A3 m c (ix2 0 k) := by
  have e : (V m c main_arg3 : FVec Ideal S1x1024 .f32) (ix2 0 k) = A3 m c (ix2 0 k) := by
    entry_read
    rfl
  rw [← e]; blk_ext [iblk, idx t]

theorem blk5 (k : Fin 5632) (j : Fin 1024) : (iblk m c 5 t : Vec Ideal S5632x1024 .bf16) (ix2 k j) = A4 m c (ix3 0 j k) := by
  have e : (V m c main_v5 : FVec Ideal S5632x1024 .bf16) (ix2 k j) = A4 m c (ix3 0 j k) := by
    entry_read
    pointwise
    blk_ext
  rw [← e]; blk_ext [iblk, idx t]

end Entry

/-! ## The results in the arguments -/

section Forms

variable (x : FVec Ideal S2x2048x1024 .f32) (sc : FVec Ideal S2x1024 .f32) (gm : FVec Ideal S1x1024 .f32)
  (w : FVec Ideal S1x1024x5632 .f32) (dgu : FVec Ideal S2x2048x5632 .f32) (dx : FVec Ideal S2x2048x1024 .f32) (b : Fin 2) (s : Fin 2048)

/-- The norm's input. -/
def xs (j : Fin 1024) : EReal := x (ix3 b s j)

/-- The gradient by the input. -/
def dres (j : Fin 1024) : EReal := dx (ix3 b s j) + Rms.grad (xs x b s) (dw sc gm w dgu b s) μ j

/-- The normalised row. -/
def xhat (j : Fin 1024) : EReal := xs x b s j * Rms.inv (xs x b s) μ

/-- The gradients by the modulation's scale and by the gain, of one row. -/
def rscale (j : Fin 1024) : EReal := dh w dgu b s j * (xhat x b s j * gm (ix2 0 j))
def rgain (j : Fin 1024) : EReal := dn sc w dgu b s j * xhat x b s j

end Forms

variable (m : (ℓ : Loc nD τ sig) → Buf (Elt Ideal) ℓ) (c : Dev nD)

section Point

variable (t : Fin cfg0.N) (r : Fin 512)

theorem dh_blk (j : Fin 1024) : k0_pay3 (iblk m c 0 t) (iblk m c 5 t) (ix2 r j) = dh (A4 m c) (A5 m c) (sb t) (sr t r) j := by
  rw [pay3_at, dh]; exact Finset.sum_congr rfl fun k _ => by rw [blk0, blk5]

theorem x_blk (j : Fin 1024) : (iblk m c 1 t : Vec Ideal S512x1024 .f32) (ix2 r j) = xs (A0 m c) (sb t) (sr t r) j :=
  blk1 m c t r j

theorem x1_blk (j : Fin 1024) : k0_pay1 (iblk m c 1 t) (ix2 r j) = xs (A0 m c) (sb t) (sr t r) j := by
  refine Eq.trans ?_ (x_blk m c t r j)
  pointwise [k0_pay1]

theorem inv_blk : k0_pay4 (iblk m c 1 t) (ix2 r 0) = Rms.inv (xs (A0 m c) (sb t) (sr t r)) μ := by
  rw [pay4_at]; exact congrArg (Rms.inv · μ) (funext fun k => x_blk m c t r k)

theorem dn_blk (j : Fin 1024) : k0_pay5 (iblk m c 3 t) (iblk m c 0 t) (iblk m c 5 t) (ix2 r j)
    = dn (A2 m c) (A4 m c) (A5 m c) (sb t) (sr t r) j := by
  rw [pay5_at, dh_blk, blk3, dn]

theorem xhat_blk (j : Fin 1024) : k0_pay6 (iblk m c 1 t) (ix2 r j) = xhat (A0 m c) (sb t) (sr t r) j := by
  rw [pay6_at, x_blk, inv_blk, xhat]

/-- The tile's gradient by the input, and its column sums. -/
abbrev P6 : FVec Ideal S512x1024 .f32 := k0_pay8 (k0_pay2 (iblk m c 2 t))
  (k0_pay7 (iblk m c 3 t) (iblk m c 4 t) (iblk m c 0 t) (iblk m c 1 t) (iblk m c 5 t))
abbrev P7 : FVec Ideal S1x1024 .f32 := k0_pay9 (k0_pay3 (iblk m c 0 t) (iblk m c 5 t))
abbrev P8 : FVec Ideal S1x1024 .f32 := k0_pay10 (iblk m c 4 t) (k0_pay1 (iblk m c 1 t)) (k0_pay3 (iblk m c 0 t) (iblk m c 5 t))
  (k0_pay4 (iblk m c 1 t))
abbrev P9 : FVec Ideal S1x1024 .f32 := k0_pay11 (k0_pay5 (iblk m c 3 t) (iblk m c 0 t) (iblk m c 5 t)) (k0_pay6 (iblk m c 1 t))

theorem pt6 (j : Fin 1024) : P6 m c t (ix2 r j) = dres (A0 m c) (A2 m c) (A3 m c) (A4 m c) (A5 m c) (A6 m c) (sb t) (sr t r) j := by
  have e : k0_pay2 (iblk m c 2 t) (ix2 r j) = A6 m c (ix3 (sb t) (sr t r) j) := by
    refine Eq.trans ?_ (blk2 m c t r j)
    pointwise [k0_pay2]
  rw [P6, pay8_at, pay7_at, e, dres, Rms.grad]
  simp only [dn_blk, blk4, xhat_blk, inv_blk, xhat, dw]

theorem pt7 (j : Fin 1024) : P7 m c t (ix2 0 j) = ∑ r : Fin 512, dh (A4 m c) (A5 m c) (sb t) (sr t r) j :=
  (pay9_at _ _).trans (Finset.sum_congr rfl fun r _ => dh_blk m c t r j)

theorem pt8 (j : Fin 1024) : P8 m c t (ix2 0 j) = ∑ r : Fin 512, rscale (A0 m c) (A3 m c) (A4 m c) (A5 m c) (sb t) (sr t r) j :=
  (pay10_at _ _ _ _ _).trans (Finset.sum_congr rfl fun r _ => by rw [dh_blk, x1_blk, inv_blk, blk4, rscale, xhat])

theorem pt9 (j : Fin 1024) : P9 m c t (ix2 0 j) = ∑ r : Fin 512, rgain (A0 m c) (A2 m c) (A4 m c) (A5 m c) (sb t) (sr t r) j :=
  (pay11_at _ _ _).trans (Finset.sum_congr rfl fun r _ => by rw [dn_blk, xhat_blk, rgain])

theorem left6 : (outsAt0 m c t.val t.isLt).1 = P6 m c t := by
  rcases kinds t with ⟨h0, h1, h2, h3⟩ | ⟨h0, h1, h2, h3⟩ | ⟨h0, h1, h2, h3⟩
  · rw [outsAt0_A m c t h0 h1 h0 h1 h2 h3]; frame_out; try rfl
  · rw [outsAt0_B m c t h0 h1 h0 h1 h2 h3]; frame_out; try rfl
  · rw [outsAt0_C m c t h0 h1 h0 h1 h2 h3]; frame_out; try rfl

theorem reset7 (h : t.val % 4 = 0) (l : Fin 1024) : (outsAt0 m c t.val t.isLt).2.1 (ix3 0 0 l) = P7 m c t (ix2 0 l) := by
  rcases kinds t with ⟨h0, h1, h2, h3⟩ | ⟨h0, h1, h2, h3⟩ | ⟨h0, h1, h2, h3⟩
  · rw [outsAt0_A m c t h0 h1 h0 h1 h2 h3]; frame_out; exact pay12_at ..
  · exact absurd h h0
  · rw [outsAt0_C m c t h0 h1 h0 h1 h2 h3]; frame_out; exact pay12_at ..

theorem step7 (h : ¬t.val % 4 = 0) (l : Fin 1024) : (outsAt0 m c t.val t.isLt).2.1 (ix3 0 0 l)
    = (outsAt0 m c (t.val - 1) (Nat.lt_of_le_of_lt (Nat.sub_le _ _) t.isLt)).2.1 (ix3 0 0 l) + P7 m c t (ix2 0 l) := by
  rcases kinds t with ⟨h0, h1, h2, h3⟩ | ⟨h0, h1, h2, h3⟩ | ⟨h0, h1, h2, h3⟩
  · exact absurd h0 h
  · rw [outsAt0_B m c t h0 h1 h0 h1 h2 h3]; frame_out; exact pay13_at ..
  · exact absurd h0 h

theorem reset8 (h : t.val % 4 = 0) (l : Fin 1024) : (outsAt0 m c t.val t.isLt).2.2.1 (ix3 0 0 l) = P8 m c t (ix2 0 l) := by
  rcases kinds t with ⟨h0, h1, h2, h3⟩ | ⟨h0, h1, h2, h3⟩ | ⟨h0, h1, h2, h3⟩
  · rw [outsAt0_A m c t h0 h1 h0 h1 h2 h3]; frame_out; exact pay14_at ..
  · exact absurd h h0
  · rw [outsAt0_C m c t h0 h1 h0 h1 h2 h3]; frame_out; exact pay14_at ..

theorem step8 (h : ¬t.val % 4 = 0) (l : Fin 1024) : (outsAt0 m c t.val t.isLt).2.2.1 (ix3 0 0 l)
    = (outsAt0 m c (t.val - 1) (Nat.lt_of_le_of_lt (Nat.sub_le _ _) t.isLt)).2.2.1 (ix3 0 0 l) + P8 m c t (ix2 0 l) := by
  rcases kinds t with ⟨h0, h1, h2, h3⟩ | ⟨h0, h1, h2, h3⟩ | ⟨h0, h1, h2, h3⟩
  · exact absurd h0 h
  · rw [outsAt0_B m c t h0 h1 h0 h1 h2 h3]; frame_out; exact pay15_at ..
  · exact absurd h0 h

theorem reset9 (h : t.val % 8 = 0) (l : Fin 1024) : (outsAt0 m c t.val t.isLt).2.2.2 (ix2 0 l) = P9 m c t (ix2 0 l) := by
  rcases kinds t with ⟨h0, h1, h2, h3⟩ | ⟨h0, h1, h2, h3⟩ | ⟨h0, h1, h2, h3⟩
  · rw [outsAt0_A m c t h0 h1 h0 h1 h2 h3]; frame_out; try rfl
  · exact absurd h h2
  · exact absurd h h2

theorem step9 (h : ¬t.val % 8 = 0) (l : Fin 1024) : (outsAt0 m c t.val t.isLt).2.2.2 (ix2 0 l)
    = (outsAt0 m c (t.val - 1) (Nat.lt_of_le_of_lt (Nat.sub_le _ _) t.isLt)).2.2.2 (ix2 0 l) + P9 m c t (ix2 0 l) := by
  rcases kinds t with ⟨h0, h1, h2, h3⟩ | ⟨h0, h1, h2, h3⟩ | ⟨h0, h1, h2, h3⟩
  · exact absurd h2 h
  · rw [outsAt0_B m c t h0 h1 h0 h1 h2 h3]; frame_out; exact pay16_at ..
  · rw [outsAt0_C m c t h0 h1 h0 h1 h2 h3]; frame_out; exact pay16_at ..

end Point

theorem final6 : (dats m 0 c).arrAt 6 cfg0.N = fun i : S4096x1024.Idx =>
    dres (A0 m c) (A2 m c) (A3 m c) (A4 m c) (A5 m c) (A6 m c) (Reals.bat (i 0)) (Reals.pos (i 0)) (i 1) := by
  refine (dats m 0 c).arrAt_eq_of_covers 6 _ (by decide +kernel) fun t hf y => ?_
  blk_simp
  rw [after0_6, left6]
  obtain ⟨r, l, rfl⟩ : ∃ (r : Fin 512) (l : Fin 1024), y = ix2 r l := ⟨_, _, eq_ix2 y⟩
  rw [pt6]
  have ht := tlt t
  congr 1 <;> (apply Fin.ext; try dsimp only [Reals.bat, Reals.pos, sb, sr]; blk_simp [idx t]; try omega)

/-- The rows of a sequence, tile by tile, are its positions. -/
theorem sum_rows (f : Fin 2 → Fin 2048 → EReal) (t : Fin cfg0.N) (p : Fin 4 → Fin cfg0.N) (hp : ∀ s, (p s).val = 4 * (t.val / 4) + s.val) :
    ∑ s : Fin 4, ∑ r : Fin 512, f (sb (p s)) (sr (p s) r) = ∑ s : Fin 2048, f (sb t) s := by
  have ht := tlt t
  refine Eq.trans ?_ (Fin.sum_mul_add_fin 4 512 fun s => f (sb t) s)
  refine Fin.sum_fin_congr fun s => Fin.sum_fin_congr fun r => ?_
  have e1 : sb (p s) = sb t := by ext; simp only [sb, hp]; omega
  have e3 : sr (p s) r = ⟨s.val * 512 + r.val, by omega⟩ := by ext; simp only [sr, hp]; omega
  rw [e1, e3]

theorem final7 : (dats m 0 c).arrAt 7 cfg0.N = fun i : S2x1x1024.Idx => ∑ s : Fin 2048, dh (A4 m c) (A5 m c) (i 0) s (i 2) := by
  refine (dats m 0 c).arrAt_eq_of_covers 7 _ (by decide +kernel) fun t hf y => ?_
  blk_simp
  rw [after0_7]
  obtain ⟨l, rfl⟩ : ∃ l : Fin 1024, y = ix3 0 0 l := ⟨y 2, by rw [eq_ix3 y]; congr 1 <;> exact Subsingleton.elim (α := Fin 1) _ _⟩
  have h := Pipeline.eq_sum_fin_of_reset_step_apply_of_flush (fun n h (l : Fin 1024) => ((outsAt0 m c n h).2.1 (ix3 0 0 l) : EReal)) 4
    (fun _ => 0) (fun t l => P7 m c t (ix2 0 l)) (fun t h l => by rw [zero_add]; exact reset7 m c t h l) (fun t h l => step7 m c t h l)
    t ((flush0_7 t).mp hf) l
  refine h.trans ?_
  have e0 : (win0_7.blk t).view.emb (ix3 0 0 l) 0 = sb t := by apply Fin.ext; blk_simp [idx t]; rfl
  have e2 : (win0_7.blk t).view.emb (ix3 0 0 l) 2 = l := by apply Fin.ext; blk_simp [idx t]
  rw [zero_add, e0, e2]
  refine Eq.trans (Fin.sum_fin_congr fun s => pt7 m c _ l) ?_
  exact sum_rows (fun b s => dh (A4 m c) (A5 m c) b s l) t _ fun s => rfl

theorem final8 : (dats m 0 c).arrAt 8 cfg0.N = fun i : S2x1x1024.Idx => ∑ s : Fin 2048, rscale (A0 m c) (A3 m c) (A4 m c) (A5 m c) (i 0) s (i 2) := by
  refine (dats m 0 c).arrAt_eq_of_covers 8 _ (by decide +kernel) fun t hf y => ?_
  blk_simp
  rw [after0_8]
  obtain ⟨l, rfl⟩ : ∃ l : Fin 1024, y = ix3 0 0 l := ⟨y 2, by rw [eq_ix3 y]; congr 1 <;> exact Subsingleton.elim (α := Fin 1) _ _⟩
  have h := Pipeline.eq_sum_fin_of_reset_step_apply_of_flush (fun n h (l : Fin 1024) => ((outsAt0 m c n h).2.2.1 (ix3 0 0 l) : EReal)) 4
    (fun _ => 0) (fun t l => P8 m c t (ix2 0 l)) (fun t h l => by rw [zero_add]; exact reset8 m c t h l) (fun t h l => step8 m c t h l)
    t ((flush0_8 t).mp hf) l
  refine h.trans ?_
  have e0 : (win0_8.blk t).view.emb (ix3 0 0 l) 0 = sb t := by apply Fin.ext; blk_simp [idx t]; rfl
  have e2 : (win0_8.blk t).view.emb (ix3 0 0 l) 2 = l := by apply Fin.ext; blk_simp [idx t]
  rw [zero_add, e0, e2]
  refine Eq.trans (Fin.sum_fin_congr fun s => pt8 m c _ l) ?_
  exact sum_rows (fun b s => rscale (A0 m c) (A3 m c) (A4 m c) (A5 m c) b s l) t _ fun s => rfl

theorem final9 : (dats m 0 c).arrAt 9 cfg0.N = fun i : S1x1024.Idx =>
    ∑ b : Fin 2, ∑ s : Fin 2048, rgain (A0 m c) (A2 m c) (A4 m c) (A5 m c) b s (i 1) := by
  refine (dats m 0 c).arrAt_eq_of_after_last 9 t0_7 (by decide +kernel) _ fun j => ?_
  blk_simp
  rw [after0_9]
  obtain ⟨l, rfl⟩ : ∃ l : Fin 1024, j = ix2 0 l := ⟨j 1, by rw [eq_ix2 j]; congr 1; exact Subsingleton.elim (α := Fin 1) _ _⟩
  have h := Pipeline.eq_sum_fin_of_reset_step_apply_last (fun n h (l : Fin 1024) => ((outsAt0 m c n h).2.2.2 (ix2 0 l) : EReal)) 8
    (fun _ => 0) (fun t l => P9 m c t (ix2 0 l)) (fun t h l => by rw [zero_add]; exact reset9 m c t h l) (fun t h l => step9 m c t h l)
    (le_of_eq N_0) t0_7 rfl l
  refine h.trans ?_
  rw [zero_add]
  refine Eq.trans (Fin.sum_fin_congr fun t => pt9 m c t l) ?_
  exact Fin.sum_points_lanes_congr 4 (fun t r ha hs => rfl)

end Cert.FirstNormBwdIdeal.Value
end
-- ==== Proof.FirstNormRef.lean ====
module

public import proofs.«01_k».proof.Proof.FirstNorm
public import proofs.«01_k».proof.Proof.NormRef
public import proofs.«01_k».proof.Proof.Gen.FirstNormBwdRefIdeal.Read

@[expose] public section

/-! The gradient of the modulated norm and of the input before it, as differentiation gives it, and its equality with the kernel's at
real arguments. -/

set_option maxRecDepth 16384

noncomputable section

open Idealize.ShloMosaic Idealize.ShloMosaic.TcCoe Idealize.SL.Sem
open Cert.FirstNormBwdIdeal.Value (xs dres xhat rscale rgain)
open Cert.NormBwdIdeal.Value (dh dn dw μ one)
open Cert.NormBwdRefIdeal.Read (N lit_N lit_μ mid dw_coe)

namespace Cert.FirstNormBwdRefIdeal.Read

open Cert.FirstNormBwdRefIdeal Cert.FirstNormBwdRefIdeal.Value

variable (x : FVec Ideal S2x2048x1024 .f32) (sc : FVec Ideal S2x1024 .f32) (gm : FVec Ideal S1x1024 .f32)
  (w : FVec Ideal S1x1024x5632 .f32) (dgu : FVec Ideal S2x2048x5632 .f32) (dx : FVec Ideal S2x2048x1024 .f32)

section Stage

variable (b : Fin 2) (s : Fin 2048)

theorem ref7 : val_main_v7 (F := Ideal) x (ix3 b s 0) = Rms.ms (xs x b s) N := by
  rw [Rms.ms, Rms.eps]
  pointwise [val_main_v7, val_main_v6, val_main_v5, val_main_v4, val_main_v3, val_main_v2, val_main_v1, val_main_cst, val_main_cst_0,
    val_main_cst_1]
  rfl

theorem ref27 (j : Fin 1024) : val_main_v27 (F := Ideal) w dgu (ix3 b s j) = dh w dgu b s j := by
  rw [val_main_v27_apply, dh]
  refine Finset.sum_congr rfl fun k _ => ?_
  rw [val_main_v25_apply]
  congr 1 <;> blk_ext

theorem ref35 (j : Fin 1024) : val_main_v35 (F := Ideal) sc w dgu (ix3 b s j) = dn sc w dgu b s j := by
  rw [val_main_v35_apply, ref27, dn]
  pointwise [val_main_v34, val_main_v19, val_main_v18, val_main_v17, val_main_cst_3]

theorem ref41 (j : Fin 1024) : val_main_v41 (F := Ideal) sc gm w dgu (ix3 b s j) = dw sc gm w dgu b s j := by
  rw [val_main_v41_apply, ref35, dw]
  pointwise [val_main_v40, val_main_v14, val_main_v0]

theorem ref52 : val_main_v52 (F := Ideal) x sc gm w dgu (ix2 b s) = Rms.via (xs x b s) (dw sc gm w dgu b s) N := by
  rw [Rms.via]
  simp only [← ref7, ← ref41]
  generalize hv : val_main_v7 (F := Ideal) x = v at *
  generalize hw : val_main_v41 (F := Ideal) sc gm w dgu = u at *
  pointwise [val_main_v52, val_main_v51, val_main_v50, val_main_v49, val_main_v45, val_main_v44, val_main_v43, val_main_v11, val_main_v10,
    val_main_v9, val_main_v8, val_main_cst_2, val_main_cst_10, val_main_cst_11, val_main_cst_12, hv, hw]
  refine (Fin.sum_univ_one (M := EReal) _).trans ?_
  rfl

/-- The gradient by the input, the three ways it enters the norm added one by one. -/
def dresR (j : Fin 1024) : EReal := dx (ix3 b s j) + dw sc gm w dgu b s j * Ideal.rsqrt (Rms.ms (xs x b s) N)
  + xs x b s j * Rms.via (xs x b s) (dw sc gm w dgu b s) N
  + Rms.via (xs x b s) (dw sc gm w dgu b s) N * xs x b s j

theorem ref57 (j : Fin 1024) : val_main_v57 (F := Ideal) x sc gm w dgu dx (ix3 b s j) = dresR x sc gm w dgu dx b s j := by
  rw [dresR, ← ref52, ← ref7, ← ref41]
  generalize hv : val_main_v7 (F := Ideal) x = v at *
  generalize hw : val_main_v41 (F := Ideal) sc gm w dgu = u at *
  generalize hd : val_main_v52 (F := Ideal) x sc gm w dgu = d at *
  pointwise [val_main_v57, val_main_v56, val_main_v55, val_main_v54, val_main_v53, val_main_v48, val_main_v47, val_main_v46, val_main_v8,
    hv, hw, hd]
  rfl

/-- The normalised row as differentiation has it. -/
def xhatR (j : Fin 1024) : EReal := xs x b s j * Ideal.rsqrt (Rms.ms (xs x b s) N)

theorem ref13 (j : Fin 1024) : val_main_v13 (F := Ideal) x (ix3 b s j) = xhatR x b s j := by
  rw [xhatR, ← ref7]
  generalize hv : val_main_v7 (F := Ideal) x = v at *
  pointwise [val_main_v13, val_main_v12, val_main_v8, hv]
  rfl

theorem ref31 (j : Fin 1024) : val_main_v31 (F := Ideal) x gm w dgu (ix3 b s j)
    = xhatR x b s j * gm (ix2 0 j) * dh w dgu b s j := by
  rw [val_main_v31_apply, val_main_v16_apply, ref13, ref27]
  pointwise [val_main_v15, val_main_v14, val_main_v0]

theorem ref37 (j : Fin 1024) : val_main_v37 (F := Ideal) x sc w dgu (ix3 b s j) = xhatR x b s j * dn sc w dgu b s j := by
  rw [val_main_v37_apply, ref13, ref35]; rfl

end Stage

theorem ref59 : val_main_v59 (F := Ideal) x sc gm w dgu dx
    = fun i : S4096x1024.Idx => dresR x sc gm w dgu dx (Reals.bat (i 0)) (Reals.pos (i 0)) (i 1) := by
  funext i
  refine Eq.trans ?_ (ref57 ..)
  rw [val_main_v59_apply]
  blk_ext

/-- The host's sum over the positions, at a sequence and a column, the sum over one entry and the two shapes between left out. -/
theorem ref30 (b : Fin 2) (l : Fin 1024) : val_main_v30 (F := Ideal) w dgu (ix2 b l) = ∑ s : Fin 2048, dh w dgu b s l := by
  simp only [← ref27]
  generalize hv : val_main_v27 (F := Ideal) w dgu = v at *
  pointwise [val_main_v30, val_main_v29, val_main_v28, val_main_cst_4, val_main_cst_5, hv]
  exact Fin.sum_univ_one (M := EReal) _

theorem ref36 (b : Fin 2) (l : Fin 1024) : val_main_v36 (F := Ideal) x gm w dgu (ix2 b l)
    = ∑ s : Fin 2048, xhatR x b s l * gm (ix2 0 l) * dh w dgu b s l := by
  simp only [← ref31]
  generalize hv : val_main_v31 (F := Ideal) x gm w dgu = v at *
  pointwise [val_main_v36, val_main_v33, val_main_v32, val_main_cst_6, val_main_cst_7, hv]
  exact Fin.sum_univ_one (M := EReal) _

theorem ref60 : val_main_v60 (F := Ideal) w dgu = fun i : S2x1x1024.Idx => ∑ s : Fin 2048, dh w dgu (i 0) s (i 2) := by
  funext i
  obtain ⟨b, l, rfl⟩ := mid i
  refine Eq.trans ?_ (ref30 w dgu b l)
  pointwise [val_main_v60]

theorem ref61 : val_main_v61 (F := Ideal) x gm w dgu = fun i : S2x1x1024.Idx =>
    ∑ s : Fin 2048, xhatR x (i 0) s (i 2) * gm (ix2 0 (i 2)) * dh w dgu (i 0) s (i 2) := by
  funext i
  obtain ⟨b, l, rfl⟩ := mid i
  refine Eq.trans ?_ (ref36 x gm w dgu b l)
  pointwise [val_main_v61]

theorem ref38 (l : Fin 1024) : val_main_v38 (F := Ideal) x sc w dgu (ix1 l)
    = ∑ b : Fin 2, ∑ s : Fin 2048, xhatR x b s l * dn sc w dgu b s l := by
  unfold val_main_v38
  refine (Reals.hostSum_two _ _ _ _ rfl l).trans ?_
  exact Finset.sum_congr rfl fun b _ => Finset.sum_congr rfl fun s _ => ref37 x sc w dgu b s l

theorem ref42 (l : Fin 1024) : val_main_v42 (F := Ideal) x sc w dgu (ix1 l) = val_main_v38 (F := Ideal) x sc w dgu (ix1 l) := by
  unfold val_main_v42
  refine (Reals.hostSum_two _ _ _ _ rfl l).trans ?_
  rw [Fin.sum_univ_one, Fin.sum_univ_one, val_main_v39_apply]
  blk_ext

theorem ref58 : val_main_v58 (F := Ideal) x sc w dgu = fun i : S1x1024.Idx =>
    ∑ b : Fin 2, ∑ s : Fin 2048, xhatR x b s (i 1) * dn sc w dgu b s (i 1) := by
  funext i
  rw [val_main_v58_apply]
  refine Eq.trans ?_ ((ref42 x sc w dgu (i 1)).trans (ref38 x sc w dgu (i 1)))
  blk_ext

/-! ## The two forms at real arguments -/

section Real

variable (x : S2x2048x1024.Idx → ℝ) (sc : S2x1024.Idx → ℝ) (gm : S1x1024.Idx → ℝ)
  (w : S1x1024x5632.Idx → ℝ) (dgu : S2x2048x5632.Idx → ℝ) (b : Fin 2) (s : Fin 2048)

theorem xs_coe : xs (Reals.up x) b s = Reals.up fun j => x (ix3 b s j) := rfl

theorem dres_eq (dx : FVec Ideal S2x2048x1024 .f32) (j : Fin 1024) :
    dresR (Reals.up x) (Reals.up sc) (Reals.up gm) (Reals.up w) (Reals.up dgu) dx b s j
      = dres (Reals.up x) (Reals.up sc) (Reals.up gm) (Reals.up w) (Reals.up dgu) dx b s j := by
  unfold dresR dres
  rw [xs_coe, dw_coe, lit_N, lit_μ, Rms.grad_eq _ _ (by norm_num), Rms.vjp, add_assoc, add_assoc, add_assoc]

theorem xhat_eq (j : Fin 1024) :
    xhatR (Reals.up x) b s j = xhat (Reals.up x) b s j := by
  unfold xhatR xhat
  rw [xs_coe, lit_N, lit_μ, Rms.inv_eq _ (by norm_num)]

end Real

end Cert.FirstNormBwdRefIdeal.Read
end
-- ==== Proof.FirstNormBwdClaim.lean ====
module

public import proofs.«01_k».proof.Defs
public import proofs.«01_k».proof.Proof.FirstNormRef
public import proofs.«01_k».proof.Proof.Gen.FirstNormBwdRefIdeal.Run
public import proofs.«01_k».proof.Proof.Gen.FirstNormBwd.Frame

@[expose] public section

set_option maxHeartbeats 1600000

noncomputable section

namespace Cert.Proof

open Idealize.ShloMosaic Idealize.ShloMosaic.TcCoe Idealize.SL.Sem

instance facts_first_norm_bwd : Pre_first_norm_bwd_finite.Facts := by constructor <;> decide

open Pre_first_norm_bwd_finite in
/-- Arguments that pass the precondition are arrays of real numbers. -/
theorem finite_FirstNormBwd (x0 : FVec Ideal S2x2048x1024 .f32) (x1 x2 : FVec Ideal S2x1024 .f32) (x3 : FVec Ideal S1x1024 .f32)
    (x4 : FVec Ideal S1x1024x5632 .f32) (x5 : FVec Ideal S2x2048x5632 .f32) (x6 : FVec Ideal S2x2048x1024 .f32)
    (h : Pre_first_norm_bwd_finite.fn (F := Ideal) x0 x1 x2 x3 x4 x5 x6 = fun _ => 1#1) :
    (∃ r, x0 = Reals.up r) ∧ (∃ r, x2 = Reals.up r) ∧ (∃ r, x3 = Reals.up r) ∧ (∃ r, x4 = Reals.up r) ∧ (∃ r, x5 = Reals.up r) := by
  have h1 := congrFun h (fun a => a.elim0)
  unfold Pre_first_norm_bwd_finite.fn at h1
  obtain ⟨h, h6⟩ := Reals.and_one h1
  obtain ⟨h, h5⟩ := Reals.and_one h
  obtain ⟨h, h4⟩ := Reals.and_one h
  obtain ⟨h, h3⟩ := Reals.and_one h
  obtain ⟨h0, h2⟩ := Reals.and_one h
  exact ⟨Reals.real_of_all _ _ _ _ _ _ h0, Reals.real_of_all _ _ _ _ _ _ h2, Reals.real_of_all _ _ _ _ _ _ h3,
    Reals.real_of_all _ _ _ _ _ _ h4, Reals.real_of_all _ _ _ _ _ _ h5⟩

open Cert.FirstNormBwdIdeal.Value Cert.FirstNormBwdRefIdeal.Read in
open Cert.NormBwdIdeal.Value (dh dn) in
theorem algebraic_FirstNormBwd : Cert.algebraic_FirstNormBwdIdeal_FirstNormBwdRefIdeal_pre_first_norm_bwd_finite := by
  intro m g m' g' hpre hagree
  refine ⟨fun c => (Cert.FirstNormBwdIdeal.Gen.dats m 0 c).arrAt 6 Cert.FirstNormBwdIdeal.cfg0.N,
    fun c => (Cert.FirstNormBwdIdeal.Gen.dats m 0 c).arrAt 7 Cert.FirstNormBwdIdeal.cfg0.N,
    fun c => (Cert.FirstNormBwdIdeal.Gen.dats m 0 c).arrAt 8 Cert.FirstNormBwdIdeal.cfg0.N,
    fun c => (Cert.FirstNormBwdIdeal.Gen.dats m 0 c).arrAt 9 Cert.FirstNormBwdIdeal.cfg0.N,
    run_blocks m g, θ_run_mono (Cert.FirstNormBwdRefIdeal.Value.run m' g') fun r hr c => ?_⟩
  obtain ⟨h6, h7, h8, h9, h⟩ := hr c
  obtain ⟨e0, e1, e2, e3, e4, e5, e6⟩ := hagree c
  replace h6 := h6.trans (val_main_v59_eq ..)
  replace h7 := h7.trans (val_main_v60_eq ..)
  replace h8 := h8.trans (val_main_v61_eq ..)
  replace h9 := h9.trans (val_main_v58_eq ..)
  rw [e0, e2, e3, e4, e5, e6] at h6
  rw [e4, e5] at h7
  rw [e0, e3, e4, e5] at h8
  rw [e0, e2, e4, e5] at h9
  refine ⟨h6.trans ((ref59 ..).trans ((?_ : _ = _).trans (final6 m c).symm)), h7.trans ((ref60 ..).trans (final7 m c).symm),
    h8.trans ((ref61 ..).trans ((?_ : _ = _).trans (final8 m c).symm)), h9.trans ((ref58 ..).trans ((?_ : _ = _).trans (final9 m c).symm)), h⟩
  all_goals obtain ⟨⟨x0, h0⟩, ⟨x2, h2⟩, ⟨x3, h3⟩, ⟨x4, h4⟩, ⟨x5, h5⟩⟩ := finite_FirstNormBwd _ _ _ _ _ _ _ (hpre c)
  · funext i
    change dresR (A0 m c) (A2 m c) (A3 m c) (A4 m c) (A5 m c) (A6 m c) _ _ _ = dres (A0 m c) (A2 m c) (A3 m c) (A4 m c) (A5 m c) (A6 m c) _ _ _
    rw [A0, A2, A3, A4, A5, h0, h2, h3, h4, h5]
    exact dres_eq ..
  · funext i
    change ∑ s, xhatR (A0 m c) _ _ _ * A3 m c _ * dh (A4 m c) (A5 m c) _ _ _ = ∑ s, dh (A4 m c) (A5 m c) _ _ _ * (xhat (A0 m c) _ _ _ * A3 m c _)
    rw [A0, h0]
    exact Finset.sum_congr rfl fun s _ => (mul_comm _ _).trans (congrArg (fun q : EReal => _ * (q * _)) (xhat_eq ..))
  · funext i
    change ∑ b, ∑ s, xhatR (A0 m c) _ _ _ * dn (A2 m c) (A4 m c) (A5 m c) _ _ _
      = ∑ b, ∑ s, dn (A2 m c) (A4 m c) (A5 m c) _ _ _ * xhat (A0 m c) _ _ _
    rw [A0, h0]
    exact Finset.sum_congr rfl fun b _ => Finset.sum_congr rfl fun s _ =>
      (mul_comm _ _).trans (congrArg₂ (· * · : EReal → EReal → EReal) rfl (xhat_eq ..))

end Cert.Proof
end
-- ==== Proof.AttnFwd.lean ====
module

public import proofs.«01_k».proof.Proof.Gen.AttnFwdIdeal.Value
public import proofs.«01_k».proof.Proof.AttnMath

@[expose] public section

/-! The causal attention's forward call, as its kernel computes it: a tile of 256 query rows after another, each with its own
maximum, its sum of exponentials and their log-sum. -/

set_option maxRecDepth 16384

noncomputable section

open Idealize.ShloMosaic Idealize.ShloMosaic.TcCoe Idealize.SL.Sem
open Idealize.ShloMosaic.Pipeline (Dat)
open Cert.AttnBwdIdeal.Value (sT sc bot)

namespace Cert.AttnFwdIdeal.Value

open Cert.AttnFwdIdeal Cert.AttnFwdIdeal.Gen

theorem named : Named.named (F := Ideal) κ "mask" (φ := .f32) 0xF149F2CA#32 = (⊥ : EReal) :=
  IdealRules.named_const.ideal_named_scalar κ "mask" (φ := .f32) _ _ rfl

/-! ## A tile of 256 queries against the first `N` keys -/

section Generic

variable {N : ℕ} (x : FVec Ideal ⟨2, ![256, N]⟩ .f32) (v : Vec Ideal ⟨2, ![N, 128]⟩ .bf16) (m : FVec Ideal S256x1 .f32) (r : Fin 256)

/-- A row's maximum, its exponentials, their sum, the weighted values and the log-sum. -/
def mX : EReal := Finset.univ.sup fun j : Fin N => x (ix2 r j)

def eX (j : Fin N) : EReal := Ideal.exp (x (ix2 r j) - mX x r)

def lX : EReal := ∑ j : Fin N, eX x r j

def oX (e : Fin 128) : EReal := Ideal.div (∑ j : Fin N, eX x r j * v (ix2 j e)) (lX x r)

def tX : EReal := mX x r + Ideal.log (lX x r)

theorem mx_at (h h1 h2 h3) :
    shapeCast S256x1 (multiReduction .maximumf [1] S256 x 0xFF800000#32 h h1 h2) h3 (ix2 r 0) = mX x r := by
  pointwise
  rw [bot]
  rfl

theorem ex (h) (j : Fin N) : exp (subf x (broadcastTo (⟨2, ![256, N]⟩ : Shape) m h)) (ix2 r j) = Ideal.exp (x (ix2 r j) - m (ix2 r 0)) := by
  pointwise

theorem ex_at (h h1 h2 h3 h4) (j : Fin N) :
    exp (subf x (broadcastTo (⟨2, ![256, N]⟩ : Shape) (shapeCast S256x1 (multiReduction .maximumf [1] S256 x 0xFF800000#32 h h1 h2) h3) h4)) (ix2 r j)
      = eX x r j :=
  (ex x _ r h4 j).trans (congrArg (fun y : EReal => Ideal.exp (x (ix2 r j) - y)) (mx_at x r h h1 h2 h3))

theorem sm (h h1 h2 h3) :
    shapeCast S256x1 (multiReduction .add [1] S256 x 0x00000000#32 h h1 h2) h3 (ix2 r 0) = ∑ j : Fin N, x (ix2 r j) := by
  pointwise

theorem sm_at (E : FVec Ideal ⟨2, ![256, N]⟩ .f32) (hE : ∀ j : Fin N, E (ix2 r j) = eX x r j) (h h1 h2 h3) :
    shapeCast S256x1 (multiReduction .add [1] S256 E 0x00000000#32 h h1 h2) h3 (ix2 r 0) = lX x r :=
  (sm E r h h1 h2 h3).trans (Finset.sum_congr rfl fun j _ => hE j)

theorem ls_at (l : FVec Ideal S256x1 .f32) (hm : m (ix2 r 0) = mX x r) (hl : l (ix2 r 0) = lX x r) (h h') (e : Fin 128) :
    broadcastTo S256x128 (shapeCast S256x1 (addf m (log l)) h) h' (ix2 r e) = tX x r := by
  rw [tX, ← hm, ← hl]
  pointwise

theorem masked (n : ℕ) (hN : N = n + 256) (j : Fin N) (f : Fin N → EReal) :
    (if h : j.val < n then f j
      else Scalar.select (IntOp.cmpi CmpIPredicate.sle (BitVec.ofNat 32 (j.val - n)) (BitVec.ofNat 32 r.val)) (f ⟨n + (j.val - n), by omega⟩)
        (Named.named (F := Ideal) κ "mask" (φ := .f32) 0xF149F2CA#32)) = if j.val ≤ n + r.val then f j else ⊥ := by
  rw [named, ← Cert.AttnBwdIdeal.Value.named]
  exact Cert.AttnBwdIdeal.Value.masked n hN r j f

end Generic

variable (q : Vec Ideal S256x128 .bf16)

section

variable (k v : Vec Ideal S256x128 .bf16) (r : Fin 256)

theorem s0 (j : Fin 256) : (k0_pay1 q k : FVec Ideal S256x256 .f32) (ix2 r j) = if j.val ≤ 0 + r.val then sT q k r j else ⊥ := by
  pointwise [k0_pay1]
  refine (congrArg (Scalar.select _ _) (named.trans Cert.AttnBwdIdeal.Value.named.symm)).trans ?_
  refine (Cert.AttnBwdIdeal.Value.select_le _ _ j.isLt r.isLt _).trans ?_
  rfl

theorem e0 (j : Fin 256) : (k0_pay3 q k : FVec Ideal S256x256 .f32) (ix2 r j) = eX (k0_pay1 q k) r j :=
  ex_at (k0_pay1 q k) r _ _ _ _ _ j

theorem l0 : (k0_pay4 q k : FVec Ideal S256x1 .f32) (ix2 r 0) = lX (k0_pay1 q k) r :=
  sm_at (k0_pay1 q k) r (k0_pay3 q k) (e0 q k r) _ _ _ _

theorem o0 (e : Fin 128) : (k0_pay5 q k v : FVec Ideal S256x128 .bf16) (ix2 r e) = oX (k0_pay1 q k) v r e := by
  unfold k0_pay5
  refine (truncf_apply _ _ _ _).trans ?_
  refine Eq.trans ?_ (congrArg₂ Ideal.div (Finset.sum_congr (M := EReal) rfl fun j _ => congrArg (· * v (ix2 j e) : EReal → EReal) (e0 q k r j)) (l0 q k r))
  generalize k0_pay3 q k = E
  generalize k0_pay4 q k = L
  pointwise

theorem t0 (e : Fin 128) : (k0_pay6 q k : FVec Ideal S256x128 .f32) (ix2 r e) = tX (k0_pay1 q k) r :=
  ls_at (k0_pay1 q k) (k0_pay2 q k) r (k0_pay4 q k) (mx_at (k0_pay1 q k) r _ _ _ _) (l0 q k r) shapeCasts_S256x1_S256x1 broadcasts_S256x1_S256x128 e

end

section

variable (k v : Vec Ideal S512x128 .bf16) (r : Fin 256)

theorem s1 (j : Fin 512) : (k0_pay9 (k0_pay7 q) (k0_pay8 k) : FVec Ideal S256x512 .f32) (ix2 r j) = if j.val ≤ 256 + r.val then sT q k r j else ⊥ := by
  pointwise [k0_pay9, k0_pay7, k0_pay8]
  exact masked r 256 rfl j (sT q k r)

theorem e1 (j : Fin 512) : (k0_pay11 (k0_pay7 q) (k0_pay8 k) : FVec Ideal S256x512 .f32) (ix2 r j) = eX (k0_pay9 (k0_pay7 q) (k0_pay8 k)) r j :=
  ex_at (k0_pay9 (k0_pay7 q) (k0_pay8 k)) r _ _ _ _ _ j

theorem l1 : (k0_pay12 (k0_pay7 q) (k0_pay8 k) : FVec Ideal S256x1 .f32) (ix2 r 0) = lX (k0_pay9 (k0_pay7 q) (k0_pay8 k)) r :=
  sm_at (k0_pay9 (k0_pay7 q) (k0_pay8 k)) r (k0_pay11 (k0_pay7 q) (k0_pay8 k)) (e1 q k r) _ _ _ _

theorem o1 (e : Fin 128) : (k0_pay13 (k0_pay7 q) (k0_pay8 k) v : FVec Ideal S256x128 .bf16) (ix2 r e) = oX (k0_pay9 (k0_pay7 q) (k0_pay8 k)) v r e := by
  unfold k0_pay13
  refine (truncf_apply _ _ _ _).trans ?_
  refine Eq.trans ?_ (congrArg₂ Ideal.div (Finset.sum_congr (M := EReal) rfl fun j _ => congrArg (· * v (ix2 j e) : EReal → EReal) (e1 q k r j)) (l1 q k r))
  generalize k0_pay11 (k0_pay7 q) (k0_pay8 k) = E
  generalize k0_pay12 (k0_pay7 q) (k0_pay8 k) = L
  pointwise

theorem t1 (e : Fin 128) : (k0_pay14 (k0_pay7 q) (k0_pay8 k) : FVec Ideal S256x128 .f32) (ix2 r e) = tX (k0_pay9 (k0_pay7 q) (k0_pay8 k)) r :=
  ls_at (k0_pay9 (k0_pay7 q) (k0_pay8 k)) (k0_pay10 (k0_pay7 q) (k0_pay8 k)) r (k0_pay12 (k0_pay7 q) (k0_pay8 k)) (mx_at (k0_pay9 (k0_pay7 q) (k0_pay8 k)) r _ _ _ _) (l1 q k r) shapeCasts_S256x1_S256x1 broadcasts_S256x1_S256x128 e

end

section

variable (k v : Vec Ideal S768x128 .bf16) (r : Fin 256)

theorem s2 (j : Fin 768) : (k0_pay16 (k0_pay15 q k) (iota .tc S256x256 32 [0] iota_S256x256_d0_w32) (iota .tc S256x256 32 [1] iota_S256x256_d1_w32) : FVec Ideal S256x768 .f32) (ix2 r j) = if j.val ≤ 512 + r.val then sT q k r j else ⊥ := by
  pointwise [k0_pay16, k0_pay15]
  exact masked r 512 rfl j (sT q k r)

theorem e2 (j : Fin 768) : (k0_pay18 (k0_pay15 q k) (iota .tc S256x256 32 [0] iota_S256x256_d0_w32) (iota .tc S256x256 32 [1] iota_S256x256_d1_w32) : FVec Ideal S256x768 .f32) (ix2 r j) = eX (k0_pay16 (k0_pay15 q k) (iota .tc S256x256 32 [0] iota_S256x256_d0_w32) (iota .tc S256x256 32 [1] iota_S256x256_d1_w32)) r j :=
  ex_at (k0_pay16 (k0_pay15 q k) (iota .tc S256x256 32 [0] iota_S256x256_d0_w32) (iota .tc S256x256 32 [1] iota_S256x256_d1_w32)) r _ _ _ _ _ j

theorem l2 : (k0_pay19 (k0_pay15 q k) (iota .tc S256x256 32 [0] iota_S256x256_d0_w32) (iota .tc S256x256 32 [1] iota_S256x256_d1_w32) : FVec Ideal S256x1 .f32) (ix2 r 0) = lX (k0_pay16 (k0_pay15 q k) (iota .tc S256x256 32 [0] iota_S256x256_d0_w32) (iota .tc S256x256 32 [1] iota_S256x256_d1_w32)) r :=
  sm_at (k0_pay16 (k0_pay15 q k) (iota .tc S256x256 32 [0] iota_S256x256_d0_w32) (iota .tc S256x256 32 [1] iota_S256x256_d1_w32)) r (k0_pay18 (k0_pay15 q k) (iota .tc S256x256 32 [0] iota_S256x256_d0_w32) (iota .tc S256x256 32 [1] iota_S256x256_d1_w32)) (e2 q k r) _ _ _ _

theorem o2 (e : Fin 128) : (k0_pay20 (k0_pay15 q k) (iota .tc S256x256 32 [0] iota_S256x256_d0_w32) (iota .tc S256x256 32 [1] iota_S256x256_d1_w32) v : FVec Ideal S256x128 .bf16) (ix2 r e) = oX (k0_pay16 (k0_pay15 q k) (iota .tc S256x256 32 [0] iota_S256x256_d0_w32) (iota .tc S256x256 32 [1] iota_S256x256_d1_w32)) v r e := by
  unfold k0_pay20
  refine (truncf_apply _ _ _ _).trans ?_
  refine Eq.trans ?_ (congrArg₂ Ideal.div (Finset.sum_congr (M := EReal) rfl fun j _ => congrArg (· * v (ix2 j e) : EReal → EReal) (e2 q k r j)) (l2 q k r))
  generalize k0_pay18 (k0_pay15 q k) (iota .tc S256x256 32 [0] iota_S256x256_d0_w32) (iota .tc S256x256 32 [1] iota_S256x256_d1_w32) = E
  generalize k0_pay19 (k0_pay15 q k) (iota .tc S256x256 32 [0] iota_S256x256_d0_w32) (iota .tc S256x256 32 [1] iota_S256x256_d1_w32) = L
  pointwise

theorem t2 (e : Fin 128) : (k0_pay21 (k0_pay15 q k) (iota .tc S256x256 32 [0] iota_S256x256_d0_w32) (iota .tc S256x256 32 [1] iota_S256x256_d1_w32) : FVec Ideal S256x128 .f32) (ix2 r e) = tX (k0_pay16 (k0_pay15 q k) (iota .tc S256x256 32 [0] iota_S256x256_d0_w32) (iota .tc S256x256 32 [1] iota_S256x256_d1_w32)) r :=
  ls_at (k0_pay16 (k0_pay15 q k) (iota .tc S256x256 32 [0] iota_S256x256_d0_w32) (iota .tc S256x256 32 [1] iota_S256x256_d1_w32)) (k0_pay17 (k0_pay15 q k) (iota .tc S256x256 32 [0] iota_S256x256_d0_w32) (iota .tc S256x256 32 [1] iota_S256x256_d1_w32)) r (k0_pay19 (k0_pay15 q k) (iota .tc S256x256 32 [0] iota_S256x256_d0_w32) (iota .tc S256x256 32 [1] iota_S256x256_d1_w32)) (mx_at (k0_pay16 (k0_pay15 q k) (iota .tc S256x256 32 [0] iota_S256x256_d0_w32) (iota .tc S256x256 32 [1] iota_S256x256_d1_w32)) r _ _ _ _) (l2 q k r) shapeCasts_S256x1_S256x1 broadcasts_S256x1_S256x128 e

end

section

variable (k v : Vec Ideal S1024x128 .bf16) (r : Fin 256)

theorem s3 (j : Fin 1024) : (k0_pay22 q k : FVec Ideal S256x1024 .f32) (ix2 r j) = if j.val ≤ 768 + r.val then sT q k r j else ⊥ := by
  pointwise [k0_pay22]
  exact masked r 768 rfl j (sT q k r)

theorem e3 (j : Fin 1024) : (k0_pay24 (k0_pay22 q k) : FVec Ideal S256x1024 .f32) (ix2 r j) = eX (k0_pay22 q k) r j :=
  ex_at (k0_pay22 q k) r _ _ _ _ _ j

theorem l3 : (k0_pay25 (k0_pay22 q k) : FVec Ideal S256x1 .f32) (ix2 r 0) = lX (k0_pay22 q k) r :=
  sm_at (k0_pay22 q k) r (k0_pay24 (k0_pay22 q k)) (e3 q k r) _ _ _ _

theorem o3 (e : Fin 128) : (k0_pay26 (k0_pay22 q k) v : FVec Ideal S256x128 .bf16) (ix2 r e) = oX (k0_pay22 q k) v r e := by
  unfold k0_pay26
  refine (truncf_apply _ _ _ _).trans ?_
  refine Eq.trans ?_ (congrArg₂ Ideal.div (Finset.sum_congr (M := EReal) rfl fun j _ => congrArg (· * v (ix2 j e) : EReal → EReal) (e3 q k r j)) (l3 q k r))
  generalize k0_pay24 (k0_pay22 q k) = E
  generalize k0_pay25 (k0_pay22 q k) = L
  pointwise

theorem t3 (e : Fin 128) : (k0_pay27 (k0_pay22 q k) : FVec Ideal S256x128 .f32) (ix2 r e) = tX (k0_pay22 q k) r :=
  ls_at (k0_pay22 q k) (k0_pay23 (k0_pay22 q k)) r (k0_pay25 (k0_pay22 q k)) (mx_at (k0_pay22 q k) r _ _ _ _) (l3 q k r) shapeCasts_S256x1_S256x1 broadcasts_S256x1_S256x128 e

end

section

variable (k v : Vec Ideal S1280x128 .bf16) (r : Fin 256)

theorem s4 (j : Fin 1280) : (k0_pay28 q k : FVec Ideal S256x1280 .f32) (ix2 r j) = if j.val ≤ 1024 + r.val then sT q k r j else ⊥ := by
  pointwise [k0_pay28]
  exact masked r 1024 rfl j (sT q k r)

theorem e4 (j : Fin 1280) : (k0_pay30 q k : FVec Ideal S256x1280 .f32) (ix2 r j) = eX (k0_pay28 q k) r j :=
  ex_at (k0_pay28 q k) r _ _ _ _ _ j

theorem l4 : (k0_pay31 (k0_pay30 q k) : FVec Ideal S256x1 .f32) (ix2 r 0) = lX (k0_pay28 q k) r :=
  sm_at (k0_pay28 q k) r (k0_pay30 q k) (e4 q k r) _ _ _ _

theorem o4 (e : Fin 128) : (k0_pay32 (k0_pay30 q k) v : FVec Ideal S256x128 .bf16) (ix2 r e) = oX (k0_pay28 q k) v r e := by
  unfold k0_pay32
  refine (truncf_apply _ _ _ _).trans ?_
  refine Eq.trans ?_ (congrArg₂ Ideal.div (Finset.sum_congr (M := EReal) rfl fun j _ => congrArg (· * v (ix2 j e) : EReal → EReal) (e4 q k r j)) (l4 q k r))
  generalize k0_pay30 q k = E
  generalize k0_pay31 (k0_pay30 q k) = L
  pointwise

theorem t4 (e : Fin 128) : (k0_pay33 (k0_pay29 q k) (k0_pay30 q k) : FVec Ideal S256x128 .f32) (ix2 r e) = tX (k0_pay28 q k) r :=
  ls_at (k0_pay28 q k) (k0_pay29 q k) r (k0_pay31 (k0_pay30 q k)) (mx_at (k0_pay28 q k) r _ _ _ _) (l4 q k r) shapeCasts_S256x1_S256x1 broadcasts_S256x1_S256x128 e

end

section

variable (k v : Vec Ideal S1536x128 .bf16) (r : Fin 256)

theorem s5 (j : Fin 1536) : (k0_pay34 q k : FVec Ideal S256x1536 .f32) (ix2 r j) = if j.val ≤ 1280 + r.val then sT q k r j else ⊥ := by
  pointwise [k0_pay34]
  exact masked r 1280 rfl j (sT q k r)

theorem e5 (j : Fin 1536) : (k0_pay36 q k : FVec Ideal S256x1536 .f32) (ix2 r j) = eX (k0_pay34 q k) r j :=
  ex_at (k0_pay34 q k) r _ _ _ _ _ j

theorem l5 : (k0_pay37 q k : FVec Ideal S256x1 .f32) (ix2 r 0) = lX (k0_pay34 q k) r :=
  sm_at (k0_pay34 q k) r (k0_pay36 q k) (e5 q k r) _ _ _ _

theorem o5 (e : Fin 128) : (k0_pay40 (k0_pay37 q k) (k0_pay38 q k) (k0_pay39 v) : FVec Ideal S256x128 .bf16) (ix2 r e) = oX (k0_pay34 q k) v r e := by
  unfold k0_pay40 k0_pay38 k0_pay39
  refine (truncf_apply _ _ _ _).trans ?_
  refine Eq.trans ?_ (congrArg₂ Ideal.div (Finset.sum_congr (M := EReal) rfl fun j _ => congrArg (· * v (ix2 j e) : EReal → EReal) (e5 q k r j)) (l5 q k r))
  generalize k0_pay36 q k = E
  generalize k0_pay37 q k = L
  pointwise

theorem t5 (e : Fin 128) : (k0_pay41 (k0_pay35 q k) (k0_pay37 q k) : FVec Ideal S256x128 .f32) (ix2 r e) = tX (k0_pay34 q k) r :=
  ls_at (k0_pay34 q k) (k0_pay35 q k) r (k0_pay37 q k) (mx_at (k0_pay34 q k) r _ _ _ _) (l5 q k r) shapeCasts_S256x1_S256x1 broadcasts_S256x1_S256x128 e

end

section

variable (k v : Vec Ideal S1792x128 .bf16) (r : Fin 256)

theorem s6 (j : Fin 1792) : (k0_pay42 q k : FVec Ideal S256x1792 .f32) (ix2 r j) = if j.val ≤ 1536 + r.val then sT q k r j else ⊥ := by
  pointwise [k0_pay42]
  exact masked r 1536 rfl j (sT q k r)

theorem e6 (j : Fin 1792) : (k0_pay44 q k : FVec Ideal S256x1792 .f32) (ix2 r j) = eX (k0_pay42 q k) r j :=
  ex_at (k0_pay42 q k) r _ _ _ _ _ j

theorem l6 : (k0_pay45 q k : FVec Ideal S256x1 .f32) (ix2 r 0) = lX (k0_pay42 q k) r :=
  sm_at (k0_pay42 q k) r (k0_pay44 q k) (e6 q k r) _ _ _ _

theorem o6 (e : Fin 128) : (k0_pay46 q k v : FVec Ideal S256x128 .bf16) (ix2 r e) = oX (k0_pay42 q k) v r e := by
  unfold k0_pay46
  refine (truncf_apply _ _ _ _).trans ?_
  refine Eq.trans ?_ (congrArg₂ Ideal.div (Finset.sum_congr (M := EReal) rfl fun j _ => congrArg (· * v (ix2 j e) : EReal → EReal) (e6 q k r j)) (l6 q k r))
  generalize k0_pay44 q k = E
  generalize k0_pay45 q k = L
  pointwise

theorem t6 (e : Fin 128) : (k0_pay47 (k0_pay43 q k) (k0_pay45 q k) : FVec Ideal S256x128 .f32) (ix2 r e) = tX (k0_pay42 q k) r :=
  ls_at (k0_pay42 q k) (k0_pay43 q k) r (k0_pay45 q k) (mx_at (k0_pay42 q k) r _ _ _ _) (l6 q k r) shapeCasts_S256x1_S256x1 broadcasts_S256x1_S256x128 e

end

section

variable (k v : Vec Ideal S2048x128 .bf16) (r : Fin 256)

theorem s7 (j : Fin 2048) : (k0_pay48 q k : FVec Ideal S256x2048 .f32) (ix2 r j) = if j.val ≤ 1792 + r.val then sT q k r j else ⊥ := by
  pointwise [k0_pay48]
  exact masked r 1792 rfl j (sT q k r)

theorem e7 (j : Fin 2048) : (k0_pay50 q k : FVec Ideal S256x2048 .f32) (ix2 r j) = eX (k0_pay48 q k) r j :=
  ex_at (k0_pay48 q k) r _ _ _ _ _ j

theorem l7 : (k0_pay51 q k : FVec Ideal S256x1 .f32) (ix2 r 0) = lX (k0_pay48 q k) r :=
  sm_at (k0_pay48 q k) r (k0_pay50 q k) (e7 q k r) _ _ _ _

theorem o7 (e : Fin 128) : (k0_pay52 q k v : FVec Ideal S256x128 .bf16) (ix2 r e) = oX (k0_pay48 q k) v r e := by
  unfold k0_pay52
  refine (truncf_apply _ _ _ _).trans ?_
  refine Eq.trans ?_ (congrArg₂ Ideal.div (Finset.sum_congr (M := EReal) rfl fun j _ => congrArg (· * v (ix2 j e) : EReal → EReal) (e7 q k r j)) (l7 q k r))
  generalize k0_pay50 q k = E
  generalize k0_pay51 q k = L
  pointwise

theorem t7 (e : Fin 128) : (k0_pay53 q k : FVec Ideal S256x128 .f32) (ix2 r e) = tX (k0_pay48 q k) r :=
  ls_at (k0_pay48 q k) (k0_pay49 q k) r (k0_pay51 q k) (mx_at (k0_pay48 q k) r _ _ _ _) (l7 q k r) shapeCasts_S256x1_S256x1 broadcasts_S256x1_S256x128 e

end

end Cert.AttnFwdIdeal.Value
end
-- ==== Proof.AttnFwdBlk.lean ====
module

public import proofs.«01_k».proof.Proof.AttnFwd
public import Idealize.ShloMosaic.Lib.Pipeline.ValueKit

@[expose] public section

/-! The forward attention call: a head's rows from the tiles, and the operands as the host lines leave them. -/

set_option maxRecDepth 16384

noncomputable section

open Idealize.ShloMosaic Idealize.ShloMosaic.TcCoe Idealize.SL.Sem
open Idealize.ShloMosaic.Pipeline (Dat)
open Cert.AttnBwdIdeal.Value (sT sH sc bot hq hk hv hd ln fS fM fE fL fO fLse lay1 lay2 catStep lowStep cat_at low_at ld_row ld_top sum_lt sum_lay2)

namespace Cert.AttnFwdIdeal.Value

open Cert.AttnFwdIdeal Cert.AttnFwdIdeal.Gen

/-! ## A row of scores over all keys -/

section Row

variable (f w : Fin 2048 → EReal)

def rM : EReal := Finset.univ.sup f

def rE (j : Fin 2048) : EReal := Ideal.exp (f j - rM f)

def rL : EReal := ∑ j : Fin 2048, rE f j

def rO : EReal := Ideal.div (∑ j : Fin 2048, rE f j * w j) (rL f)

def rT : EReal := rM f + Ideal.log (rL f)

variable {N : ℕ} (hN : N ≤ 2048) (h0 : ∀ j : Fin 2048, N ≤ j.val → f j = ⊥)

include h0 in
theorem sup_top : (Finset.univ.sup fun j : Fin N => f ⟨j.val, by omega⟩) = Finset.univ.sup f := by
  refine le_antisymm (Finset.sup_le fun j _ => Finset.le_sup (f := f) (Finset.mem_univ _)) (Finset.sup_le fun j _ => ?_)
  by_cases h : j.val < N
  · exact Finset.le_sup (f := fun j : Fin N => f ⟨j.val, by omega⟩) (Finset.mem_univ (⟨j.val, h⟩ : Fin N))
  · rw [h0 j (by omega)]; exact bot_le

theorem sum_top (g : Fin 2048 → EReal) (hg : ∀ j : Fin 2048, N ≤ j.val → g j = 0) : (∑ j : Fin N, g ⟨j.val, by omega⟩) = ∑ j : Fin 2048, g j := by
  refine (sum_lt hN g).trans (Finset.sum_congr (M := EReal) rfl fun j _ => ?_)
  split
  · rfl
  · exact (hg j (by omega)).symm

include h0 in
theorem rE_top (j : Fin 2048) (h : N ≤ j.val) : rE f j = 0 := by
  rw [rE, h0 j h, EReal.bot_sub]; exact Ideal.exp_bot

variable (x : FVec Ideal ⟨2, ![256, N]⟩ .f32) (r : Fin 256) (hx : ∀ j : Fin N, x (ix2 r j) = f ⟨j.val, by omega⟩)

include h0 hx in
theorem mX_top : mX x r = rM f := by
  unfold mX
  simp only [hx]
  exact sup_top f hN h0

include h0 hx in
theorem eX_top (j : Fin N) : eX x r j = rE f ⟨j.val, by omega⟩ := by
  rw [eX, rE, mX_top f hN h0 x r hx, hx]

include h0 hx in
theorem lX_top : lX x r = rL f := by
  unfold lX
  simp only [eX_top f hN h0 x r hx]
  exact sum_top hN (rE f) (rE_top f h0)

include h0 hx in
theorem tX_top : tX x r = rT f := by
  rw [tX, rT, mX_top f hN h0 x r hx, lX_top f hN h0 x r hx]

include h0 hx in
theorem oX_top (v : Vec Ideal ⟨2, ![N, 128]⟩ .bf16) (e : Fin 128) (hv : ∀ j : Fin N, v (ix2 j e) = w ⟨j.val, by omega⟩) : oX x v r e = rO f w := by
  rw [oX, rO, lX_top f hN h0 x r hx]
  refine congrArg (Ideal.div · (rL f)) ((Finset.sum_congr (M := EReal) rfl fun j _ =>
    congrArg₂ (· * · : EReal → EReal → EReal) (eX_top f hN h0 x r hx j) (hv j)).trans ?_)
  exact sum_top hN (fun j => rE f j * w j) fun j h => by rw [rE_top f h0 j h, zero_mul]

end Row

/-- One block's turn on an array that is written a block of rows after another. -/
theorem laid {φ : EltTy} (n : ℕ) (F : Fin 2048 → Fin 128 → Elt Ideal φ) (hn : n + 256 ≤ 2048) (inb)
    (w : (Rect.unit (s := S2048x128) ![n, 0] ![256, 128] inb).shape.Idx → Elt Ideal φ) (L : List (View.Piece (Elt Ideal) S2048x128 φ))
    (hL : ∀ (r : Fin 2048) (e : Fin 128), r.val < n → View.canon L (ix2 r e) = F r e)
    (hw : ∀ (r : Fin 256) (e : Fin 128), w (ix2 r e) = F ⟨n + r.val, by omega⟩ e) (r : Fin 2048) (e : Fin 128) (hr : r.val < n + 256) :
    View.canon (⟨Rect.unit (s := S2048x128) ![n, 0] ![256, 128] inb, w⟩ :: L) (ix2 r e) = F r e := by
  by_cases h : r.val < n
  · rw [View.canon_cons_of_not_mem _ _ (fun hm => ?_)]
    · exact hL r e h
    · have := ((Rect.mem_set_unit (inb := inb)).1 hm 0).1
      exact absurd h (by simpa using this)
  · have e1 : (ix2 r e : S2048x128.Idx) = (Rect.unit (s := S2048x128) ![n, 0] ![256, 128] inb).emb (ix2 (⟨r.val - n, by omega⟩ : Fin 256) e) := by
      funext a; fin_cases a <;> exact Fin.ext (by simp [Rect.idx_unit_val]; try omega)
    refine (congrArg _ e1).trans ((View.canon_cons_emb _ _ _ _).trans ((hw _ e).trans ?_))
    congr 1
    exact Fin.ext (by dsimp only; omega)

section Head

variable (x0 x1 x2 : Vec Ideal S2048x128 .bf16)

/-- A query's masked scores over all keys. -/
def hS (r j : Fin 2048) : EReal := if j.val ≤ r.val then sH x0 x1 r j else ⊥

section Loads

variable {N : ℕ} (n : ℕ) (hN : N = n + 256) (hN' : N ≤ 2048)
  (ir : ∀ a, (![n, 0] : Fin S2048x128.rank → ℕ) a + (![256, 128] : Fin S2048x128.rank → ℕ) a ≤ S2048x128.size a)
  (ik : ∀ a, (![0, 0] : Fin S2048x128.rank → ℕ) a + (![N, 128] : Fin S2048x128.rank → ℕ) a ≤ S2048x128.size a)
  (x : FVec Ideal ⟨2, ![256, N]⟩ .f32) (r : Fin 256)
  (hx : ∀ j : Fin N, x (ix2 r j) = if j.val ≤ n + r.val then sT (View.ld x0 (Rect.unit (s := S2048x128) ![n, 0] ![256, 128] ir))
    (View.ld x1 (Rect.unit (s := S2048x128) ![0, 0] ![N, 128] ik)) r j else ⊥)

include hN hN' hx in
theorem x_ld (h : n + 256 ≤ 2048) (j : Fin N) : x (ix2 r j) = hS x0 x1 ⟨n + r.val, by omega⟩ ⟨j.val, by omega⟩ := by
  rw [hx, hS]
  split
  · exact congrArg (· * sc) (Finset.sum_congr (M := EReal) rfl fun e _ =>
      congrArg₂ (· * · : EReal → EReal → EReal) (ld_row n h ir x0 r e) (ld_top hN' ik x1 j e))
  · rfl

include hN hN' in
theorem top_bot (h : n + 256 ≤ 2048) (j : Fin 2048) (hj : N ≤ j.val) : hS x0 x1 ⟨n + r.val, by omega⟩ j = ⊥ := by
  rw [hS, if_neg (by dsimp only; omega)]

include hN hN' hx in
theorem t_ld (h : n + 256 ≤ 2048) : tX x r = rT (hS x0 x1 ⟨n + r.val, by omega⟩) :=
  tX_top _ hN' (top_bot x0 x1 n hN hN' r h) x r (x_ld x0 x1 n hN hN' ir ik x r hx h)

include hN hN' hx in
theorem o_ld (h : n + 256 ≤ 2048) (e : Fin 128) : oX x (View.ld x2 (Rect.unit (s := S2048x128) ![0, 0] ![N, 128] ik)) r e
    = rO (hS x0 x1 ⟨n + r.val, by omega⟩) fun j => x2 (ix2 j e) :=
  oX_top _ _ hN' (top_bot x0 x1 n hN hN' r h) x r (x_ld x0 x1 n hN hN' ir ik x r hx h) _ e fun j => ld_top hN' ik x2 j e

end Loads

set_option maxHeartbeats 2000000 in
theorem tile3 (r : Fin 2048) (e : Fin 128) : out0_3 x0 x1 x2 (ix2 r e) = rO (hS x0 x1 r) fun j => x2 (ix2 j e) := by
  unfold out0_3 k0_pay61 k0_pay60 k0_pay59 k0_pay58 k0_pay57 k0_pay56 k0_pay55 k0_pay54
  refine laid (φ := .bf16) 1792 (fun r e => rO (hS x0 x1 r) fun j => x2 (ix2 j e)) (by omega) _ _ _ (fun r e hr => ?_) (fun r e => (o7 _ _ _ r e).trans
    (o_ld _ _ _ 1792 rfl (by omega) _ _ _ r (s7 _ _ r) (by omega) e)) r e (by omega)
  refine laid (φ := .bf16) 1536 (fun r e => rO (hS x0 x1 r) fun j => x2 (ix2 j e)) (by omega) _ _ _ (fun r e hr => ?_) (fun r e => (o6 _ _ _ r e).trans
    (o_ld _ _ _ 1536 rfl (by omega) _ _ _ r (s6 _ _ r) (by omega) e)) r e (by omega)
  refine laid (φ := .bf16) 1280 (fun r e => rO (hS x0 x1 r) fun j => x2 (ix2 j e)) (by omega) _ _ _ (fun r e hr => ?_) (fun r e => (o5 _ _ _ r e).trans
    (o_ld _ _ _ 1280 rfl (by omega) _ _ _ r (s5 _ _ r) (by omega) e)) r e (by omega)
  refine laid (φ := .bf16) 1024 (fun r e => rO (hS x0 x1 r) fun j => x2 (ix2 j e)) (by omega) _ _ _ (fun r e hr => ?_) (fun r e => (o4 _ _ _ r e).trans
    (o_ld _ _ _ 1024 rfl (by omega) _ _ _ r (s4 _ _ r) (by omega) e)) r e (by omega)
  refine laid (φ := .bf16) 768 (fun r e => rO (hS x0 x1 r) fun j => x2 (ix2 j e)) (by omega) _ _ _ (fun r e hr => ?_) (fun r e => (o3 _ _ _ r e).trans
    (o_ld _ _ _ 768 rfl (by omega) _ _ _ r (s3 _ _ r) (by omega) e)) r e (by omega)
  refine laid (φ := .bf16) 512 (fun r e => rO (hS x0 x1 r) fun j => x2 (ix2 j e)) (by omega) _ _ _ (fun r e hr => ?_) (fun r e => (o2 _ _ _ r e).trans
    (o_ld _ _ _ 512 rfl (by omega) _ _ _ r (s2 _ _ r) (by omega) e)) r e (by omega)
  refine laid (φ := .bf16) 256 (fun r e => rO (hS x0 x1 r) fun j => x2 (ix2 j e)) (by omega) _ _ _ (fun r e hr => ?_) (fun r e => (o1 _ _ _ r e).trans
    (o_ld _ _ _ 256 rfl (by omega) _ _ _ r (s1 _ _ r) (by omega) e)) r e (by omega)
  refine laid (φ := .bf16) 0 (fun r e => rO (hS x0 x1 r) fun j => x2 (ix2 j e)) (by omega) _ _ _ (fun r e hr => ?_) (fun r e => (o0 _ _ _ r e).trans
    (o_ld _ _ _ 0 rfl (by omega) _ _ _ r (s0 _ _ r) (by omega) e)) r e (by omega)
  exact absurd hr (by omega)

set_option maxHeartbeats 2000000 in
theorem tile4 (r : Fin 2048) (e : Fin 128) : out0_4 x0 x1 x2 (ix2 r e) = rT (hS x0 x1 r) := by
  unfold out0_4 k0_pay61 k0_pay60 k0_pay59 k0_pay58 k0_pay57 k0_pay56 k0_pay55 k0_pay54
  refine laid (φ := .f32) 1792 (fun r _ => rT (hS x0 x1 r)) (by omega) _ _ _ (fun r e hr => ?_) (fun r e => (t7 _ _ r e).trans
    (t_ld _ _ 1792 rfl (by omega) _ _ _ r (s7 _ _ r) (by omega))) r e (by omega)
  refine laid (φ := .f32) 1536 (fun r _ => rT (hS x0 x1 r)) (by omega) _ _ _ (fun r e hr => ?_) (fun r e => (t6 _ _ r e).trans
    (t_ld _ _ 1536 rfl (by omega) _ _ _ r (s6 _ _ r) (by omega))) r e (by omega)
  refine laid (φ := .f32) 1280 (fun r _ => rT (hS x0 x1 r)) (by omega) _ _ _ (fun r e hr => ?_) (fun r e => (t5 _ _ r e).trans
    (t_ld _ _ 1280 rfl (by omega) _ _ _ r (s5 _ _ r) (by omega))) r e (by omega)
  refine laid (φ := .f32) 1024 (fun r _ => rT (hS x0 x1 r)) (by omega) _ _ _ (fun r e hr => ?_) (fun r e => (t4 _ _ r e).trans
    (t_ld _ _ 1024 rfl (by omega) _ _ _ r (s4 _ _ r) (by omega))) r e (by omega)
  refine laid (φ := .f32) 768 (fun r _ => rT (hS x0 x1 r)) (by omega) _ _ _ (fun r e hr => ?_) (fun r e => (t3 _ _ r e).trans
    (t_ld _ _ 768 rfl (by omega) _ _ _ r (s3 _ _ r) (by omega))) r e (by omega)
  refine laid (φ := .f32) 512 (fun r _ => rT (hS x0 x1 r)) (by omega) _ _ _ (fun r e hr => ?_) (fun r e => (t2 _ _ r e).trans
    (t_ld _ _ 512 rfl (by omega) _ _ _ r (s2 _ _ r) (by omega))) r e (by omega)
  refine laid (φ := .f32) 256 (fun r _ => rT (hS x0 x1 r)) (by omega) _ _ _ (fun r e hr => ?_) (fun r e => (t1 _ _ r e).trans
    (t_ld _ _ 256 rfl (by omega) _ _ _ r (s1 _ _ r) (by omega))) r e (by omega)
  refine laid (φ := .f32) 0 (fun r _ => rT (hS x0 x1 r)) (by omega) _ _ _ (fun r e hr => ?_) (fun r e => (t0 _ _ r e).trans
    (t_ld _ _ 0 rfl (by omega) _ _ _ r (s0 _ _ r) (by omega))) r e (by omega)
  exact absurd hr (by omega)

end Head

/-! ## The operands -/

theorem idx : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8] ∧ win0_4.index t = ![t.val / 8, t.val % 8] :=
  (by decide +kernel : ∀ t : Fin grid0.N, _)

variable (m : (ℓ : Loc nD τ sig) → Buf (Elt Ideal) ℓ) (c : Dev nD)

abbrev A0 : FVec Ideal S2x2048x8x64 .f32 := m ((c : Thread nD τ).loc main_arg0)
abbrev A1 : FVec Ideal S2x2048x8x32 .f32 := m ((c : Thread nD τ).loc main_arg1)
abbrev A2 : FVec Ideal S2x2048x8x64 .f32 := m ((c : Thread nD τ).loc main_arg2)
abbrev A3 : FVec Ideal S2x2048x32 .f32 := m ((c : Thread nD τ).loc main_arg3)
abbrev A4 : FVec Ideal S2x2048x8x64 .f32 := m ((c : Thread nD τ).loc main_arg4)

theorem op5 : V m c main_v5 = truncf (F := Ideal) (s := S4096x1024) .bf16 (catStep (A0 m c) (A1 m c)) bitsLt_bf16_f32 := by
  simp only [V, hostOps0, hostOps0_1, hostOps0_2, hostOps0_3, hostOps0_4, hostOps0_5, hostOps0_6,
    List.flatten_cons, List.flatten_nil, List.append_nil, List.cons_append, List.nil_append]
  entry_read
  simp only [StableHlo.TRef.toBuf, StableHlo.TRef.ofBuf, cast_eq]
  try rfl

theorem op9 : V m c main_v9 = truncf (F := Ideal) (s := S4096x1024) .bf16 (catStep (A2 m c) (broadcastInDim S2x2048x8x32 ![0, 1, 2, 3] bcast_S2x2048x1x32_S2x2048x8x32_0_1_2_3
    (broadcastInDim S2x2048x1x32 ![0, 1, 3] bcast_S2x2048x32_S2x2048x1x32_0_1_3 (A3 m c)))) bitsLt_bf16_f32 := by
  simp only [V, hostOps0, hostOps0_1, hostOps0_2, hostOps0_3, hostOps0_4, hostOps0_5, hostOps0_6,
    List.flatten_cons, List.flatten_nil, List.append_nil, List.cons_append, List.nil_append]
  entry_read
  simp only [StableHlo.TRef.toBuf, StableHlo.TRef.ofBuf, cast_eq]
  try rfl

theorem op12 : V m c main_v12 = truncf (F := Ideal) (s := S4096x1024) .bf16 (lowStep (A4 m c)) bitsLt_bf16_f32 := by
  simp only [V, hostOps0, hostOps0_1, hostOps0_2, hostOps0_3, hostOps0_4, hostOps0_5, hostOps0_6,
    List.flatten_cons, List.flatten_nil, List.append_nil, List.cons_append, List.nil_append]
  entry_read
  simp only [StableHlo.TRef.toBuf, StableHlo.TRef.ofBuf, cast_eq]
  try rfl

section Blocks

variable (t : Fin cfg0.N)

theorem tlt : t.val < 16 := lt_of_lt_of_eq t.isLt N_0

/-- Grid point `t`'s sequence and head, and a tile's row and lane in the whole arrays. -/
abbrev tb : Fin 2 := ⟨t.val / 8, by have := tlt t; omega⟩
abbrev th : Fin 8 := ⟨t.val % 8, by omega⟩
abbrev trow (r : Fin 2048) : Fin 4096 := ⟨t.val / 8 * 2048 + r, by have := tlt t; omega⟩
abbrev tcol (e : Fin 128) : Fin 1024 := ⟨t.val % 8 * 128 + e, by omega⟩

theorem bat_row (r : Fin 2048) : Reals.bat (trow t r) = tb t := Fin.ext (by dsimp [Reals.bat]; omega)
theorem pos_row (r : Fin 2048) : Reals.pos (trow t r) = r := Fin.ext (by dsimp [Reals.pos]; omega)
theorem hd_col (e : Fin 128) : hd (tcol t e) = th t := Fin.ext (by dsimp [hd]; omega)
theorem ln_col (e : Fin 128) : ln (tcol t e) = e := Fin.ext (by dsimp [ln]; omega)

theorem blk0 (r : Fin 2048) (e : Fin 128) : (iblk m c 0 t : Vec Ideal S2048x128 .bf16) (ix2 r e) = hq (A0 m c) (A1 m c) (tb t) (th t) r e := by
  have h : (V m c main_v5 : FVec Ideal S4096x1024 .bf16) (ix2 (trow t r) (tcol t e)) = hq (A0 m c) (A1 m c) (tb t) (th t) r e := by
    rw [op5]
    refine (truncf_apply _ _ _ _).trans ((cat_at ..).trans ?_)
    rw [bat_row, pos_row, hd_col, ln_col]; rfl
  rw [← h]; blk_ext [iblk, idx t]

theorem blk1 (r : Fin 2048) (e : Fin 128) : (iblk m c 1 t : Vec Ideal S2048x128 .bf16) (ix2 r e) = hk (A2 m c) (A3 m c) (tb t) (th t) r e := by
  have h : (V m c main_v9 : FVec Ideal S4096x1024 .bf16) (ix2 (trow t r) (tcol t e)) = hk (A2 m c) (A3 m c) (tb t) (th t) r e := by
    rw [op9]
    refine (truncf_apply _ _ _ _).trans ((cat_at ..).trans ?_)
    rw [bat_row, pos_row, hd_col, ln_col, hk]
    congr 1
    funext e
    pointwise
  rw [← h]; blk_ext [iblk, idx t]

theorem blk2 (r : Fin 2048) (e : Fin 128) : (iblk m c 2 t : Vec Ideal S2048x128 .bf16) (ix2 r e) = hv (A4 m c) (tb t) (th t) r e := by
  have h : (V m c main_v12 : FVec Ideal S4096x1024 .bf16) (ix2 (trow t r) (tcol t e)) = hv (A4 m c) (tb t) (th t) r e := by
    rw [op12]
    refine (truncf_apply _ _ _ _).trans ((low_at ..).trans ?_)
    rw [bat_row, pos_row, hd_col, ln_col]; rfl
  rw [← h]; blk_ext [iblk, idx t]

theorem hS_blk (r : Fin 2048) : hS (iblk m c 0 t) (iblk m c 1 t) r = fS (A0 m c) (A1 m c) (A2 m c) (A3 m c) (tb t) (th t) r := by
  funext j
  unfold hS fS sH
  simp only [blk0, blk1]
  unfold hq hk
  rw [sum_lay2]
  simp only [mul_comm (A1 m c _ : EReal)]

/-- A head's output row, divided after the sum over the keys. -/
def oA (a0 : FVec Ideal S2x2048x8x64 .f32) (a1 : FVec Ideal S2x2048x8x32 .f32) (a2 : FVec Ideal S2x2048x8x64 .f32)
    (a3 : FVec Ideal S2x2048x32 .f32) (a4 : FVec Ideal S2x2048x8x64 .f32) (b : Fin 2) (h : Fin 8) (r : Fin 2048) (e : Fin 128) : EReal :=
  rO (fS a0 a1 a2 a3 b h r) fun k => hv a4 b h k e

theorem at3 (y : S2048x128.Idx) : out0_3 (iblk m c 0 t) (iblk m c 1 t) (iblk m c 2 t) y
    = oA (A0 m c) (A1 m c) (A2 m c) (A3 m c) (A4 m c) (tb t) (th t) (y 0) (y 1) := by
  refine (congrArg _ (eq_ix2 y)).trans ((tile3 _ _ _ (y 0) (y 1)).trans ?_)
  exact congrArg₂ rO (hS_blk m c t (y 0)) (funext fun k => blk2 m c t k (y 1))

theorem at4 (y : S2048x128.Idx) : out0_4 (iblk m c 0 t) (iblk m c 1 t) (iblk m c 2 t) y
    = fLse (A0 m c) (A1 m c) (A2 m c) (A3 m c) (tb t) (th t) (y 0) := by
  refine (congrArg _ (eq_ix2 y)).trans ((tile4 _ _ _ (y 0) (y 1)).trans ?_)
  exact congrArg rT (hS_blk m c t (y 0))

end Blocks

theorem final3 : (dats m 0 c).arrAt 3 cfg0.N = fun i : S4096x1024.Idx =>
    oA (A0 m c) (A1 m c) (A2 m c) (A3 m c) (A4 m c) (Reals.bat (i 0)) (hd (i 1)) (Reals.pos (i 0)) (ln (i 1)) := by
  refine (dats m 0 c).arrAt_eq_of_covers 3 _ (by decide +kernel) fun t hf y => ?_
  blk_simp
  rw [after0_3]
  refine (at3 m c t _).trans ?_
  have ht := tlt t
  have hy : (y 0).val < 2048 := (y 0).isLt
  have hz : (y 1).val < 128 := (y 1).isLt
  congr 1 <;> (apply Fin.ext; try dsimp only [Reals.bat, Reals.pos, hd, ln, tb, th]; blk_simp [idx t]; try (dsimp only; omega))

theorem final4 : (dats m 0 c).arrAt 4 cfg0.N = fun i : S4096x1024.Idx =>
    fLse (A0 m c) (A1 m c) (A2 m c) (A3 m c) (Reals.bat (i 0)) (hd (i 1)) (Reals.pos (i 0)) := by
  refine (dats m 0 c).arrAt_eq_of_covers 4 _ (by decide +kernel) fun t hf y => ?_
  blk_simp
  rw [after0_4]
  refine (at4 m c t _).trans ?_
  have ht := tlt t
  have hy : (y 0).val < 2048 := (y 0).isLt
  have hz : (y 1).val < 128 := (y 1).isLt
  congr 1 <;> (apply Fin.ext; try dsimp only [Reals.bat, Reals.pos, hd, ln, tb, th]; blk_simp [idx t]; try (dsimp only; omega))

/-! ## At real numbers: the division after the sum and before it -/

section AtReals

variable (x0 : S2x2048x8x64.Idx → ℝ) (x1 : S2x2048x8x32.Idx → ℝ) (x2 : S2x2048x8x64.Idx → ℝ)
  (x3 : S2x2048x32.Idx → ℝ) (x4 : S2x2048x8x64.Idx → ℝ) (b : Fin 2) (h : Fin 8) (q : Fin 2048)

open Reals (up)
open Cert.AttnBwdIdeal.Value (score_real row mrow lay1_sum)

theorem o_eq (e : Fin 128) : oA (up x0) (up x1) (up x2) (up x3) (up x4) b h q e
    = lay1 (fun e => fO (up x0) (up x1) (up x2) (up x3) (up x4) b h q e) e := by
  obtain ⟨σ, hσ⟩ := score_real x0 x1 x2 x3 b h q
  obtain ⟨ε, l, hl, h0, hε, hsum, hp⟩ := row σ q
  have hM : fM (up x0) (up x1) (up x2) (up x3) b h q = Finset.univ.sup (mrow σ q) := by
    unfold fM
    simp only [hσ]
  have hE : ∀ k, fE (up x0) (up x1) (up x2) (up x3) b h q k = (ε k : EReal) := fun k => by rw [fE, hM, hσ, hε]
  have hL : fL (up x0) (up x1) (up x2) (up x3) b h q = (l : EReal) := by
    unfold fL
    simp only [hE]
    exact hsum
  have hE' : ∀ k, rE (fS (up x0) (up x1) (up x2) (up x3) b h q) k = (ε k : EReal) := hE
  have hL' : rL (fS (up x0) (up x1) (up x2) (up x3) b h q) = (l : EReal) := hL
  unfold oA rO hv
  rw [hL']
  simp only [hE']
  rw [lay1_sum]
  unfold lay1 fO
  split
  · exact (Reals.div_coe 0 hl.ne').trans (by simp)
  · simp only [hE, hL, Reals.div_coe _ hl.ne', up, ← EReal.coe_mul, Reals.sum_coe]
    refine congrArg (fun y : ℝ => (y : EReal)) ?_
    rw [Finset.sum_div]
    exact Finset.sum_congr rfl fun k _ => by ring

end AtReals

end Cert.AttnFwdIdeal.Value
end
-- ==== Proof.AttnFwdRef.lean ====
module

public import proofs.«01_k».proof.Proof.AttnFwdBlk
public import proofs.«01_k».proof.Proof.Gen.AttnFwdRefIdeal.Read

@[expose] public section

/-! The forward attention call as the reference's own lines give it. -/

set_option maxRecDepth 16384

noncomputable section

open Idealize.ShloMosaic Idealize.ShloMosaic.TcCoe Idealize.SL.Sem
open Cert.AttnBwdIdeal.Value (fS fM fE fL fO fLse lay1 sc bot select_or hd ln lseStep lse_at)

namespace Cert.AttnFwdRefIdeal.Read

open Cert.AttnFwdRefIdeal Cert.AttnFwdRefIdeal.Value

variable (a0 : FVec Ideal S2x2048x8x64 .f32) (a1 : FVec Ideal S2x2048x8x32 .f32) (a2 : FVec Ideal S2x2048x8x64 .f32)
  (a3 : FVec Ideal S2x2048x32 .f32) (a4 : FVec Ideal S2x2048x8x64 .f32)

section Stage

variable (b : Fin 2) (h : Fin 8) (q k : Fin 2048)

theorem ref12 : val_main_v12 (F := Ideal) a0 a1 a2 a3 (ix4 b h q k) = fS a0 a1 a2 a3 b h q k := by
  pointwise [val_main_v12, val_main_call0_v1, val_main_call0_v2, val_main_call0_v0, val_main_cst_0, val_main_v11, val_main_v10, val_main_cst,
    val_main_v9, val_main_v8, val_main_v7, val_main_v6, val_main_v5, val_main_v4, val_main_v3, val_main_v2, val_main_v1, val_main_v0]
  rw [show id (constant (F := Ideal) S_ .f32 0xFF800000#32) ix0 = Ideal.ofBits .f32 0xFF800000#32 from rfl, bot]
  exact select_or _ _ k.isLt q.isLt _ _

theorem ref13 : val_main_v13 (F := Ideal) a0 a1 a2 a3 (ix3 b h q) = fM a0 a1 a2 a3 b h q := by
  unfold fM
  simp only [← ref12]
  generalize hv : val_main_v12 (F := Ideal) a0 a1 a2 a3 = v at *
  pointwise [val_main_v13, val_main_cst_1, hv]
  rw [bot]
  rfl

theorem ref14 (i : S2x8x2048.Idx) : (val_main_v14 (F := Ideal) i : EReal) = ⊥ := bot

theorem ref15 : val_main_v15 (F := Ideal) a0 a1 a2 a3 (ix3 b h q) = fM a0 a1 a2 a3 b h q := by
  refine (val_main_v15_apply ..).trans ?_
  rw [ref13]
  generalize fM a0 a1 a2 a3 b h q = x
  exact (congrArg (fun y : EReal => max y x) (ref14 _)).trans (max_eq_right bot_le)

theorem ref19 : val_main_v19 (F := Ideal) a0 a1 a2 a3 (ix4 b h q k) = fE a0 a1 a2 a3 b h q k := by
  rw [fE, ← ref12, ← ref15]
  generalize hv : val_main_v12 (F := Ideal) a0 a1 a2 a3 = v at *
  generalize hw : val_main_v15 (F := Ideal) a0 a1 a2 a3 = w at *
  pointwise [val_main_v19, val_main_v18, val_main_v17, val_main_v16, hv, hw]

theorem ref20 : val_main_v20 (F := Ideal) a0 a1 a2 a3 (ix3 b h q) = fL a0 a1 a2 a3 b h q := by
  unfold fL
  simp only [← ref19]
  generalize hv : val_main_v19 (F := Ideal) a0 a1 a2 a3 = v at *
  pointwise [val_main_v20, val_main_cst_3, hv]

theorem ref25 (e : Fin 64) : val_main_v25 (F := Ideal) a0 a1 a2 a3 a4 (ix4 b q h e) = fO a0 a1 a2 a3 a4 b h q e := by
  unfold fO
  simp only [← ref19, ← ref20]
  generalize hv : val_main_v19 (F := Ideal) a0 a1 a2 a3 = v at *
  generalize hw : val_main_v20 (F := Ideal) a0 a1 a2 a3 = w at *
  pointwise [val_main_v25, val_main_v24, val_main_v23, val_main_v22, val_main_v21, hv, hw]

theorem ref26 : val_main_v26 (F := Ideal) a0 a1 a2 a3 (ix3 b h q) = fM a0 a1 a2 a3 b h q := by
  unfold fM
  simp only [← ref12]
  generalize hv : val_main_v12 (F := Ideal) a0 a1 a2 a3 = v at *
  pointwise [val_main_v26, val_main_cst_4, hv]
  rw [bot]
  rfl

theorem ref30 : val_main_v30 (F := Ideal) a0 a1 a2 a3 (ix4 b h q k) = fE a0 a1 a2 a3 b h q k := by
  rw [fE, ← ref12, ← ref26]
  generalize hv : val_main_v12 (F := Ideal) a0 a1 a2 a3 = v at *
  generalize hw : val_main_v26 (F := Ideal) a0 a1 a2 a3 = w at *
  pointwise [val_main_v30, val_main_v29, val_main_v28, val_main_v27, hv, hw]

theorem ref31 : val_main_v31 (F := Ideal) a0 a1 a2 a3 (ix3 b h q) = fL a0 a1 a2 a3 b h q := by
  unfold fL
  simp only [← ref30]
  generalize hv : val_main_v30 (F := Ideal) a0 a1 a2 a3 = v at *
  pointwise [val_main_v31, val_main_cst_5, hv]

end Stage

theorem ref39 : val_main_v39 (F := Ideal) a0 a1 a2 a3 a4 = fun i : S4096x1024.Idx =>
    lay1 (fun e => fO a0 a1 a2 a3 a4 (Reals.bat (i 0)) (hd (i 1)) (Reals.pos (i 0)) e) (ln (i 1)) := by
  funext i
  obtain ⟨R, C, rfl⟩ : ∃ (R : Fin 4096) (C : Fin 1024), i = ix2 R C := ⟨i 0, i 1, eq_ix2 i⟩
  change _ = lay1 (fun e => fO a0 a1 a2 a3 a4 (Reals.bat R) (hd C) (Reals.pos R) e) (ln C)
  unfold lay1
  simp only [← ref25]
  generalize hv : val_main_v25 (F := Ideal) a0 a1 a2 a3 a4 = v at *
  have hC := C.isLt
  have hR := R.isLt
  have c1 : R.val / 2048 < 2 := by omega
  have c2 : R.val % 2048 < 2048 := by omega
  have c3 : C.val / 128 < 8 := by omega
  have c4 : C.val % 128 - 64 < 64 := by omega
  pointwise [val_main_v39, val_main_v38, val_main_v37, val_main_c, val_main_call1_v0, hv]
  by_cases h : C.val % 128 < 64
  · have h1 : ¬64 ≤ C.val % 128 := by omega
    simp only [h, h1, false_and, and_false, ↓reduceDIte]
    exact sitofp_zero (φ := .f32)
  · have h1 : 64 ≤ C.val % 128 := by omega
    simp only [c1, c2, c3, c4, h, h1, and_self, ↓reduceDIte]

theorem e36 : val_main_v36 (F := Ideal) a0 a1 a2 a3 = lseStep (val_main_v26 (F := Ideal) a0 a1 a2 a3) (val_main_v31 (F := Ideal) a0 a1 a2 a3) := by
  rw [val_main_v36, val_main_v35, val_main_v34, val_main_v33, val_main_v32, val_main_v27]

theorem ref36 (b : Fin 2) (h : Fin 8) (q : Fin 2048) (e : Fin 128) :
    val_main_v36 (F := Ideal) a0 a1 a2 a3 (ix4 b q h e) = fLse a0 a1 a2 a3 b h q :=
  (congrFun (e36 a0 a1 a2 a3) _).trans ((lse_at ..).trans
    (congrArg₂ (fun x y : EReal => x + Ideal.log y) (ref26 a0 a1 a2 a3 b h q) (ref31 a0 a1 a2 a3 b h q)))

theorem join_at (w : FVec Ideal S2x2048x8x128 .f32) (R : Fin 4096) (C : Fin 1024) (h) :
    shapeCast S4096x1024 w h (ix2 R C) = w (ix4 (Reals.bat R) (Reals.pos R) (hd C) (ln C)) := by
  pointwise

theorem ref40 : val_main_v40 (F := Ideal) a0 a1 a2 a3 = fun i : S4096x1024.Idx =>
    fLse a0 a1 a2 a3 (Reals.bat (i 0)) (hd (i 1)) (Reals.pos (i 0)) := by
  funext i
  obtain ⟨R, C, rfl⟩ : ∃ (R : Fin 4096) (C : Fin 1024), i = ix2 R C := ⟨i 0, i 1, eq_ix2 i⟩
  change _ = fLse a0 a1 a2 a3 (Reals.bat R) (hd C) (Reals.pos R)
  rw [val_main_v40]
  exact (join_at _ R C _).trans (ref36 ..)

end Cert.AttnFwdRefIdeal.Read
end
-- ==== Proof.AttnFwdClaim.lean ====
module

public import proofs.«01_k».proof.Defs
public import proofs.«01_k».proof.Proof.AttnFwdRef
public import proofs.«01_k».proof.Proof.Gen.AttnFwdRefIdeal.Run
public import proofs.«01_k».proof.Proof.Gen.AttnFwd.Frame

@[expose] public section

noncomputable section

namespace Cert.Proof

open Idealize.ShloMosaic Idealize.ShloMosaic.TcCoe Idealize.SL.Sem

instance facts_attn_fwd : Pre_attn_fwd_finite.Facts := by constructor <;> decide

open Pre_attn_fwd_finite in
/-- Arguments that pass the precondition are arrays of real numbers. -/
theorem finite_AttnFwd (x0 : FVec Ideal S2x2048x8x64 .f32) (x1 : FVec Ideal S2x2048x8x32 .f32) (x2 : FVec Ideal S2x2048x8x64 .f32)
    (x3 : FVec Ideal S2x2048x32 .f32) (x4 : FVec Ideal S2x2048x8x64 .f32)
    (h : Pre_attn_fwd_finite.fn (F := Ideal) x0 x1 x2 x3 x4 = fun _ => 1#1) :
    (∃ r, x0 = Reals.up r) ∧ (∃ r, x1 = Reals.up r) ∧ (∃ r, x2 = Reals.up r) ∧ (∃ r, x3 = Reals.up r) ∧ ∃ r, x4 = Reals.up r := by
  have h1 := congrFun h (fun a => a.elim0)
  unfold Pre_attn_fwd_finite.fn at h1
  obtain ⟨h, h4⟩ := Reals.and_one h1
  obtain ⟨h, h3⟩ := Reals.and_one h
  obtain ⟨h, h2⟩ := Reals.and_one h
  obtain ⟨h0, h1⟩ := Reals.and_one h
  exact ⟨Reals.real_of_all _ _ _ _ _ _ h0, Reals.real_of_all _ _ _ _ _ _ h1, Reals.real_of_all _ _ _ _ _ _ h2,
    Reals.real_of_all _ _ _ _ _ _ h3, Reals.real_of_all _ _ _ _ _ _ h4⟩

open Cert.AttnFwdIdeal.Value Cert.AttnFwdRefIdeal.Read in
theorem algebraic_AttnFwd : Cert.algebraic_AttnFwdIdeal_AttnFwdRefIdeal_pre_attn_fwd_finite := by
  intro m g m' g' hpre hagree
  refine ⟨fun c => (Cert.AttnFwdIdeal.Gen.dats m 0 c).arrAt 3 Cert.AttnFwdIdeal.cfg0.N,
    fun c => (Cert.AttnFwdIdeal.Gen.dats m 0 c).arrAt 4 Cert.AttnFwdIdeal.cfg0.N,
    run_blocks m g, θ_run_mono (Cert.AttnFwdRefIdeal.Value.run m' g') fun r hr c => ?_⟩
  obtain ⟨h3, h4, h⟩ := hr c
  obtain ⟨e0, e1, e2, e3, e4⟩ := hagree c
  replace h3 := h3.trans (val_main_v39_eq ..)
  replace h4 := h4.trans (val_main_v40_eq ..)
  rw [e0, e1, e2, e3, e4] at h3
  rw [e0, e1, e2, e3] at h4
  refine ⟨h3.trans ((ref39 ..).trans ((?_ : _ = _).trans (final3 m c).symm)),
    h4.trans ((ref40 ..).trans (final4 m c).symm), h⟩
  obtain ⟨⟨x0, h0⟩, ⟨x1, h1⟩, ⟨x2, h2⟩, ⟨x3, h3⟩, ⟨x4, h4⟩⟩ := finite_AttnFwd _ _ _ _ _ (hpre c)
  funext i
  change Cert.AttnBwdIdeal.Value.lay1 (fun e => Cert.AttnBwdIdeal.Value.fO (A0 m c) (A1 m c) (A2 m c) (A3 m c) (A4 m c) _ _ _ e) _
    = oA (A0 m c) (A1 m c) (A2 m c) (A3 m c) (A4 m c) _ _ _ _
  rw [A0, A1, A2, A3, A4, h0, h1, h2, h3, h4]
  exact (o_eq ..).symm

end Cert.Proof
end
-- ==== Proof.FfnIn.lean ====
module

public import proofs.«01_k».proof.Proof.Gen.FfnInIdeal.Value
public import proofs.«01_k».proof.Proof.Gen.FfnInRefIdeal.Read
public import proofs.«01_k».proof.Proof.Reals
public import Idealize.ShloMosaic.Lib.Pipeline.ValueKit
public import Idealize.ShloMosaic.Lib.KernelVsHost

@[expose] public section

/-! The SwiGLU's gate, its up projection and its hidden layer: the kernel's three arrays and the reference's, in the entries of the arguments. -/

set_option maxRecDepth 16384

noncomputable section

open Idealize.ShloMosaic Idealize.ShloMosaic.TcCoe Idealize.SL.Sem
open Idealize.ShloMosaic.Pipeline (Dat)

namespace Cert.FfnInIdeal.Value

open Cert.FfnInIdeal Cert.FfnInIdeal.Gen

theorem idx : ∀ t : Fin cfg0.N, win0_0.index t = ![0, 0] ∧ win0_1.index t = ![t.val, 0] ∧ win0_2.index t = ![t.val + 11, 0]
    ∧ win0_3.index t = ![0, t.val] ∧ win0_4.index t = ![0, t.val] ∧ win0_5.index t = ![0, t.val] :=
  (by decide +kernel : ∀ t : Fin grid0.N, _)

/-- The logistic function as the kernel writes it. -/
def sg (g : EReal) : EReal := Ideal.ofBits .f32 0x3F000000#32 * Ideal.tanh (Ideal.ofBits .f32 0x3F000000#32 * g) + Ideal.ofBits .f32 0x3F000000#32

/-! ## A block -/

section Tile

variable (x0 : Vec Ideal S4096x1024 .bf16) (x1 x2 : Vec Ideal S256x1024 .bf16) (r : Fin 4096) (j : Fin 256)

theorem pay2_at : k0_pay2 x0 x1 (ix2 r j) = ∑ k : Fin 1024, x0 (ix2 r k) * x1 (ix2 j k) := by
  pointwise [k0_pay2, k0_pay1]

theorem pay3_at : k0_pay3 x0 x2 (ix2 r j) = ∑ k : Fin 1024, x0 (ix2 r k) * x2 (ix2 j k) := by
  pointwise [k0_pay3, k0_pay1]

theorem out3_at : out0_3 x0 x1 x2 (ix2 r j) = k0_pay2 x0 x1 (ix2 r j) := by
  have e : out0_3 x0 x1 x2 = k0_pay4 x0 x1 := by
    unfold out0_3
    frame_out
  rw [e]; unfold k0_pay4; generalize k0_pay2 x0 x1 = u; pointwise

theorem out4_at : out0_4 x0 x1 x2 (ix2 r j) = k0_pay3 x0 x2 (ix2 r j) := by
  have e : out0_4 x0 x1 x2 = k0_pay5 x0 x2 := by
    unfold out0_4
    frame_out
  rw [e]; unfold k0_pay5; generalize k0_pay3 x0 x2 = u; pointwise

theorem out5_at : out0_5 x0 x1 x2 (ix2 r j) = k0_pay2 x0 x1 (ix2 r j) * sg (k0_pay2 x0 x1 (ix2 r j)) * k0_pay3 x0 x2 (ix2 r j) := by
  have e : out0_5 x0 x1 x2 = k0_pay6 x0 x1 x2 := by
    unfold out0_5
    frame_out
  rw [e]; unfold k0_pay6 sg; generalize k0_pay3 x0 x2 = v; generalize k0_pay2 x0 x1 = u; pointwise

end Tile

/-! ## The blocks in the arguments -/

section Entry

variable (m : (ℓ : Loc nD τ sig) → Buf (Elt Ideal) ℓ) (c : Dev nD) (t : Fin cfg0.N)

abbrev A0 : FVec Ideal S2x2048x1024 .f32 := m ((c : Thread nD τ).loc main_arg0)
abbrev A1 : FVec Ideal S1x1024x5632 .f32 := m ((c : Thread nD τ).loc main_arg1)

theorem tlt : t.val < 11 := lt_of_lt_of_eq t.isLt N_0

abbrev gcol (j : Fin 256) : Fin 2816 := ⟨t.val * 256 + j, by have := tlt t; omega⟩
/-- A column of the gate, and one of the up projection, in the product's. -/
abbrev gate (j : Fin 2816) : Fin 5632 := ⟨j, by omega⟩
abbrev up (j : Fin 2816) : Fin 5632 := ⟨2816 + j, by omega⟩

theorem blk0 (r : Fin 4096) (k : Fin 1024) : (iblk m c 0 t : Vec Ideal S4096x1024 .bf16) (ix2 r k) = A0 m c (ix3 (Reals.bat r) (Reals.pos r) k) := by
  have e : (V m c main_v1 : FVec Ideal S4096x1024 .bf16) (ix2 r k) = A0 m c (ix3 (Reals.bat r) (Reals.pos r) k) := by
    entry_read
    pointwise
    blk_ext
  rw [← e]; blk_ext [iblk, idx t]

theorem entry (q : Fin 5632) (k : Fin 1024) : (V m c main_v4 : FVec Ideal S5632x1024 .bf16) (ix2 q k) = A1 m c (ix3 0 k q) := by
  entry_read
  pointwise
  blk_ext

theorem blk1 (j : Fin 256) (k : Fin 1024) : (iblk m c 1 t : Vec Ideal S256x1024 .bf16) (ix2 j k) = A1 m c (ix3 0 k (gate (gcol t j))) := by
  rw [← entry]; blk_ext [iblk, idx t]

theorem blk2 (j : Fin 256) (k : Fin 1024) : (iblk m c 2 t : Vec Ideal S256x1024 .bf16) (ix2 j k) = A1 m c (ix3 0 k (up (gcol t j))) := by
  rw [← entry]; blk_ext [iblk, idx t]

end Entry

/-! ## The results in the arguments -/

/-- The product by w_in. -/
def prod (h : FVec Ideal S2x2048x1024 .f32) (w : FVec Ideal S1x1024x5632 .f32) (b : Fin 2) (s : Fin 2048) (q : Fin 5632) : EReal :=
  ∑ k : Fin 1024, h (ix3 b s k) * w (ix3 0 k q)
/-- The hidden layer: the gate times its logistic function, times the up projection. -/
def act (h : FVec Ideal S2x2048x1024 .f32) (w : FVec Ideal S1x1024x5632 .f32) (b : Fin 2) (s : Fin 2048) (j : Fin 2816) : EReal :=
  prod h w b s (gate j) * sg (prod h w b s (gate j)) * prod h w b s (up j)

variable (m : (ℓ : Loc nD τ sig) → Buf (Elt Ideal) ℓ) (c : Dev nD)

section Left

variable (t : Fin cfg0.N) (r : Fin 4096) (j : Fin 256)

theorem gate_blk : k0_pay2 (iblk m c 0 t) (iblk m c 1 t) (ix2 r j) = prod (A0 m c) (A1 m c) (Reals.bat r) (Reals.pos r) (gate (gcol t j)) :=
  (pay2_at _ _ r j).trans (Finset.sum_congr (M := EReal) rfl fun k _ => by rw [blk0, blk1])

theorem up_blk : k0_pay3 (iblk m c 0 t) (iblk m c 2 t) (ix2 r j) = prod (A0 m c) (A1 m c) (Reals.bat r) (Reals.pos r) (up (gcol t j)) :=
  (pay3_at _ _ r j).trans (Finset.sum_congr (M := EReal) rfl fun k _ => by rw [blk0, blk2])

end Left

/-- Result 1, when each of its blocks holds `f`. -/
theorem whole3 (f : Fin 4096 → Fin 2816 → EReal)
    (h : ∀ t r j, out0_3 (iblk m c 0 t) (iblk m c 1 t) (iblk m c 2 t) (ix2 r j) = f r (gcol t j)) :
    (dats m 0 c).arrAt 3 cfg0.N = fun i : S4096x2816.Idx => f (i 0) (i 1) := by
  refine (dats m 0 c).arrAt_eq_of_covers 3 _ (by decide +kernel) fun t hf y => ?_
  blk_simp
  rw [after0_3]
  obtain ⟨r, j, rfl⟩ : ∃ (r : Fin 4096) (j : Fin 256), y = ix2 r j := ⟨_, _, eq_ix2 y⟩
  refine (h t r j).trans (congrArg₂ f ?_ ?_) <;> (apply Fin.ext; blk_simp [idx t])

theorem final3 : (dats m 0 c).arrAt 3 cfg0.N = fun i : S4096x2816.Idx => prod (A0 m c) (A1 m c) (Reals.bat (i 0)) (Reals.pos (i 0)) (gate (i 1)) :=
  whole3 m c (fun r j => prod (A0 m c) (A1 m c) (Reals.bat r) (Reals.pos r) (gate j)) fun t r j =>
    (out3_at _ _ _ r j).trans (gate_blk m c t r j)

/-- Result 2, when each of its blocks holds `f`. -/
theorem whole4 (f : Fin 4096 → Fin 2816 → EReal)
    (h : ∀ t r j, out0_4 (iblk m c 0 t) (iblk m c 1 t) (iblk m c 2 t) (ix2 r j) = f r (gcol t j)) :
    (dats m 0 c).arrAt 4 cfg0.N = fun i : S4096x2816.Idx => f (i 0) (i 1) := by
  refine (dats m 0 c).arrAt_eq_of_covers 4 _ (by decide +kernel) fun t hf y => ?_
  blk_simp
  rw [after0_4]
  obtain ⟨r, j, rfl⟩ : ∃ (r : Fin 4096) (j : Fin 256), y = ix2 r j := ⟨_, _, eq_ix2 y⟩
  refine (h t r j).trans (congrArg₂ f ?_ ?_) <;> (apply Fin.ext; blk_simp [idx t])

theorem final4 : (dats m 0 c).arrAt 4 cfg0.N = fun i : S4096x2816.Idx => prod (A0 m c) (A1 m c) (Reals.bat (i 0)) (Reals.pos (i 0)) (up (i 1)) :=
  whole4 m c (fun r j => prod (A0 m c) (A1 m c) (Reals.bat r) (Reals.pos r) (up j)) fun t r j =>
    (out4_at _ _ _ r j).trans (up_blk m c t r j)

/-- Result 3, when each of its blocks holds `f`. -/
theorem whole5 (f : Fin 4096 → Fin 2816 → EReal)
    (h : ∀ t r j, out0_5 (iblk m c 0 t) (iblk m c 1 t) (iblk m c 2 t) (ix2 r j) = f r (gcol t j)) :
    (dats m 0 c).arrAt 5 cfg0.N = fun i : S4096x2816.Idx => f (i 0) (i 1) := by
  refine (dats m 0 c).arrAt_eq_of_covers 5 _ (by decide +kernel) fun t hf y => ?_
  blk_simp
  rw [after0_5]
  obtain ⟨r, j, rfl⟩ : ∃ (r : Fin 4096) (j : Fin 256), y = ix2 r j := ⟨_, _, eq_ix2 y⟩
  refine (h t r j).trans (congrArg₂ f ?_ ?_) <;> (apply Fin.ext; blk_simp [idx t])

theorem final5 : (dats m 0 c).arrAt 5 cfg0.N = fun i : S4096x2816.Idx => act (A0 m c) (A1 m c) (Reals.bat (i 0)) (Reals.pos (i 0)) (i 1) :=
  whole5 m c (fun r j => act (A0 m c) (A1 m c) (Reals.bat r) (Reals.pos r) j) fun t r j =>
    (out5_at _ _ _ r j).trans (by rw [gate_blk, up_blk, act])

end Cert.FfnInIdeal.Value

namespace Cert.FfnInRefIdeal.Read

open Cert.FfnInRefIdeal Cert.FfnInRefIdeal.Gen
open Cert.FfnInIdeal.Value (prod act sg gate up)

variable (h : FVec Ideal S2x2048x1024 .f32) (w : FVec Ideal S1x1024x5632 .f32) (b : Fin 2) (s : Fin 2048)

theorem ref1 (q : Fin 5632) : val_main_v1 (F := Ideal) h w (ix3 b s q) = prod h w b s q := by
  rw [prod]
  pointwise [val_main_v1, val_main_v0]
  try blk_ext

theorem ref2 (j : Fin 2816) : val_main_v2 (F := Ideal) h w (ix3 b s j) = prod h w b s (gate j) := by
  rw [val_main_v2_apply, ← ref1]; blk_ext

theorem ref3 (j : Fin 2816) : val_main_v3 (F := Ideal) h w (ix3 b s j) = prod h w b s (up j) := by
  rw [val_main_v3_apply, ← ref1]; blk_ext

theorem ref_sg (j : Fin 2816) : val_main_call0_v5 (F := Ideal) h w (ix3 b s j) = sg (prod h w b s (gate j)) := by
  refine Eq.trans ?_ (Reals.gate_eq _).symm
  rw [← ref2]
  unfold val_main_call0_v5 val_main_call0_v3 val_main_call0_v1 val_main_call0_v0
  generalize val_main_v2 (F := Ideal) h w = u
  pointwise [Ideal.logistic, val_main_call0_v4, val_main_call0_cst_0, val_main_call0_v2, val_main_call0_cst]

theorem ref5 (j : Fin 2816) : val_main_v5 (F := Ideal) h w (ix3 b s j) = act h w b s j := by
  rw [val_main_v5_apply, val_main_v4_apply, ref_sg, ref2, ref3]; rfl

theorem ref7 : val_main_v7 (F := Ideal) h w = fun i : S4096x2816.Idx => prod h w (Reals.bat (i 0)) (Reals.pos (i 0)) (gate (i 1)) := by
  funext i
  refine Eq.trans ?_ (ref2 ..)
  change val_main_v6 (F := Ideal) h w i = _
  rw [val_main_v6_apply]
  blk_ext

theorem ref9 : val_main_v9 (F := Ideal) h w = fun i : S4096x2816.Idx => prod h w (Reals.bat (i 0)) (Reals.pos (i 0)) (up (i 1)) := by
  funext i
  refine Eq.trans ?_ (ref3 ..)
  change val_main_v8 (F := Ideal) h w i = _
  rw [val_main_v8_apply]
  blk_ext

theorem ref11 : val_main_v11 (F := Ideal) h w = fun i : S4096x2816.Idx => act h w (Reals.bat (i 0)) (Reals.pos (i 0)) (i 1) := by
  funext i
  refine Eq.trans ?_ (ref5 ..)
  change val_main_v10 (F := Ideal) h w i = _
  rw [val_main_v10_apply]
  blk_ext

end Cert.FfnInRefIdeal.Read
end
-- ==== Proof.FfnInClaim.lean ====
module

public import proofs.«01_k».proof.Defs
public import proofs.«01_k».proof.Proof.FfnIn
public import proofs.«01_k».proof.Proof.Gen.FfnInRefIdeal.Run
public import proofs.«01_k».proof.Proof.Gen.FfnIn.Frame

@[expose] public section

noncomputable section

namespace Cert.Proof

open Idealize.ShloMosaic Idealize.ShloMosaic.TcCoe Idealize.SL.Sem

open Cert.FfnInIdeal.Value Cert.FfnInRefIdeal.Read in
theorem algebraic_FfnIn : Cert.algebraic_FfnInIdeal_FfnInRefIdeal := by
  intro m g m' g' _ hagree
  refine ⟨fun c => (Cert.FfnInIdeal.Gen.dats m 0 c).arrAt 3 Cert.FfnInIdeal.cfg0.N,
    fun c => (Cert.FfnInIdeal.Gen.dats m 0 c).arrAt 4 Cert.FfnInIdeal.cfg0.N,
    fun c => (Cert.FfnInIdeal.Gen.dats m 0 c).arrAt 5 Cert.FfnInIdeal.cfg0.N,
    run_blocks m g, θ_run_mono (Cert.FfnInRefIdeal.Value.run m' g') fun r hr c => ?_⟩
  obtain ⟨h3, h4, h5, h⟩ := hr c
  obtain ⟨e0, e1⟩ := hagree c
  rw [e0, e1] at h3 h4 h5
  exact ⟨h3.trans ((val_main_v7_eq ..).trans ((ref7 ..).trans (final3 m c).symm)),
    h4.trans ((val_main_v9_eq ..).trans ((ref9 ..).trans (final4 m c).symm)),
    h5.trans ((val_main_v11_eq ..).trans ((ref11 ..).trans (final5 m c).symm)), h⟩

end Cert.Proof
end
-- ==== Proof.NormFwd.lean ====
module

public import proofs.«01_k».proof.Proof.Gen.NormFwdIdeal.Value
public import proofs.«01_k».proof.Proof.Gen.NormFwdRefIdeal.Read
public import proofs.«01_k».proof.Proof.Rms
public import Idealize.ShloMosaic.Lib.Pipeline.ValueKit
public import Idealize.ShloMosaic.Lib.KernelVsHost

@[expose] public section

/-! The modulated norm at a layer's entry: the kernel's array and the reference's, in the entries of the arguments, and their equality
where the normalised array is real. -/

set_option maxRecDepth 16384

noncomputable section

open Idealize.ShloMosaic Idealize.ShloMosaic.TcCoe Idealize.SL.Sem
open Idealize.ShloMosaic.Pipeline (Dat)

namespace Cert.NormFwdIdeal.Value

open Cert.NormFwdIdeal Cert.NormFwdIdeal.Gen

theorem idx : ∀ t : Fin cfg0.N, win0_0.index t = ![t.val, 0] ∧ win0_1.index t = ![t.val / 4, 0, 0] ∧ win0_2.index t = ![t.val / 4, 0, 0]
    ∧ win0_3.index t = ![0, 0] ∧ win0_4.index t = ![t.val, 0] :=
  (by decide +kernel : ∀ t : Fin grid0.N, _)

/-- The factor that takes the mean over a row, and one. -/
def μ : EReal := Ideal.ofBits .f32 0x3A800000#32
def one : EReal := Ideal.ofBits .f32 0x3F800000#32

section Tile

variable (x0 : Vec Ideal S512x1024 .f32) (x1 x2 : Vec Ideal S1x1x1024 .f32) (x3 : Vec Ideal S1x1024 .f32) (r : Fin 512) (j : Fin 1024)

theorem out4_at : out0_4 x0 x1 x2 x3 (ix2 r j)
    = x0 (ix2 r j) * Rms.inv (fun k : Fin 1024 => x0 (ix2 r k)) μ * x3 (ix2 0 j) * (one + x2 (ix3 0 0 j)) + x1 (ix3 0 0 j) := by
  have e : out0_4 x0 x1 x2 x3 = k0_pay1 x1 x2 x3 x0 := by
    unfold out0_4
    frame_out
  rw [e, Rms.inv, Rms.eps, μ, one]
  pointwise [k0_pay1]

end Tile

section Entry

variable (m : (ℓ : Loc nD τ sig) → Buf (Elt Ideal) ℓ) (c : Dev nD) (t : Fin cfg0.N)

abbrev A0 : FVec Ideal S2x2048x1024 .f32 := m ((c : Thread nD τ).loc main_arg0)
abbrev A1 : FVec Ideal S2x1024 .f32 := m ((c : Thread nD τ).loc main_arg1)
abbrev A2 : FVec Ideal S2x1024 .f32 := m ((c : Thread nD τ).loc main_arg2)
abbrev A3 : FVec Ideal S1x1024 .f32 := m ((c : Thread nD τ).loc main_arg3)

theorem tlt : t.val < 8 := lt_of_lt_of_eq t.isLt N_0

/-- The sequence and the position that row `r` of tile `t` belongs to. -/
abbrev sb : Fin 2 := ⟨t.val / 4, by have := tlt t; omega⟩
abbrev sr (r : Fin 512) : Fin 2048 := ⟨t.val % 4 * 512 + r, by omega⟩
abbrev row (r : Fin 512) : Fin 4096 := ⟨t.val * 512 + r, by have := tlt t; omega⟩

theorem blk0 (r : Fin 512) (k : Fin 1024) : (iblk m c 0 t : Vec Ideal S512x1024 .f32) (ix2 r k) = A0 m c (ix3 (sb t) (sr t r) k) := by
  have e : (V m c main_v2 : FVec Ideal S4096x1024 .f32) (ix2 (row t r) k) = A0 m c (ix3 (sb t) (sr t r) k) := by
    entry_read
    pointwise
    blk_ext
  rw [← e]; blk_ext [iblk, idx t]

theorem blk1 (k : Fin 1024) : (iblk m c 1 t : Vec Ideal S1x1x1024 .f32) (ix3 0 0 k) = A1 m c (ix2 (sb t) k) := by
  have e : (V m c main_v0 : FVec Ideal S2x1x1024 .f32) (ix3 (sb t) 0 k) = A1 m c (ix2 (sb t) k) := by
    entry_read
    pointwise
    blk_ext
  rw [← e]; blk_ext [iblk, idx t]

theorem blk2 (k : Fin 1024) : (iblk m c 2 t : Vec Ideal S1x1x1024 .f32) (ix3 0 0 k) = A2 m c (ix2 (sb t) k) := by
  have e : (V m c main_v1 : FVec Ideal S2x1x1024 .f32) (ix3 (sb t) 0 k) = A2 m c (ix2 (sb t) k) := by
    entry_read
    pointwise
    blk_ext
  rw [← e]; blk_ext [iblk, idx t]

theorem blk3 (k : Fin 1024) : (iblk m c 3 t : Vec Ideal S1x1024 .f32) (ix2 0 k) = A3 m c (ix2 0 k) := by
  have e : (V m c main_arg3 : FVec Ideal S1x1024 .f32) (ix2 0 k) = A3 m c (ix2 0 k) := by
    entry_read
    rfl
  rw [← e]; blk_ext [iblk, idx t]

end Entry

/-- The norm, scaled and shifted. -/
def res (x : FVec Ideal S2x2048x1024 .f32) (sh sc : FVec Ideal S2x1024 .f32) (gm : FVec Ideal S1x1024 .f32) (b : Fin 2) (s : Fin 2048)
    (j : Fin 1024) : EReal :=
  x (ix3 b s j) * Rms.inv (fun k : Fin 1024 => x (ix3 b s k)) μ * gm (ix2 0 j) * (one + sc (ix2 b j)) + sh (ix2 b j)

variable (m : (ℓ : Loc nD τ sig) → Buf (Elt Ideal) ℓ) (c : Dev nD)

theorem block_at (t : Fin cfg0.N) (r : Fin 512) (j : Fin 1024) :
    out0_4 (iblk m c 0 t) (iblk m c 1 t) (iblk m c 2 t) (iblk m c 3 t) (ix2 r j)
      = res (A0 m c) (A1 m c) (A2 m c) (A3 m c) (sb t) (sr t r) j := by
  refine (out4_at _ _ _ _ r j).trans ?_
  rw [funext fun k : Fin 1024 => blk0 m c t r k, blk0, blk1, blk2, blk3, res]

theorem whole4 (f : Fin 4096 → Fin 1024 → EReal)
    (h : ∀ t r j, out0_4 (iblk m c 0 t) (iblk m c 1 t) (iblk m c 2 t) (iblk m c 3 t) (ix2 r j) = f (row t r) j) :
    (dats m 0 c).arrAt 4 cfg0.N = fun i : S4096x1024.Idx => f (i 0) (i 1) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨_, _, eq_ix2 y⟩
  refine (h t r j).trans (congrArg₂ f ?_ ?_) <;> (apply Fin.ext; blk_simp [idx t])

theorem final4 : (dats m 0 c).arrAt 4 cfg0.N
    = fun i : S4096x1024.Idx => res (A0 m c) (A1 m c) (A2 m c) (A3 m c) (Reals.bat (i 0)) (Reals.pos (i 0)) (i 1) := by
  refine whole4 m c (fun r j => res (A0 m c) (A1 m c) (A2 m c) (A3 m c) (Reals.bat r) (Reals.pos r) j) fun t r j => ?_
  refine (block_at m c t r j).trans ?_
  have ht := tlt t
  have eb : sb t = Reals.bat (row t r) := Fin.ext (by dsimp only [Reals.bat]; omega)
  have ep : sr t r = Reals.pos (row t r) := Fin.ext (by dsimp only [Reals.pos]; omega)
  rw [eb, ep]

end Cert.NormFwdIdeal.Value

namespace Cert.NormFwdRefIdeal.Read

open Cert.NormFwdRefIdeal Cert.NormFwdRefIdeal.Gen
open Cert.NormFwdIdeal.Value (one μ res)

/-- The length of a row. -/
def N : EReal := Ideal.ofBits .f32 0x44800000#32

variable (x : FVec Ideal S2x2048x1024 .f32) (sh sc : FVec Ideal S2x1024 .f32) (gm : FVec Ideal S1x1024 .f32)

section Stage

variable (b : Fin 2) (s : Fin 2048)

theorem ref7 : val_main_v7 (F := Ideal) x (ix3 b s 0) = Rms.ms (fun k : Fin 1024 => x (ix3 b s k)) N := by
  rw [Rms.ms, Rms.eps, N]
  pointwise [val_main_v7, val_main_v6, val_main_v5, val_main_v4, val_main_v3, val_main_v2, val_main_v1, val_main_cst, val_main_cst_0,
    val_main_cst_1]
  try rfl

theorem ref21 (j : Fin 1024) : val_main_v21 (F := Ideal) x sh sc gm (ix3 b s j)
    = x (ix3 b s j) * Ideal.rsqrt (Rms.ms (fun k : Fin 1024 => x (ix3 b s k)) N) * gm (ix2 0 j) * (one + sc (ix2 b j)) + sh (ix2 b j) := by
  rw [← ref7, one]
  generalize hv : val_main_v7 (F := Ideal) x = v at *
  pointwise [val_main_v21, val_main_v20, val_main_v19, val_main_v18, val_main_v17, val_main_v16, val_main_v15, val_main_v14, val_main_v13,
    val_main_v12, val_main_v11, val_main_v10, val_main_v9, val_main_v8, val_main_v0, val_main_cst_2, hv]
  try rfl

end Stage

theorem ref23 : val_main_v23 (F := Ideal) x sh sc gm
    = fun i : S4096x1024.Idx => val_main_v21 (F := Ideal) x sh sc gm (ix3 (Reals.bat (i 0)) (Reals.pos (i 0)) (i 1)) := by
  funext i
  change val_main_v22 (F := Ideal) x sh sc gm i = _
  rw [val_main_v22_apply]
  blk_ext

/-- At a real array the two ways of taking the mean agree. -/
theorem norm_eq (x : S2x2048x1024.Idx → ℝ) (b : Fin 2) (s : Fin 2048) (j : Fin 1024) :
    val_main_v21 (F := Ideal) (Reals.up x) sh sc gm (ix3 b s j) = res (Reals.up x) sh sc gm b s j := by
  have eN : N = ((1024 : ℝ) : EReal) := Reals.lit_1024
  have eμ : μ = (((1024 : ℝ)⁻¹ : ℝ) : EReal) := Reals.lit_inv1024.trans (by norm_num)
  rw [ref21, res, eN, eμ]
  exact congrArg (fun q => Reals.up x (ix3 b s j) * q * gm (ix2 0 j) * (one + sc (ix2 b j)) + sh (ix2 b j))
    (Rms.inv_eq (fun k : Fin 1024 => x (ix3 b s k)) (by norm_num)).symm

end Cert.NormFwdRefIdeal.Read
end
-- ==== Proof.NormFwdClaim.lean ====
module

public import proofs.«01_k».proof.Defs
public import proofs.«01_k».proof.Proof.NormFwd
public import proofs.«01_k».proof.Proof.Gen.NormFwdRefIdeal.Run
public import proofs.«01_k».proof.Proof.Gen.NormFwd.Frame

@[expose] public section

noncomputable section

namespace Cert.Proof

open Idealize.ShloMosaic Idealize.ShloMosaic.TcCoe Idealize.SL.Sem

instance facts_norm_fwd : Pre_norm_fwd_finite.Facts := by constructor <;> decide

open Pre_norm_fwd_finite in
/-- An argument that passes the precondition is an array of real numbers. -/
theorem finite_NormFwd (x0 : FVec Ideal S2x2048x1024 .f32) (x1 x2 : FVec Ideal S2x1024 .f32) (x3 : FVec Ideal S1x1024 .f32)
    (h : Pre_norm_fwd_finite.fn (F := Ideal) x0 x1 x2 x3 = fun _ => 1#1) : ∃ r, x0 = Reals.up r := by
  have h1 := congrFun h (fun a => a.elim0)
  unfold Pre_norm_fwd_finite.fn at h1
  exact Reals.real_of_all _ _ _ _ _ _ h1

open Cert.NormFwdIdeal.Value Cert.NormFwdRefIdeal.Read in
theorem algebraic_NormFwd : Cert.algebraic_NormFwdIdeal_NormFwdRefIdeal_pre_norm_fwd_finite := by
  intro m g m' g' hpre hagree
  refine ⟨fun c => (Cert.NormFwdIdeal.Gen.dats m 0 c).arrAt 4 Cert.NormFwdIdeal.cfg0.N,
    run_blocks m g, θ_run_mono (Cert.NormFwdRefIdeal.Value.run m' g') fun r hr c => ?_⟩
  obtain ⟨h4, h⟩ := hr c
  obtain ⟨e0, e1, e2, e3⟩ := hagree c
  rw [e0, e1, e2, e3] at h4
  refine ⟨h4.trans ((val_main_v23_eq ..).trans ((ref23 ..).trans ((?_ : _ = _).trans (final4 m c).symm))), h⟩
  obtain ⟨x, hx⟩ := finite_NormFwd _ _ _ _ (hpre c)
  funext i
  change Cert.NormFwdRefIdeal.Read.val_main_v21 (F := Ideal) (A0 m c) (A1 m c) (A2 m c) (A3 m c) _ = res (A0 m c) (A1 m c) (A2 m c) (A3 m c) _ _ _
  rw [A0, hx]
  exact norm_eq ..

end Cert.Proof
end
-- ==== Proof.lean ====
module

public import proofs.«01_k».proof.Defs
public import proofs.«01_k».proof.Proof.Gen.HiddenGrad.Frame
public import proofs.«01_k».proof.Proof.Gen.HiddenGradIdeal.Frame
public import proofs.«01_k».proof.Proof.Gen.HiddenGradIdeal.Value
public import proofs.«01_k».proof.Proof.Gen.HiddenGradRefIdeal.Run
public import proofs.«01_k».proof.Proof.Gen.HiddenGradRefIdeal.Read
public import proofs.«01_k».proof.Proof.Gen.OutLoss.Frame
public import proofs.«01_k».proof.Proof.Gen.OutLossIdeal.Frame
public import proofs.«01_k».proof.Proof.Gen.OutLossIdeal.Value
public import proofs.«01_k».proof.Proof.Gen.OutLossRefIdeal.Run
public import proofs.«01_k».proof.Proof.Gen.OutLossRefIdeal.Read
public import proofs.«01_k».proof.Proof.Gen.MergeBwd.Frame
public import proofs.«01_k».proof.Proof.Gen.MergeBwdIdeal.Frame
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.LatentBwd.Frame
public import proofs.«01_k».proof.Proof.Gen.LatentBwdIdeal.Frame
public import proofs.«01_k».proof.Proof.Gen.LatentBwdIdeal.Value
public import proofs.«01_k».proof.Proof.Gen.LatentBwdRefIdeal.Run
public import proofs.«01_k».proof.Proof.Gen.LatentBwdRefIdeal.Read
public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.AttnBwd.Frame
public import proofs.«01_k».proof.Proof.Gen.AttnBwdIdeal.Frame
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.QkBwd.Frame
public import proofs.«01_k».proof.Proof.Gen.QkBwdIdeal.Frame
public import proofs.«01_k».proof.Proof.Gen.QkBwdIdeal.Value
public import proofs.«01_k».proof.Proof.Gen.QkBwdRefIdeal.Run
public import proofs.«01_k».proof.Proof.Gen.QkBwdRefIdeal.Read
public import proofs.«01_k».proof.Proof.Gen.PoolBwd.Frame
public import proofs.«01_k».proof.Proof.Gen.PoolBwdIdeal.Frame
public import proofs.«01_k».proof.Proof.Gen.PoolBwdIdeal.Value
public import proofs.«01_k».proof.Proof.Gen.PoolBwdRefIdeal.Run
public import proofs.«01_k».proof.Proof.Gen.PoolBwdRefIdeal.Read
public import proofs.«01_k».proof.Proof.Gen.MixNormBwd.Frame
public import proofs.«01_k».proof.Proof.Gen.MixNormBwdIdeal.Frame
public import proofs.«01_k».proof.Proof.Gen.MixNormBwdIdeal.Value
public import proofs.«01_k».proof.Proof.Gen.MixNormBwdRefIdeal.Run
public import proofs.«01_k».proof.Proof.Gen.MixNormBwdRefIdeal.Read
public import proofs.«01_k».proof.Proof.Gen.FirstNormBwd.Frame
public import proofs.«01_k».proof.Proof.Gen.FirstNormBwdIdeal.Frame
public import proofs.«01_k».proof.Proof.Gen.FirstNormBwdIdeal.Value
public import proofs.«01_k».proof.Proof.Gen.FirstNormBwdRefIdeal.Run
public import proofs.«01_k».proof.Proof.Gen.FirstNormBwdRefIdeal.Read
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.HiddenGradClaim
public import proofs.«01_k».proof.Proof.OutLossClaim
public import proofs.«01_k».proof.Proof.MergeBwdClaim
public import proofs.«01_k».proof.Proof.LatentBwdClaim
public import proofs.«01_k».proof.Proof.NormBwdClaim
public import proofs.«01_k».proof.Proof.AttnBwdClaim
public import proofs.«01_k».proof.Proof.QkBwdClaim
public import proofs.«01_k».proof.Proof.PoolBwdClaim
public import proofs.«01_k».proof.Proof.MixNormBwdClaim
public import proofs.«01_k».proof.Proof.FirstNormBwdClaim
public import proofs.«01_k».proof.Proof.AttnFwdClaim
public import proofs.«01_k».proof.Proof.FfnInClaim
public import proofs.«01_k».proof.Proof.NormFwdClaim

@[expose] public section

noncomputable section

namespace Cert.Proof

open Idealize.ShloMosaic Idealize.SL.Sem

/-- Every claim of the certificate: the programs' side conditions, their frames, and per pair the equation of kernel and reference. -/
theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m ρ _ => Cert.HiddenGrad.Gen.frame m ρ,
    fun m ρ _ => Cert.HiddenGradIdeal.Gen.frame m ρ,
    fun m ρ _ => Cert.HiddenGradIdeal.Gen.frame m ρ,
    fun m ρ _ => (θ_run Cert.HiddenGradRefIdeal.defs _ _).mono (fun r h => ⟨fun c => (h c).2, sem_eq_zero_of_no_sems (by decide) r.2⟩) (Cert.HiddenGradRefIdeal.Value.run m ρ),
    fun m ρ _ => (θ_run Cert.HiddenGradRefIdeal.defs _ _).mono (fun r h => ⟨fun c => (h c).2, sem_eq_zero_of_no_sems (by decide) r.2⟩) (Cert.HiddenGradRefIdeal.Value.run m ρ),
    fun m ρ _ => Cert.OutLoss.Gen.frame m ρ,
    fun m ρ _ => Cert.OutLossIdeal.Gen.frame m ρ,
    fun m ρ _ => (θ_run Cert.OutLossRefIdeal.defs _ _).mono (fun r h => ⟨fun c => (h c).2.2.2.2, sem_eq_zero_of_no_sems (by decide) r.2⟩) (Cert.OutLossRefIdeal.Value.run m ρ),
    fun m ρ _ => Cert.MergeBwd.Gen.frame m ρ,
    fun m ρ _ => Cert.MergeBwdIdeal.Gen.frame m ρ,
    fun m ρ _ => (θ_run Cert.MergeBwdRefIdeal.defs _ _).mono (fun r h => ⟨fun c => (h c).2.2.2.2.2, sem_eq_zero_of_no_sems (by decide) r.2⟩) (Cert.MergeBwdRefIdeal.Value.run m ρ),
    fun m ρ _ => Cert.LatentBwd.Gen.frame m ρ,
    fun m ρ _ => Cert.LatentBwdIdeal.Gen.frame m ρ,
    fun m ρ _ => Cert.LatentBwdIdeal.Gen.frame m ρ,
    fun m ρ _ => (θ_run Cert.LatentBwdRefIdeal.defs _ _).mono (fun r h => ⟨fun c => (h c).2.2.2, sem_eq_zero_of_no_sems (by decide) r.2⟩) (Cert.LatentBwdRefIdeal.Value.run m ρ),
    fun m ρ _ => (θ_run Cert.LatentBwdRefIdeal.defs _ _).mono (fun r h => ⟨fun c => (h c).2.2.2, sem_eq_zero_of_no_sems (by decide) r.2⟩) (Cert.LatentBwdRefIdeal.Value.run m ρ),
    fun m ρ _ => Cert.NormBwd.Gen.frame m ρ,
    fun m ρ _ => Cert.NormBwdIdeal.Gen.frame m ρ,
    fun m ρ _ => Cert.NormBwdIdeal.Gen.frame m ρ,
    fun m ρ _ => (θ_run Cert.NormBwdRefIdeal.defs _ _).mono (fun r h => ⟨fun c => (h c).2.2.2.2.2.2, sem_eq_zero_of_no_sems (by decide) r.2⟩) (Cert.NormBwdRefIdeal.Value.run m ρ),
    fun m ρ _ => (θ_run Cert.NormBwdRefIdeal.defs _ _).mono (fun r h => ⟨fun c => (h c).2.2.2.2.2.2, sem_eq_zero_of_no_sems (by decide) r.2⟩) (Cert.NormBwdRefIdeal.Value.run m ρ),
    fun m ρ _ => Cert.AttnBwd.Gen.frame m ρ,
    fun m ρ _ => Cert.AttnBwdIdeal.Gen.frame m ρ,
    fun m ρ _ => Cert.AttnBwdIdeal.Gen.frame m ρ,
    fun m ρ _ => (θ_run Cert.AttnBwdRefIdeal.defs _ _).mono (fun r h => ⟨fun c => (h c).2.2.2, sem_eq_zero_of_no_sems (by decide) r.2⟩) (Cert.AttnBwdRefIdeal.Value.run m ρ),
    fun m ρ _ => (θ_run Cert.AttnBwdRefIdeal.defs _ _).mono (fun r h => ⟨fun c => (h c).2.2.2, sem_eq_zero_of_no_sems (by decide) r.2⟩) (Cert.AttnBwdRefIdeal.Value.run m ρ),
    fun m ρ _ => Cert.QkBwd.Gen.frame m ρ,
    fun m ρ _ => Cert.QkBwdIdeal.Gen.frame m ρ,
    fun m ρ _ => Cert.QkBwdIdeal.Gen.frame m ρ,
    fun m ρ _ => (θ_run Cert.QkBwdRefIdeal.defs _ _).mono (fun r h => ⟨fun c => (h c).2.2.2.2.2.2, sem_eq_zero_of_no_sems (by decide) r.2⟩) (Cert.QkBwdRefIdeal.Value.run m ρ),
    fun m ρ _ => (θ_run Cert.QkBwdRefIdeal.defs _ _).mono (fun r h => ⟨fun c => (h c).2.2.2.2.2.2, sem_eq_zero_of_no_sems (by decide) r.2⟩) (Cert.QkBwdRefIdeal.Value.run m ρ),
    fun m ρ _ => Cert.PoolBwd.Gen.frame m ρ,
    fun m ρ _ => Cert.PoolBwdIdeal.Gen.frame m ρ,
    fun m ρ _ => Cert.PoolBwdIdeal.Gen.frame m ρ,
    fun m ρ _ => (θ_run Cert.PoolBwdRefIdeal.defs _ _).mono (fun r h => ⟨fun c => (h c).2.2.2, sem_eq_zero_of_no_sems (by decide) r.2⟩) (Cert.PoolBwdRefIdeal.Value.run m ρ),
    fun m ρ _ => (θ_run Cert.PoolBwdRefIdeal.defs _ _).mono (fun r h => ⟨fun c => (h c).2.2.2, sem_eq_zero_of_no_sems (by decide) r.2⟩) (Cert.PoolBwdRefIdeal.Value.run m ρ),
    fun m ρ _ => Cert.MixNormBwd.Gen.frame m ρ,
    fun m ρ _ => Cert.MixNormBwdIdeal.Gen.frame m ρ,
    fun m ρ _ => Cert.MixNormBwdIdeal.Gen.frame m ρ,
    fun m ρ _ => (θ_run Cert.MixNormBwdRefIdeal.defs _ _).mono (fun r h => ⟨fun c => (h c).2.2.2.2.2.2, sem_eq_zero_of_no_sems (by decide) r.2⟩) (Cert.MixNormBwdRefIdeal.Value.run m ρ),
    fun m ρ _ => (θ_run Cert.MixNormBwdRefIdeal.defs _ _).mono (fun r h => ⟨fun c => (h c).2.2.2.2.2.2, sem_eq_zero_of_no_sems (by decide) r.2⟩) (Cert.MixNormBwdRefIdeal.Value.run m ρ),
    fun m ρ _ => Cert.FirstNormBwd.Gen.frame m ρ,
    fun m ρ _ => Cert.FirstNormBwdIdeal.Gen.frame m ρ,
    fun m ρ _ => Cert.FirstNormBwdIdeal.Gen.frame m ρ,
    fun m ρ _ => (θ_run Cert.FirstNormBwdRefIdeal.defs _ _).mono (fun r h => ⟨fun c => (h c).2.2.2.2, sem_eq_zero_of_no_sems (by decide) r.2⟩) (Cert.FirstNormBwdRefIdeal.Value.run m ρ),
    fun m ρ _ => (θ_run Cert.FirstNormBwdRefIdeal.defs _ _).mono (fun r h => ⟨fun c => (h c).2.2.2.2, sem_eq_zero_of_no_sems (by decide) r.2⟩) (Cert.FirstNormBwdRefIdeal.Value.run m ρ),
    fun m ρ _ => Cert.AttnFwd.Gen.frame m ρ,
    fun m ρ _ => Cert.AttnFwdIdeal.Gen.frame m ρ,
    fun m ρ _ => Cert.AttnFwdIdeal.Gen.frame m ρ,
    fun m ρ _ => (θ_run Cert.AttnFwdRefIdeal.defs _ _).mono (fun r h => ⟨fun c => (h c).2.2, sem_eq_zero_of_no_sems (by decide) r.2⟩) (Cert.AttnFwdRefIdeal.Value.run m ρ),
    fun m ρ _ => (θ_run Cert.AttnFwdRefIdeal.defs _ _).mono (fun r h => ⟨fun c => (h c).2.2, sem_eq_zero_of_no_sems (by decide) r.2⟩) (Cert.AttnFwdRefIdeal.Value.run m ρ),
    fun m ρ _ => Cert.FfnIn.Gen.frame m ρ,
    fun m ρ _ => Cert.FfnInIdeal.Gen.frame m ρ,
    fun m ρ _ => (θ_run Cert.FfnInRefIdeal.defs _ _).mono (fun r h => ⟨fun c => (h c).2.2.2, sem_eq_zero_of_no_sems (by decide) r.2⟩) (Cert.FfnInRefIdeal.Value.run m ρ),
    fun m ρ _ => Cert.NormFwd.Gen.frame m ρ,
    fun m ρ _ => Cert.NormFwdIdeal.Gen.frame m ρ,
    fun m ρ _ => Cert.NormFwdIdeal.Gen.frame m ρ,
    fun m ρ _ => (θ_run Cert.NormFwdRefIdeal.defs _ _).mono (fun r h => ⟨fun c => (h c).2, sem_eq_zero_of_no_sems (by decide) r.2⟩) (Cert.NormFwdRefIdeal.Value.run m ρ),
    fun m ρ _ => (θ_run Cert.NormFwdRefIdeal.defs _ _).mono (fun r h => ⟨fun c => (h c).2, sem_eq_zero_of_no_sems (by decide) r.2⟩) (Cert.NormFwdRefIdeal.Value.run m ρ),
    trivial,
    algebraic_HiddenGrad,
    trivial,
    algebraic_OutLoss,
    trivial,
    algebraic_MergeBwd,
    IdealRules.named_const.statement Cert.LatentBwdIdeal.κ "inv_q_lora" .f32 0x3B2AAAAB#32 ((384⁻¹ : ℝ) : EReal) rfl,
    algebraic_LatentBwd,
    trivial,
    algebraic_NormBwd,
    IdealRules.named_const.statement Cert.AttnBwdIdeal.κ "mask" .f32 0xF149F2CA#32 ⊥ rfl,
    algebraic_AttnBwd,
    trivial,
    algebraic_QkBwd,
    trivial,
    algebraic_PoolBwd,
    trivial,
    algebraic_MixNormBwd,
    trivial,
    algebraic_FirstNormBwd,
    IdealRules.named_const.statement Cert.AttnFwdIdeal.κ "mask" .f32 0xF149F2CA#32 ⊥ rfl,
    algebraic_AttnFwd,
    trivial,
    algebraic_FfnIn,
    trivial,
    algebraic_NormFwd⟩

end Cert.Proof

end
